-- ==== Defs.lean ====
def Pre_GlaPrompt (m : (ℓ : Loc Cert.GlaPrompt.nD Cert.GlaPrompt.τ Cert.GlaPrompt.sig) → Buf (Elt Bits) ℓ) : Prop :=
  True

def Pre_GlaPromptIdeal (m : (ℓ : Loc Cert.GlaPromptIdeal.nD Cert.GlaPromptIdeal.τ Cert.GlaPromptIdeal.sig) → Buf (Elt Ideal) ℓ) : Prop :=
  True

def Pre_GlaPromptIdeal_gates_finite [hPre_gates_finite : Cert.Pre_gates_finite.Facts] (m : (ℓ : Loc Cert.GlaPromptIdeal.nD Cert.GlaPromptIdeal.τ Cert.GlaPromptIdeal.sig) → Buf (Elt Ideal) ℓ) : Prop :=
  ∀ c : Dev Cert.GlaPromptIdeal.nD,
    (Cert.Pre_gates_finite.fn (F := Ideal) (m ((c.tc : Thread Cert.GlaPromptIdeal.nD Cert.GlaPromptIdeal.τ).loc Cert.GlaPromptIdeal.main_arg0)) (m ((c.tc : Thread Cert.GlaPromptIdeal.nD Cert.GlaPromptIdeal.τ).loc Cert.GlaPromptIdeal.main_arg1)) (m ((c.tc : Thread Cert.GlaPromptIdeal.nD Cert.GlaPromptIdeal.τ).loc Cert.GlaPromptIdeal.main_arg2)) (m ((c.tc : Thread Cert.GlaPromptIdeal.nD Cert.GlaPromptIdeal.τ).loc Cert.GlaPromptIdeal.main_arg3)) (m ((c.tc : Thread Cert.GlaPromptIdeal.nD Cert.GlaPromptIdeal.τ).loc Cert.GlaPromptIdeal.main_arg4))) = (fun _ => 1#1)

def Pre_GlaPromptRefIdeal (m : (ℓ : Loc Cert.GlaPromptRefIdeal.nD Cert.GlaPromptRefIdeal.τ Cert.GlaPromptRefIdeal.sig) → Buf (Elt Ideal) ℓ) : Prop :=
  True

def Pre_GlaPromptRefIdeal_gates_finite [hPre_gates_finite : Cert.Pre_gates_finite.Facts] (m : (ℓ : Loc Cert.GlaPromptRefIdeal.nD Cert.GlaPromptRefIdeal.τ Cert.GlaPromptRefIdeal.sig) → Buf (Elt Ideal) ℓ) : Prop :=
  ∀ c : Dev Cert.GlaPromptRefIdeal.nD,
    (Cert.Pre_gates_finite.fn (F := Ideal) (m ((c.tc : Thread Cert.GlaPromptRefIdeal.nD Cert.GlaPromptRefIdeal.τ).loc Cert.GlaPromptRefIdeal.main_arg0)) (m ((c.tc : Thread Cert.GlaPromptRefIdeal.nD Cert.GlaPromptRefIdeal.τ).loc Cert.GlaPromptRefIdeal.main_arg1)) (m ((c.tc : Thread Cert.GlaPromptRefIdeal.nD Cert.GlaPromptRefIdeal.τ).loc Cert.GlaPromptRefIdeal.main_arg2)) (m ((c.tc : Thread Cert.GlaPromptRefIdeal.nD Cert.GlaPromptRefIdeal.τ).loc Cert.GlaPromptRefIdeal.main_arg3)) (m ((c.tc : Thread Cert.GlaPromptRefIdeal.nD Cert.GlaPromptRefIdeal.τ).loc Cert.GlaPromptRefIdeal.main_arg4))) = (fun _ => 1#1)

def Pre_GlaProj (m : (ℓ : Loc Cert.GlaProj.nD Cert.GlaProj.τ Cert.GlaProj.sig) → Buf (Elt Bits) ℓ) : Prop :=
  True

def Pre_GlaProjIdeal (m : (ℓ : Loc Cert.GlaProjIdeal.nD Cert.GlaProjIdeal.τ Cert.GlaProjIdeal.sig) → Buf (Elt Ideal) ℓ) : Prop :=
  True

def Pre_GlaProjRefIdeal (m : (ℓ : Loc Cert.GlaProjRefIdeal.nD Cert.GlaProjRefIdeal.τ Cert.GlaProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FoxProj (m : (ℓ : Loc Cert.FoxProj.nD Cert.FoxProj.τ Cert.FoxProj.sig) → Buf (Elt Bits) ℓ) : Prop :=
  True

def Pre_FoxProjIdeal (m : (ℓ : Loc Cert.FoxProjIdeal.nD Cert.FoxProjIdeal.τ Cert.FoxProjIdeal.sig) → Buf (Elt Ideal) ℓ) : Prop :=
  True

def Pre_FoxProjRefIdeal (m : (ℓ : Loc Cert.FoxProjRefIdeal.nD Cert.FoxProjRefIdeal.τ Cert.FoxProjRefIdeal.sig) → Buf (Elt Ideal) ℓ) : Prop :=
  True

def Pre_FoxStep (m : (ℓ : Loc Cert.FoxStep.nD Cert.FoxStep.τ Cert.FoxStep.sig) → Buf (Elt Bits) ℓ) : Prop :=
  True

def Pre_FoxStepIdeal (m : (ℓ : Loc Cert.FoxStepIdeal.nD Cert.FoxStepIdeal.τ Cert.FoxStepIdeal.sig) → Buf (Elt Ideal) ℓ) : Prop :=
  True

def Pre_FoxStepRefIdeal (m : (ℓ : Loc Cert.FoxStepRefIdeal.nD Cert.FoxStepRefIdeal.τ Cert.FoxStepRefIdeal.sig) → Buf (Elt Ideal) ℓ) : Prop :=
  True

def Pre_GlaStep (m : (ℓ : Loc Cert.GlaStep.nD Cert.GlaStep.τ Cert.GlaStep.sig) → Buf (Elt Bits) ℓ) : Prop :=
  True

def Pre_GlaStepIdeal (m : (ℓ : Loc Cert.GlaStepIdeal.nD Cert.GlaStepIdeal.τ Cert.GlaStepIdeal.sig) → Buf (Elt Ideal) ℓ) : Prop :=
  True

def Pre_GlaStepRefIdeal (m : (ℓ : Loc Cert.GlaStepRefIdeal.nD Cert.GlaStepRefIdeal.τ Cert.GlaStepRefIdeal.sig) → Buf (Elt Ideal) ℓ) : Prop :=
  True

def Pre_FfnStep (m : (ℓ : Loc Cert.FfnStep.nD Cert.FfnStep.τ Cert.FfnStep.sig) → Buf (Elt Bits) ℓ) : Prop :=
  True

def Pre_FfnStepIdeal (m : (ℓ : Loc Cert.FfnStepIdeal.nD Cert.FfnStepIdeal.τ Cert.FfnStepIdeal.sig) → Buf (Elt Ideal) ℓ) : Prop :=
  True

def Pre_FfnStepRefIdeal (m : (ℓ : Loc Cert.FfnStepRefIdeal.nD Cert.FfnStepRefIdeal.τ Cert.FfnStepRefIdeal.sig) → Buf (Elt Ideal) ℓ) : Prop :=
  True

def quiescent_GlaPrompt [hGlaPrompt : Cert.GlaPrompt.Facts] : Prop :=
  ∀ (m : (ℓ : Loc Cert.GlaPrompt.nD Cert.GlaPrompt.τ Cert.GlaPrompt.sig) → Buf (Elt Bits) ℓ) (g : Dev Cert.GlaPrompt.nD → PrngReg), Pre_GlaPrompt m →
    θ_run (Cert.GlaPrompt.defs (F := Bits)) (onTc (τ := Cert.GlaPrompt.τ) (Cert.GlaPrompt.main (F := Bits))) ⟨m, fun _ => 0, g⟩ (fun r => (∀ c : Dev Cert.GlaPrompt.nD,
      r.2.mem ((c.tc : Thread Cert.GlaPrompt.nD Cert.GlaPrompt.τ).loc Cert.GlaPrompt.main_arg0) = m ((c.tc : Thread Cert.GlaPrompt.nD Cert.GlaPrompt.τ).loc Cert.GlaPrompt.main_arg0)
      ∧ r.2.mem ((c.tc : Thread Cert.GlaPrompt.nD Cert.GlaPrompt.τ).loc Cert.GlaPrompt.main_arg1) = m ((c.tc : Thread Cert.GlaPrompt.nD Cert.GlaPrompt.τ).loc Cert.GlaPrompt.main_arg1)
      ∧ r.2.mem ((c.tc : Thread Cert.GlaPrompt.nD Cert.GlaPrompt.τ).loc Cert.GlaPrompt.main_arg2) = m ((c.tc : Thread Cert.GlaPrompt.nD Cert.GlaPrompt.τ).loc Cert.GlaPrompt.main_arg2)
      ∧ r.2.mem ((c.tc : Thread Cert.GlaPrompt.nD Cert.GlaPrompt.τ).loc Cert.GlaPrompt.main_arg3) = m ((c.tc : Thread Cert.GlaPrompt.nD Cert.GlaPrompt.τ).loc Cert.GlaPrompt.main_arg3)
      ∧ r.2.mem ((c.tc : Thread Cert.GlaPrompt.nD Cert.GlaPrompt.τ).loc Cert.GlaPrompt.main_arg4) = m ((c.tc : Thread Cert.GlaPrompt.nD Cert.GlaPrompt.τ).loc Cert.GlaPrompt.main_arg4))
      ∧ r.2.sem = fun _ => 0)

def quiescent_GlaPromptIdeal [hGlaPromptIdeal : Cert.GlaPromptIdeal.Facts] : Prop :=
  ∀ (m : (ℓ : Loc Cert.GlaPromptIdeal.nD Cert.GlaPromptIdeal.τ Cert.GlaPromptIdeal.sig) → Buf (Elt Ideal) ℓ) (g : Dev Cert.GlaPromptIdeal.nD → PrngReg), Pre_GlaPromptIdeal m →
    θ_run (Cert.GlaPromptIdeal.defs (F := Ideal)) (onTc (τ := Cert.GlaPromptIdeal.τ) (Cert.GlaPromptIdeal.main (F := Ideal))) ⟨m, fun _ => 0, g⟩ (fun r => (∀ c : Dev Cert.GlaPromptIdeal.nD,
      r.2.mem ((c.tc : Thread Cert.GlaPromptIdeal.nD Cert.GlaPromptIdeal.τ).loc Cert.GlaPromptIdeal.main_arg0) = m ((c.tc : Thread Cert.GlaPromptIdeal.nD Cert.GlaPromptIdeal.τ).loc Cert.GlaPromptIdeal.main_arg0)
      ∧ r.2.mem ((c.tc : Thread Cert.GlaPromptIdeal.nD Cert.GlaPromptIdeal.τ).loc Cert.GlaPromptIdeal.main_arg1) = m ((c.tc : Thread Cert.GlaPromptIdeal.nD Cert.GlaPromptIdeal.τ).loc Cert.GlaPromptIdeal.main_arg1)
      ∧ r.2.mem ((c.tc : Thread Cert.GlaPromptIdeal.nD Cert.GlaPromptIdeal.τ).loc Cert.GlaPromptIdeal.main_arg2) = m ((c.tc : Thread Cert.GlaPromptIdeal.nD Cert.GlaPromptIdeal.τ).loc Cert.GlaPromptIdeal.main_arg2)
      ∧ r.2.mem ((c.tc : Thread Cert.GlaPromptIdeal.nD Cert.GlaPromptIdeal.τ).loc Cert.GlaPromptIdeal.main_arg3) = m ((c.tc : Thread Cert.GlaPromptIdeal.nD Cert.GlaPromptIdeal.τ).loc Cert.GlaPromptIdeal.main_arg3)
      ∧ r.2.mem ((c.tc : Thread Cert.GlaPromptIdeal.nD Cert.GlaPromptIdeal.τ).loc Cert.GlaPromptIdeal.main_arg4) = m ((c.tc : Thread Cert.GlaPromptIdeal.nD Cert.GlaPromptIdeal.τ).loc Cert.GlaPromptIdeal.main_arg4))
      ∧ r.2.sem = fun _ => 0)

def quiescent_GlaPromptIdeal_pre_gates_finite [hGlaPromptIdeal : Cert.GlaPromptIdeal.Facts] [hPre_gates_finite : Cert.Pre_gates_finite.Facts] : Prop :=
  ∀ (m : (ℓ : Loc Cert.GlaPromptIdeal.nD Cert.GlaPromptIdeal.τ Cert.GlaPromptIdeal.sig) → Buf (Elt Ideal) ℓ) (g : Dev Cert.GlaPromptIdeal.nD → PrngReg), Pre_GlaPromptIdeal_gates_finite m →
    θ_run (Cert.GlaPromptIdeal.defs (F := Ideal)) (onTc (τ := Cert.GlaPromptIdeal.τ) (Cert.GlaPromptIdeal.main (F := Ideal))) ⟨m, fun _ => 0, g⟩ (fun r => (∀ c : Dev Cert.GlaPromptIdeal.nD,
      r.2.mem ((c.tc : Thread Cert.GlaPromptIdeal.nD Cert.GlaPromptIdeal.τ).loc Cert.GlaPromptIdeal.main_arg0) = m ((c.tc : Thread Cert.GlaPromptIdeal.nD Cert.GlaPromptIdeal.τ).loc Cert.GlaPromptIdeal.main_arg0)
      ∧ r.2.mem ((c.tc : Thread Cert.GlaPromptIdeal.nD Cert.GlaPromptIdeal.τ).loc Cert.GlaPromptIdeal.main_arg1) = m ((c.tc : Thread Cert.GlaPromptIdeal.nD Cert.GlaPromptIdeal.τ).loc Cert.GlaPromptIdeal.main_arg1)
      ∧ r.2.mem ((c.tc : Thread Cert.GlaPromptIdeal.nD Cert.GlaPromptIdeal.τ).loc Cert.GlaPromptIdeal.main_arg2) = m ((c.tc : Thread Cert.GlaPromptIdeal.nD Cert.GlaPromptIdeal.τ).loc Cert.GlaPromptIdeal.main_arg2)
      ∧ r.2.mem ((c.tc : Thread Cert.GlaPromptIdeal.nD Cert.GlaPromptIdeal.τ).loc Cert.GlaPromptIdeal.main_arg3) = m ((c.tc : Thread Cert.GlaPromptIdeal.nD Cert.GlaPromptIdeal.τ).loc Cert.GlaPromptIdeal.main_arg3)
      ∧ r.2.mem ((c.tc : Thread Cert.GlaPromptIdeal.nD Cert.GlaPromptIdeal.τ).loc Cert.GlaPromptIdeal.main_arg4) = m ((c.tc : Thread Cert.GlaPromptIdeal.nD Cert.GlaPromptIdeal.τ).loc Cert.GlaPromptIdeal.main_arg4))
      ∧ r.2.sem = fun _ => 0)

def quiescent_GlaPromptRefIdeal [hGlaPromptRefIdeal : Cert.GlaPromptRefIdeal.Facts] : Prop :=
  ∀ (m : (ℓ : Loc Cert.GlaPromptRefIdeal.nD Cert.GlaPromptRefIdeal.τ Cert.GlaPromptRefIdeal.sig) → Buf (Elt Ideal) ℓ) (g : Dev Cert.GlaPromptRefIdeal.nD → PrngReg), Pre_GlaPromptRefIdeal m →
    θ_run (Cert.GlaPromptRefIdeal.defs (F := Ideal)) (onTc (τ := Cert.GlaPromptRefIdeal.τ) (Cert.GlaPromptRefIdeal.main (F := Ideal))) ⟨m, fun _ => 0, g⟩ (fun r => (∀ c : Dev Cert.GlaPromptRefIdeal.nD,
      r.2.mem ((c.tc : Thread Cert.GlaPromptRefIdeal.nD Cert.GlaPromptRefIdeal.τ).loc Cert.GlaPromptRefIdeal.main_arg0) = m ((c.tc : Thread Cert.GlaPromptRefIdeal.nD Cert.GlaPromptRefIdeal.τ).loc Cert.GlaPromptRefIdeal.main_arg0)
      ∧ r.2.mem ((c.tc : Thread Cert.GlaPromptRefIdeal.nD Cert.GlaPromptRefIdeal.τ).loc Cert.GlaPromptRefIdeal.main_arg1) = m ((c.tc : Thread Cert.GlaPromptRefIdeal.nD Cert.GlaPromptRefIdeal.τ).loc Cert.GlaPromptRefIdeal.main_arg1)
      ∧ r.2.mem ((c.tc : Thread Cert.GlaPromptRefIdeal.nD Cert.GlaPromptRefIdeal.τ).loc Cert.GlaPromptRefIdeal.main_arg2) = m ((c.tc : Thread Cert.GlaPromptRefIdeal.nD Cert.GlaPromptRefIdeal.τ).loc Cert.GlaPromptRefIdeal.main_arg2)
      ∧ r.2.mem ((c.tc : Thread Cert.GlaPromptRefIdeal.nD Cert.GlaPromptRefIdeal.τ).loc Cert.GlaPromptRefIdeal.main_arg3) = m ((c.tc : Thread Cert.GlaPromptRefIdeal.nD Cert.GlaPromptRefIdeal.τ).loc Cert.GlaPromptRefIdeal.main_arg3)
      ∧ r.2.mem ((c.tc : Thread Cert.GlaPromptRefIdeal.nD Cert.GlaPromptRefIdeal.τ).loc Cert.GlaPromptRefIdeal.main_arg4) = m ((c.tc : Thread Cert.GlaPromptRefIdeal.nD Cert.GlaPromptRefIdeal.τ).loc Cert.GlaPromptRefIdeal.main_arg4))
      ∧ r.2.sem = fun _ => 0)

def quiescent_GlaPromptRefIdeal_pre_gates_finite [hGlaPromptRefIdeal : Cert.GlaPromptRefIdeal.Facts] [hPre_gates_finite : Cert.Pre_gates_finite.Facts] : Prop :=
  ∀ (m : (ℓ : Loc Cert.GlaPromptRefIdeal.nD Cert.GlaPromptRefIdeal.τ Cert.GlaPromptRefIdeal.sig) → Buf (Elt Ideal) ℓ) (g : Dev Cert.GlaPromptRefIdeal.nD → PrngReg), Pre_GlaPromptRefIdeal_gates_finite m →
    θ_run (Cert.GlaPromptRefIdeal.defs (F := Ideal)) (onTc (τ := Cert.GlaPromptRefIdeal.τ) (Cert.GlaPromptRefIdeal.main (F := Ideal))) ⟨m, fun _ => 0, g⟩ (fun r => (∀ c : Dev Cert.GlaPromptRefIdeal.nD,
      r.2.mem ((c.tc : Thread Cert.GlaPromptRefIdeal.nD Cert.GlaPromptRefIdeal.τ).loc Cert.GlaPromptRefIdeal.main_arg0) = m ((c.tc : Thread Cert.GlaPromptRefIdeal.nD Cert.GlaPromptRefIdeal.τ).loc Cert.GlaPromptRefIdeal.main_arg0)
      ∧ r.2.mem ((c.tc : Thread Cert.GlaPromptRefIdeal.nD Cert.GlaPromptRefIdeal.τ).loc Cert.GlaPromptRefIdeal.main_arg1) = m ((c.tc : Thread Cert.GlaPromptRefIdeal.nD Cert.GlaPromptRefIdeal.τ).loc Cert.GlaPromptRefIdeal.main_arg1)
      ∧ r.2.mem ((c.tc : Thread Cert.GlaPromptRefIdeal.nD Cert.GlaPromptRefIdeal.τ).loc Cert.GlaPromptRefIdeal.main_arg2) = m ((c.tc : Thread Cert.GlaPromptRefIdeal.nD Cert.GlaPromptRefIdeal.τ).loc Cert.GlaPromptRefIdeal.main_arg2)
      ∧ r.2.mem ((c.tc : Thread Cert.GlaPromptRefIdeal.nD Cert.GlaPromptRefIdeal.τ).loc Cert.GlaPromptRefIdeal.main_arg3) = m ((c.tc : Thread Cert.GlaPromptRefIdeal.nD Cert.GlaPromptRefIdeal.τ).loc Cert.GlaPromptRefIdeal.main_arg3)
      ∧ r.2.mem ((c.tc : Thread Cert.GlaPromptRefIdeal.nD Cert.GlaPromptRefIdeal.τ).loc Cert.GlaPromptRefIdeal.main_arg4) = m ((c.tc : Thread Cert.GlaPromptRefIdeal.nD Cert.GlaPromptRefIdeal.τ).loc Cert.GlaPromptRefIdeal.main_arg4))
      ∧ r.2.sem = fun _ => 0)

def quiescent_GlaProj [hGlaProj : Cert.GlaProj.Facts] : Prop :=
  ∀ (m : (ℓ : Loc Cert.GlaProj.nD Cert.GlaProj.τ Cert.GlaProj.sig) → Buf (Elt Bits) ℓ) (g : Dev Cert.GlaProj.nD → PrngReg), Pre_GlaProj m →
    θ_run (Cert.GlaProj.defs (F := Bits)) (onTc (τ := Cert.GlaProj.τ) (Cert.GlaProj.main (F := Bits))) ⟨m, fun _ => 0, g⟩ (fun r => (∀ c : Dev Cert.GlaProj.nD,
      r.2.mem ((c.tc : Thread Cert.GlaProj.nD Cert.GlaProj.τ).loc Cert.GlaProj.main_arg0) = m ((c.tc : Thread Cert.GlaProj.nD Cert.GlaProj.τ).loc Cert.GlaProj.main_arg0)
      ∧ r.2.mem ((c.tc : Thread Cert.GlaProj.nD Cert.GlaProj.τ).loc Cert.GlaProj.main_arg1) = m ((c.tc : Thread Cert.GlaProj.nD Cert.GlaProj.τ).loc Cert.GlaProj.main_arg1)
      ∧ r.2.mem ((c.tc : Thread Cert.GlaProj.nD Cert.GlaProj.τ).loc Cert.GlaProj.main_arg2) = m ((c.tc : Thread Cert.GlaProj.nD Cert.GlaProj.τ).loc Cert.GlaProj.main_arg2)
      ∧ r.2.mem ((c.tc : Thread Cert.GlaProj.nD Cert.GlaProj.τ).loc Cert.GlaProj.main_arg3) = m ((c.tc : Thread Cert.GlaProj.nD Cert.GlaProj.τ).loc Cert.GlaProj.main_arg3)
      ∧ r.2.mem ((c.tc : Thread Cert.GlaProj.nD Cert.GlaProj.τ).loc Cert.GlaProj.main_arg4) = m ((c.tc : Thread Cert.GlaProj.nD Cert.GlaProj.τ).loc Cert.GlaProj.main_arg4))
      ∧ r.2.sem = fun _ => 0)

def quiescent_GlaProjIdeal [hGlaProjIdeal : Cert.GlaProjIdeal.Facts] : Prop :=
  ∀ (m : (ℓ : Loc Cert.GlaProjIdeal.nD Cert.GlaProjIdeal.τ Cert.GlaProjIdeal.sig) → Buf (Elt Ideal) ℓ) (g : Dev Cert.GlaProjIdeal.nD → PrngReg), Pre_GlaProjIdeal m →
    θ_run (Cert.GlaProjIdeal.defs (F := Ideal)) (onTc (τ := Cert.GlaProjIdeal.τ) (Cert.GlaProjIdeal.main (F := Ideal))) ⟨m, fun _ => 0, g⟩ (fun r => (∀ c : Dev Cert.GlaProjIdeal.nD,
      r.2.mem ((c.tc : Thread Cert.GlaProjIdeal.nD Cert.GlaProjIdeal.τ).loc Cert.GlaProjIdeal.main_arg0) = m ((c.tc : Thread Cert.GlaProjIdeal.nD Cert.GlaProjIdeal.τ).loc Cert.GlaProjIdeal.main_arg0)
      ∧ r.2.mem ((c.tc : Thread Cert.GlaProjIdeal.nD Cert.GlaProjIdeal.τ).loc Cert.GlaProjIdeal.main_arg1) = m ((c.tc : Thread Cert.GlaProjIdeal.nD Cert.GlaProjIdeal.τ).loc Cert.GlaProjIdeal.main_arg1)
      ∧ r.2.mem ((c.tc : Thread Cert.GlaProjIdeal.nD Cert.GlaProjIdeal.τ).loc Cert.GlaProjIdeal.main_arg2) = m ((c.tc : Thread Cert.GlaProjIdeal.nD Cert.GlaProjIdeal.τ).loc Cert.GlaProjIdeal.main_arg2)
      ∧ r.2.mem ((c.tc : Thread Cert.GlaProjIdeal.nD Cert.GlaProjIdeal.τ).loc Cert.GlaProjIdeal.main_arg3) = m ((c.tc : Thread Cert.GlaProjIdeal.nD Cert.GlaProjIdeal.τ).loc Cert.GlaProjIdeal.main_arg3)
      ∧ r.2.mem ((c.tc : Thread Cert.GlaProjIdeal.nD Cert.GlaProjIdeal.τ).loc Cert.GlaProjIdeal.main_arg4) = m ((c.tc : Thread Cert.GlaProjIdeal.nD Cert.GlaProjIdeal.τ).loc Cert.GlaProjIdeal.main_arg4))
      ∧ r.2.sem = fun _ => 0)

def quiescent_GlaProjRefIdeal [hGlaProjRefIdeal : Cert.GlaProjRefIdeal.Facts] : Prop :=
  ∀ (m : (ℓ : Loc Cert.GlaProjRefIdeal.nD Cert.GlaProjRefIdeal.τ Cert.GlaProjRefIdeal.sig) → Buf (Elt Ideal) ℓ) (g : Dev Cert.GlaProjRefIdeal.nD → PrngReg), Pre_GlaProjRefIdeal m →
    θ_run (Cert.GlaProjRefIdeal.defs (F := Ideal)) (onTc (τ := Cert.GlaProjRefIdeal.τ) (Cert.GlaProjRefIdeal.main (F := Ideal))) ⟨m, fun _ => 0, g⟩ (fun r => (∀ c : Dev Cert.GlaProjRefIdeal.nD,
      r.2.mem ((c.tc : Thread Cert.GlaProjRefIdeal.nD Cert.GlaProjRefIdeal.τ).loc Cert.GlaProjRefIdeal.main_arg0) = m ((c.tc : Thread Cert.GlaProjRefIdeal.nD Cert.GlaProjRefIdeal.τ).loc Cert.GlaProjRefIdeal.main_arg0)
      ∧ r.2.mem ((c.tc : Thread Cert.GlaProjRefIdeal.nD Cert.GlaProjRefIdeal.τ).loc Cert.GlaProjRefIdeal.main_arg1) = m ((c.tc : Thread Cert.GlaProjRefIdeal.nD Cert.GlaProjRefIdeal.τ).loc Cert.GlaProjRefIdeal.main_arg1)
      ∧ r.2.mem ((c.tc : Thread Cert.GlaProjRefIdeal.nD Cert.GlaProjRefIdeal.τ).loc Cert.GlaProjRefIdeal.main_arg2) = m ((c.tc : Thread Cert.GlaProjRefIdeal.nD Cert.GlaProjRefIdeal.τ).loc Cert.GlaProjRefIdeal.main_arg2)
      ∧ r.2.mem ((c.tc : Thread Cert.GlaProjRefIdeal.nD Cert.GlaProjRefIdeal.τ).loc Cert.GlaProjRefIdeal.main_arg3) = m ((c.tc : Thread Cert.GlaProjRefIdeal.nD Cert.GlaProjRefIdeal.τ).loc Cert.GlaProjRefIdeal.main_arg3)
      ∧ r.2.mem ((c.tc : Thread Cert.GlaProjRefIdeal.nD Cert.GlaProjRefIdeal.τ).loc Cert.GlaProjRefIdeal.main_arg4) = m ((c.tc : Thread Cert.GlaProjRefIdeal.nD Cert.GlaProjRefIdeal.τ).loc Cert.GlaProjRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_FoxProj [hFoxProj : Cert.FoxProj.Facts] : Prop :=
  ∀ (m : (ℓ : Loc Cert.FoxProj.nD Cert.FoxProj.τ Cert.FoxProj.sig) → Buf (Elt Bits) ℓ) (g : Dev Cert.FoxProj.nD → PrngReg), Pre_FoxProj m →
    θ_run (Cert.FoxProj.defs (F := Bits)) (onTc (τ := Cert.FoxProj.τ) (Cert.FoxProj.main (F := Bits))) ⟨m, fun _ => 0, g⟩ (fun r => (∀ c : Dev Cert.FoxProj.nD,
      r.2.mem ((c.tc : Thread Cert.FoxProj.nD Cert.FoxProj.τ).loc Cert.FoxProj.main_arg0) = m ((c.tc : Thread Cert.FoxProj.nD Cert.FoxProj.τ).loc Cert.FoxProj.main_arg0)
      ∧ r.2.mem ((c.tc : Thread Cert.FoxProj.nD Cert.FoxProj.τ).loc Cert.FoxProj.main_arg1) = m ((c.tc : Thread Cert.FoxProj.nD Cert.FoxProj.τ).loc Cert.FoxProj.main_arg1)
      ∧ r.2.mem ((c.tc : Thread Cert.FoxProj.nD Cert.FoxProj.τ).loc Cert.FoxProj.main_arg2) = m ((c.tc : Thread Cert.FoxProj.nD Cert.FoxProj.τ).loc Cert.FoxProj.main_arg2)
      ∧ r.2.mem ((c.tc : Thread Cert.FoxProj.nD Cert.FoxProj.τ).loc Cert.FoxProj.main_arg3) = m ((c.tc : Thread Cert.FoxProj.nD Cert.FoxProj.τ).loc Cert.FoxProj.main_arg3))
      ∧ r.2.sem = fun _ => 0)

def quiescent_FoxProjIdeal [hFoxProjIdeal : Cert.FoxProjIdeal.Facts] : Prop :=
  ∀ (m : (ℓ : Loc Cert.FoxProjIdeal.nD Cert.FoxProjIdeal.τ Cert.FoxProjIdeal.sig) → Buf (Elt Ideal) ℓ) (g : Dev Cert.FoxProjIdeal.nD → PrngReg), Pre_FoxProjIdeal m →
    θ_run (Cert.FoxProjIdeal.defs (F := Ideal)) (onTc (τ := Cert.FoxProjIdeal.τ) (Cert.FoxProjIdeal.main (F := Ideal))) ⟨m, fun _ => 0, g⟩ (fun r => (∀ c : Dev Cert.FoxProjIdeal.nD,
      r.2.mem ((c.tc : Thread Cert.FoxProjIdeal.nD Cert.FoxProjIdeal.τ).loc Cert.FoxProjIdeal.main_arg0) = m ((c.tc : Thread Cert.FoxProjIdeal.nD Cert.FoxProjIdeal.τ).loc Cert.FoxProjIdeal.main_arg0)
      ∧ r.2.mem ((c.tc : Thread Cert.FoxProjIdeal.nD Cert.FoxProjIdeal.τ).loc Cert.FoxProjIdeal.main_arg1) = m ((c.tc : Thread Cert.FoxProjIdeal.nD Cert.FoxProjIdeal.τ).loc Cert.FoxProjIdeal.main_arg1)
      ∧ r.2.mem ((c.tc : Thread Cert.FoxProjIdeal.nD Cert.FoxProjIdeal.τ).loc Cert.FoxProjIdeal.main_arg2) = m ((c.tc : Thread Cert.FoxProjIdeal.nD Cert.FoxProjIdeal.τ).loc Cert.FoxProjIdeal.main_arg2)
      ∧ r.2.mem ((c.tc : Thread Cert.FoxProjIdeal.nD Cert.FoxProjIdeal.τ).loc Cert.FoxProjIdeal.main_arg3) = m ((c.tc : Thread Cert.FoxProjIdeal.nD Cert.FoxProjIdeal.τ).loc Cert.FoxProjIdeal.main_arg3))
      ∧ r.2.sem = fun _ => 0)

def quiescent_FoxProjRefIdeal [hFoxProjRefIdeal : Cert.FoxProjRefIdeal.Facts] : Prop :=
  ∀ (m : (ℓ : Loc Cert.FoxProjRefIdeal.nD Cert.FoxProjRefIdeal.τ Cert.FoxProjRefIdeal.sig) → Buf (Elt Ideal) ℓ) (g : Dev Cert.FoxProjRefIdeal.nD → PrngReg), Pre_FoxProjRefIdeal m →
    θ_run (Cert.FoxProjRefIdeal.defs (F := Ideal)) (onTc (τ := Cert.FoxProjRefIdeal.τ) (Cert.FoxProjRefIdeal.main (F := Ideal))) ⟨m, fun _ => 0, g⟩ (fun r => (∀ c : Dev Cert.FoxProjRefIdeal.nD,
      r.2.mem ((c.tc : Thread Cert.FoxProjRefIdeal.nD Cert.FoxProjRefIdeal.τ).loc Cert.FoxProjRefIdeal.main_arg0) = m ((c.tc : Thread Cert.FoxProjRefIdeal.nD Cert.FoxProjRefIdeal.τ).loc Cert.FoxProjRefIdeal.main_arg0)
      ∧ r.2.mem ((c.tc : Thread Cert.FoxProjRefIdeal.nD Cert.FoxProjRefIdeal.τ).loc Cert.FoxProjRefIdeal.main_arg1) = m ((c.tc : Thread Cert.FoxProjRefIdeal.nD Cert.FoxProjRefIdeal.τ).loc Cert.FoxProjRefIdeal.main_arg1)
      ∧ r.2.mem ((c.tc : Thread Cert.FoxProjRefIdeal.nD Cert.FoxProjRefIdeal.τ).loc Cert.FoxProjRefIdeal.main_arg2) = m ((c.tc : Thread Cert.FoxProjRefIdeal.nD Cert.FoxProjRefIdeal.τ).loc Cert.FoxProjRefIdeal.main_arg2)
      ∧ r.2.mem ((c.tc : Thread Cert.FoxProjRefIdeal.nD Cert.FoxProjRefIdeal.τ).loc Cert.FoxProjRefIdeal.main_arg3) = m ((c.tc : Thread Cert.FoxProjRefIdeal.nD Cert.FoxProjRefIdeal.τ).loc Cert.FoxProjRefIdeal.main_arg3))
      ∧ r.2.sem = fun _ => 0)

def quiescent_FoxStep [hFoxStep : Cert.FoxStep.Facts] : Prop :=
  ∀ (m : (ℓ : Loc Cert.FoxStep.nD Cert.FoxStep.τ Cert.FoxStep.sig) → Buf (Elt Bits) ℓ) (g : Dev Cert.FoxStep.nD → PrngReg), Pre_FoxStep m →
    θ_run (Cert.FoxStep.defs (F := Bits)) (onTc (τ := Cert.FoxStep.τ) (Cert.FoxStep.main (F := Bits))) ⟨m, fun _ => 0, g⟩ (fun r => (∀ c : Dev Cert.FoxStep.nD,
      r.2.mem ((c.tc : Thread Cert.FoxStep.nD Cert.FoxStep.τ).loc Cert.FoxStep.main_arg0) = m ((c.tc : Thread Cert.FoxStep.nD Cert.FoxStep.τ).loc Cert.FoxStep.main_arg0)
      ∧ r.2.mem ((c.tc : Thread Cert.FoxStep.nD Cert.FoxStep.τ).loc Cert.FoxStep.main_arg1) = m ((c.tc : Thread Cert.FoxStep.nD Cert.FoxStep.τ).loc Cert.FoxStep.main_arg1)
      ∧ r.2.mem ((c.tc : Thread Cert.FoxStep.nD Cert.FoxStep.τ).loc Cert.FoxStep.main_arg2) = m ((c.tc : Thread Cert.FoxStep.nD Cert.FoxStep.τ).loc Cert.FoxStep.main_arg2)
      ∧ r.2.mem ((c.tc : Thread Cert.FoxStep.nD Cert.FoxStep.τ).loc Cert.FoxStep.main_arg3) = m ((c.tc : Thread Cert.FoxStep.nD Cert.FoxStep.τ).loc Cert.FoxStep.main_arg3))
      ∧ r.2.sem = fun _ => 0)

def quiescent_FoxStepIdeal [hFoxStepIdeal : Cert.FoxStepIdeal.Facts] : Prop :=
  ∀ (m : (ℓ : Loc Cert.FoxStepIdeal.nD Cert.FoxStepIdeal.τ Cert.FoxStepIdeal.sig) → Buf (Elt Ideal) ℓ) (g : Dev Cert.FoxStepIdeal.nD → PrngReg), Pre_FoxStepIdeal m →
    θ_run (Cert.FoxStepIdeal.defs (F := Ideal)) (onTc (τ := Cert.FoxStepIdeal.τ) (Cert.FoxStepIdeal.main (F := Ideal))) ⟨m, fun _ => 0, g⟩ (fun r => (∀ c : Dev Cert.FoxStepIdeal.nD,
      r.2.mem ((c.tc : Thread Cert.FoxStepIdeal.nD Cert.FoxStepIdeal.τ).loc Cert.FoxStepIdeal.main_arg0) = m ((c.tc : Thread Cert.FoxStepIdeal.nD Cert.FoxStepIdeal.τ).loc Cert.FoxStepIdeal.main_arg0)
      ∧ r.2.mem ((c.tc : Thread Cert.FoxStepIdeal.nD Cert.FoxStepIdeal.τ).loc Cert.FoxStepIdeal.main_arg1) = m ((c.tc : Thread Cert.FoxStepIdeal.nD Cert.FoxStepIdeal.τ).loc Cert.FoxStepIdeal.main_arg1)
      ∧ r.2.mem ((c.tc : Thread Cert.FoxStepIdeal.nD Cert.FoxStepIdeal.τ).loc Cert.FoxStepIdeal.main_arg2) = m ((c.tc : Thread Cert.FoxStepIdeal.nD Cert.FoxStepIdeal.τ).loc Cert.FoxStepIdeal.main_arg2)
      ∧ r.2.mem ((c.tc : Thread Cert.FoxStepIdeal.nD Cert.FoxStepIdeal.τ).loc Cert.FoxStepIdeal.main_arg3) = m ((c.tc : Thread Cert.FoxStepIdeal.nD Cert.FoxStepIdeal.τ).loc Cert.FoxStepIdeal.main_arg3))
      ∧ r.2.sem = fun _ => 0)

def quiescent_FoxStepRefIdeal [hFoxStepRefIdeal : Cert.FoxStepRefIdeal.Facts] : Prop :=
  ∀ (m : (ℓ : Loc Cert.FoxStepRefIdeal.nD Cert.FoxStepRefIdeal.τ Cert.FoxStepRefIdeal.sig) → Buf (Elt Ideal) ℓ) (g : Dev Cert.FoxStepRefIdeal.nD → PrngReg), Pre_FoxStepRefIdeal m →
    θ_run (Cert.FoxStepRefIdeal.defs (F := Ideal)) (onTc (τ := Cert.FoxStepRefIdeal.τ) (Cert.FoxStepRefIdeal.main (F := Ideal))) ⟨m, fun _ => 0, g⟩ (fun r => (∀ c : Dev Cert.FoxStepRefIdeal.nD,
      r.2.mem ((c.tc : Thread Cert.FoxStepRefIdeal.nD Cert.FoxStepRefIdeal.τ).loc Cert.FoxStepRefIdeal.main_arg0) = m ((c.tc : Thread Cert.FoxStepRefIdeal.nD Cert.FoxStepRefIdeal.τ).loc Cert.FoxStepRefIdeal.main_arg0)
      ∧ r.2.mem ((c.tc : Thread Cert.FoxStepRefIdeal.nD Cert.FoxStepRefIdeal.τ).loc Cert.FoxStepRefIdeal.main_arg1) = m ((c.tc : Thread Cert.FoxStepRefIdeal.nD Cert.FoxStepRefIdeal.τ).loc Cert.FoxStepRefIdeal.main_arg1)
      ∧ r.2.mem ((c.tc : Thread Cert.FoxStepRefIdeal.nD Cert.FoxStepRefIdeal.τ).loc Cert.FoxStepRefIdeal.main_arg2) = m ((c.tc : Thread Cert.FoxStepRefIdeal.nD Cert.FoxStepRefIdeal.τ).loc Cert.FoxStepRefIdeal.main_arg2)
      ∧ r.2.mem ((c.tc : Thread Cert.FoxStepRefIdeal.nD Cert.FoxStepRefIdeal.τ).loc Cert.FoxStepRefIdeal.main_arg3) = m ((c.tc : Thread Cert.FoxStepRefIdeal.nD Cert.FoxStepRefIdeal.τ).loc Cert.FoxStepRefIdeal.main_arg3))
      ∧ r.2.sem = fun _ => 0)

def quiescent_GlaStep [hGlaStep : Cert.GlaStep.Facts] : Prop :=
  ∀ (m : (ℓ : Loc Cert.GlaStep.nD Cert.GlaStep.τ Cert.GlaStep.sig) → Buf (Elt Bits) ℓ) (g : Dev Cert.GlaStep.nD → PrngReg), Pre_GlaStep m →
    θ_run (Cert.GlaStep.defs (F := Bits)) (onTc (τ := Cert.GlaStep.τ) (Cert.GlaStep.main (F := Bits))) ⟨m, fun _ => 0, g⟩ (fun r => (∀ c : Dev Cert.GlaStep.nD,
      r.2.mem ((c.tc : Thread Cert.GlaStep.nD Cert.GlaStep.τ).loc Cert.GlaStep.main_arg0) = m ((c.tc : Thread Cert.GlaStep.nD Cert.GlaStep.τ).loc Cert.GlaStep.main_arg0)
      ∧ r.2.mem ((c.tc : Thread Cert.GlaStep.nD Cert.GlaStep.τ).loc Cert.GlaStep.main_arg1) = m ((c.tc : Thread Cert.GlaStep.nD Cert.GlaStep.τ).loc Cert.GlaStep.main_arg1)
      ∧ r.2.mem ((c.tc : Thread Cert.GlaStep.nD Cert.GlaStep.τ).loc Cert.GlaStep.main_arg2) = m ((c.tc : Thread Cert.GlaStep.nD Cert.GlaStep.τ).loc Cert.GlaStep.main_arg2)
      ∧ r.2.mem ((c.tc : Thread Cert.GlaStep.nD Cert.GlaStep.τ).loc Cert.GlaStep.main_arg3) = m ((c.tc : Thread Cert.GlaStep.nD Cert.GlaStep.τ).loc Cert.GlaStep.main_arg3)
      ∧ r.2.mem ((c.tc : Thread Cert.GlaStep.nD Cert.GlaStep.τ).loc Cert.GlaStep.main_arg4) = m ((c.tc : Thread Cert.GlaStep.nD Cert.GlaStep.τ).loc Cert.GlaStep.main_arg4)
      ∧ r.2.mem ((c.tc : Thread Cert.GlaStep.nD Cert.GlaStep.τ).loc Cert.GlaStep.main_arg5) = m ((c.tc : Thread Cert.GlaStep.nD Cert.GlaStep.τ).loc Cert.GlaStep.main_arg5))
      ∧ r.2.sem = fun _ => 0)

def quiescent_GlaStepIdeal [hGlaStepIdeal : Cert.GlaStepIdeal.Facts] : Prop :=
  ∀ (m : (ℓ : Loc Cert.GlaStepIdeal.nD Cert.GlaStepIdeal.τ Cert.GlaStepIdeal.sig) → Buf (Elt Ideal) ℓ) (g : Dev Cert.GlaStepIdeal.nD → PrngReg), Pre_GlaStepIdeal m →
    θ_run (Cert.GlaStepIdeal.defs (F := Ideal)) (onTc (τ := Cert.GlaStepIdeal.τ) (Cert.GlaStepIdeal.main (F := Ideal))) ⟨m, fun _ => 0, g⟩ (fun r => (∀ c : Dev Cert.GlaStepIdeal.nD,
      r.2.mem ((c.tc : Thread Cert.GlaStepIdeal.nD Cert.GlaStepIdeal.τ).loc Cert.GlaStepIdeal.main_arg0) = m ((c.tc : Thread Cert.GlaStepIdeal.nD Cert.GlaStepIdeal.τ).loc Cert.GlaStepIdeal.main_arg0)
      ∧ r.2.mem ((c.tc : Thread Cert.GlaStepIdeal.nD Cert.GlaStepIdeal.τ).loc Cert.GlaStepIdeal.main_arg1) = m ((c.tc : Thread Cert.GlaStepIdeal.nD Cert.GlaStepIdeal.τ).loc Cert.GlaStepIdeal.main_arg1)
      ∧ r.2.mem ((c.tc : Thread Cert.GlaStepIdeal.nD Cert.GlaStepIdeal.τ).loc Cert.GlaStepIdeal.main_arg2) = m ((c.tc : Thread Cert.GlaStepIdeal.nD Cert.GlaStepIdeal.τ).loc Cert.GlaStepIdeal.main_arg2)
      ∧ r.2.mem ((c.tc : Thread Cert.GlaStepIdeal.nD Cert.GlaStepIdeal.τ).loc Cert.GlaStepIdeal.main_arg3) = m ((c.tc : Thread Cert.GlaStepIdeal.nD Cert.GlaStepIdeal.τ).loc Cert.GlaStepIdeal.main_arg3)
      ∧ r.2.mem ((c.tc : Thread Cert.GlaStepIdeal.nD Cert.GlaStepIdeal.τ).loc Cert.GlaStepIdeal.main_arg4) = m ((c.tc : Thread Cert.GlaStepIdeal.nD Cert.GlaStepIdeal.τ).loc Cert.GlaStepIdeal.main_arg4)
      ∧ r.2.mem ((c.tc : Thread Cert.GlaStepIdeal.nD Cert.GlaStepIdeal.τ).loc Cert.GlaStepIdeal.main_arg5) = m ((c.tc : Thread Cert.GlaStepIdeal.nD Cert.GlaStepIdeal.τ).loc Cert.GlaStepIdeal.main_arg5))
      ∧ r.2.sem = fun _ => 0)

def quiescent_GlaStepRefIdeal [hGlaStepRefIdeal : Cert.GlaStepRefIdeal.Facts] : Prop :=
  ∀ (m : (ℓ : Loc Cert.GlaStepRefIdeal.nD Cert.GlaStepRefIdeal.τ Cert.GlaStepRefIdeal.sig) → Buf (Elt Ideal) ℓ) (g : Dev Cert.GlaStepRefIdeal.nD → PrngReg), Pre_GlaStepRefIdeal m →
    θ_run (Cert.GlaStepRefIdeal.defs (F := Ideal)) (onTc (τ := Cert.GlaStepRefIdeal.τ) (Cert.GlaStepRefIdeal.main (F := Ideal))) ⟨m, fun _ => 0, g⟩ (fun r => (∀ c : Dev Cert.GlaStepRefIdeal.nD,
      r.2.mem ((c.tc : Thread Cert.GlaStepRefIdeal.nD Cert.GlaStepRefIdeal.τ).loc Cert.GlaStepRefIdeal.main_arg0) = m ((c.tc : Thread Cert.GlaStepRefIdeal.nD Cert.GlaStepRefIdeal.τ).loc Cert.GlaStepRefIdeal.main_arg0)
      ∧ r.2.mem ((c.tc : Thread Cert.GlaStepRefIdeal.nD Cert.GlaStepRefIdeal.τ).loc Cert.GlaStepRefIdeal.main_arg1) = m ((c.tc : Thread Cert.GlaStepRefIdeal.nD Cert.GlaStepRefIdeal.τ).loc Cert.GlaStepRefIdeal.main_arg1)
      ∧ r.2.mem ((c.tc : Thread Cert.GlaStepRefIdeal.nD Cert.GlaStepRefIdeal.τ).loc Cert.GlaStepRefIdeal.main_arg2) = m ((c.tc : Thread Cert.GlaStepRefIdeal.nD Cert.GlaStepRefIdeal.τ).loc Cert.GlaStepRefIdeal.main_arg2)
      ∧ r.2.mem ((c.tc : Thread Cert.GlaStepRefIdeal.nD Cert.GlaStepRefIdeal.τ).loc Cert.GlaStepRefIdeal.main_arg3) = m ((c.tc : Thread Cert.GlaStepRefIdeal.nD Cert.GlaStepRefIdeal.τ).loc Cert.GlaStepRefIdeal.main_arg3)
      ∧ r.2.mem ((c.tc : Thread Cert.GlaStepRefIdeal.nD Cert.GlaStepRefIdeal.τ).loc Cert.GlaStepRefIdeal.main_arg4) = m ((c.tc : Thread Cert.GlaStepRefIdeal.nD Cert.GlaStepRefIdeal.τ).loc Cert.GlaStepRefIdeal.main_arg4)
      ∧ r.2.mem ((c.tc : Thread Cert.GlaStepRefIdeal.nD Cert.GlaStepRefIdeal.τ).loc Cert.GlaStepRefIdeal.main_arg5) = m ((c.tc : Thread Cert.GlaStepRefIdeal.nD Cert.GlaStepRefIdeal.τ).loc Cert.GlaStepRefIdeal.main_arg5))
      ∧ r.2.sem = fun _ => 0)

def quiescent_FfnStep [hFfnStep : Cert.FfnStep.Facts] : Prop :=
  ∀ (m : (ℓ : Loc Cert.FfnStep.nD Cert.FfnStep.τ Cert.FfnStep.sig) → Buf (Elt Bits) ℓ) (g : Dev Cert.FfnStep.nD → PrngReg), Pre_FfnStep m →
    θ_run (Cert.FfnStep.defs (F := Bits)) (onTc (τ := Cert.FfnStep.τ) (Cert.FfnStep.main (F := Bits))) ⟨m, fun _ => 0, g⟩ (fun r => (∀ c : Dev Cert.FfnStep.nD,
      r.2.mem ((c.tc : Thread Cert.FfnStep.nD Cert.FfnStep.τ).loc Cert.FfnStep.main_arg0) = m ((c.tc : Thread Cert.FfnStep.nD Cert.FfnStep.τ).loc Cert.FfnStep.main_arg0)
      ∧ r.2.mem ((c.tc : Thread Cert.FfnStep.nD Cert.FfnStep.τ).loc Cert.FfnStep.main_arg1) = m ((c.tc : Thread Cert.FfnStep.nD Cert.FfnStep.τ).loc Cert.FfnStep.main_arg1)
      ∧ r.2.mem ((c.tc : Thread Cert.FfnStep.nD Cert.FfnStep.τ).loc Cert.FfnStep.main_arg2) = m ((c.tc : Thread Cert.FfnStep.nD Cert.FfnStep.τ).loc Cert.FfnStep.main_arg2)
      ∧ r.2.mem ((c.tc : Thread Cert.FfnStep.nD Cert.FfnStep.τ).loc Cert.FfnStep.main_arg3) = m ((c.tc : Thread Cert.FfnStep.nD Cert.FfnStep.τ).loc Cert.FfnStep.main_arg3)
      ∧ r.2.mem ((c.tc : Thread Cert.FfnStep.nD Cert.FfnStep.τ).loc Cert.FfnStep.main_arg4) = m ((c.tc : Thread Cert.FfnStep.nD Cert.FfnStep.τ).loc Cert.FfnStep.main_arg4)
      ∧ r.2.mem ((c.tc : Thread Cert.FfnStep.nD Cert.FfnStep.τ).loc Cert.FfnStep.main_arg5) = m ((c.tc : Thread Cert.FfnStep.nD Cert.FfnStep.τ).loc Cert.FfnStep.main_arg5)
      ∧ r.2.mem ((c.tc : Thread Cert.FfnStep.nD Cert.FfnStep.τ).loc Cert.FfnStep.main_arg6) = m ((c.tc : Thread Cert.FfnStep.nD Cert.FfnStep.τ).loc Cert.FfnStep.main_arg6)
      ∧ r.2.mem ((c.tc : Thread Cert.FfnStep.nD Cert.FfnStep.τ).loc Cert.FfnStep.main_arg7) = m ((c.tc : Thread Cert.FfnStep.nD Cert.FfnStep.τ).loc Cert.FfnStep.main_arg7))
      ∧ r.2.sem = fun _ => 0)

def quiescent_FfnStepIdeal [hFfnStepIdeal : Cert.FfnStepIdeal.Facts] : Prop :=
  ∀ (m : (ℓ : Loc Cert.FfnStepIdeal.nD Cert.FfnStepIdeal.τ Cert.FfnStepIdeal.sig) → Buf (Elt Ideal) ℓ) (g : Dev Cert.FfnStepIdeal.nD → PrngReg), Pre_FfnStepIdeal m →
    θ_run (Cert.FfnStepIdeal.defs (F := Ideal)) (onTc (τ := Cert.FfnStepIdeal.τ) (Cert.FfnStepIdeal.main (F := Ideal))) ⟨m, fun _ => 0, g⟩ (fun r => (∀ c : Dev Cert.FfnStepIdeal.nD,
      r.2.mem ((c.tc : Thread Cert.FfnStepIdeal.nD Cert.FfnStepIdeal.τ).loc Cert.FfnStepIdeal.main_arg0) = m ((c.tc : Thread Cert.FfnStepIdeal.nD Cert.FfnStepIdeal.τ).loc Cert.FfnStepIdeal.main_arg0)
      ∧ r.2.mem ((c.tc : Thread Cert.FfnStepIdeal.nD Cert.FfnStepIdeal.τ).loc Cert.FfnStepIdeal.main_arg1) = m ((c.tc : Thread Cert.FfnStepIdeal.nD Cert.FfnStepIdeal.τ).loc Cert.FfnStepIdeal.main_arg1)
      ∧ r.2.mem ((c.tc : Thread Cert.FfnStepIdeal.nD Cert.FfnStepIdeal.τ).loc Cert.FfnStepIdeal.main_arg2) = m ((c.tc : Thread Cert.FfnStepIdeal.nD Cert.FfnStepIdeal.τ).loc Cert.FfnStepIdeal.main_arg2)
      ∧ r.2.mem ((c.tc : Thread Cert.FfnStepIdeal.nD Cert.FfnStepIdeal.τ).loc Cert.FfnStepIdeal.main_arg3) = m ((c.tc : Thread Cert.FfnStepIdeal.nD Cert.FfnStepIdeal.τ).loc Cert.FfnStepIdeal.main_arg3)
      ∧ r.2.mem ((c.tc : Thread Cert.FfnStepIdeal.nD Cert.FfnStepIdeal.τ).loc Cert.FfnStepIdeal.main_arg4) = m ((c.tc : Thread Cert.FfnStepIdeal.nD Cert.FfnStepIdeal.τ).loc Cert.FfnStepIdeal.main_arg4)
      ∧ r.2.mem ((c.tc : Thread Cert.FfnStepIdeal.nD Cert.FfnStepIdeal.τ).loc Cert.FfnStepIdeal.main_arg5) = m ((c.tc : Thread Cert.FfnStepIdeal.nD Cert.FfnStepIdeal.τ).loc Cert.FfnStepIdeal.main_arg5)
      ∧ r.2.mem ((c.tc : Thread Cert.FfnStepIdeal.nD Cert.FfnStepIdeal.τ).loc Cert.FfnStepIdeal.main_arg6) = m ((c.tc : Thread Cert.FfnStepIdeal.nD Cert.FfnStepIdeal.τ).loc Cert.FfnStepIdeal.main_arg6)
      ∧ r.2.mem ((c.tc : Thread Cert.FfnStepIdeal.nD Cert.FfnStepIdeal.τ).loc Cert.FfnStepIdeal.main_arg7) = m ((c.tc : Thread Cert.FfnStepIdeal.nD Cert.FfnStepIdeal.τ).loc Cert.FfnStepIdeal.main_arg7))
      ∧ r.2.sem = fun _ => 0)

def quiescent_FfnStepRefIdeal [hFfnStepRefIdeal : Cert.FfnStepRefIdeal.Facts] : Prop :=
  ∀ (m : (ℓ : Loc Cert.FfnStepRefIdeal.nD Cert.FfnStepRefIdeal.τ Cert.FfnStepRefIdeal.sig) → Buf (Elt Ideal) ℓ) (g : Dev Cert.FfnStepRefIdeal.nD → PrngReg), Pre_FfnStepRefIdeal m →
    θ_run (Cert.FfnStepRefIdeal.defs (F := Ideal)) (onTc (τ := Cert.FfnStepRefIdeal.τ) (Cert.FfnStepRefIdeal.main (F := Ideal))) ⟨m, fun _ => 0, g⟩ (fun r => (∀ c : Dev Cert.FfnStepRefIdeal.nD,
      r.2.mem ((c.tc : Thread Cert.FfnStepRefIdeal.nD Cert.FfnStepRefIdeal.τ).loc Cert.FfnStepRefIdeal.main_arg0) = m ((c.tc : Thread Cert.FfnStepRefIdeal.nD Cert.FfnStepRefIdeal.τ).loc Cert.FfnStepRefIdeal.main_arg0)
      ∧ r.2.mem ((c.tc : Thread Cert.FfnStepRefIdeal.nD Cert.FfnStepRefIdeal.τ).loc Cert.FfnStepRefIdeal.main_arg1) = m ((c.tc : Thread Cert.FfnStepRefIdeal.nD Cert.FfnStepRefIdeal.τ).loc Cert.FfnStepRefIdeal.main_arg1)
      ∧ r.2.mem ((c.tc : Thread Cert.FfnStepRefIdeal.nD Cert.FfnStepRefIdeal.τ).loc Cert.FfnStepRefIdeal.main_arg2) = m ((c.tc : Thread Cert.FfnStepRefIdeal.nD Cert.FfnStepRefIdeal.τ).loc Cert.FfnStepRefIdeal.main_arg2)
      ∧ r.2.mem ((c.tc : Thread Cert.FfnStepRefIdeal.nD Cert.FfnStepRefIdeal.τ).loc Cert.FfnStepRefIdeal.main_arg3) = m ((c.tc : Thread Cert.FfnStepRefIdeal.nD Cert.FfnStepRefIdeal.τ).loc Cert.FfnStepRefIdeal.main_arg3)
      ∧ r.2.mem ((c.tc : Thread Cert.FfnStepRefIdeal.nD Cert.FfnStepRefIdeal.τ).loc Cert.FfnStepRefIdeal.main_arg4) = m ((c.tc : Thread Cert.FfnStepRefIdeal.nD Cert.FfnStepRefIdeal.τ).loc Cert.FfnStepRefIdeal.main_arg4)
      ∧ r.2.mem ((c.tc : Thread Cert.FfnStepRefIdeal.nD Cert.FfnStepRefIdeal.τ).loc Cert.FfnStepRefIdeal.main_arg5) = m ((c.tc : Thread Cert.FfnStepRefIdeal.nD Cert.FfnStepRefIdeal.τ).loc Cert.FfnStepRefIdeal.main_arg5)
      ∧ r.2.mem ((c.tc : Thread Cert.FfnStepRefIdeal.nD Cert.FfnStepRefIdeal.τ).loc Cert.FfnStepRefIdeal.main_arg6) = m ((c.tc : Thread Cert.FfnStepRefIdeal.nD Cert.FfnStepRefIdeal.τ).loc Cert.FfnStepRefIdeal.main_arg6)
      ∧ r.2.mem ((c.tc : Thread Cert.FfnStepRefIdeal.nD Cert.FfnStepRefIdeal.τ).loc Cert.FfnStepRefIdeal.main_arg7) = m ((c.tc : Thread Cert.FfnStepRefIdeal.nD Cert.FfnStepRefIdeal.τ).loc Cert.FfnStepRefIdeal.main_arg7))
      ∧ r.2.sem = fun _ => 0)

def preserves_GlaPrompt_GlaPromptIdeal : Prop :=
  True

def algebraic_GlaPromptIdeal_GlaPromptRefIdeal_pre_gates_finite [hGlaPromptIdeal : Cert.GlaPromptIdeal.Facts] [hGlaPromptRefIdeal : Cert.GlaPromptRefIdeal.Facts] [hPre_gates_finite : Cert.Pre_gates_finite.Facts] : Prop :=
  ∀ (m : (ℓ : Loc Cert.GlaPromptIdeal.nD Cert.GlaPromptIdeal.τ Cert.GlaPromptIdeal.sig) → Buf (Elt Ideal) ℓ) (g : Dev Cert.GlaPromptIdeal.nD → PrngReg)
    (m' : (ℓ : Loc Cert.GlaPromptRefIdeal.nD Cert.GlaPromptRefIdeal.τ Cert.GlaPromptRefIdeal.sig) → Buf (Elt Ideal) ℓ) (g' : Dev Cert.GlaPromptRefIdeal.nD → PrngReg), Pre_GlaPromptIdeal_gates_finite m →
    (∀ c : Dev Cert.GlaPromptIdeal.nD,
      m' ((c.tc : Thread Cert.GlaPromptRefIdeal.nD Cert.GlaPromptRefIdeal.τ).loc Cert.GlaPromptRefIdeal.main_arg0) = m ((c.tc : Thread Cert.GlaPromptIdeal.nD Cert.GlaPromptIdeal.τ).loc Cert.GlaPromptIdeal.main_arg0)
      ∧ m' ((c.tc : Thread Cert.GlaPromptRefIdeal.nD Cert.GlaPromptRefIdeal.τ).loc Cert.GlaPromptRefIdeal.main_arg1) = m ((c.tc : Thread Cert.GlaPromptIdeal.nD Cert.GlaPromptIdeal.τ).loc Cert.GlaPromptIdeal.main_arg1)
      ∧ m' ((c.tc : Thread Cert.GlaPromptRefIdeal.nD Cert.GlaPromptRefIdeal.τ).loc Cert.GlaPromptRefIdeal.main_arg2) = m ((c.tc : Thread Cert.GlaPromptIdeal.nD Cert.GlaPromptIdeal.τ).loc Cert.GlaPromptIdeal.main_arg2)
      ∧ m' ((c.tc : Thread Cert.GlaPromptRefIdeal.nD Cert.GlaPromptRefIdeal.τ).loc Cert.GlaPromptRefIdeal.main_arg3) = m ((c.tc : Thread Cert.GlaPromptIdeal.nD Cert.GlaPromptIdeal.τ).loc Cert.GlaPromptIdeal.main_arg3)
      ∧ m' ((c.tc : Thread Cert.GlaPromptRefIdeal.nD Cert.GlaPromptRefIdeal.τ).loc Cert.GlaPromptRefIdeal.main_arg4) = m ((c.tc : Thread Cert.GlaPromptIdeal.nD Cert.GlaPromptIdeal.τ).loc Cert.GlaPromptIdeal.main_arg4)) →
    ∃ (v0 : (c : Dev Cert.GlaPromptIdeal.nD) → Buf (Elt Ideal) ((c.tc : Thread Cert.GlaPromptIdeal.nD Cert.GlaPromptIdeal.τ).loc Cert.GlaPromptIdeal.main_v8_0)) (v1 : (c : Dev Cert.GlaPromptIdeal.nD) → Buf (Elt Ideal) ((c.tc : Thread Cert.GlaPromptIdeal.nD Cert.GlaPromptIdeal.τ).loc Cert.GlaPromptIdeal.main_v8_1)),
      θ_run (Cert.GlaPromptIdeal.defs (F := Ideal)) (onTc (τ := Cert.GlaPromptIdeal.τ) (Cert.GlaPromptIdeal.main (F := Ideal))) ⟨m, fun _ => 0, g⟩ (fun r => ∀ c : Dev Cert.GlaPromptIdeal.nD,
          r.2.mem ((c.tc : Thread Cert.GlaPromptIdeal.nD Cert.GlaPromptIdeal.τ).loc Cert.GlaPromptIdeal.main_v8_0) = v0 c
          ∧ r.2.mem ((c.tc : Thread Cert.GlaPromptIdeal.nD Cert.GlaPromptIdeal.τ).loc Cert.GlaPromptIdeal.main_v8_1) = v1 c
          ∧ r.2.mem ((c.tc : Thread Cert.GlaPromptIdeal.nD Cert.GlaPromptIdeal.τ).loc Cert.GlaPromptIdeal.main_arg0) = m ((c.tc : Thread Cert.GlaPromptIdeal.nD Cert.GlaPromptIdeal.τ).loc Cert.GlaPromptIdeal.main_arg0)
          ∧ r.2.mem ((c.tc : Thread Cert.GlaPromptIdeal.nD Cert.GlaPromptIdeal.τ).loc Cert.GlaPromptIdeal.main_arg1) = m ((c.tc : Thread Cert.GlaPromptIdeal.nD Cert.GlaPromptIdeal.τ).loc Cert.GlaPromptIdeal.main_arg1)
          ∧ r.2.mem ((c.tc : Thread Cert.GlaPromptIdeal.nD Cert.GlaPromptIdeal.τ).loc Cert.GlaPromptIdeal.main_arg2) = m ((c.tc : Thread Cert.GlaPromptIdeal.nD Cert.GlaPromptIdeal.τ).loc Cert.GlaPromptIdeal.main_arg2)
          ∧ r.2.mem ((c.tc : Thread Cert.GlaPromptIdeal.nD Cert.GlaPromptIdeal.τ).loc Cert.GlaPromptIdeal.main_arg3) = m ((c.tc : Thread Cert.GlaPromptIdeal.nD Cert.GlaPromptIdeal.τ).loc Cert.GlaPromptIdeal.main_arg3)
          ∧ r.2.mem ((c.tc : Thread Cert.GlaPromptIdeal.nD Cert.GlaPromptIdeal.τ).loc Cert.GlaPromptIdeal.main_arg4) = m ((c.tc : Thread Cert.GlaPromptIdeal.nD Cert.GlaPromptIdeal.τ).loc Cert.GlaPromptIdeal.main_arg4))
      ∧ θ_run (Cert.GlaPromptRefIdeal.defs (F := Ideal)) (onTc (τ := Cert.GlaPromptRefIdeal.τ) (Cert.GlaPromptRefIdeal.main (F := Ideal))) ⟨m', fun _ => 0, g'⟩ (fun r => ∀ c : Dev Cert.GlaPromptRefIdeal.nD,
          r.2.mem ((c.tc : Thread Cert.GlaPromptRefIdeal.nD Cert.GlaPromptRefIdeal.τ).loc Cert.GlaPromptRefIdeal.main_v42) = v0 c
          ∧ r.2.mem ((c.tc : Thread Cert.GlaPromptRefIdeal.nD Cert.GlaPromptRefIdeal.τ).loc Cert.GlaPromptRefIdeal.main_v23_5) = v1 c
          ∧ r.2.mem ((c.tc : Thread Cert.GlaPromptRefIdeal.nD Cert.GlaPromptRefIdeal.τ).loc Cert.GlaPromptRefIdeal.main_arg0) = m' ((c.tc : Thread Cert.GlaPromptRefIdeal.nD Cert.GlaPromptRefIdeal.τ).loc Cert.GlaPromptRefIdeal.main_arg0)
          ∧ r.2.mem ((c.tc : Thread Cert.GlaPromptRefIdeal.nD Cert.GlaPromptRefIdeal.τ).loc Cert.GlaPromptRefIdeal.main_arg1) = m' ((c.tc : Thread Cert.GlaPromptRefIdeal.nD Cert.GlaPromptRefIdeal.τ).loc Cert.GlaPromptRefIdeal.main_arg1)
          ∧ r.2.mem ((c.tc : Thread Cert.GlaPromptRefIdeal.nD Cert.GlaPromptRefIdeal.τ).loc Cert.GlaPromptRefIdeal.main_arg2) = m' ((c.tc : Thread Cert.GlaPromptRefIdeal.nD Cert.GlaPromptRefIdeal.τ).loc Cert.GlaPromptRefIdeal.main_arg2)
          ∧ r.2.mem ((c.tc : Thread Cert.GlaPromptRefIdeal.nD Cert.GlaPromptRefIdeal.τ).loc Cert.GlaPromptRefIdeal.main_arg3) = m' ((c.tc : Thread Cert.GlaPromptRefIdeal.nD Cert.GlaPromptRefIdeal.τ).loc Cert.GlaPromptRefIdeal.main_arg3)
          ∧ r.2.mem ((c.tc : Thread Cert.GlaPromptRefIdeal.nD Cert.GlaPromptRefIdeal.τ).loc Cert.GlaPromptRefIdeal.main_arg4) = m' ((c.tc : Thread Cert.GlaPromptRefIdeal.nD Cert.GlaPromptRefIdeal.τ).loc Cert.GlaPromptRefIdeal.main_arg4))

def preserves_GlaProj_GlaProjIdeal : Prop :=
  True

def algebraic_GlaProjIdeal_GlaProjRefIdeal [hGlaProjIdeal : Cert.GlaProjIdeal.Facts] [hGlaProjRefIdeal : Cert.GlaProjRefIdeal.Facts] : Prop :=
  ∀ (m : (ℓ : Loc Cert.GlaProjIdeal.nD Cert.GlaProjIdeal.τ Cert.GlaProjIdeal.sig) → Buf (Elt Ideal) ℓ) (g : Dev Cert.GlaProjIdeal.nD → PrngReg)
    (m' : (ℓ : Loc Cert.GlaProjRefIdeal.nD Cert.GlaProjRefIdeal.τ Cert.GlaProjRefIdeal.sig) → Buf (Elt Ideal) ℓ) (g' : Dev Cert.GlaProjRefIdeal.nD → PrngReg), Pre_GlaProjIdeal m →
    (∀ c : Dev Cert.GlaProjIdeal.nD,
      m' ((c.tc : Thread Cert.GlaProjRefIdeal.nD Cert.GlaProjRefIdeal.τ).loc Cert.GlaProjRefIdeal.main_arg0) = m ((c.tc : Thread Cert.GlaProjIdeal.nD Cert.GlaProjIdeal.τ).loc Cert.GlaProjIdeal.main_arg0)
      ∧ m' ((c.tc : Thread Cert.GlaProjRefIdeal.nD Cert.GlaProjRefIdeal.τ).loc Cert.GlaProjRefIdeal.main_arg1) = m ((c.tc : Thread Cert.GlaProjIdeal.nD Cert.GlaProjIdeal.τ).loc Cert.GlaProjIdeal.main_arg1)
      ∧ m' ((c.tc : Thread Cert.GlaProjRefIdeal.nD Cert.GlaProjRefIdeal.τ).loc Cert.GlaProjRefIdeal.main_arg2) = m ((c.tc : Thread Cert.GlaProjIdeal.nD Cert.GlaProjIdeal.τ).loc Cert.GlaProjIdeal.main_arg2)
      ∧ m' ((c.tc : Thread Cert.GlaProjRefIdeal.nD Cert.GlaProjRefIdeal.τ).loc Cert.GlaProjRefIdeal.main_arg3) = m ((c.tc : Thread Cert.GlaProjIdeal.nD Cert.GlaProjIdeal.τ).loc Cert.GlaProjIdeal.main_arg3)
      ∧ m' ((c.tc : Thread Cert.GlaProjRefIdeal.nD Cert.GlaProjRefIdeal.τ).loc Cert.GlaProjRefIdeal.main_arg4) = m ((c.tc : Thread Cert.GlaProjIdeal.nD Cert.GlaProjIdeal.τ).loc Cert.GlaProjIdeal.main_arg4)) →
    ∃ (v0 : (c : Dev Cert.GlaProjIdeal.nD) → Buf (Elt Ideal) ((c.tc : Thread Cert.GlaProjIdeal.nD Cert.GlaProjIdeal.τ).loc Cert.GlaProjIdeal.main_v23_0)) (v1 : (c : Dev Cert.GlaProjIdeal.nD) → Buf (Elt Ideal) ((c.tc : Thread Cert.GlaProjIdeal.nD Cert.GlaProjIdeal.τ).loc Cert.GlaProjIdeal.main_v23_1)) (v2 : (c : Dev Cert.GlaProjIdeal.nD) → Buf (Elt Ideal) ((c.tc : Thread Cert.GlaProjIdeal.nD Cert.GlaProjIdeal.τ).loc Cert.GlaProjIdeal.main_v23_2)) (v3 : (c : Dev Cert.GlaProjIdeal.nD) → Buf (Elt Ideal) ((c.tc : Thread Cert.GlaProjIdeal.nD Cert.GlaProjIdeal.τ).loc Cert.GlaProjIdeal.main_v23_3)) (v4 : (c : Dev Cert.GlaProjIdeal.nD) → Buf (Elt Ideal) ((c.tc : Thread Cert.GlaProjIdeal.nD Cert.GlaProjIdeal.τ).loc Cert.GlaProjIdeal.main_v23_4)) (v5 : (c : Dev Cert.GlaProjIdeal.nD) → Buf (Elt Ideal) ((c.tc : Thread Cert.GlaProjIdeal.nD Cert.GlaProjIdeal.τ).loc Cert.GlaProjIdeal.main_v23_5)) (v6 : (c : Dev Cert.GlaProjIdeal.nD) → Buf (Elt Ideal) ((c.tc : Thread Cert.GlaProjIdeal.nD Cert.GlaProjIdeal.τ).loc Cert.GlaProjIdeal.main_v23_6)),
      θ_run (Cert.GlaProjIdeal.defs (F := Ideal)) (onTc (τ := Cert.GlaProjIdeal.τ) (Cert.GlaProjIdeal.main (F := Ideal))) ⟨m, fun _ => 0, g⟩ (fun r => ∀ c : Dev Cert.GlaProjIdeal.nD,
          r.2.mem ((c.tc : Thread Cert.GlaProjIdeal.nD Cert.GlaProjIdeal.τ).loc Cert.GlaProjIdeal.main_v23_0) = v0 c
          ∧ r.2.mem ((c.tc : Thread Cert.GlaProjIdeal.nD Cert.GlaProjIdeal.τ).loc Cert.GlaProjIdeal.main_v23_1) = v1 c
          ∧ r.2.mem ((c.tc : Thread Cert.GlaProjIdeal.nD Cert.GlaProjIdeal.τ).loc Cert.GlaProjIdeal.main_v23_2) = v2 c
          ∧ r.2.mem ((c.tc : Thread Cert.GlaProjIdeal.nD Cert.GlaProjIdeal.τ).loc Cert.GlaProjIdeal.main_v23_3) = v3 c
          ∧ r.2.mem ((c.tc : Thread Cert.GlaProjIdeal.nD Cert.GlaProjIdeal.τ).loc Cert.GlaProjIdeal.main_v23_4) = v4 c
          ∧ r.2.mem ((c.tc : Thread Cert.GlaProjIdeal.nD Cert.GlaProjIdeal.τ).loc Cert.GlaProjIdeal.main_v23_5) = v5 c
          ∧ r.2.mem ((c.tc : Thread Cert.GlaProjIdeal.nD Cert.GlaProjIdeal.τ).loc Cert.GlaProjIdeal.main_v23_6) = v6 c
          ∧ r.2.mem ((c.tc : Thread Cert.GlaProjIdeal.nD Cert.GlaProjIdeal.τ).loc Cert.GlaProjIdeal.main_arg0) = m ((c.tc : Thread Cert.GlaProjIdeal.nD Cert.GlaProjIdeal.τ).loc Cert.GlaProjIdeal.main_arg0)
          ∧ r.2.mem ((c.tc : Thread Cert.GlaProjIdeal.nD Cert.GlaProjIdeal.τ).loc Cert.GlaProjIdeal.main_arg1) = m ((c.tc : Thread Cert.GlaProjIdeal.nD Cert.GlaProjIdeal.τ).loc Cert.GlaProjIdeal.main_arg1)
          ∧ r.2.mem ((c.tc : Thread Cert.GlaProjIdeal.nD Cert.GlaProjIdeal.τ).loc Cert.GlaProjIdeal.main_arg2) = m ((c.tc : Thread Cert.GlaProjIdeal.nD Cert.GlaProjIdeal.τ).loc Cert.GlaProjIdeal.main_arg2)
          ∧ r.2.mem ((c.tc : Thread Cert.GlaProjIdeal.nD Cert.GlaProjIdeal.τ).loc Cert.GlaProjIdeal.main_arg3) = m ((c.tc : Thread Cert.GlaProjIdeal.nD Cert.GlaProjIdeal.τ).loc Cert.GlaProjIdeal.main_arg3)
          ∧ r.2.mem ((c.tc : Thread Cert.GlaProjIdeal.nD Cert.GlaProjIdeal.τ).loc Cert.GlaProjIdeal.main_arg4) = m ((c.tc : Thread Cert.GlaProjIdeal.nD Cert.GlaProjIdeal.τ).loc Cert.GlaProjIdeal.main_arg4))
      ∧ θ_run (Cert.GlaProjRefIdeal.defs (F := Ideal)) (onTc (τ := Cert.GlaProjRefIdeal.τ) (Cert.GlaProjRefIdeal.main (F := Ideal))) ⟨m', fun _ => 0, g'⟩ (fun r => ∀ c : Dev Cert.GlaProjRefIdeal.nD,
          r.2.mem ((c.tc : Thread Cert.GlaProjRefIdeal.nD Cert.GlaProjRefIdeal.τ).loc Cert.GlaProjRefIdeal.main_v40) = v0 c
          ∧ r.2.mem ((c.tc : Thread Cert.GlaProjRefIdeal.nD Cert.GlaProjRefIdeal.τ).loc Cert.GlaProjRefIdeal.main_v41) = v1 c
          ∧ r.2.mem ((c.tc : Thread Cert.GlaProjRefIdeal.nD Cert.GlaProjRefIdeal.τ).loc Cert.GlaProjRefIdeal.main_v42) = v2 c
          ∧ r.2.mem ((c.tc : Thread Cert.GlaProjRefIdeal.nD Cert.GlaProjRefIdeal.τ).loc Cert.GlaProjRefIdeal.main_v25) = v3 c
          ∧ r.2.mem ((c.tc : Thread Cert.GlaProjRefIdeal.nD Cert.GlaProjRefIdeal.τ).loc Cert.GlaProjRefIdeal.main_v44) = v4 c
          ∧ r.2.mem ((c.tc : Thread Cert.GlaProjRefIdeal.nD Cert.GlaProjRefIdeal.τ).loc Cert.GlaProjRefIdeal.main_v45) = v5 c
          ∧ r.2.mem ((c.tc : Thread Cert.GlaProjRefIdeal.nD Cert.GlaProjRefIdeal.τ).loc Cert.GlaProjRefIdeal.main_v46) = v6 c
          ∧ r.2.mem ((c.tc : Thread Cert.GlaProjRefIdeal.nD Cert.GlaProjRefIdeal.τ).loc Cert.GlaProjRefIdeal.main_arg0) = m' ((c.tc : Thread Cert.GlaProjRefIdeal.nD Cert.GlaProjRefIdeal.τ).loc Cert.GlaProjRefIdeal.main_arg0)
          ∧ r.2.mem ((c.tc : Thread Cert.GlaProjRefIdeal.nD Cert.GlaProjRefIdeal.τ).loc Cert.GlaProjRefIdeal.main_arg1) = m' ((c.tc : Thread Cert.GlaProjRefIdeal.nD Cert.GlaProjRefIdeal.τ).loc Cert.GlaProjRefIdeal.main_arg1)
          ∧ r.2.mem ((c.tc : Thread Cert.GlaProjRefIdeal.nD Cert.GlaProjRefIdeal.τ).loc Cert.GlaProjRefIdeal.main_arg2) = m' ((c.tc : Thread Cert.GlaProjRefIdeal.nD Cert.GlaProjRefIdeal.τ).loc Cert.GlaProjRefIdeal.main_arg2)
          ∧ r.2.mem ((c.tc : Thread Cert.GlaProjRefIdeal.nD Cert.GlaProjRefIdeal.τ).loc Cert.GlaProjRefIdeal.main_arg3) = m' ((c.tc : Thread Cert.GlaProjRefIdeal.nD Cert.GlaProjRefIdeal.τ).loc Cert.GlaProjRefIdeal.main_arg3)
          ∧ r.2.mem ((c.tc : Thread Cert.GlaProjRefIdeal.nD Cert.GlaProjRefIdeal.τ).loc Cert.GlaProjRefIdeal.main_arg4) = m' ((c.tc : Thread Cert.GlaProjRefIdeal.nD Cert.GlaProjRefIdeal.τ).loc Cert.GlaProjRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v5_0)) (v1 : (c : Dev Cert.MergeIdeal.nD) → Buf (Elt Ideal) ((c.tc : Thread Cert.MergeIdeal.nD Cert.MergeIdeal.τ).loc Cert.MergeIdeal.main_v5_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v5_0) = v0 c
          ∧ r.2.mem ((c.tc : Thread Cert.MergeIdeal.nD Cert.MergeIdeal.τ).loc Cert.MergeIdeal.main_v5_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v25) = v0 c
          ∧ r.2.mem ((c.tc : Thread Cert.MergeRefIdeal.nD Cert.MergeRefIdeal.τ).loc Cert.MergeRefIdeal.main_v39) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v4_0)) (v1 : (c : Dev Cert.FfnIdeal.nD) → Buf (Elt Ideal) ((c.tc : Thread Cert.FfnIdeal.nD Cert.FfnIdeal.τ).loc Cert.FfnIdeal.main_v4_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4_0) = v0 c
          ∧ r.2.mem ((c.tc : Thread Cert.FfnIdeal.nD Cert.FfnIdeal.τ).loc Cert.FfnIdeal.main_v4_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v59) = v0 c
          ∧ r.2.mem ((c.tc : Thread Cert.FfnRefIdeal.nD Cert.FfnRefIdeal.τ).loc Cert.FfnRefIdeal.main_v60) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_FoxProj_FoxProjIdeal : Prop :=
  True

def algebraic_FoxProjIdeal_FoxProjRefIdeal [hFoxProjIdeal : Cert.FoxProjIdeal.Facts] [hFoxProjRefIdeal : Cert.FoxProjRefIdeal.Facts] : Prop :=
  ∀ (m : (ℓ : Loc Cert.FoxProjIdeal.nD Cert.FoxProjIdeal.τ Cert.FoxProjIdeal.sig) → Buf (Elt Ideal) ℓ) (g : Dev Cert.FoxProjIdeal.nD → PrngReg)
    (m' : (ℓ : Loc Cert.FoxProjRefIdeal.nD Cert.FoxProjRefIdeal.τ Cert.FoxProjRefIdeal.sig) → Buf (Elt Ideal) ℓ) (g' : Dev Cert.FoxProjRefIdeal.nD → PrngReg), Pre_FoxProjIdeal m →
    (∀ c : Dev Cert.FoxProjIdeal.nD,
      m' ((c.tc : Thread Cert.FoxProjRefIdeal.nD Cert.FoxProjRefIdeal.τ).loc Cert.FoxProjRefIdeal.main_arg0) = m ((c.tc : Thread Cert.FoxProjIdeal.nD Cert.FoxProjIdeal.τ).loc Cert.FoxProjIdeal.main_arg0)
      ∧ m' ((c.tc : Thread Cert.FoxProjRefIdeal.nD Cert.FoxProjRefIdeal.τ).loc Cert.FoxProjRefIdeal.main_arg1) = m ((c.tc : Thread Cert.FoxProjIdeal.nD Cert.FoxProjIdeal.τ).loc Cert.FoxProjIdeal.main_arg1)
      ∧ m' ((c.tc : Thread Cert.FoxProjRefIdeal.nD Cert.FoxProjRefIdeal.τ).loc Cert.FoxProjRefIdeal.main_arg2) = m ((c.tc : Thread Cert.FoxProjIdeal.nD Cert.FoxProjIdeal.τ).loc Cert.FoxProjIdeal.main_arg2)
      ∧ m' ((c.tc : Thread Cert.FoxProjRefIdeal.nD Cert.FoxProjRefIdeal.τ).loc Cert.FoxProjRefIdeal.main_arg3) = m ((c.tc : Thread Cert.FoxProjIdeal.nD Cert.FoxProjIdeal.τ).loc Cert.FoxProjIdeal.main_arg3)) →
    ∃ (v0 : (c : Dev Cert.FoxProjIdeal.nD) → Buf (Elt Ideal) ((c.tc : Thread Cert.FoxProjIdeal.nD Cert.FoxProjIdeal.τ).loc Cert.FoxProjIdeal.main_v16_0)) (v1 : (c : Dev Cert.FoxProjIdeal.nD) → Buf (Elt Ideal) ((c.tc : Thread Cert.FoxProjIdeal.nD Cert.FoxProjIdeal.τ).loc Cert.FoxProjIdeal.main_v16_1)) (v2 : (c : Dev Cert.FoxProjIdeal.nD) → Buf (Elt Ideal) ((c.tc : Thread Cert.FoxProjIdeal.nD Cert.FoxProjIdeal.τ).loc Cert.FoxProjIdeal.main_v16_2)) (v3 : (c : Dev Cert.FoxProjIdeal.nD) → Buf (Elt Ideal) ((c.tc : Thread Cert.FoxProjIdeal.nD Cert.FoxProjIdeal.τ).loc Cert.FoxProjIdeal.main_v16_3)),
      θ_run (Cert.FoxProjIdeal.defs (F := Ideal)) (onTc (τ := Cert.FoxProjIdeal.τ) (Cert.FoxProjIdeal.main (F := Ideal))) ⟨m, fun _ => 0, g⟩ (fun r => ∀ c : Dev Cert.FoxProjIdeal.nD,
          r.2.mem ((c.tc : Thread Cert.FoxProjIdeal.nD Cert.FoxProjIdeal.τ).loc Cert.FoxProjIdeal.main_v16_0) = v0 c
          ∧ r.2.mem ((c.tc : Thread Cert.FoxProjIdeal.nD Cert.FoxProjIdeal.τ).loc Cert.FoxProjIdeal.main_v16_1) = v1 c
          ∧ r.2.mem ((c.tc : Thread Cert.FoxProjIdeal.nD Cert.FoxProjIdeal.τ).loc Cert.FoxProjIdeal.main_v16_2) = v2 c
          ∧ r.2.mem ((c.tc : Thread Cert.FoxProjIdeal.nD Cert.FoxProjIdeal.τ).loc Cert.FoxProjIdeal.main_v16_3) = v3 c
          ∧ r.2.mem ((c.tc : Thread Cert.FoxProjIdeal.nD Cert.FoxProjIdeal.τ).loc Cert.FoxProjIdeal.main_arg0) = m ((c.tc : Thread Cert.FoxProjIdeal.nD Cert.FoxProjIdeal.τ).loc Cert.FoxProjIdeal.main_arg0)
          ∧ r.2.mem ((c.tc : Thread Cert.FoxProjIdeal.nD Cert.FoxProjIdeal.τ).loc Cert.FoxProjIdeal.main_arg1) = m ((c.tc : Thread Cert.FoxProjIdeal.nD Cert.FoxProjIdeal.τ).loc Cert.FoxProjIdeal.main_arg1)
          ∧ r.2.mem ((c.tc : Thread Cert.FoxProjIdeal.nD Cert.FoxProjIdeal.τ).loc Cert.FoxProjIdeal.main_arg2) = m ((c.tc : Thread Cert.FoxProjIdeal.nD Cert.FoxProjIdeal.τ).loc Cert.FoxProjIdeal.main_arg2)
          ∧ r.2.mem ((c.tc : Thread Cert.FoxProjIdeal.nD Cert.FoxProjIdeal.τ).loc Cert.FoxProjIdeal.main_arg3) = m ((c.tc : Thread Cert.FoxProjIdeal.nD Cert.FoxProjIdeal.τ).loc Cert.FoxProjIdeal.main_arg3))
      ∧ θ_run (Cert.FoxProjRefIdeal.defs (F := Ideal)) (onTc (τ := Cert.FoxProjRefIdeal.τ) (Cert.FoxProjRefIdeal.main (F := Ideal))) ⟨m', fun _ => 0, g'⟩ (fun r => ∀ c : Dev Cert.FoxProjRefIdeal.nD,
          r.2.mem ((c.tc : Thread Cert.FoxProjRefIdeal.nD Cert.FoxProjRefIdeal.τ).loc Cert.FoxProjRefIdeal.main_v24) = v0 c
          ∧ r.2.mem ((c.tc : Thread Cert.FoxProjRefIdeal.nD Cert.FoxProjRefIdeal.τ).loc Cert.FoxProjRefIdeal.main_v15) = v1 c
          ∧ r.2.mem ((c.tc : Thread Cert.FoxProjRefIdeal.nD Cert.FoxProjRefIdeal.τ).loc Cert.FoxProjRefIdeal.main_v16) = v2 c
          ∧ r.2.mem ((c.tc : Thread Cert.FoxProjRefIdeal.nD Cert.FoxProjRefIdeal.τ).loc Cert.FoxProjRefIdeal.main_v21) = v3 c
          ∧ r.2.mem ((c.tc : Thread Cert.FoxProjRefIdeal.nD Cert.FoxProjRefIdeal.τ).loc Cert.FoxProjRefIdeal.main_arg0) = m' ((c.tc : Thread Cert.FoxProjRefIdeal.nD Cert.FoxProjRefIdeal.τ).loc Cert.FoxProjRefIdeal.main_arg0)
          ∧ r.2.mem ((c.tc : Thread Cert.FoxProjRefIdeal.nD Cert.FoxProjRefIdeal.τ).loc Cert.FoxProjRefIdeal.main_arg1) = m' ((c.tc : Thread Cert.FoxProjRefIdeal.nD Cert.FoxProjRefIdeal.τ).loc Cert.FoxProjRefIdeal.main_arg1)
          ∧ r.2.mem ((c.tc : Thread Cert.FoxProjRefIdeal.nD Cert.FoxProjRefIdeal.τ).loc Cert.FoxProjRefIdeal.main_arg2) = m' ((c.tc : Thread Cert.FoxProjRefIdeal.nD Cert.FoxProjRefIdeal.τ).loc Cert.FoxProjRefIdeal.main_arg2)
          ∧ r.2.mem ((c.tc : Thread Cert.FoxProjRefIdeal.nD Cert.FoxProjRefIdeal.τ).loc Cert.FoxProjRefIdeal.main_arg3) = m' ((c.tc : Thread Cert.FoxProjRefIdeal.nD Cert.FoxProjRefIdeal.τ).loc Cert.FoxProjRefIdeal.main_arg3))

def preserves_FoxStep_FoxStepIdeal : Prop :=
  True

def algebraic_FoxStepIdeal_FoxStepRefIdeal [hFoxStepIdeal : Cert.FoxStepIdeal.Facts] [hFoxStepRefIdeal : Cert.FoxStepRefIdeal.Facts] : Prop :=
  ∀ (m : (ℓ : Loc Cert.FoxStepIdeal.nD Cert.FoxStepIdeal.τ Cert.FoxStepIdeal.sig) → Buf (Elt Ideal) ℓ) (g : Dev Cert.FoxStepIdeal.nD → PrngReg)
    (m' : (ℓ : Loc Cert.FoxStepRefIdeal.nD Cert.FoxStepRefIdeal.τ Cert.FoxStepRefIdeal.sig) → Buf (Elt Ideal) ℓ) (g' : Dev Cert.FoxStepRefIdeal.nD → PrngReg), Pre_FoxStepIdeal m →
    (∀ c : Dev Cert.FoxStepIdeal.nD,
      m' ((c.tc : Thread Cert.FoxStepRefIdeal.nD Cert.FoxStepRefIdeal.τ).loc Cert.FoxStepRefIdeal.main_arg0) = m ((c.tc : Thread Cert.FoxStepIdeal.nD Cert.FoxStepIdeal.τ).loc Cert.FoxStepIdeal.main_arg0)
      ∧ m' ((c.tc : Thread Cert.FoxStepRefIdeal.nD Cert.FoxStepRefIdeal.τ).loc Cert.FoxStepRefIdeal.main_arg1) = m ((c.tc : Thread Cert.FoxStepIdeal.nD Cert.FoxStepIdeal.τ).loc Cert.FoxStepIdeal.main_arg1)
      ∧ m' ((c.tc : Thread Cert.FoxStepRefIdeal.nD Cert.FoxStepRefIdeal.τ).loc Cert.FoxStepRefIdeal.main_arg2) = m ((c.tc : Thread Cert.FoxStepIdeal.nD Cert.FoxStepIdeal.τ).loc Cert.FoxStepIdeal.main_arg2)
      ∧ m' ((c.tc : Thread Cert.FoxStepRefIdeal.nD Cert.FoxStepRefIdeal.τ).loc Cert.FoxStepRefIdeal.main_arg3) = m ((c.tc : Thread Cert.FoxStepIdeal.nD Cert.FoxStepIdeal.τ).loc Cert.FoxStepIdeal.main_arg3)) →
    ∃ (v0 : (c : Dev Cert.FoxStepIdeal.nD) → Buf (Elt Ideal) ((c.tc : Thread Cert.FoxStepIdeal.nD Cert.FoxStepIdeal.τ).loc Cert.FoxStepIdeal.main_v14_0)) (v1 : (c : Dev Cert.FoxStepIdeal.nD) → Buf (Elt Ideal) ((c.tc : Thread Cert.FoxStepIdeal.nD Cert.FoxStepIdeal.τ).loc Cert.FoxStepIdeal.main_v14_1)) (v2 : (c : Dev Cert.FoxStepIdeal.nD) → Buf (Elt Ideal) ((c.tc : Thread Cert.FoxStepIdeal.nD Cert.FoxStepIdeal.τ).loc Cert.FoxStepIdeal.main_v14_2)) (v3 : (c : Dev Cert.FoxStepIdeal.nD) → Buf (Elt Ideal) ((c.tc : Thread Cert.FoxStepIdeal.nD Cert.FoxStepIdeal.τ).loc Cert.FoxStepIdeal.main_v14_3)),
      θ_run (Cert.FoxStepIdeal.defs (F := Ideal)) (onTc (τ := Cert.FoxStepIdeal.τ) (Cert.FoxStepIdeal.main (F := Ideal))) ⟨m, fun _ => 0, g⟩ (fun r => ∀ c : Dev Cert.FoxStepIdeal.nD,
          r.2.mem ((c.tc : Thread Cert.FoxStepIdeal.nD Cert.FoxStepIdeal.τ).loc Cert.FoxStepIdeal.main_v14_0) = v0 c
          ∧ r.2.mem ((c.tc : Thread Cert.FoxStepIdeal.nD Cert.FoxStepIdeal.τ).loc Cert.FoxStepIdeal.main_v14_1) = v1 c
          ∧ r.2.mem ((c.tc : Thread Cert.FoxStepIdeal.nD Cert.FoxStepIdeal.τ).loc Cert.FoxStepIdeal.main_v14_2) = v2 c
          ∧ r.2.mem ((c.tc : Thread Cert.FoxStepIdeal.nD Cert.FoxStepIdeal.τ).loc Cert.FoxStepIdeal.main_v14_3) = v3 c
          ∧ r.2.mem ((c.tc : Thread Cert.FoxStepIdeal.nD Cert.FoxStepIdeal.τ).loc Cert.FoxStepIdeal.main_arg0) = m ((c.tc : Thread Cert.FoxStepIdeal.nD Cert.FoxStepIdeal.τ).loc Cert.FoxStepIdeal.main_arg0)
          ∧ r.2.mem ((c.tc : Thread Cert.FoxStepIdeal.nD Cert.FoxStepIdeal.τ).loc Cert.FoxStepIdeal.main_arg1) = m ((c.tc : Thread Cert.FoxStepIdeal.nD Cert.FoxStepIdeal.τ).loc Cert.FoxStepIdeal.main_arg1)
          ∧ r.2.mem ((c.tc : Thread Cert.FoxStepIdeal.nD Cert.FoxStepIdeal.τ).loc Cert.FoxStepIdeal.main_arg2) = m ((c.tc : Thread Cert.FoxStepIdeal.nD Cert.FoxStepIdeal.τ).loc Cert.FoxStepIdeal.main_arg2)
          ∧ r.2.mem ((c.tc : Thread Cert.FoxStepIdeal.nD Cert.FoxStepIdeal.τ).loc Cert.FoxStepIdeal.main_arg3) = m ((c.tc : Thread Cert.FoxStepIdeal.nD Cert.FoxStepIdeal.τ).loc Cert.FoxStepIdeal.main_arg3))
      ∧ θ_run (Cert.FoxStepRefIdeal.defs (F := Ideal)) (onTc (τ := Cert.FoxStepRefIdeal.τ) (Cert.FoxStepRefIdeal.main (F := Ideal))) ⟨m', fun _ => 0, g'⟩ (fun r => ∀ c : Dev Cert.FoxStepRefIdeal.nD,
          r.2.mem ((c.tc : Thread Cert.FoxStepRefIdeal.nD Cert.FoxStepRefIdeal.τ).loc Cert.FoxStepRefIdeal.main_v23) = v0 c
          ∧ r.2.mem ((c.tc : Thread Cert.FoxStepRefIdeal.nD Cert.FoxStepRefIdeal.τ).loc Cert.FoxStepRefIdeal.main_v15) = v1 c
          ∧ r.2.mem ((c.tc : Thread Cert.FoxStepRefIdeal.nD Cert.FoxStepRefIdeal.τ).loc Cert.FoxStepRefIdeal.main_v16) = v2 c
          ∧ r.2.mem ((c.tc : Thread Cert.FoxStepRefIdeal.nD Cert.FoxStepRefIdeal.τ).loc Cert.FoxStepRefIdeal.main_v21) = v3 c
          ∧ r.2.mem ((c.tc : Thread Cert.FoxStepRefIdeal.nD Cert.FoxStepRefIdeal.τ).loc Cert.FoxStepRefIdeal.main_arg0) = m' ((c.tc : Thread Cert.FoxStepRefIdeal.nD Cert.FoxStepRefIdeal.τ).loc Cert.FoxStepRefIdeal.main_arg0)
          ∧ r.2.mem ((c.tc : Thread Cert.FoxStepRefIdeal.nD Cert.FoxStepRefIdeal.τ).loc Cert.FoxStepRefIdeal.main_arg1) = m' ((c.tc : Thread Cert.FoxStepRefIdeal.nD Cert.FoxStepRefIdeal.τ).loc Cert.FoxStepRefIdeal.main_arg1)
          ∧ r.2.mem ((c.tc : Thread Cert.FoxStepRefIdeal.nD Cert.FoxStepRefIdeal.τ).loc Cert.FoxStepRefIdeal.main_arg2) = m' ((c.tc : Thread Cert.FoxStepRefIdeal.nD Cert.FoxStepRefIdeal.τ).loc Cert.FoxStepRefIdeal.main_arg2)
          ∧ r.2.mem ((c.tc : Thread Cert.FoxStepRefIdeal.nD Cert.FoxStepRefIdeal.τ).loc Cert.FoxStepRefIdeal.main_arg3) = m' ((c.tc : Thread Cert.FoxStepRefIdeal.nD Cert.FoxStepRefIdeal.τ).loc Cert.FoxStepRefIdeal.main_arg3))

def preserves_GlaStep_GlaStepIdeal : Prop :=
  True

def algebraic_GlaStepIdeal_GlaStepRefIdeal [hGlaStepIdeal : Cert.GlaStepIdeal.Facts] [hGlaStepRefIdeal : Cert.GlaStepRefIdeal.Facts] : Prop :=
  ∀ (m : (ℓ : Loc Cert.GlaStepIdeal.nD Cert.GlaStepIdeal.τ Cert.GlaStepIdeal.sig) → Buf (Elt Ideal) ℓ) (g : Dev Cert.GlaStepIdeal.nD → PrngReg)
    (m' : (ℓ : Loc Cert.GlaStepRefIdeal.nD Cert.GlaStepRefIdeal.τ Cert.GlaStepRefIdeal.sig) → Buf (Elt Ideal) ℓ) (g' : Dev Cert.GlaStepRefIdeal.nD → PrngReg), Pre_GlaStepIdeal m →
    (∀ c : Dev Cert.GlaStepIdeal.nD,
      m' ((c.tc : Thread Cert.GlaStepRefIdeal.nD Cert.GlaStepRefIdeal.τ).loc Cert.GlaStepRefIdeal.main_arg0) = m ((c.tc : Thread Cert.GlaStepIdeal.nD Cert.GlaStepIdeal.τ).loc Cert.GlaStepIdeal.main_arg0)
      ∧ m' ((c.tc : Thread Cert.GlaStepRefIdeal.nD Cert.GlaStepRefIdeal.τ).loc Cert.GlaStepRefIdeal.main_arg1) = m ((c.tc : Thread Cert.GlaStepIdeal.nD Cert.GlaStepIdeal.τ).loc Cert.GlaStepIdeal.main_arg1)
      ∧ m' ((c.tc : Thread Cert.GlaStepRefIdeal.nD Cert.GlaStepRefIdeal.τ).loc Cert.GlaStepRefIdeal.main_arg2) = m ((c.tc : Thread Cert.GlaStepIdeal.nD Cert.GlaStepIdeal.τ).loc Cert.GlaStepIdeal.main_arg2)
      ∧ m' ((c.tc : Thread Cert.GlaStepRefIdeal.nD Cert.GlaStepRefIdeal.τ).loc Cert.GlaStepRefIdeal.main_arg3) = m ((c.tc : Thread Cert.GlaStepIdeal.nD Cert.GlaStepIdeal.τ).loc Cert.GlaStepIdeal.main_arg3)
      ∧ m' ((c.tc : Thread Cert.GlaStepRefIdeal.nD Cert.GlaStepRefIdeal.τ).loc Cert.GlaStepRefIdeal.main_arg4) = m ((c.tc : Thread Cert.GlaStepIdeal.nD Cert.GlaStepIdeal.τ).loc Cert.GlaStepIdeal.main_arg4)
      ∧ m' ((c.tc : Thread Cert.GlaStepRefIdeal.nD Cert.GlaStepRefIdeal.τ).loc Cert.GlaStepRefIdeal.main_arg5) = m ((c.tc : Thread Cert.GlaStepIdeal.nD Cert.GlaStepIdeal.τ).loc Cert.GlaStepIdeal.main_arg5)) →
    ∃ (v0 : (c : Dev Cert.GlaStepIdeal.nD) → Buf (Elt Ideal) ((c.tc : Thread Cert.GlaStepIdeal.nD Cert.GlaStepIdeal.τ).loc Cert.GlaStepIdeal.main_v5_0)) (v1 : (c : Dev Cert.GlaStepIdeal.nD) → Buf (Elt Ideal) ((c.tc : Thread Cert.GlaStepIdeal.nD Cert.GlaStepIdeal.τ).loc Cert.GlaStepIdeal.main_v5_1)),
      θ_run (Cert.GlaStepIdeal.defs (F := Ideal)) (onTc (τ := Cert.GlaStepIdeal.τ) (Cert.GlaStepIdeal.main (F := Ideal))) ⟨m, fun _ => 0, g⟩ (fun r => ∀ c : Dev Cert.GlaStepIdeal.nD,
          r.2.mem ((c.tc : Thread Cert.GlaStepIdeal.nD Cert.GlaStepIdeal.τ).loc Cert.GlaStepIdeal.main_v5_0) = v0 c
          ∧ r.2.mem ((c.tc : Thread Cert.GlaStepIdeal.nD Cert.GlaStepIdeal.τ).loc Cert.GlaStepIdeal.main_v5_1) = v1 c
          ∧ r.2.mem ((c.tc : Thread Cert.GlaStepIdeal.nD Cert.GlaStepIdeal.τ).loc Cert.GlaStepIdeal.main_arg0) = m ((c.tc : Thread Cert.GlaStepIdeal.nD Cert.GlaStepIdeal.τ).loc Cert.GlaStepIdeal.main_arg0)
          ∧ r.2.mem ((c.tc : Thread Cert.GlaStepIdeal.nD Cert.GlaStepIdeal.τ).loc Cert.GlaStepIdeal.main_arg1) = m ((c.tc : Thread Cert.GlaStepIdeal.nD Cert.GlaStepIdeal.τ).loc Cert.GlaStepIdeal.main_arg1)
          ∧ r.2.mem ((c.tc : Thread Cert.GlaStepIdeal.nD Cert.GlaStepIdeal.τ).loc Cert.GlaStepIdeal.main_arg2) = m ((c.tc : Thread Cert.GlaStepIdeal.nD Cert.GlaStepIdeal.τ).loc Cert.GlaStepIdeal.main_arg2)
          ∧ r.2.mem ((c.tc : Thread Cert.GlaStepIdeal.nD Cert.GlaStepIdeal.τ).loc Cert.GlaStepIdeal.main_arg3) = m ((c.tc : Thread Cert.GlaStepIdeal.nD Cert.GlaStepIdeal.τ).loc Cert.GlaStepIdeal.main_arg3)
          ∧ r.2.mem ((c.tc : Thread Cert.GlaStepIdeal.nD Cert.GlaStepIdeal.τ).loc Cert.GlaStepIdeal.main_arg4) = m ((c.tc : Thread Cert.GlaStepIdeal.nD Cert.GlaStepIdeal.τ).loc Cert.GlaStepIdeal.main_arg4)
          ∧ r.2.mem ((c.tc : Thread Cert.GlaStepIdeal.nD Cert.GlaStepIdeal.τ).loc Cert.GlaStepIdeal.main_arg5) = m ((c.tc : Thread Cert.GlaStepIdeal.nD Cert.GlaStepIdeal.τ).loc Cert.GlaStepIdeal.main_arg5))
      ∧ θ_run (Cert.GlaStepRefIdeal.defs (F := Ideal)) (onTc (τ := Cert.GlaStepRefIdeal.τ) (Cert.GlaStepRefIdeal.main (F := Ideal))) ⟨m', fun _ => 0, g'⟩ (fun r => ∀ c : Dev Cert.GlaStepRefIdeal.nD,
          r.2.mem ((c.tc : Thread Cert.GlaStepRefIdeal.nD Cert.GlaStepRefIdeal.τ).loc Cert.GlaStepRefIdeal.main_v30) = v0 c
          ∧ r.2.mem ((c.tc : Thread Cert.GlaStepRefIdeal.nD Cert.GlaStepRefIdeal.τ).loc Cert.GlaStepRefIdeal.main_v15) = v1 c
          ∧ r.2.mem ((c.tc : Thread Cert.GlaStepRefIdeal.nD Cert.GlaStepRefIdeal.τ).loc Cert.GlaStepRefIdeal.main_arg0) = m' ((c.tc : Thread Cert.GlaStepRefIdeal.nD Cert.GlaStepRefIdeal.τ).loc Cert.GlaStepRefIdeal.main_arg0)
          ∧ r.2.mem ((c.tc : Thread Cert.GlaStepRefIdeal.nD Cert.GlaStepRefIdeal.τ).loc Cert.GlaStepRefIdeal.main_arg1) = m' ((c.tc : Thread Cert.GlaStepRefIdeal.nD Cert.GlaStepRefIdeal.τ).loc Cert.GlaStepRefIdeal.main_arg1)
          ∧ r.2.mem ((c.tc : Thread Cert.GlaStepRefIdeal.nD Cert.GlaStepRefIdeal.τ).loc Cert.GlaStepRefIdeal.main_arg2) = m' ((c.tc : Thread Cert.GlaStepRefIdeal.nD Cert.GlaStepRefIdeal.τ).loc Cert.GlaStepRefIdeal.main_arg2)
          ∧ r.2.mem ((c.tc : Thread Cert.GlaStepRefIdeal.nD Cert.GlaStepRefIdeal.τ).loc Cert.GlaStepRefIdeal.main_arg3) = m' ((c.tc : Thread Cert.GlaStepRefIdeal.nD Cert.GlaStepRefIdeal.τ).loc Cert.GlaStepRefIdeal.main_arg3)
          ∧ r.2.mem ((c.tc : Thread Cert.GlaStepRefIdeal.nD Cert.GlaStepRefIdeal.τ).loc Cert.GlaStepRefIdeal.main_arg4) = m' ((c.tc : Thread Cert.GlaStepRefIdeal.nD Cert.GlaStepRefIdeal.τ).loc Cert.GlaStepRefIdeal.main_arg4)
          ∧ r.2.mem ((c.tc : Thread Cert.GlaStepRefIdeal.nD Cert.GlaStepRefIdeal.τ).loc Cert.GlaStepRefIdeal.main_arg5) = m' ((c.tc : Thread Cert.GlaStepRefIdeal.nD Cert.GlaStepRefIdeal.τ).loc Cert.GlaStepRefIdeal.main_arg5))

def preserves_FfnStep_FfnStepIdeal : Prop :=
  True

def algebraic_FfnStepIdeal_FfnStepRefIdeal [hFfnStepIdeal : Cert.FfnStepIdeal.Facts] [hFfnStepRefIdeal : Cert.FfnStepRefIdeal.Facts] : Prop :=
  ∀ (m : (ℓ : Loc Cert.FfnStepIdeal.nD Cert.FfnStepIdeal.τ Cert.FfnStepIdeal.sig) → Buf (Elt Ideal) ℓ) (g : Dev Cert.FfnStepIdeal.nD → PrngReg)
    (m' : (ℓ : Loc Cert.FfnStepRefIdeal.nD Cert.FfnStepRefIdeal.τ Cert.FfnStepRefIdeal.sig) → Buf (Elt Ideal) ℓ) (g' : Dev Cert.FfnStepRefIdeal.nD → PrngReg), Pre_FfnStepIdeal m →
    (∀ c : Dev Cert.FfnStepIdeal.nD,
      m' ((c.tc : Thread Cert.FfnStepRefIdeal.nD Cert.FfnStepRefIdeal.τ).loc Cert.FfnStepRefIdeal.main_arg0) = m ((c.tc : Thread Cert.FfnStepIdeal.nD Cert.FfnStepIdeal.τ).loc Cert.FfnStepIdeal.main_arg0)
      ∧ m' ((c.tc : Thread Cert.FfnStepRefIdeal.nD Cert.FfnStepRefIdeal.τ).loc Cert.FfnStepRefIdeal.main_arg1) = m ((c.tc : Thread Cert.FfnStepIdeal.nD Cert.FfnStepIdeal.τ).loc Cert.FfnStepIdeal.main_arg1)
      ∧ m' ((c.tc : Thread Cert.FfnStepRefIdeal.nD Cert.FfnStepRefIdeal.τ).loc Cert.FfnStepRefIdeal.main_arg2) = m ((c.tc : Thread Cert.FfnStepIdeal.nD Cert.FfnStepIdeal.τ).loc Cert.FfnStepIdeal.main_arg2)
      ∧ m' ((c.tc : Thread Cert.FfnStepRefIdeal.nD Cert.FfnStepRefIdeal.τ).loc Cert.FfnStepRefIdeal.main_arg3) = m ((c.tc : Thread Cert.FfnStepIdeal.nD Cert.FfnStepIdeal.τ).loc Cert.FfnStepIdeal.main_arg3)
      ∧ m' ((c.tc : Thread Cert.FfnStepRefIdeal.nD Cert.FfnStepRefIdeal.τ).loc Cert.FfnStepRefIdeal.main_arg4) = m ((c.tc : Thread Cert.FfnStepIdeal.nD Cert.FfnStepIdeal.τ).loc Cert.FfnStepIdeal.main_arg4)
      ∧ m' ((c.tc : Thread Cert.FfnStepRefIdeal.nD Cert.FfnStepRefIdeal.τ).loc Cert.FfnStepRefIdeal.main_arg5) = m ((c.tc : Thread Cert.FfnStepIdeal.nD Cert.FfnStepIdeal.τ).loc Cert.FfnStepIdeal.main_arg5)
      ∧ m' ((c.tc : Thread Cert.FfnStepRefIdeal.nD Cert.FfnStepRefIdeal.τ).loc Cert.FfnStepRefIdeal.main_arg6) = m ((c.tc : Thread Cert.FfnStepIdeal.nD Cert.FfnStepIdeal.τ).loc Cert.FfnStepIdeal.main_arg6)
      ∧ m' ((c.tc : Thread Cert.FfnStepRefIdeal.nD Cert.FfnStepRefIdeal.τ).loc Cert.FfnStepRefIdeal.main_arg7) = m ((c.tc : Thread Cert.FfnStepIdeal.nD Cert.FfnStepIdeal.τ).loc Cert.FfnStepIdeal.main_arg7)) →
    ∃ (v0 : (c : Dev Cert.FfnStepIdeal.nD) → Buf (Elt Ideal) ((c.tc : Thread Cert.FfnStepIdeal.nD Cert.FfnStepIdeal.τ).loc Cert.FfnStepIdeal.main_v8_0)) (v1 : (c : Dev Cert.FfnStepIdeal.nD) → Buf (Elt Ideal) ((c.tc : Thread Cert.FfnStepIdeal.nD Cert.FfnStepIdeal.τ).loc Cert.FfnStepIdeal.main_v8_1)),
      θ_run (Cert.FfnStepIdeal.defs (F := Ideal)) (onTc (τ := Cert.FfnStepIdeal.τ) (Cert.FfnStepIdeal.main (F := Ideal))) ⟨m, fun _ => 0, g⟩ (fun r => ∀ c : Dev Cert.FfnStepIdeal.nD,
          r.2.mem ((c.tc : Thread Cert.FfnStepIdeal.nD Cert.FfnStepIdeal.τ).loc Cert.FfnStepIdeal.main_v8_0) = v0 c
          ∧ r.2.mem ((c.tc : Thread Cert.FfnStepIdeal.nD Cert.FfnStepIdeal.τ).loc Cert.FfnStepIdeal.main_v8_1) = v1 c
          ∧ r.2.mem ((c.tc : Thread Cert.FfnStepIdeal.nD Cert.FfnStepIdeal.τ).loc Cert.FfnStepIdeal.main_arg0) = m ((c.tc : Thread Cert.FfnStepIdeal.nD Cert.FfnStepIdeal.τ).loc Cert.FfnStepIdeal.main_arg0)
          ∧ r.2.mem ((c.tc : Thread Cert.FfnStepIdeal.nD Cert.FfnStepIdeal.τ).loc Cert.FfnStepIdeal.main_arg1) = m ((c.tc : Thread Cert.FfnStepIdeal.nD Cert.FfnStepIdeal.τ).loc Cert.FfnStepIdeal.main_arg1)
          ∧ r.2.mem ((c.tc : Thread Cert.FfnStepIdeal.nD Cert.FfnStepIdeal.τ).loc Cert.FfnStepIdeal.main_arg2) = m ((c.tc : Thread Cert.FfnStepIdeal.nD Cert.FfnStepIdeal.τ).loc Cert.FfnStepIdeal.main_arg2)
          ∧ r.2.mem ((c.tc : Thread Cert.FfnStepIdeal.nD Cert.FfnStepIdeal.τ).loc Cert.FfnStepIdeal.main_arg3) = m ((c.tc : Thread Cert.FfnStepIdeal.nD Cert.FfnStepIdeal.τ).loc Cert.FfnStepIdeal.main_arg3)
          ∧ r.2.mem ((c.tc : Thread Cert.FfnStepIdeal.nD Cert.FfnStepIdeal.τ).loc Cert.FfnStepIdeal.main_arg4) = m ((c.tc : Thread Cert.FfnStepIdeal.nD Cert.FfnStepIdeal.τ).loc Cert.FfnStepIdeal.main_arg4)
          ∧ r.2.mem ((c.tc : Thread Cert.FfnStepIdeal.nD Cert.FfnStepIdeal.τ).loc Cert.FfnStepIdeal.main_arg5) = m ((c.tc : Thread Cert.FfnStepIdeal.nD Cert.FfnStepIdeal.τ).loc Cert.FfnStepIdeal.main_arg5)
          ∧ r.2.mem ((c.tc : Thread Cert.FfnStepIdeal.nD Cert.FfnStepIdeal.τ).loc Cert.FfnStepIdeal.main_arg6) = m ((c.tc : Thread Cert.FfnStepIdeal.nD Cert.FfnStepIdeal.τ).loc Cert.FfnStepIdeal.main_arg6)
          ∧ r.2.mem ((c.tc : Thread Cert.FfnStepIdeal.nD Cert.FfnStepIdeal.τ).loc Cert.FfnStepIdeal.main_arg7) = m ((c.tc : Thread Cert.FfnStepIdeal.nD Cert.FfnStepIdeal.τ).loc Cert.FfnStepIdeal.main_arg7))
      ∧ θ_run (Cert.FfnStepRefIdeal.defs (F := Ideal)) (onTc (τ := Cert.FfnStepRefIdeal.τ) (Cert.FfnStepRefIdeal.main (F := Ideal))) ⟨m', fun _ => 0, g'⟩ (fun r => ∀ c : Dev Cert.FfnStepRefIdeal.nD,
          r.2.mem ((c.tc : Thread Cert.FfnStepRefIdeal.nD Cert.FfnStepRefIdeal.τ).loc Cert.FfnStepRefIdeal.main_v58) = v0 c
          ∧ r.2.mem ((c.tc : Thread Cert.FfnStepRefIdeal.nD Cert.FfnStepRefIdeal.τ).loc Cert.FfnStepRefIdeal.main_v60) = v1 c
          ∧ r.2.mem ((c.tc : Thread Cert.FfnStepRefIdeal.nD Cert.FfnStepRefIdeal.τ).loc Cert.FfnStepRefIdeal.main_arg0) = m' ((c.tc : Thread Cert.FfnStepRefIdeal.nD Cert.FfnStepRefIdeal.τ).loc Cert.FfnStepRefIdeal.main_arg0)
          ∧ r.2.mem ((c.tc : Thread Cert.FfnStepRefIdeal.nD Cert.FfnStepRefIdeal.τ).loc Cert.FfnStepRefIdeal.main_arg1) = m' ((c.tc : Thread Cert.FfnStepRefIdeal.nD Cert.FfnStepRefIdeal.τ).loc Cert.FfnStepRefIdeal.main_arg1)
          ∧ r.2.mem ((c.tc : Thread Cert.FfnStepRefIdeal.nD Cert.FfnStepRefIdeal.τ).loc Cert.FfnStepRefIdeal.main_arg2) = m' ((c.tc : Thread Cert.FfnStepRefIdeal.nD Cert.FfnStepRefIdeal.τ).loc Cert.FfnStepRefIdeal.main_arg2)
          ∧ r.2.mem ((c.tc : Thread Cert.FfnStepRefIdeal.nD Cert.FfnStepRefIdeal.τ).loc Cert.FfnStepRefIdeal.main_arg3) = m' ((c.tc : Thread Cert.FfnStepRefIdeal.nD Cert.FfnStepRefIdeal.τ).loc Cert.FfnStepRefIdeal.main_arg3)
          ∧ r.2.mem ((c.tc : Thread Cert.FfnStepRefIdeal.nD Cert.FfnStepRefIdeal.τ).loc Cert.FfnStepRefIdeal.main_arg4) = m' ((c.tc : Thread Cert.FfnStepRefIdeal.nD Cert.FfnStepRefIdeal.τ).loc Cert.FfnStepRefIdeal.main_arg4)
          ∧ r.2.mem ((c.tc : Thread Cert.FfnStepRefIdeal.nD Cert.FfnStepRefIdeal.τ).loc Cert.FfnStepRefIdeal.main_arg5) = m' ((c.tc : Thread Cert.FfnStepRefIdeal.nD Cert.FfnStepRefIdeal.τ).loc Cert.FfnStepRefIdeal.main_arg5)
          ∧ r.2.mem ((c.tc : Thread Cert.FfnStepRefIdeal.nD Cert.FfnStepRefIdeal.τ).loc Cert.FfnStepRefIdeal.main_arg6) = m' ((c.tc : Thread Cert.FfnStepRefIdeal.nD Cert.FfnStepRefIdeal.τ).loc Cert.FfnStepRefIdeal.main_arg6)
          ∧ r.2.mem ((c.tc : Thread Cert.FfnStepRefIdeal.nD Cert.FfnStepRefIdeal.τ).loc Cert.FfnStepRefIdeal.main_arg7) = m' ((c.tc : Thread Cert.FfnStepRefIdeal.nD Cert.FfnStepRefIdeal.τ).loc Cert.FfnStepRefIdeal.main_arg7))

def Claim : Prop :=
  ∃ (hGlaPrompt : Cert.GlaPrompt.Facts) (hGlaPromptIdeal : Cert.GlaPromptIdeal.Facts) (hGlaPromptRefIdeal : Cert.GlaPromptRefIdeal.Facts) (hGlaProj : Cert.GlaProj.Facts) (hGlaProjIdeal : Cert.GlaProjIdeal.Facts) (hGlaProjRefIdeal : Cert.GlaProjRefIdeal.Facts) (hMerge : Cert.Merge.Facts) (hMergeIdeal : Cert.MergeIdeal.Facts) (hMergeRefIdeal : Cert.MergeRefIdeal.Facts) (hFfn : Cert.Ffn.Facts) (hFfnIdeal : Cert.FfnIdeal.Facts) (hFfnRefIdeal : Cert.FfnRefIdeal.Facts) (hFoxProj : Cert.FoxProj.Facts) (hFoxProjIdeal : Cert.FoxProjIdeal.Facts) (hFoxProjRefIdeal : Cert.FoxProjRefIdeal.Facts) (hFoxStep : Cert.FoxStep.Facts) (hFoxStepIdeal : Cert.FoxStepIdeal.Facts) (hFoxStepRefIdeal : Cert.FoxStepRefIdeal.Facts) (hGlaStep : Cert.GlaStep.Facts) (hGlaStepIdeal : Cert.GlaStepIdeal.Facts) (hGlaStepRefIdeal : Cert.GlaStepRefIdeal.Facts) (hFfnStep : Cert.FfnStep.Facts) (hFfnStepIdeal : Cert.FfnStepIdeal.Facts) (hFfnStepRefIdeal : Cert.FfnStepRefIdeal.Facts) (hPre_gates_finite : Cert.Pre_gates_finite.Facts),
    quiescent_GlaPrompt (hGlaPrompt := hGlaPrompt)
    ∧ quiescent_GlaPromptIdeal (hGlaPromptIdeal := hGlaPromptIdeal)
    ∧ quiescent_GlaPromptIdeal_pre_gates_finite (hGlaPromptIdeal := hGlaPromptIdeal) (hPre_gates_finite := hPre_gates_finite)
    ∧ quiescent_GlaPromptRefIdeal (hGlaPromptRefIdeal := hGlaPromptRefIdeal)
    ∧ quiescent_GlaPromptRefIdeal_pre_gates_finite (hGlaPromptRefIdeal := hGlaPromptRefIdeal) (hPre_gates_finite := hPre_gates_finite)
    ∧ quiescent_GlaProj (hGlaProj := hGlaProj)
    ∧ quiescent_GlaProjIdeal (hGlaProjIdeal := hGlaProjIdeal)
    ∧ quiescent_GlaProjRefIdeal (hGlaProjRefIdeal := hGlaProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_Ffn (hFfn := hFfn)
    ∧ quiescent_FfnIdeal (hFfnIdeal := hFfnIdeal)
    ∧ quiescent_FfnRefIdeal (hFfnRefIdeal := hFfnRefIdeal)
    ∧ quiescent_FoxProj (hFoxProj := hFoxProj)
    ∧ quiescent_FoxProjIdeal (hFoxProjIdeal := hFoxProjIdeal)
    ∧ quiescent_FoxProjRefIdeal (hFoxProjRefIdeal := hFoxProjRefIdeal)
    ∧ quiescent_FoxStep (hFoxStep := hFoxStep)
    ∧ quiescent_FoxStepIdeal (hFoxStepIdeal := hFoxStepIdeal)
    ∧ quiescent_FoxStepRefIdeal (hFoxStepRefIdeal := hFoxStepRefIdeal)
    ∧ quiescent_GlaStep (hGlaStep := hGlaStep)
    ∧ quiescent_GlaStepIdeal (hGlaStepIdeal := hGlaStepIdeal)
    ∧ quiescent_GlaStepRefIdeal (hGlaStepRefIdeal := hGlaStepRefIdeal)
    ∧ quiescent_FfnStep (hFfnStep := hFfnStep)
    ∧ quiescent_FfnStepIdeal (hFfnStepIdeal := hFfnStepIdeal)
    ∧ quiescent_FfnStepRefIdeal (hFfnStepRefIdeal := hFfnStepRefIdeal)
    ∧ preserves_GlaPrompt_GlaPromptIdeal
    ∧ algebraic_GlaPromptIdeal_GlaPromptRefIdeal_pre_gates_finite (hGlaPromptIdeal := hGlaPromptIdeal) (hGlaPromptRefIdeal := hGlaPromptRefIdeal) (hPre_gates_finite := hPre_gates_finite)
    ∧ preserves_GlaProj_GlaProjIdeal
    ∧ algebraic_GlaProjIdeal_GlaProjRefIdeal (hGlaProjIdeal := hGlaProjIdeal) (hGlaProjRefIdeal := hGlaProjRefIdeal)
    ∧ preserves_Merge_MergeIdeal
    ∧ algebraic_MergeIdeal_MergeRefIdeal (hMergeIdeal := hMergeIdeal) (hMergeRefIdeal := hMergeRefIdeal)
    ∧ preserves_Ffn_FfnIdeal
    ∧ algebraic_FfnIdeal_FfnRefIdeal (hFfnIdeal := hFfnIdeal) (hFfnRefIdeal := hFfnRefIdeal)
    ∧ preserves_FoxProj_FoxProjIdeal
    ∧ algebraic_FoxProjIdeal_FoxProjRefIdeal (hFoxProjIdeal := hFoxProjIdeal) (hFoxProjRefIdeal := hFoxProjRefIdeal)
    ∧ preserves_FoxStep_FoxStepIdeal
    ∧ algebraic_FoxStepIdeal_FoxStepRefIdeal (hFoxStepIdeal := hFoxStepIdeal) (hFoxStepRefIdeal := hFoxStepRefIdeal)
    ∧ preserves_GlaStep_GlaStepIdeal
    ∧ algebraic_GlaStepIdeal_GlaStepRefIdeal (hGlaStepIdeal := hGlaStepIdeal) (hGlaStepRefIdeal := hGlaStepRefIdeal)
    ∧ preserves_FfnStep_FfnStepIdeal
    ∧ algebraic_FfnStepIdeal_FfnStepRefIdeal (hFfnStepIdeal := hFfnStepIdeal) (hFfnStepRefIdeal := hFfnStepRefIdeal)
-- ==== Pre_gates_finite.lean ====
abbrev S32x2064x512 : Shape := ⟨3, ![32, 2064, 512]⟩
abbrev S32x2064x1024 : Shape := ⟨3, ![32, 2064, 1024]⟩
abbrev S1x256 : Shape := ⟨2, ![1, 256]⟩
abbrev S_ : Shape := ⟨0, ![]⟩

class Facts : Prop where
  bcast_S_S32x2064x512 : S_.BroadcastsInDim S32x2064x512 (![] : Fin 0 → Fin S32x2064x512.rank)

variable [Facts]

def fn {F : FTy → Type} [FloatOps F] (main_arg0 : FVec F S32x2064x512 .bf16) (main_arg1 : FVec F S32x2064x512 .bf16) (main_arg2 : FVec F S32x2064x512 .f32) (main_arg3 : FVec F S32x2064x1024 .bf16) (main_arg4 : FVec F S1x256 .f32) : IVec S32x2064x512 1 :=
  let main_v0 : FVec F S32x2064x512 .f32 := Host.absf main_arg2
  let main_cst : FVec F S_ .f32 := constant S_ .f32 0x7F800000#32
  let main_v1 : FVec F S32x2064x512 .f32 := broadcastInDim S32x2064x512 ![] bcast_S_S32x2064x512 main_cst
  let main_v2 : IVec S32x2064x512 1 := cmpf .olt main_v0 main_v1
  main_v2
-- ==== GlaPrompt.lean ====
abbrev S32x2064x512 : Shape := ⟨3, ![32, 2064, 512]⟩
abbrev S32x2064x1024 : Shape := ⟨3, ![32, 2064, 1024]⟩
abbrev S1x256 : Shape := ⟨2, ![1, 256]⟩
abbrev S256x256 : Shape := ⟨2, ![256, 256]⟩
abbrev S_ : Shape := ⟨0, ![]⟩
abbrev S32x4x128x256 : Shape := ⟨4, ![32, 4, 128, 256]⟩
abbrev S1x2064x512 : Shape := ⟨3, ![1, 2064, 512]⟩
abbrev S1x2064x1024 : Shape := ⟨3, ![1, 2064, 1024]⟩
abbrev S1x4x128x256 : Shape := ⟨4, ![1, 4, 128, 256]⟩
abbrev S4x128x256 : Shape := ⟨3, ![4, 128, 256]⟩
abbrev S112x128 : Shape := ⟨2, ![112, 128]⟩
abbrev S1x16x128 : Shape := ⟨3, ![1, 16, 128]⟩
abbrev S16x128 : Shape := ⟨2, ![16, 128]⟩
abbrev S128x128 : Shape := ⟨2, ![128, 128]⟩
abbrev S112x256 : Shape := ⟨2, ![112, 256]⟩
abbrev S1x16x256 : Shape := ⟨3, ![1, 16, 256]⟩
abbrev S16x256 : Shape := ⟨2, ![16, 256]⟩
abbrev S128x256 : Shape := ⟨2, ![128, 256]⟩
abbrev S128x384 : Shape := ⟨2, ![128, 384]⟩
abbrev S1x128 : Shape := ⟨2, ![1, 128]⟩
abbrev S64x128 : Shape := ⟨2, ![64, 128]⟩
abbrev S1x128x256 : Shape := ⟨3, ![1, 128, 256]⟩
abbrev S128x1 : Shape := ⟨2, ![128, 1]⟩
abbrev S64x256 : Shape := ⟨2, ![64, 256]⟩
abbrev S64 : Shape := ⟨1, ![64]⟩
abbrev S64x1 : Shape := ⟨2, ![64, 1]⟩
abbrev S1x256x128 : Shape := ⟨3, ![1, 256, 128]⟩
abbrev S256x128 : Shape := ⟨2, ![256, 128]⟩
abbrev S1x256x256 : Shape := ⟨3, ![1, 256, 256]⟩
abbrev S256x384 : Shape := ⟨2, ![256, 384]⟩

abbrev nBuf : Space → Nat
  | .hbm => 49
  | .vmem => 15
  | .smem => 0
  | _ => 0

abbrev bufTy : (tb : Table) → Fin (tcTables nBuf tb) → BufTy
  | .hbm, ⟨0, _⟩ => ⟨S32x2064x512, .bf16⟩
  | .hbm, ⟨1, _⟩ => ⟨S32x2064x512, .bf16⟩
  | .hbm, ⟨2, _⟩ => ⟨S32x2064x512, .f32⟩
  | .hbm, ⟨3, _⟩ => ⟨S32x2064x1024, .bf16⟩
  | .hbm, ⟨4, _⟩ => ⟨S1x256, .f32⟩
  | .hbm, ⟨5, _⟩ => ⟨S256x256, .i32⟩
  | .hbm, ⟨6, _⟩ => ⟨S256x256, .i32⟩
  | .hbm, ⟨7, _⟩ => ⟨S_, .i32⟩
  | .hbm, ⟨8, _⟩ => ⟨S_, .i32⟩
  | .hbm, ⟨9, _⟩ => ⟨S256x256, .i32⟩
  | .hbm, ⟨10, _⟩ => ⟨S256x256, .i32⟩
  | .hbm, ⟨11, _⟩ => ⟨S256x256, .i32⟩
  | .hbm, ⟨12, _⟩ => ⟨S_, .i32⟩
  | .hbm, ⟨13, _⟩ => ⟨S256x256, .i32⟩
  | .hbm, ⟨14, _⟩ => ⟨S256x256, .i1⟩
  | .hbm, ⟨15, _⟩ => ⟨S256x256, .i32⟩
  | .hbm, ⟨16, _⟩ => ⟨S256x256, .i32⟩
  | .hbm, ⟨17, _⟩ => ⟨S_, .i32⟩
  | .hbm, ⟨18, _⟩ => ⟨S256x256, .i32⟩
  | .hbm, ⟨19, _⟩ => ⟨S256x256, .i1⟩
  | .hbm, ⟨20, _⟩ => ⟨S256x256, .i1⟩
  | .hbm, ⟨21, _⟩ => ⟨S_, .i32⟩
  | .hbm, ⟨22, _⟩ => ⟨S256x256, .i32⟩
  | .hbm, ⟨23, _⟩ => ⟨S256x256, .i32⟩
  | .hbm, ⟨24, _⟩ => ⟨S256x256, .i32⟩
  | .hbm, ⟨25, _⟩ => ⟨S_, .i32⟩
  | .hbm, ⟨26, _⟩ => ⟨S_, .i32⟩
  | .hbm, ⟨27, _⟩ => ⟨S256x256, .i32⟩
  | .hbm, ⟨28, _⟩ => ⟨S256x256, .i32⟩
  | .hbm, ⟨29, _⟩ => ⟨S256x256, .i32⟩
  | .hbm, ⟨30, _⟩ => ⟨S_, .i32⟩
  | .hbm, ⟨31, _⟩ => ⟨S256x256, .i32⟩
  | .hbm, ⟨32, _⟩ => ⟨S256x256, .i1⟩
  | .hbm, ⟨33, _⟩ => ⟨S256x256, .i32⟩
  | .hbm, ⟨34, _⟩ => ⟨S256x256, .i32⟩
  | .hbm, ⟨35, _⟩ => ⟨S_, .i32⟩
  | .hbm, ⟨36, _⟩ => ⟨S256x256, .i32⟩
  | .hbm, ⟨37, _⟩ => ⟨S256x256, .i1⟩
  | .hbm, ⟨38, _⟩ => ⟨S256x256, .i1⟩
  | .hbm, ⟨39, _⟩ => ⟨S_, .i32⟩
  | .hbm, ⟨40, _⟩ => ⟨S256x256, .i32⟩
  | .hbm, ⟨41, _⟩ => ⟨S256x256, .i32⟩
  | .hbm, ⟨42, _⟩ => ⟨S256x256, .i32⟩
  | .hbm, ⟨43, _⟩ => ⟨S256x256, .i1⟩
  | .hbm, ⟨44, _⟩ => ⟨S256x256, .i1⟩
  | .hbm, ⟨45, _⟩ => ⟨S256x256, .i1⟩
  | .hbm, ⟨46, _⟩ => ⟨S256x256, .bf16⟩
  | .hbm, ⟨47, _⟩ => ⟨S32x2064x1024, .bf16⟩
  | .hbm, ⟨48, _⟩ => ⟨S32x4x128x256, .f32⟩
  | .local _ .vmem, ⟨0, _⟩ => ⟨S1x2064x512, .bf16⟩
  | .local _ .vmem, ⟨1, _⟩ => ⟨S1x2064x512, .bf16⟩
  | .local _ .vmem, ⟨2, _⟩ => ⟨S1x2064x512, .bf16⟩
  | .local _ .vmem, ⟨3, _⟩ => ⟨S1x2064x512, .bf16⟩
  | .local _ .vmem, ⟨4, _⟩ => ⟨S1x2064x512, .f32⟩
  | .local _ .vmem, ⟨5, _⟩ => ⟨S1x2064x512, .f32⟩
  | .local _ .vmem, ⟨6, _⟩ => ⟨S1x2064x1024, .bf16⟩
  | .local _ .vmem, ⟨7, _⟩ => ⟨S1x2064x1024, .bf16⟩
  | .local _ .vmem, ⟨8, _⟩ => ⟨S1x256, .f32⟩
  | .local _ .vmem, ⟨9, _⟩ => ⟨S256x256, .bf16⟩
  | .local _ .vmem, ⟨10, _⟩ => ⟨S1x2064x1024, .bf16⟩
  | .local _ .vmem, ⟨11, _⟩ => ⟨S1x2064x1024, .bf16⟩
  | .local _ .vmem, ⟨12, _⟩ => ⟨S1x4x128x256, .f32⟩
  | .local _ .vmem, ⟨13, _⟩ => ⟨S1x4x128x256, .f32⟩
  | .local _ .vmem, ⟨14, _⟩ => ⟨S4x128x256, .f32⟩
  | _, _ => ⟨S32x2064x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v2 : Ref sig .tc := ⟨.hbm, 24, rfl⟩
abbrev main_c_0 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_c : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_0 : Ref sig .tc := ⟨.hbm, 39, rfl⟩
abbrev main_call1_v12 : Ref sig .tc := ⟨.hbm, 40, rfl⟩
abbrev main_call1_v13 : Ref sig .tc := ⟨.hbm, 41, rfl⟩
abbrev main_v3 : Ref sig .tc := ⟨.hbm, 42, rfl⟩
abbrev main_v4 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_v8_0 : Ref sig .tc := ⟨.hbm, 47, rfl⟩
abbrev main_v8_1 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_273 : BitVec 32 := 0#32
  let c8_i32 : BitVec 32 := 8#32
  let v773 : BitVec 32 := Scalar.addi c0_i32_273 c8_i32
  let c1_i32_274 : BitVec 32 := 1#32
  ⟨c0_i32_273, v773, c1_i32_274⟩
def k0_mult1 (k0_t1 : Fin k0_t1_loop.trips) : BitVec 32 :=
  let c16_i32 : BitVec 32 := 16#32
  let c0_i32_273 : BitVec 32 := 0#32
  let c1_i32_274 : BitVec 32 := 1#32
  let arg10 : BitVec 32 := Scf.iv c0_i32_273 c1_i32_274 k0_t1
  let c256_i32 : BitVec 32 := 256#32
  let v778 : BitVec 32 := Scalar.muli arg10 c256_i32
  let v779 : BitVec 32 := Scalar.addi c16_i32 v778
  v779
def k0_off1 (k0_t1 : Fin k0_t1_loop.trips) : Fin 3 → Nat :=
  let c0_283 : Index := 0#32
  let c16_i32 : BitVec 32 := 16#32
  let c0_i32_273 : BitVec 32 := 0#32
  let c1_i32_274 : BitVec 32 := 1#32
  let arg10 : BitVec 32 := Scf.iv c0_i32_273 c1_i32_274 k0_t1
  let c256_i32 : BitVec 32 := 256#32
  let v778 : BitVec 32 := Scalar.muli arg10 c256_i32
  let v779 : BitVec 32 := Scalar.addi c16_i32 v778
  let v780 : BitVec 32 := v779
  let v781 : Index := Scalar.indexCast v780
  let c0_284 : Index := 0#32
  ![0, v781.toNat, 0]
def k0_off2 (k0_t1 : Fin k0_t1_loop.trips) : Fin 3 → Nat :=
  let c0_289 : Index := 0#32
  let c16_i32 : BitVec 32 := 16#32
  let c0_i32_273 : BitVec 32 := 0#32
  let c1_i32_274 : BitVec 32 := 1#32
  let arg10 : BitVec 32 := Scf.iv c0_i32_273 c1_i32_274 k0_t1
  let c256_i32 : BitVec 32 := 256#32
  let v778 : BitVec 32 := Scalar.muli arg10 c256_i32
  let v779 : BitVec 32 := Scalar.addi c16_i32 v778
  let v780 : BitVec 32 := v779
  let v790 : Index := Scalar.indexCast v780
  let c0_290 : Index := 0#32
  ![0, v790.toNat, 0]
def k0_off3 (k0_t1 : Fin k0_t1_loop.trips) : Fin 3 → Nat :=
  let c0_372 : Index := 0#32
  let c16_i32 : BitVec 32 := 16#32
  let c0_i32_273 : BitVec 32 := 0#32
  let c1_i32_274 : BitVec 32 := 1#32
  let arg10 : BitVec 32 := Scf.iv c0_i32_273 c1_i32_274 k0_t1
  let c256_i32 : BitVec 32 := 256#32
  let v778 : BitVec 32 := Scalar.muli arg10 c256_i32
  let v779 : BitVec 32 := Scalar.addi c16_i32 v778
  let v780 : BitVec 32 := v779
  let v1057 : Index := Scalar.indexCast v780
  let c128_373 : Index := 128#32
  ![0, v1057.toNat, 128]
def k0_off4 (k0_t1 : Fin k0_t1_loop.trips) : Fin 3 → Nat :=
  let c0_378 : Index := 0#32
  let c16_i32 : BitVec 32 := 16#32
  let c0_i32_273 : BitVec 32 := 0#32
  let c1_i32_274 : BitVec 32 := 1#32
  let arg10 : BitVec 32 := Scf.iv c0_i32_273 c1_i32_274 k0_t1
  let c256_i32 : BitVec 32 := 256#32
  let v778 : BitVec 32 := Scalar.muli arg10 c256_i32
  let v779 : BitVec 32 := Scalar.addi c16_i32 v778
  let v780 : BitVec 32 := v779
  let v1066 : Index := Scalar.indexCast v780
  let c256_379 : Index := 256#32
  ![0, v1066.toNat, 256]
def k0_off5 (k0_t1 : Fin k0_t1_loop.trips) : Fin 3 → Nat :=
  let c0_463 : Index := 0#32
  let c16_i32 : BitVec 32 := 16#32
  let c0_i32_273 : BitVec 32 := 0#32
  let c1_i32_274 : BitVec 32 := 1#32
  let arg10 : BitVec 32 := Scf.iv c0_i32_273 c1_i32_274 k0_t1
  let c256_i32 : BitVec 32 := 256#32
  let v778 : BitVec 32 := Scalar.muli arg10 c256_i32
  let v779 : BitVec 32 := Scalar.addi c16_i32 v778
  let v780 : BitVec 32 := v779
  let v1333 : Index := Scalar.indexCast v780
  let c256_464 : Index := 256#32
  ![0, v1333.toNat, 256]
def k0_off6 (k0_t1 : Fin k0_t1_loop.trips) : Fin 3 → Nat :=
  let c0_469 : Index := 0#32
  let c16_i32 : BitVec 32 := 16#32
  let c0_i32_273 : BitVec 32 := 0#32
  let c1_i32_274 : BitVec 32 := 1#32
  let arg10 : BitVec 32 := Scf.iv c0_i32_273 c1_i32_274 k0_t1
  let c256_i32 : BitVec 32 := 256#32
  let v778 : BitVec 32 := Scalar.muli arg10 c256_i32
  let v779 : BitVec 32 := Scalar.addi c16_i32 v778
  let v780 : BitVec 32 := v779
  let v1342 : Index := Scalar.indexCast v780
  let c512_470 : Index := 512#32
  ![0, v1342.toNat, 512]
def k0_off7 (k0_t1 : Fin k0_t1_loop.trips) : Fin 3 → Nat :=
  let c0_554 : Index := 0#32
  let c16_i32 : BitVec 32 := 16#32
  let c0_i32_273 : BitVec 32 := 0#32
  let c1_i32_274 : BitVec 32 := 1#32
  let arg10 : BitVec 32 := Scf.iv c0_i32_273 c1_i32_274 k0_t1
  let c256_i32 : BitVec 32 := 256#32
  let v778 : BitVec 32 := Scalar.muli arg10 c256_i32
  let v779 : BitVec 32 := Scalar.addi c16_i32 v778
  let v780 : BitVec 32 := v779
  let v1609 : Index := Scalar.indexCast v780
  let c384_555 : Index := 384#32
  ![0, v1609.toNat, 384]
def k0_off8 (k0_t1 : Fin k0_t1_loop.trips) : Fin 3 → Nat :=
  let c0_560 : Index := 0#32
  let c16_i32 : BitVec 32 := 16#32
  let c0_i32_273 : BitVec 32 := 0#32
  let c1_i32_274 : BitVec 32 := 1#32
  let arg10 : BitVec 32 := Scf.iv c0_i32_273 c1_i32_274 k0_t1
  let c256_i32 : BitVec 32 := 256#32
  let v778 : BitVec 32 := Scalar.muli arg10 c256_i32
  let v779 : BitVec 32 := Scalar.addi c16_i32 v778
  let v780 : BitVec 32 := v779
  let v1618 : Index := Scalar.indexCast v780
  let c768_561 : Index := 768#32
  ![0, v1618.toNat, 768]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x2064x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2064x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2064x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2064x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x2064x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GlaPromptRefIdeal.lean ====
abbrev S32x2064x512 : Shape := ⟨3, ![32, 2064, 512]⟩
abbrev S32x2064x1024 : Shape := ⟨3, ![32, 2064, 1024]⟩
abbrev S1x256 : Shape := ⟨2, ![1, 256]⟩
abbrev S32x2064x4x128 : Shape := ⟨4, ![32, 2064, 4, 128]⟩
abbrev S32x2064x4x256 : Shape := ⟨4, ![32, 2064, 4, 256]⟩
abbrev S_ : Shape := ⟨0, ![]⟩
abbrev S32x2112x4x128 : Shape := ⟨4, ![32, 2112, 4, 128]⟩
abbrev S32x33x64x4x128 : Shape := ⟨5, ![32, 33, 64, 4, 128]⟩
abbrev S33x32x4x64x128 : Shape := ⟨5, ![33, 32, 4, 64, 128]⟩
abbrev S32x2112x4x256 : Shape := ⟨4, ![32, 2112, 4, 256]⟩
abbrev S32x33x64x4x256 : Shape := ⟨5, ![32, 33, 64, 4, 256]⟩
abbrev S33x32x4x64x256 : Shape := ⟨5, ![33, 32, 4, 64, 256]⟩
abbrev S32x4x128x256 : Shape := ⟨4, ![32, 4, 128, 256]⟩
abbrev S1x32x4x64x128 : Shape := ⟨5, ![1, 32, 4, 64, 128]⟩
abbrev S32x4x64x128 : Shape := ⟨4, ![32, 4, 64, 128]⟩
abbrev S1x32x4x64x256 : Shape := ⟨5, ![1, 32, 4, 64, 256]⟩
abbrev S32x4x64x256 : Shape := ⟨4, ![32, 4, 64, 256]⟩
abbrev S32x4x1x128 : Shape := ⟨4, ![32, 4, 1, 128]⟩
abbrev S32x4x64x64 : Shape := ⟨4, ![32, 4, 64, 64]⟩
abbrev S64x64 : Shape := ⟨2, ![64, 64]⟩
abbrev S32x4x128 : Shape := ⟨3, ![32, 4, 128]⟩
abbrev S32x4x128x1 : Shape := ⟨4, ![32, 4, 128, 1]⟩
abbrev S32x2064x4 : Shape := ⟨3, ![32, 2064, 4]⟩
abbrev S32x2064x4x1 : Shape := ⟨4, ![32, 2064, 4, 1]⟩
abbrev S256 : Shape := ⟨1, ![256]⟩
abbrev S1x1x1x256 : Shape := ⟨4, ![1, 1, 1, 256]⟩

abbrev nBuf : Space → Nat
  | .hbm => 143
  | .vmem => 0
  | .smem => 0
  | _ => 0

abbrev hbmTy0_0 (i : Nat) : BufTy := match i % 128 with
  | 0 => ⟨S32x2064x512, .bf16⟩
  | 1 => ⟨S32x2064x512, .bf16⟩
  | 2 => ⟨S32x2064x512, .f32⟩
  | 3 => ⟨S32x2064x1024, .bf16⟩
  | 4 => ⟨S1x256, .f32⟩
  | 5 => ⟨S32x2064x512, .f32⟩
  | 6 => ⟨S32x2064x4x128, .f32⟩
  | 7 => ⟨S32x2064x512, .f32⟩
  | 8 => ⟨S32x2064x4x128, .f32⟩
  | 9 => ⟨S32x2064x4x128, .f32⟩
  | 10 => ⟨S32x2064x1024, .f32⟩
  | 11 => ⟨S32x2064x4x256, .f32⟩
  | 12 => ⟨S_, .i32⟩
  | 13 => ⟨S_, .f32⟩
  | 14 => ⟨S32x2112x4x128, .f32⟩
  | 15 => ⟨S32x33x64x4x128, .f32⟩
  | 16 => ⟨S33x32x4x64x128, .f32⟩
  | 17 => ⟨S_, .f32⟩
  | 18 => ⟨S33x32x4x64x128, .f32⟩
  | 19 => ⟨S33x32x4x64x128, .f32⟩
  | 20 => ⟨S_, .i32⟩
  | 21 => ⟨S_, .f32⟩
  | 22 => ⟨S32x2112x4x128, .f32⟩
  | 23 => ⟨S32x33x64x4x128, .f32⟩
  | 24 => ⟨S33x32x4x64x128, .f32⟩
  | 25 => ⟨S_, .i32⟩
  | 26 => ⟨S_, .f32⟩
  | 27 => ⟨S32x2112x4x256, .f32⟩
  | 28 => ⟨S32x33x64x4x256, .f32⟩
  | 29 => ⟨S33x32x4x64x256, .f32⟩
  | 30 => ⟨S_, .i32⟩
  | 31 => ⟨S_, .f32⟩
  | 32 => ⟨S32x2112x4x128, .f32⟩
  | 33 => ⟨S32x33x64x4x128, .f32⟩
  | 34 => ⟨S33x32x4x64x128, .f32⟩
  | 35 => ⟨S_, .f32⟩
  | 36 => ⟨S32x4x128x256, .f32⟩
  | 37 => ⟨S_, .f32⟩
  | 38 => ⟨S33x32x4x64x256, .f32⟩
  | 39 => ⟨S_, .i32⟩
  | 40 => ⟨S33x32x4x64x128, .f32⟩
  | 41 => ⟨S33x32x4x64x128, .f32⟩
  | 42 => ⟨S33x32x4x64x256, .f32⟩
  | 43 => ⟨S33x32x4x64x128, .f32⟩
  | 44 => ⟨S_, .i32⟩
  | 45 => ⟨S32x4x128x256, .f32⟩
  | 46 => ⟨S33x32x4x64x256, .f32⟩
  | 47 => ⟨S_, .i32⟩
  | 48 => ⟨S_, .i1⟩
  | 49 => ⟨S_, .i32⟩
  | 50 => ⟨S_, .i32⟩
  | 51 => ⟨S_, .i32⟩
  | 52 => ⟨S_, .i32⟩
  | 53 => ⟨S1x32x4x64x128, .f32⟩
  | 54 => ⟨S32x4x64x128, .f32⟩
  | 55 => ⟨S_, .i32⟩
  | 56 => ⟨S_, .i32⟩
  | 57 => ⟨S_, .i32⟩
  | 58 => ⟨S_, .i32⟩
  | 59 => ⟨S1x32x4x64x128, .f32⟩
  | 60 => ⟨S32x4x64x128, .f32⟩
  | 61 => ⟨S_, .i32⟩
  | 62 => ⟨S_, .i32⟩
  | 63 => ⟨S_, .i32⟩
  | 64 => ⟨S_, .i32⟩
  | 65 => ⟨S1x32x4x64x256, .f32⟩
  | 66 => ⟨S32x4x64x256, .f32⟩
  | 67 => ⟨S_, .i32⟩
  | 68 => ⟨S_, .i32⟩
  | 69 => ⟨S_, .i32⟩
  | 70 => ⟨S_, .i32⟩
  | 71 => ⟨S1x32x4x64x128, .f32⟩
  | 72 => ⟨S32x4x64x128, .f32⟩
  | 73 => ⟨S_, .f32⟩
  | 74 => ⟨S_, .f32⟩
  | 75 => ⟨S32x4x64x128, .f32⟩
  | 76 => ⟨S32x4x1x128, .f32⟩
  | 77 => ⟨S32x4x64x128, .f32⟩
  | 78 => ⟨S32x4x64x128, .f32⟩
  | 79 => ⟨S32x4x64x128, .f32⟩
  | 80 => ⟨S32x4x64x128, .f32⟩
  | 81 => ⟨S32x4x64x128, .f32⟩
  | 82 => ⟨S32x4x64x64, .f32⟩
  | 83 => ⟨S_, .i1⟩
  | 84 => ⟨S64x64, .i1⟩
  | 85 => ⟨S64x64, .i32⟩
  | 86 => ⟨S_, .i32⟩
  | 87 => ⟨S64x64, .i32⟩
  | 88 => ⟨S64x64, .i32⟩
  | 89 => ⟨S64x64, .i32⟩
  | 90 => ⟨S64x64, .i1⟩
  | 91 => ⟨S_, .i1⟩
  | 92 => ⟨S64x64, .i1⟩
  | 93 => ⟨S64x64, .i1⟩
  | 94 => ⟨S_, .f32⟩
  | 95 => ⟨S_, .f32⟩
  | 96 => ⟨S32x4x64x64, .i1⟩
  | 97 => ⟨S32x4x64x64, .f32⟩
  | 98 => ⟨S32x4x64x64, .f32⟩
  | 99 => ⟨S32x4x64x256, .f32⟩
  | 100 => ⟨S32x4x64x128, .f32⟩
  | 101 => ⟨S32x4x64x128, .f32⟩
  | 102 => ⟨S32x4x64x128, .f32⟩
  | 103 => ⟨S32x4x64x128, .f32⟩
  | 104 => ⟨S32x4x64x256, .f32⟩
  | 105 => ⟨S32x4x128, .f32⟩
  | 106 => ⟨S32x4x128x1, .f32⟩
  | 107 => ⟨S32x4x128x1, .f32⟩
  | 108 => ⟨S32x4x128x256, .f32⟩
  | 109 => ⟨S32x4x128x256, .f32⟩
  | 110 => ⟨S32x4x128x256, .f32⟩
  | 111 => ⟨S32x4x128x256, .f32⟩
  | 112 => ⟨S32x4x64x256, .f32⟩
  | 113 => ⟨S1x32x4x64x256, .f32⟩
  | 114 => ⟨S_, .i32⟩
  | 115 => ⟨S_, .i32⟩
  | 116 => ⟨S_, .i32⟩
  | 117 => ⟨S_, .i32⟩
  | 118 => ⟨S33x32x4x64x256, .f32⟩
  | 119 => ⟨S_, .i32⟩
  | 120 => ⟨S_, .i32⟩
  | 121 => ⟨S32x33x64x4x256, .f32⟩
  | 122 => ⟨S32x2112x4x256, .f32⟩
  | 123 => ⟨S32x2064x4x256, .f32⟩
  | 124 => ⟨S32x2064x4x256, .f32⟩
  | 125 => ⟨S_, .f32⟩
  | 126 => ⟨S32x2064x4, .f32⟩
  | 127 => ⟨S32x2064x4x1, .f32⟩
  | _ => ⟨S32x2064x512, .bf16⟩

abbrev hbmTy0_1 (i : Nat) : BufTy := match i % 128 with
  | 0 => ⟨S_, .f32⟩
  | 1 => ⟨S32x2064x4x1, .f32⟩
  | 2 => ⟨S32x2064x4x1, .f32⟩
  | 3 => ⟨S_, .f32⟩
  | 4 => ⟨S32x2064x4x1, .f32⟩
  | 5 => ⟨S32x2064x4x1, .f32⟩
  | 6 => ⟨S32x2064x4x1, .f32⟩
  | 7 => ⟨S32x2064x4x256, .f32⟩
  | 8 => ⟨S32x2064x4x256, .f32⟩
  | 9 => ⟨S256, .f32⟩
  | 10 => ⟨S1x1x1x256, .f32⟩
  | 11 => ⟨S32x2064x4x256, .f32⟩
  | 12 => ⟨S32x2064x4x256, .f32⟩
  | 13 => ⟨S32x2064x1024, .f32⟩
  | 14 => ⟨S32x2064x1024, .bf16⟩
  | _ => ⟨S32x2064x512, .bf16⟩

abbrev hbmTy (i : Nat) : BufTy := match i / 128 with
  | 0 => hbmTy0_0 i
  | 1 => hbmTy0_1 i
  | _ => ⟨S32x2064x512, .bf16⟩

abbrev bufTy : (tb : Table) → Fin (tcTables nBuf tb) → BufTy
  | .hbm, ⟨i, _⟩ => hbmTy i
  | _, _ => ⟨S32x2064x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_call1_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_call2_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_call3_v0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_c_5 : Ref sig .tc := ⟨.hbm, 39, rfl⟩
abbrev main_v23_0 : Ref sig .tc := ⟨.hbm, 40, rfl⟩
abbrev main_v23_1 : Ref sig .tc := ⟨.hbm, 41, rfl⟩
abbrev main_v23_2 : Ref sig .tc := ⟨.hbm, 42, rfl⟩
abbrev main_v23_3 : Ref sig .tc := ⟨.hbm, 43, rfl⟩
abbrev main_v23_4 : Ref sig .tc := ⟨.hbm, 44, rfl⟩
abbrev main_v23_5 : Ref sig .tc := ⟨.hbm, 45, rfl⟩
abbrev main_v23_6 : Ref sig .tc := ⟨.hbm, 46, rfl⟩
abbrev main_while0c_c_15 : Ref sig .tc := ⟨.hbm, 47, rfl⟩
abbrev main_while0c_v43 : Ref sig .tc := ⟨.hbm, 48, rfl⟩
abbrev main_while0b_call4_c : Ref sig .tc := ⟨.hbm, 49, rfl⟩
abbrev main_while0b_call4_c_0 : Ref sig .tc := ⟨.hbm, 50, rfl⟩
abbrev main_while0b_call4_c_1 : Ref sig .tc := ⟨.hbm, 51, rfl⟩
abbrev main_while0b_call4_c_2 : Ref sig .tc := ⟨.hbm, 52, rfl⟩
abbrev main_while0b_call4_v0 : Ref sig .tc := ⟨.hbm, 53, rfl⟩
abbrev main_while0b_v43 : Ref sig .tc := ⟨.hbm, 54, rfl⟩
abbrev main_while0b_call5_c : Ref sig .tc := ⟨.hbm, 55, rfl⟩
abbrev main_while0b_call5_c_0 : Ref sig .tc := ⟨.hbm, 56, rfl⟩
abbrev main_while0b_call5_c_1 : Ref sig .tc := ⟨.hbm, 57, rfl⟩
abbrev main_while0b_call5_c_2 : Ref sig .tc := ⟨.hbm, 58, rfl⟩
abbrev main_while0b_call5_v0 : Ref sig .tc := ⟨.hbm, 59, rfl⟩
abbrev main_while0b_v44 : Ref sig .tc := ⟨.hbm, 60, rfl⟩
abbrev main_while0b_call6_c : Ref sig .tc := ⟨.hbm, 61, rfl⟩
abbrev main_while0b_call6_c_0 : Ref sig .tc := ⟨.hbm, 62, rfl⟩
abbrev main_while0b_call6_c_1 : Ref sig .tc := ⟨.hbm, 63, rfl⟩
abbrev main_while0b_call6_c_2 : Ref sig .tc := ⟨.hbm, 64, rfl⟩
abbrev main_while0b_call6_v0 : Ref sig .tc := ⟨.hbm, 65, rfl⟩
abbrev main_while0b_v45 : Ref sig .tc := ⟨.hbm, 66, rfl⟩
abbrev main_while0b_call7_c : Ref sig .tc := ⟨.hbm, 67, rfl⟩
abbrev main_while0b_call7_c_0 : Ref sig .tc := ⟨.hbm, 68, rfl⟩
abbrev main_while0b_call7_c_1 : Ref sig .tc := ⟨.hbm, 69, rfl⟩
abbrev main_while0b_call7_c_2 : Ref sig .tc := ⟨.hbm, 70, rfl⟩
abbrev main_while0b_call7_v0 : Ref sig .tc := ⟨.hbm, 71, rfl⟩
abbrev main_while0b_v46 : Ref sig .tc := ⟨.hbm, 72, rfl⟩
abbrev main_while0b_call8_call0_cst : Ref sig .tc := ⟨.hbm, 73, rfl⟩
abbrev main_while0b_call8_call0_v0 : Ref sig .tc := ⟨.hbm, 74, rfl⟩
abbrev main_while0b_v47 : Ref sig .tc := ⟨.hbm, 75, rfl⟩
abbrev main_while0b_v48 : Ref sig .tc := ⟨.hbm, 76, rfl⟩
abbrev main_while0b_v49 : Ref sig .tc := ⟨.hbm, 77, rfl⟩
abbrev main_while0b_v50 : Ref sig .tc := ⟨.hbm, 78, rfl⟩
abbrev main_while0b_v51 : Ref sig .tc := ⟨.hbm, 79, rfl⟩
abbrev main_while0b_v52 : Ref sig .tc := ⟨.hbm, 80, rfl⟩
abbrev main_while0b_v53 : Ref sig .tc := ⟨.hbm, 81, rfl⟩
abbrev main_while0b_v54 : Ref sig .tc := ⟨.hbm, 82, rfl⟩
abbrev main_while0b_c_15 : Ref sig .tc := ⟨.hbm, 83, rfl⟩
abbrev main_while0b_v55 : Ref sig .tc := ⟨.hbm, 84, rfl⟩
abbrev main_while0b_call9_v0 : Ref sig .tc := ⟨.hbm, 85, rfl⟩
abbrev main_while0b_call9_c : Ref sig .tc := ⟨.hbm, 86, rfl⟩
abbrev main_while0b_call9_v1 : Ref sig .tc := ⟨.hbm, 87, rfl⟩
abbrev main_while0b_call9_v2 : Ref sig .tc := ⟨.hbm, 88, rfl⟩
abbrev main_while0b_call9_v3 : Ref sig .tc := ⟨.hbm, 89, rfl⟩
abbrev main_while0b_call9_v4 : Ref sig .tc := ⟨.hbm, 90, rfl⟩
abbrev main_while0b_call9_c_0 : Ref sig .tc := ⟨.hbm, 91, rfl⟩
abbrev main_while0b_call9_v5 : Ref sig .tc := ⟨.hbm, 92, rfl⟩
abbrev main_while0b_v56 : Ref sig .tc := ⟨.hbm, 93, rfl⟩
abbrev main_while0b_cst_16 : Ref sig .tc := ⟨.hbm, 94, rfl⟩
abbrev main_while0b_call10_v0 : Ref sig .tc := ⟨.hbm, 95, rfl⟩
abbrev main_while0b_call10_v1 : Ref sig .tc := ⟨.hbm, 96, rfl⟩
abbrev main_while0b_call10_v2 : Ref sig .tc := ⟨.hbm, 97, rfl⟩
abbrev main_while0b_v57 : Ref sig .tc := ⟨.hbm, 98, rfl⟩
abbrev main_while0b_v58 : Ref sig .tc := ⟨.hbm, 99, rfl⟩
abbrev main_while0b_v59 : Ref sig .tc := ⟨.hbm, 100, rfl⟩
abbrev main_while0b_v60 : Ref sig .tc := ⟨.hbm, 101, rfl⟩
abbrev main_while0b_v61 : Ref sig .tc := ⟨.hbm, 102, rfl⟩
abbrev main_while0b_v62 : Ref sig .tc := ⟨.hbm, 103, rfl⟩
abbrev main_while0b_v63 : Ref sig .tc := ⟨.hbm, 104, rfl⟩
abbrev main_while0b_v64 : Ref sig .tc := ⟨.hbm, 105, rfl⟩
abbrev main_while0b_v65 : Ref sig .tc := ⟨.hbm, 106, rfl⟩
abbrev main_while0b_v66 : Ref sig .tc := ⟨.hbm, 107, rfl⟩
abbrev main_while0b_v67 : Ref sig .tc := ⟨.hbm, 108, rfl⟩
abbrev main_while0b_v68 : Ref sig .tc := ⟨.hbm, 109, rfl⟩
abbrev main_while0b_v69 : Ref sig .tc := ⟨.hbm, 110, rfl⟩
abbrev main_while0b_v70 : Ref sig .tc := ⟨.hbm, 111, rfl⟩
abbrev main_while0b_v71 : Ref sig .tc := ⟨.hbm, 112, rfl⟩
abbrev main_while0b_call11_v0 : Ref sig .tc := ⟨.hbm, 113, rfl⟩
abbrev main_while0b_call11_c : Ref sig .tc := ⟨.hbm, 114, rfl⟩
abbrev main_while0b_call11_c_0 : Ref sig .tc := ⟨.hbm, 115, rfl⟩
abbrev main_while0b_call11_c_1 : Ref sig .tc := ⟨.hbm, 116, rfl⟩
abbrev main_while0b_call11_c_2 : Ref sig .tc := ⟨.hbm, 117, rfl⟩
abbrev main_while0b_v72 : Ref sig .tc := ⟨.hbm, 118, rfl⟩
abbrev main_while0b_c_17 : Ref sig .tc := ⟨.hbm, 119, rfl⟩
abbrev main_while0b_v73 : Ref sig .tc := ⟨.hbm, 120, rfl⟩
abbrev main_v24 : Ref sig .tc := ⟨.hbm, 121, rfl⟩
abbrev main_v25 : Ref sig .tc := ⟨.hbm, 122, rfl⟩
abbrev main_v26 : Ref sig .tc := ⟨.hbm, 123, rfl⟩
abbrev main_v27 : Ref sig .tc := ⟨.hbm, 124, rfl⟩
abbrev main_cst_6 : Ref sig .tc := ⟨.hbm, 125, rfl⟩
abbrev main_v28 : Ref sig .tc := ⟨.hbm, 126, rfl⟩
abbrev main_v29 : Ref sig .tc := ⟨.hbm, 127, rfl⟩
abbrev main_cst_7 : Ref sig .tc := ⟨.hbm, 128, rfl⟩
abbrev main_v30 : Ref sig .tc := ⟨.hbm, 129, rfl⟩
abbrev main_v31 : Ref sig .tc := ⟨.hbm, 130, rfl⟩
abbrev main_cst_8 : Ref sig .tc := ⟨.hbm, 131, rfl⟩
abbrev main_v32 : Ref sig .tc := ⟨.hbm, 132, rfl⟩
abbrev main_v33 : Ref sig .tc := ⟨.hbm, 133, rfl⟩
abbrev main_v34 : Ref sig .tc := ⟨.hbm, 134, rfl⟩
abbrev main_v35 : Ref sig .tc := ⟨.hbm, 135, rfl⟩
abbrev main_v36 : Ref sig .tc := ⟨.hbm, 136, rfl⟩
abbrev main_v37 : Ref sig .tc := ⟨.hbm, 137, rfl⟩
abbrev main_v38 : Ref sig .tc := ⟨.hbm, 138, rfl⟩
abbrev main_v39 : Ref sig .tc := ⟨.hbm, 139, rfl⟩
abbrev main_v40 : Ref sig .tc := ⟨.hbm, 140, rfl⟩
abbrev main_v41 : Ref sig .tc := ⟨.hbm, 141, rfl⟩
abbrev main_v42 : Ref sig .tc := ⟨.hbm, 142, rfl⟩

abbrev nD : Nat := 1
abbrev τ : Topo := Topo.v7x

variable {F : FTy → Type} [FloatOps F]

abbrev main_while0_count : Scf.Loop 32 := ⟨0#32, 33#32, 1#32⟩
-- ==== GlaProj.lean ====
abbrev S66048x1024 : Shape := ⟨2, ![66048, 1024]⟩
abbrev S1024 : Shape := ⟨1, ![1024]⟩
abbrev S1024x6680 : Shape := ⟨2, ![1024, 6680]⟩
abbrev S16x512 : Shape := ⟨2, ![16, 512]⟩
abbrev S512 : Shape := ⟨1, ![512]⟩
abbrev S1024x512 : Shape := ⟨2, ![1024, 512]⟩
abbrev S1024x8 : Shape := ⟨2, ![1024, 8]⟩
abbrev S1024x1024 : Shape := ⟨2, ![1024, 1024]⟩
abbrev S1024x16 : Shape := ⟨2, ![1024, 16]⟩
abbrev S_ : Shape := ⟨0, ![]⟩
abbrev S128x512 : Shape := ⟨2, ![128, 512]⟩
abbrev S1024x128 : Shape := ⟨2, ![1024, 128]⟩
abbrev S1x512 : Shape := ⟨2, ![1, 512]⟩
abbrev S1x1024 : Shape := ⟨2, ![1, 1024]⟩
abbrev S66048x512 : Shape := ⟨2, ![66048, 512]⟩
abbrev S688x1024 : Shape := ⟨2, ![688, 1024]⟩
abbrev S688x512 : Shape := ⟨2, ![688, 512]⟩
abbrev S688 : Shape := ⟨1, ![688]⟩
abbrev S688x1 : Shape := ⟨2, ![688, 1]⟩
abbrev S688x128 : Shape := ⟨2, ![688, 128]⟩

abbrev nBuf : Space → Nat
  | .hbm => 39
  | .vmem => 26
  | .smem => 0
  | _ => 0

abbrev bufTy : (tb : Table) → Fin (tcTables nBuf tb) → BufTy
  | .hbm, ⟨0, _⟩ => ⟨S66048x1024, .f32⟩
  | .hbm, ⟨1, _⟩ => ⟨S1024, .f32⟩
  | .hbm, ⟨2, _⟩ => ⟨S1024x6680, .f32⟩
  | .hbm, ⟨3, _⟩ => ⟨S16x512, .f32⟩
  | .hbm, ⟨4, _⟩ => ⟨S512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x8, .f32⟩
  | .hbm, ⟨9, _⟩ => ⟨S1024x512, .f32⟩
  | .hbm, ⟨10, _⟩ => ⟨S1024x512, .f32⟩
  | .hbm, ⟨11, _⟩ => ⟨S1024x1024, .f32⟩
  | .hbm, ⟨12, _⟩ => ⟨S1024x1024, .f32⟩
  | .hbm, ⟨13, _⟩ => ⟨S1024x16, .f32⟩
  | .hbm, ⟨14, _⟩ => ⟨S1024x1024, .f32⟩
  | .hbm, ⟨15, _⟩ => ⟨S1024x1024, .f32⟩
  | .hbm, ⟨16, _⟩ => ⟨S_, .i32⟩
  | .hbm, ⟨17, _⟩ => ⟨S_, .f32⟩
  | .hbm, ⟨18, _⟩ => ⟨S128x512, .f32⟩
  | .hbm, ⟨19, _⟩ => ⟨S1024x512, .bf16⟩
  | .hbm, ⟨20, _⟩ => ⟨S1024x512, .bf16⟩
  | .hbm, ⟨21, _⟩ => ⟨S1024x1024, .bf16⟩
  | .hbm, ⟨22, _⟩ => ⟨S1024x1024, .bf16⟩
  | .hbm, ⟨23, _⟩ => ⟨S_, .i32⟩
  | .hbm, ⟨24, _⟩ => ⟨S_, .f32⟩
  | .hbm, ⟨25, _⟩ => ⟨S1024x128, .f32⟩
  | .hbm, ⟨26, _⟩ => ⟨S1024x128, .bf16⟩
  | .hbm, ⟨27, _⟩ => ⟨S128x512, .bf16⟩
  | .hbm, ⟨28, _⟩ => ⟨S1x512, .f32⟩
  | .hbm, ⟨29, _⟩ => ⟨S1024x1024, .bf16⟩
  | .hbm, ⟨30, _⟩ => ⟨S1024x1024, .bf16⟩
  | .hbm, ⟨31, _⟩ => ⟨S1x1024, .f32⟩
  | .hbm, ⟨32, _⟩ => ⟨S66048x512, .bf16⟩
  | .hbm, ⟨33, _⟩ => ⟨S66048x512, .bf16⟩
  | .hbm, ⟨34, _⟩ => ⟨S66048x1024, .bf16⟩
  | .hbm, ⟨35, _⟩ => ⟨S66048x512, .f32⟩
  | .hbm, ⟨36, _⟩ => ⟨S66048x1024, .bf16⟩
  | .hbm, ⟨37, _⟩ => ⟨S66048x1024, .bf16⟩
  | .hbm, ⟨38, _⟩ => ⟨S66048x1024, .bf16⟩
  | .local _ .vmem, ⟨0, _⟩ => ⟨S688x1024, .f32⟩
  | .local _ .vmem, ⟨1, _⟩ => ⟨S688x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1024x1024, .bf16⟩
  | .local _ .vmem, ⟨6, _⟩ => ⟨S1024x1024, .bf16⟩
  | .local _ .vmem, ⟨7, _⟩ => ⟨S1024x128, .bf16⟩
  | .local _ .vmem, ⟨8, _⟩ => ⟨S128x512, .bf16⟩
  | .local _ .vmem, ⟨9, _⟩ => ⟨S1x512, .f32⟩
  | .local _ .vmem, ⟨10, _⟩ => ⟨S1024x1024, .bf16⟩
  | .local _ .vmem, ⟨11, _⟩ => ⟨S1024x1024, .bf16⟩
  | .local _ .vmem, ⟨12, _⟩ => ⟨S688x512, .bf16⟩
  | .local _ .vmem, ⟨13, _⟩ => ⟨S688x512, .bf16⟩
  | .local _ .vmem, ⟨14, _⟩ => ⟨S688x512, .bf16⟩
  | .local _ .vmem, ⟨15, _⟩ => ⟨S688x512, .bf16⟩
  | .local _ .vmem, ⟨16, _⟩ => ⟨S688x1024, .bf16⟩
  | .local _ .vmem, ⟨17, _⟩ => ⟨S688x1024, .bf16⟩
  | .local _ .vmem, ⟨18, _⟩ => ⟨S688x512, .f32⟩
  | .local _ .vmem, ⟨19, _⟩ => ⟨S688x512, .f32⟩
  | .local _ .vmem, ⟨20, _⟩ => ⟨S688x1024, .bf16⟩
  | .local _ .vmem, ⟨21, _⟩ => ⟨S688x1024, .bf16⟩
  | .local _ .vmem, ⟨22, _⟩ => ⟨S688x1024, .bf16⟩
  | .local _ .vmem, ⟨23, _⟩ => ⟨S688x1024, .bf16⟩
  | .local _ .vmem, ⟨24, _⟩ => ⟨S688x1024, .bf16⟩
  | .local _ .vmem, ⟨25, _⟩ => ⟨S688x1024, .bf16⟩
  | _, _ => ⟨S66048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_call0_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_0 : Ref sig .tc := ⟨.hbm, 23, rfl⟩
abbrev main_call1_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23_0 : Ref sig .tc := ⟨.hbm, 32, rfl⟩
abbrev main_v23_1 : Ref sig .tc := ⟨.hbm, 33, rfl⟩
abbrev main_v23_2 : Ref sig .tc := ⟨.hbm, 34, rfl⟩
abbrev main_v23_3 : Ref sig .tc := ⟨.hbm, 35, rfl⟩
abbrev main_v23_4 : Ref sig .tc := ⟨.hbm, 36, rfl⟩
abbrev main_v23_5 : Ref sig .tc := ⟨.hbm, 37, rfl⟩
abbrev main_v23_6 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S688x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S688x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S688x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S688x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S688x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S688x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S688x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== GlaProjRefIdeal.lean ====
abbrev S66048x1024 : Shape := ⟨2, ![66048, 1024]⟩
abbrev S1024 : Shape := ⟨1, ![1024]⟩
abbrev S1024x6680 : Shape := ⟨2, ![1024, 6680]⟩
abbrev S16x512 : Shape := ⟨2, ![16, 512]⟩
abbrev S512 : Shape := ⟨1, ![512]⟩
abbrev S_ : Shape := ⟨0, ![]⟩
abbrev S66048 : Shape := ⟨1, ![66048]⟩
abbrev S66048x1 : Shape := ⟨2, ![66048, 1]⟩
abbrev S1x1024 : Shape := ⟨2, ![1, 1024]⟩
abbrev S66048x6680 : Shape := ⟨2, ![66048, 6680]⟩
abbrev S66048x512 : Shape := ⟨2, ![66048, 512]⟩
abbrev S66048x16 : Shape := ⟨2, ![66048, 16]⟩
abbrev S1x512 : Shape := ⟨2, ![1, 512]⟩

abbrev nBuf : Space → Nat
  | .hbm => 83
  | .vmem => 0
  | .smem => 0
  | _ => 0

abbrev bufTy : (tb : Table) → Fin (tcTables nBuf tb) → BufTy
  | .hbm, ⟨0, _⟩ => ⟨S66048x1024, .f32⟩
  | .hbm, ⟨1, _⟩ => ⟨S1024, .f32⟩
  | .hbm, ⟨2, _⟩ => ⟨S1024x6680, .f32⟩
  | .hbm, ⟨3, _⟩ => ⟨S16x512, .f32⟩
  | .hbm, ⟨4, _⟩ => ⟨S512, .f32⟩
  | .hbm, ⟨5, _⟩ => ⟨S66048x1024, .f32⟩
  | .hbm, ⟨6, _⟩ => ⟨S_, .f32⟩
  | .hbm, ⟨7, _⟩ => ⟨S66048, .f32⟩
  | .hbm, ⟨8, _⟩ => ⟨S66048x1, .f32⟩
  | .hbm, ⟨9, _⟩ => ⟨S_, .f32⟩
  | .hbm, ⟨10, _⟩ => ⟨S66048x1, .f32⟩
  | .hbm, ⟨11, _⟩ => ⟨S66048x1, .f32⟩
  | .hbm, ⟨12, _⟩ => ⟨S_, .f32⟩
  | .hbm, ⟨13, _⟩ => ⟨S66048x1, .f32⟩
  | .hbm, ⟨14, _⟩ => ⟨S66048x1, .f32⟩
  | .hbm, ⟨15, _⟩ => ⟨S66048x1, .f32⟩
  | .hbm, ⟨16, _⟩ => ⟨S66048x1024, .f32⟩
  | .hbm, ⟨17, _⟩ => ⟨S66048x1024, .f32⟩
  | .hbm, ⟨18, _⟩ => ⟨S1x1024, .f32⟩
  | .hbm, ⟨19, _⟩ => ⟨S66048x1024, .f32⟩
  | .hbm, ⟨20, _⟩ => ⟨S66048x1024, .f32⟩
  | .hbm, ⟨21, _⟩ => ⟨S66048x6680, .f32⟩
  | .hbm, ⟨22, _⟩ => ⟨S66048x512, .f32⟩
  | .hbm, ⟨23, _⟩ => ⟨S66048x512, .f32⟩
  | .hbm, ⟨24, _⟩ => ⟨S66048x1024, .f32⟩
  | .hbm, ⟨25, _⟩ => ⟨S66048x1024, .f32⟩
  | .hbm, ⟨26, _⟩ => ⟨S66048x16, .f32⟩
  | .hbm, ⟨27, _⟩ => ⟨S66048x512, .f32⟩
  | .hbm, ⟨28, _⟩ => ⟨S1x512, .f32⟩
  | .hbm, ⟨29, _⟩ => ⟨S66048x512, .f32⟩
  | .hbm, ⟨30, _⟩ => ⟨S66048x512, .f32⟩
  | .hbm, ⟨31, _⟩ => ⟨S66048x512, .f32⟩
  | .hbm, ⟨32, _⟩ => ⟨S_, .f32⟩
  | .hbm, ⟨33, _⟩ => ⟨S66048x512, .f32⟩
  | .hbm, ⟨34, _⟩ => ⟨S66048x512, .f32⟩
  | .hbm, ⟨35, _⟩ => ⟨S66048x512, .f32⟩
  | .hbm, ⟨36, _⟩ => ⟨S66048x512, .f32⟩
  | .hbm, ⟨37, _⟩ => ⟨S66048x512, .i1⟩
  | .hbm, ⟨38, _⟩ => ⟨S66048x512, .f32⟩
  | .hbm, ⟨39, _⟩ => ⟨S66048x512, .f32⟩
  | .hbm, ⟨40, _⟩ => ⟨S66048x512, .f32⟩
  | .hbm, ⟨41, _⟩ => ⟨S66048x512, .f32⟩
  | .hbm, ⟨42, _⟩ => ⟨S66048x512, .f32⟩
  | .hbm, ⟨43, _⟩ => ⟨S66048x512, .f32⟩
  | .hbm, ⟨44, _⟩ => ⟨S66048x512, .f32⟩
  | .hbm, ⟨45, _⟩ => ⟨S66048x512, .f32⟩
  | .hbm, ⟨46, _⟩ => ⟨S66048x512, .f32⟩
  | .hbm, ⟨47, _⟩ => ⟨S_, .f32⟩
  | .hbm, ⟨48, _⟩ => ⟨S66048x512, .f32⟩
  | .hbm, ⟨49, _⟩ => ⟨S66048x512, .f32⟩
  | .hbm, ⟨50, _⟩ => ⟨S66048x1024, .f32⟩
  | .hbm, ⟨51, _⟩ => ⟨S66048x1024, .f32⟩
  | .hbm, ⟨52, _⟩ => ⟨S66048x1024, .f32⟩
  | .hbm, ⟨53, _⟩ => ⟨S_, .f32⟩
  | .hbm, ⟨54, _⟩ => ⟨S66048x1024, .f32⟩
  | .hbm, ⟨55, _⟩ => ⟨S66048x1024, .f32⟩
  | .hbm, ⟨56, _⟩ => ⟨S_, .f32⟩
  | .hbm, ⟨57, _⟩ => ⟨S66048x1024, .f32⟩
  | .hbm, ⟨58, _⟩ => ⟨S66048x1024, .f32⟩
  | .hbm, ⟨59, _⟩ => ⟨S66048x1024, .f32⟩
  | .hbm, ⟨60, _⟩ => ⟨S66048x1024, .f32⟩
  | .hbm, ⟨61, _⟩ => ⟨S66048x1024, .f32⟩
  | .hbm, ⟨62, _⟩ => ⟨S_, .f32⟩
  | .hbm, ⟨63, _⟩ => ⟨S66048x1024, .f32⟩
  | .hbm, ⟨64, _⟩ => ⟨S66048x1024, .f32⟩
  | .hbm, ⟨65, _⟩ => ⟨S_, .f32⟩
  | .hbm, ⟨66, _⟩ => ⟨S66048x1024, .f32⟩
  | .hbm, ⟨67, _⟩ => ⟨S66048x1024, .f32⟩
  | .hbm, ⟨68, _⟩ => ⟨S66048x512, .bf16⟩
  | .hbm, ⟨69, _⟩ => ⟨S66048x512, .bf16⟩
  | .hbm, ⟨70, _⟩ => ⟨S66048x1024, .bf16⟩
  | .hbm, ⟨71, _⟩ => ⟨S66048x1024, .f32⟩
  | .hbm, ⟨72, _⟩ => ⟨S66048x1024, .f32⟩
  | .hbm, ⟨73, _⟩ => ⟨S_, .f32⟩
  | .hbm, ⟨74, _⟩ => ⟨S66048x1024, .f32⟩
  | .hbm, ⟨75, _⟩ => ⟨S66048x1024, .f32⟩
  | .hbm, ⟨76, _⟩ => ⟨S_, .f32⟩
  | .hbm, ⟨77, _⟩ => ⟨S66048x1024, .f32⟩
  | .hbm, ⟨78, _⟩ => ⟨S66048x1024, .f32⟩
  | .hbm, ⟨79, _⟩ => ⟨S66048x1024, .f32⟩
  | .hbm, ⟨80, _⟩ => ⟨S66048x1024, .bf16⟩
  | .hbm, ⟨81, _⟩ => ⟨S66048x1024, .bf16⟩
  | .hbm, ⟨82, _⟩ => ⟨S66048x1024, .bf16⟩
  | _, _ => ⟨S66048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call0_v0 : Ref sig .tc := ⟨.hbm, 31, rfl⟩
abbrev main_call0_call0_cst : Ref sig .tc := ⟨.hbm, 32, rfl⟩
abbrev main_call0_call0_v0 : Ref sig .tc := ⟨.hbm, 33, rfl⟩
abbrev main_call0_call0_v1 : Ref sig .tc := ⟨.hbm, 34, rfl⟩
abbrev main_call0_call0_v2 : Ref sig .tc := ⟨.hbm, 35, rfl⟩
abbrev main_call0_call0_v3 : Ref sig .tc := ⟨.hbm, 36, rfl⟩
abbrev main_call0_call0_v4 : Ref sig .tc := ⟨.hbm, 37, rfl⟩
abbrev main_call0_call0_v5 : Ref sig .tc := ⟨.hbm, 38, rfl⟩
abbrev main_call0_call0_v6 : Ref sig .tc := ⟨.hbm, 39, rfl⟩
abbrev main_call0_call0_v7 : Ref sig .tc := ⟨.hbm, 40, rfl⟩
abbrev main_call0_call0_v8 : Ref sig .tc := ⟨.hbm, 41, rfl⟩
abbrev main_call0_call0_v9 : Ref sig .tc := ⟨.hbm, 42, rfl⟩
abbrev main_call0_call0_v10 : Ref sig .tc := ⟨.hbm, 43, rfl⟩
abbrev main_call0_call0_v11 : Ref sig .tc := ⟨.hbm, 44, rfl⟩
abbrev main_call0_v1 : Ref sig .tc := ⟨.hbm, 45, rfl⟩
abbrev main_v23 : Ref sig .tc := ⟨.hbm, 46, rfl⟩
abbrev main_cst_2 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_3 : Ref sig .tc := ⟨.hbm, 53, rfl⟩
abbrev main_v29 : Ref sig .tc := ⟨.hbm, 54, rfl⟩
abbrev main_v30 : Ref sig .tc := ⟨.hbm, 55, rfl⟩
abbrev main_cst_4 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_5 : Ref sig .tc := ⟨.hbm, 62, rfl⟩
abbrev main_v36 : Ref sig .tc := ⟨.hbm, 63, rfl⟩
abbrev main_v37 : Ref sig .tc := ⟨.hbm, 64, rfl⟩
abbrev main_cst_6 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_call1_v0 : Ref sig .tc := ⟨.hbm, 71, rfl⟩
abbrev main_call1_v1 : Ref sig .tc := ⟨.hbm, 72, rfl⟩
abbrev main_call1_cst : Ref sig .tc := ⟨.hbm, 73, rfl⟩
abbrev main_call1_v2 : Ref sig .tc := ⟨.hbm, 74, rfl⟩
abbrev main_call1_v3 : Ref sig .tc := ⟨.hbm, 75, rfl⟩
abbrev main_call1_cst_0 : Ref sig .tc := ⟨.hbm, 76, rfl⟩
abbrev main_call1_v4 : Ref sig .tc := ⟨.hbm, 77, rfl⟩
abbrev main_call1_v5 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩

abbrev nD : Nat := 1
abbrev τ : Topo := Topo.v7x

variable {F : FTy → Type} [FloatOps F]
-- ==== Merge.lean ====
abbrev S66048x1024 : Shape := ⟨2, ![66048, 1024]⟩
abbrev S66048x512 : Shape := ⟨2, ![66048, 512]⟩
abbrev S512x1024 : Shape := ⟨2, ![512, 1024]⟩
abbrev S1024x1024 : Shape := ⟨2, ![1024, 1024]⟩
abbrev S1024 : Shape := ⟨1, ![1024]⟩
abbrev S1x1024 : Shape := ⟨2, ![1, 1024]⟩
abbrev S688x1024 : Shape := ⟨2, ![688, 1024]⟩
abbrev S688x512 : Shape := ⟨2, ![688, 512]⟩
abbrev S688 : Shape := ⟨1, ![688]⟩
abbrev S688x1 : Shape := ⟨2, ![688, 1]⟩

abbrev nBuf : Space → Nat
  | .hbm => 18
  | .vmem => 21
  | .smem => 0
  | _ => 0

abbrev bufTy : (tb : Table) → Fin (tcTables nBuf tb) → BufTy
  | .hbm, ⟨0, _⟩ => ⟨S66048x1024, .f32⟩
  | .hbm, ⟨1, _⟩ => ⟨S66048x512, .bf16⟩
  | .hbm, ⟨2, _⟩ => ⟨S66048x1024, .bf16⟩
  | .hbm, ⟨3, _⟩ => ⟨S66048x1024, .bf16⟩
  | .hbm, ⟨4, _⟩ => ⟨S66048x1024, .bf16⟩
  | .hbm, ⟨5, _⟩ => ⟨S66048x1024, .bf16⟩
  | .hbm, ⟨6, _⟩ => ⟨S512x1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S512x1024, .bf16⟩
  | .hbm, ⟨12, _⟩ => ⟨S1024x1024, .bf16⟩
  | .hbm, ⟨13, _⟩ => ⟨S1024x1024, .bf16⟩
  | .hbm, ⟨14, _⟩ => ⟨S1x1024, .f32⟩
  | .hbm, ⟨15, _⟩ => ⟨S1x1024, .f32⟩
  | .hbm, ⟨16, _⟩ => ⟨S66048x1024, .f32⟩
  | .hbm, ⟨17, _⟩ => ⟨S66048x1024, .bf16⟩
  | .local _ .vmem, ⟨0, _⟩ => ⟨S688x1024, .f32⟩
  | .local _ .vmem, ⟨1, _⟩ => ⟨S688x1024, .f32⟩
  | .local _ .vmem, ⟨2, _⟩ => ⟨S688x512, .bf16⟩
  | .local _ .vmem, ⟨3, _⟩ => ⟨S688x512, .bf16⟩
  | .local _ .vmem, ⟨4, _⟩ => ⟨S688x1024, .bf16⟩
  | .local _ .vmem, ⟨5, _⟩ => ⟨S688x1024, .bf16⟩
  | .local _ .vmem, ⟨6, _⟩ => ⟨S688x1024, .bf16⟩
  | .local _ .vmem, ⟨7, _⟩ => ⟨S688x1024, .bf16⟩
  | .local _ .vmem, ⟨8, _⟩ => ⟨S688x1024, .bf16⟩
  | .local _ .vmem, ⟨9, _⟩ => ⟨S688x1024, .bf16⟩
  | .local _ .vmem, ⟨10, _⟩ => ⟨S688x1024, .bf16⟩
  | .local _ .vmem, ⟨11, _⟩ => ⟨S688x1024, .bf16⟩
  | .local _ .vmem, ⟨12, _⟩ => ⟨S512x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S688x1024, .f32⟩
  | .local _ .vmem, ⟨18, _⟩ => ⟨S688x1024, .f32⟩
  | .local _ .vmem, ⟨19, _⟩ => ⟨S688x1024, .bf16⟩
  | .local _ .vmem, ⟨20, _⟩ => ⟨S688x1024, .bf16⟩
  | _, _ => ⟨S66048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S688x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S688x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S688x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S688x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S688x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S688x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S688x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeRefIdeal.lean ====
abbrev S66048x1024 : Shape := ⟨2, ![66048, 1024]⟩
abbrev S66048x512 : Shape := ⟨2, ![66048, 512]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S66048 : Shape := ⟨1, ![66048]⟩
abbrev S66048x1 : Shape := ⟨2, ![66048, 1]⟩
abbrev S1x1024 : Shape := ⟨2, ![1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S66048x1024, .f32⟩
  | .hbm, ⟨1, _⟩ => ⟨S66048x512, .bf16⟩
  | .hbm, ⟨2, _⟩ => ⟨S66048x1024, .bf16⟩
  | .hbm, ⟨3, _⟩ => ⟨S66048x1024, .bf16⟩
  | .hbm, ⟨4, _⟩ => ⟨S66048x1024, .bf16⟩
  | .hbm, ⟨5, _⟩ => ⟨S66048x1024, .bf16⟩
  | .hbm, ⟨6, _⟩ => ⟨S512x1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S66048x1024, .f32⟩
  | .hbm, ⟨12, _⟩ => ⟨S66048x512, .f32⟩
  | .hbm, ⟨13, _⟩ => ⟨S66048x1024, .f32⟩
  | .hbm, ⟨14, _⟩ => ⟨S66048x1024, .f32⟩
  | .hbm, ⟨15, _⟩ => ⟨S66048x1024, .f32⟩
  | .hbm, ⟨16, _⟩ => ⟨S66048x1024, .f32⟩
  | .hbm, ⟨17, _⟩ => ⟨S66048x1024, .f32⟩
  | .hbm, ⟨18, _⟩ => ⟨S66048x1024, .f32⟩
  | .hbm, ⟨19, _⟩ => ⟨S66048x1024, .f32⟩
  | .hbm, ⟨20, _⟩ => ⟨S66048x1024, .f32⟩
  | .hbm, ⟨21, _⟩ => ⟨S66048x1024, .f32⟩
  | .hbm, ⟨22, _⟩ => ⟨S66048x1024, .f32⟩
  | .hbm, ⟨23, _⟩ => ⟨S66048x1024, .f32⟩
  | .hbm, ⟨24, _⟩ => ⟨S_, .f32⟩
  | .hbm, ⟨25, _⟩ => ⟨S66048, .f32⟩
  | .hbm, ⟨26, _⟩ => ⟨S66048x1, .f32⟩
  | .hbm, ⟨27, _⟩ => ⟨S_, .f32⟩
  | .hbm, ⟨28, _⟩ => ⟨S66048x1, .f32⟩
  | .hbm, ⟨29, _⟩ => ⟨S66048x1, .f32⟩
  | .hbm, ⟨30, _⟩ => ⟨S_, .f32⟩
  | .hbm, ⟨31, _⟩ => ⟨S66048x1, .f32⟩
  | .hbm, ⟨32, _⟩ => ⟨S66048x1, .f32⟩
  | .hbm, ⟨33, _⟩ => ⟨S66048x1, .f32⟩
  | .hbm, ⟨34, _⟩ => ⟨S66048x1024, .f32⟩
  | .hbm, ⟨35, _⟩ => ⟨S66048x1024, .f32⟩
  | .hbm, ⟨36, _⟩ => ⟨S1x1024, .f32⟩
  | .hbm, ⟨37, _⟩ => ⟨S66048x1024, .f32⟩
  | .hbm, ⟨38, _⟩ => ⟨S66048x1024, .f32⟩
  | .hbm, ⟨39, _⟩ => ⟨S66048x1024, .f32⟩
  | .hbm, ⟨40, _⟩ => ⟨S66048x1024, .f32⟩
  | .hbm, ⟨41, _⟩ => ⟨S_, .f32⟩
  | .hbm, ⟨42, _⟩ => ⟨S66048, .f32⟩
  | .hbm, ⟨43, _⟩ => ⟨S66048x1, .f32⟩
  | .hbm, ⟨44, _⟩ => ⟨S_, .f32⟩
  | .hbm, ⟨45, _⟩ => ⟨S66048x1, .f32⟩
  | .hbm, ⟨46, _⟩ => ⟨S66048x1, .f32⟩
  | .hbm, ⟨47, _⟩ => ⟨S_, .f32⟩
  | .hbm, ⟨48, _⟩ => ⟨S66048x1, .f32⟩
  | .hbm, ⟨49, _⟩ => ⟨S66048x1, .f32⟩
  | .hbm, ⟨50, _⟩ => ⟨S66048x1, .f32⟩
  | .hbm, ⟨51, _⟩ => ⟨S66048x1024, .f32⟩
  | .hbm, ⟨52, _⟩ => ⟨S66048x1024, .f32⟩
  | .hbm, ⟨53, _⟩ => ⟨S1x1024, .f32⟩
  | .hbm, ⟨54, _⟩ => ⟨S66048x1024, .f32⟩
  | .hbm, ⟨55, _⟩ => ⟨S66048x1024, .f32⟩
  | .hbm, ⟨56, _⟩ => ⟨S66048x1024, .bf16⟩
  | _, _ => ⟨S66048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩

abbrev nD : Nat := 1
abbrev τ : Topo := Topo.v7x

variable {F : FTy → Type} [FloatOps F]
-- ==== Ffn.lean ====
abbrev S66048x1024 : Shape := ⟨2, ![66048, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S1x5632 : Shape := ⟨2, ![1, 5632]⟩
abbrev S1x1024 : Shape := ⟨2, ![1, 1024]⟩
abbrev S32x2x5632 : Shape := ⟨3, ![32, 2, 5632]⟩
abbrev S688x1024 : Shape := ⟨2, ![688, 1024]⟩
abbrev S1x2x5632 : Shape := ⟨3, ![1, 2, 5632]⟩
abbrev S688x2816 : Shape := ⟨2, ![688, 2816]⟩
abbrev S696x256 : Shape := ⟨2, ![696, 256]⟩
abbrev S8x5632 : Shape := ⟨2, ![8, 5632]⟩
abbrev S1024x256 : Shape := ⟨2, ![1024, 256]⟩
abbrev S688x256 : Shape := ⟨2, ![688, 256]⟩
abbrev S8x256 : Shape := ⟨2, ![8, 256]⟩
abbrev S2x256 : Shape := ⟨2, ![2, 256]⟩
abbrev S1x2x256 : Shape := ⟨3, ![1, 2, 256]⟩
abbrev S1x256 : Shape := ⟨2, ![1, 256]⟩
abbrev S688x1536 : Shape := ⟨2, ![688, 1536]⟩
abbrev S1536x1024 : Shape := ⟨2, ![1536, 1024]⟩
abbrev S688x1280 : Shape := ⟨2, ![688, 1280]⟩
abbrev S1280x1024 : Shape := ⟨2, ![1280, 1024]⟩
abbrev S688 : Shape := ⟨1, ![688]⟩
abbrev S688x1 : Shape := ⟨2, ![688, 1]⟩

abbrev nBuf : Space → Nat
  | .hbm => 13
  | .vmem => 16
  | .smem => 0
  | _ => 0

abbrev bufTy : (tb : Table) → Fin (tcTables nBuf tb) → BufTy
  | .hbm, ⟨0, _⟩ => ⟨S66048x1024, .bf16⟩
  | .hbm, ⟨1, _⟩ => ⟨S66048x1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S1024x5632, .bf16⟩
  | .hbm, ⟨8, _⟩ => ⟨S1x5632, .f32⟩
  | .hbm, ⟨9, _⟩ => ⟨S2816x1024, .bf16⟩
  | .hbm, ⟨10, _⟩ => ⟨S1x1024, .f32⟩
  | .hbm, ⟨11, _⟩ => ⟨S66048x1024, .f32⟩
  | .hbm, ⟨12, _⟩ => ⟨S32x2x5632, .f32⟩
  | .local _ .vmem, ⟨0, _⟩ => ⟨S688x1024, .bf16⟩
  | .local _ .vmem, ⟨1, _⟩ => ⟨S688x1024, .bf16⟩
  | .local _ .vmem, ⟨2, _⟩ => ⟨S688x1024, .f32⟩
  | .local _ .vmem, ⟨3, _⟩ => ⟨S688x1024, .f32⟩
  | .local _ .vmem, ⟨4, _⟩ => ⟨S1024x5632, .bf16⟩
  | .local _ .vmem, ⟨5, _⟩ => ⟨S3x5632, .f32⟩
  | .local _ .vmem, ⟨6, _⟩ => ⟨S1x5632, .f32⟩
  | .local _ .vmem, ⟨7, _⟩ => ⟨S2816x1024, .bf16⟩
  | .local _ .vmem, ⟨8, _⟩ => ⟨S1x1024, .f32⟩
  | .local _ .vmem, ⟨9, _⟩ => ⟨S688x1024, .f32⟩
  | .local _ .vmem, ⟨10, _⟩ => ⟨S688x1024, .f32⟩
  | .local _ .vmem, ⟨11, _⟩ => ⟨S1x2x5632, .f32⟩
  | .local _ .vmem, ⟨12, _⟩ => ⟨S1x2x5632, .f32⟩
  | .local _ .vmem, ⟨13, _⟩ => ⟨S688x2816, .bf16⟩
  | .local _ .vmem, ⟨14, _⟩ => ⟨S696x256, .f32⟩
  | .local _ .vmem, ⟨15, _⟩ => ⟨S8x5632, .f32⟩
  | _, _ => ⟨S66048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S688x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S688x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2x5632 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnRefIdeal.lean ====
abbrev S66048x1024 : Shape := ⟨2, ![66048, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S32x2064x1024 : Shape := ⟨3, ![32, 2064, 1024]⟩
abbrev S32x2064x5632 : Shape := ⟨3, ![32, 2064, 5632]⟩
abbrev S_ : Shape := ⟨0, ![]⟩
abbrev S32x2x5632 : Shape := ⟨3, ![32, 2, 5632]⟩
abbrev S32x2066x5632 : Shape := ⟨3, ![32, 2066, 5632]⟩
abbrev S1x5632 : Shape := ⟨2, ![1, 5632]⟩
abbrev S1x1x5632 : Shape := ⟨3, ![1, 1, 5632]⟩
abbrev S32x2064x2816 : Shape := ⟨3, ![32, 2064, 2816]⟩
abbrev S32x2064 : Shape := ⟨2, ![32, 2064]⟩
abbrev S32x2064x1 : Shape := ⟨3, ![32, 2064, 1]⟩
abbrev S1x1x1024 : Shape := ⟨3, ![1, 1, 1024]⟩

abbrev nBuf : Space → Nat
  | .hbm => 76
  | .vmem => 0
  | .smem => 0
  | _ => 0

abbrev bufTy : (tb : Table) → Fin (tcTables nBuf tb) → BufTy
  | .hbm, ⟨0, _⟩ => ⟨S66048x1024, .bf16⟩
  | .hbm, ⟨1, _⟩ => ⟨S66048x1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S66048x1024, .f32⟩
  | .hbm, ⟨8, _⟩ => ⟨S32x2064x1024, .f32⟩
  | .hbm, ⟨9, _⟩ => ⟨S32x2064x5632, .f32⟩
  | .hbm, ⟨10, _⟩ => ⟨S_, .f32⟩
  | .hbm, ⟨11, _⟩ => ⟨S32x2x5632, .f32⟩
  | .hbm, ⟨12, _⟩ => ⟨S32x2066x5632, .f32⟩
  | .hbm, ⟨13, _⟩ => ⟨S32x2064x5632, .f32⟩
  | .hbm, ⟨14, _⟩ => ⟨S1x5632, .f32⟩
  | .hbm, ⟨15, _⟩ => ⟨S5632, .f32⟩
  | .hbm, ⟨16, _⟩ => ⟨S1x1x5632, .f32⟩
  | .hbm, ⟨17, _⟩ => ⟨S32x2064x5632, .f32⟩
  | .hbm, ⟨18, _⟩ => ⟨S32x2064x5632, .f32⟩
  | .hbm, ⟨19, _⟩ => ⟨S1x1x5632, .f32⟩
  | .hbm, ⟨20, _⟩ => ⟨S32x2064x5632, .f32⟩
  | .hbm, ⟨21, _⟩ => ⟨S32x2064x5632, .f32⟩
  | .hbm, ⟨22, _⟩ => ⟨S32x2064x5632, .f32⟩
  | .hbm, ⟨23, _⟩ => ⟨S1x5632, .f32⟩
  | .hbm, ⟨24, _⟩ => ⟨S5632, .f32⟩
  | .hbm, ⟨25, _⟩ => ⟨S1x1x5632, .f32⟩
  | .hbm, ⟨26, _⟩ => ⟨S32x2064x5632, .f32⟩
  | .hbm, ⟨27, _⟩ => ⟨S32x2064x5632, .f32⟩
  | .hbm, ⟨28, _⟩ => ⟨S32x2064x5632, .f32⟩
  | .hbm, ⟨29, _⟩ => ⟨S32x2064x5632, .f32⟩
  | .hbm, ⟨30, _⟩ => ⟨S1x5632, .f32⟩
  | .hbm, ⟨31, _⟩ => ⟨S5632, .f32⟩
  | .hbm, ⟨32, _⟩ => ⟨S1x1x5632, .f32⟩
  | .hbm, ⟨33, _⟩ => ⟨S32x2064x5632, .f32⟩
  | .hbm, ⟨34, _⟩ => ⟨S32x2064x5632, .f32⟩
  | .hbm, ⟨35, _⟩ => ⟨S32x2064x5632, .f32⟩
  | .hbm, ⟨36, _⟩ => ⟨S32x2064x2816, .f32⟩
  | .hbm, ⟨37, _⟩ => ⟨S32x2064x2816, .f32⟩
  | .hbm, ⟨38, _⟩ => ⟨S32x2064x2816, .f32⟩
  | .hbm, ⟨39, _⟩ => ⟨S32x2064x2816, .f32⟩
  | .hbm, ⟨40, _⟩ => ⟨S_, .f32⟩
  | .hbm, ⟨41, _⟩ => ⟨S32x2064x2816, .f32⟩
  | .hbm, ⟨42, _⟩ => ⟨S32x2064x2816, .f32⟩
  | .hbm, ⟨43, _⟩ => ⟨S32x2064x2816, .f32⟩
  | .hbm, ⟨44, _⟩ => ⟨S_, .f32⟩
  | .hbm, ⟨45, _⟩ => ⟨S32x2064x2816, .f32⟩
  | .hbm, ⟨46, _⟩ => ⟨S32x2064x2816, .f32⟩
  | .hbm, ⟨47, _⟩ => ⟨S32x2064x2816, .f32⟩
  | .hbm, ⟨48, _⟩ => ⟨S_, .f32⟩
  | .hbm, ⟨49, _⟩ => ⟨S32x2064x2816, .f32⟩
  | .hbm, ⟨50, _⟩ => ⟨S32x2064x2816, .f32⟩
  | .hbm, ⟨51, _⟩ => ⟨S_, .f32⟩
  | .hbm, ⟨52, _⟩ => ⟨S32x2064x2816, .f32⟩
  | .hbm, ⟨53, _⟩ => ⟨S32x2064x2816, .f32⟩
  | .hbm, ⟨54, _⟩ => ⟨S32x2064x2816, .f32⟩
  | .hbm, ⟨55, _⟩ => ⟨S32x2064x2816, .f32⟩
  | .hbm, ⟨56, _⟩ => ⟨S32x2064x1024, .f32⟩
  | .hbm, ⟨57, _⟩ => ⟨S32x2064x1024, .f32⟩
  | .hbm, ⟨58, _⟩ => ⟨S_, .f32⟩
  | .hbm, ⟨59, _⟩ => ⟨S32x2064, .f32⟩
  | .hbm, ⟨60, _⟩ => ⟨S32x2064x1, .f32⟩
  | .hbm, ⟨61, _⟩ => ⟨S_, .f32⟩
  | .hbm, ⟨62, _⟩ => ⟨S32x2064x1, .f32⟩
  | .hbm, ⟨63, _⟩ => ⟨S32x2064x1, .f32⟩
  | .hbm, ⟨64, _⟩ => ⟨S_, .f32⟩
  | .hbm, ⟨65, _⟩ => ⟨S32x2064x1, .f32⟩
  | .hbm, ⟨66, _⟩ => ⟨S32x2064x1, .f32⟩
  | .hbm, ⟨67, _⟩ => ⟨S32x2064x1, .f32⟩
  | .hbm, ⟨68, _⟩ => ⟨S32x2064x1024, .f32⟩
  | .hbm, ⟨69, _⟩ => ⟨S32x2064x1024, .f32⟩
  | .hbm, ⟨70, _⟩ => ⟨S1x1x1024, .f32⟩
  | .hbm, ⟨71, _⟩ => ⟨S32x2064x1024, .f32⟩
  | .hbm, ⟨72, _⟩ => ⟨S32x2064x1024, .f32⟩
  | .hbm, ⟨73, _⟩ => ⟨S66048x1024, .f32⟩
  | .hbm, ⟨74, _⟩ => ⟨S66048x1024, .f32⟩
  | .hbm, ⟨75, _⟩ => ⟨S32x2x5632, .f32⟩
  | _, _ => ⟨S66048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_0 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_1 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_2 : Ref sig .tc := ⟨.hbm, 48, rfl⟩
abbrev main_v38 : Ref sig .tc := ⟨.hbm, 49, rfl⟩
abbrev main_v39 : Ref sig .tc := ⟨.hbm, 50, rfl⟩
abbrev main_cst_3 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_4 : Ref sig .tc := ⟨.hbm, 58, rfl⟩
abbrev main_v46 : Ref sig .tc := ⟨.hbm, 59, rfl⟩
abbrev main_v47 : Ref sig .tc := ⟨.hbm, 60, rfl⟩
abbrev main_cst_5 : Ref sig .tc := ⟨.hbm, 61, rfl⟩
abbrev main_v48 : Ref sig .tc := ⟨.hbm, 62, rfl⟩
abbrev main_v49 : Ref sig .tc := ⟨.hbm, 63, rfl⟩
abbrev main_cst_6 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩

abbrev nD : Nat := 1
abbrev τ : Topo := Topo.v7x

variable {F : FTy → Type} [FloatOps F]
-- ==== FoxProj.lean ====
abbrev S66048x1024 : Shape := ⟨2, ![66048, 1024]⟩
abbrev S1024 : Shape := ⟨1, ![1024]⟩
abbrev S1024x6680 : Shape := ⟨2, ![1024, 6680]⟩
abbrev S8 : Shape := ⟨1, ![8]⟩
abbrev S128x1024 : Shape := ⟨2, ![128, 1024]⟩
abbrev S1x1024 : Shape := ⟨2, ![1, 1024]⟩
abbrev S1024x512 : Shape := ⟨2, ![1024, 512]⟩
abbrev S1024x8 : Shape := ⟨2, ![1024, 8]⟩
abbrev S_ : Shape := ⟨0, ![]⟩
abbrev S1024x128 : Shape := ⟨2, ![1024, 128]⟩
abbrev S1x8 : Shape := ⟨2, ![1, 8]⟩
abbrev S1x128 : Shape := ⟨2, ![1, 128]⟩
abbrev S688x688 : Shape := ⟨2, ![688, 688]⟩
abbrev S66048x512 : Shape := ⟨2, ![66048, 512]⟩
abbrev S66048x8 : Shape := ⟨2, ![66048, 8]⟩
abbrev S688x1024 : Shape := ⟨2, ![688, 1024]⟩
abbrev S688x512 : Shape := ⟨2, ![688, 512]⟩
abbrev S688x8 : Shape := ⟨2, ![688, 8]⟩
abbrev S688 : Shape := ⟨1, ![688]⟩
abbrev S688x1 : Shape := ⟨2, ![688, 1]⟩
abbrev S688x128 : Shape := ⟨2, ![688, 128]⟩

abbrev nBuf : Space → Nat
  | .hbm => 42
  | .vmem => 24
  | .smem => 0
  | _ => 0

abbrev bufTy : (tb : Table) → Fin (tcTables nBuf tb) → BufTy
  | .hbm, ⟨0, _⟩ => ⟨S66048x1024, .f32⟩
  | .hbm, ⟨1, _⟩ => ⟨S1024, .f32⟩
  | .hbm, ⟨2, _⟩ => ⟨S1024x6680, .f32⟩
  | .hbm, ⟨3, _⟩ => ⟨S8, .f32⟩
  | .hbm, ⟨4, _⟩ => ⟨S128x1024, .bf16⟩
  | .hbm, ⟨5, _⟩ => ⟨S1x1024, .f32⟩
  | .hbm, ⟨6, _⟩ => ⟨S1x1024, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x8, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .bf16⟩
  | .hbm, ⟨15, _⟩ => ⟨S1024x512, .bf16⟩
  | .hbm, ⟨16, _⟩ => ⟨S1024x512, .bf16⟩
  | .hbm, ⟨17, _⟩ => ⟨S_, .i32⟩
  | .hbm, ⟨18, _⟩ => ⟨S_, .f32⟩
  | .hbm, ⟨19, _⟩ => ⟨S1024x128, .f32⟩
  | .hbm, ⟨20, _⟩ => ⟨S1024x128, .bf16⟩
  | .hbm, ⟨21, _⟩ => ⟨S1x8, .f32⟩
  | .hbm, ⟨22, _⟩ => ⟨S_, .i32⟩
  | .hbm, ⟨23, _⟩ => ⟨S_, .f32⟩
  | .hbm, ⟨24, _⟩ => ⟨S1x128, .f32⟩
  | .hbm, ⟨25, _⟩ => ⟨S_, .bf16⟩
  | .hbm, ⟨26, _⟩ => ⟨S688x688, .bf16⟩
  | .hbm, ⟨27, _⟩ => ⟨S688x688, .i32⟩
  | .hbm, ⟨28, _⟩ => ⟨S_, .i32⟩
  | .hbm, ⟨29, _⟩ => ⟨S688x688, .i32⟩
  | .hbm, ⟨30, _⟩ => ⟨S688x688, .i32⟩
  | .hbm, ⟨31, _⟩ => ⟨S688x688, .i32⟩
  | .hbm, ⟨32, _⟩ => ⟨S688x688, .i1⟩
  | .hbm, ⟨33, _⟩ => ⟨S_, .bf16⟩
  | .hbm, ⟨34, _⟩ => ⟨S688x688, .bf16⟩
  | .hbm, ⟨35, _⟩ => ⟨S688x688, .bf16⟩
  | .hbm, ⟨36, _⟩ => ⟨S66048x512, .bf16⟩
  | .hbm, ⟨37, _⟩ => ⟨S66048x512, .f32⟩
  | .hbm, ⟨38, _⟩ => ⟨S66048x512, .f32⟩
  | .hbm, ⟨39, _⟩ => ⟨S66048x8, .f32⟩
  | .hbm, ⟨40, _⟩ => ⟨S66048x512, .bf16⟩
  | .hbm, ⟨41, _⟩ => ⟨S66048x512, .bf16⟩
  | .local _ .vmem, ⟨0, _⟩ => ⟨S688x1024, .f32⟩
  | .local _ .vmem, ⟨1, _⟩ => ⟨S688x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x128, .bf16⟩
  | .local _ .vmem, ⟨7, _⟩ => ⟨S1x128, .f32⟩
  | .local _ .vmem, ⟨8, _⟩ => ⟨S688x688, .bf16⟩
  | .local _ .vmem, ⟨9, _⟩ => ⟨S128x1024, .bf16⟩
  | .local _ .vmem, ⟨10, _⟩ => ⟨S1x1024, .f32⟩
  | .local _ .vmem, ⟨11, _⟩ => ⟨S688x512, .bf16⟩
  | .local _ .vmem, ⟨12, _⟩ => ⟨S688x512, .bf16⟩
  | .local _ .vmem, ⟨13, _⟩ => ⟨S688x512, .f32⟩
  | .local _ .vmem, ⟨14, _⟩ => ⟨S688x512, .f32⟩
  | .local _ .vmem, ⟨15, _⟩ => ⟨S688x512, .f32⟩
  | .local _ .vmem, ⟨16, _⟩ => ⟨S688x512, .f32⟩
  | .local _ .vmem, ⟨17, _⟩ => ⟨S688x8, .f32⟩
  | .local _ .vmem, ⟨18, _⟩ => ⟨S688x8, .f32⟩
  | .local _ .vmem, ⟨19, _⟩ => ⟨S688x512, .bf16⟩
  | .local _ .vmem, ⟨20, _⟩ => ⟨S688x512, .bf16⟩
  | .local _ .vmem, ⟨21, _⟩ => ⟨S688x512, .bf16⟩
  | .local _ .vmem, ⟨22, _⟩ => ⟨S688x512, .bf16⟩
  | .local _ .vmem, ⟨23, _⟩ => ⟨S1x128, .f32⟩
  | _, _ => ⟨S66048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_call0_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_call1_v0 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_call2_v0 : Ref sig .tc := ⟨.hbm, 27, rfl⟩
abbrev main_call2_c : Ref sig .tc := ⟨.hbm, 28, rfl⟩
abbrev main_call2_v1 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_call2_cst : Ref sig .tc := ⟨.hbm, 33, rfl⟩
abbrev main_call2_v5 : Ref sig .tc := ⟨.hbm, 34, rfl⟩
abbrev main_v15 : Ref sig .tc := ⟨.hbm, 35, rfl⟩
abbrev main_v16_0 : Ref sig .tc := ⟨.hbm, 36, rfl⟩
abbrev main_v16_1 : Ref sig .tc := ⟨.hbm, 37, rfl⟩
abbrev main_v16_2 : Ref sig .tc := ⟨.hbm, 38, rfl⟩
abbrev main_v16_3 : Ref sig .tc := ⟨.hbm, 39, rfl⟩
abbrev main_v16_4 : Ref sig .tc := ⟨.hbm, 40, rfl⟩
abbrev main_v16_5 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S688x688 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S688x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S688x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S688x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S688x8 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S688x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S688x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== FoxProjRefIdeal.lean ====
abbrev S66048x1024 : Shape := ⟨2, ![66048, 1024]⟩
abbrev S1024 : Shape := ⟨1, ![1024]⟩
abbrev S1024x6680 : Shape := ⟨2, ![1024, 6680]⟩
abbrev S8 : Shape := ⟨1, ![8]⟩
abbrev S_ : Shape := ⟨0, ![]⟩
abbrev S66048 : Shape := ⟨1, ![66048]⟩
abbrev S66048x1 : Shape := ⟨2, ![66048, 1]⟩
abbrev S1x1024 : Shape := ⟨2, ![1, 1024]⟩
abbrev S66048x6680 : Shape := ⟨2, ![66048, 6680]⟩
abbrev S66048x512 : Shape := ⟨2, ![66048, 512]⟩
abbrev S66048x8 : Shape := ⟨2, ![66048, 8]⟩
abbrev S1x8 : Shape := ⟨2, ![1, 8]⟩

abbrev nBuf : Space → Nat
  | .hbm => 48
  | .vmem => 0
  | .smem => 0
  | _ => 0

abbrev bufTy : (tb : Table) → Fin (tcTables nBuf tb) → BufTy
  | .hbm, ⟨0, _⟩ => ⟨S66048x1024, .f32⟩
  | .hbm, ⟨1, _⟩ => ⟨S1024, .f32⟩
  | .hbm, ⟨2, _⟩ => ⟨S1024x6680, .f32⟩
  | .hbm, ⟨3, _⟩ => ⟨S8, .f32⟩
  | .hbm, ⟨4, _⟩ => ⟨S66048x1024, .f32⟩
  | .hbm, ⟨5, _⟩ => ⟨S_, .f32⟩
  | .hbm, ⟨6, _⟩ => ⟨S66048, .f32⟩
  | .hbm, ⟨7, _⟩ => ⟨S66048x1, .f32⟩
  | .hbm, ⟨8, _⟩ => ⟨S_, .f32⟩
  | .hbm, ⟨9, _⟩ => ⟨S66048x1, .f32⟩
  | .hbm, ⟨10, _⟩ => ⟨S66048x1, .f32⟩
  | .hbm, ⟨11, _⟩ => ⟨S_, .f32⟩
  | .hbm, ⟨12, _⟩ => ⟨S66048x1, .f32⟩
  | .hbm, ⟨13, _⟩ => ⟨S66048x1, .f32⟩
  | .hbm, ⟨14, _⟩ => ⟨S66048x1, .f32⟩
  | .hbm, ⟨15, _⟩ => ⟨S66048x1024, .f32⟩
  | .hbm, ⟨16, _⟩ => ⟨S66048x1024, .f32⟩
  | .hbm, ⟨17, _⟩ => ⟨S1x1024, .f32⟩
  | .hbm, ⟨18, _⟩ => ⟨S66048x1024, .f32⟩
  | .hbm, ⟨19, _⟩ => ⟨S66048x1024, .f32⟩
  | .hbm, ⟨20, _⟩ => ⟨S66048x6680, .f32⟩
  | .hbm, ⟨21, _⟩ => ⟨S66048x512, .f32⟩
  | .hbm, ⟨22, _⟩ => ⟨S66048x512, .f32⟩
  | .hbm, ⟨23, _⟩ => ⟨S66048x512, .f32⟩
  | .hbm, ⟨24, _⟩ => ⟨S66048x8, .f32⟩
  | .hbm, ⟨25, _⟩ => ⟨S1x8, .f32⟩
  | .hbm, ⟨26, _⟩ => ⟨S66048x8, .f32⟩
  | .hbm, ⟨27, _⟩ => ⟨S66048x8, .f32⟩
  | .hbm, ⟨28, _⟩ => ⟨S66048x8, .f32⟩
  | .hbm, ⟨29, _⟩ => ⟨S_, .f32⟩
  | .hbm, ⟨30, _⟩ => ⟨S66048x8, .f32⟩
  | .hbm, ⟨31, _⟩ => ⟨S66048x8, .f32⟩
  | .hbm, ⟨32, _⟩ => ⟨S66048x8, .f32⟩
  | .hbm, ⟨33, _⟩ => ⟨S66048x8, .f32⟩
  | .hbm, ⟨34, _⟩ => ⟨S66048x8, .i1⟩
  | .hbm, ⟨35, _⟩ => ⟨S66048x8, .f32⟩
  | .hbm, ⟨36, _⟩ => ⟨S66048x8, .f32⟩
  | .hbm, ⟨37, _⟩ => ⟨S66048x8, .f32⟩
  | .hbm, ⟨38, _⟩ => ⟨S66048x8, .f32⟩
  | .hbm, ⟨39, _⟩ => ⟨S66048x8, .f32⟩
  | .hbm, ⟨40, _⟩ => ⟨S66048x8, .f32⟩
  | .hbm, ⟨41, _⟩ => ⟨S66048x8, .f32⟩
  | .hbm, ⟨42, _⟩ => ⟨S66048x8, .f32⟩
  | .hbm, ⟨43, _⟩ => ⟨S66048x8, .f32⟩
  | .hbm, ⟨44, _⟩ => ⟨S_, .f32⟩
  | .hbm, ⟨45, _⟩ => ⟨S66048x512, .f32⟩
  | .hbm, ⟨46, _⟩ => ⟨S66048x512, .f32⟩
  | .hbm, ⟨47, _⟩ => ⟨S66048x512, .bf16⟩
  | _, _ => ⟨S66048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_v0 : Ref sig .tc := ⟨.hbm, 28, rfl⟩
abbrev main_call0_call0_cst : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_v7 : Ref sig .tc := ⟨.hbm, 37, rfl⟩
abbrev main_call0_call0_v8 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_v1 : Ref sig .tc := ⟨.hbm, 42, rfl⟩
abbrev main_v21 : Ref sig .tc := ⟨.hbm, 43, rfl⟩
abbrev main_cst_2 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩

abbrev nD : Nat := 1
abbrev τ : Topo := Topo.v7x

variable {F : FTy → Type} [FloatOps F]
-- ==== FoxStep.lean ====
abbrev S128x1024 : Shape := ⟨2, ![128, 1024]⟩
abbrev S1024 : Shape := ⟨1, ![1024]⟩
abbrev S1024x6680 : Shape := ⟨2, ![1024, 6680]⟩
abbrev S8 : Shape := ⟨1, ![8]⟩
abbrev S1x1024 : Shape := ⟨2, ![1, 1024]⟩
abbrev S1024x512 : Shape := ⟨2, ![1024, 512]⟩
abbrev S1024x8 : Shape := ⟨2, ![1024, 8]⟩
abbrev S_ : Shape := ⟨0, ![]⟩
abbrev S1024x128 : Shape := ⟨2, ![1024, 128]⟩
abbrev S1x8 : Shape := ⟨2, ![1, 8]⟩
abbrev S1x128 : Shape := ⟨2, ![1, 128]⟩
abbrev S128x512 : Shape := ⟨2, ![128, 512]⟩
abbrev S128x8 : Shape := ⟨2, ![128, 8]⟩
abbrev S128 : Shape := ⟨1, ![128]⟩
abbrev S128x1 : Shape := ⟨2, ![128, 1]⟩
abbrev S128x128 : Shape := ⟨2, ![128, 128]⟩

abbrev nBuf : Space → Nat
  | .hbm => 27
  | .vmem => 11
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x6680, .f32⟩
  | .hbm, ⟨3, _⟩ => ⟨S8, .f32⟩
  | .hbm, ⟨4, _⟩ => ⟨S1x1024, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x8, .f32⟩
  | .hbm, ⟨9, _⟩ => ⟨S_, .f32⟩
  | .hbm, ⟨10, _⟩ => ⟨S1024x512, .f32⟩
  | .hbm, ⟨11, _⟩ => ⟨S1024x512, .f32⟩
  | .hbm, ⟨12, _⟩ => ⟨S1024x512, .bf16⟩
  | .hbm, ⟨13, _⟩ => ⟨S1024x512, .bf16⟩
  | .hbm, ⟨14, _⟩ => ⟨S1024x512, .bf16⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S1024x128, .bf16⟩
  | .hbm, ⟨19, _⟩ => ⟨S1x8, .f32⟩
  | .hbm, ⟨20, _⟩ => ⟨S_, .i32⟩
  | .hbm, ⟨21, _⟩ => ⟨S_, .f32⟩
  | .hbm, ⟨22, _⟩ => ⟨S1x128, .f32⟩
  | .hbm, ⟨23, _⟩ => ⟨S128x512, .f32⟩
  | .hbm, ⟨24, _⟩ => ⟨S128x512, .f32⟩
  | .hbm, ⟨25, _⟩ => ⟨S128x512, .f32⟩
  | .hbm, ⟨26, _⟩ => ⟨S128x8, .f32⟩
  | .local _ .vmem, ⟨0, _⟩ => ⟨S128x1024, .f32⟩
  | .local _ .vmem, ⟨1, _⟩ => ⟨S1x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x128, .bf16⟩
  | .local _ .vmem, ⟨6, _⟩ => ⟨S1x128, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x8, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_call0_v0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_call1_v0 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v14_2 : Ref sig .tc := ⟨.hbm, 25, rfl⟩
abbrev main_v14_3 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== FoxStepRefIdeal.lean ====
abbrev S128x1024 : Shape := ⟨2, ![128, 1024]⟩
abbrev S1024 : Shape := ⟨1, ![1024]⟩
abbrev S1024x6680 : Shape := ⟨2, ![1024, 6680]⟩
abbrev S8 : Shape := ⟨1, ![8]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x6680 : Shape := ⟨2, ![128, 6680]⟩
abbrev S128x512 : Shape := ⟨2, ![128, 512]⟩
abbrev S128x8 : Shape := ⟨2, ![128, 8]⟩
abbrev S1x8 : Shape := ⟨2, ![1, 8]⟩

abbrev nBuf : Space → Nat
  | .hbm => 47
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x6680, .f32⟩
  | .hbm, ⟨3, _⟩ => ⟨S8, .f32⟩
  | .hbm, ⟨4, _⟩ => ⟨S128x1024, .f32⟩
  | .hbm, ⟨5, _⟩ => ⟨S_, .f32⟩
  | .hbm, ⟨6, _⟩ => ⟨S128, .f32⟩
  | .hbm, ⟨7, _⟩ => ⟨S128x1, .f32⟩
  | .hbm, ⟨8, _⟩ => ⟨S_, .f32⟩
  | .hbm, ⟨9, _⟩ => ⟨S128x1, .f32⟩
  | .hbm, ⟨10, _⟩ => ⟨S128x1, .f32⟩
  | .hbm, ⟨11, _⟩ => ⟨S_, .f32⟩
  | .hbm, ⟨12, _⟩ => ⟨S128x1, .f32⟩
  | .hbm, ⟨13, _⟩ => ⟨S128x1, .f32⟩
  | .hbm, ⟨14, _⟩ => ⟨S128x1, .f32⟩
  | .hbm, ⟨15, _⟩ => ⟨S128x1024, .f32⟩
  | .hbm, ⟨16, _⟩ => ⟨S128x1024, .f32⟩
  | .hbm, ⟨17, _⟩ => ⟨S1x1024, .f32⟩
  | .hbm, ⟨18, _⟩ => ⟨S128x1024, .f32⟩
  | .hbm, ⟨19, _⟩ => ⟨S128x1024, .f32⟩
  | .hbm, ⟨20, _⟩ => ⟨S128x6680, .f32⟩
  | .hbm, ⟨21, _⟩ => ⟨S128x512, .f32⟩
  | .hbm, ⟨22, _⟩ => ⟨S128x512, .f32⟩
  | .hbm, ⟨23, _⟩ => ⟨S128x512, .f32⟩
  | .hbm, ⟨24, _⟩ => ⟨S128x8, .f32⟩
  | .hbm, ⟨25, _⟩ => ⟨S1x8, .f32⟩
  | .hbm, ⟨26, _⟩ => ⟨S128x8, .f32⟩
  | .hbm, ⟨27, _⟩ => ⟨S128x8, .f32⟩
  | .hbm, ⟨28, _⟩ => ⟨S128x8, .f32⟩
  | .hbm, ⟨29, _⟩ => ⟨S_, .f32⟩
  | .hbm, ⟨30, _⟩ => ⟨S128x8, .f32⟩
  | .hbm, ⟨31, _⟩ => ⟨S128x8, .f32⟩
  | .hbm, ⟨32, _⟩ => ⟨S128x8, .f32⟩
  | .hbm, ⟨33, _⟩ => ⟨S128x8, .f32⟩
  | .hbm, ⟨34, _⟩ => ⟨S128x8, .i1⟩
  | .hbm, ⟨35, _⟩ => ⟨S128x8, .f32⟩
  | .hbm, ⟨36, _⟩ => ⟨S128x8, .f32⟩
  | .hbm, ⟨37, _⟩ => ⟨S128x8, .f32⟩
  | .hbm, ⟨38, _⟩ => ⟨S128x8, .f32⟩
  | .hbm, ⟨39, _⟩ => ⟨S128x8, .f32⟩
  | .hbm, ⟨40, _⟩ => ⟨S128x8, .f32⟩
  | .hbm, ⟨41, _⟩ => ⟨S128x8, .f32⟩
  | .hbm, ⟨42, _⟩ => ⟨S128x8, .f32⟩
  | .hbm, ⟨43, _⟩ => ⟨S128x8, .f32⟩
  | .hbm, ⟨44, _⟩ => ⟨S_, .f32⟩
  | .hbm, ⟨45, _⟩ => ⟨S128x512, .f32⟩
  | .hbm, ⟨46, _⟩ => ⟨S128x512, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_v0 : Ref sig .tc := ⟨.hbm, 28, rfl⟩
abbrev main_call0_call0_cst : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_v7 : Ref sig .tc := ⟨.hbm, 37, rfl⟩
abbrev main_call0_call0_v8 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_v1 : Ref sig .tc := ⟨.hbm, 42, rfl⟩
abbrev main_v21 : Ref sig .tc := ⟨.hbm, 43, rfl⟩
abbrev main_cst_2 : Ref sig .tc := ⟨.hbm, 44, rfl⟩
abbrev main_v22 : Ref sig .tc := ⟨.hbm, 45, rfl⟩
abbrev main_v23 : Ref sig .tc := ⟨.hbm, 46, rfl⟩

abbrev nD : Nat := 1
abbrev τ : Topo := Topo.v7x

variable {F : FTy → Type} [FloatOps F]
-- ==== GlaStep.lean ====
abbrev S128x512 : Shape := ⟨2, ![128, 512]⟩
abbrev S128x1024 : Shape := ⟨2, ![128, 1024]⟩
abbrev S128x4x128x256 : Shape := ⟨4, ![128, 4, 128, 256]⟩
abbrev S256 : Shape := ⟨1, ![256]⟩
abbrev S128x1x512 : Shape := ⟨3, ![128, 1, 512]⟩
abbrev S128x1x1024 : Shape := ⟨3, ![128, 1, 1024]⟩
abbrev S1x256 : Shape := ⟨2, ![1, 256]⟩
abbrev S4x1x512 : Shape := ⟨3, ![4, 1, 512]⟩
abbrev S4x1x1024 : Shape := ⟨3, ![4, 1, 1024]⟩
abbrev S4x4x128x256 : Shape := ⟨4, ![4, 4, 128, 256]⟩
abbrev S128x128 : Shape := ⟨2, ![128, 128]⟩
abbrev S1x1x128x256 : Shape := ⟨4, ![1, 1, 128, 256]⟩
abbrev S128x256 : Shape := ⟨2, ![128, 256]⟩
abbrev S1x1x128 : Shape := ⟨3, ![1, 1, 128]⟩
abbrev S1x128 : Shape := ⟨2, ![1, 128]⟩
abbrev S128 : Shape := ⟨1, ![128]⟩
abbrev S128x1 : Shape := ⟨2, ![128, 1]⟩
abbrev S1x1x256 : Shape := ⟨3, ![1, 1, 256]⟩
abbrev S1 : Shape := ⟨1, ![1]⟩
abbrev S1x1 : Shape := ⟨2, ![1, 1]⟩

abbrev nBuf : Space → Nat
  | .hbm => 13
  | .vmem => 15
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x512, .f32⟩
  | .hbm, ⟨3, _⟩ => ⟨S128x1024, .f32⟩
  | .hbm, ⟨4, _⟩ => ⟨S128x4x128x256, .f32⟩
  | .hbm, ⟨5, _⟩ => ⟨S256, .f32⟩
  | .hbm, ⟨6, _⟩ => ⟨S128x1x512, .f32⟩
  | .hbm, ⟨7, _⟩ => ⟨S128x1x512, .f32⟩
  | .hbm, ⟨8, _⟩ => ⟨S128x1x512, .f32⟩
  | .hbm, ⟨9, _⟩ => ⟨S128x1x1024, .f32⟩
  | .hbm, ⟨10, _⟩ => ⟨S1x256, .f32⟩
  | .hbm, ⟨11, _⟩ => ⟨S128x1x1024, .f32⟩
  | .hbm, ⟨12, _⟩ => ⟨S128x4x128x256, .f32⟩
  | .local _ .vmem, ⟨0, _⟩ => ⟨S4x1x512, .f32⟩
  | .local _ .vmem, ⟨1, _⟩ => ⟨S4x1x512, .f32⟩
  | .local _ .vmem, ⟨2, _⟩ => ⟨S4x1x512, .f32⟩
  | .local _ .vmem, ⟨3, _⟩ => ⟨S4x1x512, .f32⟩
  | .local _ .vmem, ⟨4, _⟩ => ⟨S4x1x512, .f32⟩
  | .local _ .vmem, ⟨5, _⟩ => ⟨S4x1x512, .f32⟩
  | .local _ .vmem, ⟨6, _⟩ => ⟨S4x1x1024, .f32⟩
  | .local _ .vmem, ⟨7, _⟩ => ⟨S4x1x1024, .f32⟩
  | .local _ .vmem, ⟨8, _⟩ => ⟨S4x4x128x256, .f32⟩
  | .local _ .vmem, ⟨9, _⟩ => ⟨S4x4x128x256, .f32⟩
  | .local _ .vmem, ⟨10, _⟩ => ⟨S1x256, .f32⟩
  | .local _ .vmem, ⟨11, _⟩ => ⟨S4x1x1024, .f32⟩
  | .local _ .vmem, ⟨12, _⟩ => ⟨S4x1x1024, .f32⟩
  | .local _ .vmem, ⟨13, _⟩ => ⟨S4x4x128x256, .f32⟩
  | .local _ .vmem, ⟨14, _⟩ => ⟨S4x4x128x256, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x4x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x4x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GlaStepRefIdeal.lean ====
abbrev S128x512 : Shape := ⟨2, ![128, 512]⟩
abbrev S128x1024 : Shape := ⟨2, ![128, 1024]⟩
abbrev S128x4x128x256 : Shape := ⟨4, ![128, 4, 128, 256]⟩
abbrev S256 : Shape := ⟨1, ![256]⟩
abbrev S128x4x128 : Shape := ⟨3, ![128, 4, 128]⟩
abbrev S_ : Shape := ⟨0, ![]⟩
abbrev S128x4x256 : Shape := ⟨3, ![128, 4, 256]⟩
abbrev S128x4x128x1 : Shape := ⟨4, ![128, 4, 128, 1]⟩
abbrev S128x4x1x256 : Shape := ⟨4, ![128, 4, 1, 256]⟩
abbrev S128x4 : Shape := ⟨2, ![128, 4]⟩
abbrev S128x4x1 : Shape := ⟨3, ![128, 4, 1]⟩
abbrev S1x1x256 : Shape := ⟨3, ![1, 1, 256]⟩
abbrev S128x1x1024 : Shape := ⟨3, ![128, 1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x512, .f32⟩
  | .hbm, ⟨3, _⟩ => ⟨S128x1024, .f32⟩
  | .hbm, ⟨4, _⟩ => ⟨S128x4x128x256, .f32⟩
  | .hbm, ⟨5, _⟩ => ⟨S256, .f32⟩
  | .hbm, ⟨6, _⟩ => ⟨S128x4x128, .f32⟩
  | .hbm, ⟨7, _⟩ => ⟨S_, .f32⟩
  | .hbm, ⟨8, _⟩ => ⟨S128x4x128, .f32⟩
  | .hbm, ⟨9, _⟩ => ⟨S128x4x128, .f32⟩
  | .hbm, ⟨10, _⟩ => ⟨S128x4x128, .f32⟩
  | .hbm, ⟨11, _⟩ => ⟨S128x4x128, .f32⟩
  | .hbm, ⟨12, _⟩ => ⟨S128x4x256, .f32⟩
  | .hbm, ⟨13, _⟩ => ⟨S128x4x128, .f32⟩
  | .hbm, ⟨14, _⟩ => ⟨S128x4x128x1, .f32⟩
  | .hbm, ⟨15, _⟩ => ⟨S128x4x128x256, .f32⟩
  | .hbm, ⟨16, _⟩ => ⟨S128x4x128x256, .f32⟩
  | .hbm, ⟨17, _⟩ => ⟨S128x4x128x1, .f32⟩
  | .hbm, ⟨18, _⟩ => ⟨S128x4x1x256, .f32⟩
  | .hbm, ⟨19, _⟩ => ⟨S128x4x128x256, .f32⟩
  | .hbm, ⟨20, _⟩ => ⟨S128x4x128x256, .f32⟩
  | .hbm, ⟨21, _⟩ => ⟨S128x4x128x256, .f32⟩
  | .hbm, ⟨22, _⟩ => ⟨S128x4x128x256, .f32⟩
  | .hbm, ⟨23, _⟩ => ⟨S128x4x256, .f32⟩
  | .hbm, ⟨24, _⟩ => ⟨S128x4x256, .f32⟩
  | .hbm, ⟨25, _⟩ => ⟨S_, .f32⟩
  | .hbm, ⟨26, _⟩ => ⟨S128x4, .f32⟩
  | .hbm, ⟨27, _⟩ => ⟨S128x4x1, .f32⟩
  | .hbm, ⟨28, _⟩ => ⟨S_, .f32⟩
  | .hbm, ⟨29, _⟩ => ⟨S128x4x1, .f32⟩
  | .hbm, ⟨30, _⟩ => ⟨S128x4x1, .f32⟩
  | .hbm, ⟨31, _⟩ => ⟨S_, .f32⟩
  | .hbm, ⟨32, _⟩ => ⟨S128x4x1, .f32⟩
  | .hbm, ⟨33, _⟩ => ⟨S128x4x1, .f32⟩
  | .hbm, ⟨34, _⟩ => ⟨S128x4x1, .f32⟩
  | .hbm, ⟨35, _⟩ => ⟨S128x4x256, .f32⟩
  | .hbm, ⟨36, _⟩ => ⟨S128x4x256, .f32⟩
  | .hbm, ⟨37, _⟩ => ⟨S1x1x256, .f32⟩
  | .hbm, ⟨38, _⟩ => ⟨S128x4x256, .f32⟩
  | .hbm, ⟨39, _⟩ => ⟨S128x4x256, .f32⟩
  | .hbm, ⟨40, _⟩ => ⟨S128x1x1024, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== FfnStep.lean ====
abbrev S128x1024 : Shape := ⟨2, ![128, 1024]⟩
abbrev S128x2x5632 : Shape := ⟨3, ![128, 2, 5632]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S1x5632 : Shape := ⟨2, ![1, 5632]⟩
abbrev S1x1024 : Shape := ⟨2, ![1, 1024]⟩
abbrev S128x1x5632 : Shape := ⟨3, ![128, 1, 5632]⟩
abbrev S128x5632 : Shape := ⟨2, ![128, 5632]⟩
abbrev S128x2816 : Shape := ⟨2, ![128, 2816]⟩
abbrev S1024x256 : Shape := ⟨2, ![1024, 256]⟩
abbrev S128x256 : Shape := ⟨2, ![128, 256]⟩
abbrev S1x256 : Shape := ⟨2, ![1, 256]⟩
abbrev S128x1536 : Shape := ⟨2, ![128, 1536]⟩
abbrev S1536x1024 : Shape := ⟨2, ![1536, 1024]⟩
abbrev S128x1280 : Shape := ⟨2, ![128, 1280]⟩
abbrev S1280x1024 : Shape := ⟨2, ![1280, 1024]⟩
abbrev S128 : Shape := ⟨1, ![128]⟩
abbrev S128x1 : Shape := ⟨2, ![128, 1]⟩

abbrev nBuf : Space → Nat
  | .hbm => 18
  | .vmem => 12
  | .smem => 0
  | _ => 0

abbrev bufTy : (tb : Table) → Fin (tcTables nBuf tb) → BufTy
  | .hbm, ⟨0, _⟩ => ⟨S128x1024, .bf16⟩
  | .hbm, ⟨1, _⟩ => ⟨S128x1024, .f32⟩
  | .hbm, ⟨2, _⟩ => ⟨S128x2x5632, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S1024, .f32⟩
  | .hbm, ⟨8, _⟩ => ⟨S1024x5632, .bf16⟩
  | .hbm, ⟨9, _⟩ => ⟨S1x5632, .f32⟩
  | .hbm, ⟨10, _⟩ => ⟨S2816x1024, .bf16⟩
  | .hbm, ⟨11, _⟩ => ⟨S1x1024, .f32⟩
  | .hbm, ⟨12, _⟩ => ⟨S128x1x5632, .f32⟩
  | .hbm, ⟨13, _⟩ => ⟨S128x5632, .f32⟩
  | .hbm, ⟨14, _⟩ => ⟨S128x1x5632, .f32⟩
  | .hbm, ⟨15, _⟩ => ⟨S128x5632, .f32⟩
  | .hbm, ⟨16, _⟩ => ⟨S128x1024, .f32⟩
  | .hbm, ⟨17, _⟩ => ⟨S128x5632, .f32⟩
  | .local _ .vmem, ⟨0, _⟩ => ⟨S128x1024, .bf16⟩
  | .local _ .vmem, ⟨1, _⟩ => ⟨S128x1024, .f32⟩
  | .local _ .vmem, ⟨2, _⟩ => ⟨S1024x5632, .bf16⟩
  | .local _ .vmem, ⟨3, _⟩ => ⟨S3x5632, .f32⟩
  | .local _ .vmem, ⟨4, _⟩ => ⟨S1x5632, .f32⟩
  | .local _ .vmem, ⟨5, _⟩ => ⟨S2816x1024, .bf16⟩
  | .local _ .vmem, ⟨6, _⟩ => ⟨S1x1024, .f32⟩
  | .local _ .vmem, ⟨7, _⟩ => ⟨S128x5632, .f32⟩
  | .local _ .vmem, ⟨8, _⟩ => ⟨S128x5632, .f32⟩
  | .local _ .vmem, ⟨9, _⟩ => ⟨S128x1024, .f32⟩
  | .local _ .vmem, ⟨10, _⟩ => ⟨S128x5632, .f32⟩
  | .local _ .vmem, ⟨11, _⟩ => ⟨S128x2816, .bf16⟩
  | _, _ => ⟨S128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x5632 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== FfnStepRefIdeal.lean ====
abbrev S128x1024 : Shape := ⟨2, ![128, 1024]⟩
abbrev S128x2x5632 : Shape := ⟨3, ![128, 2, 5632]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S128x1x1024 : Shape := ⟨3, ![128, 1, 1024]⟩
abbrev S128x1x5632 : Shape := ⟨3, ![128, 1, 5632]⟩
abbrev S128x3x5632 : Shape := ⟨3, ![128, 3, 5632]⟩
abbrev S1x5632 : Shape := ⟨2, ![1, 5632]⟩
abbrev S1x1x5632 : Shape := ⟨3, ![1, 1, 5632]⟩
abbrev S128x1x2816 : Shape := ⟨3, ![128, 1, 2816]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x5632 : Shape := ⟨2, ![128, 5632]⟩

abbrev nBuf : Space → Nat
  | .hbm => 76
  | .vmem => 0
  | .smem => 0
  | _ => 0

abbrev bufTy : (tb : Table) → Fin (tcTables nBuf tb) → BufTy
  | .hbm, ⟨0, _⟩ => ⟨S128x1024, .bf16⟩
  | .hbm, ⟨1, _⟩ => ⟨S128x1024, .f32⟩
  | .hbm, ⟨2, _⟩ => ⟨S128x2x5632, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S1024, .f32⟩
  | .hbm, ⟨8, _⟩ => ⟨S128x1024, .f32⟩
  | .hbm, ⟨9, _⟩ => ⟨S128x1x1024, .f32⟩
  | .hbm, ⟨10, _⟩ => ⟨S128x1x5632, .f32⟩
  | .hbm, ⟨11, _⟩ => ⟨S128x3x5632, .f32⟩
  | .hbm, ⟨12, _⟩ => ⟨S128x1x5632, .f32⟩
  | .hbm, ⟨13, _⟩ => ⟨S1x5632, .f32⟩
  | .hbm, ⟨14, _⟩ => ⟨S5632, .f32⟩
  | .hbm, ⟨15, _⟩ => ⟨S1x1x5632, .f32⟩
  | .hbm, ⟨16, _⟩ => ⟨S128x1x5632, .f32⟩
  | .hbm, ⟨17, _⟩ => ⟨S128x1x5632, .f32⟩
  | .hbm, ⟨18, _⟩ => ⟨S1x1x5632, .f32⟩
  | .hbm, ⟨19, _⟩ => ⟨S128x1x5632, .f32⟩
  | .hbm, ⟨20, _⟩ => ⟨S128x1x5632, .f32⟩
  | .hbm, ⟨21, _⟩ => ⟨S128x1x5632, .f32⟩
  | .hbm, ⟨22, _⟩ => ⟨S1x5632, .f32⟩
  | .hbm, ⟨23, _⟩ => ⟨S5632, .f32⟩
  | .hbm, ⟨24, _⟩ => ⟨S1x1x5632, .f32⟩
  | .hbm, ⟨25, _⟩ => ⟨S128x1x5632, .f32⟩
  | .hbm, ⟨26, _⟩ => ⟨S128x1x5632, .f32⟩
  | .hbm, ⟨27, _⟩ => ⟨S128x1x5632, .f32⟩
  | .hbm, ⟨28, _⟩ => ⟨S128x1x5632, .f32⟩
  | .hbm, ⟨29, _⟩ => ⟨S1x5632, .f32⟩
  | .hbm, ⟨30, _⟩ => ⟨S5632, .f32⟩
  | .hbm, ⟨31, _⟩ => ⟨S1x1x5632, .f32⟩
  | .hbm, ⟨32, _⟩ => ⟨S128x1x5632, .f32⟩
  | .hbm, ⟨33, _⟩ => ⟨S128x1x5632, .f32⟩
  | .hbm, ⟨34, _⟩ => ⟨S128x1x5632, .f32⟩
  | .hbm, ⟨35, _⟩ => ⟨S128x1x2816, .f32⟩
  | .hbm, ⟨36, _⟩ => ⟨S128x1x2816, .f32⟩
  | .hbm, ⟨37, _⟩ => ⟨S128x1x2816, .f32⟩
  | .hbm, ⟨38, _⟩ => ⟨S128x1x2816, .f32⟩
  | .hbm, ⟨39, _⟩ => ⟨S_, .f32⟩
  | .hbm, ⟨40, _⟩ => ⟨S128x1x2816, .f32⟩
  | .hbm, ⟨41, _⟩ => ⟨S128x1x2816, .f32⟩
  | .hbm, ⟨42, _⟩ => ⟨S128x1x2816, .f32⟩
  | .hbm, ⟨43, _⟩ => ⟨S_, .f32⟩
  | .hbm, ⟨44, _⟩ => ⟨S128x1x2816, .f32⟩
  | .hbm, ⟨45, _⟩ => ⟨S128x1x2816, .f32⟩
  | .hbm, ⟨46, _⟩ => ⟨S128x1x2816, .f32⟩
  | .hbm, ⟨47, _⟩ => ⟨S_, .f32⟩
  | .hbm, ⟨48, _⟩ => ⟨S128x1x2816, .f32⟩
  | .hbm, ⟨49, _⟩ => ⟨S128x1x2816, .f32⟩
  | .hbm, ⟨50, _⟩ => ⟨S_, .f32⟩
  | .hbm, ⟨51, _⟩ => ⟨S128x1x2816, .f32⟩
  | .hbm, ⟨52, _⟩ => ⟨S128x1x2816, .f32⟩
  | .hbm, ⟨53, _⟩ => ⟨S128x1x2816, .f32⟩
  | .hbm, ⟨54, _⟩ => ⟨S128x1x2816, .f32⟩
  | .hbm, ⟨55, _⟩ => ⟨S128x1x1024, .f32⟩
  | .hbm, ⟨56, _⟩ => ⟨S128x1x1024, .f32⟩
  | .hbm, ⟨57, _⟩ => ⟨S_, .f32⟩
  | .hbm, ⟨58, _⟩ => ⟨S128x1, .f32⟩
  | .hbm, ⟨59, _⟩ => ⟨S128x1x1, .f32⟩
  | .hbm, ⟨60, _⟩ => ⟨S_, .f32⟩
  | .hbm, ⟨61, _⟩ => ⟨S128x1x1, .f32⟩
  | .hbm, ⟨62, _⟩ => ⟨S128x1x1, .f32⟩
  | .hbm, ⟨63, _⟩ => ⟨S_, .f32⟩
  | .hbm, ⟨64, _⟩ => ⟨S128x1x1, .f32⟩
  | .hbm, ⟨65, _⟩ => ⟨S128x1x1, .f32⟩
  | .hbm, ⟨66, _⟩ => ⟨S128x1x1, .f32⟩
  | .hbm, ⟨67, _⟩ => ⟨S128x1x1024, .f32⟩
  | .hbm, ⟨68, _⟩ => ⟨S128x1x1024, .f32⟩
  | .hbm, ⟨69, _⟩ => ⟨S1x1x1024, .f32⟩
  | .hbm, ⟨70, _⟩ => ⟨S128x1x1024, .f32⟩
  | .hbm, ⟨71, _⟩ => ⟨S128x1x1024, .f32⟩
  | .hbm, ⟨72, _⟩ => ⟨S128x1024, .f32⟩
  | .hbm, ⟨73, _⟩ => ⟨S128x1024, .f32⟩
  | .hbm, ⟨74, _⟩ => ⟨S128x1x5632, .f32⟩
  | .hbm, ⟨75, _⟩ => ⟨S128x5632, .f32⟩
  | _, _ => ⟨S128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_0 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_1 : Ref sig .tc := ⟨.hbm, 47, rfl⟩
abbrev main_v37 : Ref sig .tc := ⟨.hbm, 48, rfl⟩
abbrev main_v38 : Ref sig .tc := ⟨.hbm, 49, rfl⟩
abbrev main_cst_2 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_3 : Ref sig .tc := ⟨.hbm, 57, rfl⟩
abbrev main_v45 : Ref sig .tc := ⟨.hbm, 58, rfl⟩
abbrev main_v46 : Ref sig .tc := ⟨.hbm, 59, rfl⟩
abbrev main_cst_4 : Ref sig .tc := ⟨.hbm, 60, rfl⟩
abbrev main_v47 : Ref sig .tc := ⟨.hbm, 61, rfl⟩
abbrev main_v48 : Ref sig .tc := ⟨.hbm, 62, rfl⟩
abbrev main_cst_5 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩

abbrev nD : Nat := 1
abbrev τ : Topo := Topo.v7x

variable {F : FTy → Type} [FloatOps F]
-- ==== Proof.Gla.Run.lean ====
module

public import proofs.«01_k».proof.Proof.Gen.GlaPromptIdeal.Frame.Runs

@[expose] public section

set_option maxRecDepth 16384

noncomputable section

namespace Cert.GlaPromptIdeal.Own

open Cert.GlaPromptIdeal Cert.GlaPromptIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One trip's pieces do not depend on what the output buffer held. -/
theorem trip_irrel (𝒱 : Variants) (c : Dev nD) (bd : Option 𝒱.V) (i : grid0.Coords) (arg1 : Memref sig .tc .vmem S1x2064x512 .bf16) (harg1 : arg1.IsWhole) (arg2 : Memref sig .tc .vmem S1x2064x512 .bf16) (harg2 : arg2.IsWhole) (arg3 : Memref sig .tc .vmem S1x2064x512 .f32) (harg3 : arg3.IsWhole) (arg4 : Memref sig .tc .vmem S1x2064x1024 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x2064x1024 .bf16) (harg7 : arg7.IsWhole) (arg8 : Memref sig .tc .vmem S1x4x128x256 .f32) (harg8 : arg8.IsWhole) (arg9 : Memref sig .tc .vmem S4x128x256 .f32) (harg9 : arg9.IsWhole) (v0 : Vec F S1x256 .f32) (v596 : FVec F S128x256 .bf16) (v674 : IVec S128x128 32) (v704 : FVec F S128x128 .bf16) (v713 : FVec F S128x128 .f32) (v715 : FVec F S128x128 .f32) (v720 : FVec F S128x256 .f32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg6 : BufTy.Contents (Elt F) arg6.view.ty) (k : Fin k0_t1_loop.trips) (f f' : BufTy.Contents (Elt F) arg7.view.ty) (f9 : BufTy.Contents (Elt F) arg9.view.ty) :
    tripL_k0_t1 𝒱 c bd i arg1 harg1 arg2 harg2 arg3 harg3 arg4 harg4 arg5 harg5 arg6 harg6 arg7 harg7 arg8 harg8 arg9 harg9 v0 v596 v674 v704 v713 v715 v720 X_arg1 X_arg2 X_arg3 X_arg4 X_arg6 k f f9 = tripL_k0_t1 𝒱 c bd i arg1 harg1 arg2 harg2 arg3 harg3 arg4 harg4 arg5 harg5 arg6 harg6 arg7 harg7 arg8 harg8 arg9 harg9 v0 v596 v674 v704 v713 v715 v720 X_arg1 X_arg2 X_arg3 X_arg4 X_arg6 k f' f9 := by
  unfold tripL_k0_t1 trip_k0_t1
  rfl

/-- So neither do the loop's. -/
theorem pb_irrel (𝒱 : Variants) (c : Dev nD) (bd : Option 𝒱.V) (i : grid0.Coords) (arg1 : Memref sig .tc .vmem S1x2064x512 .bf16) (harg1 : arg1.IsWhole) (arg2 : Memref sig .tc .vmem S1x2064x512 .bf16) (harg2 : arg2.IsWhole) (arg3 : Memref sig .tc .vmem S1x2064x512 .f32) (harg3 : arg3.IsWhole) (arg4 : Memref sig .tc .vmem S1x2064x1024 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x2064x1024 .bf16) (harg7 : arg7.IsWhole) (arg8 : Memref sig .tc .vmem S1x4x128x256 .f32) (harg8 : arg8.IsWhole) (arg9 : Memref sig .tc .vmem S4x128x256 .f32) (harg9 : arg9.IsWhole) (v0 : Vec F S1x256 .f32) (v596 : FVec F S128x256 .bf16) (v674 : IVec S128x128 32) (v704 : FVec F S128x128 .bf16) (v713 : FVec F S128x128 .f32) (v715 : FVec F S128x128 .f32) (v720 : FVec F S128x256 .f32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg6 : BufTy.Contents (Elt F) arg6.view.ty) (G G' : BufTy.Contents (Elt F) arg7.view.ty) (G9 : BufTy.Contents (Elt F) arg9.view.ty) :
    ∀ n : ℕ, n ≤ k0_t1_loop.trips → pb_k0_t1 𝒱 c bd i arg1 harg1 arg2 harg2 arg3 harg3 arg4 harg4 arg5 harg5 arg6 harg6 arg7 harg7 arg8 harg8 arg9 harg9 v0 v596 v674 v704 v713 v715 v720 X_arg1 X_arg2 X_arg3 X_arg4 X_arg6 G G9 n = pb_k0_t1 𝒱 c bd i arg1 harg1 arg2 harg2 arg3 harg3 arg4 harg4 arg5 harg5 arg6 harg6 arg7 harg7 arg8 harg8 arg9 harg9 v0 v596 v674 v704 v713 v715 v720 X_arg1 X_arg2 X_arg3 X_arg4 X_arg6 G' G9 n
  | 0, _ => rfl
  | n + 1, hn => by
    have ih := pb_irrel 𝒱 c bd i arg1 harg1 arg2 harg2 arg3 harg3 arg4 harg4 arg5 harg5 arg6 harg6 arg7 harg7 arg8 harg8 arg9 harg9 v0 v596 v674 v704 v713 v715 v720 X_arg1 X_arg2 X_arg3 X_arg4 X_arg6 G G' G9 n (Nat.le_of_succ_le hn)
    have h1 := pb_k0_t1_succ 𝒱 c bd i arg1 harg1 arg2 harg2 arg3 harg3 arg4 harg4 arg5 harg5 arg6 harg6 arg7 harg7 arg8 harg8 arg9 harg9 v0 v596 v674 v704 v713 v715 v720 X_arg1 X_arg2 X_arg3 X_arg4 X_arg6 G G9 ⟨n, hn⟩
    have h2 := pb_k0_t1_succ 𝒱 c bd i arg1 harg1 arg2 harg2 arg3 harg3 arg4 harg4 arg5 harg5 arg6 harg6 arg7 harg7 arg8 harg8 arg9 harg9 v0 v596 v674 v704 v713 v715 v720 X_arg1 X_arg2 X_arg3 X_arg4 X_arg6 G' G9 ⟨n, hn⟩
    dsimp only at h1 h2
    rw [h1, h2, ih]
    have t := trip_irrel 𝒱 c bd i arg1 harg1 arg2 harg2 arg3 harg3 arg4 harg4 arg5 harg5 arg6 harg6 arg7 harg7 arg8 harg8 arg9 harg9 v0 v596 v674 v704 v713 v715 v720 X_arg1 X_arg2 X_arg3 X_arg4 X_arg6 ⟨n, hn⟩ (arg7.view.writes (Elt F) G (pb_k0_t1 𝒱 c bd i arg1 harg1 arg2 harg2 arg3 harg3 arg4 harg4 arg5 harg5 arg6 harg6 arg7 harg7 arg8 harg8 arg9 harg9 v0 v596 v674 v704 v713 v715 v720 X_arg1 X_arg2 X_arg3 X_arg4 X_arg6 G' G9 n).1) (arg7.view.writes (Elt F) G' (pb_k0_t1 𝒱 c bd i arg1 harg1 arg2 harg2 arg3 harg3 arg4 harg4 arg5 harg5 arg6 harg6 arg7 harg7 arg8 harg8 arg9 harg9 v0 v596 v674 v704 v713 v715 v720 X_arg1 X_arg2 X_arg3 X_arg4 X_arg6 G' G9 n).1) (arg9.view.writes (Elt F) G9 (pb_k0_t1 𝒱 c bd i arg1 harg1 arg2 harg2 arg3 harg3 arg4 harg4 arg5 harg5 arg6 harg6 arg7 harg7 arg8 harg8 arg9 harg9 v0 v596 v674 v704 v713 v715 v720 X_arg1 X_arg2 X_arg3 X_arg4 X_arg6 G' G9 n).2)
    obtain ⟨t1, t2⟩ := Prod.mk.inj t
    rw [t1, t2]

set_option maxHeartbeats 1000000 in
/-- The body's triple with the pieces that its stores leave in the two outputs. -/
noncomputable def kernelRun0_A (c : Dev nD) (i : grid0.Coords) (arg1 : Memref sig .tc .vmem S1x2064x512 .bf16) (harg1 : arg1.IsWhole) (arg2 : Memref sig .tc .vmem S1x2064x512 .bf16) (harg2 : arg2.IsWhole) (arg3 : Memref sig .tc .vmem S1x2064x512 .f32) (harg3 : arg3.IsWhole) (arg4 : Memref sig .tc .vmem S1x2064x1024 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x2064x1024 .bf16) (harg7 : arg7.IsWhole) (arg8 : Memref sig .tc .vmem S1x4x128x256 .f32) (harg8 : arg8.IsWhole) (arg9 : Memref sig .tc .vmem S4x128x256 .f32) (harg9 : arg9.IsWhole)
    (x0 : Vec F S1x2064x512 .bf16) (x1 : Vec F S1x2064x512 .bf16) (x2 : Vec F S1x2064x512 .f32) (x3 : Vec F S1x2064x1024 .bf16) (x4 : Vec F S1x256 .f32) (x5 : Vec F S256x256 .bf16) :
    Σ' (L6 : List (View.Piece (Elt F) S1x2064x1024 .bf16)), { L7 : List (View.Piece (Elt F) S1x4x128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ d, owns (c : Thread nD τ) arg9 fullShare d)) -∗ K ⟨⟩))
          ⊢ wp frame (wpE (defs₀ (F := F)) Variants.none c none) E (cc0_gla_prompt i arg1 harg1 arg2 harg2 arg3 harg3 arg4 harg4 arg5 harg5 arg6 harg6 arg7 harg7 arg8 harg8 arg9 harg9) K } := by
  refine ⟨?_, ?_, fun E K => ?run⟩
  case run =>
    simp only [cc0_gla_prompt_eq_skeleton]; unfold cc0_gla_prompt_skel
    simp only [k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    rw [pb_irrel Variants.none c none i arg1 harg1 arg2 harg2 arg3 harg3 arg4 harg4 arg5 harg5 arg6 harg6 arg7 harg7 arg8 harg8 arg9 harg9 _ _ _ _ _ _ _ _ _ _ _ _ (arg7.view.writes (Elt F) f6 _) arg7.view.junk _ _ (le_refl _)]
    unfold kernelRun0_A.sl.v774
    rw [pb_irrel Variants.none c none i arg1 harg1 arg2 harg2 arg3 harg3 arg4 harg4 arg5 harg5 arg6 harg6 arg7 harg7 arg8 harg8 arg9 harg9 _ _ _ _ _ _ _ _ _ _ _ _ (arg7.view.writes (Elt F) f6 _) arg7.view.junk _ _ (le_refl _)]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _, _; isplitr; swap; · iexact HS0
    ipureintro; rfl

end Cert.GlaPromptIdeal.Own

end
-- ==== Proof.Gla.Frame.lean ====
/-
  The launch of the kernel with the pieces that one run of its body leaves: what each output's buffer holds after each grid
  point, the run of the whole program, its frame, and the two output arrays named block by block.
-/
module

public import proofs.«01_k».proof.Proof.Gla.Run
public import Idealize.ShloMosaic.Lib.Claim
public import Idealize.ShloMosaic.Lib.Pipeline.Value

@[expose] public section

set_option maxRecDepth 16384

noncomputable section

namespace Cert.GlaPromptIdeal.Own

open Cert.GlaPromptIdeal Cert.GlaPromptIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
theorem cover0_A_6 (c : Dev nD) (i : grid0.Coords) (arg1 : Memref sig .tc .vmem S1x2064x512 .bf16) (harg1 : arg1.IsWhole) (arg2 : Memref sig .tc .vmem S1x2064x512 .bf16) (harg2 : arg2.IsWhole) (arg3 : Memref sig .tc .vmem S1x2064x512 .f32) (harg3 : arg3.IsWhole) (arg4 : Memref sig .tc .vmem S1x2064x1024 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x2064x1024 .bf16) (harg7 : arg7.IsWhole) (arg8 : Memref sig .tc .vmem S1x4x128x256 .f32) (harg8 : arg8.IsWhole) (arg9 : Memref sig .tc .vmem S4x128x256 .f32) (harg9 : arg9.IsWhole)
    (x0 : Vec F S1x2064x512 .bf16) (x1 : Vec F S1x2064x512 .bf16) (x2 : Vec F S1x2064x512 .f32) (x3 : Vec F S1x2064x1024 .bf16) (x4 : Vec F S1x256 .f32) (x5 : Vec F S256x256 .bf16) (y : S1x2064x1024.Idx) :
    ∃ pc ∈ (kernelRun0_A c i arg1 harg1 arg2 harg2 arg3 harg3 arg4 harg4 arg5 harg5 arg6 harg6 arg7 harg7 arg8 harg8 arg9 harg9 x0 x1 x2 x3 x4 x5).1, y ∈ pc.1.set :=
  View.cover_of_tiledBy (kernelRun0_A c i arg1 harg1 arg2 harg2 arg3 harg3 arg4 harg4 arg5 harg5 arg6 harg6 arg7 harg7 arg8 harg8 arg9 harg9 x0 x1 x2 x3 x4 x5).1 ![1, 16, 256] (by sl_kernel_rfl) y

def out0_A_6 (c : Dev nD) (i : grid0.Coords) (arg1 : Memref sig .tc .vmem S1x2064x512 .bf16) (harg1 : arg1.IsWhole) (arg2 : Memref sig .tc .vmem S1x2064x512 .bf16) (harg2 : arg2.IsWhole) (arg3 : Memref sig .tc .vmem S1x2064x512 .f32) (harg3 : arg3.IsWhole) (arg4 : Memref sig .tc .vmem S1x2064x1024 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x2064x1024 .bf16) (harg7 : arg7.IsWhole) (arg8 : Memref sig .tc .vmem S1x4x128x256 .f32) (harg8 : arg8.IsWhole) (arg9 : Memref sig .tc .vmem S4x128x256 .f32) (harg9 : arg9.IsWhole)
    (x0 : Vec F S1x2064x512 .bf16) (x1 : Vec F S1x2064x512 .bf16) (x2 : Vec F S1x2064x512 .f32) (x3 : Vec F S1x2064x1024 .bf16) (x4 : Vec F S1x256 .f32) (x5 : Vec F S256x256 .bf16) : Vec F S1x2064x1024 .bf16 :=
  VO0_6.read (Elt F) (VO0_6.writes (Elt F) VO0_6.junk (kernelRun0_A c i arg1 harg1 arg2 harg2 arg3 harg3 arg4 harg4 arg5 harg5 arg6 harg6 arg7 harg7 arg8 harg8 arg9 harg9 x0 x1 x2 x3 x4 x5).1)

theorem cover0_A_7 (c : Dev nD) (i : grid0.Coords) (arg1 : Memref sig .tc .vmem S1x2064x512 .bf16) (harg1 : arg1.IsWhole) (arg2 : Memref sig .tc .vmem S1x2064x512 .bf16) (harg2 : arg2.IsWhole) (arg3 : Memref sig .tc .vmem S1x2064x512 .f32) (harg3 : arg3.IsWhole) (arg4 : Memref sig .tc .vmem S1x2064x1024 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x2064x1024 .bf16) (harg7 : arg7.IsWhole) (arg8 : Memref sig .tc .vmem S1x4x128x256 .f32) (harg8 : arg8.IsWhole) (arg9 : Memref sig .tc .vmem S4x128x256 .f32) (harg9 : arg9.IsWhole)
    (x0 : Vec F S1x2064x512 .bf16) (x1 : Vec F S1x2064x512 .bf16) (x2 : Vec F S1x2064x512 .f32) (x3 : Vec F S1x2064x1024 .bf16) (x4 : Vec F S1x256 .f32) (x5 : Vec F S256x256 .bf16) (y : S1x4x128x256.Idx) :
    ∃ pc ∈ (kernelRun0_A c i arg1 harg1 arg2 harg2 arg3 harg3 arg4 harg4 arg5 harg5 arg6 harg6 arg7 harg7 arg8 harg8 arg9 harg9 x0 x1 x2 x3 x4 x5).2.1, y ∈ pc.1.set :=
  View.cover_of_tiledL (kernelRun0_A c i arg1 harg1 arg2 harg2 arg3 harg3 arg4 harg4 arg5 harg5 arg6 harg6 arg7 harg7 arg8 harg8 arg9 harg9 x0 x1 x2 x3 x4 x5).2.1 S1x4x128x256.size (by sl_kernel_rfl) y

def out0_A_7 (c : Dev nD) (i : grid0.Coords) (arg1 : Memref sig .tc .vmem S1x2064x512 .bf16) (harg1 : arg1.IsWhole) (arg2 : Memref sig .tc .vmem S1x2064x512 .bf16) (harg2 : arg2.IsWhole) (arg3 : Memref sig .tc .vmem S1x2064x512 .f32) (harg3 : arg3.IsWhole) (arg4 : Memref sig .tc .vmem S1x2064x1024 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x2064x1024 .bf16) (harg7 : arg7.IsWhole) (arg8 : Memref sig .tc .vmem S1x4x128x256 .f32) (harg8 : arg8.IsWhole) (arg9 : Memref sig .tc .vmem S4x128x256 .f32) (harg9 : arg9.IsWhole)
    (x0 : Vec F S1x2064x512 .bf16) (x1 : Vec F S1x2064x512 .bf16) (x2 : Vec F S1x2064x512 .f32) (x3 : Vec F S1x2064x1024 .bf16) (x4 : Vec F S1x256 .f32) (x5 : Vec F S256x256 .bf16) : Vec F S1x4x128x256 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 x0 x1 x2 x3 x4 x5).2.1)

def outsAt0 (c : Dev nD) (t : Fin cfg0.N) : Vec F S1x2064x1024 .bf16 × Vec F S1x4x128x256 .f32 :=
  (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t).1
    | ⟨7, _⟩ => (outsAt0 m c t).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t).1 := by dsimp only [dats]
theorem after0_7 (c : Dev nD) (t : Fin cfg0.N) : (dats m 0 c).after 7 t = (outsAt0 m c t).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  unfold outsAt0
  unfold out0_A_6 out0_A_7; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ (iblk m c 0 t) (iblk m c 1 t) (iblk m c 2 t) (iblk m c 3 t) (iblk m c 4 t) (iblk m c 5 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  iintro ⟨H0, H1, H2, H3, H4, H5, ⟨%e6, H6⟩, ⟨%e7, H7⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover0_A_6 c _ _ _ _ _ _ _ _ _ _ _ _ _ _ _ _ _ _ _ _ _ _ _ _ _)
  unfold owns; iexists _; isplitr
  swap; · iexact H7
  ipureintro; exact View.read_writes_of_cover _ _ _ _ _ (cover0_A_7 c _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- `θ_run_frame`'s implicit arguments are found by unifying its conclusion with this one, which takes unfolding plain
-- definitions in a metavariable's type
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

theorem flushed6 (c : Dev nD) (t : Fin cfg0.N) :
    (dats m 0 c).flushed 6 t = (cfg0.win 6).cut (grid0.coords t) ((outsAt0 m c t).1) := by
  show (cfg0.win 6).cut (grid0.coords t) ((dats m 0 c).after 6 t) = _
  rw [after0_6]

theorem flushed6_A (c : Dev nD) (t : Fin cfg0.N) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t)) := by
  simp only [flushed6, outsAt0]

theorem idx_inj6 : ∀ t t' : Fin cfg0.N, win0_6.index t = win0_6.index t' → t = t' :=
  (by decide +kernel : ∀ t t' : Fin grid0.N, win0_6.index t = win0_6.index t' → t = t')

theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

theorem entry6 (c : Dev nD) (i : S32x2064x1024.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

theorem flushed7 (c : Dev nD) (t : Fin cfg0.N) :
    (dats m 0 c).flushed 7 t = (cfg0.win 7).cut (grid0.coords t) ((outsAt0 m c t).2) := by
  show (cfg0.win 7).cut (grid0.coords t) ((dats m 0 c).after 7 t) = _
  rw [after0_7]

theorem flushed7_A (c : Dev nD) (t : Fin cfg0.N) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t)) := by
  simp only [flushed7, outsAt0]

theorem idx_inj7 : ∀ t t' : Fin cfg0.N, win0_7.index t = win0_7.index t' → t = t' :=
  (by decide +kernel : ∀ t t' : Fin grid0.N, win0_7.index t = win0_7.index t' → t = t')

theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

theorem entry7 (c : Dev nD) (i : S32x4x128x256.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

theorem post6 (r : PUnit × MemSt nD τ sig (Elt F)) (h : Pipeline.FramePost cfgs (dats m) 0 (V m) r) (c : Dev nD) :
    r.2.mem ((c : Thread nD τ).loc main_v8_0) = (dats m 0 c).arrAt 6 cfg0.N :=
  (h c).1 6

theorem post7 (r : PUnit × MemSt nD τ sig (Elt F)) (h : Pipeline.FramePost cfgs (dats m) 0 (V m) r) (c : Dev nD) :
    r.2.mem ((c : Thread nD τ).loc main_v8_1) = (dats m 0 c).arrAt 7 cfg0.N :=
  (h c).1 7

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

theorem run_blocks : θ_run defs (onTc (τ := τ) (main (F := F))) ⟨m, fun _ => 0, ρ⟩ fun r => ∀ c : Dev nD,
      r.2.mem ((c : Thread nD τ).loc main_v8_0) = (dats m 0 c).arrAt 6 cfg0.N
      ∧ r.2.mem ((c : Thread nD τ).loc main_v8_1) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post6 m r h c,
      post7 m r h c,
      kept_main_arg0 m r h c,
      kept_main_arg1 m r h c,
      kept_main_arg2 m r h c,
      kept_main_arg3 m r h c,
      kept_main_arg4 m r h c⟩)
    (run_main m ρ)

end Cert.GlaPromptIdeal.Own

end
-- ==== Proof.Gla.Chunk.lean ====
/-
  One chunk of the gated linear attention as plain functions of extended reals: the running sum of the gate's logarithms
  within the chunk, the chunk's output and the state after it. Both programs are read as these functions.
-/
module

public import Idealize.ShloMosaic.Lib.Pointwise

@[expose] public section

noncomputable section

namespace Cert.Gla

open Idealize.ShloMosaic

/-- Row `r` of chunk `c` of a block of four chunks of 64 rows. -/
def row4 (c : Fin 4) (r : Fin 64) : Fin 256 := ⟨64 * c.val + r.val, by omega⟩
/-- Row `r` of chunk `c` of a block of two chunks of 64 rows. -/
def row2 (c : Fin 2) (r : Fin 64) : Fin 128 := ⟨64 * c.val + r.val, by omega⟩

/-- The gate's logarithms summed from the chunk's first row to row `t`. -/
def cum (g : Fin 64 → EReal) (t : Fin 64) : EReal := ∑ s : Fin 64, if s ≤ t then g s else 0

/-- The state after a chunk. -/
def stepS (k : Fin 64 → Fin 128 → EReal) (v : Fin 64 → Fin 256 → EReal) (g : Fin 64 → Fin 128 → EReal)
    (S : Fin 128 → Fin 256 → EReal) (d : Fin 128) (e : Fin 256) : EReal :=
  S d e * Ideal.exp (cum (fun s => g s d) 63)
    + ∑ s : Fin 64, (k s d * Ideal.exp (cum (fun s => g s d) 63 - cum (fun s => g s d) s)) * v s e

/-- A chunk's output, its queries scaled already. -/
def stepO (q k : Fin 64 → Fin 128 → EReal) (v : Fin 64 → Fin 256 → EReal) (g : Fin 64 → Fin 128 → EReal)
    (S : Fin 128 → Fin 256 → EReal) (t : Fin 64) (e : Fin 256) : EReal :=
  (∑ s : Fin 64, (if s ≤ t then ∑ d : Fin 128, (q t d * Ideal.exp (cum (fun s => g s d) t))
        * (k s d * Ideal.exp (-(cum (fun s => g s d) s))) else 0) * v s e)
    + ∑ d : Fin 128, (q t d * Ideal.exp (cum (fun s => g s d) t)) * S d e

theorem sum_row4 (f : Fin 256 → EReal) (c : Fin 4) (h : ∀ s : Fin 256, s.val / 64 ≠ c.val → f s = 0) :
    ∑ s, f s = ∑ r : Fin 64, f (row4 c r) := by
  rw [← Finset.sum_subset (Finset.subset_univ (Finset.univ.filter fun s : Fin 256 => s.val / 64 = c.val))
    (fun s _ hs => h s (by simpa using hs))]
  refine (Finset.sum_bij (fun r _ => row4 c r) ?_ ?_ ?_ ?_).symm
  · intro r _; simp [row4]; omega
  · intro a _ b _ hab; simpa [row4, Fin.ext_iff] using hab
  · intro s hs
    refine ⟨⟨s.val - 64 * c.val, ?_⟩, Finset.mem_univ _, ?_⟩ <;> simp at hs
    · omega
    · simp [row4, Fin.ext_iff]; omega
  · intro _ _; rfl

theorem sum_row2 (f : Fin 128 → EReal) (c : Fin 2) (h : ∀ s : Fin 128, s.val / 64 ≠ c.val → f s = 0) :
    ∑ s, f s = ∑ r : Fin 64, f (row2 c r) := by
  rw [← Finset.sum_subset (Finset.subset_univ (Finset.univ.filter fun s : Fin 128 => s.val / 64 = c.val))
    (fun s _ hs => h s (by simpa using hs))]
  refine (Finset.sum_bij (fun r _ => row2 c r) ?_ ?_ ?_ ?_).symm
  · intro r _; simp [row2]; omega
  · intro a _ b _ hab; simpa [row2, Fin.ext_iff] using hab
  · intro s hs
    refine ⟨⟨s.val - 64 * c.val, ?_⟩, Finset.mem_univ _, ?_⟩ <;> simp at hs
    · omega
    · simp [row2, Fin.ext_iff]; omega
  · intro _ _; rfl

/-- A row's output, normalised. -/
def rmsE (o gn : Fin 256 → EReal) (e : Fin 256) : EReal :=
  o e * Ideal.rsqrt (Ideal.div (∑ e' : Fin 256, o e' * o e') (Ideal.ofBits .f32 0x43800000#32)
    + Ideal.ofBits .f32 0x358637BD#32) * gn e

/-- Column `d` of head `h` among the queries', keys' and gates' columns. -/
def hk (h : Fin 4) (d : Fin 128) : Fin 512 := ⟨128 * h.val + d.val, by omega⟩
/-- Column `e` of head `h` among the values' columns. -/
def hv (h : Fin 4) (e : Fin 256) : Fin 1024 := ⟨256 * h.val + e.val, by omega⟩
/-- Row `r` of chunk `n` of a column of 2064 rows under 48 zeros. -/
def pd (x : Fin 2064 → EReal) (n : ℕ) (r : Fin 64) : EReal :=
  if h : 48 ≤ 64 * n + r.val ∧ 64 * n + r.val - 48 < 2064 then x ⟨64 * n + r.val - 48, h.2⟩ else 0
def ckey (x : Fin 2064 → Fin 512 → EReal) (h : Fin 4) (n : ℕ) (r : Fin 64) (d : Fin 128) : EReal := pd (fun t => x t (hk h d)) n r
def cqry (x : Fin 2064 → Fin 512 → EReal) (h : Fin 4) (n : ℕ) (r : Fin 64) (d : Fin 128) : EReal :=
  ckey x h n r d * Ideal.ofBits .f32 0x3DB504F3#32
def cval (x : Fin 2064 → Fin 1024 → EReal) (h : Fin 4) (n : ℕ) (r : Fin 64) (e : Fin 256) : EReal := pd (fun t => x t (hv h e)) n r

/-- A head's state before chunk `n`. -/
def SH (k : Fin 2064 → Fin 512 → EReal) (v : Fin 2064 → Fin 1024 → EReal) (g : Fin 2064 → Fin 512 → EReal) (h : Fin 4) :
    ℕ → Fin 128 → Fin 256 → EReal
  | 0 => fun _ _ => 0
  | n + 1 => stepS (ckey k h n) (cval v h n) (ckey g h n) (SH k v g h n)

/-- A head's normalized output in row `r` of chunk `n`. -/
def OH (q k : Fin 2064 → Fin 512 → EReal) (v : Fin 2064 → Fin 1024 → EReal) (g : Fin 2064 → Fin 512 → EReal) (gn : Fin 256 → EReal)
    (h : Fin 4) (n : ℕ) (r : Fin 64) (e : Fin 256) : EReal :=
  rmsE (stepO (cqry q h n) (ckey k h n) (cval v h n) (ckey g h n) (SH k v g h n) r) gn e

/-- The whole output of one sequence. -/
def outG (q k : Fin 2064 → Fin 512 → EReal) (v : Fin 2064 → Fin 1024 → EReal) (g : Fin 2064 → Fin 512 → EReal) (gn : Fin 256 → EReal)
    (t : Fin 2064) (e : Fin 1024) : EReal :=
  OH q k v g gn ⟨e.val / 256, by omega⟩ ((t.val + 48) / 64) ⟨(t.val + 48) % 64, by omega⟩ ⟨e.val % 256, by omega⟩

theorem outG_at (q k : Fin 2064 → Fin 512 → EReal) (v : Fin 2064 → Fin 1024 → EReal) (g : Fin 2064 → Fin 512 → EReal) (gn : Fin 256 → EReal)
    (h : Fin 4) (n : ℕ) (r : Fin 64) (e : Fin 256) (t : Fin 2064) (c : Fin 1024) (ht : t.val + 48 = 64 * n + r.val) (hc : c.val = 256 * h.val + e.val) :
    outG q k v g gn t c = OH q k v g gn h n r e := by
  unfold outG
  congr 1
  · ext; simp; omega
  · omega
  · ext; simp; omega
  · ext; simp; omega

theorem pd_zero (n : ℕ) (r : Fin 64) : pd (fun _ => 0) n r = 0 := by
  unfold pd; split <;> rfl

theorem pd_at (x : Fin 2064 → EReal) (n : ℕ) (r : Fin 64) (t : Fin 2064) (ht : t.val + 48 = 64 * n + r.val) : pd x n r = x t := by
  unfold pd
  rw [dif_pos ⟨by omega, by omega⟩]
  congr 1; ext; simp; omega

theorem pd_fin (x : Fin 2064 → EReal) (hx : ∀ t, x t ≠ ⊤ ∧ x t ≠ ⊥) (n : ℕ) (r : Fin 64) : pd x n r ≠ ⊤ ∧ pd x n r ≠ ⊥ := by
  unfold pd; split
  · exact hx _
  · exact ⟨EReal.zero_ne_top, EReal.zero_ne_bot⟩

theorem stepS_zero (g : Fin 64 → Fin 128 → EReal) : stepS (fun _ _ => 0) (fun _ _ => 0) g (fun _ _ => 0) = fun _ _ => 0 := by
  funext d e; simp [stepS]

/-- A finite number minus itself. -/
theorem sub_self' {x : EReal} (h : x ≠ ⊤ ∧ x ≠ ⊥) : x - x = 0 := EReal.sub_self h.1 h.2

end Cert.Gla

end
-- ==== Proof.Gla.Block.lean ====
module

public import proofs.«01_k».proof.Proof.Gen.GlaPromptIdeal.Skeleton
public import proofs.«01_k».proof.Proof.Gla.Chunk

@[expose] public section

set_option maxRecDepth 16384

noncomputable section

namespace Cert.Gla

open Idealize.ShloMosaic Cert.GlaPromptIdeal Cert.GlaPromptIdeal.Gen

/-! ### The integer masks -/

/-- The floor division of a row number by 64, as the kernel spells it. -/
def fdiv (w : BitVec 32) : BitVec 32 :=
  Scalar.select
    (IntOp.andi
      (IntOp.cmpi CmpIPredicate.ne
        (IntOp.subi (BitVec.setWidth 32 (IntOp.cmpi CmpIPredicate.sgt w 0#32))
          (BitVec.setWidth 32 (IntOp.cmpi CmpIPredicate.slt w 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector w 64#32) 0#32))
    (IntOp.subi (IntOp.divsi ArithUnit.vector w 64#32) 1#32)
    (IntOp.divsi ArithUnit.vector w 64#32)

theorem fdiv_eq : ∀ t : Fin 256, fdiv (BitVec.ofNat 32 t) = BitVec.ofNat 32 (t.val / 64) := by decide +kernel

theorem fdiv_row4 (c : Fin 4) (r : Fin 64) : fdiv (BitVec.ofNat 32 (row4 c r).val) = BitVec.ofNat 32 c.val := by
  rw [fdiv_eq]; congr 1; simp [row4]; omega

theorem cmpi_eq_ofNat (a b : ℕ) (ha : a < 256) (hb : b < 256) :
    IntOp.cmpi CmpIPredicate.eq (BitVec.ofNat 32 a) (BitVec.ofNat 32 b) = if a = b then 1#1 else 0#1 := by
  simp only [IntOp.cmpi]
  by_cases h : a = b <;> simp [h, ← BitVec.toNat_inj, Nat.mod_eq_of_lt (show a < 2 ^ 32 by omega), Nat.mod_eq_of_lt (show b < 2 ^ 32 by omega)]
  omega

theorem cmpi_sle_ofNat : ∀ s t : Fin 256,
    IntOp.cmpi CmpIPredicate.sle (BitVec.ofNat 32 s) (BitVec.ofNat 32 t) = if s ≤ t then 1#1 else 0#1 := by
  decide +kernel

/-- The mask of the scores and the rows' chunk numbers. -/
abbrev M4 : IVec S256x256 1 :=
  k0_pay7 (iota .tc S256x256 32 [0] iota_S256x256_d0_w32) (iota .tc S256x256 32 [1] iota_S256x256_d1_w32) k0_pay6 64#32
abbrev N4 : IVec S128x256 32 := k0_pay11 k0_pay8 k0_pay9 k0_pay10

/-- The mask of the scores: the same chunk, and the key's row not after the query's. -/
theorem mask4 (c c' : Fin 4) (r s : Fin 64) :
    M4 (ix2 (row4 c r) (row4 c' s)) = if c' = c ∧ s ≤ r then 1#1 else 0#1 := by
  pointwise [M4, k0_pay7, k0_pay6]
  show IntOp.andi (IntOp.cmpi .eq (fdiv (BitVec.ofNat 32 (row4 c r).val)) (fdiv (BitVec.ofNat 32 (row4 c' s).val)))
    (IntOp.cmpi .sle (BitVec.ofNat 32 (row4 c' s).val) (BitVec.ofNat 32 (row4 c r).val)) = _
  rw [fdiv_row4, fdiv_row4, cmpi_eq_ofNat _ _ (by omega) (by omega), cmpi_sle_ofNat]
  have h1 : (row4 c' s ≤ row4 c r) ↔ (c' < c ∨ (c' = c ∧ s ≤ r)) := by
    simp only [row4, Fin.le_def, Fin.lt_def, Fin.ext_iff]; omega
  have h2 : (c.val = c'.val) ↔ c' = c := by rw [Fin.ext_iff]; exact eq_comm
  simp only [h1, h2]
  by_cases a : c' = c <;> by_cases b : s ≤ r <;> simp [a, b, IntOp.andi]

/-- The mask of a chunk's keys among the 256 rows. -/
theorem colmask4 (d : Fin 128) (c : Fin 4) (r : Fin 64) :
    N4 (ix2 d (row4 c r)) = BitVec.ofNat 32 c.val := by
  pointwise [N4, k0_pay11, k0_pay8, k0_pay9, k0_pay10]
  exact fdiv_row4 c r

/-! ### The gate's running sums -/

/-- The matrix that sums within chunks. -/
def IsTri4 (tri : Vec Ideal S256x256 .bf16) : Prop :=
  ∀ (c c' : Fin 4) (r s : Fin 64), tri (ix2 (row4 c r) (row4 c' s)) = if c' = c ∧ s ≤ r then 1 else 0

theorem exists_row4 (t : Fin 256) : ∃ c r, t = row4 c r :=
  ⟨⟨t.val / 64, by omega⟩, ⟨t.val % 64, by omega⟩, by simp [row4, Fin.ext_iff]; omega⟩

theorem row4_div (c : Fin 4) (r : Fin 64) : (row4 c r).val / 64 = c.val := by simp [row4]; omega

theorem bsum4 {tri : Vec Ideal S256x256 .bf16} (ht : IsTri4 tri) {g : FVec Ideal S256x128 .f32}
    (hg : ∀ i, g i ≠ ⊤ ∧ g i ≠ ⊥) (c : Fin 4) (r : Fin 64) (d : Fin 128) :
    k0_pay12 g tri (ix2 (row4 c r) d) = cum (fun s => g (ix2 (row4 c s) d)) r := by
  have h0 : ∀ i, g i - g i = 0 := fun i => sub_self' (hg i)
  pointwise [k0_pay12]
  simp only [h0, sub_zero, mul_zero, Finset.sum_const_zero, add_zero, dite_eq_ite]
  have hd : ¬ (256 + d.val < 128) := by omega
  simp only [dif_neg hd, sub_zero, dite_eq_ite, ite_self, mul_zero, Finset.sum_const_zero, add_zero]
  rw [sum_row4 _ c fun s hs => by
    obtain ⟨c', s', rfl⟩ := exists_row4 s
    rw [row4_div] at hs
    rw [ht, if_neg (fun h => hs (by rw [h.1])), zero_mul]]
  refine Finset.sum_congr rfl fun s _ => ?_
  rw [ht]; split_ifs with h1 h2 h2 <;> simp_all

theorem blast4 (g : FVec Ideal S256x128 .f32) (tri : Vec Ideal S256x256 .bf16) (c : Fin 4) (r : Fin 64) (d : Fin 128) :
    k0_pay13 g tri (ix2 (row4 c r) d) = k0_pay12 g tri (ix2 (row4 c 63) d) := by
  unfold k0_pay13
  generalize k0_pay12 g tri = b
  pointwise
  have hv : (row4 c r).val = 64 * c.val + r.val := rfl
  have hc := c.isLt
  have hr := r.isLt
  split_ifs with h1 h2 h3
  · rw [show row4 c 63 = 63 from Fin.ext (by simp only [row4]; show _ = 63; omega)]
  · rw [show row4 c 63 = 127 from Fin.ext (by simp only [row4]; show _ = 127; omega)]
  · rw [show row4 c 63 = 191 from Fin.ext (by simp only [row4]; show _ = 191; omega)]
  · rw [show row4 c 63 = 255 from Fin.ext (by simp only [row4]; show _ = 255; omega)]

/-! ### The products -/

section
variable {q k : FVec Ideal S256x128 .bf16} {g : FVec Ideal S256x128 .f32} {v : FVec Ideal S256x256 .bf16} {tri : Vec Ideal S256x256 .bf16}

theorem pay15_row (ht : IsTri4 tri) (hg : ∀ i, g i ≠ ⊤ ∧ g i ≠ ⊥) (c : Fin 4) (r : Fin 64) (d : Fin 128) :
    k0_pay15 q g tri (ix2 (row4 c r) d)
      = (q (ix2 (row4 c r) d) * Ideal.ofBits .f32 0x3DB504F3#32) * Ideal.exp (cum (fun s => g (ix2 (row4 c s) d)) r) := by
  rw [← bsum4 ht hg, mul_assoc]
  unfold k0_pay15
  generalize k0_pay12 g tri = b
  pointwise

theorem pay16_row (ht : IsTri4 tri) (hg : ∀ i, g i ≠ ⊤ ∧ g i ≠ ⊥) (c : Fin 4) (r : Fin 64) (d : Fin 128) :
    k0_pay16 k g tri (ix2 d (row4 c r))
      = k (ix2 (row4 c r) d) * Ideal.exp (cum (fun s => g (ix2 (row4 c s) d)) 63 - cum (fun s => g (ix2 (row4 c s) d)) r) := by
  rw [← bsum4 ht hg, ← bsum4 ht hg, ← blast4 g tri c r]
  unfold k0_pay16 k0_pay14
  generalize k0_pay12 g tri = b
  generalize k0_pay13 g tri = b'
  pointwise

theorem pay17_row (ht : IsTri4 tri) (hg : ∀ i, g i ≠ ⊤ ∧ g i ≠ ⊥) (c : Fin 4) (r : Fin 64) (d : Fin 128) :
    k0_pay17 g tri (ix2 d (row4 c r)) = Ideal.exp (cum (fun s => g (ix2 (row4 c s) d)) 63) := by
  rw [← bsum4 ht hg, ← blast4 g tri c r]
  unfold k0_pay17
  generalize k0_pay13 g tri = b'
  pointwise

/-- The scores within a chunk. -/
theorem pay18_row (ht : IsTri4 tri) (hg : ∀ i, g i ≠ ⊤ ∧ g i ≠ ⊥) (c : Fin 4) (r s : Fin 64) :
    k0_pay18 q k g tri (ix2 (row4 c r) (row4 c s))
      = ∑ d : Fin 128, ((q (ix2 (row4 c r) d) * Ideal.ofBits .f32 0x3DB504F3#32) * Ideal.exp (cum (fun s => g (ix2 (row4 c s) d)) r))
          * (k (ix2 (row4 c s) d) * Ideal.exp (-(cum (fun s => g (ix2 (row4 c s) d)) s))) := by
  simp only [← pay15_row ht hg]
  simp only [← bsum4 ht hg]
  unfold k0_pay18 k0_pay14
  generalize k0_pay12 g tri = b
  generalize k0_pay15 q g tri = b'
  pointwise
  simp only [zero_sub]

/-- The chunk's queries, scaled. -/
abbrev cQ (q : FVec Ideal S256x128 .bf16) (c : Fin 4) (r : Fin 64) (d : Fin 128) : EReal :=
  q (ix2 (row4 c r) d) * Ideal.ofBits .f32 0x3DB504F3#32
abbrev cK (k : FVec Ideal S256x128 .bf16) (c : Fin 4) (r : Fin 64) (d : Fin 128) : EReal := k (ix2 (row4 c r) d)
abbrev cG (g : FVec Ideal S256x128 .f32) (c : Fin 4) (r : Fin 64) (d : Fin 128) : EReal := g (ix2 (row4 c r) d)
abbrev cV (v : FVec Ideal S256x256 .bf16) (c : Fin 4) (r : Fin 64) (e : Fin 256) : EReal := v (ix2 (row4 c r) e)
abbrev cS (s : Vec Ideal S1x128x256 .f32) (d : Fin 128) (e : Fin 256) : EReal := s (ix3 0 d e)

abbrev z0 : Ideal .f32 := Scalar.ofBits .f32 0x00000000#32

/-- The masked scores times the values: only the chunk's own keys count. -/
theorem pay19_row (ht : IsTri4 tri) (hg : ∀ i, g i ≠ ⊤ ∧ g i ≠ ⊥) (c : Fin 4) (r : Fin 64) (e : Fin 256) :
    k0_pay19 v M4 (k0_pay18 q k g tri) z0 (ix2 (row4 c r) e)
      = ∑ s : Fin 64, (if s ≤ r then ∑ d : Fin 128, (cQ q c r d * Ideal.exp (cum (fun s => cG g c s d) r))
        * (cK k c s d * Ideal.exp (-(cum (fun s => cG g c s d) s))) else 0) * cV v c s e := by
  have hm := fun c' s => mask4 c c' r s
  simp only [cQ, cK, cG, ← pay18_row ht hg]
  unfold k0_pay19 z0
  generalize k0_pay18 q k g tri = a
  generalize M4 = M at hm ⊢
  pointwise
  rw [sum_row4 _ c fun s hs => by
    obtain ⟨c', s', rfl⟩ := exists_row4 s
    rw [row4_div] at hs
    rw [hm, if_neg (fun h => hs (by rw [h.1]))]; simp [Scalar.select]]
  refine Finset.sum_congr rfl fun s _ => ?_
  rw [hm]; by_cases h : s ≤ r <;> simp [h, Scalar.select]

/-- The keys of one chunk, decayed to its end, times the values. -/
theorem kdv_row (ht : IsTri4 tri) (hg : ∀ i, g i ≠ ⊤ ∧ g i ≠ ⊥) (c : Fin 4) (d : Fin 128) (e : Fin 256) :
    (∑ x : Fin 256, Scalar.select (IntOp.cmpi CmpIPredicate.eq (N4 (ix2 d x)) (BitVec.ofNat 32 c.val)) (k0_pay16 k g tri (ix2 d x)) 0 * v (ix2 x e))
      = ∑ s : Fin 64, (cK k c s d * Ideal.exp (cum (fun s => cG g c s d) 63 - cum (fun s => cG g c s d) s)) * cV v c s e := by
  rw [sum_row4 _ c fun s hs => by
    obtain ⟨c', s', rfl⟩ := exists_row4 s
    rw [row4_div] at hs
    rw [colmask4, cmpi_eq_ofNat _ _ (by omega) (by omega), if_neg hs]; simp [Scalar.select]]
  refine Finset.sum_congr rfl fun s _ => ?_
  rw [colmask4, cmpi_eq_ofNat _ _ (by omega) (by omega), if_pos rfl, pay16_row ht hg]; simp [Scalar.select]

variable {s : Vec Ideal S1x128x256 .f32}

theorem hs0 (ht : IsTri4 tri) (hg : ∀ i, g i ≠ ⊤ ∧ g i ≠ ⊥) (d : Fin 128) (e : Fin 256) :
    k0_pay21 v N4 (k0_pay16 k g tri) (k0_pay17 g tri) s (ix3 0 d e)
      = stepS (cK k 0) (cV v 0) (cG g 0) (cS s) d e := by
  unfold stepS
  rw [← kdv_row ht hg, ← pay17_row ht hg 0 0 d]
  unfold k0_pay21 k0_pay20
  generalize k0_pay16 k g tri = a
  generalize k0_pay17 g tri = a'
  generalize N4 = N
  pointwise
  rfl

theorem hs1 (ht : IsTri4 tri) (hg : ∀ i, g i ≠ ⊤ ∧ g i ≠ ⊥) (d : Fin 128) (e : Fin 256) :
    k0_pay27 v N4 (k0_pay16 k g tri) (k0_pay17 g tri) (k0_pay23 s) (ix3 0 d e)
      = stepS (cK k 1) (cV v 1) (cG g 1) (cS s) d e := by
  unfold stepS
  rw [← kdv_row ht hg, ← pay17_row ht hg 1 0 d]
  unfold k0_pay27 k0_pay23
  generalize k0_pay16 k g tri = a
  generalize k0_pay17 g tri = a'
  generalize N4 = N
  pointwise
  rfl

theorem hs2 (ht : IsTri4 tri) (hg : ∀ i, g i ≠ ⊤ ∧ g i ≠ ⊥) (d : Fin 128) (e : Fin 256) :
    k0_pay33 (k0_pay31 v N4 (k0_pay16 k g tri)) (k0_pay32 (k0_pay17 g tri) s) (ix3 0 d e)
      = stepS (cK k 2) (cV v 2) (cG g 2) (cS s) d e := by
  unfold stepS
  rw [← kdv_row ht hg, ← pay17_row ht hg 2 0 d]
  unfold k0_pay33 k0_pay31 k0_pay32 k0_pay29
  generalize k0_pay16 k g tri = a
  generalize k0_pay17 g tri = a'
  generalize N4 = N
  pointwise
  rfl

theorem hs3 (ht : IsTri4 tri) (hg : ∀ i, g i ≠ ⊤ ∧ g i ≠ ⊥) (d : Fin 128) (e : Fin 256) :
    k0_pay37 v N4 (k0_pay16 k g tri) (k0_pay17 g tri) s (ix3 0 d e)
      = stepS (cK k 3) (cV v 3) (cG g 3) (cS s) d e := by
  unfold stepS
  rw [← kdv_row ht hg, ← pay17_row ht hg 3 0 d]
  unfold k0_pay37 k0_pay35
  generalize k0_pay16 k g tri = a
  generalize k0_pay17 g tri = a'
  generalize N4 = N
  pointwise
  rfl

variable {v0 : Vec Ideal S1x256 .f32} {s0 s1 s2 s3 : Vec Ideal S1x128x256 .f32}

/-- A row's output before it is normalised: within the chunk, and from the state before the chunk. -/
abbrev rawO (a : FVec Ideal S256x256 .f32) (a' : FVec Ideal S256x128 .bf16) (s : Vec Ideal S1x128x256 .f32) (t : Fin 256) (e : Fin 256) : EReal :=
  a (ix2 t e) + ∑ d : Fin 128, a' (ix2 t d) * s (ix3 0 d e)

variable {w a : FVec Ideal S256x256 .f32} {a' : FVec Ideal S256x128 .bf16} {M : IVec S256x256 1} {z : Ideal .f32}

theorem o0 (r : Fin 64) (e : Fin 256) :
    k0_pay22 v0 v M a' w z s0 (ix2 r e) = rmsE (rawO (k0_pay19 v M w z) a' s0 (row4 0 r)) (fun e => v0 (ix2 0 e)) e := by
  unfold k0_pay22 k0_pay20
  generalize k0_pay19 v M w z = a
  have e1 : (row4 0 r) = ⟨r.val, by omega⟩ := Fin.ext (by simp [row4])
  rw [e1]
  pointwise
  rfl

theorem o1 (r : Fin 64) (e : Fin 256) :
    k0_pay28 v0 (k0_pay24 v M w z) (k0_pay25 a') (k0_pay26 s1) (constant S64x256 .f32 0x00000000#32) (ix2 r e)
      = rmsE (rawO (k0_pay19 v M w z) a' s1 (row4 1 r)) (fun e => v0 (ix2 0 e)) e := by
  unfold k0_pay28 k0_pay24 k0_pay25 k0_pay26 k0_pay23
  generalize k0_pay19 v M w z = a
  have e1 : (row4 1 r) = ⟨64 + r.val, by omega⟩ := Fin.ext (by simp [row4])
  rw [e1]
  pointwise
  rfl

theorem o2 (r : Fin 64) (e : Fin 256) :
    k0_pay34 v0 (k0_pay30 a' a s2) (ix2 r e) = rmsE (rawO a a' s2 (row4 2 r)) (fun e => v0 (ix2 0 e)) e := by
  unfold k0_pay34 k0_pay30 k0_pay29
  have e1 : (row4 2 r) = ⟨128 + r.val, by omega⟩ := Fin.ext (by simp [row4])
  rw [e1]
  pointwise
  rfl

theorem o3 (r : Fin 64) (e : Fin 256) : k0_pay36 a' a s3 (ix2 r e) = rawO a a' s3 (row4 3 r) e := by
  unfold k0_pay36 k0_pay35
  have e1 : (row4 3 r) = ⟨192 + r.val, by omega⟩ := Fin.ext (by simp [row4])
  rw [e1]
  pointwise

theorem cat4 (x0 x1 x2 p : FVec Ideal S64x256 .f32) (c : Fin 4) (r : Fin 64) (e : Fin 256)
    (q : FVec Ideal S64x1 .f32) (h : ∀ r, q (ix2 r 0) = ∑ e' : Fin 256, p (ix2 r e') * p (ix2 r e')) :
    k0_pay40 v0 x0 x1 x2 p q k0_pay39 (ix3 0 (row4 c r) e)
      = ![x0 (ix2 r e), x1 (ix2 r e), x2 (ix2 r e), rmsE (fun e => p (ix2 r e)) (fun e => v0 (ix2 0 e)) e] c := by
  unfold k0_pay40 k0_pay39
  pointwise
  have hr := r.isLt
  rcases (show c = 0 ∨ c = 1 ∨ c = 2 ∨ c = 3 by omega) with rfl | rfl | rfl | rfl
  · have hv : (row4 0 r).val = r.val := by simp [row4]
    simp only [hv, dif_pos hr]; rfl
  · have hv : (row4 1 r).val = 64 + r.val := by simp [row4]
    simp only [hv, Nat.add_sub_cancel_left, dif_pos hr, dif_neg (show ¬ 64 + r.val < 64 by omega)]; rfl
  · have hv : (row4 2 r).val = 64 + (64 + r.val) := by simp [row4]; omega
    simp only [hv, Nat.add_sub_cancel_left, dif_pos hr, dif_neg (show ¬ 64 + r.val < 64 by omega), dif_neg (show ¬ 64 + (64 + r.val) < 64 by omega)]; rfl
  · have hv : (row4 3 r).val = 64 + (64 + (64 + r.val)) := by simp [row4]; omega
    simp only [hv, Nat.add_sub_cancel_left, dif_neg (show ¬ 64 + r.val < 64 by omega), dif_neg (show ¬ 64 + (64 + r.val) < 64 by omega),
      dif_neg (show ¬ 64 + (64 + (64 + r.val)) < 64 by omega), h]; rfl

theorem pay38_apply (r : Fin 64) :
    k0_pay38 a' a s3 (ix2 r 0) = ∑ e' : Fin 256, k0_pay36 a' a s3 (ix2 r e') * k0_pay36 a' a s3 (ix2 r e') := by
  unfold k0_pay38
  generalize k0_pay36 a' a s3 = p
  pointwise

/-- The four chunks' outputs of one head in one block of 256 rows. -/
def HO (v0 : Vec Ideal S1x256 .f32) (q k : FVec Ideal S256x128 .bf16) (g : FVec Ideal S256x128 .f32)
    (v : FVec Ideal S256x256 .bf16) (tri : Vec Ideal S256x256 .bf16) (s0 s1 s2 s3 : Vec Ideal S1x128x256 .f32) : FVec Ideal S1x256x256 .bf16 :=
  k0_pay40 v0 (k0_pay22 v0 v M4 (k0_pay15 q g tri) (k0_pay18 q k g tri) z0 s0)
    (k0_pay28 v0 (k0_pay24 v M4 (k0_pay18 q k g tri) z0) (k0_pay25 (k0_pay15 q g tri)) (k0_pay26 s1) (constant S64x256 .f32 0x00000000#32))
    (k0_pay34 v0 (k0_pay30 (k0_pay15 q g tri) (k0_pay19 v M4 (k0_pay18 q k g tri) z0) s2))
    (k0_pay36 (k0_pay15 q g tri) (k0_pay19 v M4 (k0_pay18 q k g tri) z0) s3)
    (k0_pay38 (k0_pay15 q g tri) (k0_pay19 v M4 (k0_pay18 q k g tri) z0) s3) k0_pay39

theorem ho (ht : IsTri4 tri) (hg : ∀ i, g i ≠ ⊤ ∧ g i ≠ ⊥) (c : Fin 4) (r : Fin 64) (e : Fin 256) :
    HO v0 q k g v tri s0 s1 s2 s3 (ix3 0 (row4 c r) e)
      = rmsE (stepO (cQ q c) (cK k c) (cV v c) (cG g c) (cS (![s0, s1, s2, s3] c)) r) (fun e => v0 (ix2 0 e)) e := by
  unfold stepO
  simp only [← pay19_row ht hg]
  simp only [cQ, ← pay15_row ht hg]
  unfold HO
  rw [cat4 _ _ _ _ c r e _ pay38_apply, o0, o1, o2]
  have h3 : (fun e => k0_pay36 (k0_pay15 q g tri) (k0_pay19 v M4 (k0_pay18 q k g tri) z0) s3 (ix2 r e))
      = rawO (k0_pay19 v M4 (k0_pay18 q k g tri) z0) (k0_pay15 q g tri) s3 (row4 3 r) := funext fun e => o3 r e
  rw [h3]
  match c with
  | 0 => rfl
  | 1 => rfl
  | 2 => rfl
  | 3 => rfl
end

end Cert.Gla

end
-- ==== Proof.Gla.Trip.lean ====
/-
  One trip of the kernel's loop: its four heads store the same four states and the same output, each head at its own columns.
-/
module

public import proofs.«01_k».proof.Proof.Gla.Frame
public import proofs.«01_k».proof.Proof.Gla.Block

@[expose] public section

set_option maxRecDepth 16384

noncomputable section

namespace Cert.Gla

open Cert.GlaPromptIdeal Cert.GlaPromptIdeal.Gen
open Idealize.ShloMosaic

theorem _root_.Idealize.ShloMosaic.View.readCov_same {sig : RefSig} {κ : Kind} {sp : Space} {s : Shape} {e : EltTy} {Val : EltTy → Type}
    [∀ e, Nonempty (Val e)] (v : View sig κ sp s e) (r : Rect s) (w : r.shape.Idx → Val e) (L : List (View.Piece Val s e)) :
    v.readCov (⟨r, w⟩ :: L) r.toLoadRect = w := by
  rw [View.readCov_eq_canon']
  funext j
  exact View.canon_cons_emb r w L j

/-- The states that a block's four chunks leave, one after another. -/
abbrev A1 (k : FVec Ideal S256x128 .bf16) (v : FVec Ideal S256x256 .bf16) (g : FVec Ideal S256x128 .f32) (tri : Vec Ideal S256x256 .bf16)
    (s : Vec Ideal S1x128x256 .f32) : Vec Ideal S1x128x256 .f32 := k0_pay21 v N4 (k0_pay16 k g tri) (k0_pay17 g tri) s
abbrev A2 (k : FVec Ideal S256x128 .bf16) (v : FVec Ideal S256x256 .bf16) (g : FVec Ideal S256x128 .f32) (tri : Vec Ideal S256x256 .bf16)
    (s : Vec Ideal S1x128x256 .f32) : Vec Ideal S1x128x256 .f32 := k0_pay27 v N4 (k0_pay16 k g tri) (k0_pay17 g tri) (k0_pay23 s)
abbrev A3 (k : FVec Ideal S256x128 .bf16) (v : FVec Ideal S256x256 .bf16) (g : FVec Ideal S256x128 .f32) (tri : Vec Ideal S256x256 .bf16)
    (s : Vec Ideal S1x128x256 .f32) : Vec Ideal S1x128x256 .f32 := k0_pay33 (k0_pay31 v N4 (k0_pay16 k g tri)) (k0_pay32 (k0_pay17 g tri) s)
abbrev A4 (k : FVec Ideal S256x128 .bf16) (v : FVec Ideal S256x256 .bf16) (g : FVec Ideal S256x128 .f32) (tri : Vec Ideal S256x256 .bf16)
    (s : Vec Ideal S1x128x256 .f32) : Vec Ideal S1x128x256 .f32 := k0_pay37 v N4 (k0_pay16 k g tri) (k0_pay17 g tri) s

section
variable (c : Dev nD) (i : grid0.Coords) (arg1 : Memref sig .tc .vmem S1x2064x512 .bf16) (harg1 : arg1.IsWhole) (arg2 : Memref sig .tc .vmem S1x2064x512 .bf16) (harg2 : arg2.IsWhole) (arg3 : Memref sig .tc .vmem S1x2064x512 .f32) (harg3 : arg3.IsWhole) (arg4 : Memref sig .tc .vmem S1x2064x1024 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x2064x1024 .bf16) (harg7 : arg7.IsWhole) (arg8 : Memref sig .tc .vmem S1x4x128x256 .f32) (harg8 : arg8.IsWhole) (arg9 : Memref sig .tc .vmem S4x128x256 .f32) (harg9 : arg9.IsWhole)
  (v0 : Vec Ideal S1x256 .f32) (v596 : FVec Ideal S128x256 .bf16) (v674 : IVec S128x128 32) (v704 : FVec Ideal S128x128 .bf16) (v713 : FVec Ideal S128x128 .f32) (v715 : FVec Ideal S128x128 .f32) (v720 : FVec Ideal S128x256 .f32)
  (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg6 : BufTy.Contents (Elt Ideal) arg6.view.ty) (k : Fin k0_t1_loop.trips) (f : BufTy.Contents (Elt Ideal) arg7.view.ty) (f9 : BufTy.Contents (Elt Ideal) arg9.view.ty)

/-- A head's 256 rows of the keys (as of the queries and the gates), and of the values. -/
abbrev lq (arg1 : Memref sig .tc .vmem S1x2064x512 .bf16) (X : BufTy.Contents (Elt Ideal) arg1.view.ty) (off : Fin 3 → ℕ) (inb : ∀ a, off a + S1x256x128.size a ≤ S1x2064x512.size a) : FVec Ideal S256x128 .bf16 :=
  shapeCast S256x128 (View.readAt (Elt Ideal) arg1.view (Rect.unit (s := S1x2064x512) off S1x256x128.size inb).toLoadRect X) shapeCasts_S1x256x128_S256x128
abbrev lg (arg3 : Memref sig .tc .vmem S1x2064x512 .f32) (X : BufTy.Contents (Elt Ideal) arg3.view.ty) (off : Fin 3 → ℕ) (inb : ∀ a, off a + S1x256x128.size a ≤ S1x2064x512.size a) : FVec Ideal S256x128 .f32 :=
  shapeCast S256x128 (View.readAt (Elt Ideal) arg3.view (Rect.unit (s := S1x2064x512) off S1x256x128.size inb).toLoadRect X) shapeCasts_S1x256x128_S256x128
abbrev lv (arg4 : Memref sig .tc .vmem S1x2064x1024 .bf16) (X : BufTy.Contents (Elt Ideal) arg4.view.ty) (off : Fin 3 → ℕ) (inb : ∀ a, off a + S1x256x256.size a ≤ S1x2064x1024.size a) : FVec Ideal S256x256 .bf16 :=
  shapeCast S256x256 (View.readAt (Elt Ideal) arg4.view (Rect.unit (s := S1x2064x1024) off S1x256x256.size inb).toLoadRect X) shapeCasts_S1x256x256_S256x256
abbrev ltri (arg6 : Memref sig .tc .vmem S256x256 .bf16) (X : BufTy.Contents (Elt Ideal) arg6.view.ty) : Vec Ideal S256x256 .bf16 :=
  View.readAt (Elt Ideal) arg6.view (Rect.unit (s := S256x256) ![0, 0] S256x256.size inb_S256x256_S256x256_0_0).toLoadRect X
abbrev s9_0 (arg9 : Memref sig .tc .vmem S4x128x256 .f32) (f9 : BufTy.Contents (Elt Ideal) arg9.view.ty) : Vec Ideal S1x128x256 .f32 :=
  View.readAt (Elt Ideal) arg9.view (Rect.unit (s := S4x128x256) ![0, 0, 0] S1x128x256.size inb_S4x128x256_S1x128x256_0_0_0).toLoadRect f9
abbrev s9_1 (arg9 : Memref sig .tc .vmem S4x128x256 .f32) (f9 : BufTy.Contents (Elt Ideal) arg9.view.ty) : Vec Ideal S1x128x256 .f32 :=
  View.readAt (Elt Ideal) arg9.view (Rect.unit (s := S4x128x256) ![1, 0, 0] S1x128x256.size inb_S4x128x256_S1x128x256_1_0_0).toLoadRect f9
abbrev s9_2 (arg9 : Memref sig .tc .vmem S4x128x256 .f32) (f9 : BufTy.Contents (Elt Ideal) arg9.view.ty) : Vec Ideal S1x128x256 .f32 :=
  View.readAt (Elt Ideal) arg9.view (Rect.unit (s := S4x128x256) ![2, 0, 0] S1x128x256.size inb_S4x128x256_S1x128x256_2_0_0).toLoadRect f9
abbrev s9_3 (arg9 : Memref sig .tc .vmem S4x128x256 .f32) (f9 : BufTy.Contents (Elt Ideal) arg9.view.ty) : Vec Ideal S1x128x256 .f32 :=
  View.readAt (Elt Ideal) arg9.view (Rect.unit (s := S4x128x256) ![3, 0, 0] S1x128x256.size inb_S4x128x256_S1x128x256_3_0_0).toLoadRect f9

theorem v955_eq : trip_k0_t1.sl.v955 arg2 arg3 arg4 arg6 arg9 X_arg2 X_arg3 X_arg4 X_arg6 k f9 = A1 (lq arg2 X_arg2 (k0_off1 k) (k0_off1_inb k)) (lv arg4 X_arg4 (k0_off2 k) (k0_off2_inb k)) (lg arg3 X_arg3 (k0_off1 k) (k0_off1_inb k)) (ltri arg6 X_arg6) (s9_0 arg9 f9) :=
  View.readCov_same _ _ _ _

theorem v987_eq : trip_k0_t1.sl.v987 arg2 arg3 arg4 arg6 arg9 X_arg2 X_arg3 X_arg4 X_arg6 k f9 = A2 (lq arg2 X_arg2 (k0_off1 k) (k0_off1_inb k)) (lv arg4 X_arg4 (k0_off2 k) (k0_off2_inb k)) (lg arg3 X_arg3 (k0_off1 k) (k0_off1_inb k)) (ltri arg6 X_arg6) (trip_k0_t1.sl.v955 arg2 arg3 arg4 arg6 arg9 X_arg2 X_arg3 X_arg4 X_arg6 k f9) :=
  View.readCov_same _ _ _ _

theorem v1019_eq : trip_k0_t1.sl.v1019 arg2 arg3 arg4 arg6 arg9 X_arg2 X_arg3 X_arg4 X_arg6 k f9 = A3 (lq arg2 X_arg2 (k0_off1 k) (k0_off1_inb k)) (lv arg4 X_arg4 (k0_off2 k) (k0_off2_inb k)) (lg arg3 X_arg3 (k0_off1 k) (k0_off1_inb k)) (ltri arg6 X_arg6) (trip_k0_t1.sl.v987 arg2 arg3 arg4 arg6 arg9 X_arg2 X_arg3 X_arg4 X_arg6 k f9) :=
  View.readCov_same _ _ _ _

theorem v1231_eq : trip_k0_t1.sl.v1231 arg2 arg3 arg4 arg6 arg9 X_arg2 X_arg3 X_arg4 X_arg6 k f9 = A1 (lq arg2 X_arg2 (k0_off3 k) (k0_off3_inb k)) (lv arg4 X_arg4 (k0_off4 k) (k0_off4_inb k)) (lg arg3 X_arg3 (k0_off3 k) (k0_off3_inb k)) (ltri arg6 X_arg6) (s9_1 arg9 f9) :=
  View.readCov_same _ _ _ _

theorem v1263_eq : trip_k0_t1.sl.v1263 arg2 arg3 arg4 arg6 arg9 X_arg2 X_arg3 X_arg4 X_arg6 k f9 = A2 (lq arg2 X_arg2 (k0_off3 k) (k0_off3_inb k)) (lv arg4 X_arg4 (k0_off4 k) (k0_off4_inb k)) (lg arg3 X_arg3 (k0_off3 k) (k0_off3_inb k)) (ltri arg6 X_arg6) (trip_k0_t1.sl.v1231 arg2 arg3 arg4 arg6 arg9 X_arg2 X_arg3 X_arg4 X_arg6 k f9) :=
  View.readCov_same _ _ _ _

theorem v1295_eq : trip_k0_t1.sl.v1295 arg2 arg3 arg4 arg6 arg9 X_arg2 X_arg3 X_arg4 X_arg6 k f9 = A3 (lq arg2 X_arg2 (k0_off3 k) (k0_off3_inb k)) (lv arg4 X_arg4 (k0_off4 k) (k0_off4_inb k)) (lg arg3 X_arg3 (k0_off3 k) (k0_off3_inb k)) (ltri arg6 X_arg6) (trip_k0_t1.sl.v1263 arg2 arg3 arg4 arg6 arg9 X_arg2 X_arg3 X_arg4 X_arg6 k f9) :=
  View.readCov_same _ _ _ _

theorem v1507_eq : trip_k0_t1.sl.v1507 arg2 arg3 arg4 arg6 arg9 X_arg2 X_arg3 X_arg4 X_arg6 k f9 = A1 (lq arg2 X_arg2 (k0_off5 k) (k0_off5_inb k)) (lv arg4 X_arg4 (k0_off6 k) (k0_off6_inb k)) (lg arg3 X_arg3 (k0_off5 k) (k0_off5_inb k)) (ltri arg6 X_arg6) (s9_2 arg9 f9) :=
  View.readCov_same _ _ _ _

theorem v1539_eq : trip_k0_t1.sl.v1539 arg2 arg3 arg4 arg6 arg9 X_arg2 X_arg3 X_arg4 X_arg6 k f9 = A2 (lq arg2 X_arg2 (k0_off5 k) (k0_off5_inb k)) (lv arg4 X_arg4 (k0_off6 k) (k0_off6_inb k)) (lg arg3 X_arg3 (k0_off5 k) (k0_off5_inb k)) (ltri arg6 X_arg6) (trip_k0_t1.sl.v1507 arg2 arg3 arg4 arg6 arg9 X_arg2 X_arg3 X_arg4 X_arg6 k f9) :=
  View.readCov_same _ _ _ _

theorem v1571_eq : trip_k0_t1.sl.v1571 arg2 arg3 arg4 arg6 arg9 X_arg2 X_arg3 X_arg4 X_arg6 k f9 = A3 (lq arg2 X_arg2 (k0_off5 k) (k0_off5_inb k)) (lv arg4 X_arg4 (k0_off6 k) (k0_off6_inb k)) (lg arg3 X_arg3 (k0_off5 k) (k0_off5_inb k)) (ltri arg6 X_arg6) (trip_k0_t1.sl.v1539 arg2 arg3 arg4 arg6 arg9 X_arg2 X_arg3 X_arg4 X_arg6 k f9) :=
  View.readCov_same _ _ _ _

theorem v1783_eq : trip_k0_t1.sl.v1783 arg2 arg3 arg4 arg6 arg9 X_arg2 X_arg3 X_arg4 X_arg6 k f9 = A1 (lq arg2 X_arg2 (k0_off7 k) (k0_off7_inb k)) (lv arg4 X_arg4 (k0_off8 k) (k0_off8_inb k)) (lg arg3 X_arg3 (k0_off7 k) (k0_off7_inb k)) (ltri arg6 X_arg6) (s9_3 arg9 f9) :=
  View.readCov_same _ _ _ _

theorem v1815_eq : trip_k0_t1.sl.v1815 arg2 arg3 arg4 arg6 arg9 X_arg2 X_arg3 X_arg4 X_arg6 k f9 = A2 (lq arg2 X_arg2 (k0_off7 k) (k0_off7_inb k)) (lv arg4 X_arg4 (k0_off8 k) (k0_off8_inb k)) (lg arg3 X_arg3 (k0_off7 k) (k0_off7_inb k)) (ltri arg6 X_arg6) (trip_k0_t1.sl.v1783 arg2 arg3 arg4 arg6 arg9 X_arg2 X_arg3 X_arg4 X_arg6 k f9) :=
  View.readCov_same _ _ _ _

theorem v1847_eq : trip_k0_t1.sl.v1847 arg2 arg3 arg4 arg6 arg9 X_arg2 X_arg3 X_arg4 X_arg6 k f9 = A3 (lq arg2 X_arg2 (k0_off7 k) (k0_off7_inb k)) (lv arg4 X_arg4 (k0_off8 k) (k0_off8_inb k)) (lg arg3 X_arg3 (k0_off7 k) (k0_off7_inb k)) (ltri arg6 X_arg6) (trip_k0_t1.sl.v1815 arg2 arg3 arg4 arg6 arg9 X_arg2 X_arg3 X_arg4 X_arg6 k f9) :=
  View.readCov_same _ _ _ _

theorem v955_eq' : trip_k0_t1.sl.v955 arg2 arg3 arg4 arg6 arg9 X_arg2 X_arg3 X_arg4 X_arg6 k f9 = (A1 (lq arg2 X_arg2 (k0_off1 k) (k0_off1_inb k)) (lv arg4 X_arg4 (k0_off2 k) (k0_off2_inb k)) (lg arg3 X_arg3 (k0_off1 k) (k0_off1_inb k)) (ltri arg6 X_arg6) (s9_0 arg9 f9)) := by
  rw [v955_eq]

theorem v987_eq' : trip_k0_t1.sl.v987 arg2 arg3 arg4 arg6 arg9 X_arg2 X_arg3 X_arg4 X_arg6 k f9 = (A2 (lq arg2 X_arg2 (k0_off1 k) (k0_off1_inb k)) (lv arg4 X_arg4 (k0_off2 k) (k0_off2_inb k)) (lg arg3 X_arg3 (k0_off1 k) (k0_off1_inb k)) (ltri arg6 X_arg6) (A1 (lq arg2 X_arg2 (k0_off1 k) (k0_off1_inb k)) (lv arg4 X_arg4 (k0_off2 k) (k0_off2_inb k)) (lg arg3 X_arg3 (k0_off1 k) (k0_off1_inb k)) (ltri arg6 X_arg6) (s9_0 arg9 f9))) := by
  rw [v987_eq, v955_eq]

theorem v1019_eq' : trip_k0_t1.sl.v1019 arg2 arg3 arg4 arg6 arg9 X_arg2 X_arg3 X_arg4 X_arg6 k f9 = (A3 (lq arg2 X_arg2 (k0_off1 k) (k0_off1_inb k)) (lv arg4 X_arg4 (k0_off2 k) (k0_off2_inb k)) (lg arg3 X_arg3 (k0_off1 k) (k0_off1_inb k)) (ltri arg6 X_arg6) (A2 (lq arg2 X_arg2 (k0_off1 k) (k0_off1_inb k)) (lv arg4 X_arg4 (k0_off2 k) (k0_off2_inb k)) (lg arg3 X_arg3 (k0_off1 k) (k0_off1_inb k)) (ltri arg6 X_arg6) (A1 (lq arg2 X_arg2 (k0_off1 k) (k0_off1_inb k)) (lv arg4 X_arg4 (k0_off2 k) (k0_off2_inb k)) (lg arg3 X_arg3 (k0_off1 k) (k0_off1_inb k)) (ltri arg6 X_arg6) (s9_0 arg9 f9)))) := by
  rw [v1019_eq, v987_eq, v955_eq]

theorem v1231_eq' : trip_k0_t1.sl.v1231 arg2 arg3 arg4 arg6 arg9 X_arg2 X_arg3 X_arg4 X_arg6 k f9 = (A1 (lq arg2 X_arg2 (k0_off3 k) (k0_off3_inb k)) (lv arg4 X_arg4 (k0_off4 k) (k0_off4_inb k)) (lg arg3 X_arg3 (k0_off3 k) (k0_off3_inb k)) (ltri arg6 X_arg6) (s9_1 arg9 f9)) := by
  rw [v1231_eq]

theorem v1263_eq' : trip_k0_t1.sl.v1263 arg2 arg3 arg4 arg6 arg9 X_arg2 X_arg3 X_arg4 X_arg6 k f9 = (A2 (lq arg2 X_arg2 (k0_off3 k) (k0_off3_inb k)) (lv arg4 X_arg4 (k0_off4 k) (k0_off4_inb k)) (lg arg3 X_arg3 (k0_off3 k) (k0_off3_inb k)) (ltri arg6 X_arg6) (A1 (lq arg2 X_arg2 (k0_off3 k) (k0_off3_inb k)) (lv arg4 X_arg4 (k0_off4 k) (k0_off4_inb k)) (lg arg3 X_arg3 (k0_off3 k) (k0_off3_inb k)) (ltri arg6 X_arg6) (s9_1 arg9 f9))) := by
  rw [v1263_eq, v1231_eq]

theorem v1295_eq' : trip_k0_t1.sl.v1295 arg2 arg3 arg4 arg6 arg9 X_arg2 X_arg3 X_arg4 X_arg6 k f9 = (A3 (lq arg2 X_arg2 (k0_off3 k) (k0_off3_inb k)) (lv arg4 X_arg4 (k0_off4 k) (k0_off4_inb k)) (lg arg3 X_arg3 (k0_off3 k) (k0_off3_inb k)) (ltri arg6 X_arg6) (A2 (lq arg2 X_arg2 (k0_off3 k) (k0_off3_inb k)) (lv arg4 X_arg4 (k0_off4 k) (k0_off4_inb k)) (lg arg3 X_arg3 (k0_off3 k) (k0_off3_inb k)) (ltri arg6 X_arg6) (A1 (lq arg2 X_arg2 (k0_off3 k) (k0_off3_inb k)) (lv arg4 X_arg4 (k0_off4 k) (k0_off4_inb k)) (lg arg3 X_arg3 (k0_off3 k) (k0_off3_inb k)) (ltri arg6 X_arg6) (s9_1 arg9 f9)))) := by
  rw [v1295_eq, v1263_eq, v1231_eq]

theorem v1507_eq' : trip_k0_t1.sl.v1507 arg2 arg3 arg4 arg6 arg9 X_arg2 X_arg3 X_arg4 X_arg6 k f9 = (A1 (lq arg2 X_arg2 (k0_off5 k) (k0_off5_inb k)) (lv arg4 X_arg4 (k0_off6 k) (k0_off6_inb k)) (lg arg3 X_arg3 (k0_off5 k) (k0_off5_inb k)) (ltri arg6 X_arg6) (s9_2 arg9 f9)) := by
  rw [v1507_eq]

theorem v1539_eq' : trip_k0_t1.sl.v1539 arg2 arg3 arg4 arg6 arg9 X_arg2 X_arg3 X_arg4 X_arg6 k f9 = (A2 (lq arg2 X_arg2 (k0_off5 k) (k0_off5_inb k)) (lv arg4 X_arg4 (k0_off6 k) (k0_off6_inb k)) (lg arg3 X_arg3 (k0_off5 k) (k0_off5_inb k)) (ltri arg6 X_arg6) (A1 (lq arg2 X_arg2 (k0_off5 k) (k0_off5_inb k)) (lv arg4 X_arg4 (k0_off6 k) (k0_off6_inb k)) (lg arg3 X_arg3 (k0_off5 k) (k0_off5_inb k)) (ltri arg6 X_arg6) (s9_2 arg9 f9))) := by
  rw [v1539_eq, v1507_eq]

theorem v1571_eq' : trip_k0_t1.sl.v1571 arg2 arg3 arg4 arg6 arg9 X_arg2 X_arg3 X_arg4 X_arg6 k f9 = (A3 (lq arg2 X_arg2 (k0_off5 k) (k0_off5_inb k)) (lv arg4 X_arg4 (k0_off6 k) (k0_off6_inb k)) (lg arg3 X_arg3 (k0_off5 k) (k0_off5_inb k)) (ltri arg6 X_arg6) (A2 (lq arg2 X_arg2 (k0_off5 k) (k0_off5_inb k)) (lv arg4 X_arg4 (k0_off6 k) (k0_off6_inb k)) (lg arg3 X_arg3 (k0_off5 k) (k0_off5_inb k)) (ltri arg6 X_arg6) (A1 (lq arg2 X_arg2 (k0_off5 k) (k0_off5_inb k)) (lv arg4 X_arg4 (k0_off6 k) (k0_off6_inb k)) (lg arg3 X_arg3 (k0_off5 k) (k0_off5_inb k)) (ltri arg6 X_arg6) (s9_2 arg9 f9)))) := by
  rw [v1571_eq, v1539_eq, v1507_eq]

theorem v1783_eq' : trip_k0_t1.sl.v1783 arg2 arg3 arg4 arg6 arg9 X_arg2 X_arg3 X_arg4 X_arg6 k f9 = (A1 (lq arg2 X_arg2 (k0_off7 k) (k0_off7_inb k)) (lv arg4 X_arg4 (k0_off8 k) (k0_off8_inb k)) (lg arg3 X_arg3 (k0_off7 k) (k0_off7_inb k)) (ltri arg6 X_arg6) (s9_3 arg9 f9)) := by
  rw [v1783_eq]

theorem v1815_eq' : trip_k0_t1.sl.v1815 arg2 arg3 arg4 arg6 arg9 X_arg2 X_arg3 X_arg4 X_arg6 k f9 = (A2 (lq arg2 X_arg2 (k0_off7 k) (k0_off7_inb k)) (lv arg4 X_arg4 (k0_off8 k) (k0_off8_inb k)) (lg arg3 X_arg3 (k0_off7 k) (k0_off7_inb k)) (ltri arg6 X_arg6) (A1 (lq arg2 X_arg2 (k0_off7 k) (k0_off7_inb k)) (lv arg4 X_arg4 (k0_off8 k) (k0_off8_inb k)) (lg arg3 X_arg3 (k0_off7 k) (k0_off7_inb k)) (ltri arg6 X_arg6) (s9_3 arg9 f9))) := by
  rw [v1815_eq, v1783_eq]

theorem v1847_eq' : trip_k0_t1.sl.v1847 arg2 arg3 arg4 arg6 arg9 X_arg2 X_arg3 X_arg4 X_arg6 k f9 = (A3 (lq arg2 X_arg2 (k0_off7 k) (k0_off7_inb k)) (lv arg4 X_arg4 (k0_off8 k) (k0_off8_inb k)) (lg arg3 X_arg3 (k0_off7 k) (k0_off7_inb k)) (ltri arg6 X_arg6) (A2 (lq arg2 X_arg2 (k0_off7 k) (k0_off7_inb k)) (lv arg4 X_arg4 (k0_off8 k) (k0_off8_inb k)) (lg arg3 X_arg3 (k0_off7 k) (k0_off7_inb k)) (ltri arg6 X_arg6) (A1 (lq arg2 X_arg2 (k0_off7 k) (k0_off7_inb k)) (lv arg4 X_arg4 (k0_off8 k) (k0_off8_inb k)) (lg arg3 X_arg3 (k0_off7 k) (k0_off7_inb k)) (ltri arg6 X_arg6) (s9_3 arg9 f9)))) := by
  rw [v1847_eq, v1815_eq, v1783_eq]

theorem trip9 : (tripL_k0_t1 Variants.none c none i arg1 harg1 arg2 harg2 arg3 harg3 arg4 harg4 arg5 harg5 arg6 harg6 arg7 harg7 arg8 harg8 arg9 harg9 v0 v596 v674 v704 v713 v715 v720 X_arg1 X_arg2 X_arg3 X_arg4 X_arg6 k f f9).2 = [⟨Rect.unit ![3, 0, 0] S1x128x256.size inb_S4x128x256_S1x128x256_3_0_0, A4 (lq arg2 X_arg2 (k0_off7 k) (k0_off7_inb k)) (lv arg4 X_arg4 (k0_off8 k) (k0_off8_inb k)) (lg arg3 X_arg3 (k0_off7 k) (k0_off7_inb k)) (ltri arg6 X_arg6) (trip_k0_t1.sl.v1847 arg2 arg3 arg4 arg6 arg9 X_arg2 X_arg3 X_arg4 X_arg6 k f9)⟩,
    ⟨Rect.unit ![3, 0, 0] S1x128x256.size inb_S4x128x256_S1x128x256_3_0_0, A3 (lq arg2 X_arg2 (k0_off7 k) (k0_off7_inb k)) (lv arg4 X_arg4 (k0_off8 k) (k0_off8_inb k)) (lg arg3 X_arg3 (k0_off7 k) (k0_off7_inb k)) (ltri arg6 X_arg6) (trip_k0_t1.sl.v1815 arg2 arg3 arg4 arg6 arg9 X_arg2 X_arg3 X_arg4 X_arg6 k f9)⟩,
    ⟨Rect.unit ![3, 0, 0] S1x128x256.size inb_S4x128x256_S1x128x256_3_0_0, A2 (lq arg2 X_arg2 (k0_off7 k) (k0_off7_inb k)) (lv arg4 X_arg4 (k0_off8 k) (k0_off8_inb k)) (lg arg3 X_arg3 (k0_off7 k) (k0_off7_inb k)) (ltri arg6 X_arg6) (trip_k0_t1.sl.v1783 arg2 arg3 arg4 arg6 arg9 X_arg2 X_arg3 X_arg4 X_arg6 k f9)⟩,
    ⟨Rect.unit ![3, 0, 0] S1x128x256.size inb_S4x128x256_S1x128x256_3_0_0, A1 (lq arg2 X_arg2 (k0_off7 k) (k0_off7_inb k)) (lv arg4 X_arg4 (k0_off8 k) (k0_off8_inb k)) (lg arg3 X_arg3 (k0_off7 k) (k0_off7_inb k)) (ltri arg6 X_arg6) (s9_3 arg9 f9)⟩,
    ⟨Rect.unit ![2, 0, 0] S1x128x256.size inb_S4x128x256_S1x128x256_2_0_0, A4 (lq arg2 X_arg2 (k0_off5 k) (k0_off5_inb k)) (lv arg4 X_arg4 (k0_off6 k) (k0_off6_inb k)) (lg arg3 X_arg3 (k0_off5 k) (k0_off5_inb k)) (ltri arg6 X_arg6) (trip_k0_t1.sl.v1571 arg2 arg3 arg4 arg6 arg9 X_arg2 X_arg3 X_arg4 X_arg6 k f9)⟩,
    ⟨Rect.unit ![2, 0, 0] S1x128x256.size inb_S4x128x256_S1x128x256_2_0_0, A3 (lq arg2 X_arg2 (k0_off5 k) (k0_off5_inb k)) (lv arg4 X_arg4 (k0_off6 k) (k0_off6_inb k)) (lg arg3 X_arg3 (k0_off5 k) (k0_off5_inb k)) (ltri arg6 X_arg6) (trip_k0_t1.sl.v1539 arg2 arg3 arg4 arg6 arg9 X_arg2 X_arg3 X_arg4 X_arg6 k f9)⟩,
    ⟨Rect.unit ![2, 0, 0] S1x128x256.size inb_S4x128x256_S1x128x256_2_0_0, A2 (lq arg2 X_arg2 (k0_off5 k) (k0_off5_inb k)) (lv arg4 X_arg4 (k0_off6 k) (k0_off6_inb k)) (lg arg3 X_arg3 (k0_off5 k) (k0_off5_inb k)) (ltri arg6 X_arg6) (trip_k0_t1.sl.v1507 arg2 arg3 arg4 arg6 arg9 X_arg2 X_arg3 X_arg4 X_arg6 k f9)⟩,
    ⟨Rect.unit ![2, 0, 0] S1x128x256.size inb_S4x128x256_S1x128x256_2_0_0, A1 (lq arg2 X_arg2 (k0_off5 k) (k0_off5_inb k)) (lv arg4 X_arg4 (k0_off6 k) (k0_off6_inb k)) (lg arg3 X_arg3 (k0_off5 k) (k0_off5_inb k)) (ltri arg6 X_arg6) (s9_2 arg9 f9)⟩,
    ⟨Rect.unit ![1, 0, 0] S1x128x256.size inb_S4x128x256_S1x128x256_1_0_0, A4 (lq arg2 X_arg2 (k0_off3 k) (k0_off3_inb k)) (lv arg4 X_arg4 (k0_off4 k) (k0_off4_inb k)) (lg arg3 X_arg3 (k0_off3 k) (k0_off3_inb k)) (ltri arg6 X_arg6) (trip_k0_t1.sl.v1295 arg2 arg3 arg4 arg6 arg9 X_arg2 X_arg3 X_arg4 X_arg6 k f9)⟩,
    ⟨Rect.unit ![1, 0, 0] S1x128x256.size inb_S4x128x256_S1x128x256_1_0_0, A3 (lq arg2 X_arg2 (k0_off3 k) (k0_off3_inb k)) (lv arg4 X_arg4 (k0_off4 k) (k0_off4_inb k)) (lg arg3 X_arg3 (k0_off3 k) (k0_off3_inb k)) (ltri arg6 X_arg6) (trip_k0_t1.sl.v1263 arg2 arg3 arg4 arg6 arg9 X_arg2 X_arg3 X_arg4 X_arg6 k f9)⟩,
    ⟨Rect.unit ![1, 0, 0] S1x128x256.size inb_S4x128x256_S1x128x256_1_0_0, A2 (lq arg2 X_arg2 (k0_off3 k) (k0_off3_inb k)) (lv arg4 X_arg4 (k0_off4 k) (k0_off4_inb k)) (lg arg3 X_arg3 (k0_off3 k) (k0_off3_inb k)) (ltri arg6 X_arg6) (trip_k0_t1.sl.v1231 arg2 arg3 arg4 arg6 arg9 X_arg2 X_arg3 X_arg4 X_arg6 k f9)⟩,
    ⟨Rect.unit ![1, 0, 0] S1x128x256.size inb_S4x128x256_S1x128x256_1_0_0, A1 (lq arg2 X_arg2 (k0_off3 k) (k0_off3_inb k)) (lv arg4 X_arg4 (k0_off4 k) (k0_off4_inb k)) (lg arg3 X_arg3 (k0_off3 k) (k0_off3_inb k)) (ltri arg6 X_arg6) (s9_1 arg9 f9)⟩,
    ⟨Rect.unit ![0, 0, 0] S1x128x256.size inb_S4x128x256_S1x128x256_0_0_0, A4 (lq arg2 X_arg2 (k0_off1 k) (k0_off1_inb k)) (lv arg4 X_arg4 (k0_off2 k) (k0_off2_inb k)) (lg arg3 X_arg3 (k0_off1 k) (k0_off1_inb k)) (ltri arg6 X_arg6) (trip_k0_t1.sl.v1019 arg2 arg3 arg4 arg6 arg9 X_arg2 X_arg3 X_arg4 X_arg6 k f9)⟩,
    ⟨Rect.unit ![0, 0, 0] S1x128x256.size inb_S4x128x256_S1x128x256_0_0_0, A3 (lq arg2 X_arg2 (k0_off1 k) (k0_off1_inb k)) (lv arg4 X_arg4 (k0_off2 k) (k0_off2_inb k)) (lg arg3 X_arg3 (k0_off1 k) (k0_off1_inb k)) (ltri arg6 X_arg6) (trip_k0_t1.sl.v987 arg2 arg3 arg4 arg6 arg9 X_arg2 X_arg3 X_arg4 X_arg6 k f9)⟩,
    ⟨Rect.unit ![0, 0, 0] S1x128x256.size inb_S4x128x256_S1x128x256_0_0_0, A2 (lq arg2 X_arg2 (k0_off1 k) (k0_off1_inb k)) (lv arg4 X_arg4 (k0_off2 k) (k0_off2_inb k)) (lg arg3 X_arg3 (k0_off1 k) (k0_off1_inb k)) (ltri arg6 X_arg6) (trip_k0_t1.sl.v955 arg2 arg3 arg4 arg6 arg9 X_arg2 X_arg3 X_arg4 X_arg6 k f9)⟩,
    ⟨Rect.unit ![0, 0, 0] S1x128x256.size inb_S4x128x256_S1x128x256_0_0_0, A1 (lq arg2 X_arg2 (k0_off1 k) (k0_off1_inb k)) (lv arg4 X_arg4 (k0_off2 k) (k0_off2_inb k)) (lg arg3 X_arg3 (k0_off1 k) (k0_off1_inb k)) (ltri arg6 X_arg6) (s9_0 arg9 f9)⟩] := by
  unfold tripL_k0_t1 trip_k0_t1
  rfl

theorem trip7 : (tripL_k0_t1 Variants.none c none i arg1 harg1 arg2 harg2 arg3 harg3 arg4 harg4 arg5 harg5 arg6 harg6 arg7 harg7 arg8 harg8 arg9 harg9 v0 v596 v674 v704 v713 v715 v720 X_arg1 X_arg2 X_arg3 X_arg4 X_arg6 k f f9).1 = [⟨Rect.unit (k0_off8 k) S1x256x256.size (k0_off8_inb k), HO v0 (lq arg1 X_arg1 (k0_off7 k) (k0_off7_inb k)) (lq arg2 X_arg2 (k0_off7 k) (k0_off7_inb k)) (lg arg3 X_arg3 (k0_off7 k) (k0_off7_inb k)) (lv arg4 X_arg4 (k0_off8 k) (k0_off8_inb k)) (ltri arg6 X_arg6) (s9_3 arg9 f9) (trip_k0_t1.sl.v1783 arg2 arg3 arg4 arg6 arg9 X_arg2 X_arg3 X_arg4 X_arg6 k f9) (trip_k0_t1.sl.v1815 arg2 arg3 arg4 arg6 arg9 X_arg2 X_arg3 X_arg4 X_arg6 k f9) (trip_k0_t1.sl.v1847 arg2 arg3 arg4 arg6 arg9 X_arg2 X_arg3 X_arg4 X_arg6 k f9)⟩,
    ⟨Rect.unit (k0_off6 k) S1x256x256.size (k0_off6_inb k), HO v0 (lq arg1 X_arg1 (k0_off5 k) (k0_off5_inb k)) (lq arg2 X_arg2 (k0_off5 k) (k0_off5_inb k)) (lg arg3 X_arg3 (k0_off5 k) (k0_off5_inb k)) (lv arg4 X_arg4 (k0_off6 k) (k0_off6_inb k)) (ltri arg6 X_arg6) (s9_2 arg9 f9) (trip_k0_t1.sl.v1507 arg2 arg3 arg4 arg6 arg9 X_arg2 X_arg3 X_arg4 X_arg6 k f9) (trip_k0_t1.sl.v1539 arg2 arg3 arg4 arg6 arg9 X_arg2 X_arg3 X_arg4 X_arg6 k f9) (trip_k0_t1.sl.v1571 arg2 arg3 arg4 arg6 arg9 X_arg2 X_arg3 X_arg4 X_arg6 k f9)⟩,
    ⟨Rect.unit (k0_off4 k) S1x256x256.size (k0_off4_inb k), HO v0 (lq arg1 X_arg1 (k0_off3 k) (k0_off3_inb k)) (lq arg2 X_arg2 (k0_off3 k) (k0_off3_inb k)) (lg arg3 X_arg3 (k0_off3 k) (k0_off3_inb k)) (lv arg4 X_arg4 (k0_off4 k) (k0_off4_inb k)) (ltri arg6 X_arg6) (s9_1 arg9 f9) (trip_k0_t1.sl.v1231 arg2 arg3 arg4 arg6 arg9 X_arg2 X_arg3 X_arg4 X_arg6 k f9) (trip_k0_t1.sl.v1263 arg2 arg3 arg4 arg6 arg9 X_arg2 X_arg3 X_arg4 X_arg6 k f9) (trip_k0_t1.sl.v1295 arg2 arg3 arg4 arg6 arg9 X_arg2 X_arg3 X_arg4 X_arg6 k f9)⟩,
    ⟨Rect.unit (k0_off2 k) S1x256x256.size (k0_off2_inb k), HO v0 (lq arg1 X_arg1 (k0_off1 k) (k0_off1_inb k)) (lq arg2 X_arg2 (k0_off1 k) (k0_off1_inb k)) (lg arg3 X_arg3 (k0_off1 k) (k0_off1_inb k)) (lv arg4 X_arg4 (k0_off2 k) (k0_off2_inb k)) (ltri arg6 X_arg6) (s9_0 arg9 f9) (trip_k0_t1.sl.v955 arg2 arg3 arg4 arg6 arg9 X_arg2 X_arg3 X_arg4 X_arg6 k f9) (trip_k0_t1.sl.v987 arg2 arg3 arg4 arg6 arg9 X_arg2 X_arg3 X_arg4 X_arg6 k f9) (trip_k0_t1.sl.v1019 arg2 arg3 arg4 arg6 arg9 X_arg2 X_arg3 X_arg4 X_arg6 k f9)⟩] := by
  unfold tripL_k0_t1 trip_k0_t1
  rfl

end

end Cert.Gla

end
-- ==== Proof.Gla.Prefix.lean ====
/-
  The kernel's first block: 112 rows of zeros before the sequence's first 16 rows, as two chunks.
-/
module

public import proofs.«01_k».proof.Proof.Gla.Block

@[expose] public section

noncomputable section

namespace Cert.Gla

open Idealize.ShloMosaic Cert.GlaPromptIdeal Cert.GlaPromptIdeal.Gen

theorem fdiv_row2 (c : Fin 2) (r : Fin 64) : fdiv (BitVec.ofNat 32 (row2 c r).val) = BitVec.ofNat 32 c.val := by
  have h := fdiv_eq ⟨(row2 c r).val, by omega⟩
  dsimp only at h
  rw [h]; congr 1; simp [row2]; omega

/-- The mask of the scores and the rows' chunk numbers. -/
abbrev M2 : IVec S128x128 1 :=
  k0_pay157 (iota .tc S128x128 32 [0] iota_S128x128_d0_w32) (iota .tc S128x128 32 [1] iota_S128x128_d1_w32) 64#32 k0_pay155 k0_pay156 0#32
abbrev N2 : IVec S128x128 32 := k0_pay160 (iota .tc S128x128 32 [1] iota_S128x128_d1_w32) 64#32 k0_pay158 k0_pay159

theorem mask2 (c c' : Fin 2) (r s : Fin 64) :
    M2 (ix2 (row2 c r) (row2 c' s)) = if c' = c ∧ s ≤ r then 1#1 else 0#1 := by
  pointwise [M2, k0_pay157, k0_pay155, k0_pay156]
  show IntOp.andi (IntOp.cmpi .eq (fdiv (BitVec.ofNat 32 (row2 c r).val)) (fdiv (BitVec.ofNat 32 (row2 c' s).val)))
    (IntOp.cmpi .sle (BitVec.ofNat 32 (row2 c' s).val) (BitVec.ofNat 32 (row2 c r).val)) = _
  have h3 := cmpi_sle_ofNat ⟨(row2 c' s).val, by omega⟩ ⟨(row2 c r).val, by omega⟩
  dsimp only at h3
  rw [fdiv_row2, fdiv_row2, cmpi_eq_ofNat _ _ (by omega) (by omega), h3]
  have h1 : ((⟨(row2 c' s).val, by omega⟩ : Fin 256) ≤ ⟨(row2 c r).val, by omega⟩) ↔ (c' < c ∨ (c' = c ∧ s ≤ r)) := by
    simp only [row2, Fin.le_def, Fin.lt_def, Fin.ext_iff]; omega
  have h2 : (c.val = c'.val) ↔ c' = c := by rw [Fin.ext_iff]; exact eq_comm
  simp only [h1, h2]
  by_cases a : c' = c <;> by_cases b : s ≤ r <;> simp [a, b, IntOp.andi]

theorem colmask2 (d : Fin 128) (c : Fin 2) (r : Fin 64) :
    N2 (ix2 d (row2 c r)) = BitVec.ofNat 32 c.val := by
  pointwise [N2, k0_pay160, k0_pay158, k0_pay159]
  exact fdiv_row2 c r

/-- The matrix that sums within chunks. -/
def IsTri2 (tri : Vec Ideal S128x128 .bf16) : Prop :=
  ∀ (c c' : Fin 2) (r s : Fin 64), tri (ix2 (row2 c r) (row2 c' s)) = if c' = c ∧ s ≤ r then 1 else 0

theorem exists_row2 (t : Fin 128) : ∃ c r, t = row2 c r :=
  ⟨⟨t.val / 64, by omega⟩, ⟨t.val % 64, by omega⟩, by simp [row2, Fin.ext_iff]; omega⟩

theorem row2_div (c : Fin 2) (r : Fin 64) : (row2 c r).val / 64 = c.val := by simp [row2]; omega

theorem bsum2 {tri : Vec Ideal S128x128 .bf16} (ht : IsTri2 tri) {g : FVec Ideal S128x128 .f32}
    (hg : ∀ i, g i ≠ ⊤ ∧ g i ≠ ⊥) (c : Fin 2) (r : Fin 64) (d : Fin 128) :
    k0_pay161 g tri (ix2 (row2 c r) d) = cum (fun s => g (ix2 (row2 c s) d)) r := by
  have h0 : ∀ i, g i - g i = 0 := fun i => sub_self' (hg i)
  pointwise [k0_pay161]
  simp only [h0, sub_zero, mul_zero, Finset.sum_const_zero, add_zero, dite_eq_ite]
  have hd : ¬ (256 + d.val < 128) := by omega
  simp only [dif_neg hd, sub_zero, dite_eq_ite, ite_self, mul_zero, Finset.sum_const_zero, add_zero]
  rw [sum_row2 _ c fun s hs => by
    obtain ⟨c', s', rfl⟩ := exists_row2 s
    rw [row2_div] at hs
    rw [ht, if_neg (fun h => hs (by rw [h.1])), zero_mul]]
  refine Finset.sum_congr rfl fun s _ => ?_
  rw [ht]; split_ifs with h1 h2 h2 <;> simp_all

theorem blast2 (g : FVec Ideal S128x128 .f32) (tri : Vec Ideal S128x128 .bf16) (c : Fin 2) (r : Fin 64) (d : Fin 128) :
    k0_pay162 g tri (ix2 (row2 c r) d) = k0_pay161 g tri (ix2 (row2 c 63) d) := by
  unfold k0_pay162
  generalize k0_pay161 g tri = b
  pointwise
  have hv : (row2 c r).val = 64 * c.val + r.val := rfl
  have hc := c.isLt
  have hr := r.isLt
  split_ifs with h1
  · rw [show row2 c 63 = 63 from Fin.ext (by simp only [row2]; show _ = 63; omega)]
  · rw [show row2 c 63 = 127 from Fin.ext (by simp only [row2]; show _ = 127; omega)]

section
variable {q k : FVec Ideal S128x128 .bf16} {g : FVec Ideal S128x128 .f32} {v : FVec Ideal S128x256 .bf16} {tri : Vec Ideal S128x128 .bf16}

abbrev dQ (q : FVec Ideal S128x128 .bf16) (c : Fin 2) (r : Fin 64) (d : Fin 128) : EReal :=
  q (ix2 (row2 c r) d) * Ideal.ofBits .f32 0x3DB504F3#32
abbrev dK (k : FVec Ideal S128x128 .bf16) (c : Fin 2) (r : Fin 64) (d : Fin 128) : EReal := k (ix2 (row2 c r) d)
abbrev dG (g : FVec Ideal S128x128 .f32) (c : Fin 2) (r : Fin 64) (d : Fin 128) : EReal := g (ix2 (row2 c r) d)
abbrev dV (v : FVec Ideal S128x256 .bf16) (c : Fin 2) (r : Fin 64) (e : Fin 256) : EReal := v (ix2 (row2 c r) e)

theorem pay164_row (ht : IsTri2 tri) (hg : ∀ i, g i ≠ ⊤ ∧ g i ≠ ⊥) (c : Fin 2) (r : Fin 64) (d : Fin 128) :
    k0_pay164 q g tri (ix2 (row2 c r) d) = dQ q c r d * Ideal.exp (cum (fun s => dG g c s d) r) := by
  rw [← bsum2 ht hg, mul_assoc]
  unfold k0_pay164
  generalize k0_pay161 g tri = b
  pointwise

theorem pay166_row (ht : IsTri2 tri) (hg : ∀ i, g i ≠ ⊤ ∧ g i ≠ ⊥) (c : Fin 2) (r : Fin 64) (d : Fin 128) :
    k0_pay166 (k0_pay161 g tri) (k0_pay162 g tri) (k0_pay163 k) (ix2 d (row2 c r))
      = dK k c r d * Ideal.exp (cum (fun s => dG g c s d) 63 - cum (fun s => dG g c s d) r) := by
  rw [← bsum2 ht hg, ← bsum2 ht hg, ← blast2 g tri c r]
  unfold k0_pay166 k0_pay163
  generalize k0_pay161 g tri = b
  generalize k0_pay162 g tri = b'
  pointwise

theorem pay167_row (ht : IsTri2 tri) (hg : ∀ i, g i ≠ ⊤ ∧ g i ≠ ⊥) (c : Fin 2) (r : Fin 64) (d : Fin 128) :
    k0_pay167 (k0_pay162 g tri) (ix2 d (row2 c r)) = Ideal.exp (cum (fun s => dG g c s d) 63) := by
  rw [← bsum2 ht hg, ← blast2 g tri c r]
  unfold k0_pay167
  generalize k0_pay162 g tri = b'
  pointwise

/-- The keys of one chunk, decayed to its end, times the values. -/
theorem kdv2_row (ht : IsTri2 tri) (hg : ∀ i, g i ≠ ⊤ ∧ g i ≠ ⊥) (c : Fin 2) (d : Fin 128) (e : Fin 256) :
    (∑ x : Fin 128, Scalar.select (IntOp.cmpi CmpIPredicate.eq (N2 (ix2 d x)) (BitVec.ofNat 32 c.val))
        (k0_pay166 (k0_pay161 g tri) (k0_pay162 g tri) (k0_pay163 k) (ix2 d x)) 0 * v (ix2 x e))
      = ∑ s : Fin 64, (dK k c s d * Ideal.exp (cum (fun s => dG g c s d) 63 - cum (fun s => dG g c s d) s)) * dV v c s e := by
  rw [sum_row2 _ c fun s hs => by
    obtain ⟨c', s', rfl⟩ := exists_row2 s
    rw [row2_div] at hs
    rw [colmask2, cmpi_eq_ofNat _ _ (by omega) (by omega), if_neg hs]; simp [Scalar.select]]
  refine Finset.sum_congr rfl fun s _ => ?_
  rw [colmask2, cmpi_eq_ofNat _ _ (by omega) (by omega), if_pos rfl, pay166_row ht hg]; simp [Scalar.select]

variable {s : Vec Ideal S1x128x256 .f32}

/-- The states that the block's two chunks leave. -/
abbrev B1 (k : FVec Ideal S128x128 .bf16) (v : FVec Ideal S128x256 .bf16) (g : FVec Ideal S128x128 .f32) (tri : Vec Ideal S128x128 .bf16)
    (s : Vec Ideal S1x128x256 .f32) : Vec Ideal S1x128x256 .f32 :=
  k0_pay168 v N2 (k0_pay161 g tri) (k0_pay162 g tri) (k0_pay163 k) s
abbrev B2 (k : FVec Ideal S128x128 .bf16) (v : FVec Ideal S128x256 .bf16) (g : FVec Ideal S128x128 .f32) (tri : Vec Ideal S128x128 .bf16)
    (s : Vec Ideal S1x128x256 .f32) : Vec Ideal S1x128x256 .f32 :=
  k0_pay172 v (k0_pay167 (k0_pay162 g tri)) (k0_pay169 s) (k0_pay171 N2 (k0_pay161 g tri) (k0_pay162 g tri) (k0_pay163 k))
/-- The sixteen rows' output. -/
abbrev OP (v0 : Vec Ideal S1x256 .f32) (q k : FVec Ideal S128x128 .bf16) (g : FVec Ideal S128x128 .f32) (v : FVec Ideal S128x256 .bf16) (tri : Vec Ideal S128x128 .bf16)
    (s : Vec Ideal S1x128x256 .f32) : Vec Ideal S1x16x256 .bf16 :=
  k0_pay173 v0 (k0_pay170 v M2 (k0_pay161 g tri) (k0_pay163 k) (k0_pay164 q g tri) k0_pay165 s)

theorem b1_eq (ht : IsTri2 tri) (hg : ∀ i, g i ≠ ⊤ ∧ g i ≠ ⊥) (d : Fin 128) (e : Fin 256) :
    B1 k v g tri s (ix3 0 d e) = stepS (dK k 0) (dV v 0) (dG g 0) (cS s) d e := by
  unfold stepS
  rw [← kdv2_row ht hg, ← pay167_row ht hg 0 0 d]
  unfold B1 k0_pay168
  generalize k0_pay166 (k0_pay161 g tri) (k0_pay162 g tri) (k0_pay163 k) = a
  generalize k0_pay167 (k0_pay162 g tri) = a'
  generalize N2 = N
  pointwise
  rfl

theorem b2_eq (ht : IsTri2 tri) (hg : ∀ i, g i ≠ ⊤ ∧ g i ≠ ⊥) (d : Fin 128) (e : Fin 256) :
    B2 k v g tri s (ix3 0 d e) = stepS (dK k 1) (dV v 1) (dG g 1) (cS s) d e := by
  unfold stepS
  rw [← kdv2_row ht hg, ← pay167_row ht hg 1 0 d]
  unfold B2 k0_pay172 k0_pay171 k0_pay169
  generalize k0_pay166 (k0_pay161 g tri) (k0_pay162 g tri) (k0_pay163 k) = a
  generalize k0_pay167 (k0_pay162 g tri) = a'
  generalize N2 = N
  pointwise
  rfl

/-- The second chunk's raw output. -/
theorem pay170_row (ht : IsTri2 tri) (hg : ∀ i, g i ≠ ⊤ ∧ g i ≠ ⊥) (r : Fin 64) (e : Fin 256) :
    k0_pay170 v M2 (k0_pay161 g tri) (k0_pay163 k) (k0_pay164 q g tri) k0_pay165 s (ix2 r e)
      = stepO (dQ q 1) (dK k 1) (dV v 1) (dG g 1) (cS s) r e := by
  have hm := fun c' s => mask2 1 c' r s
  unfold stepO
  simp only [← pay164_row ht hg]
  simp only [← bsum2 ht hg]
  unfold k0_pay170 k0_pay169 k0_pay165 k0_pay163
  generalize k0_pay161 g tri = b
  generalize k0_pay164 q g tri = qg
  generalize M2 = M at hm ⊢
  have e1 : (row2 1 r) = ⟨64 + r.val, by omega⟩ := Fin.ext (by simp [row2])
  rw [e1] at hm ⊢
  pointwise
  congr 1
  rw [sum_row2 _ 1 fun s hs => by
    obtain ⟨c', s', rfl⟩ := exists_row2 s
    rw [row2_div] at hs
    rw [hm, if_neg (fun h => hs (by rw [h.1]))]; simp [Scalar.select]]
  refine Finset.sum_congr rfl fun s _ => ?_
  rw [hm]; by_cases h : s ≤ r <;> simp [h, Scalar.select, zero_sub]

theorem op_eq {v0 : Vec Ideal S1x256 .f32} (ht : IsTri2 tri) (hg : ∀ i, g i ≠ ⊤ ∧ g i ≠ ⊥) (r : Fin 16) (e : Fin 256) :
    OP v0 q k g v tri s (ix3 0 r e)
      = rmsE (stepO (dQ q 1) (dK k 1) (dV v 1) (dG g 1) (cS s) ⟨48 + r.val, by omega⟩) (fun e => v0 (ix2 0 e)) e := by
  have h := fun e => pay170_row (q := q) (k := k) (v := v) (s := s) ht hg ⟨48 + r.val, by omega⟩ e
  rw [← funext h]
  unfold OP k0_pay173
  generalize k0_pay170 v M2 (k0_pay161 g tri) (k0_pay163 k) (k0_pay164 q g tri) k0_pay165 s = a
  pointwise
  rfl

end

/-! ### The padded rows -/

theorem pad151 (x : Vec Ideal S1x16x128 .bf16) (c : Fin 2) (r : Fin 64) (d : Fin 128) :
    k0_pay151 x (ix2 (row2 c r) d) = if h : c = 1 ∧ 48 ≤ r.val then x (ix3 0 ⟨r.val - 48, by omega⟩ d) else 0 := by
  pointwise [k0_pay151]
  have hv : (row2 c r).val = 64 * c.val + r.val := rfl
  by_cases h : c = 1 ∧ 48 ≤ r.val
  · have h1 : c.val = 1 := by rw [h.1]; rfl
    rw [dif_pos h, dif_neg (by omega)]
    congr 2
    exact Fin.ext (by show (row2 c r).val - 112 = r.val - 48; omega)
  · have h1 : ¬ (c.val = 1 ∧ 48 ≤ r.val) := fun a => h ⟨Fin.ext a.1, a.2⟩
    rw [dif_neg h, dif_pos (by omega)]

theorem pad153 (x : Vec Ideal S1x16x128 .f32) (c : Fin 2) (r : Fin 64) (d : Fin 128) :
    k0_pay153 x (ix2 (row2 c r) d) = if h : c = 1 ∧ 48 ≤ r.val then x (ix3 0 ⟨r.val - 48, by omega⟩ d) else 0 := by
  pointwise [k0_pay153]
  have hv : (row2 c r).val = 64 * c.val + r.val := rfl
  by_cases h : c = 1 ∧ 48 ≤ r.val
  · have h1 : c.val = 1 := by rw [h.1]; rfl
    rw [dif_pos h, dif_neg (by omega)]
    congr 2
    exact Fin.ext (by show (row2 c r).val - 112 = r.val - 48; omega)
  · have h1 : ¬ (c.val = 1 ∧ 48 ≤ r.val) := fun a => h ⟨Fin.ext a.1, a.2⟩
    rw [dif_neg h, dif_pos (by omega)]

theorem pad154 (x : Vec Ideal S1x16x256 .bf16) (c : Fin 2) (r : Fin 64) (d : Fin 256) :
    k0_pay154 x (ix2 (row2 c r) d) = if h : c = 1 ∧ 48 ≤ r.val then x (ix3 0 ⟨r.val - 48, by omega⟩ d) else 0 := by
  pointwise [k0_pay154]
  have hv : (row2 c r).val = 64 * c.val + r.val := rfl
  by_cases h : c = 1 ∧ 48 ≤ r.val
  · have h1 : c.val = 1 := by rw [h.1]; rfl
    rw [dif_pos h, dif_neg (by omega)]
    congr 2
    exact Fin.ext (by show (row2 c r).val - 112 = r.val - 48; omega)
  · have h1 : ¬ (c.val = 1 ∧ 48 ≤ r.val) := fun a => h ⟨Fin.ext a.1, a.2⟩
    rw [dif_neg h, dif_pos (by omega)]

end Cert.Gla

end
-- ==== Proof.Gla.Body.lean ====
/-
  What the kernel's body leaves: the stores of its first block, then those of the loop's trips.
-/
module

public import proofs.«01_k».proof.Proof.Gla.Trip
public import proofs.«01_k».proof.Proof.Gla.Prefix
public import Idealize.ShloMosaic.Lib.Pipeline.ReadBack

@[expose] public section

set_option maxRecDepth 16384

noncomputable section

namespace Cert.Gla

open Cert.GlaPromptIdeal Cert.GlaPromptIdeal.Gen Cert.GlaPromptIdeal.Own
open Idealize.ShloMosaic

section
variable (c : Dev nD) (i : grid0.Coords) (arg1 : Memref sig .tc .vmem S1x2064x512 .bf16) (harg1 : arg1.IsWhole) (arg2 : Memref sig .tc .vmem S1x2064x512 .bf16) (harg2 : arg2.IsWhole) (arg3 : Memref sig .tc .vmem S1x2064x512 .f32) (harg3 : arg3.IsWhole) (arg4 : Memref sig .tc .vmem S1x2064x1024 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x2064x1024 .bf16) (harg7 : arg7.IsWhole) (arg8 : Memref sig .tc .vmem S1x4x128x256 .f32) (harg8 : arg8.IsWhole) (arg9 : Memref sig .tc .vmem S4x128x256 .f32) (harg9 : arg9.IsWhole)
    (x0 : Vec Ideal S1x2064x512 .bf16) (x1 : Vec Ideal S1x2064x512 .bf16) (x2 : Vec Ideal S1x2064x512 .f32) (x3 : Vec Ideal S1x2064x1024 .bf16) (x4 : Vec Ideal S1x256 .f32) (x5 : Vec Ideal S256x256 .bf16)

/-- A head's first 16 rows under 112 rows of zeros: queries or keys, gates, values; and the smaller matrix. -/
abbrev pq (arg1 : Memref sig .tc .vmem S1x2064x512 .bf16) (h : arg1.IsWhole) (x : Vec Ideal S1x2064x512 .bf16) (off : Fin 3 → ℕ) (inb : ∀ a, off a + S1x16x128.size a ≤ S1x2064x512.size a) : FVec Ideal S128x128 .bf16 :=
  k0_pay151 (View.readAt (Elt Ideal) arg1.view (Rect.unit (s := S1x2064x512) off S1x16x128.size inb).toLoadRect (h.unread x))
abbrev pg (arg3 : Memref sig .tc .vmem S1x2064x512 .f32) (h : arg3.IsWhole) (x : Vec Ideal S1x2064x512 .f32) (off : Fin 3 → ℕ) (inb : ∀ a, off a + S1x16x128.size a ≤ S1x2064x512.size a) : FVec Ideal S128x128 .f32 :=
  k0_pay153 (View.readAt (Elt Ideal) arg3.view (Rect.unit (s := S1x2064x512) off S1x16x128.size inb).toLoadRect (h.unread x))
abbrev pv (arg4 : Memref sig .tc .vmem S1x2064x1024 .bf16) (h : arg4.IsWhole) (x : Vec Ideal S1x2064x1024 .bf16) (off : Fin 3 → ℕ) (inb : ∀ a, off a + S1x16x256.size a ≤ S1x2064x1024.size a) : FVec Ideal S128x256 .bf16 :=
  k0_pay154 (View.readAt (Elt Ideal) arg4.view (Rect.unit (s := S1x2064x1024) off S1x16x256.size inb).toLoadRect (h.unread x))
abbrev ptri (arg6 : Memref sig .tc .vmem S256x256 .bf16) (h : arg6.IsWhole) (x : Vec Ideal S256x256 .bf16) : Vec Ideal S128x128 .bf16 :=
  View.readAt (Elt Ideal) arg6.view (Rect.unit (s := S256x256) ![0, 0] S128x128.size inb_S256x256_S128x128_0_0).toLoadRect (h.unread x)
abbrev pgn (arg5 : Memref sig .tc .vmem S1x256 .f32) (h : arg5.IsWhole) (x : Vec Ideal S1x256 .f32) : Vec Ideal S1x256 .f32 :=
  View.readAt (Elt Ideal) arg5.view (Rect.unit (s := S1x256) ![0, 0] S1x256.size inb_S1x256_S1x256_0_0).toLoadRect (h.unread x)
/-- A state of zeros. -/
abbrev zS : Vec Ideal S1x128x256 .f32 := View.ld (Val := Elt Ideal) (k0_pay150 (F := Ideal)) (Rect.unit (s := S4x128x256) ![0, 0, 0] S1x128x256.size inb_S4x128x256_S1x128x256_0_0_0)

/-- Before head 0 the state is still zero. -/
theorem z0_eq : kernelRun0_A.sl.v145 c arg9 = View.ld (Val := Elt Ideal) (k0_pay150 (F := Ideal)) (Rect.unit (s := S4x128x256) ![0, 0, 0] S1x128x256.size inb_S4x128x256_S1x128x256_0_0_0) := by
  unfold kernelRun0_A.sl.v145
  try unfold kernelRun0_A.sl.HS0_8
  try unfold kernelRun0_A.sl.HS0_7
  try unfold kernelRun0_A.sl.HS0_6
  try unfold kernelRun0_A.sl.HS0_5
  try unfold kernelRun0_A.sl.HS0_4
  try unfold kernelRun0_A.sl.HS0_3
  try unfold kernelRun0_A.sl.HS0_2
  try unfold kernelRun0_A.sl.HS0_1
  simp (disch := decide) only [↓View.readCov_skip]
  exact View.readCov_fill arg9.view inb_S4x128x256_S4x128x256_0_0_0 _ _ _ (by decide)

theorem v160_eq : kernelRun0_A.sl.v160 c arg2 harg2 arg3 harg3 arg4 harg4 arg6 harg6 arg9 x1 x2 x3 x5 = B1 (pq arg2 harg2 x1 ![0, 0, 0] inb_S1x2064x512_S1x16x128_0_0_0) (pv arg4 harg4 x3 ![0, 0, 0] inb_S1x2064x1024_S1x16x256_0_0_0) (pg arg3 harg3 x2 ![0, 0, 0] inb_S1x2064x512_S1x16x128_0_0_0) (ptri arg6 harg6 x5) (kernelRun0_A.sl.v145 c arg9) :=
  View.readCov_same _ _ _ _

/-- Before head 1 the state is still zero. -/
theorem z1_eq : kernelRun0_A.sl.v337 c arg2 harg2 arg3 harg3 arg4 harg4 arg6 harg6 arg9 x1 x2 x3 x5 = View.ld (Val := Elt Ideal) (k0_pay150 (F := Ideal)) (Rect.unit (s := S4x128x256) ![1, 0, 0] S1x128x256.size inb_S4x128x256_S1x128x256_1_0_0) := by
  unfold kernelRun0_A.sl.v337
  try unfold kernelRun0_A.sl.HS0_8
  try unfold kernelRun0_A.sl.HS0_7
  try unfold kernelRun0_A.sl.HS0_6
  try unfold kernelRun0_A.sl.HS0_5
  try unfold kernelRun0_A.sl.HS0_4
  try unfold kernelRun0_A.sl.HS0_3
  try unfold kernelRun0_A.sl.HS0_2
  try unfold kernelRun0_A.sl.HS0_1
  simp (disch := decide) only [↓View.readCov_skip]
  exact View.readCov_fill arg9.view inb_S4x128x256_S4x128x256_0_0_0 _ _ _ (by decide)

theorem v352_eq : kernelRun0_A.sl.v352 c arg2 harg2 arg3 harg3 arg4 harg4 arg6 harg6 arg9 x1 x2 x3 x5 = B1 (pq arg2 harg2 x1 ![0, 0, 128] inb_S1x2064x512_S1x16x128_0_0_128) (pv arg4 harg4 x3 ![0, 0, 256] inb_S1x2064x1024_S1x16x256_0_0_256) (pg arg3 harg3 x2 ![0, 0, 128] inb_S1x2064x512_S1x16x128_0_0_128) (ptri arg6 harg6 x5) (kernelRun0_A.sl.v337 c arg2 harg2 arg3 harg3 arg4 harg4 arg6 harg6 arg9 x1 x2 x3 x5) :=
  View.readCov_same _ _ _ _

/-- Before head 2 the state is still zero. -/
theorem z2_eq : kernelRun0_A.sl.v529 c arg2 harg2 arg3 harg3 arg4 harg4 arg6 harg6 arg9 x1 x2 x3 x5 = View.ld (Val := Elt Ideal) (k0_pay150 (F := Ideal)) (Rect.unit (s := S4x128x256) ![2, 0, 0] S1x128x256.size inb_S4x128x256_S1x128x256_2_0_0) := by
  unfold kernelRun0_A.sl.v529
  try unfold kernelRun0_A.sl.HS0_8
  try unfold kernelRun0_A.sl.HS0_7
  try unfold kernelRun0_A.sl.HS0_6
  try unfold kernelRun0_A.sl.HS0_5
  try unfold kernelRun0_A.sl.HS0_4
  try unfold kernelRun0_A.sl.HS0_3
  try unfold kernelRun0_A.sl.HS0_2
  try unfold kernelRun0_A.sl.HS0_1
  simp (disch := decide) only [↓View.readCov_skip]
  exact View.readCov_fill arg9.view inb_S4x128x256_S4x128x256_0_0_0 _ _ _ (by decide)

theorem v544_eq : kernelRun0_A.sl.v544 c arg2 harg2 arg3 harg3 arg4 harg4 arg6 harg6 arg9 x1 x2 x3 x5 = B1 (pq arg2 harg2 x1 ![0, 0, 256] inb_S1x2064x512_S1x16x128_0_0_256) (pv arg4 harg4 x3 ![0, 0, 512] inb_S1x2064x1024_S1x16x256_0_0_512) (pg arg3 harg3 x2 ![0, 0, 256] inb_S1x2064x512_S1x16x128_0_0_256) (ptri arg6 harg6 x5) (kernelRun0_A.sl.v529 c arg2 harg2 arg3 harg3 arg4 harg4 arg6 harg6 arg9 x1 x2 x3 x5) :=
  View.readCov_same _ _ _ _

/-- Before head 3 the state is still zero. -/
theorem z3_eq : kernelRun0_A.sl.v721 c arg2 harg2 arg3 harg3 arg4 harg4 arg6 harg6 arg9 x1 x2 x3 x5 = View.ld (Val := Elt Ideal) (k0_pay150 (F := Ideal)) (Rect.unit (s := S4x128x256) ![3, 0, 0] S1x128x256.size inb_S4x128x256_S1x128x256_3_0_0) := by
  unfold kernelRun0_A.sl.v721
  try unfold kernelRun0_A.sl.HS0_8
  try unfold kernelRun0_A.sl.HS0_7
  try unfold kernelRun0_A.sl.HS0_6
  try unfold kernelRun0_A.sl.HS0_5
  try unfold kernelRun0_A.sl.HS0_4
  try unfold kernelRun0_A.sl.HS0_3
  try unfold kernelRun0_A.sl.HS0_2
  try unfold kernelRun0_A.sl.HS0_1
  simp (disch := decide) only [↓View.readCov_skip]
  exact View.readCov_fill arg9.view inb_S4x128x256_S4x128x256_0_0_0 _ _ _ (by decide)

theorem v736_eq : kernelRun0_A.sl.v736 c arg2 harg2 arg3 harg3 arg4 harg4 arg6 harg6 arg9 x1 x2 x3 x5 = B1 (pq arg2 harg2 x1 ![0, 0, 384] inb_S1x2064x512_S1x16x128_0_0_384) (pv arg4 harg4 x3 ![0, 0, 768] inb_S1x2064x1024_S1x16x256_0_0_768) (pg arg3 harg3 x2 ![0, 0, 384] inb_S1x2064x512_S1x16x128_0_0_384) (ptri arg6 harg6 x5) (kernelRun0_A.sl.v721 c arg2 harg2 arg3 harg3 arg4 harg4 arg6 harg6 arg9 x1 x2 x3 x5) :=
  View.readCov_same _ _ _ _

theorem pre9 : kernelRun0_A.sl.HS0_9 c arg2 harg2 arg3 harg3 arg4 harg4 arg6 harg6 arg9 x1 x2 x3 x5 = [⟨Rect.unit ![3, 0, 0] S1x128x256.size inb_S4x128x256_S1x128x256_3_0_0, B2 (pq arg2 harg2 x1 ![0, 0, 384] inb_S1x2064x512_S1x16x128_0_0_384) (pv arg4 harg4 x3 ![0, 0, 768] inb_S1x2064x1024_S1x16x256_0_0_768) (pg arg3 harg3 x2 ![0, 0, 384] inb_S1x2064x512_S1x16x128_0_0_384) (ptri arg6 harg6 x5) (kernelRun0_A.sl.v736 c arg2 harg2 arg3 harg3 arg4 harg4 arg6 harg6 arg9 x1 x2 x3 x5)⟩,
    ⟨Rect.unit ![3, 0, 0] S1x128x256.size inb_S4x128x256_S1x128x256_3_0_0, B1 (pq arg2 harg2 x1 ![0, 0, 384] inb_S1x2064x512_S1x16x128_0_0_384) (pv arg4 harg4 x3 ![0, 0, 768] inb_S1x2064x1024_S1x16x256_0_0_768) (pg arg3 harg3 x2 ![0, 0, 384] inb_S1x2064x512_S1x16x128_0_0_384) (ptri arg6 harg6 x5) (kernelRun0_A.sl.v721 c arg2 harg2 arg3 harg3 arg4 harg4 arg6 harg6 arg9 x1 x2 x3 x5)⟩,
    ⟨Rect.unit ![2, 0, 0] S1x128x256.size inb_S4x128x256_S1x128x256_2_0_0, B2 (pq arg2 harg2 x1 ![0, 0, 256] inb_S1x2064x512_S1x16x128_0_0_256) (pv arg4 harg4 x3 ![0, 0, 512] inb_S1x2064x1024_S1x16x256_0_0_512) (pg arg3 harg3 x2 ![0, 0, 256] inb_S1x2064x512_S1x16x128_0_0_256) (ptri arg6 harg6 x5) (kernelRun0_A.sl.v544 c arg2 harg2 arg3 harg3 arg4 harg4 arg6 harg6 arg9 x1 x2 x3 x5)⟩,
    ⟨Rect.unit ![2, 0, 0] S1x128x256.size inb_S4x128x256_S1x128x256_2_0_0, B1 (pq arg2 harg2 x1 ![0, 0, 256] inb_S1x2064x512_S1x16x128_0_0_256) (pv arg4 harg4 x3 ![0, 0, 512] inb_S1x2064x1024_S1x16x256_0_0_512) (pg arg3 harg3 x2 ![0, 0, 256] inb_S1x2064x512_S1x16x128_0_0_256) (ptri arg6 harg6 x5) (kernelRun0_A.sl.v529 c arg2 harg2 arg3 harg3 arg4 harg4 arg6 harg6 arg9 x1 x2 x3 x5)⟩,
    ⟨Rect.unit ![1, 0, 0] S1x128x256.size inb_S4x128x256_S1x128x256_1_0_0, B2 (pq arg2 harg2 x1 ![0, 0, 128] inb_S1x2064x512_S1x16x128_0_0_128) (pv arg4 harg4 x3 ![0, 0, 256] inb_S1x2064x1024_S1x16x256_0_0_256) (pg arg3 harg3 x2 ![0, 0, 128] inb_S1x2064x512_S1x16x128_0_0_128) (ptri arg6 harg6 x5) (kernelRun0_A.sl.v352 c arg2 harg2 arg3 harg3 arg4 harg4 arg6 harg6 arg9 x1 x2 x3 x5)⟩,
    ⟨Rect.unit ![1, 0, 0] S1x128x256.size inb_S4x128x256_S1x128x256_1_0_0, B1 (pq arg2 harg2 x1 ![0, 0, 128] inb_S1x2064x512_S1x16x128_0_0_128) (pv arg4 harg4 x3 ![0, 0, 256] inb_S1x2064x1024_S1x16x256_0_0_256) (pg arg3 harg3 x2 ![0, 0, 128] inb_S1x2064x512_S1x16x128_0_0_128) (ptri arg6 harg6 x5) (kernelRun0_A.sl.v337 c arg2 harg2 arg3 harg3 arg4 harg4 arg6 harg6 arg9 x1 x2 x3 x5)⟩,
    ⟨Rect.unit ![0, 0, 0] S1x128x256.size inb_S4x128x256_S1x128x256_0_0_0, B2 (pq arg2 harg2 x1 ![0, 0, 0] inb_S1x2064x512_S1x16x128_0_0_0) (pv arg4 harg4 x3 ![0, 0, 0] inb_S1x2064x1024_S1x16x256_0_0_0) (pg arg3 harg3 x2 ![0, 0, 0] inb_S1x2064x512_S1x16x128_0_0_0) (ptri arg6 harg6 x5) (kernelRun0_A.sl.v160 c arg2 harg2 arg3 harg3 arg4 harg4 arg6 harg6 arg9 x1 x2 x3 x5)⟩,
    ⟨Rect.unit ![0, 0, 0] S1x128x256.size inb_S4x128x256_S1x128x256_0_0_0, B1 (pq arg2 harg2 x1 ![0, 0, 0] inb_S1x2064x512_S1x16x128_0_0_0) (pv arg4 harg4 x3 ![0, 0, 0] inb_S1x2064x1024_S1x16x256_0_0_0) (pg arg3 harg3 x2 ![0, 0, 0] inb_S1x2064x512_S1x16x128_0_0_0) (ptri arg6 harg6 x5) (kernelRun0_A.sl.v145 c arg9)⟩,
    ⟨Rect.unit ![0, 0, 0] S4x128x256.size inb_S4x128x256_S4x128x256_0_0_0, k0_pay150 (F := Ideal)⟩] := rfl

/-- The output's stores in the first block. -/
abbrev outPre : List (View.Piece (Elt Ideal) S1x2064x1024 .bf16) := [⟨Rect.unit ![0, 0, 768] S1x16x256.size inb_S1x2064x1024_S1x16x256_0_0_768, OP (pgn arg5 harg5 x4) (pq arg1 harg1 x0 ![0, 0, 384] inb_S1x2064x512_S1x16x128_0_0_384) (pq arg2 harg2 x1 ![0, 0, 384] inb_S1x2064x512_S1x16x128_0_0_384) (pg arg3 harg3 x2 ![0, 0, 384] inb_S1x2064x512_S1x16x128_0_0_384) (pv arg4 harg4 x3 ![0, 0, 768] inb_S1x2064x1024_S1x16x256_0_0_768) (ptri arg6 harg6 x5) (kernelRun0_A.sl.v736 c arg2 harg2 arg3 harg3 arg4 harg4 arg6 harg6 arg9 x1 x2 x3 x5)⟩,
    ⟨Rect.unit ![0, 0, 512] S1x16x256.size inb_S1x2064x1024_S1x16x256_0_0_512, OP (pgn arg5 harg5 x4) (pq arg1 harg1 x0 ![0, 0, 256] inb_S1x2064x512_S1x16x128_0_0_256) (pq arg2 harg2 x1 ![0, 0, 256] inb_S1x2064x512_S1x16x128_0_0_256) (pg arg3 harg3 x2 ![0, 0, 256] inb_S1x2064x512_S1x16x128_0_0_256) (pv arg4 harg4 x3 ![0, 0, 512] inb_S1x2064x1024_S1x16x256_0_0_512) (ptri arg6 harg6 x5) (kernelRun0_A.sl.v544 c arg2 harg2 arg3 harg3 arg4 harg4 arg6 harg6 arg9 x1 x2 x3 x5)⟩,
    ⟨Rect.unit ![0, 0, 256] S1x16x256.size inb_S1x2064x1024_S1x16x256_0_0_256, OP (pgn arg5 harg5 x4) (pq arg1 harg1 x0 ![0, 0, 128] inb_S1x2064x512_S1x16x128_0_0_128) (pq arg2 harg2 x1 ![0, 0, 128] inb_S1x2064x512_S1x16x128_0_0_128) (pg arg3 harg3 x2 ![0, 0, 128] inb_S1x2064x512_S1x16x128_0_0_128) (pv arg4 harg4 x3 ![0, 0, 256] inb_S1x2064x1024_S1x16x256_0_0_256) (ptri arg6 harg6 x5) (kernelRun0_A.sl.v352 c arg2 harg2 arg3 harg3 arg4 harg4 arg6 harg6 arg9 x1 x2 x3 x5)⟩,
    ⟨Rect.unit ![0, 0, 0] S1x16x256.size inb_S1x2064x1024_S1x16x256_0_0_0, OP (pgn arg5 harg5 x4) (pq arg1 harg1 x0 ![0, 0, 0] inb_S1x2064x512_S1x16x128_0_0_0) (pq arg2 harg2 x1 ![0, 0, 0] inb_S1x2064x512_S1x16x128_0_0_0) (pg arg3 harg3 x2 ![0, 0, 0] inb_S1x2064x512_S1x16x128_0_0_0) (pv arg4 harg4 x3 ![0, 0, 0] inb_S1x2064x1024_S1x16x256_0_0_0) (ptri arg6 harg6 x5) (kernelRun0_A.sl.v160 c arg2 harg2 arg3 harg3 arg4 harg4 arg6 harg6 arg9 x1 x2 x3 x5)⟩]

/-- The loop's stores before trip `n`. -/
abbrev pbn (n : ℕ) := (pb_k0_t1 Variants.none c none i arg1 harg1 arg2 harg2 arg3 harg3 arg4 harg4 arg5 harg5 arg6 harg6 arg7 harg7 arg8 harg8 arg9 harg9 (pgn arg5 harg5 x4) (kernelRun0_A.sl.r_46 c arg4 harg4 x3) k0_pay235 (kernelRun0_A.sl.r_49 c arg1 harg1 arg3 harg3 arg6 harg6 x0 x2 x5) (kernelRun0_A.sl.r_50 c arg2 harg2 arg3 harg3 arg6 harg6 x1 x2 x5) (kernelRun0_A.sl.r_51 c arg3 harg3 arg6 harg6 x2 x5) (kernelRun0_A.sl.r_52 c arg1 harg1 arg2 harg2 arg3 harg3 arg4 harg4 arg6 harg6 x0 x1 x2 x3 x5) (harg1.unread x0) (harg2.unread x1) (harg3.unread x2) (harg4.unread x3) (harg6.unread x5) arg7.view.junk (arg9.view.writes (Elt Ideal) arg9.view.junk (kernelRun0_A.sl.HS0_9 c arg2 harg2 arg3 harg3 arg4 harg4 arg6 harg6 arg9 x1 x2 x3 x5)) n)

theorem run6 : (kernelRun0_A c i arg1 harg1 arg2 harg2 arg3 harg3 arg4 harg4 arg5 harg5 arg6 harg6 arg7 harg7 arg8 harg8 arg9 harg9 x0 x1 x2 x3 x4 x5).1 = (pbn c i arg1 harg1 arg2 harg2 arg3 harg3 arg4 harg4 arg5 harg5 arg6 harg6 arg7 harg7 arg8 harg8 arg9 harg9 x0 x1 x2 x3 x4 x5 k0_t1_loop.trips).1 ++ outPre c arg1 harg1 arg2 harg2 arg3 harg3 arg4 harg4 arg5 harg5 arg6 harg6 arg9 x0 x1 x2 x3 x4 x5 := by
  unfold kernelRun0_A
  rfl

theorem run7 : (kernelRun0_A c i arg1 harg1 arg2 harg2 arg3 harg3 arg4 harg4 arg5 harg5 arg6 harg6 arg7 harg7 arg8 harg8 arg9 harg9 x0 x1 x2 x3 x4 x5).2.1 = [⟨Rect.unit ![0, 0, 0, 0] S1x4x128x256.size inb_S1x4x128x256_S1x4x128x256_0_0_0_0,
    k0_pay1 (View.readAt (Elt Ideal) arg9.view (Rect.unit (s := S4x128x256) ![0, 0, 0] S4x128x256.size inb_S4x128x256_S4x128x256_0_0_0).toLoadRect
      (arg9.view.writes (Elt Ideal) arg9.view.junk ((pbn c i arg1 harg1 arg2 harg2 arg3 harg3 arg4 harg4 arg5 harg5 arg6 harg6 arg7 harg7 arg8 harg8 arg9 harg9 x0 x1 x2 x3 x4 x5 k0_t1_loop.trips).2 ++ kernelRun0_A.sl.HS0_9 c arg2 harg2 arg3 harg3 arg4 harg4 arg6 harg6 arg9 x1 x2 x3 x5)))⟩] := by
  unfold kernelRun0_A
  rfl

end

end Cert.Gla

end
-- ==== Proof.Gla.Loads.lean ====
/-
  What the kernel's loads hold, row by row.
-/
module

public import proofs.«01_k».proof.Proof.Gla.Body

@[expose] public section

set_option maxRecDepth 16384

noncomputable section

namespace Cert.Gla

open Cert.GlaPromptIdeal Cert.GlaPromptIdeal.Gen Cert.GlaPromptIdeal.Own
open Idealize.ShloMosaic

theorem off1 : ∀ k : Fin k0_t1_loop.trips, k0_off1 k = ![0, 16 + 256 * k.val, 0] := by decide +kernel
theorem off2 : ∀ k : Fin k0_t1_loop.trips, k0_off2 k = ![0, 16 + 256 * k.val, 0] := by decide +kernel
theorem off3 : ∀ k : Fin k0_t1_loop.trips, k0_off3 k = ![0, 16 + 256 * k.val, 128] := by decide +kernel
theorem off4 : ∀ k : Fin k0_t1_loop.trips, k0_off4 k = ![0, 16 + 256 * k.val, 256] := by decide +kernel
theorem off5 : ∀ k : Fin k0_t1_loop.trips, k0_off5 k = ![0, 16 + 256 * k.val, 256] := by decide +kernel
theorem off6 : ∀ k : Fin k0_t1_loop.trips, k0_off6 k = ![0, 16 + 256 * k.val, 512] := by decide +kernel
theorem off7 : ∀ k : Fin k0_t1_loop.trips, k0_off7 k = ![0, 16 + 256 * k.val, 384] := by decide +kernel
theorem off8 : ∀ k : Fin k0_t1_loop.trips, k0_off8 k = ![0, 16 + 256 * k.val, 768] := by decide +kernel
theorem trips_eq : k0_t1_loop.trips = 8 := by decide +kernel

/-- One sequence's matrices. -/
abbrev mk (x : Vec Ideal S1x2064x512 .bf16) (t : Fin 2064) (d : Fin 512) : EReal := x (ix3 0 t d)
abbrev mg (x : Vec Ideal S1x2064x512 .f32) (t : Fin 2064) (d : Fin 512) : EReal := x (ix3 0 t d)
abbrev mv (x : Vec Ideal S1x2064x1024 .bf16) (t : Fin 2064) (d : Fin 1024) : EReal := x (ix3 0 t d)

theorem cast_row {e : EltTy} (x : Vec Ideal S1x256x128 e) (t : Fin 256) (d : Fin 128) :
    shapeCast S256x128 x shapeCasts_S1x256x128_S256x128 (ix2 t d) = x (ix3 0 t d) := by
  pointwise

theorem cast_rowv {e : EltTy} (x : Vec Ideal S1x256x256 e) (t : Fin 256) (d : Fin 256) :
    shapeCast S256x256 x shapeCasts_S1x256x256_S256x256 (ix2 t d) = x (ix3 0 t d) := by
  pointwise

theorem lq_row {arg : Memref sig .tc .vmem S1x2064x512 .bf16} (harg : arg.IsWhole) (x : Vec Ideal S1x2064x512 .bf16) (k : Fin k0_t1_loop.trips) (h : Fin 4)
    (off : Fin 3 → ℕ) (inb) (ho : off = ![0, 16 + 256 * k.val, 128 * h.val]) (c : Fin 4) (r : Fin 64) (d : Fin 128) :
    lq arg (harg.unread x) off inb (ix2 (row4 c r) d) = ckey (mk x) h (1 + 4 * k.val + c.val) r d := by
  have hk8 : k.val < 8 := trips_eq ▸ k.isLt
  subst ho
  rw [lq, cast_row, View.readAt_eq_ld, harg.read_unread, View.ld]
  refine (congrArg x (?_ : _ = ix3 0 ⟨16 + 256 * k.val + (row4 c r).val, by simp [row4]; omega⟩ (hk h d))).trans
    (pd_at (fun t => mk x t (hk h d)) _ r ⟨16 + 256 * k.val + (row4 c r).val, by simp [row4]; omega⟩ (by simp [row4]; omega)).symm
  funext a
  refine Fin.ext ?_
  fin_cases a <;> simp [hk]

theorem lg_row {arg : Memref sig .tc .vmem S1x2064x512 .f32} (harg : arg.IsWhole) (x : Vec Ideal S1x2064x512 .f32) (k : Fin k0_t1_loop.trips) (h : Fin 4)
    (off : Fin 3 → ℕ) (inb) (ho : off = ![0, 16 + 256 * k.val, 128 * h.val]) (c : Fin 4) (r : Fin 64) (d : Fin 128) :
    lg arg (harg.unread x) off inb (ix2 (row4 c r) d) = ckey (mg x) h (1 + 4 * k.val + c.val) r d := by
  have hk8 : k.val < 8 := trips_eq ▸ k.isLt
  subst ho
  rw [lg, cast_row, View.readAt_eq_ld, harg.read_unread, View.ld]
  refine (congrArg x (?_ : _ = ix3 0 ⟨16 + 256 * k.val + (row4 c r).val, by simp [row4]; omega⟩ (hk h d))).trans
    (pd_at (fun t => mg x t (hk h d)) _ r ⟨16 + 256 * k.val + (row4 c r).val, by simp [row4]; omega⟩ (by simp [row4]; omega)).symm
  funext a
  refine Fin.ext ?_
  fin_cases a <;> simp [hk]

theorem lv_row {arg : Memref sig .tc .vmem S1x2064x1024 .bf16} (harg : arg.IsWhole) (x : Vec Ideal S1x2064x1024 .bf16) (k : Fin k0_t1_loop.trips) (h : Fin 4)
    (off : Fin 3 → ℕ) (inb) (ho : off = ![0, 16 + 256 * k.val, 256 * h.val]) (c : Fin 4) (r : Fin 64) (d : Fin 256) :
    lv arg (harg.unread x) off inb (ix2 (row4 c r) d) = cval (mv x) h (1 + 4 * k.val + c.val) r d := by
  have hk8 : k.val < 8 := trips_eq ▸ k.isLt
  subst ho
  rw [lv, cast_rowv, View.readAt_eq_ld, harg.read_unread, View.ld]
  refine (congrArg x (?_ : _ = ix3 0 ⟨16 + 256 * k.val + (row4 c r).val, by simp [row4]; omega⟩ (hv h d))).trans
    (pd_at (fun t => mv x t (hv h d)) _ r ⟨16 + 256 * k.val + (row4 c r).val, by simp [row4]; omega⟩ (by simp [row4]; omega)).symm
  funext a
  refine Fin.ext ?_
  fin_cases a <;> simp [hv]

theorem pq_row {arg : Memref sig .tc .vmem S1x2064x512 .bf16} (harg : arg.IsWhole) (x : Vec Ideal S1x2064x512 .bf16) (h : Fin 4)
    (off : Fin 3 → ℕ) (inb) (ho : off = ![0, 0, 128 * h.val]) (c : Fin 2) (r : Fin 64) (d : Fin 128) :
    pq arg harg x off inb (ix2 (row2 c r) d) = if c = 1 then ckey (mk x) h 0 r d else 0 := by
  subst ho
  rw [pq, pad151, View.readAt_eq_ld, harg.read_unread]
  by_cases hc : c = 1
  · by_cases hr : 48 ≤ r.val
    · rw [dif_pos ⟨hc, hr⟩, if_pos hc, View.ld]
      refine (congrArg x (?_ : _ = ix3 0 ⟨r.val - 48, by omega⟩ (hk h d))).trans
        (pd_at (fun t => mk x t (hk h d)) 0 r ⟨r.val - 48, by omega⟩ (by simp; omega)).symm
      funext a
      refine Fin.ext ?_
      fin_cases a <;> simp [hk]
    · rw [dif_neg (by tauto), if_pos hc, ckey, pd, dif_neg (by omega)]
  · rw [dif_neg (by tauto), if_neg hc]

theorem pg_row {arg : Memref sig .tc .vmem S1x2064x512 .f32} (harg : arg.IsWhole) (x : Vec Ideal S1x2064x512 .f32) (h : Fin 4)
    (off : Fin 3 → ℕ) (inb) (ho : off = ![0, 0, 128 * h.val]) (c : Fin 2) (r : Fin 64) (d : Fin 128) :
    pg arg harg x off inb (ix2 (row2 c r) d) = if c = 1 then ckey (mg x) h 0 r d else 0 := by
  subst ho
  rw [pg, pad153, View.readAt_eq_ld, harg.read_unread]
  by_cases hc : c = 1
  · by_cases hr : 48 ≤ r.val
    · rw [dif_pos ⟨hc, hr⟩, if_pos hc, View.ld]
      refine (congrArg x (?_ : _ = ix3 0 ⟨r.val - 48, by omega⟩ (hk h d))).trans
        (pd_at (fun t => mg x t (hk h d)) 0 r ⟨r.val - 48, by omega⟩ (by simp; omega)).symm
      funext a
      refine Fin.ext ?_
      fin_cases a <;> simp [hk]
    · rw [dif_neg (by tauto), if_pos hc, ckey, pd, dif_neg (by omega)]
  · rw [dif_neg (by tauto), if_neg hc]

theorem pv_row {arg : Memref sig .tc .vmem S1x2064x1024 .bf16} (harg : arg.IsWhole) (x : Vec Ideal S1x2064x1024 .bf16) (h : Fin 4)
    (off : Fin 3 → ℕ) (inb) (ho : off = ![0, 0, 256 * h.val]) (c : Fin 2) (r : Fin 64) (d : Fin 256) :
    pv arg harg x off inb (ix2 (row2 c r) d) = if c = 1 then cval (mv x) h 0 r d else 0 := by
  subst ho
  rw [pv, pad154, View.readAt_eq_ld, harg.read_unread]
  by_cases hc : c = 1
  · by_cases hr : 48 ≤ r.val
    · rw [dif_pos ⟨hc, hr⟩, if_pos hc, View.ld]
      refine (congrArg x (?_ : _ = ix3 0 ⟨r.val - 48, by omega⟩ (hv h d))).trans
        (pd_at (fun t => mv x t (hv h d)) 0 r ⟨r.val - 48, by omega⟩ (by simp; omega)).symm
      funext a
      refine Fin.ext ?_
      fin_cases a <;> simp [hv]
    · rw [dif_neg (by tauto), if_pos hc, cval, pd, dif_neg (by omega)]
  · rw [dif_neg (by tauto), if_neg hc]

theorem ltri_at {arg : Memref sig .tc .vmem S256x256 .bf16} (harg : arg.IsWhole) (x : Vec Ideal S256x256 .bf16) : ltri arg (harg.unread x) = x := by
  rw [ltri, View.readAt_eq_ld, harg.read_unread]
  funext j
  rw [View.ld]
  refine congrArg x ?_
  funext a
  refine Fin.ext ?_
  fin_cases a <;> simp

theorem ptri_at {arg : Memref sig .tc .vmem S256x256 .bf16} (harg : arg.IsWhole) (x : Vec Ideal S256x256 .bf16) (s t : Fin 128) :
    ptri arg harg x (ix2 s t) = x (ix2 ⟨s.val, by omega⟩ ⟨t.val, by omega⟩) := by
  rw [ptri, View.readAt_eq_ld, harg.read_unread, View.ld]
  refine congrArg x ?_
  funext a
  refine Fin.ext ?_
  fin_cases a <;> simp

theorem pgn_at {arg : Memref sig .tc .vmem S1x256 .f32} (harg : arg.IsWhole) (x : Vec Ideal S1x256 .f32) : pgn arg harg x = x := by
  rw [pgn, View.readAt_eq_ld, harg.read_unread]
  funext j
  rw [View.ld]
  refine congrArg x ?_
  funext a
  refine Fin.ext ?_
  fin_cases a <;> simp

theorem s9_at {arg : Memref sig .tc .vmem S4x128x256 .f32} (L : List (View.Piece (Elt Ideal) S4x128x256 .f32)) (h : Fin 4) (off : Fin 3 → ℕ) (inb)
    (ho : off = ![h.val, 0, 0]) (d : Fin 128) (e : Fin 256) :
    View.readAt (Elt Ideal) arg.view (Rect.unit (s := S4x128x256) off S1x128x256.size inb).toLoadRect (arg.view.writes (Elt Ideal) arg.view.junk L) (ix3 0 d e)
      = View.canon L (ix3 h d e) := by
  subst ho
  rw [View.readAt_eq_ld, View.read_writes_junk_eq_canon, View.ld]
  refine congrArg (View.canon L) ?_
  funext a
  refine Fin.ext ?_
  fin_cases a <;> simp

/-- A store of one head's state is read back at that head alone. -/
theorem canon9 (w : S1x128x256.Idx → EReal) (L : List (View.Piece (Elt Ideal) S4x128x256 .f32)) (h : Fin 4) (n : ℕ) (inb) (d : Fin 128) (e : Fin 256) :
    View.canon (Val := Elt Ideal) ((⟨Rect.unit ![n, 0, 0] S1x128x256.size inb, w⟩ : View.Piece (Elt Ideal) S4x128x256 .f32) :: L) (ix3 h d e)
      = if h.val = n then w (ix3 0 d e) else View.canon (Val := Elt Ideal) L (ix3 h d e) := by
  split
  · rename_i hn
    subst hn
    have := View.canon_cons_emb (Val := Elt Ideal) (s := S4x128x256) (e := .f32) (Rect.unit ![h.val, 0, 0] S1x128x256.size inb) w L (ix3 0 d e)
    refine Eq.trans (congrArg _ ?_) this
    funext a
    refine Fin.ext ?_
    fin_cases a <;> simp
  · rename_i hn
    refine View.canon_cons_of_not_mem _ L ?_
    intro hm
    have := (Rect.mem_set_unit (inb := inb)).mp hm (0 : Fin 3)
    simp at this
    omega

end Cert.Gla

end
-- ==== Proof.Gla.Loop.lean ====
/-
  The kernel's loop: before each trip the scratch holds every head's state, and the stores made are blocks of the output.
-/
module

public import proofs.«01_k».proof.Proof.Gla.Loads

@[expose] public section

set_option maxRecDepth 16384

noncomputable section

namespace Cert.Gla

open Cert.GlaPromptIdeal Cert.GlaPromptIdeal.Gen Cert.GlaPromptIdeal.Own
open Idealize.ShloMosaic

theorem lg_fin {arg : Memref sig .tc .vmem S1x2064x512 .f32} (harg : arg.IsWhole) (x : Vec Ideal S1x2064x512 .f32) (hx : ∀ i, x i ≠ ⊤ ∧ x i ≠ ⊥)
    (off : Fin 3 → ℕ) (inb) (i) : lg arg (harg.unread x) off inb i ≠ ⊤ ∧ lg arg (harg.unread x) off inb i ≠ ⊥ := by
  obtain ⟨a, b, rfl⟩ : ∃ (a : Fin 256) (b : Fin 128), i = ix2 a b := ⟨i 0, i 1, ValueIdx.eq_ix2 i⟩
  rw [lg, cast_row, View.readAt_eq_ld, harg.read_unread]
  exact hx _

theorem pg_fin {arg : Memref sig .tc .vmem S1x2064x512 .f32} (harg : arg.IsWhole) (x : Vec Ideal S1x2064x512 .f32) (hx : ∀ i, x i ≠ ⊤ ∧ x i ≠ ⊥)
    (off : Fin 3 → ℕ) (inb) (i) : pg arg harg x off inb i ≠ ⊤ ∧ pg arg harg x off inb i ≠ ⊥ := by
  obtain ⟨a, b, rfl⟩ : ∃ (a : Fin 128) (b : Fin 128), i = ix2 a b := ⟨i 0, i 1, ValueIdx.eq_ix2 i⟩
  obtain ⟨c, r, rfl⟩ := exists_row2 a
  rw [pg, pad153]
  split
  · rw [View.readAt_eq_ld, harg.read_unread]; exact hx _
  · exact ⟨EReal.zero_ne_top, EReal.zero_ne_bot⟩

theorem tri2_of {x5 : Vec Ideal S256x256 .bf16} (ht : IsTri4 x5) {arg : Memref sig .tc .vmem S256x256 .bf16} (harg : arg.IsWhole) : IsTri2 (ptri arg harg x5) := by
  intro c c' r s
  rw [ptri_at]
  have := ht ⟨c.val, by omega⟩ ⟨c'.val, by omega⟩ r s
  simp only [Fin.ext_iff] at this ⊢
  exact this

theorem pieces_append {s : Shape} {e : EltTy} {G : s.Idx → Elt Ideal e} : ∀ {L L' : List (View.Piece (Elt Ideal) s e)},
    View.PiecesOf G L → View.PiecesOf G L' → View.PiecesOf G (L ++ L')
  | [], _, _, h' => h'
  | _ :: _, _, h, h' => ⟨h.1, pieces_append h.2 h'⟩

theorem hit9 (w : S1x128x256.Idx → EReal) (L : List (View.Piece (Elt Ideal) S4x128x256 .f32)) (h : Fin 4) (n : ℕ) (inb) (d : Fin 128) (e : Fin 256) (hn : h.val = n) :
    View.canon (Val := Elt Ideal) ((⟨Rect.unit ![n, 0, 0] S1x128x256.size inb, w⟩ : View.Piece (Elt Ideal) S4x128x256 .f32) :: L) (ix3 h d e) = w (ix3 0 d e) :=
  (canon9 w L h n inb d e).trans (if_pos hn)

theorem miss9 (w : S1x128x256.Idx → EReal) (L : List (View.Piece (Elt Ideal) S4x128x256 .f32)) (h : Fin 4) (n : ℕ) (inb) (d : Fin 128) (e : Fin 256) (hn : h.val ≠ n) :
    View.canon (Val := Elt Ideal) ((⟨Rect.unit ![n, 0, 0] S1x128x256.size inb, w⟩ : View.Piece (Elt Ideal) S4x128x256 .f32) :: L) (ix3 h d e)
      = View.canon (Val := Elt Ideal) L (ix3 h d e) :=
  (canon9 w L h n inb d e).trans (if_neg hn)

theorem four_cases : ∀ h : Fin 4, h = 0 ∨ h = 1 ∨ h = 2 ∨ h = 3 := by decide

/-- One head's part of one trip: four chunks, from the state before them. -/
theorem head_trip {q k : FVec Ideal S256x128 .bf16} {g : FVec Ideal S256x128 .f32} {v : FVec Ideal S256x256 .bf16} {tri : Vec Ideal S256x256 .bf16}
    {s : Vec Ideal S1x128x256 .f32} (ht : IsTri4 tri) (hg : ∀ i, g i ≠ ⊤ ∧ g i ≠ ⊥) (h : Fin 4) (m : ℕ)
    (Q K : Fin 2064 → Fin 512 → EReal) (V : Fin 2064 → Fin 1024 → EReal) (G : Fin 2064 → Fin 512 → EReal)
    (hQ : ∀ (c : Fin 4) r d, q (ix2 (row4 c r) d) = ckey Q h (m + c.val) r d)
    (hK : ∀ (c : Fin 4) r d, k (ix2 (row4 c r) d) = ckey K h (m + c.val) r d)
    (hV : ∀ (c : Fin 4) r d, v (ix2 (row4 c r) d) = cval V h (m + c.val) r d)
    (hG : ∀ (c : Fin 4) r d, g (ix2 (row4 c r) d) = ckey G h (m + c.val) r d)
    (hs : ∀ d e, s (ix3 0 d e) = SH K V G h m d e) :
    (∀ d e, A4 k v g tri (A3 k v g tri (A2 k v g tri (A1 k v g tri s))) (ix3 0 d e) = SH K V G h (m + 4) d e)
      ∧ ∀ (v0 : Vec Ideal S1x256 .f32) (c : Fin 4) r e,
        HO v0 q k g v tri s (A1 k v g tri s) (A2 k v g tri (A1 k v g tri s)) (A3 k v g tri (A2 k v g tri (A1 k v g tri s))) (ix3 0 (row4 c r) e)
          = OH Q K V G (fun e => v0 (ix2 0 e)) h (m + c.val) r e := by
  have eQ : ∀ c : Fin 4, cQ q c = cqry Q h (m + c.val) := fun c => funext₂ fun r d => congrArg (· * _) (hQ c r d)
  have eK : ∀ c : Fin 4, cK k c = ckey K h (m + c.val) := fun c => funext₂ fun r d => hK c r d
  have eV : ∀ c : Fin 4, cV v c = cval V h (m + c.val) := fun c => funext₂ fun r d => hV c r d
  have eG : ∀ c : Fin 4, cG g c = ckey G h (m + c.val) := fun c => funext₂ fun r d => hG c r d
  have e0 : cS s = SH K V G h m := funext₂ hs
  have e1 : cS (A1 k v g tri s) = SH K V G h (m + 1) := funext₂ fun d e => by
    rw [show cS (A1 k v g tri s) d e = _ from hs0 ht hg d e, eK, eV, eG, e0]; rfl
  have e2 : cS (A2 k v g tri (A1 k v g tri s)) = SH K V G h (m + 2) := funext₂ fun d e => by
    rw [show cS (A2 k v g tri (A1 k v g tri s)) d e = _ from hs1 ht hg d e, eK, eV, eG, e1]; rfl
  have e3 : cS (A3 k v g tri (A2 k v g tri (A1 k v g tri s))) = SH K V G h (m + 3) := funext₂ fun d e => by
    rw [show cS (A3 k v g tri (A2 k v g tri (A1 k v g tri s))) d e = _ from hs2 ht hg d e, eK, eV, eG, e2]; rfl
  refine ⟨fun d e => ?_, fun v0 c r e => ?_⟩
  · rw [show A4 k v g tri (A3 k v g tri (A2 k v g tri (A1 k v g tri s))) (ix3 0 d e) = _ from hs3 ht hg d e, eK, eV, eG, e3]; rfl
  · rw [ho ht hg, eQ, eK, eV, eG]
    have e4 : cS (![s, A1 k v g tri s, A2 k v g tri (A1 k v g tri s), A3 k v g tri (A2 k v g tri (A1 k v g tri s))] c) = SH K V G h (m + c.val) := by
      fin_cases c
      · exact e0
      · exact e1
      · exact e2
      · exact e3
    rw [e4]; rfl

section
variable (c : Dev nD) (i : grid0.Coords) (arg1 : Memref sig .tc .vmem S1x2064x512 .bf16) (harg1 : arg1.IsWhole) (arg2 : Memref sig .tc .vmem S1x2064x512 .bf16) (harg2 : arg2.IsWhole) (arg3 : Memref sig .tc .vmem S1x2064x512 .f32) (harg3 : arg3.IsWhole) (arg4 : Memref sig .tc .vmem S1x2064x1024 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x2064x1024 .bf16) (harg7 : arg7.IsWhole) (arg8 : Memref sig .tc .vmem S1x4x128x256 .f32) (harg8 : arg8.IsWhole) (arg9 : Memref sig .tc .vmem S4x128x256 .f32) (harg9 : arg9.IsWhole)
    (x0 : Vec Ideal S1x2064x512 .bf16) (x1 : Vec Ideal S1x2064x512 .bf16) (x2 : Vec Ideal S1x2064x512 .f32) (x3 : Vec Ideal S1x2064x1024 .bf16) (x4 : Vec Ideal S1x256 .f32) (x5 : Vec Ideal S256x256 .bf16)

    (hg : ∀ i, x2 i ≠ ⊤ ∧ x2 i ≠ ⊥) (ht : IsTri4 x5)

/-- The output block of one sequence. -/
abbrev oG : S1x2064x1024.Idx → Elt Ideal .bf16 := fun j => outG (mk x0) (mk x1) (mv x3) (mg x2) (fun e => x4 (ix2 0 e)) (j 1) (j 2)

/-- A store of four chunks of one head is a block of the output. -/
theorem piece_of (k : Fin k0_t1_loop.trips) (h : Fin 4) (off : Fin 3 → ℕ) (inb) (ho : off = ![0, 16 + 256 * k.val, 256 * h.val])
    (w : FVec Ideal S1x256x256 .bf16)
    (hw : ∀ (c : Fin 4) r e, w (ix3 0 (row4 c r) e) = OH (mk x0) (mk x1) (mv x3) (mg x2) (fun e => x4 (ix2 0 e)) h (1 + 4 * k.val + c.val) r e)
    (x : S1x256x256.Idx) :
    w x = oG x0 x1 x2 x3 x4 ((Rect.unit (s := S1x2064x1024) off S1x256x256.size inb).emb x) := by
  subst ho
  obtain ⟨c, r, hr⟩ := exists_row4 (x 1)
  have hx : x = ix3 0 (row4 c r) (x 2) := by
    funext a
    fin_cases a
    · exact Fin.ext (by have : (x 0).val < 1 := (x 0).isLt; simp; omega)
    · exact hr
    · rfl
  refine ((congrArg w hx).trans (hw c r (x 2))).trans ?_
  refine (outG_at _ _ _ _ _ h _ r (x 2) _ _ ?_ ?_).symm
  · have : (x 1).val = 64 * c.val + r.val := congrArg Fin.val hr
    simp; omega
  · simp

section
variable (v0 : Vec Ideal S1x256 .f32) (w1 : FVec Ideal S128x256 .bf16) (w2 : _) (w3 : _) (w4 : _) (w5 : _) (w6 : _) (k : Fin k0_t1_loop.trips) (f : BufTy.Contents (Elt Ideal) arg7.view.ty)
    (L : List (View.Piece (Elt Ideal) S4x128x256 .f32))
    (hL : ∀ h d e, View.canon (Val := Elt Ideal) L (ix3 h d e) = SH (mk x1) (mv x3) (mg x2) h (1 + 4 * k.val) d e)

include hg ht hL

theorem trip9_at (h : Fin 4) (d : Fin 128) (e : Fin 256) :
    View.canon (Val := Elt Ideal) ((tripL_k0_t1 Variants.none c none i arg1 harg1 arg2 harg2 arg3 harg3 arg4 harg4 arg5 harg5 arg6 harg6 arg7 harg7 arg8 harg8 arg9 harg9 v0 w1 w2 w3 w4 w5 w6 (harg1.unread x0) (harg2.unread x1) (harg3.unread x2) (harg4.unread x3) (harg6.unread x5) k f (arg9.view.writes (Elt Ideal) arg9.view.junk L)).2 ++ L) (ix3 h d e)
      = SH (mk x1) (mv x3) (mg x2) h (1 + 4 * (k.val + 1)) d e := by
  have head0 := head_trip (s := s9_0 arg9 (arg9.view.writes (Elt Ideal) arg9.view.junk L)) (q := (lq arg1 (harg1.unread x0) (k0_off1 k) (k0_off1_inb k)))
      (k := (lq arg2 (harg2.unread x1) (k0_off1 k) (k0_off1_inb k))) (g := (lg arg3 (harg3.unread x2) (k0_off1 k) (k0_off1_inb k))) (v := (lv arg4 (harg4.unread x3) (k0_off2 k) (k0_off2_inb k))) (tri := ltri arg6 (harg6.unread x5)) ((ltri_at harg6 x5).symm ▸ ht)
      (lg_fin harg3 x2 hg _ _) 0 (1 + 4 * k.val) (mk x0) (mk x1) (mv x3) (mg x2)
      (lq_row harg1 x0 k 0 _ _ (off1 k)) (lq_row harg2 x1 k 0 _ _ (off1 k)) (lv_row harg4 x3 k 0 _ _ (off2 k)) (lg_row harg3 x2 k 0 _ _ (off1 k))
      (fun d e => (s9_at L 0 _ _ rfl d e).trans (hL 0 d e))
  have head1 := head_trip (s := s9_1 arg9 (arg9.view.writes (Elt Ideal) arg9.view.junk L)) (q := (lq arg1 (harg1.unread x0) (k0_off3 k) (k0_off3_inb k)))
      (k := (lq arg2 (harg2.unread x1) (k0_off3 k) (k0_off3_inb k))) (g := (lg arg3 (harg3.unread x2) (k0_off3 k) (k0_off3_inb k))) (v := (lv arg4 (harg4.unread x3) (k0_off4 k) (k0_off4_inb k))) (tri := ltri arg6 (harg6.unread x5)) ((ltri_at harg6 x5).symm ▸ ht)
      (lg_fin harg3 x2 hg _ _) 1 (1 + 4 * k.val) (mk x0) (mk x1) (mv x3) (mg x2)
      (lq_row harg1 x0 k 1 _ _ (off3 k)) (lq_row harg2 x1 k 1 _ _ (off3 k)) (lv_row harg4 x3 k 1 _ _ (off4 k)) (lg_row harg3 x2 k 1 _ _ (off3 k))
      (fun d e => (s9_at L 1 _ _ rfl d e).trans (hL 1 d e))
  have head2 := head_trip (s := s9_2 arg9 (arg9.view.writes (Elt Ideal) arg9.view.junk L)) (q := (lq arg1 (harg1.unread x0) (k0_off5 k) (k0_off5_inb k)))
      (k := (lq arg2 (harg2.unread x1) (k0_off5 k) (k0_off5_inb k))) (g := (lg arg3 (harg3.unread x2) (k0_off5 k) (k0_off5_inb k))) (v := (lv arg4 (harg4.unread x3) (k0_off6 k) (k0_off6_inb k))) (tri := ltri arg6 (harg6.unread x5)) ((ltri_at harg6 x5).symm ▸ ht)
      (lg_fin harg3 x2 hg _ _) 2 (1 + 4 * k.val) (mk x0) (mk x1) (mv x3) (mg x2)
      (lq_row harg1 x0 k 2 _ _ (off5 k)) (lq_row harg2 x1 k 2 _ _ (off5 k)) (lv_row harg4 x3 k 2 _ _ (off6 k)) (lg_row harg3 x2 k 2 _ _ (off5 k))
      (fun d e => (s9_at L 2 _ _ rfl d e).trans (hL 2 d e))
  have head3 := head_trip (s := s9_3 arg9 (arg9.view.writes (Elt Ideal) arg9.view.junk L)) (q := (lq arg1 (harg1.unread x0) (k0_off7 k) (k0_off7_inb k)))
      (k := (lq arg2 (harg2.unread x1) (k0_off7 k) (k0_off7_inb k))) (g := (lg arg3 (harg3.unread x2) (k0_off7 k) (k0_off7_inb k))) (v := (lv arg4 (harg4.unread x3) (k0_off8 k) (k0_off8_inb k))) (tri := ltri arg6 (harg6.unread x5)) ((ltri_at harg6 x5).symm ▸ ht)
      (lg_fin harg3 x2 hg _ _) 3 (1 + 4 * k.val) (mk x0) (mk x1) (mv x3) (mg x2)
      (lq_row harg1 x0 k 3 _ _ (off7 k)) (lq_row harg2 x1 k 3 _ _ (off7 k)) (lv_row harg4 x3 k 3 _ _ (off8 k)) (lg_row harg3 x2 k 3 _ _ (off7 k))
      (fun d e => (s9_at L 3 _ _ rfl d e).trans (hL 3 d e))
  rw [trip9, v1019_eq', v1295_eq', v1571_eq', v1847_eq']
  simp only [List.cons_append, List.nil_append]
  rw [show 1 + 4 * (k.val + 1) = 1 + 4 * k.val + 4 by ring]
  obtain rfl | rfl | rfl | rfl := four_cases h
  · refine (miss9 _ _ 0 3 _ d e (by decide)).trans ?_
    refine (miss9 _ _ 0 3 _ d e (by decide)).trans ?_
    refine (miss9 _ _ 0 3 _ d e (by decide)).trans ?_
    refine (miss9 _ _ 0 3 _ d e (by decide)).trans ?_
    refine (miss9 _ _ 0 2 _ d e (by decide)).trans ?_
    refine (miss9 _ _ 0 2 _ d e (by decide)).trans ?_
    refine (miss9 _ _ 0 2 _ d e (by decide)).trans ?_
    refine (miss9 _ _ 0 2 _ d e (by decide)).trans ?_
    refine (miss9 _ _ 0 1 _ d e (by decide)).trans ?_
    refine (miss9 _ _ 0 1 _ d e (by decide)).trans ?_
    refine (miss9 _ _ 0 1 _ d e (by decide)).trans ?_
    refine (miss9 _ _ 0 1 _ d e (by decide)).trans ?_
    refine (hit9 _ _ 0 0 _ d e rfl).trans ?_
    exact head0.1 d e
  · refine (miss9 _ _ 1 3 _ d e (by decide)).trans ?_
    refine (miss9 _ _ 1 3 _ d e (by decide)).trans ?_
    refine (miss9 _ _ 1 3 _ d e (by decide)).trans ?_
    refine (miss9 _ _ 1 3 _ d e (by decide)).trans ?_
    refine (miss9 _ _ 1 2 _ d e (by decide)).trans ?_
    refine (miss9 _ _ 1 2 _ d e (by decide)).trans ?_
    refine (miss9 _ _ 1 2 _ d e (by decide)).trans ?_
    refine (miss9 _ _ 1 2 _ d e (by decide)).trans ?_
    refine (hit9 _ _ 1 1 _ d e rfl).trans ?_
    exact head1.1 d e
  · refine (miss9 _ _ 2 3 _ d e (by decide)).trans ?_
    refine (miss9 _ _ 2 3 _ d e (by decide)).trans ?_
    refine (miss9 _ _ 2 3 _ d e (by decide)).trans ?_
    refine (miss9 _ _ 2 3 _ d e (by decide)).trans ?_
    refine (hit9 _ _ 2 2 _ d e rfl).trans ?_
    exact head2.1 d e
  · refine (hit9 _ _ 3 3 _ d e rfl).trans ?_
    exact head3.1 d e

theorem trip7_of (hv0 : v0 = x4) : View.PiecesOf (oG x0 x1 x2 x3 x4) (tripL_k0_t1 Variants.none c none i arg1 harg1 arg2 harg2 arg3 harg3 arg4 harg4 arg5 harg5 arg6 harg6 arg7 harg7 arg8 harg8 arg9 harg9 v0 w1 w2 w3 w4 w5 w6 (harg1.unread x0) (harg2.unread x1) (harg3.unread x2) (harg4.unread x3) (harg6.unread x5) k f (arg9.view.writes (Elt Ideal) arg9.view.junk L)).1 := by
  subst hv0
  have head0 := head_trip (s := s9_0 arg9 (arg9.view.writes (Elt Ideal) arg9.view.junk L)) (q := (lq arg1 (harg1.unread x0) (k0_off1 k) (k0_off1_inb k)))
      (k := (lq arg2 (harg2.unread x1) (k0_off1 k) (k0_off1_inb k))) (g := (lg arg3 (harg3.unread x2) (k0_off1 k) (k0_off1_inb k))) (v := (lv arg4 (harg4.unread x3) (k0_off2 k) (k0_off2_inb k))) (tri := ltri arg6 (harg6.unread x5)) ((ltri_at harg6 x5).symm ▸ ht)
      (lg_fin harg3 x2 hg _ _) 0 (1 + 4 * k.val) (mk x0) (mk x1) (mv x3) (mg x2)
      (lq_row harg1 x0 k 0 _ _ (off1 k)) (lq_row harg2 x1 k 0 _ _ (off1 k)) (lv_row harg4 x3 k 0 _ _ (off2 k)) (lg_row harg3 x2 k 0 _ _ (off1 k))
      (fun d e => (s9_at L 0 _ _ rfl d e).trans (hL 0 d e))
  have head1 := head_trip (s := s9_1 arg9 (arg9.view.writes (Elt Ideal) arg9.view.junk L)) (q := (lq arg1 (harg1.unread x0) (k0_off3 k) (k0_off3_inb k)))
      (k := (lq arg2 (harg2.unread x1) (k0_off3 k) (k0_off3_inb k))) (g := (lg arg3 (harg3.unread x2) (k0_off3 k) (k0_off3_inb k))) (v := (lv arg4 (harg4.unread x3) (k0_off4 k) (k0_off4_inb k))) (tri := ltri arg6 (harg6.unread x5)) ((ltri_at harg6 x5).symm ▸ ht)
      (lg_fin harg3 x2 hg _ _) 1 (1 + 4 * k.val) (mk x0) (mk x1) (mv x3) (mg x2)
      (lq_row harg1 x0 k 1 _ _ (off3 k)) (lq_row harg2 x1 k 1 _ _ (off3 k)) (lv_row harg4 x3 k 1 _ _ (off4 k)) (lg_row harg3 x2 k 1 _ _ (off3 k))
      (fun d e => (s9_at L 1 _ _ rfl d e).trans (hL 1 d e))
  have head2 := head_trip (s := s9_2 arg9 (arg9.view.writes (Elt Ideal) arg9.view.junk L)) (q := (lq arg1 (harg1.unread x0) (k0_off5 k) (k0_off5_inb k)))
      (k := (lq arg2 (harg2.unread x1) (k0_off5 k) (k0_off5_inb k))) (g := (lg arg3 (harg3.unread x2) (k0_off5 k) (k0_off5_inb k))) (v := (lv arg4 (harg4.unread x3) (k0_off6 k) (k0_off6_inb k))) (tri := ltri arg6 (harg6.unread x5)) ((ltri_at harg6 x5).symm ▸ ht)
      (lg_fin harg3 x2 hg _ _) 2 (1 + 4 * k.val) (mk x0) (mk x1) (mv x3) (mg x2)
      (lq_row harg1 x0 k 2 _ _ (off5 k)) (lq_row harg2 x1 k 2 _ _ (off5 k)) (lv_row harg4 x3 k 2 _ _ (off6 k)) (lg_row harg3 x2 k 2 _ _ (off5 k))
      (fun d e => (s9_at L 2 _ _ rfl d e).trans (hL 2 d e))
  have head3 := head_trip (s := s9_3 arg9 (arg9.view.writes (Elt Ideal) arg9.view.junk L)) (q := (lq arg1 (harg1.unread x0) (k0_off7 k) (k0_off7_inb k)))
      (k := (lq arg2 (harg2.unread x1) (k0_off7 k) (k0_off7_inb k))) (g := (lg arg3 (harg3.unread x2) (k0_off7 k) (k0_off7_inb k))) (v := (lv arg4 (harg4.unread x3) (k0_off8 k) (k0_off8_inb k))) (tri := ltri arg6 (harg6.unread x5)) ((ltri_at harg6 x5).symm ▸ ht)
      (lg_fin harg3 x2 hg _ _) 3 (1 + 4 * k.val) (mk x0) (mk x1) (mv x3) (mg x2)
      (lq_row harg1 x0 k 3 _ _ (off7 k)) (lq_row harg2 x1 k 3 _ _ (off7 k)) (lv_row harg4 x3 k 3 _ _ (off8 k)) (lg_row harg3 x2 k 3 _ _ (off7 k))
      (fun d e => (s9_at L 3 _ _ rfl d e).trans (hL 3 d e))
  rw [trip7, v955_eq', v987_eq', v1019_eq', v1231_eq', v1263_eq', v1295_eq', v1507_eq', v1539_eq', v1571_eq', v1783_eq', v1815_eq', v1847_eq']
  exact ⟨piece_of x0 x1 x2 x3 v0 k 3 _ (k0_off8_inb k) (off8 k) _ (head3.2 v0),
    piece_of x0 x1 x2 x3 v0 k 2 _ (k0_off6_inb k) (off6 k) _ (head2.2 v0),
    piece_of x0 x1 x2 x3 v0 k 1 _ (k0_off4_inb k) (off4 k) _ (head1.2 v0),
    piece_of x0 x1 x2 x3 v0 k 0 _ (k0_off2_inb k) (off2 k) _ (head0.2 v0), trivial⟩

end

/-- One head's part of the first block: its two chunks, the first of zeros alone. -/
theorem head_pre {q k : FVec Ideal S128x128 .bf16} {g : FVec Ideal S128x128 .f32} {v : FVec Ideal S128x256 .bf16} {tri : Vec Ideal S128x128 .bf16}
    {s : Vec Ideal S1x128x256 .f32} (ht : IsTri2 tri) (hg : ∀ i, g i ≠ ⊤ ∧ g i ≠ ⊥) (h : Fin 4)
    (Q K : Fin 2064 → Fin 512 → EReal) (V : Fin 2064 → Fin 1024 → EReal) (G : Fin 2064 → Fin 512 → EReal)
    (hQ : ∀ (c : Fin 2) r d, q (ix2 (row2 c r) d) = if c = 1 then ckey Q h 0 r d else 0)
    (hK : ∀ (c : Fin 2) r d, k (ix2 (row2 c r) d) = if c = 1 then ckey K h 0 r d else 0)
    (hV : ∀ (c : Fin 2) r d, v (ix2 (row2 c r) d) = if c = 1 then cval V h 0 r d else 0)
    (hG : ∀ (c : Fin 2) r d, g (ix2 (row2 c r) d) = if c = 1 then ckey G h 0 r d else 0)
    (hs : ∀ d e, s (ix3 0 d e) = 0) :
    (∀ d e, B2 k v g tri (B1 k v g tri s) (ix3 0 d e) = SH K V G h 1 d e)
      ∧ ∀ (v0 : Vec Ideal S1x256 .f32) (r : Fin 16) e,
        OP v0 q k g v tri (B1 k v g tri s) (ix3 0 r e) = OH Q K V G (fun e => v0 (ix2 0 e)) h 0 ⟨48 + r.val, by omega⟩ e := by
  have eQ : dQ q 1 = cqry Q h 0 := funext₂ fun r d => congrArg (· * _) ((hQ 1 r d).trans (if_pos rfl))
  have eK : dK k 1 = ckey K h 0 := funext₂ fun r d => (hK 1 r d).trans (if_pos rfl)
  have eV : dV v 1 = cval V h 0 := funext₂ fun r d => (hV 1 r d).trans (if_pos rfl)
  have eG : dG g 1 = ckey G h 0 := funext₂ fun r d => (hG 1 r d).trans (if_pos rfl)
  have zK : dK k 0 = fun _ _ => 0 := funext₂ fun r d => (hK 0 r d).trans (if_neg (by decide))
  have zV : dV v 0 = fun _ _ => 0 := funext₂ fun r d => (hV 0 r d).trans (if_neg (by decide))
  have e0 : cS s = fun _ _ => 0 := funext₂ hs
  have e1 : cS (B1 k v g tri s) = SH K V G h 0 := funext₂ fun d e => by
    rw [show cS (B1 k v g tri s) d e = _ from b1_eq ht hg d e, zK, zV, e0, stepS_zero]; rfl
  refine ⟨fun d e => ?_, fun v0 r e => ?_⟩
  · rw [b2_eq ht hg, eK, eV, eG, e1]; rfl
  · rw [op_eq ht hg, eQ, eK, eV, eG, e1]; rfl

theorem zS_zero (off : Fin 3 → ℕ) (inb) (d : Fin 128) (e : Fin 256) :
    (View.ld (Val := Elt Ideal) (k0_pay150 (F := Ideal)) (Rect.unit (s := S4x128x256) off S1x128x256.size inb) : Vec Ideal S1x128x256 .f32) (ix3 0 d e) = 0 := by
  rw [View.ld]
  exact Ideal.ofBits_zero_f32

/-- A store of the first 16 rows of one head is a block of the output. -/
theorem piece_pre (h : Fin 4) (off : Fin 3 → ℕ) (inb) (ho : off = ![0, 0, 256 * h.val])
    (w : FVec Ideal S1x16x256 .bf16)
    (hw : ∀ (r : Fin 16) e, w (ix3 0 r e) = OH (mk x0) (mk x1) (mv x3) (mg x2) (fun e => x4 (ix2 0 e)) h 0 ⟨48 + r.val, by omega⟩ e)
    (x : S1x16x256.Idx) :
    w x = oG x0 x1 x2 x3 x4 ((Rect.unit (s := S1x2064x1024) off S1x16x256.size inb).emb x) := by
  subst ho
  have hx : x = ix3 0 (x 1) (x 2) := by
    funext a
    fin_cases a
    · exact Fin.ext (by have : (x 0).val < 1 := (x 0).isLt; simp; omega)
    · rfl
    · rfl
  refine ((congrArg w hx).trans (hw (x 1) (x 2))).trans ?_
  refine (outG_at _ _ _ _ _ h _ _ (x 2) _ _ ?_ ?_).symm
  · simp; omega
  · simp

section
include hg ht arg1 harg1 x0

theorem pre9_at (h : Fin 4) (d : Fin 128) (e : Fin 256) :
    View.canon (Val := Elt Ideal) (kernelRun0_A.sl.HS0_9 c arg2 harg2 arg3 harg3 arg4 harg4 arg6 harg6 arg9 x1 x2 x3 x5) (ix3 h d e) = SH (mk x1) (mv x3) (mg x2) h 1 d e := by
  have pre0 := head_pre (s := (kernelRun0_A.sl.v145 c arg9)) (q := (pq arg1 harg1 x0 ![0, 0, 0] inb_S1x2064x512_S1x16x128_0_0_0)) (k := (pq arg2 harg2 x1 ![0, 0, 0] inb_S1x2064x512_S1x16x128_0_0_0))
      (g := (pg arg3 harg3 x2 ![0, 0, 0] inb_S1x2064x512_S1x16x128_0_0_0)) (v := (pv arg4 harg4 x3 ![0, 0, 0] inb_S1x2064x1024_S1x16x256_0_0_0)) (tri := ptri arg6 harg6 x5) (tri2_of ht harg6)
      (pg_fin harg3 x2 hg _ _) 0 (mk x0) (mk x1) (mv x3) (mg x2) (pq_row harg1 x0 0 _ _ rfl) (pq_row harg2 x1 0 _ _ rfl) (pv_row harg4 x3 0 _ _ rfl)
      (pg_row harg3 x2 0 _ _ rfl) (fun d e => by rw [z0_eq]; exact zS_zero _ _ d e)
  have pre1 := head_pre (s := (kernelRun0_A.sl.v337 c arg2 harg2 arg3 harg3 arg4 harg4 arg6 harg6 arg9 x1 x2 x3 x5)) (q := (pq arg1 harg1 x0 ![0, 0, 128] inb_S1x2064x512_S1x16x128_0_0_128)) (k := (pq arg2 harg2 x1 ![0, 0, 128] inb_S1x2064x512_S1x16x128_0_0_128))
      (g := (pg arg3 harg3 x2 ![0, 0, 128] inb_S1x2064x512_S1x16x128_0_0_128)) (v := (pv arg4 harg4 x3 ![0, 0, 256] inb_S1x2064x1024_S1x16x256_0_0_256)) (tri := ptri arg6 harg6 x5) (tri2_of ht harg6)
      (pg_fin harg3 x2 hg _ _) 1 (mk x0) (mk x1) (mv x3) (mg x2) (pq_row harg1 x0 1 _ _ rfl) (pq_row harg2 x1 1 _ _ rfl) (pv_row harg4 x3 1 _ _ rfl)
      (pg_row harg3 x2 1 _ _ rfl) (fun d e => by rw [z1_eq]; exact zS_zero _ _ d e)
  have pre2 := head_pre (s := (kernelRun0_A.sl.v529 c arg2 harg2 arg3 harg3 arg4 harg4 arg6 harg6 arg9 x1 x2 x3 x5)) (q := (pq arg1 harg1 x0 ![0, 0, 256] inb_S1x2064x512_S1x16x128_0_0_256)) (k := (pq arg2 harg2 x1 ![0, 0, 256] inb_S1x2064x512_S1x16x128_0_0_256))
      (g := (pg arg3 harg3 x2 ![0, 0, 256] inb_S1x2064x512_S1x16x128_0_0_256)) (v := (pv arg4 harg4 x3 ![0, 0, 512] inb_S1x2064x1024_S1x16x256_0_0_512)) (tri := ptri arg6 harg6 x5) (tri2_of ht harg6)
      (pg_fin harg3 x2 hg _ _) 2 (mk x0) (mk x1) (mv x3) (mg x2) (pq_row harg1 x0 2 _ _ rfl) (pq_row harg2 x1 2 _ _ rfl) (pv_row harg4 x3 2 _ _ rfl)
      (pg_row harg3 x2 2 _ _ rfl) (fun d e => by rw [z2_eq]; exact zS_zero _ _ d e)
  have pre3 := head_pre (s := (kernelRun0_A.sl.v721 c arg2 harg2 arg3 harg3 arg4 harg4 arg6 harg6 arg9 x1 x2 x3 x5)) (q := (pq arg1 harg1 x0 ![0, 0, 384] inb_S1x2064x512_S1x16x128_0_0_384)) (k := (pq arg2 harg2 x1 ![0, 0, 384] inb_S1x2064x512_S1x16x128_0_0_384))
      (g := (pg arg3 harg3 x2 ![0, 0, 384] inb_S1x2064x512_S1x16x128_0_0_384)) (v := (pv arg4 harg4 x3 ![0, 0, 768] inb_S1x2064x1024_S1x16x256_0_0_768)) (tri := ptri arg6 harg6 x5) (tri2_of ht harg6)
      (pg_fin harg3 x2 hg _ _) 3 (mk x0) (mk x1) (mv x3) (mg x2) (pq_row harg1 x0 3 _ _ rfl) (pq_row harg2 x1 3 _ _ rfl) (pv_row harg4 x3 3 _ _ rfl)
      (pg_row harg3 x2 3 _ _ rfl) (fun d e => by rw [z3_eq]; exact zS_zero _ _ d e)
  rw [pre9, v160_eq, v352_eq, v544_eq, v736_eq]
  obtain rfl | rfl | rfl | rfl := four_cases h
  · refine (miss9 _ _ 0 3 _ d e (by decide)).trans ?_
    refine (miss9 _ _ 0 3 _ d e (by decide)).trans ?_
    refine (miss9 _ _ 0 2 _ d e (by decide)).trans ?_
    refine (miss9 _ _ 0 2 _ d e (by decide)).trans ?_
    refine (miss9 _ _ 0 1 _ d e (by decide)).trans ?_
    refine (miss9 _ _ 0 1 _ d e (by decide)).trans ?_
    refine (hit9 _ _ 0 0 _ d e rfl).trans ?_
    exact pre0.1 d e
  · refine (miss9 _ _ 1 3 _ d e (by decide)).trans ?_
    refine (miss9 _ _ 1 3 _ d e (by decide)).trans ?_
    refine (miss9 _ _ 1 2 _ d e (by decide)).trans ?_
    refine (miss9 _ _ 1 2 _ d e (by decide)).trans ?_
    refine (hit9 _ _ 1 1 _ d e rfl).trans ?_
    exact pre1.1 d e
  · refine (miss9 _ _ 2 3 _ d e (by decide)).trans ?_
    refine (miss9 _ _ 2 3 _ d e (by decide)).trans ?_
    refine (hit9 _ _ 2 2 _ d e rfl).trans ?_
    exact pre2.1 d e
  · refine (hit9 _ _ 3 3 _ d e rfl).trans ?_
    exact pre3.1 d e

theorem outPre_of : View.PiecesOf (oG x0 x1 x2 x3 x4) (outPre c arg1 harg1 arg2 harg2 arg3 harg3 arg4 harg4 arg5 harg5 arg6 harg6 arg9 x0 x1 x2 x3 x4 x5) := by
  have pre0 := head_pre (s := (kernelRun0_A.sl.v145 c arg9)) (q := (pq arg1 harg1 x0 ![0, 0, 0] inb_S1x2064x512_S1x16x128_0_0_0)) (k := (pq arg2 harg2 x1 ![0, 0, 0] inb_S1x2064x512_S1x16x128_0_0_0))
      (g := (pg arg3 harg3 x2 ![0, 0, 0] inb_S1x2064x512_S1x16x128_0_0_0)) (v := (pv arg4 harg4 x3 ![0, 0, 0] inb_S1x2064x1024_S1x16x256_0_0_0)) (tri := ptri arg6 harg6 x5) (tri2_of ht harg6)
      (pg_fin harg3 x2 hg _ _) 0 (mk x0) (mk x1) (mv x3) (mg x2) (pq_row harg1 x0 0 _ _ rfl) (pq_row harg2 x1 0 _ _ rfl) (pv_row harg4 x3 0 _ _ rfl)
      (pg_row harg3 x2 0 _ _ rfl) (fun d e => by rw [z0_eq]; exact zS_zero _ _ d e)
  have pre1 := head_pre (s := (kernelRun0_A.sl.v337 c arg2 harg2 arg3 harg3 arg4 harg4 arg6 harg6 arg9 x1 x2 x3 x5)) (q := (pq arg1 harg1 x0 ![0, 0, 128] inb_S1x2064x512_S1x16x128_0_0_128)) (k := (pq arg2 harg2 x1 ![0, 0, 128] inb_S1x2064x512_S1x16x128_0_0_128))
      (g := (pg arg3 harg3 x2 ![0, 0, 128] inb_S1x2064x512_S1x16x128_0_0_128)) (v := (pv arg4 harg4 x3 ![0, 0, 256] inb_S1x2064x1024_S1x16x256_0_0_256)) (tri := ptri arg6 harg6 x5) (tri2_of ht harg6)
      (pg_fin harg3 x2 hg _ _) 1 (mk x0) (mk x1) (mv x3) (mg x2) (pq_row harg1 x0 1 _ _ rfl) (pq_row harg2 x1 1 _ _ rfl) (pv_row harg4 x3 1 _ _ rfl)
      (pg_row harg3 x2 1 _ _ rfl) (fun d e => by rw [z1_eq]; exact zS_zero _ _ d e)
  have pre2 := head_pre (s := (kernelRun0_A.sl.v529 c arg2 harg2 arg3 harg3 arg4 harg4 arg6 harg6 arg9 x1 x2 x3 x5)) (q := (pq arg1 harg1 x0 ![0, 0, 256] inb_S1x2064x512_S1x16x128_0_0_256)) (k := (pq arg2 harg2 x1 ![0, 0, 256] inb_S1x2064x512_S1x16x128_0_0_256))
      (g := (pg arg3 harg3 x2 ![0, 0, 256] inb_S1x2064x512_S1x16x128_0_0_256)) (v := (pv arg4 harg4 x3 ![0, 0, 512] inb_S1x2064x1024_S1x16x256_0_0_512)) (tri := ptri arg6 harg6 x5) (tri2_of ht harg6)
      (pg_fin harg3 x2 hg _ _) 2 (mk x0) (mk x1) (mv x3) (mg x2) (pq_row harg1 x0 2 _ _ rfl) (pq_row harg2 x1 2 _ _ rfl) (pv_row harg4 x3 2 _ _ rfl)
      (pg_row harg3 x2 2 _ _ rfl) (fun d e => by rw [z2_eq]; exact zS_zero _ _ d e)
  have pre3 := head_pre (s := (kernelRun0_A.sl.v721 c arg2 harg2 arg3 harg3 arg4 harg4 arg6 harg6 arg9 x1 x2 x3 x5)) (q := (pq arg1 harg1 x0 ![0, 0, 384] inb_S1x2064x512_S1x16x128_0_0_384)) (k := (pq arg2 harg2 x1 ![0, 0, 384] inb_S1x2064x512_S1x16x128_0_0_384))
      (g := (pg arg3 harg3 x2 ![0, 0, 384] inb_S1x2064x512_S1x16x128_0_0_384)) (v := (pv arg4 harg4 x3 ![0, 0, 768] inb_S1x2064x1024_S1x16x256_0_0_768)) (tri := ptri arg6 harg6 x5) (tri2_of ht harg6)
      (pg_fin harg3 x2 hg _ _) 3 (mk x0) (mk x1) (mv x3) (mg x2) (pq_row harg1 x0 3 _ _ rfl) (pq_row harg2 x1 3 _ _ rfl) (pv_row harg4 x3 3 _ _ rfl)
      (pg_row harg3 x2 3 _ _ rfl) (fun d e => by rw [z3_eq]; exact zS_zero _ _ d e)
  rw [outPre, v160_eq, v352_eq, v544_eq, v736_eq, pgn_at]
  exact ⟨piece_pre x0 x1 x2 x3 x4 3 _ inb_S1x2064x1024_S1x16x256_0_0_768 rfl _ (pre3.2 x4),
    piece_pre x0 x1 x2 x3 x4 2 _ inb_S1x2064x1024_S1x16x256_0_0_512 rfl _ (pre2.2 x4),
    piece_pre x0 x1 x2 x3 x4 1 _ inb_S1x2064x1024_S1x16x256_0_0_256 rfl _ (pre1.2 x4),
    piece_pre x0 x1 x2 x3 x4 0 _ inb_S1x2064x1024_S1x16x256_0_0_0 rfl _ (pre0.2 x4), trivial⟩

/-- Before trip `n` the scratch holds the states after `1 + 4 n` chunks, and the stores so far are blocks of the output. -/
theorem loop_inv (n : ℕ) (hn : n ≤ k0_t1_loop.trips) :
    (∀ h d e, View.canon (Val := Elt Ideal) ((pbn c i arg1 harg1 arg2 harg2 arg3 harg3 arg4 harg4 arg5 harg5 arg6 harg6 arg7 harg7 arg8 harg8 arg9 harg9 x0 x1 x2 x3 x4 x5 n).2 ++ kernelRun0_A.sl.HS0_9 c arg2 harg2 arg3 harg3 arg4 harg4 arg6 harg6 arg9 x1 x2 x3 x5) (ix3 h d e) = SH (mk x1) (mv x3) (mg x2) h (1 + 4 * n) d e)
      ∧ View.PiecesOf (oG x0 x1 x2 x3 x4) (pbn c i arg1 harg1 arg2 harg2 arg3 harg3 arg4 harg4 arg5 harg5 arg6 harg6 arg7 harg7 arg8 harg8 arg9 harg9 x0 x1 x2 x3 x4 x5 n).1 := by
  induction n with
  | zero =>
    rw [pbn, pb_k0_t1.eq_1]
    exact ⟨pre9_at c arg1 harg1 arg2 harg2 arg3 harg3 arg4 harg4 arg6 harg6 arg9 x0 x1 x2 x3 x5 hg ht, trivial⟩
  | succ n ih =>
    obtain ⟨ih1, ih2⟩ := ih (by omega)
    have hs := pb_k0_t1_succ Variants.none c none i arg1 harg1 arg2 harg2 arg3 harg3 arg4 harg4 arg5 harg5 arg6 harg6 arg7 harg7 arg8 harg8 arg9 harg9 (pgn arg5 harg5 x4) (kernelRun0_A.sl.r_46 c arg4 harg4 x3) k0_pay235 (kernelRun0_A.sl.r_49 c arg1 harg1 arg3 harg3 arg6 harg6 x0 x2 x5) (kernelRun0_A.sl.r_50 c arg2 harg2 arg3 harg3 arg6 harg6 x1 x2 x5) (kernelRun0_A.sl.r_51 c arg3 harg3 arg6 harg6 x2 x5) (kernelRun0_A.sl.r_52 c arg1 harg1 arg2 harg2 arg3 harg3 arg4 harg4 arg6 harg6 x0 x1 x2 x3 x5) (harg1.unread x0) (harg2.unread x1) (harg3.unread x2) (harg4.unread x3) (harg6.unread x5) arg7.view.junk (arg9.view.writes (Elt Ideal) arg9.view.junk (kernelRun0_A.sl.HS0_9 c arg2 harg2 arg3 harg3 arg4 harg4 arg6 harg6 arg9 x1 x2 x3 x5)) ⟨n, hn⟩
    rw [← View.writes_append] at hs
    have h1 := trip9_at c i arg1 harg1 arg2 harg2 arg3 harg3 arg4 harg4 arg5 harg5 arg6 harg6 arg7 harg7 arg8 harg8 arg9 harg9 x0 x1 x2 x3 x5 hg ht (pgn arg5 harg5 x4) (kernelRun0_A.sl.r_46 c arg4 harg4 x3) k0_pay235 (kernelRun0_A.sl.r_49 c arg1 harg1 arg3 harg3 arg6 harg6 x0 x2 x5) (kernelRun0_A.sl.r_50 c arg2 harg2 arg3 harg3 arg6 harg6 x1 x2 x5) (kernelRun0_A.sl.r_51 c arg3 harg3 arg6 harg6 x2 x5) (kernelRun0_A.sl.r_52 c arg1 harg1 arg2 harg2 arg3 harg3 arg4 harg4 arg6 harg6 x0 x1 x2 x3 x5) ⟨n, hn⟩ (arg7.view.writes (Elt Ideal) arg7.view.junk (pbn c i arg1 harg1 arg2 harg2 arg3 harg3 arg4 harg4 arg5 harg5 arg6 harg6 arg7 harg7 arg8 harg8 arg9 harg9 x0 x1 x2 x3 x4 x5 n).1) ((pbn c i arg1 harg1 arg2 harg2 arg3 harg3 arg4 harg4 arg5 harg5 arg6 harg6 arg7 harg7 arg8 harg8 arg9 harg9 x0 x1 x2 x3 x4 x5 n).2 ++ kernelRun0_A.sl.HS0_9 c arg2 harg2 arg3 harg3 arg4 harg4 arg6 harg6 arg9 x1 x2 x3 x5) ih1
    have h2 := trip7_of c i arg1 harg1 arg2 harg2 arg3 harg3 arg4 harg4 arg5 harg5 arg6 harg6 arg7 harg7 arg8 harg8 arg9 harg9 x0 x1 x2 x3 x4 x5 hg ht (pgn arg5 harg5 x4) (kernelRun0_A.sl.r_46 c arg4 harg4 x3) k0_pay235 (kernelRun0_A.sl.r_49 c arg1 harg1 arg3 harg3 arg6 harg6 x0 x2 x5) (kernelRun0_A.sl.r_50 c arg2 harg2 arg3 harg3 arg6 harg6 x1 x2 x5) (kernelRun0_A.sl.r_51 c arg3 harg3 arg6 harg6 x2 x5) (kernelRun0_A.sl.r_52 c arg1 harg1 arg2 harg2 arg3 harg3 arg4 harg4 arg6 harg6 x0 x1 x2 x3 x5) ⟨n, hn⟩ (arg7.view.writes (Elt Ideal) arg7.view.junk (pbn c i arg1 harg1 arg2 harg2 arg3 harg3 arg4 harg4 arg5 harg5 arg6 harg6 arg7 harg7 arg8 harg8 arg9 harg9 x0 x1 x2 x3 x4 x5 n).1) ((pbn c i arg1 harg1 arg2 harg2 arg3 harg3 arg4 harg4 arg5 harg5 arg6 harg6 arg7 harg7 arg8 harg8 arg9 harg9 x0 x1 x2 x3 x4 x5 n).2 ++ kernelRun0_A.sl.HS0_9 c arg2 harg2 arg3 harg3 arg4 harg4 arg6 harg6 arg9 x1 x2 x3 x5) ih1 (pgn_at harg5 x4)
    refine ⟨fun h d e => ?_, ?_⟩
    · refine Eq.trans (congrArg (fun l => View.canon (Val := Elt Ideal) l (ix3 h d e)) ?_) (h1 h d e)
      refine (congrArg (fun p => p.2 ++ _) hs).trans ?_
      exact List.append_assoc _ _ _
    · exact (congrArg (fun p => View.PiecesOf (oG x0 x1 x2 x3 x4) p.1) hs).mpr (pieces_append h2 ih2)

end

end

end Cert.Gla

end
-- ==== Proof.Gla.Out.lean ====
/-
  The two output blocks of one sequence, as the kernel leaves them: the normalised outputs and the state after the last chunk.
-/
module

public import proofs.«01_k».proof.Proof.Gla.Loop
public import proofs.«01_k».proof.Proof.Gla.Frame

@[expose] public section

set_option maxRecDepth 16384

noncomputable section

namespace Cert.Gla

open Cert.GlaPromptIdeal Cert.GlaPromptIdeal.Gen Cert.GlaPromptIdeal.Own
open Idealize.ShloMosaic

section
variable (c : Dev nD) (i : grid0.Coords) (arg1 : Memref sig .tc .vmem S1x2064x512 .bf16) (harg1 : arg1.IsWhole) (arg2 : Memref sig .tc .vmem S1x2064x512 .bf16) (harg2 : arg2.IsWhole) (arg3 : Memref sig .tc .vmem S1x2064x512 .f32) (harg3 : arg3.IsWhole) (arg4 : Memref sig .tc .vmem S1x2064x1024 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x2064x1024 .bf16) (harg7 : arg7.IsWhole) (arg8 : Memref sig .tc .vmem S1x4x128x256 .f32) (harg8 : arg8.IsWhole) (arg9 : Memref sig .tc .vmem S4x128x256 .f32) (harg9 : arg9.IsWhole)
    (x0 : Vec Ideal S1x2064x512 .bf16) (x1 : Vec Ideal S1x2064x512 .bf16) (x2 : Vec Ideal S1x2064x512 .f32) (x3 : Vec Ideal S1x2064x1024 .bf16) (x4 : Vec Ideal S1x256 .f32) (x5 : Vec Ideal S256x256 .bf16)
    (hg : ∀ i, x2 i ≠ ⊤ ∧ x2 i ≠ ⊥) (ht : IsTri4 x5)

include hg ht

theorem out6 : out0_A_6 c i arg1 harg1 arg2 harg2 arg3 harg3 arg4 harg4 arg5 harg5 arg6 harg6 arg7 harg7 arg8 harg8 arg9 harg9 x0 x1 x2 x3 x4 x5 = oG x0 x1 x2 x3 x4 := by
  funext y
  have hp : View.PiecesOf (oG x0 x1 x2 x3 x4) (kernelRun0_A c i arg1 harg1 arg2 harg2 arg3 harg3 arg4 harg4 arg5 harg5 arg6 harg6 arg7 harg7 arg8 harg8 arg9 harg9 x0 x1 x2 x3 x4 x5).1 := by
    rw [run6]
    exact pieces_append (loop_inv c i arg1 harg1 arg2 harg2 arg3 harg3 arg4 harg4 arg5 harg5 arg6 harg6 arg7 harg7 arg8 harg8 arg9 harg9 x0 x1 x2 x3 x4 x5 hg ht _ le_rfl).2 (outPre_of c arg1 harg1 arg2 harg2 arg3 harg3 arg4 harg4 arg5 harg5 arg6 harg6 arg9 x0 x1 x2 x3 x4 x5 hg ht)
  have hc := cover0_A_6 (F := Ideal) c i arg1 harg1 arg2 harg2 arg3 harg3 arg4 harg4 arg5 harg5 arg6 harg6 arg7 harg7 arg8 harg8 arg9 harg9 x0 x1 x2 x3 x4 x5 y
  unfold out0_A_6
  rw [View.read_writes_junk_eq_canon]
  have := View.canon_append_of_piecesOf (Val := Elt Ideal) (oG x0 x1 x2 x3 x4) [] _ hp y hc
  rwa [List.append_nil] at this

theorem out7 (h : Fin 4) (d : Fin 128) (e : Fin 256) :
    out0_A_7 c i arg1 harg1 arg2 harg2 arg3 harg3 arg4 harg4 arg5 harg5 arg6 harg6 arg7 harg7 arg8 harg8 arg9 harg9 x0 x1 x2 x3 x4 x5 (ix4 0 h d e) = SH (mk x1) (mv x3) (mg x2) h 33 d e := by
  have hl := (loop_inv c i arg1 harg1 arg2 harg2 arg3 harg3 arg4 harg4 arg5 harg5 arg6 harg6 arg7 harg7 arg8 harg8 arg9 harg9 x0 x1 x2 x3 x4 x5 hg ht _ le_rfl).1 h d e
  rw [trips_eq] at hl
  refine Eq.trans ?_ hl
  unfold out0_A_7
  rw [View.read_writes_junk_eq_canon, run7]
  refine Eq.trans (congrArg _ ?_) (Eq.trans (View.canon_cons_emb (Val := Elt Ideal) (s := S1x4x128x256) (e := .f32) (Rect.unit ![0, 0, 0, 0] S1x4x128x256.size inb_S1x4x128x256_S1x4x128x256_0_0_0_0) _ [] (ix4 0 h d e)) ?_)
  · funext a; refine Fin.ext ?_
    fin_cases a <;> simp
  rw [trips_eq]
  generalize (pbn c i arg1 harg1 arg2 harg2 arg3 harg3 arg4 harg4 arg5 harg5 arg6 harg6 arg7 harg7 arg8 harg8 arg9 harg9 x0 x1 x2 x3 x4 x5 8).2 ++ _ = L
  unfold k0_pay1
  generalize hw : View.readAt _ _ _ _ = w
  pointwise
  subst hw
  rw [View.readAt_eq_ld, View.read_writes_junk_eq_canon, View.ld]
  refine congrArg (View.canon L) ?_
  funext a
  refine Fin.ext ?_
  fin_cases a <;> simp

end

end Cert.Gla

end
-- ==== Proof.Gla.Tri.lean ====
/-
  The mask that the host code prepares: causal within each chunk of 64 rows.
-/
module

public import proofs.«01_k».proof.Proof.Gla.Frame
public import proofs.«01_k».proof.Proof.Gla.Block
public import Idealize.ShloMosaic.Lib.StableHlo.ReadAt
public import Idealize.ShloMosaic.Lib.Tactic.WordOmega

@[expose] public section

set_option maxRecDepth 16384

noncomputable section

namespace Cert.Gla

open Cert.GlaPromptIdeal Cert.GlaPromptIdeal.Gen Cert.GlaPromptIdeal.Own
open Idealize.ShloMosaic

/-- Floor division by 64 as the host code spells it, on a row's number. -/
def hostDiv (t : Fin 256) : BitVec 32 :=
  Scalar.select
    (IntOp.andi
      (IntOp.cmpi CmpIPredicate.ne (if BitVec.ofNat 32 t.val = 0 then 0 else if (BitVec.ofNat 32 t.val).msb = true then -1 else 1 : BitVec 32)
        (if (64#32 : BitVec 32) = 0 then 0 else if BitVec.msb (64#32 : BitVec 32) = true then -1 else 1 : BitVec 32))
      (IntOp.cmpi CmpIPredicate.ne (IntOp.remsi ArithUnit.host (BitVec.ofNat 32 t.val) 64#32) 0#32))
    (IntOp.subi (IntOp.divsi ArithUnit.host (BitVec.ofNat 32 t.val) 64#32) 1#32)
    (IntOp.divsi ArithUnit.host (BitVec.ofNat 32 t.val) 64#32)

theorem hostDiv_eq : ∀ t : Fin 256, hostDiv t = BitVec.ofNat 32 (t.val / 64) := by decide +kernel

theorem eq_word : ∀ a b : Fin 4, IntOp.cmpi CmpIPredicate.eq (BitVec.ofNat 32 a.val) (BitVec.ofNat 32 b.val) = if b = a then 1#1 else 0#1 := by
  decide +kernel

theorem sle_word (a b : ℕ) (ha : a < 256) (hb : b < 256) :
    IntOp.cmpi CmpIPredicate.sle (BitVec.ofNat 32 a) (BitVec.ofNat 32 b) = if a ≤ b then 1#1 else 0#1 := by
  have h1 : (BitVec.ofNat 32 a).toInt = a := by
    rw [BitVec.toInt_eq_toNat_of_lt (by rw [BitVec.toNat_ofNat]; omega), BitVec.toNat_ofNat]; omega
  have h2 : (BitVec.ofNat 32 b).toInt = b := by
    rw [BitVec.toInt_eq_toNat_of_lt (by rw [BitVec.toNat_ofNat]; omega), BitVec.toNat_ofNat]; omega
  simp only [IntOp.cmpi, BitVec.sle, h1, h2, Nat.cast_le]
  by_cases h : a ≤ b <;> simp [h]

theorem mask_at (c c' : Fin 4) (r s : Fin 64) :
    FloatOps.uitofp (F := Ideal) FTy.bf16 (IntOp.andi (IntOp.cmpi CmpIPredicate.eq (hostDiv (row4 c r)) (hostDiv (row4 c' s)))
      (IntOp.cmpi CmpIPredicate.sle (BitVec.ofNat 32 (row4 c' s).val) (BitVec.ofNat 32 (row4 c r).val)))
      = if c' = c ∧ s ≤ r then (1 : EReal) else 0 := by
  rw [hostDiv_eq, hostDiv_eq, sle_word _ _ (row4 c' s).isLt (row4 c r).isLt,
    show (row4 c r).val / 64 = c.val by simp only [row4]; omega, show (row4 c' s).val / 64 = c'.val by simp only [row4]; omega, eq_word]
  have hb : ((row4 c' s).val ≤ (row4 c r).val ∧ c' = c) ↔ (c' = c ∧ s ≤ r) := by
    simp only [row4, Fin.le_def, Fin.ext_iff]; omega
  have h1 : ((((1#1 : BitVec 1).toNat : ℝ) : EReal)) = 1 := by simp
  have h0 : ((((0#1 : BitVec 1).toNat : ℝ) : EReal)) = 0 := by simp
  generalize (row4 c' s).val = x at hb ⊢
  generalize (row4 c r).val = y at hb ⊢
  by_cases hc : c' = c
  · by_cases hs : x ≤ y
    · have ht : c' = c ∧ s ≤ r := hb.1 ⟨hs, hc⟩
      rw [if_pos hc, if_pos hs, if_pos ht]; exact h1
    · have ht : ¬(c' = c ∧ s ≤ r) := fun h => hs (hb.2 h).1
      rw [if_pos hc, if_neg hs, if_neg ht]; exact h0
  · have ht : ¬(c' = c ∧ s ≤ r) := fun h => hc h.1
    rw [if_neg hc, if_neg ht]
    split
    · exact h0
    · exact h0

theorem tri_ok (m : (ℓ : Loc nD τ sig) → Buf (Elt Ideal) ℓ) (c : Dev nD) : IsTri4 (V m c main_v7) := by
  intro a b r s
  refine Eq.trans ?_ (mask_at a b r s)
  generalize row4 a r = t
  generalize row4 b s = u
  unfold V
  after_reads_at
  rfl

end Cert.Gla

end
-- ==== Proof.Gla.Final.lean ====
/-
  The kernel's two result arrays, sequence by sequence.
-/
module

public import proofs.«01_k».proof.Proof.Gla.Out
public import proofs.«01_k».proof.Proof.Gla.Tri
public import Idealize.ShloMosaic.Lib.Pipeline.ValueKit

@[expose] public section

set_option maxRecDepth 16384

noncomputable section

namespace Cert.Gla

open Cert.GlaPromptIdeal Cert.GlaPromptIdeal.Gen Cert.GlaPromptIdeal.Own
open Idealize.ShloMosaic Idealize.ShloMosaic.TcCoe

variable (m : (ℓ : Loc nD τ sig) → Buf (Elt Ideal) ℓ) (c : Dev nD)

theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![0, 0] ∧ win0_5.index t = ![0, 0] ∧ win0_6.index t = ![t.val, 0, 0] ∧ win0_7.index t = ![t.val, 0, 0, 0] := by
  decide +kernel

/-- The sequence of a grid point. -/
def bt (t : Fin cfg0.N) : Fin 32 := ⟨t.val, t.isLt⟩

theorem blk0 (t : Fin cfg0.N) (r : Fin 2064) (d : Fin 512) :
    (iblk m c 0 t : Vec Ideal S1x2064x512 .bf16) (ix3 0 r d) = (m ((c : Thread nD τ).loc main_arg0) : Vec Ideal S32x2064x512 .bf16) (ix3 (bt t) r d) := by
  rw [← V_main_arg0 m c]
  blk_ext [iblk, idx t, bt]

theorem blk1 (t : Fin cfg0.N) (r : Fin 2064) (d : Fin 512) :
    (iblk m c 1 t : Vec Ideal S1x2064x512 .bf16) (ix3 0 r d) = (m ((c : Thread nD τ).loc main_arg1) : Vec Ideal S32x2064x512 .bf16) (ix3 (bt t) r d) := by
  rw [← V_main_arg1 m c]
  blk_ext [iblk, idx t, bt]

theorem blk2 (t : Fin cfg0.N) (r : Fin 2064) (d : Fin 512) :
    (iblk m c 2 t : Vec Ideal S1x2064x512 .f32) (ix3 0 r d) = (m ((c : Thread nD τ).loc main_arg2) : Vec Ideal S32x2064x512 .f32) (ix3 (bt t) r d) := by
  rw [← V_main_arg2 m c]
  blk_ext [iblk, idx t, bt]

theorem blk3 (t : Fin cfg0.N) (r : Fin 2064) (d : Fin 1024) :
    (iblk m c 3 t : Vec Ideal S1x2064x1024 .bf16) (ix3 0 r d) = (m ((c : Thread nD τ).loc main_arg3) : Vec Ideal S32x2064x1024 .bf16) (ix3 (bt t) r d) := by
  rw [← V_main_arg3 m c]
  blk_ext [iblk, idx t, bt]

theorem blk4 (t : Fin cfg0.N) (d : Fin 256) :
    (iblk m c 4 t : Vec Ideal S1x256 .f32) (ix2 0 d) = (m ((c : Thread nD τ).loc main_arg4) : Vec Ideal S1x256 .f32) (ix2 0 d) := by
  rw [← V_main_arg4 m c]
  blk_ext [iblk, idx t, bt]

theorem blk5 (t : Fin cfg0.N) : (iblk m c 5 t : Vec Ideal S256x256 .bf16) = V m c main_v7 := by
  funext i
  obtain ⟨a, b, rfl⟩ : ∃ (a : Fin 256) (b : Fin 256), i = ix2 a b := ⟨i 0, i 1, ValueIdx.eq_ix2 i⟩
  blk_ext [iblk, idx t]

/-- One sequence of an argument. -/
abbrev aq (b : Fin 32) : Fin 2064 → Fin 512 → EReal := fun t d => (m ((c : Thread nD τ).loc main_arg0) : Vec Ideal S32x2064x512 .bf16) (ix3 b t d)
abbrev ak (b : Fin 32) : Fin 2064 → Fin 512 → EReal := fun t d => (m ((c : Thread nD τ).loc main_arg1) : Vec Ideal S32x2064x512 .bf16) (ix3 b t d)
abbrev ag (b : Fin 32) : Fin 2064 → Fin 512 → EReal := fun t d => (m ((c : Thread nD τ).loc main_arg2) : Vec Ideal S32x2064x512 .f32) (ix3 b t d)
abbrev av (b : Fin 32) : Fin 2064 → Fin 1024 → EReal := fun t d => (m ((c : Thread nD τ).loc main_arg3) : Vec Ideal S32x2064x1024 .bf16) (ix3 b t d)
abbrev an : Fin 256 → EReal := fun e => (m ((c : Thread nD τ).loc main_arg4) : Vec Ideal S1x256 .f32) (ix2 0 e)

/-- The output array. -/
def G6 : Vec Ideal S32x2064x1024 .bf16 := fun i => outG (aq m c (i 0)) (ak m c (i 0)) (av m c (i 0)) (ag m c (i 0)) (an m c) (i 1) (i 2)
/-- The array of the states after the last chunk. -/
def G7 : Vec Ideal S32x4x128x256 .f32 := fun i => SH (ak m c (i 0)) (av m c (i 0)) (ag m c (i 0)) (i 1) 33 (i 2) (i 3)

theorem mq_blk (t : Fin cfg0.N) : mk (iblk m c 0 t) = aq m c (bt t) := funext fun r => funext fun d => blk0 m c t r d
theorem mk_blk (t : Fin cfg0.N) : mk (iblk m c 1 t) = ak m c (bt t) := funext fun r => funext fun d => blk1 m c t r d
theorem mg_blk (t : Fin cfg0.N) : mg (iblk m c 2 t) = ag m c (bt t) := funext fun r => funext fun d => blk2 m c t r d
theorem mv_blk (t : Fin cfg0.N) : mv (iblk m c 3 t) = av m c (bt t) := funext fun r => funext fun d => blk3 m c t r d

section
variable (hg : ∀ b t d, ag m c b t d ≠ ⊤ ∧ ag m c b t d ≠ ⊥)

include hg

theorem gates_ok (t : Fin cfg0.N) (x : Vec Ideal S1x2064x512 .f32) (hx : x = iblk m c 2 t) : ∀ i, x i ≠ ⊤ ∧ x i ≠ ⊥ := by
  intro i
  obtain ⟨a, r, d, rfl⟩ : ∃ (a : Fin 1) (r : Fin 2064) (d : Fin 512), i = ix3 a r d := ⟨i 0, i 1, i 2, ValueIdx.eq_ix3 i⟩
  obtain rfl : a = 0 := Subsingleton.elim _ _
  have := hg (bt t) r d
  rw [← mg_blk] at this
  subst hx
  exact this

theorem arr6 : (dats m 0 c).arrAt 6 cfg0.N = G6 m c := by
  refine (dats m 0 c).arrAt_eq_of_covers 6 _ (by decide +kernel) fun t hf y => ?_
  blk_simp
  rw [after0_6]
  unfold outsAt0
  dsimp only
  rw [out6 (hg := gates_ok m c hg t _ rfl) (ht := by rw [blk5]; exact tri_ok m c)]
  obtain ⟨a, r, d, rfl⟩ : ∃ (a : Fin 1) (r : Fin 2064) (d : Fin 1024), y = ix3 a r d := ⟨y 0, y 1, y 2, ValueIdx.eq_ix3 y⟩
  obtain rfl : a = 0 := Subsingleton.elim _ _
  have he : ((cfg0.win 6).blk t).view.emb (ix3 0 r d) = ix3 (bt t) r d := by
    blk_ext [idx t, bt]
  rw [he]
  show outG (mk (iblk m c 0 t)) (mk (iblk m c 1 t)) (mv (iblk m c 3 t)) (mg (iblk m c 2 t)) (fun e => (iblk m c 4 t : Vec Ideal S1x256 .f32) (ix2 0 e)) r d = _
  rw [mq_blk, mk_blk, mv_blk, mg_blk, show (fun e => (iblk m c 4 t : Vec Ideal S1x256 .f32) (ix2 0 e)) = an m c from funext fun e => blk4 m c t e]
  rfl

theorem arr7 : (dats m 0 c).arrAt 7 cfg0.N = G7 m c := by
  refine (dats m 0 c).arrAt_eq_of_covers 7 _ (by decide +kernel) fun t hf y => ?_
  blk_simp
  rw [after0_7]
  unfold outsAt0
  dsimp only
  obtain ⟨a, h, d, e, rfl⟩ : ∃ (a : Fin 1) (h : Fin 4) (d : Fin 128) (e : Fin 256), y = ix4 a h d e := ⟨y 0, y 1, y 2, y 3, ValueIdx.eq_ix4 y⟩
  obtain rfl : a = 0 := Subsingleton.elim _ _
  rw [out7 (hg := gates_ok m c hg t _ rfl) (ht := by rw [blk5]; exact tri_ok m c)]
  have he : ((cfg0.win 7).blk t).view.emb (ix4 0 h d e) = ix4 (bt t) h d e := by
    blk_ext [idx t, bt]
  rw [he, mk_blk, mv_blk, mg_blk]
  rfl

end

end Cert.Gla

end
-- ==== Proof.Gla.RefCum.lean ====
/-
  The reference's running sum of the gates within a chunk, read at an index.
-/
module

public import proofs.«01_k».proof.Proof.Gen.GlaPromptRefIdeal.Step
public import proofs.«01_k».proof.Proof.Gla.Chunk
public import Idealize.ShloMosaic.Lib.Pointwise

@[expose] public section

set_option maxRecDepth 16384

noncomputable section

namespace Cert.Gla.Ref

open Cert.GlaPromptRefIdeal Cert.GlaPromptRefIdeal.Step Cert.GlaPromptRefIdeal.Gen
open Idealize.ShloMosaic

/-- A left fold of additions is a sum. -/
theorem foldl_add {ι : Type} (f : ι → EReal) : ∀ (l : List ι) (v : EReal), l.foldl (fun r n => r + f n) v = v + (l.map f).sum
  | [], v => by simp
  | a :: l, v => by rw [List.foldl_cons, foldl_add f l, List.map_cons, List.sum_cons, add_assoc]

/-- A window of 64 positions that ends at row `r` sums the rows up to `r`. -/
theorem window_cum (g : Fin 64 → EReal) (r : Fin 64) :
    (∑ w : Fin 64, if h : 63 ≤ r.val + w.val then g ⟨r.val + w.val - 63, by omega⟩ else 0) = cum g r := by
  unfold cum
  rw [← Equiv.sum_comp (Equiv.addRight (r + 1)) (fun s => if s ≤ r then g s else 0)]
  refine Finset.sum_congr rfl fun w _ => ?_
  have hw := w.isLt
  have hr := r.isLt
  have hv : (w + (r + 1) : Fin 64).val = (w.val + r.val + 1) % 64 := by
    simp only [Fin.val_add]; omega
  show _ = (fun s : Fin 64 => if s ≤ r then g s else 0) (w + (r + 1))
  by_cases h : 63 ≤ r.val + w.val
  · have e : (w + (r + 1) : Fin 64) = ⟨r.val + w.val - 63, by omega⟩ := Fin.ext (by rw [hv]; show _ = r.val + w.val - 63; omega)
    rw [dif_pos h, e]
    exact (if_pos (by rw [Fin.le_def]; show r.val + w.val - 63 ≤ r.val; omega)).symm
  · rw [dif_neg h]
    exact (if_neg (by rw [Fin.le_def, hv]; omega)).symm

theorem cum_at (x : FVec Ideal S32x4x64x128 .f32) (init : FVec Ideal S_ .f32) (hi : ∀ i, init i = 0) (h) (hu)
    (b : Fin 32) (a : Fin 4) (r : Fin 64) (d : Fin 128) :
    Host.reduceWindowAdd (F := Ideal) (s := S32x4x64x128) (t := S32x4x64x128) (u := S_) ![1, 1, 64, 1] ![1, 1, 1, 1] ![0, 0, 63, 0] ![0, 0, 0, 0] x init h hu (ix4 b a r d)
      = cum (fun s => x (ix4 b a s d)) r := by
  unfold Host.reduceWindowAdd
  rw [Ideal.hostReduceWindowAdd_def]
  unfold Ideal.hostReduceWindowAdd Host.reduceWindow
  simp only [hi]
  rw [foldl_add, zero_add, ← List.ofFn_eq_map, List.sum_ofFn]
  refine (Equiv.sum_comp (Shape.rowMajor (⟨4, ![1, 1, 64, 1]⟩ : Shape)).symm (fun i => if hin : ∀ a', (![0, 0, 63, 0] : Fin 4 → ℕ) a' ≤ ((ix4 b a r d : S32x4x64x128.Idx) a').val * (![1, 1, 1, 1] : Fin 4 → ℕ) a' + (i a').val ∧ ((ix4 b a r d : S32x4x64x128.Idx) a').val * (![1, 1, 1, 1] : Fin 4 → ℕ) a' + (i a').val - (![0, 0, 63, 0] : Fin 4 → ℕ) a' < S32x4x64x128.size a' then x (fun a' => ⟨((ix4 b a r d : S32x4x64x128.Idx) a').val * (![1, 1, 1, 1] : Fin 4 → ℕ) a' + (i a').val - (![0, 0, 63, 0] : Fin 4 → ℕ) a', (hin a').2⟩) else 0)).trans ?_
  rw [sum_idx4, ← window_cum]
  simp only [Fin.sum_univ_one, Finset.univ_unique, Finset.sum_singleton]
  refine Finset.sum_congr rfl fun w _ => ?_
  have hw := w.isLt
  have hr := r.isLt
  by_cases hh : 63 ≤ r.val + w.val
  · rw [dif_pos hh, dif_pos]
    · refine congrArg x ?_
      funext a'
      refine Fin.ext ?_
      fin_cases a' <;> simp
    · intro a'
      fin_cases a' <;> simp <;> omega
  · rw [dif_neg hh, dif_neg]
    intro hin
    have := (hin 2).1
    simp at this
    omega

end Cert.Gla.Ref

end
-- ==== Proof.Gla.RefStep.lean ====
/-
  One step of the reference's recursion over chunks, read at an index.
-/
module

public import proofs.«01_k».proof.Proof.Gla.RefCum

@[expose] public section

set_option maxRecDepth 16384

noncomputable section

namespace Cert.Gla.Ref

open Cert.GlaPromptRefIdeal Cert.GlaPromptRefIdeal.Step Cert.GlaPromptRefIdeal.Gen
open Idealize.ShloMosaic

variable (j : Fin 33) (s : State Ideal)

theorem word_toInt : ∀ j : Fin 33, (BitVec.ofNat 32 j.val).toInt = j.val := by decide +kernel

theorem starts (j : Fin 33) : (fun k => (((![(constantI S_ 32 (BitVec.ofNat 32 j.val) : (⟨S_, .i32⟩ : BufTy).Contents (Elt Ideal)), (constantI S_ 32 0#32), (constantI S_ 32 0#32), (constantI S_ 32 0#32), (constantI S_ 32 0#32)] : Fin 5 → (⟨S_, .i32⟩ : BufTy).Contents (Elt Ideal))) k (Shape.Idx.first h_S_)).toInt)
    = ![(j.val : ℤ), 0, 0, 0, 0] := by
  funext k
  fin_cases k
  · exact word_toInt j
  all_goals rfl

theorem slice128 (x : FVec Ideal S33x32x4x64x128 .f32) (b : Fin 32) (h : Fin 4) (r : Fin 64) (d : Fin 128) :
    shapeCast S32x4x64x128 (Host.dynamicSlice S1x32x4x64x128 x ![(j.val : ℤ), 0, 0, 0, 0] sliceFits_S33x32x4x64x128_S1x32x4x64x128) shapeCasts_S1x32x4x64x128_S32x4x64x128 (ix4 b h r d)
      = x (ix5 j b h r d) := by
  pointwise
  refine congrArg x ?_
  have := j.isLt
  funext a
  refine Fin.ext ?_
  fin_cases a <;> simp [Host.clampedStart] <;> omega

theorem slice256 (x : FVec Ideal S33x32x4x64x256 .f32) (b : Fin 32) (h : Fin 4) (r : Fin 64) (d : Fin 256) :
    shapeCast S32x4x64x256 (Host.dynamicSlice S1x32x4x64x256 x ![(j.val : ℤ), 0, 0, 0, 0] sliceFits_S33x32x4x64x256_S1x32x4x64x256) shapeCasts_S1x32x4x64x256_S32x4x64x256 (ix4 b h r d)
      = x (ix5 j b h r d) := by
  pointwise
  refine congrArg x ?_
  have := j.isLt
  funext a
  refine Fin.ext ?_
  fin_cases a <;> simp [Host.clampedStart] <;> omega

theorem b5_at (b : Fin 32) (h : Fin 4) (r : Fin 64) (d : Fin 128) :
    (b5 j.val s : FVec Ideal S32x4x64x128 .f32) (ix4 b h r d) = (s.main_v23_0 : FVec Ideal S33x32x4x64x128 .f32) (ix5 j b h r d) := by
  unfold b5 b4 b0 b1 b2 b3
  rw [starts]
  exact slice128 j _ b h r d

theorem b11_at (b : Fin 32) (h : Fin 4) (r : Fin 64) (d : Fin 128) :
    (b11 j.val s : FVec Ideal S32x4x64x128 .f32) (ix4 b h r d) = (s.main_v23_1 : FVec Ideal S33x32x4x64x128 .f32) (ix5 j b h r d) := by
  unfold b11 b10 b6 b7 b8 b9
  rw [starts]
  exact slice128 j _ b h r d

theorem b17_at (b : Fin 32) (h : Fin 4) (r : Fin 64) (d : Fin 256) :
    (b17 j.val s : FVec Ideal S32x4x64x256 .f32) (ix4 b h r d) = (s.main_v23_2 : FVec Ideal S33x32x4x64x256 .f32) (ix5 j b h r d) := by
  unfold b17 b16 b12 b13 b14 b15
  rw [starts]
  exact slice256 j _ b h r d

theorem b23_at (b : Fin 32) (h : Fin 4) (r : Fin 64) (d : Fin 128) :
    (b23 j.val s : FVec Ideal S32x4x64x128 .f32) (ix4 b h r d) = (s.main_v23_3 : FVec Ideal S33x32x4x64x128 .f32) (ix5 j b h r d) := by
  unfold b23 b22 b18 b19 b20 b21
  rw [starts]
  exact slice128 j _ b h r d

theorem b26_at (b : Fin 32) (h : Fin 4) (r : Fin 64) (d : Fin 128) :
    (b26 j.val s : FVec Ideal S32x4x64x128 .f32) (ix4 b h r d)
      = cum (fun r => (s.main_v23_3 : FVec Ideal S33x32x4x64x128 .f32) (ix5 j b h r d)) r := by
  unfold b26 b25 b24
  refine (cum_at _ _ (fun i => ?_) _ _ b h r d).trans ?_
  · show Ideal.ofBits .f32 0x00000000#32 = 0
    exact Ideal.ofBits_zero_f32
  · simp only [b23_at]

theorem mask_at (b : Fin 32) (h : Fin 4) (t u : Fin 64) :
    (b47 j.val s : IVec S32x4x64x64 1) (ix4 b h t u) = if u ≤ t then 1#1 else 0#1 := by
  have hw : ∀ t u : Fin 64, Scalar.select (IntOp.cmpi .sge (IntOp.addi (BitVec.ofNat 32 t.val) 0#32) (BitVec.ofNat 32 u.val)) (1#1 : BitVec 1) 0#1 = if u ≤ t then 1#1 else 0#1 := by
    decide +kernel
  refine Eq.trans ?_ (hw t u)
  pointwise [b47, b44, b43, b42, b41, b40, b39, b38, b37, b36, b35, b34]

/-- A head's new state, from one sequence's slices. -/
theorem b62_at (b : Fin 32) (h : Fin 4) (d : Fin 128) (e : Fin 256) :
    (b62 j.val s : FVec Ideal S32x4x128x256 .f32) (ix4 b h d e)
      = stepS (fun r d => (s.main_v23_1 : FVec Ideal S33x32x4x64x128 .f32) (ix5 j b h r d)) (fun r e => (s.main_v23_2 : FVec Ideal S33x32x4x64x256 .f32) (ix5 j b h r e))
          (fun r d => (s.main_v23_3 : FVec Ideal S33x32x4x64x128 .f32) (ix5 j b h r d)) (fun d e => (s.main_v23_5 : FVec Ideal S32x4x128x256 .f32) (ix4 b h d e)) d e := by
  unfold b62 b61 b60 b59 b58 b57 b56 b54 b53 b52 b51 b27
  unfold stepS
  simp only [← b26_at, ← b11_at, ← b17_at]
  generalize b26 j.val s = g
  generalize b11 j.val s = k
  generalize b17 j.val s = v
  pointwise

/-- A head's output, from one sequence's slices. -/
theorem b63_at (b : Fin 32) (h : Fin 4) (t : Fin 64) (e : Fin 256) :
    (b63 j.val s : FVec Ideal S32x4x64x256 .f32) (ix4 b h t e)
      = stepO (fun r d => (s.main_v23_0 : FVec Ideal S33x32x4x64x128 .f32) (ix5 j b h r d)) (fun r d => (s.main_v23_1 : FVec Ideal S33x32x4x64x128 .f32) (ix5 j b h r d)) (fun r e => (s.main_v23_2 : FVec Ideal S33x32x4x64x256 .f32) (ix5 j b h r e))
          (fun r d => (s.main_v23_3 : FVec Ideal S33x32x4x64x128 .f32) (ix5 j b h r d)) (fun d e => (s.main_v23_5 : FVec Ideal S32x4x128x256 .f32) (ix4 b h d e)) t e := by
  unfold b63 b55 b50 b49 b48 b46 b45 b33 b32 b31 b30 b29 b28
  unfold stepO
  simp only [← b26_at, ← b11_at, ← b17_at, ← b5_at]
  have hm := mask_at j s b h
  generalize b47 j.val s = m at hm ⊢
  generalize b26 j.val s = g
  generalize b11 j.val s = k
  generalize b17 j.val s = v
  generalize b5 j.val s = q
  pointwise
  refine congrArg (· + _) (Finset.sum_congr rfl fun u _ => ?_)
  rw [hm]
  by_cases hu : u ≤ t
  · rw [if_pos hu, if_pos hu]
    rfl
  · rw [if_neg hu, if_neg hu, zero_mul]
    rfl

end Cert.Gla.Ref

end
-- ==== Proof.Gla.RefA.lean ====
/-
  The reference's chunked operands, read at an index.
-/
module

public import proofs.«01_k».proof.Proof.Gen.GlaPromptRefIdeal.Step
public import proofs.«01_k».proof.Proof.Gla.Chunk
public import Idealize.ShloMosaic.Lib.Pointwise

@[expose] public section

set_option maxRecDepth 16384

noncomputable section

namespace Cert.Gla.Ref

open Cert.GlaPromptRefIdeal Cert.GlaPromptRefIdeal.Step Cert.GlaPromptRefIdeal.Gen
open Idealize.ShloMosaic

variable (a0 a1 : FVec Ideal S32x2064x512 .bf16) (a2 : FVec Ideal S32x2064x512 .f32) (a3 : FVec Ideal S32x2064x1024 .bf16)

theorem zero_word : (FloatOps.sitofp (F := Ideal) FTy.f32 (0#32 : BitVec 32) : EReal) = 0 := by
  show (((0#32 : BitVec 32).toInt : ℝ) : EReal) = 0
  simp

theorem qry_at (n : Fin 33) (b : Fin 32) (h : Fin 4) (r : Fin 64) (d : Fin 128) :
    (A_main_v11 (F := Ideal) a0 a1 a2 a3 : FVec Ideal S33x32x4x64x128 .f32) (ix5 n b h r d) = cqry (fun t c => a0 (ix3 b t c)) h n.val r d := by
  pointwise [A_main_v11, A_main_v9, A_main_v8, A_main_v7, A_main_v1, A_main_v0, K_main_call0_v0, K_main_c, K_main_v10, K_main_cst]
  unfold cqry ckey pd hk
  refine congrArg (· * Ideal.ofBits .f32 0x3DB504F3#32) ?_
  by_cases hc : 48 ≤ 64 * n.val + r.val ∧ 64 * n.val + r.val - 48 < 2064
  · rw [dif_pos hc, dif_pos (by omega)]
    refine congrArg a0 ?_
    funext a
    refine Fin.ext ?_
    fin_cases a
    · rfl
    · show n.val * 64 + r.val - 48 = 64 * n.val + r.val - 48
      omega
    · show h.val * 128 + d.val = 128 * h.val + d.val
      omega
  · rw [dif_neg hc, dif_neg (by omega)]
    exact zero_word

theorem key_at (n : Fin 33) (b : Fin 32) (h : Fin 4) (r : Fin 64) (d : Fin 128) :
    (A_main_v14 (F := Ideal) a0 a1 a2 a3 : FVec Ideal S33x32x4x64x128 .f32) (ix5 n b h r d) = ckey (fun t c => a1 (ix3 b t c)) h n.val r d := by
  pointwise [A_main_v14, A_main_v13, A_main_v12, A_main_v3, A_main_v2, K_main_call1_v0, K_main_c_0]
  unfold ckey pd hk
  by_cases hc : 48 ≤ 64 * n.val + r.val ∧ 64 * n.val + r.val - 48 < 2064
  · rw [dif_pos hc, dif_pos (by omega)]
    refine congrArg a1 ?_
    funext a
    refine Fin.ext ?_
    fin_cases a
    · rfl
    · show n.val * 64 + r.val - 48 = 64 * n.val + r.val - 48
      omega
    · show h.val * 128 + d.val = 128 * h.val + d.val
      omega
  · rw [dif_neg hc, dif_neg (by omega)]
    exact zero_word

theorem val_at (n : Fin 33) (b : Fin 32) (h : Fin 4) (r : Fin 64) (d : Fin 256) :
    (A_main_v17 (F := Ideal) a0 a1 a2 a3 : FVec Ideal S33x32x4x64x256 .f32) (ix5 n b h r d) = cval (fun t c => a3 (ix3 b t c)) h n.val r d := by
  pointwise [A_main_v17, A_main_v16, A_main_v15, A_main_v6, A_main_v5, K_main_call2_v0, K_main_c_1]
  unfold cval pd hv
  by_cases hc : 48 ≤ 64 * n.val + r.val ∧ 64 * n.val + r.val - 48 < 2064
  · rw [dif_pos hc, dif_pos (by omega)]
    refine congrArg a3 ?_
    funext a
    refine Fin.ext ?_
    fin_cases a
    · rfl
    · show n.val * 64 + r.val - 48 = 64 * n.val + r.val - 48
      omega
    · show h.val * 256 + d.val = 256 * h.val + d.val
      omega
  · rw [dif_neg hc, dif_neg (by omega)]
    exact zero_word

theorem gate_at (n : Fin 33) (b : Fin 32) (h : Fin 4) (r : Fin 64) (d : Fin 128) :
    (A_main_v20 (F := Ideal) a0 a1 a2 a3 : FVec Ideal S33x32x4x64x128 .f32) (ix5 n b h r d) = ckey (fun t c => a2 (ix3 b t c)) h n.val r d := by
  pointwise [A_main_v20, A_main_v19, A_main_v18, A_main_v4, K_main_call3_v0, K_main_c_2]
  unfold ckey pd hk
  by_cases hc : 48 ≤ 64 * n.val + r.val ∧ 64 * n.val + r.val - 48 < 2064
  · rw [dif_pos hc, dif_pos (by omega)]
    refine congrArg a2 ?_
    funext a
    refine Fin.ext ?_
    fin_cases a
    · rfl
    · show n.val * 64 + r.val - 48 = 64 * n.val + r.val - 48
      omega
    · show h.val * 128 + d.val = 128 * h.val + d.val
      omega
  · rw [dif_neg hc, dif_neg (by omega)]
    exact zero_word

end Cert.Gla.Ref

end
-- ==== Proof.Gla.RefAll.lean ====
/-
  The reference's recursion over all chunks and what it returns, for each sequence.
-/
module

public import proofs.«01_k».proof.Proof.Gla.RefStep
public import proofs.«01_k».proof.Proof.Gla.RefA

@[expose] public section

set_option maxRecDepth 16384

noncomputable section

namespace Cert.Gla.Ref

open Cert.GlaPromptRefIdeal Cert.GlaPromptRefIdeal.Step Cert.GlaPromptRefIdeal.Gen
open Idealize.ShloMosaic

theorem b69_at (j : Fin 33) (s : State Ideal) (n : Fin 33) (b : Fin 32) (h : Fin 4) (r : Fin 64) (e : Fin 256) :
    (b69 j.val s : FVec Ideal S33x32x4x64x256 .f32) (ix5 n b h r e)
      = if n = j then (b63 j.val s : FVec Ideal S32x4x64x256 .f32) (ix4 b h r e) else (s.main_v23_6 : FVec Ideal S33x32x4x64x256 .f32) (ix5 n b h r e) := by
  unfold b69 b64 b65 b66 b67 b68
  rw [starts]
  generalize b63 j.val s = o
  have hj := j.isLt
  have c0 : ∀ h, Host.clampedStart S33x32x4x64x256 S1x32x4x64x256 h ![(j.val : ℤ), 0, 0, 0, 0] 0 = j.val := fun h => by
    simp [Host.clampedStart]; omega
  have c1 : ∀ h, Host.clampedStart S33x32x4x64x256 S1x32x4x64x256 h ![(j.val : ℤ), 0, 0, 0, 0] 1 = 0 := fun h => by simp [Host.clampedStart]
  have c2 : ∀ h, Host.clampedStart S33x32x4x64x256 S1x32x4x64x256 h ![(j.val : ℤ), 0, 0, 0, 0] 2 = 0 := fun h => by simp [Host.clampedStart]
  have c3 : ∀ h, Host.clampedStart S33x32x4x64x256 S1x32x4x64x256 h ![(j.val : ℤ), 0, 0, 0, 0] 3 = 0 := fun h => by simp [Host.clampedStart]
  have c4 : ∀ h, Host.clampedStart S33x32x4x64x256 S1x32x4x64x256 h ![(j.val : ℤ), 0, 0, 0, 0] 4 = 0 := fun h => by simp [Host.clampedStart]
  pointwise
  by_cases hn : n = j
  · subst hn
    rw [if_pos rfl, dif_pos (by rw [c0, c1, c2, c3, c4]; omega)]
    refine congrArg o ?_
    simp only [c1, c2, c3, c4, Nat.sub_zero]
  · rw [if_neg hn, dif_neg]
    rw [c0]
    have : n.val ≠ j.val := fun h => hn (Fin.ext h)
    omega

variable (a0 a1 : FVec Ideal S32x2064x512 .bf16) (a2 : FVec Ideal S32x2064x512 .f32) (a3 : FVec Ideal S32x2064x1024 .bf16) (a4 : FVec Ideal S1x256 .f32)

theorem R_at (s : State Ideal) (b : Fin 32) (t : Fin 2064) (c : Fin 1024) :
    (R_main_v42 s a4 : FVec Ideal S32x2064x1024 .bf16) (ix3 b t c)
      = rmsE (fun e => (s.main_v23_6 : FVec Ideal S33x32x4x64x256 .f32) (ix5 ⟨(t.val + 48) / 64, by omega⟩ b ⟨c.val / 256, by omega⟩ ⟨(t.val + 48) % 64, by omega⟩ e))
        (fun e => a4 (ix2 0 e)) ⟨c.val % 256, by omega⟩ := by
  unfold R_main_v42 rmsE
  generalize s.main_v23_6 = o
  pointwise
  simp only [Nat.add_comm 48 t.val]

/-- The states before each chunk. -/
def it : ℕ → State Ideal
  | 0 => init a0 a1 a2 a3
  | n + 1 => step n (it n)

/-- Sequence `b` of the queries, the keys, the values and the gates. -/
abbrev sq (b : Fin 32) : Fin 2064 → Fin 512 → EReal := fun t c => a0 (ix3 b t c)
abbrev sk (b : Fin 32) : Fin 2064 → Fin 512 → EReal := fun t c => a1 (ix3 b t c)
abbrev sg (b : Fin 32) : Fin 2064 → Fin 512 → EReal := fun t c => a2 (ix3 b t c)
abbrev sv (b : Fin 32) : Fin 2064 → Fin 1024 → EReal := fun t c => a3 (ix3 b t c)

theorem it_args (n : ℕ) : (it a0 a1 a2 a3 n).main_v23_0 = A_main_v11 a0 a1 a2 a3 ∧ (it a0 a1 a2 a3 n).main_v23_1 = A_main_v14 a0 a1 a2 a3
    ∧ (it a0 a1 a2 a3 n).main_v23_2 = A_main_v17 a0 a1 a2 a3 ∧ (it a0 a1 a2 a3 n).main_v23_3 = A_main_v20 a0 a1 a2 a3 := by
  induction n with
  | zero => exact ⟨rfl, rfl, rfl, rfl⟩
  | succ n ih => exact ih

theorem it_inv (n : ℕ) (hn : n ≤ 33) :
    (∀ (b : Fin 32) (h : Fin 4) (d : Fin 128) (e : Fin 256), ((it a0 a1 a2 a3 n).main_v23_5 : FVec Ideal S32x4x128x256 .f32) (ix4 b h d e)
        = SH (sk a1 b) (sv a3 b) (sg a2 b) h n d e)
    ∧ (∀ (n' : Fin 33) (b : Fin 32) (h : Fin 4) (r : Fin 64) (e : Fin 256), n'.val < n →
        ((it a0 a1 a2 a3 n).main_v23_6 : FVec Ideal S33x32x4x64x256 .f32) (ix5 n' b h r e)
          = stepO (cqry (sq a0 b) h n'.val) (ckey (sk a1 b) h n'.val) (cval (sv a3 b) h n'.val) (ckey (sg a2 b) h n'.val) (SH (sk a1 b) (sv a3 b) (sg a2 b) h n'.val) r e) := by
  induction n with
  | zero =>
    refine ⟨fun b h d e => ?_, fun n' b h r e hlt => absurd hlt (Nat.not_lt_zero _)⟩
    show Ideal.ofBits .f32 0x00000000#32 = 0
    exact Ideal.ofBits_zero_f32
  | succ n ih =>
    obtain ⟨ih5, ih6⟩ := ih (by omega)
    obtain ⟨h0, h1, h2, h3⟩ := it_args a0 a1 a2 a3 n
    have hS : ∀ (b : Fin 32) (h : Fin 4), (fun d e => ((it a0 a1 a2 a3 n).main_v23_5 : FVec Ideal S32x4x128x256 .f32) (ix4 b h d e)) = SH (sk a1 b) (sv a3 b) (sg a2 b) h n :=
      fun b h => funext fun d => funext fun e => ih5 b h d e
    refine ⟨fun b h d e => ?_, fun n' b h r e hlt => ?_⟩
    · show (b62 n (it a0 a1 a2 a3 n) : FVec Ideal S32x4x128x256 .f32) (ix4 b h d e) = _
      have := b62_at ⟨n, hn⟩ (it a0 a1 a2 a3 n) b h d e
      rw [hS] at this
      simp only [h1, h2, h3, key_at, val_at, gate_at] at this
      exact this
    · show (b69 n (it a0 a1 a2 a3 n) : FVec Ideal S33x32x4x64x256 .f32) (ix5 n' b h r e) = _
      refine (b69_at ⟨n, hn⟩ (it a0 a1 a2 a3 n) n' b h r e).trans ?_
      by_cases hc : n' = ⟨n, hn⟩
      · rw [if_pos hc]
        subst hc
        have := b63_at ⟨n, hn⟩ (it a0 a1 a2 a3 n) b h r e
        rw [hS] at this
        simp only [h0, h1, h2, h3, qry_at, key_at, val_at, gate_at] at this
        exact this
      · rw [if_neg hc]
        exact ih6 n' b h r e (by have : n'.val ≠ n := fun h => hc (Fin.ext h); omega)

/-- What the reference returns for the output. -/
theorem out_at (b : Fin 32) (t : Fin 2064) (c : Fin 1024) :
    (R_main_v42 (it a0 a1 a2 a3 33) a4 : FVec Ideal S32x2064x1024 .bf16) (ix3 b t c)
      = outG (sq a0 b) (sk a1 b) (sv a3 b) (sg a2 b) (fun e => a4 (ix2 0 e)) t c := by
  rw [R_at]
  unfold outG OH
  refine congrArg (fun f => rmsE f _ _) (funext fun e => ?_)
  exact (it_inv a0 a1 a2 a3 33 le_rfl).2 ⟨(t.val + 48) / 64, by omega⟩ b _ _ e (by show (t.val + 48) / 64 < 33; omega)

end Cert.Gla.Ref

end
-- ==== Proof.Gla.RefRun.lean ====
/- The reference `GlaPromptRefIdeal`'s generated run (Gen/GlaPromptRefIdeal/Run.lean) stated over the
   step of Gen/GlaPromptRefIdeal/Step.lean: at a valuation that HOLDS a state (the state at the carried buffers the body writes, the set-up
   values at the loop's constants, the trip's number at its counters) every value of one trip is that module's, one lemma
   each, so one application of the run's `STEP` keeps holding with `step` applied; what @main leaves before the loop holds
   `init`; and the run's results are the fields of `step` iterated from `init`. -/
module

public import proofs.«01_k».proof.Proof.Gen.GlaPromptRefIdeal.Run
public import proofs.«01_k».proof.Proof.Gen.GlaPromptRefIdeal.Step

@[expose] public section

noncomputable section

namespace Cert.GlaPromptRefIdeal.OwnRun

open Idealize.ShloMosaic Idealize.ShloMosaic.TcCoe Idealize.SL.Sem Idealize.ShloMosaic.StableHlo
open Cert.GlaPromptRefIdeal Cert.GlaPromptRefIdeal.Gen Cert.GlaPromptRefIdeal.Value
open Cert.GlaPromptRefIdeal.Step (State step init)

variable {F : FTy → Type} [FloatOps F]

variable (V0 : Valuation τ sig (Elt F)) (s : State F) (j : ℕ)

/-- The valuation holds the state, the set-up values and the trip's number. -/
structure Holds : Prop where
  f_5 : V0 (Proc.devRef .tc main_v23_5) = s.main_v23_5
  f_6 : V0 (Proc.devRef .tc main_v23_6) = s.main_v23_6
  f_0 : V0 (Proc.devRef .tc main_v23_0) = s.main_v23_0
  f_1 : V0 (Proc.devRef .tc main_v23_1) = s.main_v23_1
  f_2 : V0 (Proc.devRef .tc main_v23_2) = s.main_v23_2
  f_3 : V0 (Proc.devRef .tc main_v23_3) = s.main_v23_3
  n_4 : V0 (Proc.devRef .tc main_v23_4) = constantI S_ 32 (BitVec.ofNat 32 j)

variable {V0 s j}

set_option maxRecDepth 8192 in
theorem al_0 (h : Holds V0 s j) : (constantI S_ 32 0#32 : (Proc.devRef .tc main_while0b_call4_c : DevRef τ sig).ty.Contents (Elt F)) = Cert.GlaPromptRefIdeal.Step.b0 j s := by
  unfold Cert.GlaPromptRefIdeal.Step.b0
  rfl
set_option maxRecDepth 8192 in
theorem al_1 (h : Holds V0 s j) : (constantI S_ 32 0#32 : (Proc.devRef .tc main_while0b_call4_c_0 : DevRef τ sig).ty.Contents (Elt F)) = Cert.GlaPromptRefIdeal.Step.b1 j s := by
  unfold Cert.GlaPromptRefIdeal.Step.b1
  rfl
set_option maxRecDepth 8192 in
theorem al_2 (h : Holds V0 s j) : (constantI S_ 32 0#32 : (Proc.devRef .tc main_while0b_call4_c_1 : DevRef τ sig).ty.Contents (Elt F)) = Cert.GlaPromptRefIdeal.Step.b2 j s := by
  unfold Cert.GlaPromptRefIdeal.Step.b2
  rfl
set_option maxRecDepth 8192 in
theorem al_3 (h : Holds V0 s j) : (constantI S_ 32 0#32 : (Proc.devRef .tc main_while0b_call4_c_2 : DevRef τ sig).ty.Contents (Elt F)) = Cert.GlaPromptRefIdeal.Step.b3 j s := by
  unfold Cert.GlaPromptRefIdeal.Step.b3
  rfl
set_option maxRecDepth 8192 in
theorem al_4 (h : Holds V0 s j) : (Host.dynamicSlice S1x32x4x64x128 (V0 (Proc.devRef .tc main_v23_0)) (fun k => (((![V0 (Proc.devRef .tc main_v23_4), constantI S_ 32 0#32, constantI S_ 32 0#32, constantI S_ 32 0#32, constantI S_ 32 0#32] : Fin 5 → (⟨S_, .i32⟩ : BufTy).Contents (Elt F))) k (Shape.Idx.first h_S_)).toInt) sliceFits_S33x32x4x64x128_S1x32x4x64x128 : (Proc.devRef .tc main_while0b_call4_v0 : DevRef τ sig).ty.Contents (Elt F)) = Cert.GlaPromptRefIdeal.Step.b4 j s := by
  unfold Cert.GlaPromptRefIdeal.Step.b4
  rw [← al_0 h, ← al_1 h, ← al_2 h, ← al_3 h, h.f_0, h.n_4]
  try rfl
set_option maxRecDepth 8192 in
theorem al_5 (h : Holds V0 s j) : (shapeCast S32x4x64x128 (Host.dynamicSlice S1x32x4x64x128 (V0 (Proc.devRef .tc main_v23_0)) (fun k => (((![V0 (Proc.devRef .tc main_v23_4), constantI S_ 32 0#32, constantI S_ 32 0#32, constantI S_ 32 0#32, constantI S_ 32 0#32] : Fin 5 → (⟨S_, .i32⟩ : BufTy).Contents (Elt F))) k (Shape.Idx.first h_S_)).toInt) sliceFits_S33x32x4x64x128_S1x32x4x64x128) shapeCasts_S1x32x4x64x128_S32x4x64x128 : (Proc.devRef .tc main_while0b_v43 : DevRef τ sig).ty.Contents (Elt F)) = Cert.GlaPromptRefIdeal.Step.b5 j s := by
  unfold Cert.GlaPromptRefIdeal.Step.b5
  rw [← al_4 h]
  try rfl
set_option maxRecDepth 8192 in
theorem al_6 (h : Holds V0 s j) : (constantI S_ 32 0#32 : (Proc.devRef .tc main_while0b_call5_c : DevRef τ sig).ty.Contents (Elt F)) = Cert.GlaPromptRefIdeal.Step.b6 j s := by
  unfold Cert.GlaPromptRefIdeal.Step.b6
  rfl
set_option maxRecDepth 8192 in
theorem al_7 (h : Holds V0 s j) : (constantI S_ 32 0#32 : (Proc.devRef .tc main_while0b_call5_c_0 : DevRef τ sig).ty.Contents (Elt F)) = Cert.GlaPromptRefIdeal.Step.b7 j s := by
  unfold Cert.GlaPromptRefIdeal.Step.b7
  rfl
set_option maxRecDepth 8192 in
theorem al_8 (h : Holds V0 s j) : (constantI S_ 32 0#32 : (Proc.devRef .tc main_while0b_call5_c_1 : DevRef τ sig).ty.Contents (Elt F)) = Cert.GlaPromptRefIdeal.Step.b8 j s := by
  unfold Cert.GlaPromptRefIdeal.Step.b8
  rfl
set_option maxRecDepth 8192 in
theorem al_9 (h : Holds V0 s j) : (constantI S_ 32 0#32 : (Proc.devRef .tc main_while0b_call5_c_2 : DevRef τ sig).ty.Contents (Elt F)) = Cert.GlaPromptRefIdeal.Step.b9 j s := by
  unfold Cert.GlaPromptRefIdeal.Step.b9
  rfl
set_option maxRecDepth 8192 in
theorem al_10 (h : Holds V0 s j) : (Host.dynamicSlice S1x32x4x64x128 (V0 (Proc.devRef .tc main_v23_1)) (fun k => (((![V0 (Proc.devRef .tc main_v23_4), constantI S_ 32 0#32, constantI S_ 32 0#32, constantI S_ 32 0#32, constantI S_ 32 0#32] : Fin 5 → (⟨S_, .i32⟩ : BufTy).Contents (Elt F))) k (Shape.Idx.first h_S_)).toInt) sliceFits_S33x32x4x64x128_S1x32x4x64x128 : (Proc.devRef .tc main_while0b_call5_v0 : DevRef τ sig).ty.Contents (Elt F)) = Cert.GlaPromptRefIdeal.Step.b10 j s := by
  unfold Cert.GlaPromptRefIdeal.Step.b10
  rw [← al_6 h, ← al_7 h, ← al_8 h, ← al_9 h, h.f_1, h.n_4]
  try rfl
set_option maxRecDepth 8192 in
theorem al_11 (h : Holds V0 s j) : (res_main_while0b_v44 V0 : (Proc.devRef .tc main_while0b_v44 : DevRef τ sig).ty.Contents (Elt F)) = Cert.GlaPromptRefIdeal.Step.b11 j s := by
  unfold res_main_while0b_v44 Cert.GlaPromptRefIdeal.Step.b11
  rw [← al_10 h]
  try rfl
set_option maxRecDepth 8192 in
theorem al_12 (h : Holds V0 s j) : (constantI S_ 32 0#32 : (Proc.devRef .tc main_while0b_call6_c : DevRef τ sig).ty.Contents (Elt F)) = Cert.GlaPromptRefIdeal.Step.b12 j s := by
  unfold Cert.GlaPromptRefIdeal.Step.b12
  rfl
set_option maxRecDepth 8192 in
theorem al_13 (h : Holds V0 s j) : (constantI S_ 32 0#32 : (Proc.devRef .tc main_while0b_call6_c_0 : DevRef τ sig).ty.Contents (Elt F)) = Cert.GlaPromptRefIdeal.Step.b13 j s := by
  unfold Cert.GlaPromptRefIdeal.Step.b13
  rfl
set_option maxRecDepth 8192 in
theorem al_14 (h : Holds V0 s j) : (constantI S_ 32 0#32 : (Proc.devRef .tc main_while0b_call6_c_1 : DevRef τ sig).ty.Contents (Elt F)) = Cert.GlaPromptRefIdeal.Step.b14 j s := by
  unfold Cert.GlaPromptRefIdeal.Step.b14
  rfl
set_option maxRecDepth 8192 in
theorem al_15 (h : Holds V0 s j) : (constantI S_ 32 0#32 : (Proc.devRef .tc main_while0b_call6_c_2 : DevRef τ sig).ty.Contents (Elt F)) = Cert.GlaPromptRefIdeal.Step.b15 j s := by
  unfold Cert.GlaPromptRefIdeal.Step.b15
  rfl
set_option maxRecDepth 8192 in
theorem al_16 (h : Holds V0 s j) : (Host.dynamicSlice S1x32x4x64x256 (V0 (Proc.devRef .tc main_v23_2)) (fun k => (((![V0 (Proc.devRef .tc main_v23_4), constantI S_ 32 0#32, constantI S_ 32 0#32, constantI S_ 32 0#32, constantI S_ 32 0#32] : Fin 5 → (⟨S_, .i32⟩ : BufTy).Contents (Elt F))) k (Shape.Idx.first h_S_)).toInt) sliceFits_S33x32x4x64x256_S1x32x4x64x256 : (Proc.devRef .tc main_while0b_call6_v0 : DevRef τ sig).ty.Contents (Elt F)) = Cert.GlaPromptRefIdeal.Step.b16 j s := by
  unfold Cert.GlaPromptRefIdeal.Step.b16
  rw [← al_12 h, ← al_13 h, ← al_14 h, ← al_15 h, h.f_2, h.n_4]
  try rfl
set_option maxRecDepth 8192 in
theorem al_17 (h : Holds V0 s j) : (res_main_while0b_v45 V0 : (Proc.devRef .tc main_while0b_v45 : DevRef τ sig).ty.Contents (Elt F)) = Cert.GlaPromptRefIdeal.Step.b17 j s := by
  unfold res_main_while0b_v45 Cert.GlaPromptRefIdeal.Step.b17
  rw [← al_16 h]
  try rfl
set_option maxRecDepth 8192 in
theorem al_18 (h : Holds V0 s j) : (constantI S_ 32 0#32 : (Proc.devRef .tc main_while0b_call7_c : DevRef τ sig).ty.Contents (Elt F)) = Cert.GlaPromptRefIdeal.Step.b18 j s := by
  unfold Cert.GlaPromptRefIdeal.Step.b18
  rfl
set_option maxRecDepth 8192 in
theorem al_19 (h : Holds V0 s j) : (constantI S_ 32 0#32 : (Proc.devRef .tc main_while0b_call7_c_0 : DevRef τ sig).ty.Contents (Elt F)) = Cert.GlaPromptRefIdeal.Step.b19 j s := by
  unfold Cert.GlaPromptRefIdeal.Step.b19
  rfl
set_option maxRecDepth 8192 in
theorem al_20 (h : Holds V0 s j) : (constantI S_ 32 0#32 : (Proc.devRef .tc main_while0b_call7_c_1 : DevRef τ sig).ty.Contents (Elt F)) = Cert.GlaPromptRefIdeal.Step.b20 j s := by
  unfold Cert.GlaPromptRefIdeal.Step.b20
  rfl
set_option maxRecDepth 8192 in
theorem al_21 (h : Holds V0 s j) : (constantI S_ 32 0#32 : (Proc.devRef .tc main_while0b_call7_c_2 : DevRef τ sig).ty.Contents (Elt F)) = Cert.GlaPromptRefIdeal.Step.b21 j s := by
  unfold Cert.GlaPromptRefIdeal.Step.b21
  rfl
set_option maxRecDepth 8192 in
theorem al_22 (h : Holds V0 s j) : (Host.dynamicSlice S1x32x4x64x128 (V0 (Proc.devRef .tc main_v23_3)) (fun k => (((![V0 (Proc.devRef .tc main_v23_4), constantI S_ 32 0#32, constantI S_ 32 0#32, constantI S_ 32 0#32, constantI S_ 32 0#32] : Fin 5 → (⟨S_, .i32⟩ : BufTy).Contents (Elt F))) k (Shape.Idx.first h_S_)).toInt) sliceFits_S33x32x4x64x128_S1x32x4x64x128 : (Proc.devRef .tc main_while0b_call7_v0 : DevRef τ sig).ty.Contents (Elt F)) = Cert.GlaPromptRefIdeal.Step.b22 j s := by
  unfold Cert.GlaPromptRefIdeal.Step.b22
  rw [← al_18 h, ← al_19 h, ← al_20 h, ← al_21 h, h.f_3, h.n_4]
  try rfl
set_option maxRecDepth 8192 in
theorem al_23 (h : Holds V0 s j) : (shapeCast S32x4x64x128 (Host.dynamicSlice S1x32x4x64x128 (V0 (Proc.devRef .tc main_v23_3)) (fun k => (((![V0 (Proc.devRef .tc main_v23_4), constantI S_ 32 0#32, constantI S_ 32 0#32, constantI S_ 32 0#32, constantI S_ 32 0#32] : Fin 5 → (⟨S_, .i32⟩ : BufTy).Contents (Elt F))) k (Shape.Idx.first h_S_)).toInt) sliceFits_S33x32x4x64x128_S1x32x4x64x128) shapeCasts_S1x32x4x64x128_S32x4x64x128 : (Proc.devRef .tc main_while0b_v46 : DevRef τ sig).ty.Contents (Elt F)) = Cert.GlaPromptRefIdeal.Step.b23 j s := by
  unfold Cert.GlaPromptRefIdeal.Step.b23
  rw [← al_22 h]
  try rfl
set_option maxRecDepth 8192 in
theorem al_24 (h : Holds V0 s j) : (constant S_ .f32 0x00000000#32 : (Proc.devRef .tc main_while0b_call8_call0_cst : DevRef τ sig).ty.Contents (Elt F)) = Cert.GlaPromptRefIdeal.Step.b24 j s := by
  unfold Cert.GlaPromptRefIdeal.Step.b24
  rfl
set_option maxRecDepth 8192 in
theorem al_25 (h : Holds V0 s j) : (broadcastInDim S_ ![] bcast_S_S_ (constant S_ .f32 0x00000000#32) : (Proc.devRef .tc main_while0b_call8_call0_v0 : DevRef τ sig).ty.Contents (Elt F)) = Cert.GlaPromptRefIdeal.Step.b25 j s := by
  unfold Cert.GlaPromptRefIdeal.Step.b25
  rw [← al_24 h]
  try rfl
set_option maxRecDepth 8192 in
theorem al_26 (h : Holds V0 s j) : (res_main_while0b_v47 V0 : (Proc.devRef .tc main_while0b_v47 : DevRef τ sig).ty.Contents (Elt F)) = Cert.GlaPromptRefIdeal.Step.b26 j s := by
  unfold res_main_while0b_v47 Cert.GlaPromptRefIdeal.Step.b26
  rw [← al_23 h, ← al_25 h]
  try rfl
set_option maxRecDepth 8192 in
theorem al_27 (h : Holds V0 s j) : (res_main_while0b_v48 V0 : (Proc.devRef .tc main_while0b_v48 : DevRef τ sig).ty.Contents (Elt F)) = Cert.GlaPromptRefIdeal.Step.b27 j s := by
  unfold res_main_while0b_v48 Cert.GlaPromptRefIdeal.Step.b27
  rw [← al_26 h]
  try rfl
set_option maxRecDepth 8192 in
theorem al_28 (h : Holds V0 s j) : (Host.exp (res_main_while0b_v47 V0) : (Proc.devRef .tc main_while0b_v49 : DevRef τ sig).ty.Contents (Elt F)) = Cert.GlaPromptRefIdeal.Step.b28 j s := by
  unfold Cert.GlaPromptRefIdeal.Step.b28
  rw [← al_26 h]
  try rfl
set_option maxRecDepth 8192 in
theorem al_29 (h : Holds V0 s j) : (res_main_while0b_v50 V0 : (Proc.devRef .tc main_while0b_v50 : DevRef τ sig).ty.Contents (Elt F)) = Cert.GlaPromptRefIdeal.Step.b29 j s := by
  unfold res_main_while0b_v50 Cert.GlaPromptRefIdeal.Step.b29
  rw [← al_5 h, ← al_28 h]
  try rfl
set_option maxRecDepth 8192 in
theorem al_30 (h : Holds V0 s j) : (Host.negf (res_main_while0b_v47 V0) : (Proc.devRef .tc main_while0b_v51 : DevRef τ sig).ty.Contents (Elt F)) = Cert.GlaPromptRefIdeal.Step.b30 j s := by
  unfold Cert.GlaPromptRefIdeal.Step.b30
  rw [← al_26 h]
  try rfl
set_option maxRecDepth 8192 in
theorem al_31 (h : Holds V0 s j) : (Host.exp (Host.negf (res_main_while0b_v47 V0)) : (Proc.devRef .tc main_while0b_v52 : DevRef τ sig).ty.Contents (Elt F)) = Cert.GlaPromptRefIdeal.Step.b31 j s := by
  unfold Cert.GlaPromptRefIdeal.Step.b31
  rw [← al_30 h]
  try rfl
set_option maxRecDepth 8192 in
theorem al_32 (h : Holds V0 s j) : (mulf (res_main_while0b_v44 V0) (Host.exp (Host.negf (res_main_while0b_v47 V0))) : (Proc.devRef .tc main_while0b_v53 : DevRef τ sig).ty.Contents (Elt F)) = Cert.GlaPromptRefIdeal.Step.b32 j s := by
  unfold Cert.GlaPromptRefIdeal.Step.b32
  rw [← al_11 h, ← al_31 h]
  try rfl
set_option maxRecDepth 8192 in
theorem al_33 (h : Holds V0 s j) : (Host.dotGeneral dot_S32x4x64x128_S32x4x64x128_S32x4x64x64_3_3_2_2_01_01 none (res_main_while0b_v50 V0) (mulf (res_main_while0b_v44 V0) (Host.exp (Host.negf (res_main_while0b_v47 V0)))) : (Proc.devRef .tc main_while0b_v54 : DevRef τ sig).ty.Contents (Elt F)) = Cert.GlaPromptRefIdeal.Step.b33 j s := by
  unfold Cert.GlaPromptRefIdeal.Step.b33
  rw [← al_29 h, ← al_32 h]
  try rfl
set_option maxRecDepth 8192 in
theorem al_34 (h : Holds V0 s j) : (constantI S_ 1 1#1 : (Proc.devRef .tc main_while0b_c_15 : DevRef τ sig).ty.Contents (Elt F)) = Cert.GlaPromptRefIdeal.Step.b34 j s := by
  unfold Cert.GlaPromptRefIdeal.Step.b34
  rfl
set_option maxRecDepth 8192 in
theorem al_35 (h : Holds V0 s j) : (broadcastInDim S64x64 ![] bcast_S_S64x64 (constantI S_ 1 1#1) : (Proc.devRef .tc main_while0b_v55 : DevRef τ sig).ty.Contents (Elt F)) = Cert.GlaPromptRefIdeal.Step.b35 j s := by
  unfold Cert.GlaPromptRefIdeal.Step.b35
  rw [← al_34 h]
  try rfl
set_option maxRecDepth 8192 in
theorem al_36 (h : Holds V0 s j) : (iotaInDim S64x64 32 0 : (Proc.devRef .tc main_while0b_call9_v0 : DevRef τ sig).ty.Contents (Elt F)) = Cert.GlaPromptRefIdeal.Step.b36 j s := by
  unfold Cert.GlaPromptRefIdeal.Step.b36
  rfl
set_option maxRecDepth 8192 in
theorem al_37 (h : Holds V0 s j) : (constantI S_ 32 0#32 : (Proc.devRef .tc main_while0b_call9_c : DevRef τ sig).ty.Contents (Elt F)) = Cert.GlaPromptRefIdeal.Step.b37 j s := by
  unfold Cert.GlaPromptRefIdeal.Step.b37
  rfl
set_option maxRecDepth 8192 in
theorem al_38 (h : Holds V0 s j) : (broadcastInDim S64x64 ![] bcast_S_S64x64 (constantI S_ 32 0#32) : (Proc.devRef .tc main_while0b_call9_v1 : DevRef τ sig).ty.Contents (Elt F)) = Cert.GlaPromptRefIdeal.Step.b38 j s := by
  unfold Cert.GlaPromptRefIdeal.Step.b38
  rw [← al_37 h]
  try rfl
set_option maxRecDepth 8192 in
theorem al_39 (h : Holds V0 s j) : (addi (iotaInDim S64x64 32 0) (broadcastInDim S64x64 ![] bcast_S_S64x64 (constantI S_ 32 0#32)) : (Proc.devRef .tc main_while0b_call9_v2 : DevRef τ sig).ty.Contents (Elt F)) = Cert.GlaPromptRefIdeal.Step.b39 j s := by
  unfold Cert.GlaPromptRefIdeal.Step.b39
  rw [← al_36 h, ← al_38 h]
  try rfl
set_option maxRecDepth 8192 in
theorem al_40 (h : Holds V0 s j) : (iotaInDim S64x64 32 1 : (Proc.devRef .tc main_while0b_call9_v3 : DevRef τ sig).ty.Contents (Elt F)) = Cert.GlaPromptRefIdeal.Step.b40 j s := by
  unfold Cert.GlaPromptRefIdeal.Step.b40
  rfl
set_option maxRecDepth 8192 in
theorem al_41 (h : Holds V0 s j) : (cmpi .sge (addi (iotaInDim S64x64 32 0) (broadcastInDim S64x64 ![] bcast_S_S64x64 (constantI S_ 32 0#32))) (iotaInDim S64x64 32 1) : (Proc.devRef .tc main_while0b_call9_v4 : DevRef τ sig).ty.Contents (Elt F)) = Cert.GlaPromptRefIdeal.Step.b41 j s := by
  unfold Cert.GlaPromptRefIdeal.Step.b41
  rw [← al_39 h, ← al_40 h]
  try rfl
set_option maxRecDepth 8192 in
theorem al_42 (h : Holds V0 s j) : (constantI S_ 1 0#1 : (Proc.devRef .tc main_while0b_call9_c_0 : DevRef τ sig).ty.Contents (Elt F)) = Cert.GlaPromptRefIdeal.Step.b42 j s := by
  unfold Cert.GlaPromptRefIdeal.Step.b42
  rfl
set_option maxRecDepth 8192 in
theorem al_43 (h : Holds V0 s j) : (broadcastInDim S64x64 ![] bcast_S_S64x64 (constantI S_ 1 0#1) : (Proc.devRef .tc main_while0b_call9_v5 : DevRef τ sig).ty.Contents (Elt F)) = Cert.GlaPromptRefIdeal.Step.b43 j s := by
  unfold Cert.GlaPromptRefIdeal.Step.b43
  rw [← al_42 h]
  try rfl
set_option maxRecDepth 8192 in
theorem al_44 (h : Holds V0 s j) : (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)) : (Proc.devRef .tc main_while0b_v56 : DevRef τ sig).ty.Contents (Elt F)) = Cert.GlaPromptRefIdeal.Step.b44 j s := by
  unfold Cert.GlaPromptRefIdeal.Step.b44
  rw [← al_41 h, ← al_35 h, ← al_43 h]
  try rfl
set_option maxRecDepth 8192 in
theorem al_45 (h : Holds V0 s j) : (constant S_ .f32 0x00000000#32 : (Proc.devRef .tc main_while0b_cst_16 : DevRef τ sig).ty.Contents (Elt F)) = Cert.GlaPromptRefIdeal.Step.b45 j s := by
  unfold Cert.GlaPromptRefIdeal.Step.b45
  rfl
set_option maxRecDepth 8192 in
theorem al_46 (h : Holds V0 s j) : (id (constant S_ .f32 0x00000000#32) : (Proc.devRef .tc main_while0b_call10_v0 : DevRef τ sig).ty.Contents (Elt F)) = Cert.GlaPromptRefIdeal.Step.b46 j s := by
  unfold Cert.GlaPromptRefIdeal.Step.b46
  rw [← al_45 h]
  try rfl
set_option maxRecDepth 8192 in
theorem al_47 (h : Holds V0 s j) : (broadcastInDim S32x4x64x64 ![2, 3] bcast_S64x64_S32x4x64x64_2_3 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1))) : (Proc.devRef .tc main_while0b_call10_v1 : DevRef τ sig).ty.Contents (Elt F)) = Cert.GlaPromptRefIdeal.Step.b47 j s := by
  unfold Cert.GlaPromptRefIdeal.Step.b47
  rw [← al_44 h]
  try rfl
set_option maxRecDepth 8192 in
theorem al_48 (h : Holds V0 s j) : (broadcastInDim S32x4x64x64 ![] bcast_S_S32x4x64x64 (id (constant S_ .f32 0x00000000#32)) : (Proc.devRef .tc main_while0b_call10_v2 : DevRef τ sig).ty.Contents (Elt F)) = Cert.GlaPromptRefIdeal.Step.b48 j s := by
  unfold Cert.GlaPromptRefIdeal.Step.b48
  rw [← al_46 h]
  try rfl
set_option maxRecDepth 8192 in
theorem al_49 (h : Holds V0 s j) : (select (broadcastInDim S32x4x64x64 ![2, 3] bcast_S64x64_S32x4x64x64_2_3 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)))) (Host.dotGeneral dot_S32x4x64x128_S32x4x64x128_S32x4x64x64_3_3_2_2_01_01 none (res_main_while0b_v50 V0) (mulf (res_main_while0b_v44 V0) (Host.exp (Host.negf (res_main_while0b_v47 V0))))) (broadcastInDim S32x4x64x64 ![] bcast_S_S32x4x64x64 (id (constant S_ .f32 0x00000000#32))) : (Proc.devRef .tc main_while0b_v57 : DevRef τ sig).ty.Contents (Elt F)) = Cert.GlaPromptRefIdeal.Step.b49 j s := by
  unfold Cert.GlaPromptRefIdeal.Step.b49
  rw [← al_47 h, ← al_33 h, ← al_48 h]
  try rfl
set_option maxRecDepth 8192 in
theorem al_50 (h : Holds V0 s j) : (Host.dotGeneral dot_S32x4x64x64_S32x4x64x256_S32x4x64x256_3_2_2_3_01_01 none (select (broadcastInDim S32x4x64x64 ![2, 3] bcast_S64x64_S32x4x64x64_2_3 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)))) (Host.dotGeneral dot_S32x4x64x128_S32x4x64x128_S32x4x64x64_3_3_2_2_01_01 none (res_main_while0b_v50 V0) (mulf (res_main_while0b_v44 V0) (Host.exp (Host.negf (res_main_while0b_v47 V0))))) (broadcastInDim S32x4x64x64 ![] bcast_S_S32x4x64x64 (id (constant S_ .f32 0x00000000#32)))) (res_main_while0b_v45 V0) : (Proc.devRef .tc main_while0b_v58 : DevRef τ sig).ty.Contents (Elt F)) = Cert.GlaPromptRefIdeal.Step.b50 j s := by
  unfold Cert.GlaPromptRefIdeal.Step.b50
  rw [← al_49 h, ← al_17 h]
  try rfl
set_option maxRecDepth 8192 in
theorem al_51 (h : Holds V0 s j) : (broadcastInDim S32x4x64x128 ![0, 1, 2, 3] bcast_S32x4x1x128_S32x4x64x128_0_1_2_3 (res_main_while0b_v48 V0) : (Proc.devRef .tc main_while0b_v59 : DevRef τ sig).ty.Contents (Elt F)) = Cert.GlaPromptRefIdeal.Step.b51 j s := by
  unfold Cert.GlaPromptRefIdeal.Step.b51
  rw [← al_27 h]
  try rfl
set_option maxRecDepth 8192 in
theorem al_52 (h : Holds V0 s j) : (subf (broadcastInDim S32x4x64x128 ![0, 1, 2, 3] bcast_S32x4x1x128_S32x4x64x128_0_1_2_3 (res_main_while0b_v48 V0)) (res_main_while0b_v47 V0) : (Proc.devRef .tc main_while0b_v60 : DevRef τ sig).ty.Contents (Elt F)) = Cert.GlaPromptRefIdeal.Step.b52 j s := by
  unfold Cert.GlaPromptRefIdeal.Step.b52
  rw [← al_51 h, ← al_26 h]
  try rfl
set_option maxRecDepth 8192 in
theorem al_53 (h : Holds V0 s j) : (Host.exp (subf (broadcastInDim S32x4x64x128 ![0, 1, 2, 3] bcast_S32x4x1x128_S32x4x64x128_0_1_2_3 (res_main_while0b_v48 V0)) (res_main_while0b_v47 V0)) : (Proc.devRef .tc main_while0b_v61 : DevRef τ sig).ty.Contents (Elt F)) = Cert.GlaPromptRefIdeal.Step.b53 j s := by
  unfold Cert.GlaPromptRefIdeal.Step.b53
  rw [← al_52 h]
  try rfl
set_option maxRecDepth 8192 in
theorem al_54 (h : Holds V0 s j) : (mulf (res_main_while0b_v44 V0) (Host.exp (subf (broadcastInDim S32x4x64x128 ![0, 1, 2, 3] bcast_S32x4x1x128_S32x4x64x128_0_1_2_3 (res_main_while0b_v48 V0)) (res_main_while0b_v47 V0))) : (Proc.devRef .tc main_while0b_v62 : DevRef τ sig).ty.Contents (Elt F)) = Cert.GlaPromptRefIdeal.Step.b54 j s := by
  unfold Cert.GlaPromptRefIdeal.Step.b54
  rw [← al_11 h, ← al_53 h]
  try rfl
set_option maxRecDepth 8192 in
theorem al_55 (h : Holds V0 s j) : (Host.dotGeneral dot_S32x4x64x128_S32x4x128x256_S32x4x64x256_3_2_2_3_01_01 none (res_main_while0b_v50 V0) (V0 (Proc.devRef .tc main_v23_5)) : (Proc.devRef .tc main_while0b_v63 : DevRef τ sig).ty.Contents (Elt F)) = Cert.GlaPromptRefIdeal.Step.b55 j s := by
  unfold Cert.GlaPromptRefIdeal.Step.b55
  rw [← al_29 h, h.f_5]
  try rfl
set_option maxRecDepth 8192 in
theorem al_56 (h : Holds V0 s j) : (shapeCast S32x4x128 (res_main_while0b_v48 V0) shapeCasts_S32x4x1x128_S32x4x128 : (Proc.devRef .tc main_while0b_v64 : DevRef τ sig).ty.Contents (Elt F)) = Cert.GlaPromptRefIdeal.Step.b56 j s := by
  unfold Cert.GlaPromptRefIdeal.Step.b56
  rw [← al_27 h]
  try rfl
set_option maxRecDepth 8192 in
theorem al_57 (h : Holds V0 s j) : (broadcastInDim S32x4x128x1 ![0, 1, 2] bcast_S32x4x128_S32x4x128x1_0_1_2 (shapeCast S32x4x128 (res_main_while0b_v48 V0) shapeCasts_S32x4x1x128_S32x4x128) : (Proc.devRef .tc main_while0b_v65 : DevRef τ sig).ty.Contents (Elt F)) = Cert.GlaPromptRefIdeal.Step.b57 j s := by
  unfold Cert.GlaPromptRefIdeal.Step.b57
  rw [← al_56 h]
  try rfl
set_option maxRecDepth 8192 in
theorem al_58 (h : Holds V0 s j) : (Host.exp (broadcastInDim S32x4x128x1 ![0, 1, 2] bcast_S32x4x128_S32x4x128x1_0_1_2 (shapeCast S32x4x128 (res_main_while0b_v48 V0) shapeCasts_S32x4x1x128_S32x4x128)) : (Proc.devRef .tc main_while0b_v66 : DevRef τ sig).ty.Contents (Elt F)) = Cert.GlaPromptRefIdeal.Step.b58 j s := by
  unfold Cert.GlaPromptRefIdeal.Step.b58
  rw [← al_57 h]
  try rfl
set_option maxRecDepth 8192 in
theorem al_59 (h : Holds V0 s j) : (broadcastInDim S32x4x128x256 ![0, 1, 2, 3] bcast_S32x4x128x1_S32x4x128x256_0_1_2_3 (Host.exp (broadcastInDim S32x4x128x1 ![0, 1, 2] bcast_S32x4x128_S32x4x128x1_0_1_2 (shapeCast S32x4x128 (res_main_while0b_v48 V0) shapeCasts_S32x4x1x128_S32x4x128))) : (Proc.devRef .tc main_while0b_v67 : DevRef τ sig).ty.Contents (Elt F)) = Cert.GlaPromptRefIdeal.Step.b59 j s := by
  unfold Cert.GlaPromptRefIdeal.Step.b59
  rw [← al_58 h]
  try rfl
set_option maxRecDepth 8192 in
theorem al_60 (h : Holds V0 s j) : (mulf (V0 (Proc.devRef .tc main_v23_5)) (broadcastInDim S32x4x128x256 ![0, 1, 2, 3] bcast_S32x4x128x1_S32x4x128x256_0_1_2_3 (Host.exp (broadcastInDim S32x4x128x1 ![0, 1, 2] bcast_S32x4x128_S32x4x128x1_0_1_2 (shapeCast S32x4x128 (res_main_while0b_v48 V0) shapeCasts_S32x4x1x128_S32x4x128)))) : (Proc.devRef .tc main_while0b_v68 : DevRef τ sig).ty.Contents (Elt F)) = Cert.GlaPromptRefIdeal.Step.b60 j s := by
  unfold Cert.GlaPromptRefIdeal.Step.b60
  rw [← al_59 h, h.f_5]
  try rfl
set_option maxRecDepth 8192 in
theorem al_61 (h : Holds V0 s j) : (Host.dotGeneral dot_S32x4x64x128_S32x4x64x256_S32x4x128x256_2_2_3_3_01_01 none (mulf (res_main_while0b_v44 V0) (Host.exp (subf (broadcastInDim S32x4x64x128 ![0, 1, 2, 3] bcast_S32x4x1x128_S32x4x64x128_0_1_2_3 (res_main_while0b_v48 V0)) (res_main_while0b_v47 V0)))) (res_main_while0b_v45 V0) : (Proc.devRef .tc main_while0b_v69 : DevRef τ sig).ty.Contents (Elt F)) = Cert.GlaPromptRefIdeal.Step.b61 j s := by
  unfold Cert.GlaPromptRefIdeal.Step.b61
  rw [← al_54 h, ← al_17 h]
  try rfl
set_option maxRecDepth 8192 in
theorem al_62 (h : Holds V0 s j) : (addf (mulf (V0 (Proc.devRef .tc main_v23_5)) (broadcastInDim S32x4x128x256 ![0, 1, 2, 3] bcast_S32x4x128x1_S32x4x128x256_0_1_2_3 (Host.exp (broadcastInDim S32x4x128x1 ![0, 1, 2] bcast_S32x4x128_S32x4x128x1_0_1_2 (shapeCast S32x4x128 (res_main_while0b_v48 V0) shapeCasts_S32x4x1x128_S32x4x128))))) (Host.dotGeneral dot_S32x4x64x128_S32x4x64x256_S32x4x128x256_2_2_3_3_01_01 none (mulf (res_main_while0b_v44 V0) (Host.exp (subf (broadcastInDim S32x4x64x128 ![0, 1, 2, 3] bcast_S32x4x1x128_S32x4x64x128_0_1_2_3 (res_main_while0b_v48 V0)) (res_main_while0b_v47 V0)))) (res_main_while0b_v45 V0)) : (Proc.devRef .tc main_while0b_v70 : DevRef τ sig).ty.Contents (Elt F)) = Cert.GlaPromptRefIdeal.Step.b62 j s := by
  unfold Cert.GlaPromptRefIdeal.Step.b62
  rw [← al_60 h, ← al_61 h]
  try rfl
set_option maxRecDepth 8192 in
theorem al_63 (h : Holds V0 s j) : (addf (Host.dotGeneral dot_S32x4x64x64_S32x4x64x256_S32x4x64x256_3_2_2_3_01_01 none (select (broadcastInDim S32x4x64x64 ![2, 3] bcast_S64x64_S32x4x64x64_2_3 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)))) (Host.dotGeneral dot_S32x4x64x128_S32x4x64x128_S32x4x64x64_3_3_2_2_01_01 none (res_main_while0b_v50 V0) (mulf (res_main_while0b_v44 V0) (Host.exp (Host.negf (res_main_while0b_v47 V0))))) (broadcastInDim S32x4x64x64 ![] bcast_S_S32x4x64x64 (id (constant S_ .f32 0x00000000#32)))) (res_main_while0b_v45 V0)) (Host.dotGeneral dot_S32x4x64x128_S32x4x128x256_S32x4x64x256_3_2_2_3_01_01 none (res_main_while0b_v50 V0) (V0 (Proc.devRef .tc main_v23_5))) : (Proc.devRef .tc main_while0b_v71 : DevRef τ sig).ty.Contents (Elt F)) = Cert.GlaPromptRefIdeal.Step.b63 j s := by
  unfold Cert.GlaPromptRefIdeal.Step.b63
  rw [← al_50 h, ← al_55 h]
  try rfl
set_option maxRecDepth 8192 in
theorem al_64 (h : Holds V0 s j) : (broadcastInDim S1x32x4x64x256 ![1, 2, 3, 4] bcast_S32x4x64x256_S1x32x4x64x256_1_2_3_4 (addf (Host.dotGeneral dot_S32x4x64x64_S32x4x64x256_S32x4x64x256_3_2_2_3_01_01 none (select (broadcastInDim S32x4x64x64 ![2, 3] bcast_S64x64_S32x4x64x64_2_3 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)))) (Host.dotGeneral dot_S32x4x64x128_S32x4x64x128_S32x4x64x64_3_3_2_2_01_01 none (res_main_while0b_v50 V0) (mulf (res_main_while0b_v44 V0) (Host.exp (Host.negf (res_main_while0b_v47 V0))))) (broadcastInDim S32x4x64x64 ![] bcast_S_S32x4x64x64 (id (constant S_ .f32 0x00000000#32)))) (res_main_while0b_v45 V0)) (Host.dotGeneral dot_S32x4x64x128_S32x4x128x256_S32x4x64x256_3_2_2_3_01_01 none (res_main_while0b_v50 V0) (V0 (Proc.devRef .tc main_v23_5)))) : (Proc.devRef .tc main_while0b_call11_v0 : DevRef τ sig).ty.Contents (Elt F)) = Cert.GlaPromptRefIdeal.Step.b64 j s := by
  unfold Cert.GlaPromptRefIdeal.Step.b64
  rw [← al_63 h]
  try rfl
set_option maxRecDepth 8192 in
theorem al_65 (h : Holds V0 s j) : (constantI S_ 32 0#32 : (Proc.devRef .tc main_while0b_call11_c : DevRef τ sig).ty.Contents (Elt F)) = Cert.GlaPromptRefIdeal.Step.b65 j s := by
  unfold Cert.GlaPromptRefIdeal.Step.b65
  rfl
set_option maxRecDepth 8192 in
theorem al_66 (h : Holds V0 s j) : (constantI S_ 32 0#32 : (Proc.devRef .tc main_while0b_call11_c_0 : DevRef τ sig).ty.Contents (Elt F)) = Cert.GlaPromptRefIdeal.Step.b66 j s := by
  unfold Cert.GlaPromptRefIdeal.Step.b66
  rfl
set_option maxRecDepth 8192 in
theorem al_67 (h : Holds V0 s j) : (constantI S_ 32 0#32 : (Proc.devRef .tc main_while0b_call11_c_1 : DevRef τ sig).ty.Contents (Elt F)) = Cert.GlaPromptRefIdeal.Step.b67 j s := by
  unfold Cert.GlaPromptRefIdeal.Step.b67
  rfl
set_option maxRecDepth 8192 in
theorem al_68 (h : Holds V0 s j) : (constantI S_ 32 0#32 : (Proc.devRef .tc main_while0b_call11_c_2 : DevRef τ sig).ty.Contents (Elt F)) = Cert.GlaPromptRefIdeal.Step.b68 j s := by
  unfold Cert.GlaPromptRefIdeal.Step.b68
  rfl
set_option maxRecDepth 8192 in
theorem al_69 (h : Holds V0 s j) : (Host.dynamicUpdateSlice (V0 (Proc.devRef .tc main_v23_6)) (broadcastInDim S1x32x4x64x256 ![1, 2, 3, 4] bcast_S32x4x64x256_S1x32x4x64x256_1_2_3_4 (addf (Host.dotGeneral dot_S32x4x64x64_S32x4x64x256_S32x4x64x256_3_2_2_3_01_01 none (select (broadcastInDim S32x4x64x64 ![2, 3] bcast_S64x64_S32x4x64x64_2_3 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)))) (Host.dotGeneral dot_S32x4x64x128_S32x4x64x128_S32x4x64x64_3_3_2_2_01_01 none (res_main_while0b_v50 V0) (mulf (res_main_while0b_v44 V0) (Host.exp (Host.negf (res_main_while0b_v47 V0))))) (broadcastInDim S32x4x64x64 ![] bcast_S_S32x4x64x64 (id (constant S_ .f32 0x00000000#32)))) (res_main_while0b_v45 V0)) (Host.dotGeneral dot_S32x4x64x128_S32x4x128x256_S32x4x64x256_3_2_2_3_01_01 none (res_main_while0b_v50 V0) (V0 (Proc.devRef .tc main_v23_5))))) (fun k => (((![V0 (Proc.devRef .tc main_v23_4), constantI S_ 32 0#32, constantI S_ 32 0#32, constantI S_ 32 0#32, constantI S_ 32 0#32] : Fin 5 → (⟨S_, .i32⟩ : BufTy).Contents (Elt F))) k (Shape.Idx.first h_S_)).toInt) updateFits_S33x32x4x64x256_S1x32x4x64x256 : (Proc.devRef .tc main_while0b_v72 : DevRef τ sig).ty.Contents (Elt F)) = Cert.GlaPromptRefIdeal.Step.b69 j s := by
  unfold Cert.GlaPromptRefIdeal.Step.b69
  rw [← al_64 h, ← al_65 h, ← al_66 h, ← al_67 h, ← al_68 h, h.f_6, h.n_4]
  try rfl

/-! One trip's step of the carried values is `step`, field by field; a counter steps to the next number. -/

theorem step_5 (h : Holds V0 s j) : step_main_v23_5 V0 = (step j s).main_v23_5 := by
  unfold step_main_v23_5 Cert.GlaPromptRefIdeal.Step.step
  show id (addf (mulf (V0 (Proc.devRef .tc main_v23_5)) (broadcastInDim S32x4x128x256 ![0, 1, 2, 3] bcast_S32x4x128x1_S32x4x128x256_0_1_2_3 (Host.exp (broadcastInDim S32x4x128x1 ![0, 1, 2] bcast_S32x4x128_S32x4x128x1_0_1_2 (shapeCast S32x4x128 (res_main_while0b_v48 V0) shapeCasts_S32x4x1x128_S32x4x128))))) (Host.dotGeneral dot_S32x4x64x128_S32x4x64x256_S32x4x128x256_2_2_3_3_01_01 none (mulf (res_main_while0b_v44 V0) (Host.exp (subf (broadcastInDim S32x4x64x128 ![0, 1, 2, 3] bcast_S32x4x1x128_S32x4x64x128_0_1_2_3 (res_main_while0b_v48 V0)) (res_main_while0b_v47 V0)))) (res_main_while0b_v45 V0))) = _
  rw [al_62 h]
  try rfl
theorem step_6 (h : Holds V0 s j) : step_main_v23_6 V0 = (step j s).main_v23_6 := by
  unfold step_main_v23_6 Cert.GlaPromptRefIdeal.Step.step
  show id (Host.dynamicUpdateSlice (V0 (Proc.devRef .tc main_v23_6)) (broadcastInDim S1x32x4x64x256 ![1, 2, 3, 4] bcast_S32x4x64x256_S1x32x4x64x256_1_2_3_4 (addf (Host.dotGeneral dot_S32x4x64x64_S32x4x64x256_S32x4x64x256_3_2_2_3_01_01 none (select (broadcastInDim S32x4x64x64 ![2, 3] bcast_S64x64_S32x4x64x64_2_3 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)))) (Host.dotGeneral dot_S32x4x64x128_S32x4x64x128_S32x4x64x64_3_3_2_2_01_01 none (res_main_while0b_v50 V0) (mulf (res_main_while0b_v44 V0) (Host.exp (Host.negf (res_main_while0b_v47 V0))))) (broadcastInDim S32x4x64x64 ![] bcast_S_S32x4x64x64 (id (constant S_ .f32 0x00000000#32)))) (res_main_while0b_v45 V0)) (Host.dotGeneral dot_S32x4x64x128_S32x4x128x256_S32x4x64x256_3_2_2_3_01_01 none (res_main_while0b_v50 V0) (V0 (Proc.devRef .tc main_v23_5))))) (fun k => (((![V0 (Proc.devRef .tc main_v23_4), constantI S_ 32 0#32, constantI S_ 32 0#32, constantI S_ 32 0#32, constantI S_ 32 0#32] : Fin 5 → (⟨S_, .i32⟩ : BufTy).Contents (Elt F))) k (Shape.Idx.first h_S_)).toInt) updateFits_S33x32x4x64x256_S1x32x4x64x256) = _
  exact al_69 h
theorem step_4 (h : Holds V0 s j) : step_main_v23_4 V0 = constantI S_ 32 (BitVec.ofNat 32 (j + 1)) := by
  unfold step_main_v23_4
  rw [h.n_4]
  funext i
  show BitVec.ofNat 32 j + 1#32 = BitVec.ofNat 32 (j + 1)
  simp only [BitVec.ofNat_add]

set_option maxRecDepth 8192 in
theorem out_main_v42_holds (h : Holds V0 s j) {x_main_arg4 : (⟨S1x256, .f32⟩ : BufTy).Contents (Elt F)} (h_main_arg4 : V0 (Proc.devRef .tc main_arg4) = x_main_arg4) : out_main_v42 V0 = Cert.GlaPromptRefIdeal.Step.R_main_v42 s x_main_arg4 := by
  unfold out_main_v42 Cert.GlaPromptRefIdeal.Step.R_main_v42
  rw [h.f_6, h_main_arg4]
  try rfl

/-- One trip keeps the valuation holding: `step` of the state, the same set-up values, the next number. -/
theorem holds_step (h : Holds V0 s j) : Holds (STEP V0) (step j s) (j + 1) where
  f_5 := (STEP_main_v23_5 V0).trans (step_5 h)
  f_6 := (STEP_main_v23_6 V0).trans (step_6 h)
  n_4 := (STEP_main_v23_4 V0).trans (step_4 h)
  f_0 := (STEP_main_v23_0 V0).trans h.f_0
  f_1 := (STEP_main_v23_1 V0).trans h.f_1
  f_2 := (STEP_main_v23_2 V0).trans h.f_2
  f_3 := (STEP_main_v23_3 V0).trans h.f_3

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3))

variable (m : (ℓ : Loc nD τ sig) → Buf (Elt F) ℓ) (c : Dev nD)

set_option maxRecDepth 65536 in
set_option maxHeartbeats 300000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `GlaPromptRefIdeal` terminates with each result at its field of state
    number 33 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v42) = Cert.GlaPromptRefIdeal.Step.R_main_v42 (it c 33) (m ((c.tc : Thread nD τ).loc main_arg4))
      ∧ r.2.mem ((c.tc : Thread nD τ).loc main_v23_5) = (it c 33).main_v23_5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    have hk := holds_iter m c (it c) (h0 c) (hs c) 33
    ⟨(h c).1.trans (out_main_v42_holds hk (iter_main_arg4 m c 33)), (h c).2.1.trans hk.f_5, (h c).2.2.1, (h c).2.2.2.1, (h c).2.2.2.2.1, (h c).2.2.2.2.2.1, (h c).2.2.2.2.2.2⟩) (Value.run m ρ)

end Cert.GlaPromptRefIdeal.OwnRun

end
-- ==== Proof.Gla.Claim.lean ====
/-
  The claims on the attention's launch and its reference, put together.
-/
module

public import proofs.«01_k».proof.Defs
public import proofs.«01_k».proof.Proof.Gla.Final
public import proofs.«01_k».proof.Proof.Gla.RefAll
public import proofs.«01_k».proof.Proof.Gla.RefRun

@[expose] public section

set_option maxRecDepth 16384

noncomputable section

namespace Cert.Gla

open Idealize.ShloMosaic Idealize.SL.Sem Idealize.ShloMosaic.TcCoe

theorem pre_facts : Cert.Pre_gates_finite.Facts where
  bcast_S_S32x2064x512 := by decide

instance : Cert.Pre_gates_finite.Facts := pre_facts

/-- The reference ends with its arguments unchanged; it declares no semaphore. -/
theorem ref_frame (m : (ℓ : Loc Cert.GlaPromptRefIdeal.nD Cert.GlaPromptRefIdeal.τ Cert.GlaPromptRefIdeal.sig) → Buf (Elt Ideal) ℓ) (ρ : Dev Cert.GlaPromptRefIdeal.nD → PrngReg) :
    θ_run (Cert.GlaPromptRefIdeal.defs (F := Ideal)) (onTc (τ := Cert.GlaPromptRefIdeal.τ) (Cert.GlaPromptRefIdeal.main (F := Ideal))) ⟨m, fun _ => 0, ρ⟩ (fun r => (∀ c : Dev Cert.GlaPromptRefIdeal.nD,
      r.2.mem ((c.tc : Thread Cert.GlaPromptRefIdeal.nD Cert.GlaPromptRefIdeal.τ).loc Cert.GlaPromptRefIdeal.main_arg0) = m ((c.tc : Thread Cert.GlaPromptRefIdeal.nD Cert.GlaPromptRefIdeal.τ).loc Cert.GlaPromptRefIdeal.main_arg0)
      ∧ r.2.mem ((c.tc : Thread Cert.GlaPromptRefIdeal.nD Cert.GlaPromptRefIdeal.τ).loc Cert.GlaPromptRefIdeal.main_arg1) = m ((c.tc : Thread Cert.GlaPromptRefIdeal.nD Cert.GlaPromptRefIdeal.τ).loc Cert.GlaPromptRefIdeal.main_arg1)
      ∧ r.2.mem ((c.tc : Thread Cert.GlaPromptRefIdeal.nD Cert.GlaPromptRefIdeal.τ).loc Cert.GlaPromptRefIdeal.main_arg2) = m ((c.tc : Thread Cert.GlaPromptRefIdeal.nD Cert.GlaPromptRefIdeal.τ).loc Cert.GlaPromptRefIdeal.main_arg2)
      ∧ r.2.mem ((c.tc : Thread Cert.GlaPromptRefIdeal.nD Cert.GlaPromptRefIdeal.τ).loc Cert.GlaPromptRefIdeal.main_arg3) = m ((c.tc : Thread Cert.GlaPromptRefIdeal.nD Cert.GlaPromptRefIdeal.τ).loc Cert.GlaPromptRefIdeal.main_arg3)
      ∧ r.2.mem ((c.tc : Thread Cert.GlaPromptRefIdeal.nD Cert.GlaPromptRefIdeal.τ).loc Cert.GlaPromptRefIdeal.main_arg4) = m ((c.tc : Thread Cert.GlaPromptRefIdeal.nD Cert.GlaPromptRefIdeal.τ).loc Cert.GlaPromptRefIdeal.main_arg4))
      ∧ r.2.sem = fun _ => 0) := by
  exact (θ_run _ _ _).mono (fun r h => ⟨fun c => (h c).2.2, sem_eq_zero_of_no_sems (by decide) r.2⟩) (Cert.GlaPromptRefIdeal.Value.run m ρ)

/-- A word of the precondition is one: the gate is a real number. -/
theorem finite_of_word (x : EReal) (h : Ideal.cmp .olt (max x (-x)) ⊤ = 1#1) : x ≠ ⊤ ∧ x ≠ ⊥ := by
  by_cases hl : max x (-x) < ⊤
  · constructor
    · rintro rfl; simp at hl
    · rintro rfl; simp at hl
  · simp [Ideal.cmp, hl] at h

theorem gates_of_pre (m : (ℓ : Loc Cert.GlaPromptIdeal.nD Cert.GlaPromptIdeal.τ Cert.GlaPromptIdeal.sig) → Buf (Elt Ideal) ℓ) (h : Cert.Pre_GlaPromptIdeal_gates_finite m) (c : Dev Cert.GlaPromptIdeal.nD) :
    ∀ b t d, ag m c b t d ≠ ⊤ ∧ ag m c b t d ≠ ⊥ := by
  intro b t d
  have h1 := congrFun (h c) (ix3 b t d)
  have htop : Ideal.ofBits .f32 0x7F800000#32 = ⊤ := by simp [Ideal.ofBits, Ideal.ieee]
  have h2 : Ideal.cmp .olt (max (ag m c b t d) (-(ag m c b t d))) (Ideal.ofBits .f32 0x7F800000#32) = 1#1 := h1
  rw [htop] at h2
  exact finite_of_word _ h2

theorem algebraic : Cert.algebraic_GlaPromptIdeal_GlaPromptRefIdeal_pre_gates_finite := by
  intro m g m' g' hpre hagree
  refine ⟨fun c => G6 m c, fun c => G7 m c, ?_, ?_⟩
  · refine (θ_run _ _ _).mono (fun r h c => ?_) (Cert.GlaPromptIdeal.Own.run_blocks m g)
    obtain ⟨h6, h7, ha⟩ := h c
    exact ⟨h6.trans (arr6 m c (gates_of_pre m hpre c)), h7.trans (arr7 m c (gates_of_pre m hpre c)), ha⟩
  · refine (θ_run _ _ _).mono (fun r h c => ?_) (Cert.GlaPromptRefIdeal.OwnRun.run_iter m' g'
      (fun c => Ref.it (m' ((c.tc : Thread Cert.GlaPromptRefIdeal.nD Cert.GlaPromptRefIdeal.τ).loc Cert.GlaPromptRefIdeal.main_arg0)) (m' ((c.tc : Thread Cert.GlaPromptRefIdeal.nD Cert.GlaPromptRefIdeal.τ).loc Cert.GlaPromptRefIdeal.main_arg1)) (m' ((c.tc : Thread Cert.GlaPromptRefIdeal.nD Cert.GlaPromptRefIdeal.τ).loc Cert.GlaPromptRefIdeal.main_arg2)) (m' ((c.tc : Thread Cert.GlaPromptRefIdeal.nD Cert.GlaPromptRefIdeal.τ).loc Cert.GlaPromptRefIdeal.main_arg3)))
      (fun c => rfl) (fun c n => rfl))
    obtain ⟨h6, h7, ha⟩ := h c
    obtain ⟨e0, e1, e2, e3, e4⟩ := hagree c
    refine ⟨h6.trans ?_, h7.trans ?_, ha⟩
    · rw [e0, e1, e2, e3, e4]
      funext i
      obtain ⟨b, t, d, rfl⟩ : ∃ (b : Fin 32) (t : Fin 2064) (d : Fin 1024), i = ix3 b t d := ⟨i 0, i 1, i 2, ValueIdx.eq_ix3 i⟩
      exact Ref.out_at _ _ _ _ _ b t d
    · rw [e0, e1, e2, e3]
      funext i
      obtain ⟨b, h, d, e, rfl⟩ : ∃ (b : Fin 32) (h : Fin 4) (d : Fin 128) (e : Fin 256), i = ix4 b h d e := ⟨i 0, i 1, i 2, i 3, ValueIdx.eq_ix4 i⟩
      exact (Ref.it_inv _ _ _ _ 33 le_rfl).1 b h d e

end Cert.Gla

end
-- ==== Proof.Proj.Args.lean ====
/-
  The operands the projections' launch is given, entry by entry.
-/
module

public import proofs.«01_k».proof.Proof.Gen.GlaProjIdeal.Frame
public import Idealize.ShloMosaic.Lib.StableHlo.ReadAt
public import Idealize.ShloMosaic.Lib.Pointwise
public import Idealize.ShloMosaic.Lib.Pipeline.ValueKit

@[expose] public section

set_option maxRecDepth 16384

noncomputable section

namespace Cert.Proj

open Cert.GlaProjIdeal Cert.GlaProjIdeal.Gen
open Idealize.ShloMosaic Idealize.ShloMosaic.TcCoe Idealize.ShloMosaic.StableHlo

variable (m : (ℓ : Loc nD τ sig) → Buf (Elt Ideal) ℓ) (c : Dev nD)

abbrev ax : Vec Ideal S66048x1024 .f32 := m ((c : Thread nD τ).loc main_arg0)
abbrev ag : Vec Ideal S1024 .f32 := m ((c : Thread nD τ).loc main_arg1)
abbrev aw : Vec Ideal S1024x6680 .f32 := m ((c : Thread nD τ).loc main_arg2)
abbrev au : Vec Ideal S16x512 .f32 := m ((c : Thread nD τ).loc main_arg3)
abbrev ab : Vec Ideal S512 .f32 := m ((c : Thread nD τ).loc main_arg4)

theorem g_at (d : Fin 1024) : (V m c main_v22 : Vec Ideal S1x1024 .f32) (ix2 0 d) = ag m c (ix1 d) := by
  unfold V
  after_reads_at

theorem gq_at (k : Fin 1024) (d : Fin 512) : (V m c main_v12 : Vec Ideal S1024x512 .bf16) (ix2 k d) = aw m c (ix2 k ⟨1544 + d.val, by omega⟩) := by
  unfold V
  after_reads_at

theorem gk_at (k : Fin 1024) (d : Fin 512) : (V m c main_v13 : Vec Ideal S1024x512 .bf16) (ix2 k d) = aw m c (ix2 k ⟨2056 + d.val, by omega⟩) := by
  unfold V
  after_reads_at

theorem gv_at (k : Fin 1024) (d : Fin 1024) : (V m c main_v14 : Vec Ideal S1024x1024 .bf16) (ix2 k d) = aw m c (ix2 k ⟨2568 + d.val, by omega⟩) := by
  unfold V
  after_reads_at

theorem gr_at (k : Fin 1024) (d : Fin 1024) : (V m c main_v15 : Vec Ideal S1024x1024 .bf16) (ix2 k d) = aw m c (ix2 k ⟨3592 + d.val, by omega⟩) := by
  unfold V
  after_reads_at

theorem ga_at (k : Fin 1024) (d : Fin 128) : (V m c main_v17 : Vec Ideal S1024x128 .bf16) (ix2 k d) = if h : d.val < 16 then aw m c (ix2 k ⟨4616 + d.val, by omega⟩) else 0 := by
  unfold V
  after_reads_at
  pointwise
  split
  · rfl
  · show ((((0#32 : BitVec 32).toInt : ℤ) : ℝ) : EReal) = 0
    simp

theorem gu_at (k : Fin 128) (d : Fin 512) : (V m c main_v18 : Vec Ideal S128x512 .bf16) (ix2 k d) = if h : k.val < 16 then au m c (ix2 ⟨k.val, h⟩ d) else 0 := by
  unfold V
  after_reads_at
  pointwise
  split
  · rfl
  · show ((((0#32 : BitVec 32).toInt : ℤ) : ℝ) : EReal) = 0
    simp

theorem gb_at (d : Fin 512) : (V m c main_v19 : Vec Ideal S1x512 .f32) (ix2 0 d) = ab m c (ix1 d) := by
  unfold V
  after_reads_at

theorem ma_at (k : Fin 1024) (d : Fin 1024) : (V m c main_v20 : Vec Ideal S1024x1024 .bf16) (ix2 k d) = aw m c (ix2 k ⟨4632 + d.val, by omega⟩) := by
  unfold V
  after_reads_at

theorem mb_at (k : Fin 1024) (d : Fin 1024) : (V m c main_v21 : Vec Ideal S1024x1024 .bf16) (ix2 k d) = aw m c (ix2 k ⟨5656 + d.val, by omega⟩) := by
  unfold V
  after_reads_at

/-! The operands' blocks at a grid point. -/

theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] := by
  decide +kernel

theorem idxo : ∀ t : Fin cfg0.N, win0_11.index t = ![t.val, 0] ∧ win0_12.index t = ![t.val, 0] ∧ win0_13.index t = ![t.val, 0] ∧ win0_14.index t = ![t.val, 0]
    ∧ win0_15.index t = ![t.val, 0] ∧ win0_16.index t = ![t.val, 0] ∧ win0_17.index t = ![t.val, 0] := by
  decide +kernel

/-- The row of the arrays that row `r` of a grid point's block is. -/
def row (t : Fin cfg0.N) (r : Fin 688) : Fin 66048 := ⟨688 * t.val + r.val, by have : t.val < 96 := t.isLt; omega⟩

theorem blk0 (t : Fin cfg0.N) (r : Fin 688) (d : Fin 1024) :
    (iblk m c 0 t : Vec Ideal S688x1024 .f32) (ix2 r d) = ax m c (ix2 (row t r) d) := by
  unfold ax
  rw [← V_main_arg0 m c]
  blk_ext [iblk, idx t, row]

theorem blk1 (t : Fin cfg0.N) (d : Fin 1024) : (iblk m c 1 t : Vec Ideal S1x1024 .f32) (ix2 0 d) = ag m c (ix1 d) := by
  rw [← g_at]
  blk_ext [iblk, idx t]

theorem blk2 (t : Fin cfg0.N) (k : Fin 1024) (d : Fin 512) : (iblk m c 2 t : Vec Ideal S1024x512 .bf16) (ix2 k d) = aw m c (ix2 k ⟨1544 + d.val, by omega⟩) := by
  rw [← gq_at]
  blk_ext [iblk, idx t]

theorem blk3 (t : Fin cfg0.N) (k : Fin 1024) (d : Fin 512) : (iblk m c 3 t : Vec Ideal S1024x512 .bf16) (ix2 k d) = aw m c (ix2 k ⟨2056 + d.val, by omega⟩) := by
  rw [← gk_at]
  blk_ext [iblk, idx t]

theorem blk4 (t : Fin cfg0.N) (k : Fin 1024) (d : Fin 1024) : (iblk m c 4 t : Vec Ideal S1024x1024 .bf16) (ix2 k d) = aw m c (ix2 k ⟨2568 + d.val, by omega⟩) := by
  rw [← gv_at]
  blk_ext [iblk, idx t]

theorem blk5 (t : Fin cfg0.N) (k : Fin 1024) (d : Fin 1024) : (iblk m c 5 t : Vec Ideal S1024x1024 .bf16) (ix2 k d) = aw m c (ix2 k ⟨3592 + d.val, by omega⟩) := by
  rw [← gr_at]
  blk_ext [iblk, idx t]

theorem blk6 (t : Fin cfg0.N) (k : Fin 1024) (d : Fin 128) : (iblk m c 6 t : Vec Ideal S1024x128 .bf16) (ix2 k d) = if h : d.val < 16 then aw m c (ix2 k ⟨4616 + d.val, by omega⟩) else 0 := by
  rw [← ga_at]
  blk_ext [iblk, idx t]

theorem blk7 (t : Fin cfg0.N) (k : Fin 128) (d : Fin 512) : (iblk m c 7 t : Vec Ideal S128x512 .bf16) (ix2 k d) = if h : k.val < 16 then au m c (ix2 ⟨k.val, h⟩ d) else 0 := by
  rw [← gu_at]
  blk_ext [iblk, idx t]

theorem blk8 (t : Fin cfg0.N) (d : Fin 512) : (iblk m c 8 t : Vec Ideal S1x512 .f32) (ix2 0 d) = ab m c (ix1 d) := by
  rw [← gb_at]
  blk_ext [iblk, idx t]

theorem blk9 (t : Fin cfg0.N) (k : Fin 1024) (d : Fin 1024) : (iblk m c 9 t : Vec Ideal S1024x1024 .bf16) (ix2 k d) = aw m c (ix2 k ⟨4632 + d.val, by omega⟩) := by
  rw [← ma_at]
  blk_ext [iblk, idx t]

theorem blk10 (t : Fin cfg0.N) (k : Fin 1024) (d : Fin 1024) : (iblk m c 10 t : Vec Ideal S1024x1024 .bf16) (ix2 k d) = aw m c (ix2 k ⟨5656 + d.val, by omega⟩) := by
  rw [← mb_at]
  blk_ext [iblk, idx t]

end Cert.Proj

end
-- ==== Proof.Proj.Rows.lean ====
/-
  What the projections compute of a row, as functions of real numbers with infinities.
-/
module

public import Idealize.ShloMosaic.PureOps.Ideal.Laws

@[expose] public section

noncomputable section

namespace Cert.Rows

open Idealize.ShloMosaic

/-- A row of 1024 numbers scaled by its root mean square, then by a gain. -/
def rms (x g : Fin 1024 → EReal) (d : Fin 1024) : EReal :=
  x d * Ideal.rsqrt (Ideal.div (∑ k : Fin 1024, x k * x k) (Ideal.ofBits .f32 0x44800000#32) + Ideal.ofBits .f32 0x358637BD#32) * g d

/-- The sigmoid. -/
def sigm (x : EReal) : EReal :=
  Ideal.div (Ideal.ofBits .f32 0x3F800000#32) (Ideal.ofBits .f32 0x3F800000#32 + Ideal.exp (-x))

/-- The logarithm of the sigmoid, over 16. -/
def logGate (z : EReal) : EReal :=
  (min z 0 - Ideal.log1p (Ideal.exp (-(max z (-z))))) * Ideal.ofBits .f32 0x3D800000#32

theorem exp_nonneg (y : EReal) : 0 ≤ Ideal.exp y := by
  induction y using EReal.rec with
  | bot => exact le_rfl
  | top => exact le_top
  | coe r => exact EReal.coe_nonneg.2 (Real.exp_pos r).le

theorem log1p_exp_ne (y : EReal) : Ideal.log1p (Ideal.exp y) ≠ ⊥ := by
  have h := exp_nonneg y
  unfold Ideal.log1p
  generalize Ideal.exp y = e at h
  induction e using EReal.rec with
  | bot => simp at h
  | top =>
    rw [show (1 : EReal) + ⊤ = ⊤ from rfl]
    exact (by simp : (⊤ : EReal) ≠ ⊥)
  | coe e =>
    have he : (0 : ℝ) ≤ e := by exact_mod_cast h
    rw [show (1 : EReal) + (e : EReal) = ((1 + e : ℝ) : EReal) from rfl]
    show (if 1 + e ≤ 0 then (⊥ : EReal) else (Real.log (1 + e) : EReal)) ≠ ⊥
    rw [if_neg (by linarith)]
    exact EReal.coe_ne_bot _

theorem logGate_eq (z : EReal) :
    Ideal.div (-if -z ≠ -z then -z else max (-z) 0 + Ideal.log1p (Ideal.exp (-(max (-z) (- -z))))) (Ideal.ofBits .f32 0x41800000#32)
      = logGate z := by
  rw [if_neg (by simp), neg_neg, max_comm (-z) z]
  unfold logGate
  have hL := log1p_exp_ne (-(max z (-z)))
  generalize Ideal.log1p (Ideal.exp (-(max z (-z)))) = L at hL
  have hm : max (-z) 0 ≠ ⊥ := ne_of_gt (lt_of_lt_of_le (by simp) (le_max_right _ _))
  rw [EReal.neg_add (Or.inl hm) (Or.inr hL)]
  have h1 : -(max (-z) 0) = min z 0 := by
    rcases le_total z 0 with h | h
    · rw [min_eq_left h, max_eq_left (by simpa using h), neg_neg]
    · rw [min_eq_right h, max_eq_right (by simpa using h), neg_zero]
  rw [h1]
  generalize min z 0 - L = y
  have h16 : Ideal.ofBits .f32 0x41800000#32 = ((16 : ℝ) : EReal) := by simp [Ideal.ofBits, Ideal.ieee]; rw [← EReal.coe_mul]; norm_num
  have h116 : Ideal.ofBits .f32 0x3D800000#32 = ((1 / 16 : ℝ) : EReal) := by simp [Ideal.ofBits, Ideal.ieee]; rw [← EReal.coe_mul]; norm_num
  rw [h16, h116]
  unfold Ideal.div
  rw [if_neg (by norm_num), ← EReal.coe_inv]
  norm_num

/-- A row of the two attentions' outputs, gated and added. -/
def mix (fo : Fin 512 → EReal) (go sr ma mb : Fin 1024 → EReal) (wf : Fin 512 → Fin 1024 → EReal) (wg : Fin 1024 → Fin 1024 → EReal) (e : Fin 1024) : EReal :=
  ma e * (∑ k : Fin 512, fo k * wf k e) + mb e * (∑ k : Fin 1024, (go k * sr k) * wg k e)

/-- The row projected back to the width of the stream. -/
def outp (fo : Fin 512 → EReal) (go sr ma mb : Fin 1024 → EReal) (wf : Fin 512 → Fin 1024 → EReal) (wg wo : Fin 1024 → Fin 1024 → EReal) (d : Fin 1024) : EReal :=
  ∑ e : Fin 1024, mix fo go sr ma mb wf wg e * wo e d

end Cert.Rows

end
-- ==== Proof.Proj.Block.lean ====
/-
  The projections of one block of rows, entry by entry.
-/
module

public import proofs.«01_k».proof.Proof.Gen.GlaProjIdeal.Skeleton
public import proofs.«01_k».proof.Proof.Proj.Rows
public import Idealize.ShloMosaic.Lib.Pointwise

@[expose] public section

noncomputable section

namespace Cert.Proj

open Cert.GlaProjIdeal Cert.GlaProjIdeal.Gen Cert.Rows
open Idealize.ShloMosaic

variable (x : Vec Ideal S688x1024 .f32) (g : Vec Ideal S1x1024 .f32)

theorem norm_at (r : Fin 688) (d : Fin 1024) :
    (k0_pay3 (F := Ideal) x g : Vec Ideal S688x1024 .bf16) (ix2 r d) = rms (fun k => x (ix2 r k)) (fun k => g (ix2 0 k)) d := by
  unfold k0_pay3 rms
  pointwise

theorem lo4 (w : Vec Ideal S1024x512 .bf16) (r : Fin 688) (d : Fin 512) :
    (k0_pay4 (F := Ideal) x g w : Vec Ideal S688x512 .bf16) (ix2 r d) = ∑ k : Fin 1024, (k0_pay3 (F := Ideal) x g : Vec Ideal S688x1024 .bf16) (ix2 r k) * w (ix2 k d) := by
  unfold k0_pay4
  generalize k0_pay3 (F := Ideal) x g = b
  pointwise

theorem lo5 (w : Vec Ideal S1024x512 .bf16) (r : Fin 688) (d : Fin 512) :
    (k0_pay5 (F := Ideal) x g w : Vec Ideal S688x512 .bf16) (ix2 r d) = ∑ k : Fin 1024, (k0_pay3 (F := Ideal) x g : Vec Ideal S688x1024 .bf16) (ix2 r k) * w (ix2 k d) := by
  unfold k0_pay5
  generalize k0_pay3 (F := Ideal) x g = b
  pointwise

theorem lo6 (w : Vec Ideal S1024x1024 .bf16) (r : Fin 688) (d : Fin 1024) :
    (k0_pay6 (F := Ideal) x g w : Vec Ideal S688x1024 .bf16) (ix2 r d) = ∑ k : Fin 1024, (k0_pay3 (F := Ideal) x g : Vec Ideal S688x1024 .bf16) (ix2 r k) * w (ix2 k d) := by
  unfold k0_pay6
  generalize k0_pay3 (F := Ideal) x g = b
  pointwise

theorem lo7 (b : Vec Ideal S688x1024 .bf16) (wa : Vec Ideal S1024x128 .bf16) (wu : Vec Ideal S128x512 .bf16) (bg : Vec Ideal S1x512 .f32) (r : Fin 688) (d : Fin 512) :
    (k0_pay7 (F := Ideal) b wa wu bg : Vec Ideal S688x512 .f32) (ix2 r d)
      = logGate ((∑ a : Fin 128, (∑ k : Fin 1024, b (ix2 r k) * wa (ix2 k a)) * wu (ix2 a d)) + bg (ix2 0 d)) := by
  unfold k0_pay7 logGate
  pointwise
  simp only [Ideal.ofBits_zero_f32, zero_sub, zero_add]
  rfl

theorem lo8 (b : Vec Ideal S688x1024 .bf16) (w : Vec Ideal S1024x1024 .bf16) (r : Fin 688) (d : Fin 1024) :
    (k0_pay8 (F := Ideal) b w : Vec Ideal S688x1024 .bf16) (ix2 r d)
      = (∑ k : Fin 1024, b (ix2 r k) * w (ix2 k d)) * sigm (∑ k : Fin 1024, b (ix2 r k) * w (ix2 k d)) := by
  unfold k0_pay8 sigm
  pointwise
  simp only [Ideal.ofBits_zero_f32, zero_sub, zero_add]

theorem lo1 (b : Vec Ideal S688x1024 .bf16) (w : Vec Ideal S1024x1024 .bf16) (r : Fin 688) (d : Fin 1024) :
    (k0_pay1 (F := Ideal) b (k0_pay9 w) (constant S688x1024 .f32 0x00000000#32) : Vec Ideal S688x1024 .bf16) (ix2 r d) = sigm (∑ k : Fin 1024, b (ix2 r k) * w (ix2 k d)) := by
  unfold k0_pay1 k0_pay9 sigm
  pointwise
  simp only [Ideal.ofBits_zero_f32, zero_sub, zero_add]

theorem lo2 (b : Vec Ideal S688x1024 .bf16) (w : Vec Ideal S1024x1024 .bf16) (r : Fin 688) (d : Fin 1024) :
    (k0_pay2 (F := Ideal) b w : Vec Ideal S688x1024 .bf16) (ix2 r d) = sigm (∑ k : Fin 1024, b (ix2 r k) * w (ix2 k d)) := by
  unfold k0_pay2 sigm
  pointwise
  simp only [Ideal.ofBits_zero_f32, zero_sub, zero_add]

end Cert.Proj

end
-- ==== Proof.Proj.Ref.lean ====
/-
  The projections' reference, entry by entry.
-/
module

public import proofs.«01_k».proof.Proof.Gen.GlaProjRefIdeal.Read
public import proofs.«01_k».proof.Proof.Proj.Rows
public import Idealize.ShloMosaic.Lib.Pointwise

@[expose] public section

noncomputable section

namespace Cert.Proj

open Cert.GlaProjRefIdeal Cert.GlaProjRefIdeal.Gen Cert.GlaProjRefIdeal.Read Cert.Rows
open Idealize.ShloMosaic Idealize.ShloMosaic.StableHlo

section
variable (x : Vec Ideal S66048x1024 .f32) (g : Vec Ideal S1024 .f32) (w : Vec Ideal S1024x6680 .f32) (u : Vec Ideal S16x512 .f32) (b : Vec Ideal S512 .f32)

/-- Column `j` of the projection of row `r`. -/
def col (r : Fin 66048) (j : Fin 6680) : EReal :=
  ∑ k : Fin 1024, rms (fun k => x (ix2 r k)) (fun k => g (ix1 k)) k * w (ix2 k j)

/-- What the gate's logarithm is taken of. -/
def pre (r : Fin 66048) (d : Fin 512) : EReal :=
  (∑ a : Fin 16, col x g w r ⟨4616 + a.val, by omega⟩ * u (ix2 a d)) + b (ix1 d)

theorem norm_ref (r : Fin 66048) (d : Fin 1024) :
    (val_main_v12 (F := Ideal) x g : Vec Ideal S66048x1024 .f32) (ix2 r d) = rms (fun k => x (ix2 r k)) (fun k => g (ix1 k)) d := by
  unfold val_main_v12 val_main_v11 val_main_v10 val_main_v9 val_main_v8 val_main_v7 val_main_v6 val_main_v5 val_main_v4 val_main_v3 val_main_v2 val_main_v1 val_main_v0 val_main_cst val_main_cst_0 val_main_cst_1 rms
  pointwise

theorem col_ref (r : Fin 66048) (j : Fin 6680) :
    (val_main_v13 (F := Ideal) x g w : Vec Ideal S66048x6680 .f32) (ix2 r j) = col x g w r j := by
  have h : (val_main_v13 (F := Ideal) x g w : Vec Ideal S66048x6680 .f32) (ix2 r j)
      = ∑ k : Fin 1024, (val_main_v12 (F := Ideal) x g : Vec Ideal S66048x1024 .f32) (ix2 r k) * w (ix2 k j) := by
    unfold val_main_v13
    generalize val_main_v12 (F := Ideal) x g = b
    pointwise
  rw [h]
  exact Finset.sum_congr rfl fun k _ => by rw [norm_ref]

theorem q_ref (r : Fin 66048) (d : Fin 512) :
    (val_main_v40 (F := Ideal) x g w : Vec Ideal S66048x512 .bf16) (ix2 r d) = col x g w r ⟨1544 + d.val, by omega⟩ := by
  rw [← col_ref]
  unfold val_main_v40 val_main_v14
  generalize val_main_v13 (F := Ideal) x g w = p
  pointwise
  try rfl

theorem k_ref (r : Fin 66048) (d : Fin 512) :
    (val_main_v41 (F := Ideal) x g w : Vec Ideal S66048x512 .bf16) (ix2 r d) = col x g w r ⟨2056 + d.val, by omega⟩ := by
  rw [← col_ref]
  unfold val_main_v41 val_main_v15
  generalize val_main_v13 (F := Ideal) x g w = p
  pointwise
  try rfl

theorem v_ref (r : Fin 66048) (d : Fin 1024) :
    (val_main_v42 (F := Ideal) x g w : Vec Ideal S66048x1024 .bf16) (ix2 r d) = col x g w r ⟨2568 + d.val, by omega⟩ := by
  rw [← col_ref]
  unfold val_main_v42 val_main_v16
  generalize val_main_v13 (F := Ideal) x g w = p
  pointwise
  try rfl

theorem r_ref (r : Fin 66048) (d : Fin 1024) :
    (val_main_v44 (F := Ideal) x g w : Vec Ideal S66048x1024 .bf16) (ix2 r d)
      = col x g w r ⟨3592 + d.val, by omega⟩ * sigm (col x g w r ⟨3592 + d.val, by omega⟩) := by
  rw [← col_ref]
  unfold val_main_v44 val_main_v43 val_main_call1_v5 val_main_call1_v4 val_main_call1_cst_0 val_main_call1_v3 val_main_call1_v2 val_main_call1_cst val_main_call1_v1 val_main_call1_v0 val_main_v17 sigm
  generalize val_main_v13 (F := Ideal) x g w = p
  pointwise
  try rfl

theorem ma_ref (r : Fin 66048) (d : Fin 1024) :
    (val_main_v45 (F := Ideal) x g w : Vec Ideal S66048x1024 .bf16) (ix2 r d) = sigm (col x g w r ⟨4632 + d.val, by omega⟩) := by
  rw [← col_ref]
  unfold val_main_v45 val_main_v32 val_main_v31 val_main_cst_4 val_main_v30 val_main_v29 val_main_cst_3 val_main_v28 val_main_v27 val_main_v26 sigm
  generalize val_main_v13 (F := Ideal) x g w = p
  pointwise
  try rfl

theorem mb_ref (r : Fin 66048) (d : Fin 1024) :
    (val_main_v46 (F := Ideal) x g w : Vec Ideal S66048x1024 .bf16) (ix2 r d) = sigm (col x g w r ⟨5656 + d.val, by omega⟩) := by
  rw [← col_ref]
  unfold val_main_v46 val_main_v39 val_main_v38 val_main_cst_6 val_main_v37 val_main_v36 val_main_cst_5 val_main_v35 val_main_v34 val_main_v33 sigm
  generalize val_main_v13 (F := Ideal) x g w = p
  pointwise
  try rfl

theorem pre_ref (r : Fin 66048) (d : Fin 512) :
    (val_main_v22 (F := Ideal) x g w u b : Vec Ideal S66048x512 .f32) (ix2 r d) = pre x g w u b r d := by
  have h : (val_main_v22 (F := Ideal) x g w u b : Vec Ideal S66048x512 .f32) (ix2 r d)
      = (∑ a : Fin 16, (val_main_v13 (F := Ideal) x g w : Vec Ideal S66048x6680 .f32) (ix2 r ⟨4616 + a.val, by omega⟩) * u (ix2 a d)) + b (ix1 d) := by
    unfold val_main_v22 val_main_v21 val_main_v20 val_main_v19 val_main_v18
    generalize val_main_v13 (F := Ideal) x g w = p
    pointwise
    try rfl
  rw [h]
  unfold pre
  congr 1
  exact Finset.sum_congr rfl fun k _ => by rw [col_ref]

theorem gate_ref (r : Fin 66048) (d : Fin 512) :
    (val_main_v25 (F := Ideal) x g w u b : Vec Ideal S66048x512 .f32) (ix2 r d) = logGate (pre x g w u b r d) := by
  rw [← pre_ref]
  unfold val_main_v25 val_main_v24 val_main_cst_2 val_main_v23 val_main_call0_v1 val_main_call0_call0_v11 val_main_call0_call0_v10 val_main_call0_call0_v9 val_main_call0_call0_v8 val_main_call0_call0_v7 val_main_call0_call0_v6 val_main_call0_call0_v5 val_main_call0_call0_v4 val_main_call0_call0_v3 val_main_call0_call0_v2 val_main_call0_call0_v1 val_main_call0_call0_v0 val_main_call0_call0_cst val_main_call0_v0
  generalize val_main_v22 (F := Ideal) x g w u b = p
  pointwise
  generalize p (ix2 r d) = z
  exact logGate_eq z

end

end Cert.Proj

end
-- ==== Proof.Proj.Final.lean ====
/-
  The projections' seven result arrays.
-/
module

public import proofs.«01_k».proof.Proof.Proj.Args
public import proofs.«01_k».proof.Proof.Proj.Block
public import proofs.«01_k».proof.Proof.Proj.Ref

@[expose] public section

set_option maxRecDepth 16384

noncomputable section

namespace Cert.Proj

open Cert.GlaProjIdeal Cert.GlaProjIdeal.Gen Cert.Rows
open Idealize.ShloMosaic Idealize.ShloMosaic.TcCoe

variable (m : (ℓ : Loc nD τ sig) → Buf (Elt Ideal) ℓ) (c : Dev nD)

abbrev cl (r : Fin 66048) (j : Fin 6680) : EReal := col (ax m c) (ag m c) (aw m c) r j

def G11 : Vec Ideal S66048x512 .bf16 := fun i => cl m c (i 0) ⟨1544 + (i 1).val, by have : (i 1).val < 512 := (i 1).isLt; omega⟩
def G12 : Vec Ideal S66048x512 .bf16 := fun i => cl m c (i 0) ⟨2056 + (i 1).val, by have : (i 1).val < 512 := (i 1).isLt; omega⟩
def G13 : Vec Ideal S66048x1024 .bf16 := fun i => cl m c (i 0) ⟨2568 + (i 1).val, by have : (i 1).val < 1024 := (i 1).isLt; omega⟩
def G14 : Vec Ideal S66048x512 .f32 := fun i => logGate (pre (ax m c) (ag m c) (aw m c) (au m c) (ab m c) (i 0) (i 1))
def G15 : Vec Ideal S66048x1024 .bf16 := fun i =>
  cl m c (i 0) ⟨3592 + (i 1).val, by have : (i 1).val < 1024 := (i 1).isLt; omega⟩ * sigm (cl m c (i 0) ⟨3592 + (i 1).val, by have : (i 1).val < 1024 := (i 1).isLt; omega⟩)
def G16 : Vec Ideal S66048x1024 .bf16 := fun i => sigm (cl m c (i 0) ⟨4632 + (i 1).val, by have : (i 1).val < 1024 := (i 1).isLt; omega⟩)
def G17 : Vec Ideal S66048x1024 .bf16 := fun i => sigm (cl m c (i 0) ⟨5656 + (i 1).val, by have : (i 1).val < 1024 := (i 1).isLt; omega⟩)

/-- The normalised row, as the launch computes it from its blocks. -/
theorem norm_blk (t : Fin cfg0.N) (r : Fin 688) (k : Fin 1024) :
    (k0_pay3 (F := Ideal) (iblk m c 0 t) (iblk m c 1 t) : Vec Ideal S688x1024 .bf16) (ix2 r k)
      = rms (fun k => ax m c (ix2 (row t r) k)) (fun k => ag m c (ix1 k)) k := by
  rw [norm_at]
  congr 1
  · exact funext fun k => blk0 m c t r k
  · exact funext fun k => blk1 m c t k

theorem col_blk (t : Fin cfg0.N) (r : Fin 688) (w : Fin 1024 → EReal) (j : Fin 6680) (hw : ∀ k, w k = aw m c (ix2 k j)) :
    (∑ k : Fin 1024, (k0_pay3 (F := Ideal) (iblk m c 0 t) (iblk m c 1 t) : Vec Ideal S688x1024 .bf16) (ix2 r k) * w k) = cl m c (row t r) j :=
  Finset.sum_congr rfl fun k _ => by rw [norm_blk, hw]

theorem arr11 : (dats m 0 c).arrAt 11 cfg0.N = G11 m c := by
  refine (dats m 0 c).arrAt_eq_of_covers 11 _ (by decide +kernel) fun t hf y => ?_
  blk_simp
  rw [after0_11]
  obtain ⟨r, d, rfl⟩ : ∃ (r : Fin 688) (d : Fin 512), y = ix2 r d := ⟨y 0, y 1, ValueIdx.eq_ix2 y⟩
  have he : ((cfg0.win 11).blk t).view.emb (ix2 r d) = ix2 (row t r) d := by
    blk_ext [idxo t, row]
  rw [he]
  unfold out0_11
  rw [View.canon_cons_unit_lit _ _ _ (by decide), View.ld_unit_lit _ _ (by decide), View.ld_unit_lit _ _ (by decide), View.ld_unit_lit _ _ (by decide), lo4]
  exact col_blk m c t r _ _ fun k => blk2 m c t k d

theorem arr12 : (dats m 0 c).arrAt 12 cfg0.N = G12 m c := by
  refine (dats m 0 c).arrAt_eq_of_covers 12 _ (by decide +kernel) fun t hf y => ?_
  blk_simp
  rw [after0_12]
  obtain ⟨r, d, rfl⟩ : ∃ (r : Fin 688) (d : Fin 512), y = ix2 r d := ⟨y 0, y 1, ValueIdx.eq_ix2 y⟩
  have he : ((cfg0.win 12).blk t).view.emb (ix2 r d) = ix2 (row t r) d := by
    blk_ext [idxo t, row]
  rw [he]
  unfold out0_12
  rw [View.canon_cons_unit_lit _ _ _ (by decide), View.ld_unit_lit _ _ (by decide), View.ld_unit_lit _ _ (by decide), View.ld_unit_lit _ _ (by decide), lo5]
  exact col_blk m c t r _ _ fun k => blk3 m c t k d

theorem arr13 : (dats m 0 c).arrAt 13 cfg0.N = G13 m c := by
  refine (dats m 0 c).arrAt_eq_of_covers 13 _ (by decide +kernel) fun t hf y => ?_
  blk_simp
  rw [after0_13]
  obtain ⟨r, d, rfl⟩ : ∃ (r : Fin 688) (d : Fin 1024), y = ix2 r d := ⟨y 0, y 1, ValueIdx.eq_ix2 y⟩
  have he : ((cfg0.win 13).blk t).view.emb (ix2 r d) = ix2 (row t r) d := by
    blk_ext [idxo t, row]
  rw [he]
  unfold out0_13
  rw [View.canon_cons_unit_lit _ _ _ (by decide), View.ld_unit_lit _ _ (by decide), View.ld_unit_lit _ _ (by decide), View.ld_unit_lit _ _ (by decide), lo6]
  exact col_blk m c t r _ _ fun k => blk4 m c t k d

/-- A sum over 128 of which only the first 16 terms can differ from zero. -/
theorem sum_pad (f : Fin 128 → EReal) (h : Fin 16 → EReal) (h0 : ∀ a : Fin 128, ¬ a.val < 16 → f a = 0)
    (h1 : ∀ a : Fin 16, f ⟨a.val, by omega⟩ = h a) : ∑ a : Fin 128, f a = ∑ a : Fin 16, h a := by
  have hs : ∑ a : Fin (16 + 112), f a = (∑ a : Fin 16, f (Fin.castAdd 112 a)) + ∑ a : Fin 112, f (Fin.natAdd 16 a) :=
    Fin.sum_univ_add (M := EReal) (a := 16) (b := 112) f
  have hz : ∑ a : Fin 112, f (Fin.natAdd 16 a) = 0 := Finset.sum_eq_zero fun a _ => h0 _ (by simp)
  refine hs.trans ?_
  rw [hz, add_zero]
  exact Finset.sum_congr rfl fun a _ => h1 a

theorem pre_blk (t : Fin cfg0.N) (r : Fin 688) (d : Fin 512) :
    (∑ a : Fin 128, (∑ k : Fin 1024, (k0_pay3 (F := Ideal) (iblk m c 0 t) (iblk m c 1 t) : Vec Ideal S688x1024 .bf16) (ix2 r k)
        * (iblk m c 6 t : Vec Ideal S1024x128 .bf16) (ix2 k a)) * (iblk m c 7 t : Vec Ideal S128x512 .bf16) (ix2 a d))
      + (iblk m c 8 t : Vec Ideal S1x512 .f32) (ix2 0 d) = pre (ax m c) (ag m c) (aw m c) (au m c) (ab m c) (row t r) d := by
  unfold pre
  refine congrArg₂ (· + ·) (sum_pad _ _ (fun a ha => ?_) (fun a => ?_)) (blk8 m c t d)
  · rw [blk7 m c t a d, dif_neg ha, mul_zero]
  · refine congrArg₂ (· * ·) (col_blk m c t r _ _ fun k => ?_) ?_
    · exact (blk6 m c t k _).trans (dif_pos a.isLt)
    · exact (blk7 m c t _ d).trans (dif_pos a.isLt)

theorem arr14 : (dats m 0 c).arrAt 14 cfg0.N = G14 m c := by
  refine (dats m 0 c).arrAt_eq_of_covers 14 _ (by decide +kernel) fun t hf y => ?_
  blk_simp
  rw [after0_14]
  obtain ⟨r, d, rfl⟩ : ∃ (r : Fin 688) (d : Fin 512), y = ix2 r d := ⟨y 0, y 1, ValueIdx.eq_ix2 y⟩
  have he : ((cfg0.win 14).blk t).view.emb (ix2 r d) = ix2 (row t r) d := by
    blk_ext [idxo t, row]
  rw [he]
  unfold out0_14 k0_pay10
  rw [View.canon_cons_unit_lit _ _ _ (by decide), View.ld_unit_lit _ _ (by decide), View.ld_unit_lit _ _ (by decide), View.ld_unit_lit _ _ (by decide), View.ld_unit_lit _ _ (by decide), View.ld_unit_lit _ _ (by decide), lo7]
  exact congrArg logGate (pre_blk m c t r d)

theorem arr15 : (dats m 0 c).arrAt 15 cfg0.N = G15 m c := by
  refine (dats m 0 c).arrAt_eq_of_covers 15 _ (by decide +kernel) fun t hf y => ?_
  blk_simp
  rw [after0_15]
  obtain ⟨r, d, rfl⟩ : ∃ (r : Fin 688) (d : Fin 1024), y = ix2 r d := ⟨y 0, y 1, ValueIdx.eq_ix2 y⟩
  have he : ((cfg0.win 15).blk t).view.emb (ix2 r d) = ix2 (row t r) d := by
    blk_ext [idxo t, row]
  rw [he]
  unfold out0_15 k0_pay10
  rw [View.canon_cons_unit_lit _ _ _ (by decide), View.ld_unit_lit _ _ (by decide), View.ld_unit_lit _ _ (by decide), View.ld_unit_lit _ _ (by decide), lo8]
  rw [col_blk m c t r _ _ fun k => blk5 m c t k d]
  rfl

theorem arr16 : (dats m 0 c).arrAt 16 cfg0.N = G16 m c := by
  refine (dats m 0 c).arrAt_eq_of_covers 16 _ (by decide +kernel) fun t hf y => ?_
  blk_simp
  rw [after0_16]
  obtain ⟨r, d, rfl⟩ : ∃ (r : Fin 688) (d : Fin 1024), y = ix2 r d := ⟨y 0, y 1, ValueIdx.eq_ix2 y⟩
  have he : ((cfg0.win 16).blk t).view.emb (ix2 r d) = ix2 (row t r) d := by
    blk_ext [idxo t, row]
  rw [he]
  unfold out0_16 k0_pay10
  rw [View.canon_cons_unit_lit _ _ _ (by decide), View.ld_unit_lit _ _ (by decide), View.ld_unit_lit _ _ (by decide), View.ld_unit_lit _ _ (by decide), lo1]
  rw [col_blk m c t r _ _ fun k => blk9 m c t k d]
  rfl

theorem arr17 : (dats m 0 c).arrAt 17 cfg0.N = G17 m c := by
  refine (dats m 0 c).arrAt_eq_of_covers 17 _ (by decide +kernel) fun t hf y => ?_
  blk_simp
  rw [after0_17]
  obtain ⟨r, d, rfl⟩ : ∃ (r : Fin 688) (d : Fin 1024), y = ix2 r d := ⟨y 0, y 1, ValueIdx.eq_ix2 y⟩
  have he : ((cfg0.win 17).blk t).view.emb (ix2 r d) = ix2 (row t r) d := by
    blk_ext [idxo t, row]
  rw [he]
  unfold out0_17 k0_pay10
  rw [View.canon_cons_unit_lit _ _ _ (by decide), View.ld_unit_lit _ _ (by decide), View.ld_unit_lit _ _ (by decide), View.ld_unit_lit _ _ (by decide), lo2]
  rw [col_blk m c t r _ _ fun k => blk10 m c t k d]
  rfl

end Cert.Proj

end
-- ==== Proof.Proj.Claim.lean ====
/-
  The claims on the projections' launch and its reference, put together.
-/
module

public import proofs.«01_k».proof.Defs
public import proofs.«01_k».proof.Proof.Proj.Final
public import proofs.«01_k».proof.Proof.Gen.GlaProjIdeal.Value

@[expose] public section

set_option maxRecDepth 16384

noncomputable section

namespace Cert.Proj

open Idealize.ShloMosaic Idealize.SL.Sem Idealize.ShloMosaic.TcCoe

/-- The reference ends with its arguments unchanged; it declares no semaphore. -/
theorem ref_frame (m : (ℓ : Loc Cert.GlaProjRefIdeal.nD Cert.GlaProjRefIdeal.τ Cert.GlaProjRefIdeal.sig) → Buf (Elt Ideal) ℓ) (ρ : Dev Cert.GlaProjRefIdeal.nD → PrngReg) :
    θ_run (Cert.GlaProjRefIdeal.defs (F := Ideal)) (onTc (τ := Cert.GlaProjRefIdeal.τ) (Cert.GlaProjRefIdeal.main (F := Ideal))) ⟨m, fun _ => 0, ρ⟩ (fun r => (∀ c : Dev Cert.GlaProjRefIdeal.nD,
      r.2.mem ((c.tc : Thread Cert.GlaProjRefIdeal.nD Cert.GlaProjRefIdeal.τ).loc Cert.GlaProjRefIdeal.main_arg0) = m ((c.tc : Thread Cert.GlaProjRefIdeal.nD Cert.GlaProjRefIdeal.τ).loc Cert.GlaProjRefIdeal.main_arg0)
      ∧ r.2.mem ((c.tc : Thread Cert.GlaProjRefIdeal.nD Cert.GlaProjRefIdeal.τ).loc Cert.GlaProjRefIdeal.main_arg1) = m ((c.tc : Thread Cert.GlaProjRefIdeal.nD Cert.GlaProjRefIdeal.τ).loc Cert.GlaProjRefIdeal.main_arg1)
      ∧ r.2.mem ((c.tc : Thread Cert.GlaProjRefIdeal.nD Cert.GlaProjRefIdeal.τ).loc Cert.GlaProjRefIdeal.main_arg2) = m ((c.tc : Thread Cert.GlaProjRefIdeal.nD Cert.GlaProjRefIdeal.τ).loc Cert.GlaProjRefIdeal.main_arg2)
      ∧ r.2.mem ((c.tc : Thread Cert.GlaProjRefIdeal.nD Cert.GlaProjRefIdeal.τ).loc Cert.GlaProjRefIdeal.main_arg3) = m ((c.tc : Thread Cert.GlaProjRefIdeal.nD Cert.GlaProjRefIdeal.τ).loc Cert.GlaProjRefIdeal.main_arg3)
      ∧ r.2.mem ((c.tc : Thread Cert.GlaProjRefIdeal.nD Cert.GlaProjRefIdeal.τ).loc Cert.GlaProjRefIdeal.main_arg4) = m ((c.tc : Thread Cert.GlaProjRefIdeal.nD Cert.GlaProjRefIdeal.τ).loc Cert.GlaProjRefIdeal.main_arg4))
      ∧ r.2.sem = fun _ => 0) := by
  exact (θ_run _ _ _).mono (fun r h => ⟨fun c => (h c).2.2.2.2.2.2.2, sem_eq_zero_of_no_sems (by decide) r.2⟩) (Cert.GlaProjRefIdeal.Value.run m ρ)

open Cert.GlaProjRefIdeal.Read in
theorem algebraic : Cert.algebraic_GlaProjIdeal_GlaProjRefIdeal := by
  intro m g m' g' hpre hagree
  refine ⟨fun c => G11 m c, fun c => G12 m c, fun c => G13 m c, fun c => G14 m c, fun c => G15 m c, fun c => G16 m c, fun c => G17 m c, ?_, ?_⟩
  · refine (θ_run _ _ _).mono (fun r h c => ?_) (Cert.GlaProjIdeal.Value.run_blocks m g)
    obtain ⟨h1, h2, h3, h4, h5, h6, h7, ha⟩ := h c
    exact ⟨h1.trans (arr11 m c), h2.trans (arr12 m c), h3.trans (arr13 m c), h4.trans (arr14 m c), h5.trans (arr15 m c), h6.trans (arr16 m c), h7.trans (arr17 m c), ha⟩
  · refine (θ_run _ _ _).mono (fun r h c => ?_) (Cert.GlaProjRefIdeal.Value.run m' g')
    obtain ⟨h1, h2, h3, h4, h5, h6, h7, ha⟩ := h c
    obtain ⟨e0, e1, e2, e3, e4⟩ := hagree c
    refine ⟨h1.trans ((val_main_v40_eq _ _ _).trans ?_), h2.trans ((val_main_v41_eq _ _ _).trans ?_), h3.trans ((val_main_v42_eq _ _ _).trans ?_), h4.trans ((val_main_v25_eq m' c).trans ?_),
      h5.trans ((val_main_v44_eq _ _ _).trans ?_), h6.trans ((val_main_v45_eq _ _ _).trans ?_), h7.trans ((val_main_v46_eq _ _ _).trans ?_), ha⟩
    · rw [e0, e1, e2]
      funext i
      obtain ⟨r, d, rfl⟩ : ∃ (r : Fin 66048) (d : Fin 512), i = ix2 r d := ⟨i 0, i 1, ValueIdx.eq_ix2 i⟩
      exact q_ref _ _ _ r d
    · rw [e0, e1, e2]
      funext i
      obtain ⟨r, d, rfl⟩ : ∃ (r : Fin 66048) (d : Fin 512), i = ix2 r d := ⟨i 0, i 1, ValueIdx.eq_ix2 i⟩
      exact k_ref _ _ _ r d
    · rw [e0, e1, e2]
      funext i
      obtain ⟨r, d, rfl⟩ : ∃ (r : Fin 66048) (d : Fin 1024), i = ix2 r d := ⟨i 0, i 1, ValueIdx.eq_ix2 i⟩
      exact v_ref _ _ _ r d
    · rw [e0, e1, e2, e3, e4]
      funext i
      obtain ⟨r, d, rfl⟩ : ∃ (r : Fin 66048) (d : Fin 512), i = ix2 r d := ⟨i 0, i 1, ValueIdx.eq_ix2 i⟩
      exact gate_ref _ _ _ _ _ r d
    · rw [e0, e1, e2]
      funext i
      obtain ⟨r, d, rfl⟩ : ∃ (r : Fin 66048) (d : Fin 1024), i = ix2 r d := ⟨i 0, i 1, ValueIdx.eq_ix2 i⟩
      exact r_ref _ _ _ r d
    · rw [e0, e1, e2]
      funext i
      obtain ⟨r, d, rfl⟩ : ∃ (r : Fin 66048) (d : Fin 1024), i = ix2 r d := ⟨i 0, i 1, ValueIdx.eq_ix2 i⟩
      exact ma_ref _ _ _ r d
    · rw [e0, e1, e2]
      funext i
      obtain ⟨r, d, rfl⟩ : ∃ (r : Fin 66048) (d : Fin 1024), i = ix2 r d := ⟨i 0, i 1, ValueIdx.eq_ix2 i⟩
      exact mb_ref _ _ _ r d

end Cert.Proj

end
-- ==== Proof.Merge.Block.lean ====
/-
  The merge of one block of rows, entry by entry.
-/
module

public import proofs.«01_k».proof.Proof.Gen.MergeIdeal.Skeleton
public import proofs.«01_k».proof.Proof.Proj.Rows
public import Idealize.ShloMosaic.Lib.Pointwise

@[expose] public section

noncomputable section

namespace Cert.Merge

open Cert.MergeIdeal Cert.MergeIdeal.Gen Cert.Rows
open Idealize.ShloMosaic

variable (x : Vec Ideal S688x1024 .f32) (fo : Vec Ideal S688x512 .bf16) (go sr ma mb : Vec Ideal S688x1024 .bf16)
  (wf : Vec Ideal S512x1024 .bf16) (wg wo : Vec Ideal S1024x1024 .bf16) (gp gf : Vec Ideal S1x1024 .f32)

theorem out_at (r : Fin 688) (d : Fin 1024) :
    (k0_pay3 (F := Ideal) go sr ma fo wf mb wg wo : Vec Ideal S688x1024 .f32) (ix2 r d)
      = outp (fun k => fo (ix2 r k)) (fun k => go (ix2 r k)) (fun k => sr (ix2 r k)) (fun k => ma (ix2 r k)) (fun k => mb (ix2 r k))
          (fun k e => wf (ix2 k e)) (fun k e => wg (ix2 k e)) (fun k e => wo (ix2 k e)) d := by
  unfold k0_pay3 outp mix
  pointwise

theorem x1_at (r : Fin 688) (d : Fin 1024) :
    (k0_pay1 (F := Ideal) (k0_pay3 go sr ma fo wf mb wg wo) x (k0_pay4 gp) (k0_pay5 go sr ma fo wf mb wg wo) k0_pay6 : Vec Ideal S688x1024 .f32) (ix2 r d)
      = x (ix2 r d) + rms (fun k => (k0_pay3 (F := Ideal) go sr ma fo wf mb wg wo : Vec Ideal S688x1024 .f32) (ix2 r k)) (fun k => gp (ix2 0 k)) d := by
  unfold k0_pay1 k0_pay4 k0_pay5 k0_pay6 rms
  generalize k0_pay3 (F := Ideal) go sr ma fo wf mb wg wo = b
  pointwise

theorem h2_at (p : Vec Ideal S688x1024 .f32) (q : Vec Ideal S1x1024 .f32) (u v : Vec Ideal S688x1 .f32) (r : Fin 688) (d : Fin 1024) :
    (k0_pay2 (F := Ideal) p x q u v gf : Vec Ideal S688x1024 .bf16) (ix2 r d)
      = rms (fun k => (k0_pay1 (F := Ideal) p x q u v : Vec Ideal S688x1024 .f32) (ix2 r k)) (fun k => gf (ix2 0 k)) d := by
  unfold k0_pay2 rms
  generalize k0_pay1 (F := Ideal) p x q u v = b
  pointwise

end Cert.Merge

end
-- ==== Proof.Merge.Ref.lean ====
/-
  The merge's reference, entry by entry.
-/
module

public import proofs.«01_k».proof.Proof.Gen.MergeRefIdeal.Read
public import proofs.«01_k».proof.Proof.Proj.Rows
public import Idealize.ShloMosaic.Lib.Pointwise

@[expose] public section

noncomputable section

namespace Cert.Merge

open Cert.MergeRefIdeal Cert.MergeRefIdeal.Gen Cert.MergeRefIdeal.Read Cert.Rows
open Idealize.ShloMosaic Idealize.ShloMosaic.StableHlo

section
variable (x : Vec Ideal S66048x1024 .f32) (fo : Vec Ideal S66048x512 .bf16) (go sr ma mb : Vec Ideal S66048x1024 .bf16)
  (wf : Vec Ideal S512x1024 .f32) (wg wo : Vec Ideal S1024x1024 .f32) (gp gf : Vec Ideal S1024 .f32)

/-- The merged row before its norm. -/
def mrg (r : Fin 66048) (d : Fin 1024) : EReal :=
  outp (fun k => fo (ix2 r k)) (fun k => go (ix2 r k)) (fun k => sr (ix2 r k)) (fun k => ma (ix2 r k)) (fun k => mb (ix2 r k))
    (fun k e => wf (ix2 k e)) (fun k e => wg (ix2 k e)) (fun k e => wo (ix2 k e)) d

/-- The stream after the merge. -/
def str (r : Fin 66048) (d : Fin 1024) : EReal := x (ix2 r d) + rms (mrg fo go sr ma mb wf wg wo r) (fun k => gp (ix1 k)) d

/-- The stream normalised for the feed-forward. -/
def nrm (r : Fin 66048) (d : Fin 1024) : EReal := rms (str x fo go sr ma mb wf wg wo gp r) (fun k => gf (ix1 k)) d

theorem mix_ref (r : Fin 66048) (d : Fin 1024) :
    (val_main_v10 (F := Ideal) fo go sr ma mb wf wg : Vec Ideal S66048x1024 .f32) (ix2 r d)
      = mix (fun k => fo (ix2 r k)) (fun k => go (ix2 r k)) (fun k => sr (ix2 r k)) (fun k => ma (ix2 r k)) (fun k => mb (ix2 r k)) (fun k e => wf (ix2 k e)) (fun k e => wg (ix2 k e)) d := by
  unfold val_main_v10 val_main_v9 val_main_v8 val_main_v7 val_main_v6 val_main_v5 val_main_v4 val_main_v3 val_main_v2 val_main_v1 val_main_v0 mix
  pointwise

theorem mrg_ref (r : Fin 66048) (d : Fin 1024) :
    (val_main_v11 (F := Ideal) fo go sr ma mb wf wg wo : Vec Ideal S66048x1024 .f32) (ix2 r d) = mrg fo go sr ma mb wf wg wo r d := by
  have h : (val_main_v11 (F := Ideal) fo go sr ma mb wf wg wo : Vec Ideal S66048x1024 .f32) (ix2 r d)
      = ∑ k : Fin 1024, (val_main_v10 (F := Ideal) fo go sr ma mb wf wg : Vec Ideal S66048x1024 .f32) (ix2 r k) * wo (ix2 k d) := by
    unfold val_main_v11
    generalize val_main_v10 (F := Ideal) fo go sr ma mb wf wg = b
    pointwise
  rw [h]
  unfold mrg outp
  exact Finset.sum_congr rfl fun k _ => by rw [mix_ref]

theorem str_ref (r : Fin 66048) (d : Fin 1024) :
    (val_main_v25 (F := Ideal) x fo go sr ma mb wf wg wo gp : Vec Ideal S66048x1024 .f32) (ix2 r d) = str x fo go sr ma mb wf wg wo gp r d := by
  have h : (val_main_v25 (F := Ideal) x fo go sr ma mb wf wg wo gp : Vec Ideal S66048x1024 .f32) (ix2 r d)
      = x (ix2 r d) + rms (fun k => (val_main_v11 (F := Ideal) fo go sr ma mb wf wg wo : Vec Ideal S66048x1024 .f32) (ix2 r k)) (fun k => gp (ix1 k)) d := by
    unfold val_main_v25 val_main_v24 val_main_v23 val_main_v22 val_main_v21 val_main_v20 val_main_v19 val_main_v18 val_main_v17 val_main_v16 val_main_v15 val_main_v14 val_main_v13 val_main_v12 val_main_cst val_main_cst_0 val_main_cst_1 rms
    generalize val_main_v11 (F := Ideal) fo go sr ma mb wf wg wo = b
    pointwise
  rw [h]
  unfold str
  rw [show (fun k => (val_main_v11 (F := Ideal) fo go sr ma mb wf wg wo : Vec Ideal S66048x1024 .f32) (ix2 r k)) = mrg fo go sr ma mb wf wg wo r from funext fun k => mrg_ref _ _ _ _ _ _ _ _ r k]

theorem nrm_ref (r : Fin 66048) (d : Fin 1024) :
    (val_main_v39 (F := Ideal) x fo go sr ma mb wf wg wo gp gf : Vec Ideal S66048x1024 .bf16) (ix2 r d) = nrm x fo go sr ma mb wf wg wo gp gf r d := by
  have h : (val_main_v39 (F := Ideal) x fo go sr ma mb wf wg wo gp gf : Vec Ideal S66048x1024 .bf16) (ix2 r d)
      = rms (fun k => (val_main_v25 (F := Ideal) x fo go sr ma mb wf wg wo gp : Vec Ideal S66048x1024 .f32) (ix2 r k)) (fun k => gf (ix1 k)) d := by
    unfold val_main_v39 val_main_v38 val_main_v37 val_main_v36 val_main_v35 val_main_v34 val_main_v33 val_main_v32 val_main_v31 val_main_v30 val_main_v29 val_main_v28 val_main_v27 val_main_v26 val_main_cst_2 val_main_cst_3 val_main_cst_4 rms
    generalize val_main_v25 (F := Ideal) x fo go sr ma mb wf wg wo gp = b
    pointwise
  rw [h]
  unfold nrm
  rw [show (fun k => (val_main_v25 (F := Ideal) x fo go sr ma mb wf wg wo gp : Vec Ideal S66048x1024 .f32) (ix2 r k)) = str x fo go sr ma mb wf wg wo gp r from funext fun k => str_ref _ _ _ _ _ _ _ _ _ _ r k]

end

end Cert.Merge

end
-- ==== Proof.Merge.Final.lean ====
/-
  The merge's two result arrays.
-/
module

public import proofs.«01_k».proof.Proof.Gen.MergeIdeal.Frame
public import proofs.«01_k».proof.Proof.Merge.Block
public import proofs.«01_k».proof.Proof.Merge.Ref
public import Idealize.ShloMosaic.Lib.StableHlo.ReadAt
public import Idealize.ShloMosaic.Lib.Pipeline.ValueKit

@[expose] public section

set_option maxRecDepth 16384

noncomputable section

namespace Cert.Merge

open Cert.MergeIdeal Cert.MergeIdeal.Gen Cert.Rows
open Idealize.ShloMosaic Idealize.ShloMosaic.TcCoe Idealize.ShloMosaic.StableHlo

variable (m : (ℓ : Loc nD τ sig) → Buf (Elt Ideal) ℓ) (c : Dev nD)

abbrev ax : Vec Ideal S66048x1024 .f32 := m ((c : Thread nD τ).loc main_arg0)
abbrev afo : Vec Ideal S66048x512 .bf16 := m ((c : Thread nD τ).loc main_arg1)
abbrev ago : Vec Ideal S66048x1024 .bf16 := m ((c : Thread nD τ).loc main_arg2)
abbrev asr : Vec Ideal S66048x1024 .bf16 := m ((c : Thread nD τ).loc main_arg3)
abbrev ama : Vec Ideal S66048x1024 .bf16 := m ((c : Thread nD τ).loc main_arg4)
abbrev amb : Vec Ideal S66048x1024 .bf16 := m ((c : Thread nD τ).loc main_arg5)
abbrev awf : Vec Ideal S512x1024 .f32 := m ((c : Thread nD τ).loc main_arg6)
abbrev awg : Vec Ideal S1024x1024 .f32 := m ((c : Thread nD τ).loc main_arg7)
abbrev awo : Vec Ideal S1024x1024 .f32 := m ((c : Thread nD τ).loc main_arg8)
abbrev agp : Vec Ideal S1024 .f32 := m ((c : Thread nD τ).loc main_arg9)
abbrev agf : Vec Ideal S1024 .f32 := m ((c : Thread nD τ).loc main_arg10)

theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![t.val, 0]
    ∧ win0_12.index t = ![t.val, 0] := by
  decide +kernel

/-- The row of the arrays that row `r` of a grid point's block is. -/
def row (t : Fin cfg0.N) (r : Fin 688) : Fin 66048 := ⟨688 * t.val + r.val, by have : t.val < 96 := t.isLt; omega⟩

theorem blk0 (t : Fin cfg0.N) (r : Fin 688) (d : Fin 1024) : (iblk m c 0 t : Vec Ideal S688x1024 .f32) (ix2 r d) = ax m c (ix2 (row t r) d) := by
  unfold ax
  rw [← V_main_arg0 m c]
  blk_ext [iblk, idx t, row]

theorem blk1 (t : Fin cfg0.N) (r : Fin 688) (d : Fin 512) : (iblk m c 1 t : Vec Ideal S688x512 .bf16) (ix2 r d) = afo m c (ix2 (row t r) d) := by
  unfold afo
  rw [← V_main_arg1 m c]
  blk_ext [iblk, idx t, row]

theorem blk2 (t : Fin cfg0.N) (r : Fin 688) (d : Fin 1024) : (iblk m c 2 t : Vec Ideal S688x1024 .bf16) (ix2 r d) = ago m c (ix2 (row t r) d) := by
  unfold ago
  rw [← V_main_arg2 m c]
  blk_ext [iblk, idx t, row]

theorem blk3 (t : Fin cfg0.N) (r : Fin 688) (d : Fin 1024) : (iblk m c 3 t : Vec Ideal S688x1024 .bf16) (ix2 r d) = asr m c (ix2 (row t r) d) := by
  unfold asr
  rw [← V_main_arg3 m c]
  blk_ext [iblk, idx t, row]

theorem blk4 (t : Fin cfg0.N) (r : Fin 688) (d : Fin 1024) : (iblk m c 4 t : Vec Ideal S688x1024 .bf16) (ix2 r d) = ama m c (ix2 (row t r) d) := by
  unfold ama
  rw [← V_main_arg4 m c]
  blk_ext [iblk, idx t, row]

theorem blk5 (t : Fin cfg0.N) (r : Fin 688) (d : Fin 1024) : (iblk m c 5 t : Vec Ideal S688x1024 .bf16) (ix2 r d) = amb m c (ix2 (row t r) d) := by
  unfold amb
  rw [← V_main_arg5 m c]
  blk_ext [iblk, idx t, row]

theorem w6_at (k : Fin 512) (d : Fin 1024) : (V m c main_v0 : Vec Ideal S512x1024 .bf16) (ix2 k d) = awf m c (ix2 k d) := by
  unfold V
  after_reads_at

theorem blk6 (t : Fin cfg0.N) (k : Fin 512) (d : Fin 1024) : (iblk m c 6 t : Vec Ideal S512x1024 .bf16) (ix2 k d) = awf m c (ix2 k d) := by
  rw [← w6_at]
  blk_ext [iblk, idx t]

theorem w7_at (k : Fin 1024) (d : Fin 1024) : (V m c main_v1 : Vec Ideal S1024x1024 .bf16) (ix2 k d) = awg m c (ix2 k d) := by
  unfold V
  after_reads_at

theorem blk7 (t : Fin cfg0.N) (k : Fin 1024) (d : Fin 1024) : (iblk m c 7 t : Vec Ideal S1024x1024 .bf16) (ix2 k d) = awg m c (ix2 k d) := by
  rw [← w7_at]
  blk_ext [iblk, idx t]

theorem w8_at (k : Fin 1024) (d : Fin 1024) : (V m c main_v2 : Vec Ideal S1024x1024 .bf16) (ix2 k d) = awo m c (ix2 k d) := by
  unfold V
  after_reads_at

theorem blk8 (t : Fin cfg0.N) (k : Fin 1024) (d : Fin 1024) : (iblk m c 8 t : Vec Ideal S1024x1024 .bf16) (ix2 k d) = awo m c (ix2 k d) := by
  rw [← w8_at]
  blk_ext [iblk, idx t]

theorem g9_at (d : Fin 1024) : (V m c main_v3 : Vec Ideal S1x1024 .f32) (ix2 0 d) = agp m c (ix1 d) := by
  unfold V
  after_reads_at

theorem blk9 (t : Fin cfg0.N) (d : Fin 1024) : (iblk m c 9 t : Vec Ideal S1x1024 .f32) (ix2 0 d) = agp m c (ix1 d) := by
  rw [← g9_at]
  blk_ext [iblk, idx t]

theorem g10_at (d : Fin 1024) : (V m c main_v4 : Vec Ideal S1x1024 .f32) (ix2 0 d) = agf m c (ix1 d) := by
  unfold V
  after_reads_at

theorem blk10 (t : Fin cfg0.N) (d : Fin 1024) : (iblk m c 10 t : Vec Ideal S1x1024 .f32) (ix2 0 d) = agf m c (ix1 d) := by
  rw [← g10_at]
  blk_ext [iblk, idx t]

/-- The stream after the merge. -/
def G11 : Vec Ideal S66048x1024 .f32 := fun i => str (ax m c) (afo m c) (ago m c) (asr m c) (ama m c) (amb m c) (awf m c) (awg m c) (awo m c) (agp m c) (i 0) (i 1)
/-- The stream normalised for the feed-forward. -/
def G12 : Vec Ideal S66048x1024 .bf16 := fun i => nrm (ax m c) (afo m c) (ago m c) (asr m c) (ama m c) (amb m c) (awf m c) (awg m c) (awo m c) (agp m c) (agf m c) (i 0) (i 1)

theorem mrg_blk (t : Fin cfg0.N) (r : Fin 688) (d : Fin 1024) :
    (k0_pay3 (F := Ideal) (iblk m c 2 t) (iblk m c 3 t) (iblk m c 4 t) (iblk m c 1 t) (iblk m c 6 t) (iblk m c 5 t) (iblk m c 7 t) (iblk m c 8 t) : Vec Ideal S688x1024 .f32) (ix2 r d)
      = mrg (afo m c) (ago m c) (asr m c) (ama m c) (amb m c) (awf m c) (awg m c) (awo m c) (row t r) d := by
  rw [out_at]
  unfold mrg
  congr 1
  · exact funext fun k => blk1 m c t r k
  · exact funext fun k => blk2 m c t r k
  · exact funext fun k => blk3 m c t r k
  · exact funext fun k => blk4 m c t r k
  · exact funext fun k => blk5 m c t r k
  · exact funext fun k => funext fun e => blk6 m c t k e
  · exact funext fun k => funext fun e => blk7 m c t k e
  · exact funext fun k => funext fun e => blk8 m c t k e

theorem str_blk (t : Fin cfg0.N) (r : Fin 688) (d : Fin 1024) :
    (k0_pay1 (F := Ideal) (k0_pay3 (iblk m c 2 t) (iblk m c 3 t) (iblk m c 4 t) (iblk m c 1 t) (iblk m c 6 t) (iblk m c 5 t) (iblk m c 7 t) (iblk m c 8 t)) (iblk m c 0 t) (k0_pay4 (iblk m c 9 t)) (k0_pay5 (iblk m c 2 t) (iblk m c 3 t) (iblk m c 4 t) (iblk m c 1 t) (iblk m c 6 t) (iblk m c 5 t) (iblk m c 7 t) (iblk m c 8 t)) k0_pay6 : Vec Ideal S688x1024 .f32) (ix2 r d)
      = str (ax m c) (afo m c) (ago m c) (asr m c) (ama m c) (amb m c) (awf m c) (awg m c) (awo m c) (agp m c) (row t r) d := by
  rw [x1_at]
  unfold str
  refine congrArg₂ (· + ·) (blk0 m c t r d) ?_
  congr 1
  · exact funext fun k => mrg_blk m c t r k
  · exact funext fun k => blk9 m c t k

theorem arr11 : (dats m 0 c).arrAt 11 cfg0.N = G11 m c := by
  refine (dats m 0 c).arrAt_eq_of_covers 11 _ (by decide +kernel) fun t hf y => ?_
  blk_simp
  rw [after0_11]
  obtain ⟨r, d, rfl⟩ : ∃ (r : Fin 688) (d : Fin 1024), y = ix2 r d := ⟨y 0, y 1, ValueIdx.eq_ix2 y⟩
  have he : ((cfg0.win 11).blk t).view.emb (ix2 r d) = ix2 (row t r) d := by
    blk_ext [idx t, row]
  rw [he]
  unfold out0_11 k0_pay7 k0_pay8 k0_pay9 k0_pay10
  rw [View.canon_cons_unit_lit _ _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide)]
  exact str_blk m c t r d

theorem arr12 : (dats m 0 c).arrAt 12 cfg0.N = G12 m c := by
  refine (dats m 0 c).arrAt_eq_of_covers 12 _ (by decide +kernel) fun t hf y => ?_
  blk_simp
  rw [after0_12]
  obtain ⟨r, d, rfl⟩ : ∃ (r : Fin 688) (d : Fin 1024), y = ix2 r d := ⟨y 0, y 1, ValueIdx.eq_ix2 y⟩
  have he : ((cfg0.win 12).blk t).view.emb (ix2 r d) = ix2 (row t r) d := by
    blk_ext [idx t, row]
  rw [he]
  unfold out0_12 k0_pay7 k0_pay8 k0_pay9 k0_pay10
  rw [View.canon_cons_unit_lit _ _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide)]
  rw [h2_at]
  refine Eq.trans (congrArg₂ (fun a b => rms a b d) (funext fun k => str_blk m c t r k) (funext fun k => blk10 m c t k)) ?_
  show _ = nrm (ax m c) (afo m c) (ago m c) (asr m c) (ama m c) (amb m c) (awf m c) (awg m c) (awo m c) (agp m c) (agf m c) (row t r) d
  unfold nrm
  rfl

end Cert.Merge

end
-- ==== Proof.Merge.Claim.lean ====
/-
  The claims on the merge's launch and its reference, put together.
-/
module

public import proofs.«01_k».proof.Defs
public import proofs.«01_k».proof.Proof.Merge.Final
public import proofs.«01_k».proof.Proof.Gen.MergeIdeal.Value

@[expose] public section

set_option maxRecDepth 16384

noncomputable section

namespace Cert.Merge

open Idealize.ShloMosaic Idealize.SL.Sem Idealize.ShloMosaic.TcCoe

/-- The reference ends with its arguments unchanged; it declares no semaphore. -/
theorem ref_frame (m : (ℓ : Loc Cert.MergeRefIdeal.nD Cert.MergeRefIdeal.τ Cert.MergeRefIdeal.sig) → Buf (Elt Ideal) ℓ) (ρ : Dev Cert.MergeRefIdeal.nD → PrngReg) :
    θ_run (Cert.MergeRefIdeal.defs (F := Ideal)) (onTc (τ := Cert.MergeRefIdeal.τ) (Cert.MergeRefIdeal.main (F := Ideal))) ⟨m, fun _ => 0, ρ⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0) := by
  exact (θ_run _ _ _).mono (fun r h => ⟨fun c => (h c).2.2, sem_eq_zero_of_no_sems (by decide) r.2⟩) (Cert.MergeRefIdeal.Value.run m ρ)

open Cert.MergeRefIdeal.Read in
theorem algebraic : Cert.algebraic_MergeIdeal_MergeRefIdeal := by
  intro m g m' g' hpre hagree
  refine ⟨fun c => G11 m c, fun c => G12 m c, ?_, ?_⟩
  · refine (θ_run _ _ _).mono (fun r h c => ?_) (Cert.MergeIdeal.Value.run_blocks m g)
    obtain ⟨h1, h2, ha⟩ := h c
    exact ⟨h1.trans (arr11 m c), h2.trans (arr12 m c), ha⟩
  · refine (θ_run _ _ _).mono (fun r h c => ?_) (Cert.MergeRefIdeal.Value.run m' g')
    obtain ⟨h1, h2, ha⟩ := h c
    obtain ⟨e0, e1, e2, e3, e4, e5, e6, e7, e8, e9, e10⟩ := hagree c
    refine ⟨h1.trans ((val_main_v25_eq _ _ _ _ _ _ _ _ _ _).trans ?_), h2.trans ((val_main_v39_eq m' c).trans ?_), ha⟩
    · rw [e0, e1, e2, e3, e4, e5, e6, e7, e8, e9]
      funext i
      obtain ⟨r, d, rfl⟩ : ∃ (r : Fin 66048) (d : Fin 1024), i = ix2 r d := ⟨i 0, i 1, ValueIdx.eq_ix2 i⟩
      exact str_ref _ _ _ _ _ _ _ _ _ _ r d
    · rw [e0, e1, e2, e3, e4, e5, e6, e7, e8, e9, e10]
      funext i
      obtain ⟨r, d, rfl⟩ : ∃ (r : Fin 66048) (d : Fin 1024), i = ix2 r d := ⟨i 0, i 1, ValueIdx.eq_ix2 i⟩
      exact nrm_ref _ _ _ _ _ _ _ _ _ _ _ r d

end Cert.Merge

end
-- ==== Proof.Ffn.Block.lean ====
/-
  The gated network of one block of 688 rows: what each column group of 256 contributes, entry by entry.
-/
module

public import proofs.«01_k».proof.Proof.Gen.FfnIdeal.Skeleton
public import proofs.«01_k».proof.Proof.Proj.Rows
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Ffn

open Cert.FfnIdeal Cert.FfnIdeal.Gen Cert.Rows
open Idealize.ShloMosaic

/-- A number times the tanh approximation of the Gaussian distribution at it. -/
def gelu (z : EReal) : EReal :=
  Ideal.ofBits .f32 0x3F000000#32 * z * (Ideal.ofBits .f32 0x3F800000#32
    + Ideal.tanh (Ideal.ofBits .f32 0x3F4C422A#32 * (z + Ideal.ofBits .f32 0x3D372713#32 * z * z * z)))

section
variable (xs : Vec Ideal S8x5632 .f32) (x0 : Vec Ideal S688x1024 .bf16) (x2 : Vec Ideal S1024x5632 .bf16) (x3 : Vec Ideal S3x5632 .f32) (x4 : Vec Ideal S1x5632 .f32)

/-- The up projection. -/
def uu (r : Fin 688) (c : Fin 5632) : EReal := ∑ k : Fin 1024, x0 (ix2 r k) * x2 (ix2 k c)

/-- The eight rows carried in, then the 688 rows of the up projection. -/
def ext (n : Fin 696) (c : Fin 5632) : EReal :=
  if h : n.val < 8 then xs (ix2 ⟨n.val, h⟩ c) else uu x0 x2 ⟨n.val - 8, by omega⟩ c

/-- The convolution of width three along the rows. -/
def cv (r : Fin 688) (c : Fin 5632) : EReal :=
  x4 (ix2 0 c) + ext xs x0 x2 ⟨6 + r.val, by omega⟩ c * x3 (ix2 0 c) + ext xs x0 x2 ⟨7 + r.val, by omega⟩ c * x3 (ix2 1 c)
    + uu x0 x2 r c * x3 (ix2 2 c)

/-- The gated activation. -/
def act (r : Fin 688) (j : Fin 2816) : EReal :=
  gelu (cv xs x0 x2 x3 x4 r ⟨2816 + j.val, by omega⟩) * cv xs x0 x2 x3 x4 r ⟨j.val, by omega⟩
end

/-! ### Loads through a rectangle -/

section
variable {arg3 : Memref sig .tc .vmem S1024x5632 .bf16} (harg3 : arg3.IsWhole) (x2 : Vec Ideal S1024x5632 .bf16)

theorem col_up (o : ℕ) (inb : ∀ a, (![0, o] : Fin 2 → ℕ) a + S1024x256.size a ≤ S1024x5632.size a) (ho : o + 256 ≤ 5632) (k : Fin 1024) (e : Fin 256) :
    View.readAt (Elt Ideal) arg3.view (Rect.unit (s := S1024x5632) ![0, o] S1024x256.size inb).toLoadRect (harg3.unread x2) (ix2 k e) = x2 (ix2 k ⟨o + e.val, by omega⟩) := by
  rw [View.readAt_eq_ld, harg3.read_unread, View.ld]
  refine congrArg x2 ?_
  funext a; refine Fin.ext ?_
  fin_cases a <;> simp
end

section
variable {arg4 : Memref sig .tc .vmem S3x5632 .f32} (harg4 : arg4.IsWhole) (x3 : Vec Ideal S3x5632 .f32)

theorem col_w (j : Fin 3) (o : ℕ) (inb : ∀ a, (![j.val, o] : Fin 2 → ℕ) a + S1x256.size a ≤ S3x5632.size a) (ho : o + 256 ≤ 5632) (e : Fin 256) :
    View.readAt (Elt Ideal) arg4.view (Rect.unit (s := S3x5632) ![j.val, o] S1x256.size inb).toLoadRect (harg4.unread x3) (ix2 0 e) = x3 (ix2 j ⟨o + e.val, by omega⟩) := by
  rw [View.readAt_eq_ld, harg4.read_unread, View.ld]
  refine congrArg x3 ?_
  funext a; refine Fin.ext ?_
  fin_cases a <;> simp
end

section
variable {arg5 : Memref sig .tc .vmem S1x5632 .f32} (harg5 : arg5.IsWhole) (x4 : Vec Ideal S1x5632 .f32)

theorem col_b (o : ℕ) (inb : ∀ a, (![0, o] : Fin 2 → ℕ) a + S1x256.size a ≤ S1x5632.size a) (ho : o + 256 ≤ 5632) (e : Fin 256) :
    View.readAt (Elt Ideal) arg5.view (Rect.unit (s := S1x5632) ![0, o] S1x256.size inb).toLoadRect (harg5.unread x4) (ix2 0 e) = x4 (ix2 0 ⟨o + e.val, by omega⟩) := by
  rw [View.readAt_eq_ld, harg5.read_unread, View.ld]
  refine congrArg x4 ?_
  funext a; refine Fin.ext ?_
  fin_cases a <;> simp
end

section
variable {arg12 : Memref sig .tc .vmem S8x5632 .f32} (harg12 : arg12.IsWhole) (xs : Vec Ideal S8x5632 .f32)

theorem col_carry (o : ℕ) (inb : ∀ a, (![0, o] : Fin 2 → ℕ) a + S8x256.size a ≤ S8x5632.size a) (ho : o + 256 ≤ 5632) (n : Fin 8) (e : Fin 256) :
    View.readAt (Elt Ideal) arg12.view (Rect.unit (s := S8x5632) ![0, o] S8x256.size inb).toLoadRect (harg12.unread xs) (ix2 n e) = xs (ix2 n ⟨o + e.val, by omega⟩) := by
  rw [View.readAt_eq_ld, harg12.read_unread, View.ld]
  refine congrArg xs ?_
  funext a; refine Fin.ext ?_
  fin_cases a <;> simp
end

/-! ### One column group -/

/-- The columns from `o` of the up projection, as computed. -/
theorem up_at {arg1 : Memref sig .tc .vmem S688x1024 .bf16} (harg1 : arg1.IsWhole) {arg3 : Memref sig .tc .vmem S1024x5632 .bf16} (harg3 : arg3.IsWhole)
    (x0 : Vec Ideal S688x1024 .bf16) (x2 : Vec Ideal S1024x5632 .bf16) (o : ℕ)
    (inb1 : ∀ a, (![0, 0] : Fin 2 → ℕ) a + S688x1024.size a ≤ S688x1024.size a)
    (inb : ∀ a, (![0, o] : Fin 2 → ℕ) a + S1024x256.size a ≤ S1024x5632.size a) (ho : o + 256 ≤ 5632) (r : Fin 688) (e : Fin 256) :
    k0_pay3 (F := Ideal) (View.readAt (Elt Ideal) arg1.view (Rect.unit (s := S688x1024) ![0, 0] S688x1024.size inb1).toLoadRect (harg1.unread x0))
      (View.readAt (Elt Ideal) arg3.view (Rect.unit (s := S1024x5632) ![0, o] S1024x256.size inb).toLoadRect (harg3.unread x2)) (ix2 r e)
      = uu x0 x2 r ⟨o + e.val, by omega⟩ := by
  have h1 : View.readAt (Elt Ideal) arg1.view (Rect.unit (s := S688x1024) ![0, 0] S688x1024.size inb1).toLoadRect (harg1.unread x0) = x0 := by
    rw [View.readAt_eq_ld, harg1.read_unread, View.ld_unit_lit _ _ (by decide)]
  rw [h1]
  have h2 := col_up harg3 x2 o inb ho
  generalize View.readAt (Elt Ideal) arg3.view (Rect.unit (s := S1024x5632) ![0, o] S1024x256.size inb).toLoadRect (harg3.unread x2) = w at h2
  unfold k0_pay3 uu
  pointwise
  exact Finset.sum_congr rfl fun k _ => congrArg _ (h2 k e)

/-- A buffer of 696 rows after the eight carried rows and the 688 new rows are stored in it. -/
theorem stage_at (L : List (View.Piece (Elt Ideal) S696x256 .f32)) (P4 : Vec Ideal S8x256 .f32) (P5 : Vec Ideal S688x256 .f32)
    (inb8 : ∀ a, (![8, 0] : Fin 2 → ℕ) a + S688x256.size a ≤ S696x256.size a) (inb0 : ∀ a, (![0, 0] : Fin 2 → ℕ) a + S8x256.size a ≤ S696x256.size a)
    (n : Fin 696) (e : Fin 256) :
    View.canon (Val := Elt Ideal) (⟨Rect.unit (s := S696x256) ![8, 0] S688x256.size inb8, P5⟩ :: ⟨Rect.unit (s := S696x256) ![0, 0] S8x256.size inb0, P4⟩ :: L) (ix2 n e)
      = if h : n.val < 8 then P4 (ix2 ⟨n.val, h⟩ e) else P5 (ix2 ⟨n.val - 8, by omega⟩ e) := by
  by_cases h : n.val < 8
  · rw [dif_pos h, View.canon_cons_of_not_mem _ _ (by
      intro hm
      have := ((Rect.mem_set_unit (s := S696x256) (off := ![8, 0]) (size := S688x256.size) (inb := inb8)).1 hm 0).1
      simp at this; omega)]
    refine Eq.trans (congrArg _ ?_) (View.canon_cons_emb (Val := Elt Ideal) (s := S696x256) (e := .f32) (Rect.unit ![0, 0] S8x256.size inb0) P4 L (ix2 ⟨n.val, h⟩ e))
    funext a; refine Fin.ext ?_
    fin_cases a <;> simp
  · rw [dif_neg h]
    refine Eq.trans (congrArg _ ?_) (View.canon_cons_emb (Val := Elt Ideal) (s := S696x256) (e := .f32) (Rect.unit ![8, 0] S688x256.size inb8) P5 _ (ix2 ⟨n.val - 8, by omega⟩ e))
    funext a; refine Fin.ext ?_
    fin_cases a <;> simp
    omega

/-- The buffer holds the extended rows of the columns from `o`. -/
def Staged (xs : Vec Ideal S8x5632 .f32) (x0 : Vec Ideal S688x1024 .bf16) (x2 : Vec Ideal S1024x5632 .bf16) (o : ℕ) (H : List (View.Piece (Elt Ideal) S696x256 .f32)) : Prop :=
  ∀ (ho : o + 256 ≤ 5632) (n : Fin 696) (e : Fin 256), View.canon (Val := Elt Ideal) H (ix2 n e) = ext xs x0 x2 n ⟨o + e.val, by omega⟩

theorem staged_of (xs : Vec Ideal S8x5632 .f32) (x0 : Vec Ideal S688x1024 .bf16) (x2 : Vec Ideal S1024x5632 .bf16) (o : ℕ)
    {arg1 : Memref sig .tc .vmem S688x1024 .bf16} (harg1 : arg1.IsWhole) {arg3 : Memref sig .tc .vmem S1024x5632 .bf16} (harg3 : arg3.IsWhole)
    (L : List (View.Piece (Elt Ideal) S696x256 .f32)) (P4 : Vec Ideal S8x256 .f32)
    (inb1 : ∀ a, (![0, 0] : Fin 2 → ℕ) a + S688x1024.size a ≤ S688x1024.size a)
    (inb : ∀ a, (![0, o] : Fin 2 → ℕ) a + S1024x256.size a ≤ S1024x5632.size a)
    (inb8 : ∀ a, (![8, 0] : Fin 2 → ℕ) a + S688x256.size a ≤ S696x256.size a) (inb0 : ∀ a, (![0, 0] : Fin 2 → ℕ) a + S8x256.size a ≤ S696x256.size a)
    (h4 : ∀ (ho : o + 256 ≤ 5632) (n : Fin 8) (e : Fin 256), P4 (ix2 n e) = xs (ix2 n ⟨o + e.val, by omega⟩)) :
    Staged xs x0 x2 o (⟨Rect.unit (s := S696x256) ![8, 0] S688x256.size inb8, k0_pay5 (F := Ideal) (View.readAt (Elt Ideal) arg1.view (Rect.unit (s := S688x1024) ![0, 0] S688x1024.size inb1).toLoadRect (harg1.unread x0))
      (View.readAt (Elt Ideal) arg3.view (Rect.unit (s := S1024x5632) ![0, o] S1024x256.size inb).toLoadRect (harg3.unread x2))⟩
        :: ⟨Rect.unit (s := S696x256) ![0, 0] S8x256.size inb0, k0_pay4 P4⟩ :: L) := by
  intro ho n e
  rw [stage_at]
  unfold ext
  by_cases h : n.val < 8
  · rw [dif_pos h, dif_pos h, ← h4 ho]
    unfold k0_pay4
    pointwise
  · rw [dif_neg h, dif_neg h]
    have := up_at harg1 harg3 x0 x2 o inb1 inb ho ⟨n.val - 8, by omega⟩ e
    rw [← this]
    unfold k0_pay5
    generalize k0_pay3 (F := Ideal) _ _ = b
    pointwise

section
variable {xs : Vec Ideal S8x5632 .f32} {x0 : Vec Ideal S688x1024 .bf16} {x2 : Vec Ideal S1024x5632 .bf16} {o : ℕ} {H : List (View.Piece (Elt Ideal) S696x256 .f32)}
  (hH : Staged xs x0 x2 o H) (arg11 : Memref sig .tc .vmem S696x256 .f32)

include hH

theorem back_at (p : ℕ) (inb : ∀ a, (![p, 0] : Fin 2 → ℕ) a + S688x256.size a ≤ S696x256.size a) (hp : p ≤ 8) (ho : o + 256 ≤ 5632) (r : Fin 688) (e : Fin 256) :
    arg11.view.readCov (Val := Elt Ideal) H (Rect.unit (s := S696x256) ![p, 0] S688x256.size inb).toLoadRect (ix2 r e) = ext xs x0 x2 ⟨p + r.val, by omega⟩ ⟨o + e.val, by omega⟩ := by
  rw [View.readCov_eq_canon', ← hH ho]
  refine congrArg (View.canon H) ?_
  funext a; refine Fin.ext ?_
  fin_cases a <;> simp

theorem last_at (inb : ∀ a, (![688, 0] : Fin 2 → ℕ) a + S8x256.size a ≤ S696x256.size a) (ho : o + 256 ≤ 5632) (n : Fin 8) (e : Fin 256) :
    k0_pay6 (F := Ideal) (arg11.view.readCov (Val := Elt Ideal) H (Rect.unit (s := S696x256) ![688, 0] S8x256.size inb).toLoadRect) (ix2 n e)
      = uu x0 x2 ⟨680 + n.val, by omega⟩ ⟨o + e.val, by omega⟩ := by
  have h : ext xs x0 x2 ⟨688 + n.val, by omega⟩ ⟨o + e.val, by omega⟩ = uu x0 x2 ⟨680 + n.val, by omega⟩ ⟨o + e.val, by omega⟩ := by
    unfold ext
    rw [dif_neg (by simp; omega)]
    congr 1
    exact Fin.ext (by simp; omega)
  rw [← h, ← hH ho]
  unfold k0_pay6
  generalize hw : arg11.view.readCov (Val := Elt Ideal) H (Rect.unit (s := S696x256) ![688, 0] S8x256.size inb).toLoadRect = w
  pointwise
  subst hw
  rw [View.readCov_eq_canon']
  refine congrArg (View.canon H) ?_
  funext a; refine Fin.ext ?_
  fin_cases a <;> simp

theorem tail_at (inb : ∀ a, (![694, 0] : Fin 2 → ℕ) a + S2x256.size a ≤ S696x256.size a) (ho : o + 256 ≤ 5632) (n : Fin 2) (e : Fin 256) :
    k0_pay7 (F := Ideal) (arg11.view.readCov (Val := Elt Ideal) H (Rect.unit (s := S696x256) ![694, 0] S2x256.size inb).toLoadRect) (ix3 0 n e)
      = uu x0 x2 ⟨686 + n.val, by omega⟩ ⟨o + e.val, by omega⟩ := by
  have h : ext xs x0 x2 ⟨694 + n.val, by omega⟩ ⟨o + e.val, by omega⟩ = uu x0 x2 ⟨686 + n.val, by omega⟩ ⟨o + e.val, by omega⟩ := by
    unfold ext
    rw [dif_neg (by simp; omega)]
    congr 1
    exact Fin.ext (by simp; omega)
  rw [← h, ← hH ho]
  unfold k0_pay7
  generalize hw : arg11.view.readCov (Val := Elt Ideal) H (Rect.unit (s := S696x256) ![694, 0] S2x256.size inb).toLoadRect = w
  pointwise
  subst hw
  rw [View.readCov_eq_canon']
  refine congrArg (View.canon H) ?_
  funext a; refine Fin.ext ?_
  fin_cases a <;> simp

/-- The last eight rows of the columns from `o`, as a piece of the carried buffer. -/
theorem last_piece (inb : ∀ a, (![688, 0] : Fin 2 → ℕ) a + S8x256.size a ≤ S696x256.size a) (inbo : ∀ a, (![0, o] : Fin 2 → ℕ) a + S8x256.size a ≤ S8x5632.size a) (ho : o + 256 ≤ 5632)
    (y : (Rect.unit (s := S8x5632) ![0, o] S8x256.size inbo).shape.Idx) :
    k0_pay6 (F := Ideal) (arg11.view.readCov (Val := Elt Ideal) H (Rect.unit (s := S696x256) ![688, 0] S8x256.size inb).toLoadRect) y
      = (fun z : S8x5632.Idx => uu x0 x2 ⟨680 + (z 0).val, by have := (z 0).isLt; simp at this; omega⟩ (z 1)) ((Rect.unit (s := S8x5632) ![0, o] S8x256.size inbo).emb y) := by
  obtain ⟨n, e, rfl⟩ : ∃ (n : Fin 8) (e : Fin 256), y = ix2 n e := ⟨y 0, y 1, ValueIdx.eq_ix2 y⟩
  refine (last_at hH arg11 inb ho n e).trans ?_
  show uu x0 x2 _ _ = uu x0 x2 _ _
  congr 1 <;> exact Fin.ext (by simp)

/-- The last two rows of the columns from `o`, as a piece of the second output block. -/
theorem tail_piece (inb : ∀ a, (![694, 0] : Fin 2 → ℕ) a + S2x256.size a ≤ S696x256.size a) (inbo : ∀ a, (![0, 0, o] : Fin 3 → ℕ) a + S1x2x256.size a ≤ S1x2x5632.size a) (ho : o + 256 ≤ 5632)
    (y : (Rect.unit (s := S1x2x5632) ![0, 0, o] S1x2x256.size inbo).shape.Idx) :
    k0_pay7 (F := Ideal) (arg11.view.readCov (Val := Elt Ideal) H (Rect.unit (s := S696x256) ![694, 0] S2x256.size inb).toLoadRect) y
      = (fun z : S1x2x5632.Idx => uu x0 x2 ⟨686 + (z 1).val, by have := (z 1).isLt; simp at this; omega⟩ (z 2)) ((Rect.unit (s := S1x2x5632) ![0, 0, o] S1x2x256.size inbo).emb y) := by
  obtain ⟨b, n, e, rfl⟩ : ∃ (b : Fin 1) (n : Fin 2) (e : Fin 256), y = ix3 b n e := ⟨y 0, y 1, y 2, ValueIdx.eq_ix3 y⟩
  obtain rfl : b = 0 := Subsingleton.elim _ _
  refine (tail_at hH arg11 inb ho n e).trans ?_
  show uu x0 x2 _ _ = uu x0 x2 _ _
  congr 1 <;> exact Fin.ext (by simp)

end

/-! ### The activation of one column group -/

section
variable {xs : Vec Ideal S8x5632 .f32} (x0 : Vec Ideal S688x1024 .bf16) (x2 : Vec Ideal S1024x5632 .bf16) (x3 : Vec Ideal S3x5632 .f32) (x4 : Vec Ideal S1x5632 .f32)
  {arg1 : Memref sig .tc .vmem S688x1024 .bf16} (harg1 : arg1.IsWhole) {arg3 : Memref sig .tc .vmem S1024x5632 .bf16} (harg3 : arg3.IsWhole)
  {arg4 : Memref sig .tc .vmem S3x5632 .f32} (harg4 : arg4.IsWhole) {arg5 : Memref sig .tc .vmem S1x5632 .f32} (harg5 : arg5.IsWhole)
  (arg11 : Memref sig .tc .vmem S696x256 .f32)

/-- The convolution of the columns from `o`, as computed. -/
abbrev convK (o : ℕ) (H : List (View.Piece (Elt Ideal) S696x256 .f32))
    (inb1 : ∀ a, (![0, 0] : Fin 2 → ℕ) a + S688x1024.size a ≤ S688x1024.size a)
    (inb : ∀ a, (![0, o] : Fin 2 → ℕ) a + S1024x256.size a ≤ S1024x5632.size a)
    (inb6 : ∀ a, (![6, 0] : Fin 2 → ℕ) a + S688x256.size a ≤ S696x256.size a)
    (inb7 : ∀ a, (![7, 0] : Fin 2 → ℕ) a + S688x256.size a ≤ S696x256.size a)
    (inbb : ∀ a, (![0, o] : Fin 2 → ℕ) a + S1x256.size a ≤ S1x5632.size a)
    (inbw0 : ∀ a, (![0, o] : Fin 2 → ℕ) a + S1x256.size a ≤ S3x5632.size a)
    (inbw1 : ∀ a, (![1, o] : Fin 2 → ℕ) a + S1x256.size a ≤ S3x5632.size a)
    (inbw2 : ∀ a, (![2, o] : Fin 2 → ℕ) a + S1x256.size a ≤ S3x5632.size a) : FVec Ideal S688x256 .f32 :=
  k0_pay8 (F := Ideal) (k0_pay3 (View.readAt (Elt Ideal) arg1.view (Rect.unit (s := S688x1024) ![0, 0] S688x1024.size inb1).toLoadRect (harg1.unread x0))
      (View.readAt (Elt Ideal) arg3.view (Rect.unit (s := S1024x5632) ![0, o] S1024x256.size inb).toLoadRect (harg3.unread x2)))
    (arg11.view.readCov (Val := Elt Ideal) H (Rect.unit (s := S696x256) ![6, 0] S688x256.size inb6).toLoadRect)
    (arg11.view.readCov (Val := Elt Ideal) H (Rect.unit (s := S696x256) ![7, 0] S688x256.size inb7).toLoadRect)
    (View.readAt (Elt Ideal) arg5.view (Rect.unit (s := S1x5632) ![0, o] S1x256.size inbb).toLoadRect (harg5.unread x4))
    (View.readAt (Elt Ideal) arg4.view (Rect.unit (s := S3x5632) ![0, o] S1x256.size inbw0).toLoadRect (harg4.unread x3))
    (View.readAt (Elt Ideal) arg4.view (Rect.unit (s := S3x5632) ![1, o] S1x256.size inbw1).toLoadRect (harg4.unread x3))
    (View.readAt (Elt Ideal) arg4.view (Rect.unit (s := S3x5632) ![2, o] S1x256.size inbw2).toLoadRect (harg4.unread x3))

theorem conv_at (u p2 p1 : FVec Ideal S688x256 .f32) (b w0 w1 w2 : Vec Ideal S1x256 .f32) (r : Fin 688) (e : Fin 256) :
    k0_pay8 (F := Ideal) u p2 p1 b w0 w1 w2 (ix2 r e)
      = b (ix2 0 e) + p2 (ix2 r e) * w0 (ix2 0 e) + p1 (ix2 r e) * w1 (ix2 0 e) + u (ix2 r e) * w2 (ix2 0 e) := by
  unfold k0_pay8
  pointwise

theorem convK_at {o : ℕ} {H : List (View.Piece (Elt Ideal) S696x256 .f32)} (hH : Staged xs x0 x2 o H) (inb1 inb inb6 inb7 inbb inbw0 inbw1 inbw2)
    (ho : o + 256 ≤ 5632) (r : Fin 688) (e : Fin 256) :
    convK x0 x2 x3 x4 harg1 harg3 harg4 harg5 arg11 o H inb1 inb inb6 inb7 inbb inbw0 inbw1 inbw2 (ix2 r e) = cv xs x0 x2 x3 x4 r ⟨o + e.val, by omega⟩ := by
  have hu := up_at harg1 harg3 x0 x2 o inb1 inb ho r e
  have h6 := back_at hH arg11 6 inb6 (by omega) ho r e
  have h7 := back_at hH arg11 7 inb7 (by omega) ho r e
  have hb := col_b harg5 x4 o inbb ho e
  have h0 := col_w harg4 x3 0 o inbw0 ho e
  have h1 := col_w harg4 x3 1 o inbw1 ho e
  have h2 := col_w harg4 x3 2 o inbw2 ho e
  unfold convK cv
  refine (conv_at _ _ _ _ _ _ _ r e).trans ?_
  exact congrArg₂ (· + ·) (congrArg₂ (· + ·) (congrArg₂ (· + ·) hb (congrArg₂ (· * ·) h6 h0)) (congrArg₂ (· * ·) h7 h1)) (congrArg₂ (· * ·) hu h2)

/-- The gate, taken of the whole group. -/
def gateK (v : FVec Ideal S688x256 .f32) : FVec Ideal S688x256 .f32 :=
  mulf (mulf (broadcast S688x256 (Scalar.ofBits .f32 0x3F000000#32)) v)
    (addf (broadcast S688x256 (Scalar.ofBits .f32 0x3F800000#32))
      (tanh (mulf (broadcast S688x256 (Scalar.ofBits .f32 0x3F4C422A#32))
        (addf v (mulf (mulf (mulf (broadcast S688x256 (Scalar.ofBits .f32 0x3D372713#32)) v) v) v)))))

/-- The activation of one group: the gate times the value, as stored. -/
def actK (v g : FVec Ideal S688x256 .f32) : FVec Ideal S688x256 .bf16 :=
  shapeCast S688x256 (truncf .bf16 (mulf (gateK g) v) bitsLt_bf16_f32) shapeCasts_S688x256_S688x256

theorem actK_at (v g : FVec Ideal S688x256 .f32) (r : Fin 688) (e : Fin 256) : actK v g (ix2 r e) = gelu (g (ix2 r e)) * v (ix2 r e) := by
  unfold actK gateK gelu
  pointwise

theorem act_piece {o o' : ℕ} {v g : FVec Ideal S688x256 .f32} (ho : o + 256 ≤ 2816) (ho' : o' = 2816 + o)
    (hv : ∀ (r : Fin 688) (e : Fin 256), v (ix2 r e) = cv xs x0 x2 x3 x4 r ⟨o + e.val, by omega⟩)
    (hg : ∀ (r : Fin 688) (e : Fin 256), g (ix2 r e) = cv xs x0 x2 x3 x4 r ⟨o' + e.val, by omega⟩)
    (inbo : ∀ a, (![0, o] : Fin 2 → ℕ) a + S688x256.size a ≤ S688x2816.size a)
    (y : (Rect.unit (s := S688x2816) ![0, o] S688x256.size inbo).shape.Idx) :
    actK v g y = (fun z : S688x2816.Idx => act xs x0 x2 x3 x4 (z 0) (z 1)) ((Rect.unit (s := S688x2816) ![0, o] S688x256.size inbo).emb y) := by
  obtain ⟨r, e, rfl⟩ : ∃ (r : Fin 688) (e : Fin 256), y = ix2 r e := ⟨y 0, y 1, ValueIdx.eq_ix2 y⟩
  rw [actK_at, hv, hg]
  show _ = act xs x0 x2 x3 x4 _ _
  unfold act
  subst ho'
  refine congrArg₂ (fun a b => gelu a * b) ?_ ?_
  · congr 1 <;> exact Fin.ext (by simp; try omega)
  · congr 1 <;> exact Fin.ext (by simp; try omega)

end

/-! ### The down projection and the norm -/

theorem down_at (a0 : Vec Ideal S688x1536 .bf16) (a1 : Vec Ideal S688x1280 .bf16) (w0 : Vec Ideal S1536x1024 .bf16) (w1 : Vec Ideal S1280x1024 .bf16)
    (g : Vec Ideal S1x1024 .f32) (x : Vec Ideal S688x1024 .f32) (r : Fin 688) (d : Fin 1024) :
    k0_pay1 (F := Ideal) x (k0_pay157 (k0_pay87 a0 w0) a1 w1 g) (ix2 r d)
      = x (ix2 r d) + rms (fun e => (∑ k : Fin 1536, a0 (ix2 r k) * w0 (ix2 k e)) + ∑ k : Fin 1280, a1 (ix2 r k) * w1 (ix2 k e)) (fun e => g (ix2 0 e)) d := by
  have h : ∀ e : Fin 1024, k0_pay87 (F := Ideal) a0 w0 (ix2 r e) = ∑ k : Fin 1536, a0 (ix2 r k) * w0 (ix2 k e) := by
    intro e
    unfold k0_pay87
    pointwise
  simp only [← h]
  unfold k0_pay1 k0_pay157 rms
  generalize k0_pay87 (F := Ideal) a0 w0 = b
  pointwise

end Cert.Ffn

end
-- ==== Proof.Ffn.Piece.lean ====
/-
  The pieces a block of rows is stored in, put together: the activation's eleven column groups, the carried rows' twenty-two, and the output row.
-/
module

public import proofs.«01_k».proof.Proof.Ffn.Block

@[expose] public section

set_option maxRecDepth 16384

noncomputable section

namespace Cert.Ffn

open Cert.FfnIdeal Cert.FfnIdeal.Gen Cert.Rows
open Idealize.ShloMosaic

/-- No rows carried in: the first block of a sequence. -/
def zs : Vec Ideal S8x5632 .f32 := fun _ => 0

/-- The activations, as an array. -/
abbrev actG (xs : Vec Ideal S8x5632 .f32) (x0 : Vec Ideal S688x1024 .bf16) (x2 : Vec Ideal S1024x5632 .bf16) (x3 : Vec Ideal S3x5632 .f32) (x4 : Vec Ideal S1x5632 .f32) : S688x2816.Idx → EReal :=
  fun z => act xs x0 x2 x3 x4 (z 0) (z 1)

/-- The rows carried out, as an array. -/
abbrev lastG (x0 : Vec Ideal S688x1024 .bf16) (x2 : Vec Ideal S1024x5632 .bf16) : S8x5632.Idx → EReal :=
  fun z => uu x0 x2 ⟨680 + (z 0).val, by have := (z 0).isLt; simp at this; omega⟩ (z 1)

/-- The last two rows, as an array. -/
abbrev tailG (x0 : Vec Ideal S688x1024 .bf16) (x2 : Vec Ideal S1024x5632 .bf16) : S1x2x5632.Idx → EReal :=
  fun z => uu x0 x2 ⟨686 + (z 1).val, by have := (z 1).isLt; simp at this; omega⟩ (z 2)

theorem act_step (G : S688x2816.Idx → EReal) (o : ℕ) (inb : ∀ a, (![0, o] : Fin 2 → ℕ) a + S688x256.size a ≤ S688x2816.size a)
    (P : Vec Ideal S688x256 .bf16) (L : List (View.Piece (Elt Ideal) S688x2816 .bf16)) {Q : Prop} (y : S688x2816.Idx)
    (hP : ∀ x, P x = G ((Rect.unit (s := S688x2816) ![0, o] S688x256.size inb).emb x)) (hL : Q → View.canon (Val := Elt Ideal) L y = G y)
    (h : (o ≤ (y 1).val ∧ (y 1).val < o + 256) ∨ Q) :
    View.canon (Val := Elt Ideal) (⟨Rect.unit (s := S688x2816) ![0, o] S688x256.size inb, P⟩ :: L) y = G y := by
  by_cases h' : o ≤ (y 1).val ∧ (y 1).val < o + 256
  · have e : y = (Rect.unit (s := S688x2816) ![0, o] S688x256.size inb).emb (ix2 (y 0) ⟨(y 1).val - o, by omega⟩ : S688x256.Idx) := by
      funext a; refine Fin.ext ?_
      fin_cases a <;> simp
      all_goals omega
    rw [e]
    exact (View.canon_cons_emb (Val := Elt Ideal) (s := S688x2816) (e := .bf16) (Rect.unit (s := S688x2816) ![0, o] S688x256.size inb) P L _).trans (hP _)
  · refine (View.canon_cons_of_not_mem (Val := Elt Ideal) ⟨Rect.unit (s := S688x2816) ![0, o] S688x256.size inb, P⟩ L fun hm => h' ?_).trans (hL (h.resolve_left h'))
    have := (Rect.mem_set_unit (s := S688x2816) (off := ![0, o]) (size := S688x256.size) (inb := inb)).1 hm 1
    simpa using this

theorem last_step (G : S8x5632.Idx → EReal) (o : ℕ) (inb : ∀ a, (![0, o] : Fin 2 → ℕ) a + S8x256.size a ≤ S8x5632.size a)
    (P : Vec Ideal S8x256 .f32) (L : List (View.Piece (Elt Ideal) S8x5632 .f32)) {Q : Prop} (y : S8x5632.Idx)
    (hP : ∀ x, P x = G ((Rect.unit (s := S8x5632) ![0, o] S8x256.size inb).emb x)) (hL : Q → View.canon (Val := Elt Ideal) L y = G y)
    (h : (o ≤ (y 1).val ∧ (y 1).val < o + 256) ∨ Q) :
    View.canon (Val := Elt Ideal) (⟨Rect.unit (s := S8x5632) ![0, o] S8x256.size inb, P⟩ :: L) y = G y := by
  by_cases h' : o ≤ (y 1).val ∧ (y 1).val < o + 256
  · have e : y = (Rect.unit (s := S8x5632) ![0, o] S8x256.size inb).emb (ix2 (y 0) ⟨(y 1).val - o, by omega⟩ : S8x256.Idx) := by
      funext a; refine Fin.ext ?_
      fin_cases a <;> simp
      all_goals omega
    rw [e]
    exact (View.canon_cons_emb (Val := Elt Ideal) (s := S8x5632) (e := .f32) (Rect.unit (s := S8x5632) ![0, o] S8x256.size inb) P L _).trans (hP _)
  · refine (View.canon_cons_of_not_mem (Val := Elt Ideal) ⟨Rect.unit (s := S8x5632) ![0, o] S8x256.size inb, P⟩ L fun hm => h' ?_).trans (hL (h.resolve_left h'))
    have := (Rect.mem_set_unit (s := S8x5632) (off := ![0, o]) (size := S8x256.size) (inb := inb)).1 hm 1
    simpa using this

theorem tail_step (G : S1x2x5632.Idx → EReal) (o : ℕ) (inb : ∀ a, (![0, 0, o] : Fin 3 → ℕ) a + S1x2x256.size a ≤ S1x2x5632.size a)
    (P : Vec Ideal S1x2x256 .f32) (L : List (View.Piece (Elt Ideal) S1x2x5632 .f32)) {Q : Prop} (y : S1x2x5632.Idx)
    (hP : ∀ x, P x = G ((Rect.unit (s := S1x2x5632) ![0, 0, o] S1x2x256.size inb).emb x)) (hL : Q → View.canon (Val := Elt Ideal) L y = G y)
    (h : (o ≤ (y 2).val ∧ (y 2).val < o + 256) ∨ Q) :
    View.canon (Val := Elt Ideal) (⟨Rect.unit (s := S1x2x5632) ![0, 0, o] S1x2x256.size inb, P⟩ :: L) y = G y := by
  by_cases h' : o ≤ (y 2).val ∧ (y 2).val < o + 256
  · have e : y = (Rect.unit (s := S1x2x5632) ![0, 0, o] S1x2x256.size inb).emb (ix3 (y 0) (y 1) ⟨(y 2).val - o, by omega⟩ : S1x2x256.Idx) := by
      funext a; refine Fin.ext ?_
      fin_cases a <;> simp
      all_goals omega
    rw [e]
    exact (View.canon_cons_emb (Val := Elt Ideal) (s := S1x2x5632) (e := .f32) (Rect.unit (s := S1x2x5632) ![0, 0, o] S1x2x256.size inb) P L _).trans (hP _)
  · refine (View.canon_cons_of_not_mem (Val := Elt Ideal) ⟨Rect.unit (s := S1x2x5632) ![0, 0, o] S1x2x256.size inb, P⟩ L fun hm => h' ?_).trans (hL (h.resolve_left h'))
    have := (Rect.mem_set_unit (s := S1x2x5632) (off := ![0, 0, o]) (size := S1x2x256.size) (inb := inb)).1 hm 2
    simpa using this

/-! ### The output row -/

section
variable (xs : Vec Ideal S8x5632 .f32) (x0 : Vec Ideal S688x1024 .bf16) (x1 : Vec Ideal S688x1024 .f32) (x2 : Vec Ideal S1024x5632 .bf16) (x3 : Vec Ideal S3x5632 .f32) (x4 : Vec Ideal S1x5632 .f32)
  (x5 : Vec Ideal S2816x1024 .bf16) (x6 : Vec Ideal S1x1024 .f32)

/-- The output of one row: the row itself, plus the normalised down projection of its activations. -/
def yv (r : Fin 688) (d : Fin 1024) : EReal :=
  x1 (ix2 r d) + rms (fun e => ∑ j : Fin 2816, act xs x0 x2 x3 x4 r j * x5 (ix2 j e)) (fun e => x6 (ix2 0 e)) d

theorem row_dn {arg6 : Memref sig .tc .vmem S2816x1024 .bf16} (harg6 : arg6.IsWhole)
    (inb : ∀ a, (![0, 0] : Fin 2 → ℕ) a + S1536x1024.size a ≤ S2816x1024.size a) (k : Fin 1536) (e : Fin 1024) :
    View.readAt (Elt Ideal) arg6.view (Rect.unit (s := S2816x1024) ![0, 0] S1536x1024.size inb).toLoadRect (harg6.unread x5) (ix2 k e) = x5 (ix2 ⟨k.val, by omega⟩ e) := by
  rw [View.readAt_eq_ld, harg6.read_unread, View.ld]
  refine congrArg x5 ?_
  funext a; refine Fin.ext ?_
  fin_cases a <;> simp

theorem row_dn' {arg6 : Memref sig .tc .vmem S2816x1024 .bf16} (harg6 : arg6.IsWhole)
    (inb : ∀ a, (![1536, 0] : Fin 2 → ℕ) a + S1280x1024.size a ≤ S2816x1024.size a) (k : Fin 1280) (e : Fin 1024) :
    View.readAt (Elt Ideal) arg6.view (Rect.unit (s := S2816x1024) ![1536, 0] S1280x1024.size inb).toLoadRect (harg6.unread x5) (ix2 k e) = x5 (ix2 ⟨1536 + k.val, by omega⟩ e) := by
  rw [View.readAt_eq_ld, harg6.read_unread, View.ld]
  refine congrArg x5 ?_
  funext a; refine Fin.ext ?_
  fin_cases a <;> simp

theorem actlo_at (H : List (View.Piece (Elt Ideal) S688x2816 .bf16)) (arg10 : Memref sig .tc .vmem S688x2816 .bf16)
    (inb : ∀ a, (![0, 0] : Fin 2 → ℕ) a + S688x1536.size a ≤ S688x2816.size a)
    (hH : ∀ y : S688x2816.Idx, (y 1).val < 1536 → View.canon (Val := Elt Ideal) H y = actG xs x0 x2 x3 x4 y) (r : Fin 688) (k : Fin 1536) :
    arg10.view.readCov (Val := Elt Ideal) H (Rect.unit (s := S688x2816) ![0, 0] S688x1536.size inb).toLoadRect (ix2 r k) = act xs x0 x2 x3 x4 r ⟨k.val, by omega⟩ := by
  rw [View.readCov_eq_canon']
  have e : (Rect.unit (s := S688x2816) ![0, 0] S688x1536.size inb).toLoadRect.idx (ix2 r k) = ix2 r ⟨k.val, by omega⟩ := by
    funext a; refine Fin.ext ?_
    fin_cases a <;> simp
  exact (congrArg (View.canon H) e).trans (hH (ix2 r ⟨k.val, by omega⟩) k.isLt)

theorem acthi_at (H : List (View.Piece (Elt Ideal) S688x2816 .bf16)) (arg10 : Memref sig .tc .vmem S688x2816 .bf16)
    (inb : ∀ a, (![0, 1536] : Fin 2 → ℕ) a + S688x1280.size a ≤ S688x2816.size a)
    (hH : ∀ y : S688x2816.Idx, View.canon (Val := Elt Ideal) H y = actG xs x0 x2 x3 x4 y) (r : Fin 688) (k : Fin 1280) :
    arg10.view.readCov (Val := Elt Ideal) H (Rect.unit (s := S688x2816) ![0, 1536] S688x1280.size inb).toLoadRect (ix2 r k) = act xs x0 x2 x3 x4 r ⟨1536 + k.val, by omega⟩ := by
  rw [View.readCov_eq_canon']
  have e : (Rect.unit (s := S688x2816) ![0, 1536] S688x1280.size inb).toLoadRect.idx (ix2 r k) = ix2 r ⟨1536 + k.val, by omega⟩ := by
    funext a; refine Fin.ext ?_
    fin_cases a <;> simp
  exact (congrArg (View.canon H) e).trans (hH (ix2 r ⟨1536 + k.val, by omega⟩))

theorem y_of {arg2 : Memref sig .tc .vmem S688x1024 .f32} (harg2 : arg2.IsWhole) {arg6 : Memref sig .tc .vmem S2816x1024 .bf16} (harg6 : arg6.IsWhole)
    {arg7 : Memref sig .tc .vmem S1x1024 .f32} (harg7 : arg7.IsWhole)
    (H H' : List (View.Piece (Elt Ideal) S688x2816 .bf16)) (arg10 : Memref sig .tc .vmem S688x2816 .bf16)
    (inb inb' inbx inbg inbw inbw')
    (hH : ∀ y : S688x2816.Idx, (y 1).val < 1536 → View.canon (Val := Elt Ideal) H y = actG xs x0 x2 x3 x4 y)
    (hH' : ∀ y : S688x2816.Idx, View.canon (Val := Elt Ideal) H' y = actG xs x0 x2 x3 x4 y) (r : Fin 688) (d : Fin 1024) :
    k0_pay1 (F := Ideal) (View.readAt (Elt Ideal) arg2.view (Rect.unit (s := S688x1024) ![0, 0] S688x1024.size inbx).toLoadRect (harg2.unread x1))
      (k0_pay157 (k0_pay87 (arg10.view.readCov (Val := Elt Ideal) H (Rect.unit (s := S688x2816) ![0, 0] S688x1536.size inb).toLoadRect)
          (View.readAt (Elt Ideal) arg6.view (Rect.unit (s := S2816x1024) ![0, 0] S1536x1024.size inbw).toLoadRect (harg6.unread x5)))
        (arg10.view.readCov (Val := Elt Ideal) H' (Rect.unit (s := S688x2816) ![0, 1536] S688x1280.size inb').toLoadRect)
        (View.readAt (Elt Ideal) arg6.view (Rect.unit (s := S2816x1024) ![1536, 0] S1280x1024.size inbw').toLoadRect (harg6.unread x5))
        (View.readAt (Elt Ideal) arg7.view (Rect.unit (s := S1x1024) ![0, 0] S1x1024.size inbg).toLoadRect (harg7.unread x6))) (ix2 r d)
      = yv xs x0 x1 x2 x3 x4 x5 x6 r d := by
  refine (down_at _ _ _ _ _ _ r d).trans ?_
  have h1 : View.readAt (Elt Ideal) arg2.view (Rect.unit (s := S688x1024) ![0, 0] S688x1024.size inbx).toLoadRect (harg2.unread x1) = x1 := by
    rw [View.readAt_eq_ld, harg2.read_unread, View.ld_unit_lit _ _ (by decide)]
  have h2 : View.readAt (Elt Ideal) arg7.view (Rect.unit (s := S1x1024) ![0, 0] S1x1024.size inbg).toLoadRect (harg7.unread x6) = x6 := by
    rw [View.readAt_eq_ld, harg7.read_unread, View.ld_unit_lit _ _ (by decide)]
  rw [h1, h2]
  unfold yv
  refine congrArg (fun q => x1 (ix2 r d) + rms q (fun e => x6 (ix2 0 e)) d) ?_
  funext e
  refine Eq.trans ?_ (Fin.sum_univ_add (M := EReal) (a := 1536) (b := 1280) (fun j => act xs x0 x2 x3 x4 r j * x5 (ix2 j e))).symm
  refine congrArg₂ (· + ·) (Finset.sum_congr rfl fun k _ => ?_) (Finset.sum_congr rfl fun k _ => ?_)
  · exact congrArg₂ (· * ·) (actlo_at xs x0 x2 x3 x4 H arg10 inb hH r k) (row_dn x5 harg6 inbw k e)
  · exact congrArg₂ (· * ·) (acthi_at xs x0 x2 x3 x4 H' arg10 inb' hH' r k) (row_dn' x5 harg6 inbw' k e)

end

end Cert.Ffn

end
-- ==== Proof.Ffn.StageA.lean ====
/-
  One run of the network's body on a block of rows, the first block of a sequence: the column groups as they are staged.
-/
module

public import proofs.«01_k».proof.Proof.Ffn.Piece
public import proofs.«01_k».proof.Proof.Gen.FfnIdeal.Frame

@[expose] public section

set_option maxRecDepth 16384

noncomputable section

namespace Cert.Ffn.RunA

open Cert.FfnIdeal Cert.FfnIdeal.Gen Cert.Rows
open Idealize.ShloMosaic

variable {c : Dev nD} {arg1 : Memref sig .tc .vmem S688x1024 .bf16} (harg1 : arg1.IsWhole) {arg3 : Memref sig .tc .vmem S1024x5632 .bf16} (harg3 : arg3.IsWhole) {arg11 : Memref sig .tc .vmem S696x256 .f32} {arg12 : Memref sig .tc .vmem S8x5632 .f32} (x0 : Vec Ideal S688x1024 .bf16) (x2 : Vec Ideal S1024x5632 .bf16)
include c arg1 harg1 arg3 harg3 arg11 arg12 x0 x2

theorem carry_0 (n : Fin 8) (e : Fin 256) : (kernelRun0_A.sl.v17 (F := Ideal) c arg12) (ix2 n e) = (0 : EReal) := by
  unfold kernelRun0_A.sl.v17
  repeat refine (congrFun (View.readCov_skip _ _ _ _ _ rfl) _).trans ?_
  refine (congrFun (View.readCov_fill _ _ _ _ _ (by decide)) _).trans ?_
  unfold k0_pay2
  exact Ideal.ofBits_zero_f32

theorem st_0 : Staged zs x0 x2 0 (kernelRun0_A.sl.HS1_2 (F := Ideal) c arg1 harg1 arg3 harg3 arg12 x0 x2) := by
  unfold kernelRun0_A.sl.HS1_2
  exact staged_of zs x0 x2 0 harg1 harg3 _ (kernelRun0_A.sl.v17 (F := Ideal) c arg12) _ _ _ _ (fun _ n e => carry_0 (c := c) harg1 harg3 (arg11 := arg11) (arg12 := arg12) x0 x2 n e)

theorem carry_1 (n : Fin 8) (e : Fin 256) : (kernelRun0_A.sl.v52 (F := Ideal) c arg1 harg1 arg3 harg3 arg11 arg12 x0 x2) (ix2 n e) = (0 : EReal) := by
  unfold kernelRun0_A.sl.v52
  repeat refine (congrFun (View.readCov_skip _ _ _ _ _ rfl) _).trans ?_
  refine (congrFun (View.readCov_fill _ _ _ _ _ (by decide)) _).trans ?_
  unfold k0_pay2
  exact Ideal.ofBits_zero_f32

theorem st_1 : Staged zs x0 x2 2816 (kernelRun0_A.sl.HS1_4 (F := Ideal) c arg1 harg1 arg3 harg3 arg11 arg12 x0 x2) := by
  unfold kernelRun0_A.sl.HS1_4
  exact staged_of zs x0 x2 2816 harg1 harg3 _ (kernelRun0_A.sl.v52 (F := Ideal) c arg1 harg1 arg3 harg3 arg11 arg12 x0 x2) _ _ _ _ (fun _ n e => carry_1 (c := c) harg1 harg3 (arg11 := arg11) (arg12 := arg12) x0 x2 n e)

theorem carry_2 (n : Fin 8) (e : Fin 256) : (kernelRun0_A.sl.v105 (F := Ideal) c arg1 harg1 arg3 harg3 arg11 arg12 x0 x2) (ix2 n e) = (0 : EReal) := by
  unfold kernelRun0_A.sl.v105
  repeat refine (congrFun (View.readCov_skip _ _ _ _ _ rfl) _).trans ?_
  refine (congrFun (View.readCov_fill _ _ _ _ _ (by decide)) _).trans ?_
  unfold k0_pay2
  exact Ideal.ofBits_zero_f32

theorem st_2 : Staged zs x0 x2 256 (kernelRun0_A.sl.HS1_6 (F := Ideal) c arg1 harg1 arg3 harg3 arg11 arg12 x0 x2) := by
  unfold kernelRun0_A.sl.HS1_6
  exact staged_of zs x0 x2 256 harg1 harg3 _ (kernelRun0_A.sl.v105 (F := Ideal) c arg1 harg1 arg3 harg3 arg11 arg12 x0 x2) _ _ _ _ (fun _ n e => carry_2 (c := c) harg1 harg3 (arg11 := arg11) (arg12 := arg12) x0 x2 n e)

theorem carry_3 (n : Fin 8) (e : Fin 256) : (kernelRun0_A.sl.v140 (F := Ideal) c arg1 harg1 arg3 harg3 arg11 arg12 x0 x2) (ix2 n e) = (0 : EReal) := by
  unfold kernelRun0_A.sl.v140
  repeat refine (congrFun (View.readCov_skip _ _ _ _ _ rfl) _).trans ?_
  refine (congrFun (View.readCov_fill _ _ _ _ _ (by decide)) _).trans ?_
  unfold k0_pay2
  exact Ideal.ofBits_zero_f32

theorem st_3 : Staged zs x0 x2 3072 (kernelRun0_A.sl.HS1_8 (F := Ideal) c arg1 harg1 arg3 harg3 arg11 arg12 x0 x2) := by
  unfold kernelRun0_A.sl.HS1_8
  exact staged_of zs x0 x2 3072 harg1 harg3 _ (kernelRun0_A.sl.v140 (F := Ideal) c arg1 harg1 arg3 harg3 arg11 arg12 x0 x2) _ _ _ _ (fun _ n e => carry_3 (c := c) harg1 harg3 (arg11 := arg11) (arg12 := arg12) x0 x2 n e)

theorem carry_4 (n : Fin 8) (e : Fin 256) : (kernelRun0_A.sl.v193 (F := Ideal) c arg1 harg1 arg3 harg3 arg11 arg12 x0 x2) (ix2 n e) = (0 : EReal) := by
  unfold kernelRun0_A.sl.v193
  repeat refine (congrFun (View.readCov_skip _ _ _ _ _ rfl) _).trans ?_
  refine (congrFun (View.readCov_fill _ _ _ _ _ (by decide)) _).trans ?_
  unfold k0_pay2
  exact Ideal.ofBits_zero_f32

theorem st_4 : Staged zs x0 x2 512 (kernelRun0_A.sl.HS1_10 (F := Ideal) c arg1 harg1 arg3 harg3 arg11 arg12 x0 x2) := by
  unfold kernelRun0_A.sl.HS1_10
  exact staged_of zs x0 x2 512 harg1 harg3 _ (kernelRun0_A.sl.v193 (F := Ideal) c arg1 harg1 arg3 harg3 arg11 arg12 x0 x2) _ _ _ _ (fun _ n e => carry_4 (c := c) harg1 harg3 (arg11 := arg11) (arg12 := arg12) x0 x2 n e)

theorem carry_5 (n : Fin 8) (e : Fin 256) : (kernelRun0_A.sl.v228 (F := Ideal) c arg1 harg1 arg3 harg3 arg11 arg12 x0 x2) (ix2 n e) = (0 : EReal) := by
  unfold kernelRun0_A.sl.v228
  repeat refine (congrFun (View.readCov_skip _ _ _ _ _ rfl) _).trans ?_
  refine (congrFun (View.readCov_fill _ _ _ _ _ (by decide)) _).trans ?_
  unfold k0_pay2
  exact Ideal.ofBits_zero_f32

theorem st_5 : Staged zs x0 x2 3328 (kernelRun0_A.sl.HS1_12 (F := Ideal) c arg1 harg1 arg3 harg3 arg11 arg12 x0 x2) := by
  unfold kernelRun0_A.sl.HS1_12
  exact staged_of zs x0 x2 3328 harg1 harg3 _ (kernelRun0_A.sl.v228 (F := Ideal) c arg1 harg1 arg3 harg3 arg11 arg12 x0 x2) _ _ _ _ (fun _ n e => carry_5 (c := c) harg1 harg3 (arg11 := arg11) (arg12 := arg12) x0 x2 n e)

theorem carry_6 (n : Fin 8) (e : Fin 256) : (kernelRun0_A.sl.v281 (F := Ideal) c arg1 harg1 arg3 harg3 arg11 arg12 x0 x2) (ix2 n e) = (0 : EReal) := by
  unfold kernelRun0_A.sl.v281
  repeat refine (congrFun (View.readCov_skip _ _ _ _ _ rfl) _).trans ?_
  refine (congrFun (View.readCov_fill _ _ _ _ _ (by decide)) _).trans ?_
  unfold k0_pay2
  exact Ideal.ofBits_zero_f32

theorem st_6 : Staged zs x0 x2 768 (kernelRun0_A.sl.HS1_14 (F := Ideal) c arg1 harg1 arg3 harg3 arg11 arg12 x0 x2) := by
  unfold kernelRun0_A.sl.HS1_14
  exact staged_of zs x0 x2 768 harg1 harg3 _ (kernelRun0_A.sl.v281 (F := Ideal) c arg1 harg1 arg3 harg3 arg11 arg12 x0 x2) _ _ _ _ (fun _ n e => carry_6 (c := c) harg1 harg3 (arg11 := arg11) (arg12 := arg12) x0 x2 n e)

theorem carry_7 (n : Fin 8) (e : Fin 256) : (kernelRun0_A.sl.v316 (F := Ideal) c arg1 harg1 arg3 harg3 arg11 arg12 x0 x2) (ix2 n e) = (0 : EReal) := by
  unfold kernelRun0_A.sl.v316
  repeat refine (congrFun (View.readCov_skip _ _ _ _ _ rfl) _).trans ?_
  refine (congrFun (View.readCov_fill _ _ _ _ _ (by decide)) _).trans ?_
  unfold k0_pay2
  exact Ideal.ofBits_zero_f32

theorem st_7 : Staged zs x0 x2 3584 (kernelRun0_A.sl.HS1_16 (F := Ideal) c arg1 harg1 arg3 harg3 arg11 arg12 x0 x2) := by
  unfold kernelRun0_A.sl.HS1_16
  exact staged_of zs x0 x2 3584 harg1 harg3 _ (kernelRun0_A.sl.v316 (F := Ideal) c arg1 harg1 arg3 harg3 arg11 arg12 x0 x2) _ _ _ _ (fun _ n e => carry_7 (c := c) harg1 harg3 (arg11 := arg11) (arg12 := arg12) x0 x2 n e)

theorem carry_8 (n : Fin 8) (e : Fin 256) : (kernelRun0_A.sl.v369 (F := Ideal) c arg1 harg1 arg3 harg3 arg11 arg12 x0 x2) (ix2 n e) = (0 : EReal) := by
  unfold kernelRun0_A.sl.v369
  repeat refine (congrFun (View.readCov_skip _ _ _ _ _ rfl) _).trans ?_
  refine (congrFun (View.readCov_fill _ _ _ _ _ (by decide)) _).trans ?_
  unfold k0_pay2
  exact Ideal.ofBits_zero_f32

theorem st_8 : Staged zs x0 x2 1024 (kernelRun0_A.sl.HS1_18 (F := Ideal) c arg1 harg1 arg3 harg3 arg11 arg12 x0 x2) := by
  unfold kernelRun0_A.sl.HS1_18
  exact staged_of zs x0 x2 1024 harg1 harg3 _ (kernelRun0_A.sl.v369 (F := Ideal) c arg1 harg1 arg3 harg3 arg11 arg12 x0 x2) _ _ _ _ (fun _ n e => carry_8 (c := c) harg1 harg3 (arg11 := arg11) (arg12 := arg12) x0 x2 n e)

theorem carry_9 (n : Fin 8) (e : Fin 256) : (kernelRun0_A.sl.v404 (F := Ideal) c arg1 harg1 arg3 harg3 arg11 arg12 x0 x2) (ix2 n e) = (0 : EReal) := by
  unfold kernelRun0_A.sl.v404
  repeat refine (congrFun (View.readCov_skip _ _ _ _ _ rfl) _).trans ?_
  refine (congrFun (View.readCov_fill _ _ _ _ _ (by decide)) _).trans ?_
  unfold k0_pay2
  exact Ideal.ofBits_zero_f32

theorem st_9 : Staged zs x0 x2 3840 (kernelRun0_A.sl.HS1_20 (F := Ideal) c arg1 harg1 arg3 harg3 arg11 arg12 x0 x2) := by
  unfold kernelRun0_A.sl.HS1_20
  exact staged_of zs x0 x2 3840 harg1 harg3 _ (kernelRun0_A.sl.v404 (F := Ideal) c arg1 harg1 arg3 harg3 arg11 arg12 x0 x2) _ _ _ _ (fun _ n e => carry_9 (c := c) harg1 harg3 (arg11 := arg11) (arg12 := arg12) x0 x2 n e)

theorem carry_10 (n : Fin 8) (e : Fin 256) : (kernelRun0_A.sl.v457 (F := Ideal) c arg1 harg1 arg3 harg3 arg11 arg12 x0 x2) (ix2 n e) = (0 : EReal) := by
  unfold kernelRun0_A.sl.v457
  repeat refine (congrFun (View.readCov_skip _ _ _ _ _ rfl) _).trans ?_
  refine (congrFun (View.readCov_fill _ _ _ _ _ (by decide)) _).trans ?_
  unfold k0_pay2
  exact Ideal.ofBits_zero_f32

theorem st_10 : Staged zs x0 x2 1280 (kernelRun0_A.sl.HS1_22 (F := Ideal) c arg1 harg1 arg3 harg3 arg11 arg12 x0 x2) := by
  unfold kernelRun0_A.sl.HS1_22
  exact staged_of zs x0 x2 1280 harg1 harg3 _ (kernelRun0_A.sl.v457 (F := Ideal) c arg1 harg1 arg3 harg3 arg11 arg12 x0 x2) _ _ _ _ (fun _ n e => carry_10 (c := c) harg1 harg3 (arg11 := arg11) (arg12 := arg12) x0 x2 n e)

theorem carry_11 (n : Fin 8) (e : Fin 256) : (kernelRun0_A.sl.v492 (F := Ideal) c arg1 harg1 arg3 harg3 arg11 arg12 x0 x2) (ix2 n e) = (0 : EReal) := by
  unfold kernelRun0_A.sl.v492
  repeat refine (congrFun (View.readCov_skip _ _ _ _ _ rfl) _).trans ?_
  refine (congrFun (View.readCov_fill _ _ _ _ _ (by decide)) _).trans ?_
  unfold k0_pay2
  exact Ideal.ofBits_zero_f32

theorem st_11 : Staged zs x0 x2 4096 (kernelRun0_A.sl.HS1_24 (F := Ideal) c arg1 harg1 arg3 harg3 arg11 arg12 x0 x2) := by
  unfold kernelRun0_A.sl.HS1_24
  exact staged_of zs x0 x2 4096 harg1 harg3 _ (kernelRun0_A.sl.v492 (F := Ideal) c arg1 harg1 arg3 harg3 arg11 arg12 x0 x2) _ _ _ _ (fun _ n e => carry_11 (c := c) harg1 harg3 (arg11 := arg11) (arg12 := arg12) x0 x2 n e)

theorem carry_12 (n : Fin 8) (e : Fin 256) : (kernelRun0_A.sl.v549 (F := Ideal) c arg1 harg1 arg3 harg3 arg11 arg12 x0 x2) (ix2 n e) = (0 : EReal) := by
  unfold kernelRun0_A.sl.v549
  repeat refine (congrFun (View.readCov_skip _ _ _ _ _ rfl) _).trans ?_
  refine (congrFun (View.readCov_fill _ _ _ _ _ (by decide)) _).trans ?_
  unfold k0_pay2
  exact Ideal.ofBits_zero_f32

theorem st_12 : Staged zs x0 x2 1536 (kernelRun0_A.sl.HS1_26 (F := Ideal) c arg1 harg1 arg3 harg3 arg11 arg12 x0 x2) := by
  unfold kernelRun0_A.sl.HS1_26
  exact staged_of zs x0 x2 1536 harg1 harg3 _ (kernelRun0_A.sl.v549 (F := Ideal) c arg1 harg1 arg3 harg3 arg11 arg12 x0 x2) _ _ _ _ (fun _ n e => carry_12 (c := c) harg1 harg3 (arg11 := arg11) (arg12 := arg12) x0 x2 n e)

theorem carry_13 (n : Fin 8) (e : Fin 256) : (kernelRun0_A.sl.v584 (F := Ideal) c arg1 harg1 arg3 harg3 arg11 arg12 x0 x2) (ix2 n e) = (0 : EReal) := by
  unfold kernelRun0_A.sl.v584
  repeat refine (congrFun (View.readCov_skip _ _ _ _ _ rfl) _).trans ?_
  refine (congrFun (View.readCov_fill _ _ _ _ _ (by decide)) _).trans ?_
  unfold k0_pay2
  exact Ideal.ofBits_zero_f32

theorem st_13 : Staged zs x0 x2 4352 (kernelRun0_A.sl.HS1_28 (F := Ideal) c arg1 harg1 arg3 harg3 arg11 arg12 x0 x2) := by
  unfold kernelRun0_A.sl.HS1_28
  exact staged_of zs x0 x2 4352 harg1 harg3 _ (kernelRun0_A.sl.v584 (F := Ideal) c arg1 harg1 arg3 harg3 arg11 arg12 x0 x2) _ _ _ _ (fun _ n e => carry_13 (c := c) harg1 harg3 (arg11 := arg11) (arg12 := arg12) x0 x2 n e)

theorem carry_14 (n : Fin 8) (e : Fin 256) : (kernelRun0_A.sl.v637 (F := Ideal) c arg1 harg1 arg3 harg3 arg11 arg12 x0 x2) (ix2 n e) = (0 : EReal) := by
  unfold kernelRun0_A.sl.v637
  repeat refine (congrFun (View.readCov_skip _ _ _ _ _ rfl) _).trans ?_
  refine (congrFun (View.readCov_fill _ _ _ _ _ (by decide)) _).trans ?_
  unfold k0_pay2
  exact Ideal.ofBits_zero_f32

theorem st_14 : Staged zs x0 x2 1792 (kernelRun0_A.sl.HS1_30 (F := Ideal) c arg1 harg1 arg3 harg3 arg11 arg12 x0 x2) := by
  unfold kernelRun0_A.sl.HS1_30
  exact staged_of zs x0 x2 1792 harg1 harg3 _ (kernelRun0_A.sl.v637 (F := Ideal) c arg1 harg1 arg3 harg3 arg11 arg12 x0 x2) _ _ _ _ (fun _ n e => carry_14 (c := c) harg1 harg3 (arg11 := arg11) (arg12 := arg12) x0 x2 n e)

theorem carry_15 (n : Fin 8) (e : Fin 256) : (kernelRun0_A.sl.v672 (F := Ideal) c arg1 harg1 arg3 harg3 arg11 arg12 x0 x2) (ix2 n e) = (0 : EReal) := by
  unfold kernelRun0_A.sl.v672
  repeat refine (congrFun (View.readCov_skip _ _ _ _ _ rfl) _).trans ?_
  refine (congrFun (View.readCov_fill _ _ _ _ _ (by decide)) _).trans ?_
  unfold k0_pay2
  exact Ideal.ofBits_zero_f32

theorem st_15 : Staged zs x0 x2 4608 (kernelRun0_A.sl.HS1_32 (F := Ideal) c arg1 harg1 arg3 harg3 arg11 arg12 x0 x2) := by
  unfold kernelRun0_A.sl.HS1_32
  exact staged_of zs x0 x2 4608 harg1 harg3 _ (kernelRun0_A.sl.v672 (F := Ideal) c arg1 harg1 arg3 harg3 arg11 arg12 x0 x2) _ _ _ _ (fun _ n e => carry_15 (c := c) harg1 harg3 (arg11 := arg11) (arg12 := arg12) x0 x2 n e)

theorem carry_16 (n : Fin 8) (e : Fin 256) : (kernelRun0_A.sl.v725 (F := Ideal) c arg1 harg1 arg3 harg3 arg11 arg12 x0 x2) (ix2 n e) = (0 : EReal) := by
  unfold kernelRun0_A.sl.v725
  repeat refine (congrFun (View.readCov_skip _ _ _ _ _ rfl) _).trans ?_
  refine (congrFun (View.readCov_fill _ _ _ _ _ (by decide)) _).trans ?_
  unfold k0_pay2
  exact Ideal.ofBits_zero_f32

theorem st_16 : Staged zs x0 x2 2048 (kernelRun0_A.sl.HS1_34 (F := Ideal) c arg1 harg1 arg3 harg3 arg11 arg12 x0 x2) := by
  unfold kernelRun0_A.sl.HS1_34
  exact staged_of zs x0 x2 2048 harg1 harg3 _ (kernelRun0_A.sl.v725 (F := Ideal) c arg1 harg1 arg3 harg3 arg11 arg12 x0 x2) _ _ _ _ (fun _ n e => carry_16 (c := c) harg1 harg3 (arg11 := arg11) (arg12 := arg12) x0 x2 n e)

theorem carry_17 (n : Fin 8) (e : Fin 256) : (kernelRun0_A.sl.v760 (F := Ideal) c arg1 harg1 arg3 harg3 arg11 arg12 x0 x2) (ix2 n e) = (0 : EReal) := by
  unfold kernelRun0_A.sl.v760
  repeat refine (congrFun (View.readCov_skip _ _ _ _ _ rfl) _).trans ?_
  refine (congrFun (View.readCov_fill _ _ _ _ _ (by decide)) _).trans ?_
  unfold k0_pay2
  exact Ideal.ofBits_zero_f32

theorem st_17 : Staged zs x0 x2 4864 (kernelRun0_A.sl.HS1_36 (F := Ideal) c arg1 harg1 arg3 harg3 arg11 arg12 x0 x2) := by
  unfold kernelRun0_A.sl.HS1_36
  exact staged_of zs x0 x2 4864 harg1 harg3 _ (kernelRun0_A.sl.v760 (F := Ideal) c arg1 harg1 arg3 harg3 arg11 arg12 x0 x2) _ _ _ _ (fun _ n e => carry_17 (c := c) harg1 harg3 (arg11 := arg11) (arg12 := arg12) x0 x2 n e)

theorem carry_18 (n : Fin 8) (e : Fin 256) : (kernelRun0_A.sl.v813 (F := Ideal) c arg1 harg1 arg3 harg3 arg11 arg12 x0 x2) (ix2 n e) = (0 : EReal) := by
  unfold kernelRun0_A.sl.v813
  repeat refine (congrFun (View.readCov_skip _ _ _ _ _ rfl) _).trans ?_
  refine (congrFun (View.readCov_fill _ _ _ _ _ (by decide)) _).trans ?_
  unfold k0_pay2
  exact Ideal.ofBits_zero_f32

theorem st_18 : Staged zs x0 x2 2304 (kernelRun0_A.sl.HS1_38 (F := Ideal) c arg1 harg1 arg3 harg3 arg11 arg12 x0 x2) := by
  unfold kernelRun0_A.sl.HS1_38
  exact staged_of zs x0 x2 2304 harg1 harg3 _ (kernelRun0_A.sl.v813 (F := Ideal) c arg1 harg1 arg3 harg3 arg11 arg12 x0 x2) _ _ _ _ (fun _ n e => carry_18 (c := c) harg1 harg3 (arg11 := arg11) (arg12 := arg12) x0 x2 n e)

theorem carry_19 (n : Fin 8) (e : Fin 256) : (kernelRun0_A.sl.v848 (F := Ideal) c arg1 harg1 arg3 harg3 arg11 arg12 x0 x2) (ix2 n e) = (0 : EReal) := by
  unfold kernelRun0_A.sl.v848
  repeat refine (congrFun (View.readCov_skip _ _ _ _ _ rfl) _).trans ?_
  refine (congrFun (View.readCov_fill _ _ _ _ _ (by decide)) _).trans ?_
  unfold k0_pay2
  exact Ideal.ofBits_zero_f32

theorem st_19 : Staged zs x0 x2 5120 (kernelRun0_A.sl.HS1_40 (F := Ideal) c arg1 harg1 arg3 harg3 arg11 arg12 x0 x2) := by
  unfold kernelRun0_A.sl.HS1_40
  exact staged_of zs x0 x2 5120 harg1 harg3 _ (kernelRun0_A.sl.v848 (F := Ideal) c arg1 harg1 arg3 harg3 arg11 arg12 x0 x2) _ _ _ _ (fun _ n e => carry_19 (c := c) harg1 harg3 (arg11 := arg11) (arg12 := arg12) x0 x2 n e)

theorem carry_20 (n : Fin 8) (e : Fin 256) : (kernelRun0_A.sl.v901 (F := Ideal) c arg1 harg1 arg3 harg3 arg11 arg12 x0 x2) (ix2 n e) = (0 : EReal) := by
  unfold kernelRun0_A.sl.v901
  repeat refine (congrFun (View.readCov_skip _ _ _ _ _ rfl) _).trans ?_
  refine (congrFun (View.readCov_fill _ _ _ _ _ (by decide)) _).trans ?_
  unfold k0_pay2
  exact Ideal.ofBits_zero_f32

theorem st_20 : Staged zs x0 x2 2560 (kernelRun0_A.sl.HS1_42 (F := Ideal) c arg1 harg1 arg3 harg3 arg11 arg12 x0 x2) := by
  unfold kernelRun0_A.sl.HS1_42
  exact staged_of zs x0 x2 2560 harg1 harg3 _ (kernelRun0_A.sl.v901 (F := Ideal) c arg1 harg1 arg3 harg3 arg11 arg12 x0 x2) _ _ _ _ (fun _ n e => carry_20 (c := c) harg1 harg3 (arg11 := arg11) (arg12 := arg12) x0 x2 n e)

theorem carry_21 (n : Fin 8) (e : Fin 256) : (kernelRun0_A.sl.v936 (F := Ideal) c arg1 harg1 arg3 harg3 arg11 arg12 x0 x2) (ix2 n e) = (0 : EReal) := by
  unfold kernelRun0_A.sl.v936
  repeat refine (congrFun (View.readCov_skip _ _ _ _ _ rfl) _).trans ?_
  refine (congrFun (View.readCov_fill _ _ _ _ _ (by decide)) _).trans ?_
  unfold k0_pay2
  exact Ideal.ofBits_zero_f32

theorem st_21 : Staged zs x0 x2 5376 (kernelRun0_A.sl.HS1_44 (F := Ideal) c arg1 harg1 arg3 harg3 arg11 arg12 x0 x2) := by
  unfold kernelRun0_A.sl.HS1_44
  exact staged_of zs x0 x2 5376 harg1 harg3 _ (kernelRun0_A.sl.v936 (F := Ideal) c arg1 harg1 arg3 harg3 arg11 arg12 x0 x2) _ _ _ _ (fun _ n e => carry_21 (c := c) harg1 harg3 (arg11 := arg11) (arg12 := arg12) x0 x2 n e)

end Cert.Ffn.RunA

end
-- ==== Proof.Ffn.OutA.lean ====
/-
  One run of the network's body on a block of rows, the first block of a sequence: what it leaves in its outputs and in the carried buffer.
-/
module

public import proofs.«01_k».proof.Proof.Ffn.StageA

@[expose] public section

set_option maxRecDepth 16384

noncomputable section

namespace Cert.Ffn.RunA

open Cert.FfnIdeal Cert.FfnIdeal.Gen Cert.Rows
open Idealize.ShloMosaic

theorem lo_at (c : Dev nD) (arg1 : Memref sig .tc .vmem S688x1024 .bf16) (harg1 : arg1.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg11 : Memref sig .tc .vmem S696x256 .f32) (arg12 : Memref sig .tc .vmem S8x5632 .f32)  (x0 : Vec Ideal S688x1024 .bf16) (x2 : Vec Ideal S1024x5632 .bf16) (x3 : Vec Ideal S3x5632 .f32) (x4 : Vec Ideal S1x5632 .f32)  (y : S688x2816.Idx) (hy : (y 1).val < 1536) :
    View.canon (Val := Elt Ideal) (kernelRun0_A.sl.HS0_6 (F := Ideal) c arg1 harg1 arg3 harg3 arg4 harg4 arg5 harg5 arg11 arg12 x0 x2 x3 x4) y = actG zs x0 x2 x3 x4 y := by
  unfold kernelRun0_A.sl.HS0_6
  refine act_step (actG zs x0 x2 x3 x4) 1280 _ _ _ y
    (fun x => act_piece (xs := zs) x0 x2 x3 x4 (o := 1280) (o' := 4096) (by norm_num) (by norm_num) (fun r e => convK_at (xs := zs) x0 x2 x3 x4 harg1 harg3 harg4 harg5 arg11 (st_10 harg1 harg3 (arg11 := arg11) x0 x2) _ _ _ _ _ _ _ _ (by norm_num) r e) (fun r e => convK_at (xs := zs) x0 x2 x3 x4 harg1 harg3 harg4 harg5 arg11 (st_11 harg1 harg3 (arg11 := arg11) x0 x2) _ _ _ _ _ _ _ _ (by norm_num) r e) _ x)
    (act_step (actG zs x0 x2 x3 x4) 1024 _ _ _ y
    (fun x => act_piece (xs := zs) x0 x2 x3 x4 (o := 1024) (o' := 3840) (by norm_num) (by norm_num) (fun r e => convK_at (xs := zs) x0 x2 x3 x4 harg1 harg3 harg4 harg5 arg11 (st_8 harg1 harg3 (arg11 := arg11) x0 x2) _ _ _ _ _ _ _ _ (by norm_num) r e) (fun r e => convK_at (xs := zs) x0 x2 x3 x4 harg1 harg3 harg4 harg5 arg11 (st_9 harg1 harg3 (arg11 := arg11) x0 x2) _ _ _ _ _ _ _ _ (by norm_num) r e) _ x)
    (act_step (actG zs x0 x2 x3 x4) 768 _ _ _ y
    (fun x => act_piece (xs := zs) x0 x2 x3 x4 (o := 768) (o' := 3584) (by norm_num) (by norm_num) (fun r e => convK_at (xs := zs) x0 x2 x3 x4 harg1 harg3 harg4 harg5 arg11 (st_6 harg1 harg3 (arg11 := arg11) x0 x2) _ _ _ _ _ _ _ _ (by norm_num) r e) (fun r e => convK_at (xs := zs) x0 x2 x3 x4 harg1 harg3 harg4 harg5 arg11 (st_7 harg1 harg3 (arg11 := arg11) x0 x2) _ _ _ _ _ _ _ _ (by norm_num) r e) _ x)
    (act_step (actG zs x0 x2 x3 x4) 512 _ _ _ y
    (fun x => act_piece (xs := zs) x0 x2 x3 x4 (o := 512) (o' := 3328) (by norm_num) (by norm_num) (fun r e => convK_at (xs := zs) x0 x2 x3 x4 harg1 harg3 harg4 harg5 arg11 (st_4 harg1 harg3 (arg11 := arg11) x0 x2) _ _ _ _ _ _ _ _ (by norm_num) r e) (fun r e => convK_at (xs := zs) x0 x2 x3 x4 harg1 harg3 harg4 harg5 arg11 (st_5 harg1 harg3 (arg11 := arg11) x0 x2) _ _ _ _ _ _ _ _ (by norm_num) r e) _ x)
    (act_step (actG zs x0 x2 x3 x4) 256 _ _ _ y
    (fun x => act_piece (xs := zs) x0 x2 x3 x4 (o := 256) (o' := 3072) (by norm_num) (by norm_num) (fun r e => convK_at (xs := zs) x0 x2 x3 x4 harg1 harg3 harg4 harg5 arg11 (st_2 harg1 harg3 (arg11 := arg11) x0 x2) _ _ _ _ _ _ _ _ (by norm_num) r e) (fun r e => convK_at (xs := zs) x0 x2 x3 x4 harg1 harg3 harg4 harg5 arg11 (st_3 harg1 harg3 (arg11 := arg11) x0 x2) _ _ _ _ _ _ _ _ (by norm_num) r e) _ x)
    (act_step (actG zs x0 x2 x3 x4) 0 _ _ _ y
    (fun x => act_piece (xs := zs) x0 x2 x3 x4 (o := 0) (o' := 2816) (by norm_num) (by norm_num) (fun r e => convK_at (xs := zs) x0 x2 x3 x4 harg1 harg3 harg4 harg5 arg11 (st_0 harg1 harg3 (arg11 := arg11) x0 x2) _ _ _ _ _ _ _ _ (by norm_num) r e) (fun r e => convK_at (xs := zs) x0 x2 x3 x4 harg1 harg3 harg4 harg5 arg11 (st_1 harg1 harg3 (arg11 := arg11) x0 x2) _ _ _ _ _ _ _ _ (by norm_num) r e) _ x)
    (fun h : False => h.elim)))))) ?_
  omega

theorem hi_at (c : Dev nD) (arg1 : Memref sig .tc .vmem S688x1024 .bf16) (harg1 : arg1.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg11 : Memref sig .tc .vmem S696x256 .f32) (arg12 : Memref sig .tc .vmem S8x5632 .f32)  (x0 : Vec Ideal S688x1024 .bf16) (x2 : Vec Ideal S1024x5632 .bf16) (x3 : Vec Ideal S3x5632 .f32) (x4 : Vec Ideal S1x5632 .f32)  (y : S688x2816.Idx) :
    View.canon (Val := Elt Ideal) (kernelRun0_A.sl.HS0_11 (F := Ideal) c arg1 harg1 arg3 harg3 arg4 harg4 arg5 harg5 arg11 arg12 x0 x2 x3 x4) y = actG zs x0 x2 x3 x4 y := by
  unfold kernelRun0_A.sl.HS0_11
  refine act_step (actG zs x0 x2 x3 x4) 2560 _ _ _ y
    (fun x => act_piece (xs := zs) x0 x2 x3 x4 (o := 2560) (o' := 5376) (by norm_num) (by norm_num) (fun r e => convK_at (xs := zs) x0 x2 x3 x4 harg1 harg3 harg4 harg5 arg11 (st_20 harg1 harg3 (arg11 := arg11) x0 x2) _ _ _ _ _ _ _ _ (by norm_num) r e) (fun r e => convK_at (xs := zs) x0 x2 x3 x4 harg1 harg3 harg4 harg5 arg11 (st_21 harg1 harg3 (arg11 := arg11) x0 x2) _ _ _ _ _ _ _ _ (by norm_num) r e) _ x)
    (act_step (actG zs x0 x2 x3 x4) 2304 _ _ _ y
    (fun x => act_piece (xs := zs) x0 x2 x3 x4 (o := 2304) (o' := 5120) (by norm_num) (by norm_num) (fun r e => convK_at (xs := zs) x0 x2 x3 x4 harg1 harg3 harg4 harg5 arg11 (st_18 harg1 harg3 (arg11 := arg11) x0 x2) _ _ _ _ _ _ _ _ (by norm_num) r e) (fun r e => convK_at (xs := zs) x0 x2 x3 x4 harg1 harg3 harg4 harg5 arg11 (st_19 harg1 harg3 (arg11 := arg11) x0 x2) _ _ _ _ _ _ _ _ (by norm_num) r e) _ x)
    (act_step (actG zs x0 x2 x3 x4) 2048 _ _ _ y
    (fun x => act_piece (xs := zs) x0 x2 x3 x4 (o := 2048) (o' := 4864) (by norm_num) (by norm_num) (fun r e => convK_at (xs := zs) x0 x2 x3 x4 harg1 harg3 harg4 harg5 arg11 (st_16 harg1 harg3 (arg11 := arg11) x0 x2) _ _ _ _ _ _ _ _ (by norm_num) r e) (fun r e => convK_at (xs := zs) x0 x2 x3 x4 harg1 harg3 harg4 harg5 arg11 (st_17 harg1 harg3 (arg11 := arg11) x0 x2) _ _ _ _ _ _ _ _ (by norm_num) r e) _ x)
    (act_step (actG zs x0 x2 x3 x4) 1792 _ _ _ y
    (fun x => act_piece (xs := zs) x0 x2 x3 x4 (o := 1792) (o' := 4608) (by norm_num) (by norm_num) (fun r e => convK_at (xs := zs) x0 x2 x3 x4 harg1 harg3 harg4 harg5 arg11 (st_14 harg1 harg3 (arg11 := arg11) x0 x2) _ _ _ _ _ _ _ _ (by norm_num) r e) (fun r e => convK_at (xs := zs) x0 x2 x3 x4 harg1 harg3 harg4 harg5 arg11 (st_15 harg1 harg3 (arg11 := arg11) x0 x2) _ _ _ _ _ _ _ _ (by norm_num) r e) _ x)
    (act_step (actG zs x0 x2 x3 x4) 1536 _ _ _ y
    (fun x => act_piece (xs := zs) x0 x2 x3 x4 (o := 1536) (o' := 4352) (by norm_num) (by norm_num) (fun r e => convK_at (xs := zs) x0 x2 x3 x4 harg1 harg3 harg4 harg5 arg11 (st_12 harg1 harg3 (arg11 := arg11) x0 x2) _ _ _ _ _ _ _ _ (by norm_num) r e) (fun r e => convK_at (xs := zs) x0 x2 x3 x4 harg1 harg3 harg4 harg5 arg11 (st_13 harg1 harg3 (arg11 := arg11) x0 x2) _ _ _ _ _ _ _ _ (by norm_num) r e) _ x)
    (fun h : (y 1).val < 1536 => lo_at c arg1 harg1 arg3 harg3 arg4 harg4 arg5 harg5 arg11 arg12 x0 x2 x3 x4 y h))))) ?_
  have : (y 1).val < 2816 := (y 1).isLt
  omega

theorem y_at (c : Dev nD) (i : grid0.Coords) (arg1 : Memref sig .tc .vmem S688x1024 .bf16) (harg1 : arg1.IsWhole) (arg2 : Memref sig .tc .vmem S688x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S688x1024 .f32) (harg8 : arg8.IsWhole) (arg9 : Memref sig .tc .vmem S1x2x5632 .f32) (harg9 : arg9.IsWhole) (arg10 : Memref sig .tc .vmem S688x2816 .bf16) (harg10 : arg10.IsWhole) (arg11 : Memref sig .tc .vmem S696x256 .f32) (harg11 : arg11.IsWhole) (arg12 : Memref sig .tc .vmem S8x5632 .f32) (harg12 : arg12.IsWhole) (hc0 : cond0_0 i) (x0 : Vec Ideal S688x1024 .bf16) (x1 : Vec Ideal S688x1024 .f32) (x2 : Vec Ideal S1024x5632 .bf16) (x3 : Vec Ideal S3x5632 .f32) (x4 : Vec Ideal S1x5632 .f32) (x5 : Vec Ideal S2816x1024 .bf16) (x6 : Vec Ideal S1x1024 .f32) (r : Fin 688) (d : Fin 1024) :
    out0_A_7 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 (ix2 r d) = yv zs x0 x1 x2 x3 x4 x5 x6 r d := by
  unfold out0_A_7
  rw [View.read_writes_junk_eq_canon]
  unfold kernelRun0_A
  dsimp only
  rw [View.canon_cons_unit_lit _ _ _ (by decide)]
  exact y_of zs x0 x1 x2 x3 x4 x5 x6 harg2 harg6 harg7 (kernelRun0_A.sl.HS0_6 (F := Ideal) c arg1 harg1 arg3 harg3 arg4 harg4 arg5 harg5 arg11 arg12 x0 x2 x3 x4) (kernelRun0_A.sl.HS0_11 (F := Ideal) c arg1 harg1 arg3 harg3 arg4 harg4 arg5 harg5 arg11 arg12 x0 x2 x3 x4) arg10 _ _
    _ _ _ _
    (fun y hy => lo_at c arg1 harg1 arg3 harg3 arg4 harg4 arg5 harg5 arg11 arg12 x0 x2 x3 x4 y hy) (fun y => hi_at c arg1 harg1 arg3 harg3 arg4 harg4 arg5 harg5 arg11 arg12 x0 x2 x3 x4 y) r d

theorem tail_all (c : Dev nD) (i : grid0.Coords) (arg1 : Memref sig .tc .vmem S688x1024 .bf16) (harg1 : arg1.IsWhole) (arg2 : Memref sig .tc .vmem S688x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S688x1024 .f32) (harg8 : arg8.IsWhole) (arg9 : Memref sig .tc .vmem S1x2x5632 .f32) (harg9 : arg9.IsWhole) (arg10 : Memref sig .tc .vmem S688x2816 .bf16) (harg10 : arg10.IsWhole) (arg11 : Memref sig .tc .vmem S696x256 .f32) (harg11 : arg11.IsWhole) (arg12 : Memref sig .tc .vmem S8x5632 .f32) (harg12 : arg12.IsWhole) (hc0 : cond0_0 i) (x0 : Vec Ideal S688x1024 .bf16) (x1 : Vec Ideal S688x1024 .f32) (x2 : Vec Ideal S1024x5632 .bf16) (x3 : Vec Ideal S3x5632 .f32) (x4 : Vec Ideal S1x5632 .f32) (x5 : Vec Ideal S2816x1024 .bf16) (x6 : Vec Ideal S1x1024 .f32) (y : S1x2x5632.Idx) : out0_A_8 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 y = tailG x0 x2 y := by
  unfold out0_A_8
  rw [View.read_writes_junk_eq_canon]
  unfold kernelRun0_A
  dsimp only
  refine tail_step (tailG x0 x2) 5376 _ _ _ y
    (fun x => tail_piece (xs := zs) (st_21 harg1 harg3 (arg11 := arg11) x0 x2) arg11 _ _ (by norm_num) x)
    (tail_step (tailG x0 x2) 2560 _ _ _ y
    (fun x => tail_piece (xs := zs) (st_20 harg1 harg3 (arg11 := arg11) x0 x2) arg11 _ _ (by norm_num) x)
    (tail_step (tailG x0 x2) 5120 _ _ _ y
    (fun x => tail_piece (xs := zs) (st_19 harg1 harg3 (arg11 := arg11) x0 x2) arg11 _ _ (by norm_num) x)
    (tail_step (tailG x0 x2) 2304 _ _ _ y
    (fun x => tail_piece (xs := zs) (st_18 harg1 harg3 (arg11 := arg11) x0 x2) arg11 _ _ (by norm_num) x)
    (tail_step (tailG x0 x2) 4864 _ _ _ y
    (fun x => tail_piece (xs := zs) (st_17 harg1 harg3 (arg11 := arg11) x0 x2) arg11 _ _ (by norm_num) x)
    (tail_step (tailG x0 x2) 2048 _ _ _ y
    (fun x => tail_piece (xs := zs) (st_16 harg1 harg3 (arg11 := arg11) x0 x2) arg11 _ _ (by norm_num) x)
    (tail_step (tailG x0 x2) 4608 _ _ _ y
    (fun x => tail_piece (xs := zs) (st_15 harg1 harg3 (arg11 := arg11) x0 x2) arg11 _ _ (by norm_num) x)
    (tail_step (tailG x0 x2) 1792 _ _ _ y
    (fun x => tail_piece (xs := zs) (st_14 harg1 harg3 (arg11 := arg11) x0 x2) arg11 _ _ (by norm_num) x)
    (tail_step (tailG x0 x2) 4352 _ _ _ y
    (fun x => tail_piece (xs := zs) (st_13 harg1 harg3 (arg11 := arg11) x0 x2) arg11 _ _ (by norm_num) x)
    (tail_step (tailG x0 x2) 1536 _ _ _ y
    (fun x => tail_piece (xs := zs) (st_12 harg1 harg3 (arg11 := arg11) x0 x2) arg11 _ _ (by norm_num) x)
    (tail_step (tailG x0 x2) 4096 _ _ _ y
    (fun x => tail_piece (xs := zs) (st_11 harg1 harg3 (arg11 := arg11) x0 x2) arg11 _ _ (by norm_num) x)
    (tail_step (tailG x0 x2) 1280 _ _ _ y
    (fun x => tail_piece (xs := zs) (st_10 harg1 harg3 (arg11 := arg11) x0 x2) arg11 _ _ (by norm_num) x)
    (tail_step (tailG x0 x2) 3840 _ _ _ y
    (fun x => tail_piece (xs := zs) (st_9 harg1 harg3 (arg11 := arg11) x0 x2) arg11 _ _ (by norm_num) x)
    (tail_step (tailG x0 x2) 1024 _ _ _ y
    (fun x => tail_piece (xs := zs) (st_8 harg1 harg3 (arg11 := arg11) x0 x2) arg11 _ _ (by norm_num) x)
    (tail_step (tailG x0 x2) 3584 _ _ _ y
    (fun x => tail_piece (xs := zs) (st_7 harg1 harg3 (arg11 := arg11) x0 x2) arg11 _ _ (by norm_num) x)
    (tail_step (tailG x0 x2) 768 _ _ _ y
    (fun x => tail_piece (xs := zs) (st_6 harg1 harg3 (arg11 := arg11) x0 x2) arg11 _ _ (by norm_num) x)
    (tail_step (tailG x0 x2) 3328 _ _ _ y
    (fun x => tail_piece (xs := zs) (st_5 harg1 harg3 (arg11 := arg11) x0 x2) arg11 _ _ (by norm_num) x)
    (tail_step (tailG x0 x2) 512 _ _ _ y
    (fun x => tail_piece (xs := zs) (st_4 harg1 harg3 (arg11 := arg11) x0 x2) arg11 _ _ (by norm_num) x)
    (tail_step (tailG x0 x2) 3072 _ _ _ y
    (fun x => tail_piece (xs := zs) (st_3 harg1 harg3 (arg11 := arg11) x0 x2) arg11 _ _ (by norm_num) x)
    (tail_step (tailG x0 x2) 256 _ _ _ y
    (fun x => tail_piece (xs := zs) (st_2 harg1 harg3 (arg11 := arg11) x0 x2) arg11 _ _ (by norm_num) x)
    (tail_step (tailG x0 x2) 2816 _ _ _ y
    (fun x => tail_piece (xs := zs) (st_1 harg1 harg3 (arg11 := arg11) x0 x2) arg11 _ _ (by norm_num) x)
    (tail_step (tailG x0 x2) 0 _ _ _ y
    (fun x => tail_piece (xs := zs) (st_0 harg1 harg3 (arg11 := arg11) x0 x2) arg11 _ _ (by norm_num) x)
    (fun h : False => h.elim)))))))))))))))))))))) ?_
  have : (y 2).val < 5632 := (y 2).isLt
  omega

theorem last_all (c : Dev nD) (i : grid0.Coords) (arg1 : Memref sig .tc .vmem S688x1024 .bf16) (harg1 : arg1.IsWhole) (arg2 : Memref sig .tc .vmem S688x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S688x1024 .f32) (harg8 : arg8.IsWhole) (arg9 : Memref sig .tc .vmem S1x2x5632 .f32) (harg9 : arg9.IsWhole) (arg10 : Memref sig .tc .vmem S688x2816 .bf16) (harg10 : arg10.IsWhole) (arg11 : Memref sig .tc .vmem S696x256 .f32) (harg11 : arg11.IsWhole) (arg12 : Memref sig .tc .vmem S8x5632 .f32) (harg12 : arg12.IsWhole) (hc0 : cond0_0 i) (x0 : Vec Ideal S688x1024 .bf16) (x1 : Vec Ideal S688x1024 .f32) (x2 : Vec Ideal S1024x5632 .bf16) (x3 : Vec Ideal S3x5632 .f32) (x4 : Vec Ideal S1x5632 .f32) (x5 : Vec Ideal S2816x1024 .bf16) (x6 : Vec Ideal S1x1024 .f32) (y : S8x5632.Idx) : sout0_A_2 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 y = lastG x0 x2 y := by
  unfold sout0_A_2
  rw [View.read_writes_junk_eq_canon]
  unfold kernelRun0_A
  dsimp only
  unfold kernelRun0_A.sl.HS2_22 kernelRun0_A.sl.HS2_21 kernelRun0_A.sl.HS2_20 kernelRun0_A.sl.HS2_19 kernelRun0_A.sl.HS2_18 kernelRun0_A.sl.HS2_17 kernelRun0_A.sl.HS2_16 kernelRun0_A.sl.HS2_15 kernelRun0_A.sl.HS2_14 kernelRun0_A.sl.HS2_13 kernelRun0_A.sl.HS2_12 kernelRun0_A.sl.HS2_11 kernelRun0_A.sl.HS2_10 kernelRun0_A.sl.HS2_9 kernelRun0_A.sl.HS2_8 kernelRun0_A.sl.HS2_7 kernelRun0_A.sl.HS2_6 kernelRun0_A.sl.HS2_5 kernelRun0_A.sl.HS2_4 kernelRun0_A.sl.HS2_3 kernelRun0_A.sl.HS2_2
  refine last_step (lastG x0 x2) 5376 _ _ _ y
    (fun x => last_piece (xs := zs) (st_21 harg1 harg3 (arg11 := arg11) x0 x2) arg11 _ _ (by norm_num) x)
    (last_step (lastG x0 x2) 2560 _ _ _ y
    (fun x => last_piece (xs := zs) (st_20 harg1 harg3 (arg11 := arg11) x0 x2) arg11 _ _ (by norm_num) x)
    (last_step (lastG x0 x2) 5120 _ _ _ y
    (fun x => last_piece (xs := zs) (st_19 harg1 harg3 (arg11 := arg11) x0 x2) arg11 _ _ (by norm_num) x)
    (last_step (lastG x0 x2) 2304 _ _ _ y
    (fun x => last_piece (xs := zs) (st_18 harg1 harg3 (arg11 := arg11) x0 x2) arg11 _ _ (by norm_num) x)
    (last_step (lastG x0 x2) 4864 _ _ _ y
    (fun x => last_piece (xs := zs) (st_17 harg1 harg3 (arg11 := arg11) x0 x2) arg11 _ _ (by norm_num) x)
    (last_step (lastG x0 x2) 2048 _ _ _ y
    (fun x => last_piece (xs := zs) (st_16 harg1 harg3 (arg11 := arg11) x0 x2) arg11 _ _ (by norm_num) x)
    (last_step (lastG x0 x2) 4608 _ _ _ y
    (fun x => last_piece (xs := zs) (st_15 harg1 harg3 (arg11 := arg11) x0 x2) arg11 _ _ (by norm_num) x)
    (last_step (lastG x0 x2) 1792 _ _ _ y
    (fun x => last_piece (xs := zs) (st_14 harg1 harg3 (arg11 := arg11) x0 x2) arg11 _ _ (by norm_num) x)
    (last_step (lastG x0 x2) 4352 _ _ _ y
    (fun x => last_piece (xs := zs) (st_13 harg1 harg3 (arg11 := arg11) x0 x2) arg11 _ _ (by norm_num) x)
    (last_step (lastG x0 x2) 1536 _ _ _ y
    (fun x => last_piece (xs := zs) (st_12 harg1 harg3 (arg11 := arg11) x0 x2) arg11 _ _ (by norm_num) x)
    (last_step (lastG x0 x2) 4096 _ _ _ y
    (fun x => last_piece (xs := zs) (st_11 harg1 harg3 (arg11 := arg11) x0 x2) arg11 _ _ (by norm_num) x)
    (last_step (lastG x0 x2) 1280 _ _ _ y
    (fun x => last_piece (xs := zs) (st_10 harg1 harg3 (arg11 := arg11) x0 x2) arg11 _ _ (by norm_num) x)
    (last_step (lastG x0 x2) 3840 _ _ _ y
    (fun x => last_piece (xs := zs) (st_9 harg1 harg3 (arg11 := arg11) x0 x2) arg11 _ _ (by norm_num) x)
    (last_step (lastG x0 x2) 1024 _ _ _ y
    (fun x => last_piece (xs := zs) (st_8 harg1 harg3 (arg11 := arg11) x0 x2) arg11 _ _ (by norm_num) x)
    (last_step (lastG x0 x2) 3584 _ _ _ y
    (fun x => last_piece (xs := zs) (st_7 harg1 harg3 (arg11 := arg11) x0 x2) arg11 _ _ (by norm_num) x)
    (last_step (lastG x0 x2) 768 _ _ _ y
    (fun x => last_piece (xs := zs) (st_6 harg1 harg3 (arg11 := arg11) x0 x2) arg11 _ _ (by norm_num) x)
    (last_step (lastG x0 x2) 3328 _ _ _ y
    (fun x => last_piece (xs := zs) (st_5 harg1 harg3 (arg11 := arg11) x0 x2) arg11 _ _ (by norm_num) x)
    (last_step (lastG x0 x2) 512 _ _ _ y
    (fun x => last_piece (xs := zs) (st_4 harg1 harg3 (arg11 := arg11) x0 x2) arg11 _ _ (by norm_num) x)
    (last_step (lastG x0 x2) 3072 _ _ _ y
    (fun x => last_piece (xs := zs) (st_3 harg1 harg3 (arg11 := arg11) x0 x2) arg11 _ _ (by norm_num) x)
    (last_step (lastG x0 x2) 256 _ _ _ y
    (fun x => last_piece (xs := zs) (st_2 harg1 harg3 (arg11 := arg11) x0 x2) arg11 _ _ (by norm_num) x)
    (last_step (lastG x0 x2) 2816 _ _ _ y
    (fun x => last_piece (xs := zs) (st_1 harg1 harg3 (arg11 := arg11) x0 x2) arg11 _ _ (by norm_num) x)
    (last_step (lastG x0 x2) 0 _ _ _ y
    (fun x => last_piece (xs := zs) (st_0 harg1 harg3 (arg11 := arg11) x0 x2) arg11 _ _ (by norm_num) x)
    (fun h : False => h.elim)))))))))))))))))))))) ?_
  have : (y 1).val < 5632 := (y 1).isLt
  omega

end Cert.Ffn.RunA

end
-- ==== Proof.Ffn.StageB.lean ====
/-
  One run of the network's body on a block of rows, a later block of a sequence: the column groups as they are staged.
-/
module

public import proofs.«01_k».proof.Proof.Ffn.Piece
public import proofs.«01_k».proof.Proof.Gen.FfnIdeal.Frame

@[expose] public section

set_option maxRecDepth 16384

noncomputable section

namespace Cert.Ffn.RunB

open Cert.FfnIdeal Cert.FfnIdeal.Gen Cert.Rows
open Idealize.ShloMosaic

variable {c : Dev nD} {arg1 : Memref sig .tc .vmem S688x1024 .bf16} (harg1 : arg1.IsWhole) {arg3 : Memref sig .tc .vmem S1024x5632 .bf16} (harg3 : arg3.IsWhole) {arg11 : Memref sig .tc .vmem S696x256 .f32} {arg12 : Memref sig .tc .vmem S8x5632 .f32} (harg12 : arg12.IsWhole) (x0 : Vec Ideal S688x1024 .bf16) (x2 : Vec Ideal S1024x5632 .bf16) (xs2 : Vec Ideal S8x5632 .f32)
include c arg1 harg1 arg3 harg3 arg11 arg12 harg12 x0 x2 xs2

theorem st_0 : Staged xs2 x0 x2 0 (kernelRun0_B.sl.HS1_2 (F := Ideal) c arg1 harg1 arg3 harg3 arg12 harg12 x0 x2 xs2) := by
  unfold kernelRun0_B.sl.HS1_2
  exact staged_of xs2 x0 x2 0 harg1 harg3 _ (View.readAt (Elt Ideal) arg12.view (Rect.unit (s := S8x5632) ![0, 0] S8x256.size _).toLoadRect (harg12.unread xs2)) _ _ _ _ (fun ho n e => col_carry harg12 xs2 0 _ ho n e)

theorem st_1 : Staged xs2 x0 x2 2816 (kernelRun0_B.sl.HS1_4 (F := Ideal) c arg1 harg1 arg3 harg3 arg12 harg12 x0 x2 xs2) := by
  unfold kernelRun0_B.sl.HS1_4
  exact staged_of xs2 x0 x2 2816 harg1 harg3 _ (kernelRun0_B.sl.v52 (F := Ideal) c arg12 harg12 xs2) _ _ _ _ (fun ho n e => col_carry harg12 xs2 2816 _ ho n e)

theorem st_2 : Staged xs2 x0 x2 256 (kernelRun0_B.sl.HS1_6 (F := Ideal) c arg1 harg1 arg3 harg3 arg12 harg12 x0 x2 xs2) := by
  unfold kernelRun0_B.sl.HS1_6
  exact staged_of xs2 x0 x2 256 harg1 harg3 _ (kernelRun0_B.sl.v105 (F := Ideal) c arg12 harg12 xs2) _ _ _ _ (fun ho n e => col_carry harg12 xs2 256 _ ho n e)

theorem st_3 : Staged xs2 x0 x2 3072 (kernelRun0_B.sl.HS1_8 (F := Ideal) c arg1 harg1 arg3 harg3 arg12 harg12 x0 x2 xs2) := by
  unfold kernelRun0_B.sl.HS1_8
  exact staged_of xs2 x0 x2 3072 harg1 harg3 _ (kernelRun0_B.sl.v140 (F := Ideal) c arg12 harg12 xs2) _ _ _ _ (fun ho n e => col_carry harg12 xs2 3072 _ ho n e)

theorem st_4 : Staged xs2 x0 x2 512 (kernelRun0_B.sl.HS1_10 (F := Ideal) c arg1 harg1 arg3 harg3 arg12 harg12 x0 x2 xs2) := by
  unfold kernelRun0_B.sl.HS1_10
  exact staged_of xs2 x0 x2 512 harg1 harg3 _ (kernelRun0_B.sl.v193 (F := Ideal) c arg12 harg12 xs2) _ _ _ _ (fun ho n e => col_carry harg12 xs2 512 _ ho n e)

theorem st_5 : Staged xs2 x0 x2 3328 (kernelRun0_B.sl.HS1_12 (F := Ideal) c arg1 harg1 arg3 harg3 arg12 harg12 x0 x2 xs2) := by
  unfold kernelRun0_B.sl.HS1_12
  exact staged_of xs2 x0 x2 3328 harg1 harg3 _ (kernelRun0_B.sl.v228 (F := Ideal) c arg12 harg12 xs2) _ _ _ _ (fun ho n e => col_carry harg12 xs2 3328 _ ho n e)

theorem st_6 : Staged xs2 x0 x2 768 (kernelRun0_B.sl.HS1_14 (F := Ideal) c arg1 harg1 arg3 harg3 arg12 harg12 x0 x2 xs2) := by
  unfold kernelRun0_B.sl.HS1_14
  exact staged_of xs2 x0 x2 768 harg1 harg3 _ (kernelRun0_B.sl.v281 (F := Ideal) c arg12 harg12 xs2) _ _ _ _ (fun ho n e => col_carry harg12 xs2 768 _ ho n e)

theorem st_7 : Staged xs2 x0 x2 3584 (kernelRun0_B.sl.HS1_16 (F := Ideal) c arg1 harg1 arg3 harg3 arg12 harg12 x0 x2 xs2) := by
  unfold kernelRun0_B.sl.HS1_16
  exact staged_of xs2 x0 x2 3584 harg1 harg3 _ (kernelRun0_B.sl.v316 (F := Ideal) c arg12 harg12 xs2) _ _ _ _ (fun ho n e => col_carry harg12 xs2 3584 _ ho n e)

theorem st_8 : Staged xs2 x0 x2 1024 (kernelRun0_B.sl.HS1_18 (F := Ideal) c arg1 harg1 arg3 harg3 arg12 harg12 x0 x2 xs2) := by
  unfold kernelRun0_B.sl.HS1_18
  exact staged_of xs2 x0 x2 1024 harg1 harg3 _ (kernelRun0_B.sl.v369 (F := Ideal) c arg12 harg12 xs2) _ _ _ _ (fun ho n e => col_carry harg12 xs2 1024 _ ho n e)

theorem st_9 : Staged xs2 x0 x2 3840 (kernelRun0_B.sl.HS1_20 (F := Ideal) c arg1 harg1 arg3 harg3 arg12 harg12 x0 x2 xs2) := by
  unfold kernelRun0_B.sl.HS1_20
  exact staged_of xs2 x0 x2 3840 harg1 harg3 _ (kernelRun0_B.sl.v404 (F := Ideal) c arg12 harg12 xs2) _ _ _ _ (fun ho n e => col_carry harg12 xs2 3840 _ ho n e)

theorem st_10 : Staged xs2 x0 x2 1280 (kernelRun0_B.sl.HS1_22 (F := Ideal) c arg1 harg1 arg3 harg3 arg12 harg12 x0 x2 xs2) := by
  unfold kernelRun0_B.sl.HS1_22
  exact staged_of xs2 x0 x2 1280 harg1 harg3 _ (kernelRun0_B.sl.v457 (F := Ideal) c arg12 harg12 xs2) _ _ _ _ (fun ho n e => col_carry harg12 xs2 1280 _ ho n e)

theorem st_11 : Staged xs2 x0 x2 4096 (kernelRun0_B.sl.HS1_24 (F := Ideal) c arg1 harg1 arg3 harg3 arg12 harg12 x0 x2 xs2) := by
  unfold kernelRun0_B.sl.HS1_24
  exact staged_of xs2 x0 x2 4096 harg1 harg3 _ (kernelRun0_B.sl.v492 (F := Ideal) c arg12 harg12 xs2) _ _ _ _ (fun ho n e => col_carry harg12 xs2 4096 _ ho n e)

theorem st_12 : Staged xs2 x0 x2 1536 (kernelRun0_B.sl.HS1_26 (F := Ideal) c arg1 harg1 arg3 harg3 arg12 harg12 x0 x2 xs2) := by
  unfold kernelRun0_B.sl.HS1_26
  exact staged_of xs2 x0 x2 1536 harg1 harg3 _ (kernelRun0_B.sl.v549 (F := Ideal) c arg12 harg12 xs2) _ _ _ _ (fun ho n e => col_carry harg12 xs2 1536 _ ho n e)

theorem st_13 : Staged xs2 x0 x2 4352 (kernelRun0_B.sl.HS1_28 (F := Ideal) c arg1 harg1 arg3 harg3 arg12 harg12 x0 x2 xs2) := by
  unfold kernelRun0_B.sl.HS1_28
  exact staged_of xs2 x0 x2 4352 harg1 harg3 _ (kernelRun0_B.sl.v584 (F := Ideal) c arg12 harg12 xs2) _ _ _ _ (fun ho n e => col_carry harg12 xs2 4352 _ ho n e)

theorem st_14 : Staged xs2 x0 x2 1792 (kernelRun0_B.sl.HS1_30 (F := Ideal) c arg1 harg1 arg3 harg3 arg12 harg12 x0 x2 xs2) := by
  unfold kernelRun0_B.sl.HS1_30
  exact staged_of xs2 x0 x2 1792 harg1 harg3 _ (kernelRun0_B.sl.v637 (F := Ideal) c arg12 harg12 xs2) _ _ _ _ (fun ho n e => col_carry harg12 xs2 1792 _ ho n e)

theorem st_15 : Staged xs2 x0 x2 4608 (kernelRun0_B.sl.HS1_32 (F := Ideal) c arg1 harg1 arg3 harg3 arg12 harg12 x0 x2 xs2) := by
  unfold kernelRun0_B.sl.HS1_32
  exact staged_of xs2 x0 x2 4608 harg1 harg3 _ (kernelRun0_B.sl.v672 (F := Ideal) c arg12 harg12 xs2) _ _ _ _ (fun ho n e => col_carry harg12 xs2 4608 _ ho n e)

theorem st_16 : Staged xs2 x0 x2 2048 (kernelRun0_B.sl.HS1_34 (F := Ideal) c arg1 harg1 arg3 harg3 arg12 harg12 x0 x2 xs2) := by
  unfold kernelRun0_B.sl.HS1_34
  exact staged_of xs2 x0 x2 2048 harg1 harg3 _ (kernelRun0_B.sl.v725 (F := Ideal) c arg12 harg12 xs2) _ _ _ _ (fun ho n e => col_carry harg12 xs2 2048 _ ho n e)

theorem st_17 : Staged xs2 x0 x2 4864 (kernelRun0_B.sl.HS1_36 (F := Ideal) c arg1 harg1 arg3 harg3 arg12 harg12 x0 x2 xs2) := by
  unfold kernelRun0_B.sl.HS1_36
  exact staged_of xs2 x0 x2 4864 harg1 harg3 _ (kernelRun0_B.sl.v760 (F := Ideal) c arg12 harg12 xs2) _ _ _ _ (fun ho n e => col_carry harg12 xs2 4864 _ ho n e)

theorem st_18 : Staged xs2 x0 x2 2304 (kernelRun0_B.sl.HS1_38 (F := Ideal) c arg1 harg1 arg3 harg3 arg12 harg12 x0 x2 xs2) := by
  unfold kernelRun0_B.sl.HS1_38
  exact staged_of xs2 x0 x2 2304 harg1 harg3 _ (kernelRun0_B.sl.v813 (F := Ideal) c arg12 harg12 xs2) _ _ _ _ (fun ho n e => col_carry harg12 xs2 2304 _ ho n e)

theorem st_19 : Staged xs2 x0 x2 5120 (kernelRun0_B.sl.HS1_40 (F := Ideal) c arg1 harg1 arg3 harg3 arg12 harg12 x0 x2 xs2) := by
  unfold kernelRun0_B.sl.HS1_40
  exact staged_of xs2 x0 x2 5120 harg1 harg3 _ (kernelRun0_B.sl.v848 (F := Ideal) c arg12 harg12 xs2) _ _ _ _ (fun ho n e => col_carry harg12 xs2 5120 _ ho n e)

theorem st_20 : Staged xs2 x0 x2 2560 (kernelRun0_B.sl.HS1_42 (F := Ideal) c arg1 harg1 arg3 harg3 arg12 harg12 x0 x2 xs2) := by
  unfold kernelRun0_B.sl.HS1_42
  exact staged_of xs2 x0 x2 2560 harg1 harg3 _ (kernelRun0_B.sl.v901 (F := Ideal) c arg12 harg12 xs2) _ _ _ _ (fun ho n e => col_carry harg12 xs2 2560 _ ho n e)

theorem st_21 : Staged xs2 x0 x2 5376 (kernelRun0_B.sl.HS1_44 (F := Ideal) c arg1 harg1 arg3 harg3 arg12 harg12 x0 x2 xs2) := by
  unfold kernelRun0_B.sl.HS1_44
  exact staged_of xs2 x0 x2 5376 harg1 harg3 _ (kernelRun0_B.sl.v936 (F := Ideal) c arg12 harg12 xs2) _ _ _ _ (fun ho n e => col_carry harg12 xs2 5376 _ ho n e)

end Cert.Ffn.RunB

end
-- ==== Proof.Ffn.OutB.lean ====
/-
  One run of the network's body on a block of rows, a later block of a sequence: what it leaves in its outputs and in the carried buffer.
-/
module

public import proofs.«01_k».proof.Proof.Ffn.StageB

@[expose] public section

set_option maxRecDepth 16384

noncomputable section

namespace Cert.Ffn.RunB

open Cert.FfnIdeal Cert.FfnIdeal.Gen Cert.Rows
open Idealize.ShloMosaic

theorem lo_at (c : Dev nD) (arg1 : Memref sig .tc .vmem S688x1024 .bf16) (harg1 : arg1.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg11 : Memref sig .tc .vmem S696x256 .f32) (arg12 : Memref sig .tc .vmem S8x5632 .f32) (harg12 : arg12.IsWhole) (x0 : Vec Ideal S688x1024 .bf16) (x2 : Vec Ideal S1024x5632 .bf16) (x3 : Vec Ideal S3x5632 .f32) (x4 : Vec Ideal S1x5632 .f32) (xs2 : Vec Ideal S8x5632 .f32) (y : S688x2816.Idx) (hy : (y 1).val < 1536) :
    View.canon (Val := Elt Ideal) (kernelRun0_B.sl.HS0_6 (F := Ideal) c arg1 harg1 arg3 harg3 arg4 harg4 arg5 harg5 arg11 arg12 harg12 x0 x2 x3 x4 xs2) y = actG xs2 x0 x2 x3 x4 y := by
  unfold kernelRun0_B.sl.HS0_6
  refine act_step (actG xs2 x0 x2 x3 x4) 1280 _ _ _ y
    (fun x => act_piece (xs := xs2) x0 x2 x3 x4 (o := 1280) (o' := 4096) (by norm_num) (by norm_num) (fun r e => convK_at (xs := xs2) x0 x2 x3 x4 harg1 harg3 harg4 harg5 arg11 (st_10 harg1 harg3 harg12 (arg11 := arg11) x0 x2 xs2) _ _ _ _ _ _ _ _ (by norm_num) r e) (fun r e => convK_at (xs := xs2) x0 x2 x3 x4 harg1 harg3 harg4 harg5 arg11 (st_11 harg1 harg3 harg12 (arg11 := arg11) x0 x2 xs2) _ _ _ _ _ _ _ _ (by norm_num) r e) _ x)
    (act_step (actG xs2 x0 x2 x3 x4) 1024 _ _ _ y
    (fun x => act_piece (xs := xs2) x0 x2 x3 x4 (o := 1024) (o' := 3840) (by norm_num) (by norm_num) (fun r e => convK_at (xs := xs2) x0 x2 x3 x4 harg1 harg3 harg4 harg5 arg11 (st_8 harg1 harg3 harg12 (arg11 := arg11) x0 x2 xs2) _ _ _ _ _ _ _ _ (by norm_num) r e) (fun r e => convK_at (xs := xs2) x0 x2 x3 x4 harg1 harg3 harg4 harg5 arg11 (st_9 harg1 harg3 harg12 (arg11 := arg11) x0 x2 xs2) _ _ _ _ _ _ _ _ (by norm_num) r e) _ x)
    (act_step (actG xs2 x0 x2 x3 x4) 768 _ _ _ y
    (fun x => act_piece (xs := xs2) x0 x2 x3 x4 (o := 768) (o' := 3584) (by norm_num) (by norm_num) (fun r e => convK_at (xs := xs2) x0 x2 x3 x4 harg1 harg3 harg4 harg5 arg11 (st_6 harg1 harg3 harg12 (arg11 := arg11) x0 x2 xs2) _ _ _ _ _ _ _ _ (by norm_num) r e) (fun r e => convK_at (xs := xs2) x0 x2 x3 x4 harg1 harg3 harg4 harg5 arg11 (st_7 harg1 harg3 harg12 (arg11 := arg11) x0 x2 xs2) _ _ _ _ _ _ _ _ (by norm_num) r e) _ x)
    (act_step (actG xs2 x0 x2 x3 x4) 512 _ _ _ y
    (fun x => act_piece (xs := xs2) x0 x2 x3 x4 (o := 512) (o' := 3328) (by norm_num) (by norm_num) (fun r e => convK_at (xs := xs2) x0 x2 x3 x4 harg1 harg3 harg4 harg5 arg11 (st_4 harg1 harg3 harg12 (arg11 := arg11) x0 x2 xs2) _ _ _ _ _ _ _ _ (by norm_num) r e) (fun r e => convK_at (xs := xs2) x0 x2 x3 x4 harg1 harg3 harg4 harg5 arg11 (st_5 harg1 harg3 harg12 (arg11 := arg11) x0 x2 xs2) _ _ _ _ _ _ _ _ (by norm_num) r e) _ x)
    (act_step (actG xs2 x0 x2 x3 x4) 256 _ _ _ y
    (fun x => act_piece (xs := xs2) x0 x2 x3 x4 (o := 256) (o' := 3072) (by norm_num) (by norm_num) (fun r e => convK_at (xs := xs2) x0 x2 x3 x4 harg1 harg3 harg4 harg5 arg11 (st_2 harg1 harg3 harg12 (arg11 := arg11) x0 x2 xs2) _ _ _ _ _ _ _ _ (by norm_num) r e) (fun r e => convK_at (xs := xs2) x0 x2 x3 x4 harg1 harg3 harg4 harg5 arg11 (st_3 harg1 harg3 harg12 (arg11 := arg11) x0 x2 xs2) _ _ _ _ _ _ _ _ (by norm_num) r e) _ x)
    (act_step (actG xs2 x0 x2 x3 x4) 0 _ _ _ y
    (fun x => act_piece (xs := xs2) x0 x2 x3 x4 (o := 0) (o' := 2816) (by norm_num) (by norm_num) (fun r e => convK_at (xs := xs2) x0 x2 x3 x4 harg1 harg3 harg4 harg5 arg11 (st_0 harg1 harg3 harg12 (arg11 := arg11) x0 x2 xs2) _ _ _ _ _ _ _ _ (by norm_num) r e) (fun r e => convK_at (xs := xs2) x0 x2 x3 x4 harg1 harg3 harg4 harg5 arg11 (st_1 harg1 harg3 harg12 (arg11 := arg11) x0 x2 xs2) _ _ _ _ _ _ _ _ (by norm_num) r e) _ x)
    (fun h : False => h.elim)))))) ?_
  omega

theorem hi_at (c : Dev nD) (arg1 : Memref sig .tc .vmem S688x1024 .bf16) (harg1 : arg1.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg11 : Memref sig .tc .vmem S696x256 .f32) (arg12 : Memref sig .tc .vmem S8x5632 .f32) (harg12 : arg12.IsWhole) (x0 : Vec Ideal S688x1024 .bf16) (x2 : Vec Ideal S1024x5632 .bf16) (x3 : Vec Ideal S3x5632 .f32) (x4 : Vec Ideal S1x5632 .f32) (xs2 : Vec Ideal S8x5632 .f32) (y : S688x2816.Idx) :
    View.canon (Val := Elt Ideal) (kernelRun0_B.sl.HS0_11 (F := Ideal) c arg1 harg1 arg3 harg3 arg4 harg4 arg5 harg5 arg11 arg12 harg12 x0 x2 x3 x4 xs2) y = actG xs2 x0 x2 x3 x4 y := by
  unfold kernelRun0_B.sl.HS0_11
  refine act_step (actG xs2 x0 x2 x3 x4) 2560 _ _ _ y
    (fun x => act_piece (xs := xs2) x0 x2 x3 x4 (o := 2560) (o' := 5376) (by norm_num) (by norm_num) (fun r e => convK_at (xs := xs2) x0 x2 x3 x4 harg1 harg3 harg4 harg5 arg11 (st_20 harg1 harg3 harg12 (arg11 := arg11) x0 x2 xs2) _ _ _ _ _ _ _ _ (by norm_num) r e) (fun r e => convK_at (xs := xs2) x0 x2 x3 x4 harg1 harg3 harg4 harg5 arg11 (st_21 harg1 harg3 harg12 (arg11 := arg11) x0 x2 xs2) _ _ _ _ _ _ _ _ (by norm_num) r e) _ x)
    (act_step (actG xs2 x0 x2 x3 x4) 2304 _ _ _ y
    (fun x => act_piece (xs := xs2) x0 x2 x3 x4 (o := 2304) (o' := 5120) (by norm_num) (by norm_num) (fun r e => convK_at (xs := xs2) x0 x2 x3 x4 harg1 harg3 harg4 harg5 arg11 (st_18 harg1 harg3 harg12 (arg11 := arg11) x0 x2 xs2) _ _ _ _ _ _ _ _ (by norm_num) r e) (fun r e => convK_at (xs := xs2) x0 x2 x3 x4 harg1 harg3 harg4 harg5 arg11 (st_19 harg1 harg3 harg12 (arg11 := arg11) x0 x2 xs2) _ _ _ _ _ _ _ _ (by norm_num) r e) _ x)
    (act_step (actG xs2 x0 x2 x3 x4) 2048 _ _ _ y
    (fun x => act_piece (xs := xs2) x0 x2 x3 x4 (o := 2048) (o' := 4864) (by norm_num) (by norm_num) (fun r e => convK_at (xs := xs2) x0 x2 x3 x4 harg1 harg3 harg4 harg5 arg11 (st_16 harg1 harg3 harg12 (arg11 := arg11) x0 x2 xs2) _ _ _ _ _ _ _ _ (by norm_num) r e) (fun r e => convK_at (xs := xs2) x0 x2 x3 x4 harg1 harg3 harg4 harg5 arg11 (st_17 harg1 harg3 harg12 (arg11 := arg11) x0 x2 xs2) _ _ _ _ _ _ _ _ (by norm_num) r e) _ x)
    (act_step (actG xs2 x0 x2 x3 x4) 1792 _ _ _ y
    (fun x => act_piece (xs := xs2) x0 x2 x3 x4 (o := 1792) (o' := 4608) (by norm_num) (by norm_num) (fun r e => convK_at (xs := xs2) x0 x2 x3 x4 harg1 harg3 harg4 harg5 arg11 (st_14 harg1 harg3 harg12 (arg11 := arg11) x0 x2 xs2) _ _ _ _ _ _ _ _ (by norm_num) r e) (fun r e => convK_at (xs := xs2) x0 x2 x3 x4 harg1 harg3 harg4 harg5 arg11 (st_15 harg1 harg3 harg12 (arg11 := arg11) x0 x2 xs2) _ _ _ _ _ _ _ _ (by norm_num) r e) _ x)
    (act_step (actG xs2 x0 x2 x3 x4) 1536 _ _ _ y
    (fun x => act_piece (xs := xs2) x0 x2 x3 x4 (o := 1536) (o' := 4352) (by norm_num) (by norm_num) (fun r e => convK_at (xs := xs2) x0 x2 x3 x4 harg1 harg3 harg4 harg5 arg11 (st_12 harg1 harg3 harg12 (arg11 := arg11) x0 x2 xs2) _ _ _ _ _ _ _ _ (by norm_num) r e) (fun r e => convK_at (xs := xs2) x0 x2 x3 x4 harg1 harg3 harg4 harg5 arg11 (st_13 harg1 harg3 harg12 (arg11 := arg11) x0 x2 xs2) _ _ _ _ _ _ _ _ (by norm_num) r e) _ x)
    (fun h : (y 1).val < 1536 => lo_at c arg1 harg1 arg3 harg3 arg4 harg4 arg5 harg5 arg11 arg12 harg12 x0 x2 x3 x4 xs2 y h))))) ?_
  have : (y 1).val < 2816 := (y 1).isLt
  omega

theorem y_at (c : Dev nD) (i : grid0.Coords) (arg1 : Memref sig .tc .vmem S688x1024 .bf16) (harg1 : arg1.IsWhole) (arg2 : Memref sig .tc .vmem S688x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S688x1024 .f32) (harg8 : arg8.IsWhole) (arg9 : Memref sig .tc .vmem S1x2x5632 .f32) (harg9 : arg9.IsWhole) (arg10 : Memref sig .tc .vmem S688x2816 .bf16) (harg10 : arg10.IsWhole) (arg11 : Memref sig .tc .vmem S696x256 .f32) (harg11 : arg11.IsWhole) (arg12 : Memref sig .tc .vmem S8x5632 .f32) (harg12 : arg12.IsWhole) (hc0 : ¬cond0_0 i) (x0 : Vec Ideal S688x1024 .bf16) (x1 : Vec Ideal S688x1024 .f32) (x2 : Vec Ideal S1024x5632 .bf16) (x3 : Vec Ideal S3x5632 .f32) (x4 : Vec Ideal S1x5632 .f32) (x5 : Vec Ideal S2816x1024 .bf16) (x6 : Vec Ideal S1x1024 .f32) (xs2 : Vec Ideal S8x5632 .f32) (r : Fin 688) (d : Fin 1024) :
    out0_B_7 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs2 (ix2 r d) = yv xs2 x0 x1 x2 x3 x4 x5 x6 r d := by
  unfold out0_B_7
  rw [View.read_writes_junk_eq_canon]
  unfold kernelRun0_B
  dsimp only
  rw [View.canon_cons_unit_lit _ _ _ (by decide)]
  exact y_of xs2 x0 x1 x2 x3 x4 x5 x6 harg2 harg6 harg7 (kernelRun0_B.sl.HS0_6 (F := Ideal) c arg1 harg1 arg3 harg3 arg4 harg4 arg5 harg5 arg11 arg12 harg12 x0 x2 x3 x4 xs2) (kernelRun0_B.sl.HS0_11 (F := Ideal) c arg1 harg1 arg3 harg3 arg4 harg4 arg5 harg5 arg11 arg12 harg12 x0 x2 x3 x4 xs2) arg10 _ _
    _ _ _ _
    (fun y hy => lo_at c arg1 harg1 arg3 harg3 arg4 harg4 arg5 harg5 arg11 arg12 harg12 x0 x2 x3 x4 xs2 y hy) (fun y => hi_at c arg1 harg1 arg3 harg3 arg4 harg4 arg5 harg5 arg11 arg12 harg12 x0 x2 x3 x4 xs2 y) r d

theorem tail_all (c : Dev nD) (i : grid0.Coords) (arg1 : Memref sig .tc .vmem S688x1024 .bf16) (harg1 : arg1.IsWhole) (arg2 : Memref sig .tc .vmem S688x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S688x1024 .f32) (harg8 : arg8.IsWhole) (arg9 : Memref sig .tc .vmem S1x2x5632 .f32) (harg9 : arg9.IsWhole) (arg10 : Memref sig .tc .vmem S688x2816 .bf16) (harg10 : arg10.IsWhole) (arg11 : Memref sig .tc .vmem S696x256 .f32) (harg11 : arg11.IsWhole) (arg12 : Memref sig .tc .vmem S8x5632 .f32) (harg12 : arg12.IsWhole) (hc0 : ¬cond0_0 i) (x0 : Vec Ideal S688x1024 .bf16) (x1 : Vec Ideal S688x1024 .f32) (x2 : Vec Ideal S1024x5632 .bf16) (x3 : Vec Ideal S3x5632 .f32) (x4 : Vec Ideal S1x5632 .f32) (x5 : Vec Ideal S2816x1024 .bf16) (x6 : Vec Ideal S1x1024 .f32) (xs2 : Vec Ideal S8x5632 .f32) (y : S1x2x5632.Idx) : out0_B_8 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs2 y = tailG x0 x2 y := by
  unfold out0_B_8
  rw [View.read_writes_junk_eq_canon]
  unfold kernelRun0_B
  dsimp only
  refine tail_step (tailG x0 x2) 5376 _ _ _ y
    (fun x => tail_piece (xs := xs2) (st_21 harg1 harg3 harg12 (arg11 := arg11) x0 x2 xs2) arg11 _ _ (by norm_num) x)
    (tail_step (tailG x0 x2) 2560 _ _ _ y
    (fun x => tail_piece (xs := xs2) (st_20 harg1 harg3 harg12 (arg11 := arg11) x0 x2 xs2) arg11 _ _ (by norm_num) x)
    (tail_step (tailG x0 x2) 5120 _ _ _ y
    (fun x => tail_piece (xs := xs2) (st_19 harg1 harg3 harg12 (arg11 := arg11) x0 x2 xs2) arg11 _ _ (by norm_num) x)
    (tail_step (tailG x0 x2) 2304 _ _ _ y
    (fun x => tail_piece (xs := xs2) (st_18 harg1 harg3 harg12 (arg11 := arg11) x0 x2 xs2) arg11 _ _ (by norm_num) x)
    (tail_step (tailG x0 x2) 4864 _ _ _ y
    (fun x => tail_piece (xs := xs2) (st_17 harg1 harg3 harg12 (arg11 := arg11) x0 x2 xs2) arg11 _ _ (by norm_num) x)
    (tail_step (tailG x0 x2) 2048 _ _ _ y
    (fun x => tail_piece (xs := xs2) (st_16 harg1 harg3 harg12 (arg11 := arg11) x0 x2 xs2) arg11 _ _ (by norm_num) x)
    (tail_step (tailG x0 x2) 4608 _ _ _ y
    (fun x => tail_piece (xs := xs2) (st_15 harg1 harg3 harg12 (arg11 := arg11) x0 x2 xs2) arg11 _ _ (by norm_num) x)
    (tail_step (tailG x0 x2) 1792 _ _ _ y
    (fun x => tail_piece (xs := xs2) (st_14 harg1 harg3 harg12 (arg11 := arg11) x0 x2 xs2) arg11 _ _ (by norm_num) x)
    (tail_step (tailG x0 x2) 4352 _ _ _ y
    (fun x => tail_piece (xs := xs2) (st_13 harg1 harg3 harg12 (arg11 := arg11) x0 x2 xs2) arg11 _ _ (by norm_num) x)
    (tail_step (tailG x0 x2) 1536 _ _ _ y
    (fun x => tail_piece (xs := xs2) (st_12 harg1 harg3 harg12 (arg11 := arg11) x0 x2 xs2) arg11 _ _ (by norm_num) x)
    (tail_step (tailG x0 x2) 4096 _ _ _ y
    (fun x => tail_piece (xs := xs2) (st_11 harg1 harg3 harg12 (arg11 := arg11) x0 x2 xs2) arg11 _ _ (by norm_num) x)
    (tail_step (tailG x0 x2) 1280 _ _ _ y
    (fun x => tail_piece (xs := xs2) (st_10 harg1 harg3 harg12 (arg11 := arg11) x0 x2 xs2) arg11 _ _ (by norm_num) x)
    (tail_step (tailG x0 x2) 3840 _ _ _ y
    (fun x => tail_piece (xs := xs2) (st_9 harg1 harg3 harg12 (arg11 := arg11) x0 x2 xs2) arg11 _ _ (by norm_num) x)
    (tail_step (tailG x0 x2) 1024 _ _ _ y
    (fun x => tail_piece (xs := xs2) (st_8 harg1 harg3 harg12 (arg11 := arg11) x0 x2 xs2) arg11 _ _ (by norm_num) x)
    (tail_step (tailG x0 x2) 3584 _ _ _ y
    (fun x => tail_piece (xs := xs2) (st_7 harg1 harg3 harg12 (arg11 := arg11) x0 x2 xs2) arg11 _ _ (by norm_num) x)
    (tail_step (tailG x0 x2) 768 _ _ _ y
    (fun x => tail_piece (xs := xs2) (st_6 harg1 harg3 harg12 (arg11 := arg11) x0 x2 xs2) arg11 _ _ (by norm_num) x)
    (tail_step (tailG x0 x2) 3328 _ _ _ y
    (fun x => tail_piece (xs := xs2) (st_5 harg1 harg3 harg12 (arg11 := arg11) x0 x2 xs2) arg11 _ _ (by norm_num) x)
    (tail_step (tailG x0 x2) 512 _ _ _ y
    (fun x => tail_piece (xs := xs2) (st_4 harg1 harg3 harg12 (arg11 := arg11) x0 x2 xs2) arg11 _ _ (by norm_num) x)
    (tail_step (tailG x0 x2) 3072 _ _ _ y
    (fun x => tail_piece (xs := xs2) (st_3 harg1 harg3 harg12 (arg11 := arg11) x0 x2 xs2) arg11 _ _ (by norm_num) x)
    (tail_step (tailG x0 x2) 256 _ _ _ y
    (fun x => tail_piece (xs := xs2) (st_2 harg1 harg3 harg12 (arg11 := arg11) x0 x2 xs2) arg11 _ _ (by norm_num) x)
    (tail_step (tailG x0 x2) 2816 _ _ _ y
    (fun x => tail_piece (xs := xs2) (st_1 harg1 harg3 harg12 (arg11 := arg11) x0 x2 xs2) arg11 _ _ (by norm_num) x)
    (tail_step (tailG x0 x2) 0 _ _ _ y
    (fun x => tail_piece (xs := xs2) (st_0 harg1 harg3 harg12 (arg11 := arg11) x0 x2 xs2) arg11 _ _ (by norm_num) x)
    (fun h : False => h.elim)))))))))))))))))))))) ?_
  have : (y 2).val < 5632 := (y 2).isLt
  omega

theorem last_all (c : Dev nD) (i : grid0.Coords) (arg1 : Memref sig .tc .vmem S688x1024 .bf16) (harg1 : arg1.IsWhole) (arg2 : Memref sig .tc .vmem S688x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S688x1024 .f32) (harg8 : arg8.IsWhole) (arg9 : Memref sig .tc .vmem S1x2x5632 .f32) (harg9 : arg9.IsWhole) (arg10 : Memref sig .tc .vmem S688x2816 .bf16) (harg10 : arg10.IsWhole) (arg11 : Memref sig .tc .vmem S696x256 .f32) (harg11 : arg11.IsWhole) (arg12 : Memref sig .tc .vmem S8x5632 .f32) (harg12 : arg12.IsWhole) (hc0 : ¬cond0_0 i) (x0 : Vec Ideal S688x1024 .bf16) (x1 : Vec Ideal S688x1024 .f32) (x2 : Vec Ideal S1024x5632 .bf16) (x3 : Vec Ideal S3x5632 .f32) (x4 : Vec Ideal S1x5632 .f32) (x5 : Vec Ideal S2816x1024 .bf16) (x6 : Vec Ideal S1x1024 .f32) (xs2 : Vec Ideal S8x5632 .f32) (y : S8x5632.Idx) : sout0_B_2 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs2 y = lastG x0 x2 y := by
  unfold sout0_B_2
  rw [View.read_writes_junk_eq_canon]
  unfold kernelRun0_B
  dsimp only
  refine last_step (lastG x0 x2) 5376 _ _ _ y
    (fun x => last_piece (xs := xs2) (st_21 harg1 harg3 harg12 (arg11 := arg11) x0 x2 xs2) arg11 _ _ (by norm_num) x)
    (last_step (lastG x0 x2) 2560 _ _ _ y
    (fun x => last_piece (xs := xs2) (st_20 harg1 harg3 harg12 (arg11 := arg11) x0 x2 xs2) arg11 _ _ (by norm_num) x)
    (last_step (lastG x0 x2) 5120 _ _ _ y
    (fun x => last_piece (xs := xs2) (st_19 harg1 harg3 harg12 (arg11 := arg11) x0 x2 xs2) arg11 _ _ (by norm_num) x)
    (last_step (lastG x0 x2) 2304 _ _ _ y
    (fun x => last_piece (xs := xs2) (st_18 harg1 harg3 harg12 (arg11 := arg11) x0 x2 xs2) arg11 _ _ (by norm_num) x)
    (last_step (lastG x0 x2) 4864 _ _ _ y
    (fun x => last_piece (xs := xs2) (st_17 harg1 harg3 harg12 (arg11 := arg11) x0 x2 xs2) arg11 _ _ (by norm_num) x)
    (last_step (lastG x0 x2) 2048 _ _ _ y
    (fun x => last_piece (xs := xs2) (st_16 harg1 harg3 harg12 (arg11 := arg11) x0 x2 xs2) arg11 _ _ (by norm_num) x)
    (last_step (lastG x0 x2) 4608 _ _ _ y
    (fun x => last_piece (xs := xs2) (st_15 harg1 harg3 harg12 (arg11 := arg11) x0 x2 xs2) arg11 _ _ (by norm_num) x)
    (last_step (lastG x0 x2) 1792 _ _ _ y
    (fun x => last_piece (xs := xs2) (st_14 harg1 harg3 harg12 (arg11 := arg11) x0 x2 xs2) arg11 _ _ (by norm_num) x)
    (last_step (lastG x0 x2) 4352 _ _ _ y
    (fun x => last_piece (xs := xs2) (st_13 harg1 harg3 harg12 (arg11 := arg11) x0 x2 xs2) arg11 _ _ (by norm_num) x)
    (last_step (lastG x0 x2) 1536 _ _ _ y
    (fun x => last_piece (xs := xs2) (st_12 harg1 harg3 harg12 (arg11 := arg11) x0 x2 xs2) arg11 _ _ (by norm_num) x)
    (last_step (lastG x0 x2) 4096 _ _ _ y
    (fun x => last_piece (xs := xs2) (st_11 harg1 harg3 harg12 (arg11 := arg11) x0 x2 xs2) arg11 _ _ (by norm_num) x)
    (last_step (lastG x0 x2) 1280 _ _ _ y
    (fun x => last_piece (xs := xs2) (st_10 harg1 harg3 harg12 (arg11 := arg11) x0 x2 xs2) arg11 _ _ (by norm_num) x)
    (last_step (lastG x0 x2) 3840 _ _ _ y
    (fun x => last_piece (xs := xs2) (st_9 harg1 harg3 harg12 (arg11 := arg11) x0 x2 xs2) arg11 _ _ (by norm_num) x)
    (last_step (lastG x0 x2) 1024 _ _ _ y
    (fun x => last_piece (xs := xs2) (st_8 harg1 harg3 harg12 (arg11 := arg11) x0 x2 xs2) arg11 _ _ (by norm_num) x)
    (last_step (lastG x0 x2) 3584 _ _ _ y
    (fun x => last_piece (xs := xs2) (st_7 harg1 harg3 harg12 (arg11 := arg11) x0 x2 xs2) arg11 _ _ (by norm_num) x)
    (last_step (lastG x0 x2) 768 _ _ _ y
    (fun x => last_piece (xs := xs2) (st_6 harg1 harg3 harg12 (arg11 := arg11) x0 x2 xs2) arg11 _ _ (by norm_num) x)
    (last_step (lastG x0 x2) 3328 _ _ _ y
    (fun x => last_piece (xs := xs2) (st_5 harg1 harg3 harg12 (arg11 := arg11) x0 x2 xs2) arg11 _ _ (by norm_num) x)
    (last_step (lastG x0 x2) 512 _ _ _ y
    (fun x => last_piece (xs := xs2) (st_4 harg1 harg3 harg12 (arg11 := arg11) x0 x2 xs2) arg11 _ _ (by norm_num) x)
    (last_step (lastG x0 x2) 3072 _ _ _ y
    (fun x => last_piece (xs := xs2) (st_3 harg1 harg3 harg12 (arg11 := arg11) x0 x2 xs2) arg11 _ _ (by norm_num) x)
    (last_step (lastG x0 x2) 256 _ _ _ y
    (fun x => last_piece (xs := xs2) (st_2 harg1 harg3 harg12 (arg11 := arg11) x0 x2 xs2) arg11 _ _ (by norm_num) x)
    (last_step (lastG x0 x2) 2816 _ _ _ y
    (fun x => last_piece (xs := xs2) (st_1 harg1 harg3 harg12 (arg11 := arg11) x0 x2 xs2) arg11 _ _ (by norm_num) x)
    (last_step (lastG x0 x2) 0 _ _ _ y
    (fun x => last_piece (xs := xs2) (st_0 harg1 harg3 harg12 (arg11 := arg11) x0 x2 xs2) arg11 _ _ (by norm_num) x)
    (fun h : False => h.elim)))))))))))))))))))))) ?_
  have : (y 1).val < 5632 := (y 1).isLt
  omega

end Cert.Ffn.RunB

end
-- ==== Proof.Ffn.Ref.lean ====
/-
  The reference's gated network, entry by entry.
-/
module

public import proofs.«01_k».proof.Proof.Gen.FfnRefIdeal.Read
public import proofs.«01_k».proof.Proof.Ffn.Block

@[expose] public section

noncomputable section

namespace Cert.Ffn

open Cert.FfnRefIdeal Cert.FfnRefIdeal.Gen Cert.FfnRefIdeal.Read Cert.Rows
open Idealize.ShloMosaic Idealize.ShloMosaic.StableHlo

section
variable (h : Vec Ideal S66048x1024 .bf16) (x : Vec Ideal S66048x1024 .f32) (wu : Vec Ideal S1024x5632 .f32) (cw : Vec Ideal S3x5632 .f32) (cb : Vec Ideal S5632 .f32)
  (wd : Vec Ideal S2816x1024 .f32) (g : Vec Ideal S1024 .f32)

/-- Row `t` of sequence `b`. -/
abbrev rowOf (b : Fin 32) (t : Fin 2064) : Fin 66048 := ⟨b.val * 2064 + t.val, by omega⟩

/-- The up projection of one row. -/
def gu (n : Fin 66048) (c : Fin 5632) : EReal := ∑ k : Fin 1024, h (ix2 n k) * wu (ix2 k c)

/-- A sequence's rows after two rows of zeros. -/
def gext (b : Fin 32) (n : Fin 2066) (c : Fin 5632) : EReal :=
  if hn : n.val < 2 then 0 else gu h wu (rowOf b ⟨n.val - 2, by omega⟩) c

/-- The convolution of width three along a sequence. -/
def gcv (b : Fin 32) (t : Fin 2064) (c : Fin 5632) : EReal :=
  cb (ix1 c) + gext h wu b ⟨t.val, by omega⟩ c * cw (ix2 0 c) + gext h wu b ⟨1 + t.val, by omega⟩ c * cw (ix2 1 c)
    + gext h wu b ⟨2 + t.val, by omega⟩ c * cw (ix2 2 c)

/-- The gated activation. -/
def gact (b : Fin 32) (t : Fin 2064) (j : Fin 2816) : EReal :=
  gelu (gcv h wu cw cb b t ⟨2816 + j.val, by omega⟩) * gcv h wu cw cb b t ⟨j.val, by omega⟩

/-- The output of one row. -/
def gy (b : Fin 32) (t : Fin 2064) (d : Fin 1024) : EReal :=
  x (ix2 (rowOf b t) d) + rms (fun e => ∑ j : Fin 2816, gact h wu cw cb b t j * wd (ix2 j e)) (fun e => g (ix1 e)) d

theorem u_ref (b : Fin 32) (t : Fin 2064) (c : Fin 5632) :
    (val_main_v2 (F := Ideal) h wu : Vec Ideal S32x2064x5632 .f32) (ix3 b t c) = gu h wu (rowOf b t) c := by
  unfold val_main_v2 val_main_v1 val_main_v0 gu
  pointwise

theorem ext_ref (b : Fin 32) (n : Fin 2066) (c : Fin 5632) :
    (val_main_v4 (F := Ideal) h wu : Vec Ideal S32x2066x5632 .f32) (ix3 b n c) = gext h wu b n c := by
  unfold gext
  simp only [← u_ref]
  unfold val_main_v4 val_main_v3 val_main_cst
  generalize val_main_v2 (F := Ideal) h wu = u
  pointwise

theorem cv_ref (b : Fin 32) (t : Fin 2064) (c : Fin 5632) :
    (val_main_v27 (F := Ideal) h wu cw cb : Vec Ideal S32x2064x5632 .f32) (ix3 b t c) = gcv h wu cw cb b t c := by
  unfold gcv
  simp only [← ext_ref]
  unfold val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5
  generalize val_main_v4 (F := Ideal) h wu = u
  pointwise

theorem gelu_ref (z : EReal) :
    z * (Ideal.ofBits .f32 0x3F000000#32 * (Ideal.ofBits .f32 0x3F800000#32 + Ideal.tanh (Ideal.ofBits .f32 0x3F4C422A#32 * (z + Ideal.ofBits .f32 0x3D372713#32 * (z * z * z))))) = gelu z := by
  unfold gelu
  simp only [mul_assoc]
  rw [mul_left_comm]

theorem act_ref (b : Fin 32) (t : Fin 2064) (j : Fin 2816) :
    (val_main_v43 (F := Ideal) h wu cw cb : Vec Ideal S32x2064x2816 .f32) (ix3 b t j) = gact h wu cw cb b t j := by
  unfold gact
  simp only [← cv_ref, ← gelu_ref]
  unfold val_main_v43 val_main_v42 val_main_v41 val_main_v40 val_main_v39 val_main_v38 val_main_v37 val_main_v36 val_main_v35 val_main_v34 val_main_v33 val_main_v32 val_main_v31 val_main_v30 val_main_v29 val_main_v28 val_main_cst_0 val_main_cst_1 val_main_cst_2 val_main_cst_3
  generalize val_main_v27 (F := Ideal) h wu cw cb = u
  pointwise

theorem y_ref (b : Fin 32) (t : Fin 2064) (d : Fin 1024) :
    (val_main_v59 (F := Ideal) h x wu cw cb wd g : Vec Ideal S66048x1024 .f32) (ix2 (rowOf b t) d) = gy h x wu cw cb wd g b t d := by
  have h1 : ∀ e : Fin 1024, (val_main_v44 (F := Ideal) h wu cw cb wd : Vec Ideal S32x2064x1024 .f32) (ix3 b t e) = ∑ j : Fin 2816, gact h wu cw cb b t j * wd (ix2 j e) := by
    intro e
    simp only [← act_ref]
    unfold val_main_v44
    generalize val_main_v43 (F := Ideal) h wu cw cb = u
    pointwise
  have h2 : (val_main_v57 (F := Ideal) h wu cw cb wd g : Vec Ideal S32x2064x1024 .f32) (ix3 b t d)
      = rms (fun e => ∑ j : Fin 2816, gact h wu cw cb b t j * wd (ix2 j e)) (fun e => g (ix1 e)) d := by
    simp only [← h1]
    unfold val_main_v57 val_main_v56 val_main_v55 val_main_v54 val_main_v53 val_main_v52 val_main_v51 val_main_v50 val_main_v49 val_main_v48 val_main_v47 val_main_v46 val_main_v45 val_main_cst_4 val_main_cst_5 val_main_cst_6 rms
    generalize val_main_v44 (F := Ideal) h wu cw cb wd = u
    pointwise
  unfold gy
  rw [← h2]
  unfold val_main_v59 val_main_v58
  generalize val_main_v57 (F := Ideal) h wu cw cb wd g = u
  pointwise
  refine congrArg (fun z => x (ix2 (rowOf b t) d) + u z) ?_
  funext a; refine Fin.ext ?_
  fin_cases a
  · show (b.val * 2064 + t.val) / 2064 = b.val
    omega
  · show (b.val * 2064 + t.val) % 2064 = t.val
    omega
  · rfl

theorem tail_ref (b : Fin 32) (a : Fin 2) (c : Fin 5632) :
    (val_main_v60 (F := Ideal) h wu : Vec Ideal S32x2x5632 .f32) (ix3 b a c) = gu h wu (rowOf b ⟨2062 + a.val, by omega⟩) c := by
  have e : gext h wu b ⟨2064 + a.val, by omega⟩ c = gu h wu (rowOf b ⟨2062 + a.val, by omega⟩) c := by
    unfold gext
    rw [dif_neg (by simp; omega)]
    congr 1
    exact Fin.ext (by simp; omega)
  rw [← e, ← ext_ref]
  unfold val_main_v60
  generalize val_main_v4 (F := Ideal) h wu = u
  pointwise

end

end Cert.Ffn

end
-- ==== Proof.Ffn.Final.lean ====
/-
  The network's two result arrays.
-/
module

public import proofs.«01_k».proof.Proof.Ffn.OutA
public import proofs.«01_k».proof.Proof.Ffn.OutB
public import proofs.«01_k».proof.Proof.Ffn.Ref
public import Idealize.ShloMosaic.Lib.StableHlo.ReadAt
public import Idealize.ShloMosaic.Lib.Pipeline.ValueKit

@[expose] public section

set_option maxRecDepth 16384

noncomputable section

namespace Cert.Ffn

open Cert.FfnIdeal Cert.FfnIdeal.Gen Cert.Rows
open Idealize.ShloMosaic Idealize.ShloMosaic.TcCoe Idealize.ShloMosaic.StableHlo

variable (m : (ℓ : Loc nD τ sig) → Buf (Elt Ideal) ℓ) (c : Dev nD)

abbrev ah : Vec Ideal S66048x1024 .bf16 := m ((c : Thread nD τ).loc main_arg0)
abbrev ax : Vec Ideal S66048x1024 .f32 := m ((c : Thread nD τ).loc main_arg1)
abbrev awu : Vec Ideal S1024x5632 .f32 := m ((c : Thread nD τ).loc main_arg2)
abbrev acw : Vec Ideal S3x5632 .f32 := m ((c : Thread nD τ).loc main_arg3)
abbrev acb : Vec Ideal S5632 .f32 := m ((c : Thread nD τ).loc main_arg4)
abbrev awd : Vec Ideal S2816x1024 .f32 := m ((c : Thread nD τ).loc main_arg5)
abbrev ag : Vec Ideal S1024 .f32 := m ((c : Thread nD τ).loc main_arg6)

theorem idx : ∀ t : Fin cfg0.N, win0_0.index t = ![t.val, 0]
    ∧ win0_1.index t = ![t.val, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![t.val, 0]
    ∧ win0_8.index t = ![t.val / 3, 0, 0] := by
  decide +kernel

/-- The row of the arrays that row `r` of a grid point's block is. -/
def row (t : Fin cfg0.N) (r : Fin 688) : Fin 66048 := ⟨688 * t.val + r.val, by have : t.val < 96 := t.isLt; omega⟩

/-- The sequence a grid point works in. -/
def bOf (t : Fin cfg0.N) : Fin 32 := ⟨t.val / 3, by have : t.val < 96 := t.isLt; omega⟩

/-- The position in its sequence of row `r` of a grid point's block. -/
def sOf (t : Fin cfg0.N) (r : Fin 688) : Fin 2064 := ⟨688 * (t.val % 3) + r.val, by omega⟩

theorem row_eq (t : Fin cfg0.N) (r : Fin 688) : rowOf (bOf t) (sOf t r) = row t r := by
  refine Fin.ext ?_
  show t.val / 3 * 2064 + (688 * (t.val % 3) + r.val) = 688 * t.val + r.val
  omega

theorem blk0 (t : Fin cfg0.N) (r : Fin 688) (d : Fin 1024) : (iblk m c 0 t : Vec Ideal S688x1024 .bf16) (ix2 r d) = ah m c (ix2 (row t r) d) := by
  unfold ah
  rw [← V_main_arg0 m c]
  blk_ext [iblk, idx t, row]

theorem blk1 (t : Fin cfg0.N) (r : Fin 688) (d : Fin 1024) : (iblk m c 1 t : Vec Ideal S688x1024 .f32) (ix2 r d) = ax m c (ix2 (row t r) d) := by
  unfold ax
  rw [← V_main_arg1 m c]
  blk_ext [iblk, idx t, row]

theorem w2_at (k : Fin 1024) (d : Fin 5632) : (V m c main_v0 : Vec Ideal S1024x5632 .bf16) (ix2 k d) = awu m c (ix2 k d) := by
  unfold V
  after_reads_at

theorem blk2 (t : Fin cfg0.N) (k : Fin 1024) (d : Fin 5632) : (iblk m c 2 t : Vec Ideal S1024x5632 .bf16) (ix2 k d) = awu m c (ix2 k d) := by
  rw [← w2_at]
  blk_ext [iblk, idx t]

theorem blk3 (t : Fin cfg0.N) (k : Fin 3) (d : Fin 5632) : (iblk m c 3 t : Vec Ideal S3x5632 .f32) (ix2 k d) = acw m c (ix2 k d) := by
  unfold acw
  rw [← V_main_arg3 m c]
  blk_ext [iblk, idx t]

theorem w4_at (d : Fin 5632) : (V m c main_v1 : Vec Ideal S1x5632 .f32) (ix2 0 d) = acb m c (ix1 d) := by
  unfold V
  after_reads_at

theorem blk4 (t : Fin cfg0.N) (d : Fin 5632) : (iblk m c 4 t : Vec Ideal S1x5632 .f32) (ix2 0 d) = acb m c (ix1 d) := by
  rw [← w4_at]
  blk_ext [iblk, idx t]

theorem w5_at (k : Fin 2816) (d : Fin 1024) : (V m c main_v2 : Vec Ideal S2816x1024 .bf16) (ix2 k d) = awd m c (ix2 k d) := by
  unfold V
  after_reads_at

theorem blk5 (t : Fin cfg0.N) (k : Fin 2816) (d : Fin 1024) : (iblk m c 5 t : Vec Ideal S2816x1024 .bf16) (ix2 k d) = awd m c (ix2 k d) := by
  rw [← w5_at]
  blk_ext [iblk, idx t]

theorem w6_at (d : Fin 1024) : (V m c main_v3 : Vec Ideal S1x1024 .f32) (ix2 0 d) = ag m c (ix1 d) := by
  unfold V
  after_reads_at

theorem blk6 (t : Fin cfg0.N) (d : Fin 1024) : (iblk m c 6 t : Vec Ideal S1x1024 .f32) (ix2 0 d) = ag m c (ix1 d) := by
  rw [← w6_at]
  blk_ext [iblk, idx t]

theorem uu_blk (t : Fin cfg0.N) (r : Fin 688) (d : Fin 5632) : uu (iblk m c 0 t) (iblk m c 2 t) r d = gu (ah m c) (awu m c) (row t r) d :=
  Finset.sum_congr rfl fun k _ => congrArg₂ (· * ·) (blk0 m c t r k) (blk2 m c t k d)

/-- The carried rows are the sequence's two rows before the block, in their last two places. -/
def Carries (t : Fin cfg0.N) (xs : Vec Ideal S8x5632 .f32) : Prop :=
  ∀ (n : Fin 8) (d : Fin 5632) (hn : 6 ≤ n.val), xs (ix2 n d) = gext (ah m c) (awu m c) (bOf t) ⟨688 * (t.val % 3) + (n.val - 6), by omega⟩ d

theorem ext_blk (t : Fin cfg0.N) (xs : Vec Ideal S8x5632 .f32) (hxs : Carries m c t xs) (n : Fin 696) (hn : 6 ≤ n.val) (d : Fin 5632) :
    ext xs (iblk m c 0 t) (iblk m c 2 t) n d = gext (ah m c) (awu m c) (bOf t) ⟨688 * (t.val % 3) + (n.val - 6), by omega⟩ d := by
  unfold ext
  by_cases h : n.val < 8
  · rw [dif_pos h]
    exact hxs ⟨n.val, h⟩ d hn
  · rw [dif_neg h, uu_blk]
    unfold gext
    rw [dif_neg (by show ¬ (688 * (t.val % 3) + (n.val - 6) < 2); omega), ← row_eq]
    congr 2
    refine Fin.ext ?_
    show 688 * (t.val % 3) + (n.val - 8) = 688 * (t.val % 3) + (n.val - 6) - 2
    omega

theorem cv_blk (t : Fin cfg0.N) (xs : Vec Ideal S8x5632 .f32) (hxs : Carries m c t xs) (r : Fin 688) (d : Fin 5632) :
    cv xs (iblk m c 0 t) (iblk m c 2 t) (iblk m c 3 t) (iblk m c 4 t) r d = gcv (ah m c) (awu m c) (acw m c) (acb m c) (bOf t) (sOf t r) d := by
  have e0 := ext_blk m c t xs hxs ⟨6 + r.val, by omega⟩ (by simp) d
  have e1 := ext_blk m c t xs hxs ⟨7 + r.val, by omega⟩ (by simp; omega) d
  have e2 : uu (iblk m c 0 t) (iblk m c 2 t) r d = gext (ah m c) (awu m c) (bOf t) ⟨2 + (sOf t r).val, by omega⟩ d := by
    rw [uu_blk]
    unfold gext
    rw [dif_neg (by simp; omega), ← row_eq]
    congr 2
    exact Fin.ext (by simp)
  unfold cv gcv
  refine congrArg₂ (· + ·) (congrArg₂ (· + ·) (congrArg₂ (· + ·) (blk4 m c t d) (congrArg₂ (· * ·) (e0.trans ?_) (blk3 m c t 0 d))) (congrArg₂ (· * ·) (e1.trans ?_) (blk3 m c t 1 d))) (congrArg₂ (· * ·) e2 (blk3 m c t 2 d))
  · congr 1
    refine Fin.ext ?_
    show 688 * (t.val % 3) + (6 + r.val - 6) = 688 * (t.val % 3) + r.val
    omega
  · congr 1
    refine Fin.ext ?_
    show 688 * (t.val % 3) + (7 + r.val - 6) = 1 + (688 * (t.val % 3) + r.val)
    omega

theorem yv_blk (t : Fin cfg0.N) (xs : Vec Ideal S8x5632 .f32) (hxs : Carries m c t xs) (r : Fin 688) (d : Fin 1024) :
    yv xs (iblk m c 0 t) (iblk m c 1 t) (iblk m c 2 t) (iblk m c 3 t) (iblk m c 4 t) (iblk m c 5 t) (iblk m c 6 t) r d
      = gy (ah m c) (ax m c) (awu m c) (acw m c) (acb m c) (awd m c) (ag m c) (bOf t) (sOf t r) d := by
  unfold yv gy
  rw [row_eq]
  refine congrArg₂ (· + ·) (blk1 m c t r d) ?_
  refine congrArg₂ (fun a b => rms a b d) (funext fun e => Finset.sum_congr rfl fun j _ => congrArg₂ (· * ·) ?_ (blk5 m c t j e)) (funext fun e => blk6 m c t e)
  unfold act gact
  rw [cv_blk m c t xs hxs, cv_blk m c t xs hxs]

/-- What a grid point leaves in the carried buffer. -/
theorem last_blk (t : Fin cfg0.N) : (outsAt0 m c t.val t.isLt).2.2 = lastG (iblk m c 0 t) (iblk m c 2 t) := by
  by_cases h0 : t.val % 3 = 0
  · rw [outsAt0_A m c t h0]
    dsimp only
    exact funext fun y => RunA.last_all _ _ _ _ _ _ _ _ _ _ _ _ _ _ _ _ _ _ _ _ _ _ _ _ _ _ _ _ _ _ _ _ _ _ y
  · rw [outsAt0_B m c t h0]
    dsimp only
    exact funext fun y => RunB.last_all _ _ _ _ _ _ _ _ _ _ _ _ _ _ _ _ _ _ _ _ _ _ _ _ _ _ _ _ _ _ _ _ _ _ _ y

theorem carries_A (t : Fin cfg0.N) (h0 : t.val % 3 = 0) : Carries m c t zs := by
  intro n d hn
  unfold gext
  rw [dif_pos (by show 688 * (t.val % 3) + (n.val - 6) < 2; omega)]
  rfl

theorem carries_B (t : Fin cfg0.N) (h0 : ¬t.val % 3 = 0) : Carries m c t (outsAt0 m c (t.val - 1) (Nat.lt_of_le_of_lt (Nat.sub_le _ _) t.isLt)).2.2 := by
  intro n d hn
  refine (congrFun (last_blk m c ⟨t.val - 1, Nat.lt_of_le_of_lt (Nat.sub_le _ _) t.isLt⟩) (ix2 n d)).trans ?_
  refine (uu_blk m c ⟨t.val - 1, Nat.lt_of_le_of_lt (Nat.sub_le _ _) t.isLt⟩ ⟨680 + n.val, by omega⟩ d).trans ?_
  unfold gext
  rw [dif_neg (by show ¬ (688 * (t.val % 3) + (n.val - 6) < 2); omega)]
  refine congrArg (fun q => gu (ah m c) (awu m c) q d) (Fin.ext ?_)
  show 688 * (t.val - 1) + (680 + n.val) = t.val / 3 * 2064 + (688 * (t.val % 3) + (n.val - 6) - 2)
  omega

/-- The network's output. -/
def G7 : Vec Ideal S66048x1024 .f32 := fun i =>
  gy (ah m c) (ax m c) (awu m c) (acw m c) (acb m c) (awd m c) (ag m c) ⟨(i 0).val / 2064, by have : (i 0).val < 66048 := (i 0).isLt; omega⟩ ⟨(i 0).val % 2064, by omega⟩ (i 1)
/-- The last two rows of each sequence's up projection. -/
def G8 : Vec Ideal S32x2x5632 .f32 := fun i =>
  gu (ah m c) (awu m c) (rowOf (i 0) ⟨2062 + (i 1).val, by have : (i 1).val < 2 := (i 1).isLt; omega⟩) (i 2)

theorem y_blk (t : Fin cfg0.N) (r : Fin 688) (d : Fin 1024) : (outsAt0 m c t.val t.isLt).1 (ix2 r d)
    = gy (ah m c) (ax m c) (awu m c) (acw m c) (acb m c) (awd m c) (ag m c) (bOf t) (sOf t r) d := by
  by_cases h0 : t.val % 3 = 0
  · rw [outsAt0_A m c t h0]
    dsimp only
    exact (RunA.y_at _ _ _ _ _ _ _ _ _ _ _ _ _ _ _ _ _ _ _ _ _ _ _ _ _ _ _ _ _ _ _ _ _ _ r d).trans (yv_blk m c t zs (carries_A m c t h0) r d)
  · rw [outsAt0_B m c t h0]
    dsimp only
    exact (RunB.y_at _ _ _ _ _ _ _ _ _ _ _ _ _ _ _ _ _ _ _ _ _ _ _ _ _ _ _ _ _ _ _ _ _ _ _ r d).trans (yv_blk m c t _ (carries_B m c t h0) r d)

theorem tail_blk (t : Fin cfg0.N) (y : S1x2x5632.Idx) : (outsAt0 m c t.val t.isLt).2.1 y = tailG (iblk m c 0 t) (iblk m c 2 t) y := by
  by_cases h0 : t.val % 3 = 0
  · rw [outsAt0_A m c t h0]
    dsimp only
    exact RunA.tail_all _ _ _ _ _ _ _ _ _ _ _ _ _ _ _ _ _ _ _ _ _ _ _ _ _ _ _ _ _ _ _ _ _ _ y
  · rw [outsAt0_B m c t h0]
    dsimp only
    exact RunB.tail_all _ _ _ _ _ _ _ _ _ _ _ _ _ _ _ _ _ _ _ _ _ _ _ _ _ _ _ _ _ _ _ _ _ _ _ y

theorem arr7 : (dats m 0 c).arrAt 7 cfg0.N = G7 m c := by
  refine (dats m 0 c).arrAt_eq_of_covers 7 _ (by decide +kernel) fun t hf y => ?_
  blk_simp
  rw [after0_7]
  obtain ⟨r, d, rfl⟩ : ∃ (r : Fin 688) (d : Fin 1024), y = ix2 r d := ⟨y 0, y 1, ValueIdx.eq_ix2 y⟩
  have he : ((cfg0.win 7).blk t).view.emb (ix2 r d) = ix2 (row t r) d := by
    blk_ext [idx t, row]
  rw [he]
  refine (y_blk m c t r d).trans ?_
  unfold G7
  congr 1
  · refine Fin.ext ?_
    show t.val / 3 = (688 * t.val + r.val) / 2064
    omega
  · refine Fin.ext ?_
    show 688 * (t.val % 3) + r.val = (688 * t.val + r.val) % 2064
    omega

theorem flush8 : ∀ t : Fin cfg0.N, (cfg0.win 8).flush t = true → t.val % 3 = 2 := by
  decide +kernel

theorem arr8 : (dats m 0 c).arrAt 8 cfg0.N = G8 m c := by
  refine (dats m 0 c).arrAt_eq_of_covers 8 _ (by decide +kernel) fun t hf y => ?_
  have h2 := flush8 t hf
  blk_simp
  rw [after0_8]
  obtain ⟨b, a, d, rfl⟩ : ∃ (b : Fin 1) (a : Fin 2) (d : Fin 5632), y = ix3 b a d := ⟨y 0, y 1, y 2, ValueIdx.eq_ix3 y⟩
  obtain rfl : b = 0 := Subsingleton.elim _ _
  have he : ((cfg0.win 8).blk t).view.emb (ix3 0 a d) = ix3 (bOf t) a d := by
    blk_ext [idx t, bOf]
  rw [he]
  refine (tail_blk m c t (ix3 0 a d)).trans ?_
  refine (uu_blk m c t ⟨686 + a.val, by omega⟩ d).trans ?_
  unfold G8
  refine congrArg (fun q => gu (ah m c) (awu m c) q d) (Fin.ext ?_)
  show 688 * t.val + (686 + a.val) = t.val / 3 * 2064 + (2062 + a.val)
  omega

end Cert.Ffn

end
-- ==== Proof.Ffn.Claim.lean ====
/-
  The claims on the network's launch and its reference, put together.
-/
module

public import proofs.«01_k».proof.Defs
public import proofs.«01_k».proof.Proof.Ffn.Final
public import proofs.«01_k».proof.Proof.Gen.FfnIdeal.Value

@[expose] public section

set_option maxRecDepth 16384

noncomputable section

namespace Cert.Ffn

open Idealize.ShloMosaic Idealize.SL.Sem Idealize.ShloMosaic.TcCoe

/-- The reference ends with its arguments unchanged; it declares no semaphore. -/
theorem ref_frame (m : (ℓ : Loc Cert.FfnRefIdeal.nD Cert.FfnRefIdeal.τ Cert.FfnRefIdeal.sig) → Buf (Elt Ideal) ℓ) (ρ : Dev Cert.FfnRefIdeal.nD → PrngReg) :
    θ_run (Cert.FfnRefIdeal.defs (F := Ideal)) (onTc (τ := Cert.FfnRefIdeal.τ) (Cert.FfnRefIdeal.main (F := Ideal))) ⟨m, fun _ => 0, ρ⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0) := by
  exact (θ_run _ _ _).mono (fun r h => ⟨fun c => (h c).2.2, sem_eq_zero_of_no_sems (by decide) r.2⟩) (Cert.FfnRefIdeal.Value.run m ρ)

open Cert.FfnRefIdeal.Read in
theorem algebraic : Cert.algebraic_FfnIdeal_FfnRefIdeal := by
  intro m g m' g' hpre hagree
  refine ⟨fun c => G7 m c, fun c => G8 m c, ?_, ?_⟩
  · refine (θ_run _ _ _).mono (fun r h c => ?_) (Cert.FfnIdeal.Value.run_blocks m g)
    obtain ⟨h1, h2, ha⟩ := h c
    exact ⟨h1.trans (arr7 m c), h2.trans (arr8 m c), ha⟩
  · refine (θ_run _ _ _).mono (fun r h c => ?_) (Cert.FfnRefIdeal.Value.run m' g')
    obtain ⟨h1, h2, ha⟩ := h c
    obtain ⟨e0, e1, e2, e3, e4, e5, e6⟩ := hagree c
    refine ⟨h1.trans ((val_main_v59_eq m' c).trans ?_), h2.trans ((val_main_v60_eq _ _).trans ?_), ha⟩
    · rw [e0, e1, e2, e3, e4, e5, e6]
      funext i
      obtain ⟨n, d, rfl⟩ : ∃ (n : Fin 66048) (d : Fin 1024), i = ix2 n d := ⟨i 0, i 1, ValueIdx.eq_ix2 i⟩
      have hn : n = rowOf ⟨n.val / 2064, by omega⟩ ⟨n.val % 2064, by omega⟩ := Fin.ext (by show n.val = n.val / 2064 * 2064 + n.val % 2064; omega)
      refine (congrArg (fun q => val_main_v59 (F := Ideal) _ _ _ _ _ _ _ (ix2 q d)) hn).trans ?_
      exact y_ref _ _ _ _ _ _ _ ⟨n.val / 2064, by omega⟩ ⟨n.val % 2064, by omega⟩ d
    · rw [e0, e2]
      funext i
      obtain ⟨b, a, d, rfl⟩ : ∃ (b : Fin 32) (a : Fin 2) (d : Fin 5632), i = ix3 b a d := ⟨i 0, i 1, i 2, ValueIdx.eq_ix3 i⟩
      exact tail_ref _ _ b a d

end Cert.Ffn

end
-- ==== Proof.FoxProj.Args.lean ====
/-
  The operands the launch of the forgetting attention's projections is given, entry by entry.
-/
module

public import proofs.«01_k».proof.Proof.Gen.FoxProjIdeal.Frame
public import Idealize.ShloMosaic.Lib.StableHlo.ReadAt
public import Idealize.ShloMosaic.Lib.Pointwise
public import Idealize.ShloMosaic.Lib.Pipeline.ValueKit

@[expose] public section

set_option maxRecDepth 16384

noncomputable section

namespace Cert.FoxProj

open Cert.FoxProjIdeal Cert.FoxProjIdeal.Gen
open Idealize.ShloMosaic Idealize.ShloMosaic.TcCoe Idealize.ShloMosaic.StableHlo

variable (m : (ℓ : Loc nD τ sig) → Buf (Elt Ideal) ℓ) (c : Dev nD)

abbrev ax : Vec Ideal S66048x1024 .f32 := m ((c : Thread nD τ).loc main_arg0)
abbrev ag : Vec Ideal S1024 .f32 := m ((c : Thread nD τ).loc main_arg1)
abbrev aw : Vec Ideal S1024x6680 .f32 := m ((c : Thread nD τ).loc main_arg2)
abbrev ab : Vec Ideal S8 .f32 := m ((c : Thread nD τ).loc main_arg3)

theorem g_at (d : Fin 1024) : (V m c main_v0 : Vec Ideal S1x1024 .f32) (ix2 0 d) = ag m c (ix1 d) := by
  unfold V
  after_reads_at

theorem q_at (k : Fin 1024) (d : Fin 512) : (V m c main_v7 : Vec Ideal S1024x512 .bf16) (ix2 k d) = aw m c (ix2 k ⟨d.val, by omega⟩) * Ideal.ofBits .f32 0x3E000000#32 := by
  unfold V
  after_reads_at

theorem k_at (k : Fin 1024) (d : Fin 512) : (V m c main_v8 : Vec Ideal S1024x512 .bf16) (ix2 k d) = aw m c (ix2 k ⟨512 + d.val, by omega⟩) := by
  unfold V
  after_reads_at

theorem v_at (k : Fin 1024) (d : Fin 512) : (V m c main_v9 : Vec Ideal S1024x512 .bf16) (ix2 k d) = aw m c (ix2 k ⟨1024 + d.val, by omega⟩) := by
  unfold V
  after_reads_at

theorem f_at (k : Fin 1024) (d : Fin 128) : (V m c main_v11 : Vec Ideal S1024x128 .bf16) (ix2 k d) = if h : d.val < 8 then aw m c (ix2 k ⟨1536 + d.val, by omega⟩) else 0 := by
  unfold V
  after_reads_at
  pointwise
  split
  · rfl
  · show ((((0#32 : BitVec 32).toInt : ℤ) : ℝ) : EReal) = 0
    simp

theorem b_at (d : Fin 128) : (V m c main_v13 : Vec Ideal S1x128 .f32) (ix2 0 d) = if h : d.val < 8 then ab m c (ix1 ⟨d.val, h⟩) else 0 := by
  unfold V
  after_reads_at
  pointwise
  split
  · rfl
  · show ((((0#32 : BitVec 32).toInt : ℤ) : ℝ) : EReal) = 0
    simp

/-! The operands' blocks at a grid point. -/

theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] := by
  decide +kernel

theorem idxo : ∀ t : Fin cfg0.N, win0_10.index t = ![t.val, 0] ∧ win0_11.index t = ![t.val, 0] ∧ win0_12.index t = ![t.val, 0] ∧ win0_13.index t = ![t.val, 0] := by
  decide +kernel

/-- The row of the arrays that row `r` of a grid point's block is. -/
def row (t : Fin cfg0.N) (r : Fin 688) : Fin 66048 := ⟨688 * t.val + r.val, by have : t.val < 96 := t.isLt; omega⟩

theorem blk0 (t : Fin cfg0.N) (r : Fin 688) (d : Fin 1024) :
    (iblk m c 0 t : Vec Ideal S688x1024 .f32) (ix2 r d) = ax m c (ix2 (row t r) d) := by
  unfold ax
  rw [← V_main_arg0 m c]
  blk_ext [iblk, idx t, row]

theorem blk1 (t : Fin cfg0.N) (d : Fin 1024) : (iblk m c 1 t : Vec Ideal S1x1024 .f32) (ix2 0 d) = ag m c (ix1 d) := by
  rw [← g_at]
  blk_ext [iblk, idx t]

theorem blk2 (t : Fin cfg0.N) (k : Fin 1024) (d : Fin 512) : (iblk m c 2 t : Vec Ideal S1024x512 .bf16) (ix2 k d) = aw m c (ix2 k ⟨d.val, by omega⟩) * Ideal.ofBits .f32 0x3E000000#32 := by
  rw [← q_at]
  blk_ext [iblk, idx t]

theorem blk3 (t : Fin cfg0.N) (k : Fin 1024) (d : Fin 512) : (iblk m c 3 t : Vec Ideal S1024x512 .bf16) (ix2 k d) = aw m c (ix2 k ⟨512 + d.val, by omega⟩) := by
  rw [← k_at]
  blk_ext [iblk, idx t]

theorem blk4 (t : Fin cfg0.N) (k : Fin 1024) (d : Fin 512) : (iblk m c 4 t : Vec Ideal S1024x512 .bf16) (ix2 k d) = aw m c (ix2 k ⟨1024 + d.val, by omega⟩) := by
  rw [← v_at]
  blk_ext [iblk, idx t]

theorem blk5 (t : Fin cfg0.N) (k : Fin 1024) (d : Fin 128) : (iblk m c 5 t : Vec Ideal S1024x128 .bf16) (ix2 k d) = if h : d.val < 8 then aw m c (ix2 k ⟨1536 + d.val, by omega⟩) else 0 := by
  rw [← f_at]
  blk_ext [iblk, idx t]

theorem blk6 (t : Fin cfg0.N) (d : Fin 128) : (iblk m c 6 t : Vec Ideal S1x128 .f32) (ix2 0 d) = if h : d.val < 8 then ab m c (ix1 ⟨d.val, h⟩) else 0 := by
  rw [← b_at]
  blk_ext [iblk, idx t]

end Cert.FoxProj

end
-- ==== Proof.Fox.Rows.lean ====
/-
  What the forgetting attention's projections compute of a row, as functions of real numbers with infinities.
-/
module

public import proofs.«01_k».proof.Proof.Proj.Rows

@[expose] public section

noncomputable section

namespace Cert.Rows

open Idealize.ShloMosaic

/-- The logarithm of the sigmoid. -/
def logSig (z : EReal) : EReal := min z 0 - Ideal.log1p (Ideal.exp (-(max z (-z))))

theorem logSig_eq (z : EReal) :
    -(if -z ≠ -z then -z else max (-z) 0 + Ideal.log1p (Ideal.exp (-(max (-z) (- -z))))) = logSig z := by
  rw [if_neg (by simp), neg_neg, max_comm (-z) z]
  unfold logSig
  have hL := log1p_exp_ne (-(max z (-z)))
  generalize Ideal.log1p (Ideal.exp (-(max z (-z)))) = L at hL
  have hm : max (-z) 0 ≠ ⊥ := ne_of_gt (lt_of_lt_of_le (by simp) (le_max_right _ _))
  rw [EReal.neg_add (Or.inl hm) (Or.inr hL)]
  have h1 : -(max (-z) 0) = min z 0 := by
    rcases le_total z 0 with h | h
    · rw [min_eq_left h, max_eq_left (by simpa using h), neg_neg]
    · rw [min_eq_right h, max_eq_right (by simpa using h), neg_zero]
  rw [h1]

/-- A nonnegative finite factor passes through a sum. -/
theorem sum_scale {n : Nat} (f : Fin n → EReal) (s : EReal) (h0 : 0 ≤ s) (h1 : s ≠ ⊤) : (∑ k : Fin n, f k) * s = ∑ k : Fin n, f k * s := by
  have h : ∀ t : Finset (Fin n), (∑ k ∈ t, f k) * s = ∑ k ∈ t, f k * s := fun t => by
    induction t using Finset.induction with
    | empty => simp
    | insert a t ha ih => rw [Finset.sum_insert ha, Finset.sum_insert ha, EReal.right_distrib_of_nonneg_of_ne_top h0 h1, ih]
  exact h Finset.univ

/-- The attention's scale, an eighth. -/
abbrev eighth : EReal := Ideal.ofBits .f32 0x3E000000#32

theorem eighth_eq : eighth = ((1 / 8 : ℝ) : EReal) := by
  simp [eighth, Ideal.ofBits, Ideal.ieee]; rw [← EReal.coe_mul]; norm_num

theorem sum_eighth {n : Nat} (f w : Fin n → EReal) : ∑ k : Fin n, f k * (w k * eighth) = (∑ k : Fin n, f k * w k) * eighth := by
  rw [sum_scale _ _ (by rw [eighth_eq]; exact_mod_cast (by norm_num : (0 : ℝ) ≤ 1 / 8)) (by rw [eighth_eq]; exact EReal.coe_ne_top _)]
  exact Finset.sum_congr rfl fun k _ => (mul_assoc _ _ _).symm

end Cert.Rows

end
-- ==== Proof.FoxProj.Block.lean ====
/-
  The forgetting attention's projections of one block of rows, entry by entry.
-/
module

public import proofs.«01_k».proof.Proof.Gen.FoxProjIdeal.Skeleton
public import proofs.«01_k».proof.Proof.Fox.Rows
public import Idealize.ShloMosaic.Lib.Pointwise

@[expose] public section

noncomputable section

namespace Cert.FoxProj

open Cert.FoxProjIdeal Cert.FoxProjIdeal.Gen Cert.Rows
open Idealize.ShloMosaic

variable (x : Vec Ideal S688x1024 .f32) (g : Vec Ideal S1x1024 .f32)

theorem norm_at (r : Fin 688) (d : Fin 1024) :
    (k0_pay4 (F := Ideal) x g : Vec Ideal S688x1024 .bf16) (ix2 r d) = rms (fun k => x (ix2 r k)) (fun k => g (ix2 0 k)) d := by
  unfold k0_pay4 rms
  pointwise

theorem loq (w : Vec Ideal S1024x512 .bf16) (r : Fin 688) (d : Fin 512) :
    (k0_pay5 (F := Ideal) x g w : Vec Ideal S688x512 .bf16) (ix2 r d) = ∑ k : Fin 1024, (k0_pay4 (F := Ideal) x g : Vec Ideal S688x1024 .bf16) (ix2 r k) * w (ix2 k d) := by
  unfold k0_pay5
  generalize k0_pay4 (F := Ideal) x g = b
  pointwise

theorem lok (w : Vec Ideal S1024x512 .bf16) (r : Fin 688) (d : Fin 512) :
    (k0_pay6 (F := Ideal) x g w : Vec Ideal S688x512 .f32) (ix2 r d) = ∑ k : Fin 1024, (k0_pay4 (F := Ideal) x g : Vec Ideal S688x1024 .bf16) (ix2 r k) * w (ix2 k d) := by
  unfold k0_pay6
  generalize k0_pay4 (F := Ideal) x g = b
  pointwise

theorem lov (w : Vec Ideal S1024x512 .bf16) (r : Fin 688) (d : Fin 512) :
    (k0_pay7 (F := Ideal) x g w : Vec Ideal S688x512 .f32) (ix2 r d) = ∑ k : Fin 1024, (k0_pay4 (F := Ideal) x g : Vec Ideal S688x1024 .bf16) (ix2 r k) * w (ix2 k d) := by
  unfold k0_pay7
  generalize k0_pay4 (F := Ideal) x g = b
  pointwise

/-- A column below eight passes the mask. -/
theorem mask_at (d : Fin 128) (hd : d.val < 8) : (k0_pay8 : IVec S1x128 1) (ix2 0 d) = 1#1 := by
  obtain ⟨d, hd'⟩ := d
  unfold k0_pay8
  simp only at hd
  interval_cases d <;> rfl

theorem lof (b : Vec Ideal S688x1024 .bf16) (wf : Vec Ideal S1024x128 .bf16) (bf : Vec Ideal S1x128 .f32) (r : Fin 688) (d : Fin 8) :
    (k0_pay10 (F := Ideal) b k0_pay8 wf bf : Vec Ideal S688x8 .f32) (ix2 r d)
      = logSig ((∑ k : Fin 1024, b (ix2 r k) * wf (ix2 k ⟨d.val, by omega⟩)) + bf (ix2 0 ⟨d.val, by omega⟩)) := by
  have hm := mask_at ⟨d.val, by omega⟩ d.isLt
  unfold k0_pay10 k0_pay9 logSig
  generalize (k0_pay8 : IVec S1x128 1) = q at hm
  pointwise
  simp only [hm, Ideal.ofBits_zero_f32, zero_sub, zero_add]
  rfl

end Cert.FoxProj

end
-- ==== Proof.FoxProj.Run.lean ====
/-
  What one run of the launch's body leaves in the four outputs it is claimed for.
-/
module

public import proofs.«01_k».proof.Proof.Gen.FoxProjIdeal.Frame
public import proofs.«01_k».proof.Proof.FoxProj.Block
public import Idealize.ShloMosaic.Lib.Pipeline.ValueKit

@[expose] public section

set_option maxRecDepth 16384

noncomputable section

open Cert.FoxProjIdeal Cert.FoxProjIdeal.Gen
open Idealize.ShloMosaic

namespace Cert.FoxProj.RunA

variable (c : Dev nD) (i : grid0.Coords) (arg1 : Memref sig .tc .vmem S688x1024 .f32) (harg1 : arg1.IsWhole) (arg2 : Memref sig .tc .vmem S1x1024 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x128 .bf16) (harg6 : arg6.IsWhole) (arg7 : Memref sig .tc .vmem S1x128 .f32) (harg7 : arg7.IsWhole) (arg8 : Memref sig .tc .vmem S688x688 .bf16) (harg8 : arg8.IsWhole) (arg9 : Memref sig .tc .vmem S128x1024 .bf16) (harg9 : arg9.IsWhole) (arg10 : Memref sig .tc .vmem S1x1024 .f32) (harg10 : arg10.IsWhole) (arg11 : Memref sig .tc .vmem S688x512 .bf16) (harg11 : arg11.IsWhole) (arg12 : Memref sig .tc .vmem S688x512 .f32) (harg12 : arg12.IsWhole) (arg13 : Memref sig .tc .vmem S688x512 .f32) (harg13 : arg13.IsWhole) (arg14 : Memref sig .tc .vmem S688x8 .f32) (harg14 : arg14.IsWhole) (arg15 : Memref sig .tc .vmem S688x512 .bf16) (harg15 : arg15.IsWhole) (arg16 : Memref sig .tc .vmem S688x512 .bf16) (harg16 : arg16.IsWhole) (arg17 : Memref sig .tc .vmem S1x128 .f32) (harg17 : arg17.IsWhole)
  (hc0 : cond0_0 i)
  (x0 : Vec Ideal S688x1024 .f32) (x1 : Vec Ideal S1x1024 .f32) (x2 : Vec Ideal S1024x512 .bf16) (x3 : Vec Ideal S1024x512 .bf16) (x4 : Vec Ideal S1024x512 .bf16) (x5 : Vec Ideal S1024x128 .bf16) (x6 : Vec Ideal S1x128 .f32) (x7 : Vec Ideal S688x688 .bf16) (x8 : Vec Ideal S128x1024 .bf16) (x9 : Vec Ideal S1x1024 .f32)

theorem q_all (y : S688x512.Idx) : out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 y = k0_pay5 (F := Ideal) x0 x1 x2 y := by
  unfold out0_A_10
  rw [View.read_writes_junk_eq_canon]
  unfold kernelRun0_A
  dsimp only
  rw [View.canon_cons_unit_lit _ _ _ (by decide), View.readAt_eq_ld, harg1.read_unread, View.ld_unit_lit _ _ (by decide), View.readAt_eq_ld, harg2.read_unread, View.ld_unit_lit _ _ (by decide), View.readAt_eq_ld, harg3.read_unread, View.ld_unit_lit _ _ (by decide)]

theorem k_all (y : S688x512.Idx) : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 y = k0_pay6 (F := Ideal) x0 x1 x3 y := by
  unfold out0_A_11
  rw [View.read_writes_junk_eq_canon]
  unfold kernelRun0_A
  dsimp only
  rw [View.canon_cons_unit_lit _ _ _ (by decide), View.readAt_eq_ld, harg1.read_unread, View.ld_unit_lit _ _ (by decide), View.readAt_eq_ld, harg2.read_unread, View.ld_unit_lit _ _ (by decide), View.readAt_eq_ld, harg4.read_unread, View.ld_unit_lit _ _ (by decide)]

theorem v_all (y : S688x512.Idx) : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 y = k0_pay7 (F := Ideal) x0 x1 x4 y := by
  unfold out0_A_12
  rw [View.read_writes_junk_eq_canon]
  unfold kernelRun0_A
  dsimp only
  rw [View.canon_cons_unit_lit _ _ _ (by decide), View.readAt_eq_ld, harg1.read_unread, View.ld_unit_lit _ _ (by decide), View.readAt_eq_ld, harg2.read_unread, View.ld_unit_lit _ _ (by decide), View.readAt_eq_ld, harg5.read_unread, View.ld_unit_lit _ _ (by decide)]

theorem f_all (y : S688x8.Idx) : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 y = k0_pay10 (F := Ideal) (k0_pay4 x0 x1) k0_pay8 x5 x6 y := by
  unfold out0_A_13
  rw [View.read_writes_junk_eq_canon]
  unfold kernelRun0_A
  dsimp only
  unfold kernelRun0_A.sl.r
  rw [View.canon_cons_unit_lit _ _ _ (by decide), View.readAt_eq_ld, harg1.read_unread, View.ld_unit_lit _ _ (by decide), View.readAt_eq_ld, harg2.read_unread, View.ld_unit_lit _ _ (by decide), View.readAt_eq_ld, harg6.read_unread, View.ld_unit_lit _ _ (by decide), View.readAt_eq_ld, harg7.read_unread, View.ld_unit_lit _ _ (by decide)]

end Cert.FoxProj.RunA

namespace Cert.FoxProj.RunB

variable (c : Dev nD) (i : grid0.Coords) (arg1 : Memref sig .tc .vmem S688x1024 .f32) (harg1 : arg1.IsWhole) (arg2 : Memref sig .tc .vmem S1x1024 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x128 .bf16) (harg6 : arg6.IsWhole) (arg7 : Memref sig .tc .vmem S1x128 .f32) (harg7 : arg7.IsWhole) (arg8 : Memref sig .tc .vmem S688x688 .bf16) (harg8 : arg8.IsWhole) (arg9 : Memref sig .tc .vmem S128x1024 .bf16) (harg9 : arg9.IsWhole) (arg10 : Memref sig .tc .vmem S1x1024 .f32) (harg10 : arg10.IsWhole) (arg11 : Memref sig .tc .vmem S688x512 .bf16) (harg11 : arg11.IsWhole) (arg12 : Memref sig .tc .vmem S688x512 .f32) (harg12 : arg12.IsWhole) (arg13 : Memref sig .tc .vmem S688x512 .f32) (harg13 : arg13.IsWhole) (arg14 : Memref sig .tc .vmem S688x8 .f32) (harg14 : arg14.IsWhole) (arg15 : Memref sig .tc .vmem S688x512 .bf16) (harg15 : arg15.IsWhole) (arg16 : Memref sig .tc .vmem S688x512 .bf16) (harg16 : arg16.IsWhole) (arg17 : Memref sig .tc .vmem S1x128 .f32) (harg17 : arg17.IsWhole)
  (hc0 : ¬cond0_0 i)
  (x0 : Vec Ideal S688x1024 .f32) (x1 : Vec Ideal S1x1024 .f32) (x2 : Vec Ideal S1024x512 .bf16) (x3 : Vec Ideal S1024x512 .bf16) (x4 : Vec Ideal S1024x512 .bf16) (x5 : Vec Ideal S1024x128 .bf16) (x6 : Vec Ideal S1x128 .f32) (x7 : Vec Ideal S688x688 .bf16) (x8 : Vec Ideal S128x1024 .bf16) (x9 : Vec Ideal S1x1024 .f32) (xs0 : Vec Ideal S1x128 .f32)

theorem q_all (y : S688x512.Idx) : out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0 y = k0_pay5 (F := Ideal) x0 x1 x2 y := by
  unfold out0_B_10
  rw [View.read_writes_junk_eq_canon]
  unfold kernelRun0_B
  dsimp only
  rw [View.canon_cons_unit_lit _ _ _ (by decide), View.readAt_eq_ld, harg1.read_unread, View.ld_unit_lit _ _ (by decide), View.readAt_eq_ld, harg2.read_unread, View.ld_unit_lit _ _ (by decide), View.readAt_eq_ld, harg3.read_unread, View.ld_unit_lit _ _ (by decide)]

theorem k_all (y : S688x512.Idx) : out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0 y = k0_pay6 (F := Ideal) x0 x1 x3 y := by
  unfold out0_B_11
  rw [View.read_writes_junk_eq_canon]
  unfold kernelRun0_B
  dsimp only
  rw [View.canon_cons_unit_lit _ _ _ (by decide), View.readAt_eq_ld, harg1.read_unread, View.ld_unit_lit _ _ (by decide), View.readAt_eq_ld, harg2.read_unread, View.ld_unit_lit _ _ (by decide), View.readAt_eq_ld, harg4.read_unread, View.ld_unit_lit _ _ (by decide)]

theorem v_all (y : S688x512.Idx) : out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0 y = k0_pay7 (F := Ideal) x0 x1 x4 y := by
  unfold out0_B_12
  rw [View.read_writes_junk_eq_canon]
  unfold kernelRun0_B
  dsimp only
  rw [View.canon_cons_unit_lit _ _ _ (by decide), View.readAt_eq_ld, harg1.read_unread, View.ld_unit_lit _ _ (by decide), View.readAt_eq_ld, harg2.read_unread, View.ld_unit_lit _ _ (by decide), View.readAt_eq_ld, harg5.read_unread, View.ld_unit_lit _ _ (by decide)]

theorem f_all (y : S688x8.Idx) : out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0 y = k0_pay10 (F := Ideal) (k0_pay4 x0 x1) k0_pay8 x5 x6 y := by
  unfold out0_B_13
  rw [View.read_writes_junk_eq_canon]
  unfold kernelRun0_B
  dsimp only
  unfold kernelRun0_B.sl.r
  rw [View.canon_cons_unit_lit _ _ _ (by decide), View.readAt_eq_ld, harg1.read_unread, View.ld_unit_lit _ _ (by decide), View.readAt_eq_ld, harg2.read_unread, View.ld_unit_lit _ _ (by decide), View.readAt_eq_ld, harg6.read_unread, View.ld_unit_lit _ _ (by decide), View.readAt_eq_ld, harg7.read_unread, View.ld_unit_lit _ _ (by decide)]

end Cert.FoxProj.RunB

end
-- ==== Proof.FoxProj.Ref.lean ====
/-
  The forgetting attention's projections' reference, entry by entry.
-/
module

public import proofs.«01_k».proof.Proof.Gen.FoxProjRefIdeal.Read
public import proofs.«01_k».proof.Proof.Fox.Rows
public import Idealize.ShloMosaic.Lib.Pointwise

@[expose] public section

noncomputable section

namespace Cert.FoxProj

open Cert.FoxProjRefIdeal Cert.FoxProjRefIdeal.Gen Cert.FoxProjRefIdeal.Read Cert.Rows
open Idealize.ShloMosaic Idealize.ShloMosaic.StableHlo

variable (x : Vec Ideal S66048x1024 .f32) (g : Vec Ideal S1024 .f32) (w : Vec Ideal S1024x6680 .f32) (b : Vec Ideal S8 .f32)

/-- Column `j` of the projection of row `r`. -/
def col (r : Fin 66048) (j : Fin 6680) : EReal :=
  ∑ k : Fin 1024, rms (fun k => x (ix2 r k)) (fun k => g (ix1 k)) k * w (ix2 k j)

theorem norm_ref (r : Fin 66048) (d : Fin 1024) :
    (val_main_v12 (F := Ideal) x g : Vec Ideal S66048x1024 .f32) (ix2 r d) = rms (fun k => x (ix2 r k)) (fun k => g (ix1 k)) d := by
  unfold val_main_v12 val_main_v11 val_main_v10 val_main_v9 val_main_v8 val_main_v7 val_main_v6 val_main_v5 val_main_v4 val_main_v3 val_main_v2 val_main_v1 val_main_v0 val_main_cst val_main_cst_0 val_main_cst_1 rms
  pointwise

theorem col_ref (r : Fin 66048) (j : Fin 6680) :
    (val_main_v13 (F := Ideal) x g w : Vec Ideal S66048x6680 .f32) (ix2 r j) = col x g w r j := by
  have h : (val_main_v13 (F := Ideal) x g w : Vec Ideal S66048x6680 .f32) (ix2 r j)
      = ∑ k : Fin 1024, (val_main_v12 (F := Ideal) x g : Vec Ideal S66048x1024 .f32) (ix2 r k) * w (ix2 k j) := by
    unfold val_main_v13
    generalize val_main_v12 (F := Ideal) x g = b
    pointwise
  rw [h]
  exact Finset.sum_congr rfl fun k _ => by rw [norm_ref]

theorem q_ref (r : Fin 66048) (d : Fin 512) :
    (val_main_v24 (F := Ideal) x g w : Vec Ideal S66048x512 .bf16) (ix2 r d) = col x g w r ⟨d.val, by omega⟩ * eighth := by
  rw [← col_ref]
  unfold val_main_v24 val_main_v23 val_main_v22 val_main_cst_2 val_main_v14
  generalize val_main_v13 (F := Ideal) x g w = p
  pointwise
  try rfl

theorem k_ref (r : Fin 66048) (d : Fin 512) :
    (val_main_v15 (F := Ideal) x g w : Vec Ideal S66048x512 .f32) (ix2 r d) = col x g w r ⟨512 + d.val, by omega⟩ := by
  rw [← col_ref]
  unfold val_main_v15
  generalize val_main_v13 (F := Ideal) x g w = p
  pointwise
  try rfl

theorem v_ref (r : Fin 66048) (d : Fin 512) :
    (val_main_v16 (F := Ideal) x g w : Vec Ideal S66048x512 .f32) (ix2 r d) = col x g w r ⟨1024 + d.val, by omega⟩ := by
  rw [← col_ref]
  unfold val_main_v16
  generalize val_main_v13 (F := Ideal) x g w = p
  pointwise
  try rfl

theorem f_ref (r : Fin 66048) (d : Fin 8) :
    (val_main_v21 (F := Ideal) x g w b : Vec Ideal S66048x8 .f32) (ix2 r d) = logSig (col x g w r ⟨1536 + d.val, by omega⟩ + b (ix1 d)) := by
  rw [← col_ref]
  unfold val_main_v21 val_main_call0_v1 val_main_call0_call0_v11 val_main_call0_call0_v10 val_main_call0_call0_v9 val_main_call0_call0_v8 val_main_call0_call0_v7 val_main_call0_call0_v6 val_main_call0_call0_v5 val_main_call0_call0_v4 val_main_call0_call0_v3 val_main_call0_call0_v2 val_main_call0_call0_v1 val_main_call0_call0_v0 val_main_call0_call0_cst val_main_call0_v0 val_main_v20 val_main_v19 val_main_v18 val_main_v17
  generalize val_main_v13 (F := Ideal) x g w = p
  pointwise
  exact logSig_eq _

end Cert.FoxProj

end
-- ==== Proof.FoxProj.Final.lean ====
/-
  The result arrays of the forgetting attention's projections.
-/
module

public import proofs.«01_k».proof.Proof.FoxProj.Args
public import proofs.«01_k».proof.Proof.FoxProj.Run
public import proofs.«01_k».proof.Proof.FoxProj.Ref

@[expose] public section

set_option maxRecDepth 16384

noncomputable section

namespace Cert.FoxProj

open Cert.FoxProjIdeal Cert.FoxProjIdeal.Gen Cert.Rows
open Idealize.ShloMosaic Idealize.ShloMosaic.TcCoe

variable (m : (ℓ : Loc nD τ sig) → Buf (Elt Ideal) ℓ) (c : Dev nD)

abbrev cl (r : Fin 66048) (j : Fin 6680) : EReal := col (ax m c) (ag m c) (aw m c) r j

def GQ : Vec Ideal S66048x512 .bf16 := fun i => cl m c (i 0) ⟨(i 1).val, by have : (i 1).val < 512 := (i 1).isLt; omega⟩ * eighth
def GK : Vec Ideal S66048x512 .f32 := fun i => cl m c (i 0) ⟨512 + (i 1).val, by have : (i 1).val < 512 := (i 1).isLt; omega⟩
def GV : Vec Ideal S66048x512 .f32 := fun i => cl m c (i 0) ⟨1024 + (i 1).val, by have : (i 1).val < 512 := (i 1).isLt; omega⟩
def GF : Vec Ideal S66048x8 .f32 := fun i => logSig (cl m c (i 0) ⟨1536 + (i 1).val, by have : (i 1).val < 8 := (i 1).isLt; omega⟩ + ab m c (ix1 (i 1)))

/-- The normalised row, as the launch computes it from its blocks. -/
theorem norm_blk (t : Fin cfg0.N) (r : Fin 688) (k : Fin 1024) :
    (k0_pay4 (F := Ideal) (iblk m c 0 t) (iblk m c 1 t) : Vec Ideal S688x1024 .bf16) (ix2 r k)
      = rms (fun k => ax m c (ix2 (row t r) k)) (fun k => ag m c (ix1 k)) k := by
  rw [norm_at]
  congr 1
  · exact funext fun k => blk0 m c t r k
  · exact funext fun k => blk1 m c t k

theorem col_blk (t : Fin cfg0.N) (r : Fin 688) (w : Fin 1024 → EReal) (j : Fin 6680) (hw : ∀ k, w k = aw m c (ix2 k j)) :
    (∑ k : Fin 1024, (k0_pay4 (F := Ideal) (iblk m c 0 t) (iblk m c 1 t) : Vec Ideal S688x1024 .bf16) (ix2 r k) * w k) = cl m c (row t r) j :=
  Finset.sum_congr rfl fun k _ => by rw [norm_blk, hw]

theorem q_blk (t : Fin cfg0.N) (r : Fin 688) (d : Fin 512) :
    (∑ k : Fin 1024, (k0_pay4 (F := Ideal) (iblk m c 0 t) (iblk m c 1 t) : Vec Ideal S688x1024 .bf16) (ix2 r k) * (iblk m c 2 t : Vec Ideal S1024x512 .bf16) (ix2 k d))
      = cl m c (row t r) ⟨d.val, by omega⟩ * eighth := by
  refine Eq.trans (Finset.sum_congr rfl fun k _ => ?_) (sum_eighth _ _)
  rw [norm_blk, blk2]

theorem f_blk (t : Fin cfg0.N) (r : Fin 688) (d : Fin 8) :
    logSig ((∑ k : Fin 1024, (k0_pay4 (F := Ideal) (iblk m c 0 t) (iblk m c 1 t) : Vec Ideal S688x1024 .bf16) (ix2 r k) * (iblk m c 5 t : Vec Ideal S1024x128 .bf16) (ix2 k ⟨d.val, by omega⟩))
      + (iblk m c 6 t : Vec Ideal S1x128 .f32) (ix2 0 ⟨d.val, by omega⟩)) = logSig (cl m c (row t r) ⟨1536 + d.val, by omega⟩ + ab m c (ix1 d)) := by
  refine congrArg logSig (congrArg₂ (· + ·) (col_blk m c t r _ _ fun k => ?_) ?_)
  · exact (blk5 m c t k _).trans (dif_pos d.isLt)
  · exact (blk6 m c t _).trans (dif_pos d.isLt)

theorem arr10 : (dats m 0 c).arrAt 10 cfg0.N = GQ m c := by
  refine (dats m 0 c).arrAt_eq_of_covers 10 _ (by decide +kernel) fun t hf y => ?_
  blk_simp
  rw [after0_10]
  obtain ⟨r, d, rfl⟩ : ∃ (r : Fin 688) (d : Fin 512), y = ix2 r d := ⟨y 0, y 1, ValueIdx.eq_ix2 y⟩
  have he : ((cfg0.win 10).blk t).view.emb (ix2 r d) = ix2 (row t r) d := by
    blk_ext [idxo t, row]
  rw [he]
  by_cases h0 : t.val % 3 = 0
  · rw [outsAt0_A m c t h0]
    dsimp only
    exact (RunA.q_all _ _ _ _ _ _ _ _ _ _ _ _ _ _ _ _ _ _ _ _ _ _ _ _ _ _ _ _ _ _ _ _ _ _ _ _ _ _ _ _ _ _ _ _ _ _ _ (ix2 r d)).trans ((loq _ _ _ r d).trans (q_blk m c t r d))
  · rw [outsAt0_B m c t h0]
    dsimp only
    exact (RunB.q_all _ _ _ _ _ _ _ _ _ _ _ _ _ _ _ _ _ _ _ _ _ _ _ _ _ _ _ _ _ _ _ _ _ _ _ _ _ _ _ _ _ _ _ _ _ _ _ _ (ix2 r d)).trans ((loq _ _ _ r d).trans (q_blk m c t r d))

theorem arr11 : (dats m 0 c).arrAt 11 cfg0.N = GK m c := by
  refine (dats m 0 c).arrAt_eq_of_covers 11 _ (by decide +kernel) fun t hf y => ?_
  blk_simp
  rw [after0_11]
  obtain ⟨r, d, rfl⟩ : ∃ (r : Fin 688) (d : Fin 512), y = ix2 r d := ⟨y 0, y 1, ValueIdx.eq_ix2 y⟩
  have he : ((cfg0.win 11).blk t).view.emb (ix2 r d) = ix2 (row t r) d := by
    blk_ext [idxo t, row]
  rw [he]
  by_cases h0 : t.val % 3 = 0
  · rw [outsAt0_A m c t h0]
    dsimp only
    exact (RunA.k_all _ _ _ _ _ _ _ _ _ _ _ _ _ _ _ _ _ _ _ _ _ _ _ _ _ _ _ _ _ _ _ _ _ _ _ _ _ _ _ _ _ _ _ _ _ _ _ (ix2 r d)).trans ((lok _ _ _ r d).trans (col_blk m c t r _ _ fun k => blk3 m c t k d))
  · rw [outsAt0_B m c t h0]
    dsimp only
    exact (RunB.k_all _ _ _ _ _ _ _ _ _ _ _ _ _ _ _ _ _ _ _ _ _ _ _ _ _ _ _ _ _ _ _ _ _ _ _ _ _ _ _ _ _ _ _ _ _ _ _ _ (ix2 r d)).trans ((lok _ _ _ r d).trans (col_blk m c t r _ _ fun k => blk3 m c t k d))

theorem arr12 : (dats m 0 c).arrAt 12 cfg0.N = GV m c := by
  refine (dats m 0 c).arrAt_eq_of_covers 12 _ (by decide +kernel) fun t hf y => ?_
  blk_simp
  rw [after0_12]
  obtain ⟨r, d, rfl⟩ : ∃ (r : Fin 688) (d : Fin 512), y = ix2 r d := ⟨y 0, y 1, ValueIdx.eq_ix2 y⟩
  have he : ((cfg0.win 12).blk t).view.emb (ix2 r d) = ix2 (row t r) d := by
    blk_ext [idxo t, row]
  rw [he]
  by_cases h0 : t.val % 3 = 0
  · rw [outsAt0_A m c t h0]
    dsimp only
    exact (RunA.v_all _ _ _ _ _ _ _ _ _ _ _ _ _ _ _ _ _ _ _ _ _ _ _ _ _ _ _ _ _ _ _ _ _ _ _ _ _ _ _ _ _ _ _ _ _ _ _ (ix2 r d)).trans ((lov _ _ _ r d).trans (col_blk m c t r _ _ fun k => blk4 m c t k d))
  · rw [outsAt0_B m c t h0]
    dsimp only
    exact (RunB.v_all _ _ _ _ _ _ _ _ _ _ _ _ _ _ _ _ _ _ _ _ _ _ _ _ _ _ _ _ _ _ _ _ _ _ _ _ _ _ _ _ _ _ _ _ _ _ _ _ (ix2 r d)).trans ((lov _ _ _ r d).trans (col_blk m c t r _ _ fun k => blk4 m c t k d))

theorem arr13 : (dats m 0 c).arrAt 13 cfg0.N = GF m c := by
  refine (dats m 0 c).arrAt_eq_of_covers 13 _ (by decide +kernel) fun t hf y => ?_
  blk_simp
  rw [after0_13]
  obtain ⟨r, d, rfl⟩ : ∃ (r : Fin 688) (d : Fin 8), y = ix2 r d := ⟨y 0, y 1, ValueIdx.eq_ix2 y⟩
  have he : ((cfg0.win 13).blk t).view.emb (ix2 r d) = ix2 (row t r) d := by
    blk_ext [idxo t, row]
  rw [he]
  by_cases h0 : t.val % 3 = 0
  · rw [outsAt0_A m c t h0]
    dsimp only
    exact (RunA.f_all _ _ _ _ _ _ _ _ _ _ _ _ _ _ _ _ _ _ _ _ _ _ _ _ _ _ _ _ _ _ _ _ _ _ _ _ _ _ _ _ _ _ _ _ _ _ _ (ix2 r d)).trans ((lof _ _ _ r d).trans (f_blk m c t r d))
  · rw [outsAt0_B m c t h0]
    dsimp only
    exact (RunB.f_all _ _ _ _ _ _ _ _ _ _ _ _ _ _ _ _ _ _ _ _ _ _ _ _ _ _ _ _ _ _ _ _ _ _ _ _ _ _ _ _ _ _ _ _ _ _ _ _ (ix2 r d)).trans ((lof _ _ _ r d).trans (f_blk m c t r d))

end Cert.FoxProj

end
-- ==== Proof.FoxProj.Claim.lean ====
/-
  The claims on the launch of the forgetting attention's projections and its reference, put together.
-/
module

public import proofs.«01_k».proof.Defs
public import proofs.«01_k».proof.Proof.FoxProj.Final
public import proofs.«01_k».proof.Proof.Gen.FoxProjIdeal.Value

@[expose] public section

set_option maxRecDepth 16384

noncomputable section

namespace Cert.FoxProj

open Idealize.ShloMosaic Idealize.SL.Sem Idealize.ShloMosaic.TcCoe

/-- The reference ends with its arguments unchanged; it declares no semaphore. -/
theorem ref_frame (m : (ℓ : Loc Cert.FoxProjRefIdeal.nD Cert.FoxProjRefIdeal.τ Cert.FoxProjRefIdeal.sig) → Buf (Elt Ideal) ℓ) (ρ : Dev Cert.FoxProjRefIdeal.nD → PrngReg) :
    θ_run (Cert.FoxProjRefIdeal.defs (F := Ideal)) (onTc (τ := Cert.FoxProjRefIdeal.τ) (Cert.FoxProjRefIdeal.main (F := Ideal))) ⟨m, fun _ => 0, ρ⟩ (fun r => (∀ c : Dev Cert.FoxProjRefIdeal.nD,
      r.2.mem ((c.tc : Thread Cert.FoxProjRefIdeal.nD Cert.FoxProjRefIdeal.τ).loc Cert.FoxProjRefIdeal.main_arg0) = m ((c.tc : Thread Cert.FoxProjRefIdeal.nD Cert.FoxProjRefIdeal.τ).loc Cert.FoxProjRefIdeal.main_arg0)
      ∧ r.2.mem ((c.tc : Thread Cert.FoxProjRefIdeal.nD Cert.FoxProjRefIdeal.τ).loc Cert.FoxProjRefIdeal.main_arg1) = m ((c.tc : Thread Cert.FoxProjRefIdeal.nD Cert.FoxProjRefIdeal.τ).loc Cert.FoxProjRefIdeal.main_arg1)
      ∧ r.2.mem ((c.tc : Thread Cert.FoxProjRefIdeal.nD Cert.FoxProjRefIdeal.τ).loc Cert.FoxProjRefIdeal.main_arg2) = m ((c.tc : Thread Cert.FoxProjRefIdeal.nD Cert.FoxProjRefIdeal.τ).loc Cert.FoxProjRefIdeal.main_arg2)
      ∧ r.2.mem ((c.tc : Thread Cert.FoxProjRefIdeal.nD Cert.FoxProjRefIdeal.τ).loc Cert.FoxProjRefIdeal.main_arg3) = m ((c.tc : Thread Cert.FoxProjRefIdeal.nD Cert.FoxProjRefIdeal.τ).loc Cert.FoxProjRefIdeal.main_arg3))
      ∧ r.2.sem = fun _ => 0) := by
  exact (θ_run _ _ _).mono (fun r h => ⟨fun c => (h c).2.2.2.2, sem_eq_zero_of_no_sems (by decide) r.2⟩) (Cert.FoxProjRefIdeal.Value.run m ρ)

open Cert.FoxProjRefIdeal.Read in
theorem algebraic : Cert.algebraic_FoxProjIdeal_FoxProjRefIdeal := by
  intro m g m' g' hpre hagree
  refine ⟨fun c => GQ m c, fun c => GK m c, fun c => GV m c, fun c => GF m c, ?_, ?_⟩
  · refine (θ_run _ _ _).mono (fun r h c => ?_) (Cert.FoxProjIdeal.Value.run_blocks m g)
    obtain ⟨h1, h2, h3, h4, -, -, ha⟩ := h c
    exact ⟨h1.trans (arr10 m c), h2.trans (arr11 m c), h3.trans (arr12 m c), h4.trans (arr13 m c), ha⟩
  · refine (θ_run _ _ _).mono (fun r h c => ?_) (Cert.FoxProjRefIdeal.Value.run m' g')
    obtain ⟨h1, h2, h3, h4, ha⟩ := h c
    obtain ⟨e0, e1, e2, e3⟩ := hagree c
    refine ⟨h1.trans ((val_main_v24_eq _ _ _).trans ?_), h2.trans ((val_main_v15_eq _ _ _).trans ?_), h3.trans ((val_main_v16_eq _ _ _).trans ?_), h4.trans ((val_main_v21_eq m' c).trans ?_), ha⟩
    · rw [e0, e1, e2]
      funext i
      obtain ⟨r, d, rfl⟩ : ∃ (r : Fin 66048) (d : Fin 512), i = ix2 r d := ⟨i 0, i 1, ValueIdx.eq_ix2 i⟩
      exact q_ref _ _ _ r d
    · rw [e0, e1, e2]
      funext i
      obtain ⟨r, d, rfl⟩ : ∃ (r : Fin 66048) (d : Fin 512), i = ix2 r d := ⟨i 0, i 1, ValueIdx.eq_ix2 i⟩
      exact k_ref _ _ _ r d
    · rw [e0, e1, e2]
      funext i
      obtain ⟨r, d, rfl⟩ : ∃ (r : Fin 66048) (d : Fin 512), i = ix2 r d := ⟨i 0, i 1, ValueIdx.eq_ix2 i⟩
      exact v_ref _ _ _ r d
    · rw [e0, e1, e2, e3]
      funext i
      obtain ⟨r, d, rfl⟩ : ∃ (r : Fin 66048) (d : Fin 8), i = ix2 r d := ⟨i 0, i 1, ValueIdx.eq_ix2 i⟩
      exact f_ref _ _ _ _ r d

end Cert.FoxProj

end
-- ==== Proof.FoxStep.Args.lean ====
/-
  The operands the launch of the forgetting attention's projections is given, entry by entry.
-/
module

public import proofs.«01_k».proof.Proof.Gen.FoxStepIdeal.Frame
public import Idealize.ShloMosaic.Lib.StableHlo.ReadAt
public import Idealize.ShloMosaic.Lib.Pointwise
public import Idealize.ShloMosaic.Lib.Pipeline.ValueKit

@[expose] public section

set_option maxRecDepth 16384

noncomputable section

namespace Cert.FoxStep

open Cert.FoxStepIdeal Cert.FoxStepIdeal.Gen
open Idealize.ShloMosaic Idealize.ShloMosaic.TcCoe Idealize.ShloMosaic.StableHlo

variable (m : (ℓ : Loc nD τ sig) → Buf (Elt Ideal) ℓ) (c : Dev nD)

abbrev ax : Vec Ideal S128x1024 .f32 := m ((c : Thread nD τ).loc main_arg0)
abbrev ag : Vec Ideal S1024 .f32 := m ((c : Thread nD τ).loc main_arg1)
abbrev aw : Vec Ideal S1024x6680 .f32 := m ((c : Thread nD τ).loc main_arg2)
abbrev ab : Vec Ideal S8 .f32 := m ((c : Thread nD τ).loc main_arg3)

theorem g_at (d : Fin 1024) : (V m c main_v0 : Vec Ideal S1x1024 .f32) (ix2 0 d) = ag m c (ix1 d) := by
  unfold V
  after_reads_at

theorem q_at (k : Fin 1024) (d : Fin 512) : (V m c main_v7 : Vec Ideal S1024x512 .bf16) (ix2 k d) = aw m c (ix2 k ⟨d.val, by omega⟩) * Ideal.ofBits .f32 0x3E000000#32 := by
  unfold V
  after_reads_at

theorem k_at (k : Fin 1024) (d : Fin 512) : (V m c main_v8 : Vec Ideal S1024x512 .bf16) (ix2 k d) = aw m c (ix2 k ⟨512 + d.val, by omega⟩) := by
  unfold V
  after_reads_at

theorem v_at (k : Fin 1024) (d : Fin 512) : (V m c main_v9 : Vec Ideal S1024x512 .bf16) (ix2 k d) = aw m c (ix2 k ⟨1024 + d.val, by omega⟩) := by
  unfold V
  after_reads_at

theorem f_at (k : Fin 1024) (d : Fin 128) : (V m c main_v11 : Vec Ideal S1024x128 .bf16) (ix2 k d) = if h : d.val < 8 then aw m c (ix2 k ⟨1536 + d.val, by omega⟩) else 0 := by
  unfold V
  after_reads_at
  pointwise
  split
  · rfl
  · show ((((0#32 : BitVec 32).toInt : ℤ) : ℝ) : EReal) = 0
    simp

theorem b_at (d : Fin 128) : (V m c main_v13 : Vec Ideal S1x128 .f32) (ix2 0 d) = if h : d.val < 8 then ab m c (ix1 ⟨d.val, h⟩) else 0 := by
  unfold V
  after_reads_at
  pointwise
  split
  · rfl
  · show ((((0#32 : BitVec 32).toInt : ℤ) : ℝ) : EReal) = 0
    simp

/-! The operands' blocks at a grid point. -/

theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] := by
  decide +kernel

theorem idxo : ∀ t : Fin cfg0.N, win0_7.index t = ![t.val, 0] ∧ win0_8.index t = ![t.val, 0] ∧ win0_9.index t = ![t.val, 0] ∧ win0_10.index t = ![t.val, 0] := by
  decide +kernel

/-- The row of the arrays that row `r` of a grid point's block is. -/
def row (t : Fin cfg0.N) (r : Fin 128) : Fin 128 := ⟨128 * t.val + r.val, by have : t.val < 1 := t.isLt; omega⟩

theorem blk0 (t : Fin cfg0.N) (r : Fin 128) (d : Fin 1024) :
    (iblk m c 0 t : Vec Ideal S128x1024 .f32) (ix2 r d) = ax m c (ix2 (row t r) d) := by
  unfold ax
  rw [← V_main_arg0 m c]
  blk_ext [iblk, idx t, row]

theorem blk1 (t : Fin cfg0.N) (d : Fin 1024) : (iblk m c 1 t : Vec Ideal S1x1024 .f32) (ix2 0 d) = ag m c (ix1 d) := by
  rw [← g_at]
  blk_ext [iblk, idx t]

theorem blk2 (t : Fin cfg0.N) (k : Fin 1024) (d : Fin 512) : (iblk m c 2 t : Vec Ideal S1024x512 .bf16) (ix2 k d) = aw m c (ix2 k ⟨d.val, by omega⟩) * Ideal.ofBits .f32 0x3E000000#32 := by
  rw [← q_at]
  blk_ext [iblk, idx t]

theorem blk3 (t : Fin cfg0.N) (k : Fin 1024) (d : Fin 512) : (iblk m c 3 t : Vec Ideal S1024x512 .bf16) (ix2 k d) = aw m c (ix2 k ⟨512 + d.val, by omega⟩) := by
  rw [← k_at]
  blk_ext [iblk, idx t]

theorem blk4 (t : Fin cfg0.N) (k : Fin 1024) (d : Fin 512) : (iblk m c 4 t : Vec Ideal S1024x512 .bf16) (ix2 k d) = aw m c (ix2 k ⟨1024 + d.val, by omega⟩) := by
  rw [← v_at]
  blk_ext [iblk, idx t]

theorem blk5 (t : Fin cfg0.N) (k : Fin 1024) (d : Fin 128) : (iblk m c 5 t : Vec Ideal S1024x128 .bf16) (ix2 k d) = if h : d.val < 8 then aw m c (ix2 k ⟨1536 + d.val, by omega⟩) else 0 := by
  rw [← f_at]
  blk_ext [iblk, idx t]

theorem blk6 (t : Fin cfg0.N) (d : Fin 128) : (iblk m c 6 t : Vec Ideal S1x128 .f32) (ix2 0 d) = if h : d.val < 8 then ab m c (ix1 ⟨d.val, h⟩) else 0 := by
  rw [← b_at]
  blk_ext [iblk, idx t]

end Cert.FoxStep

end
-- ==== Proof.FoxStep.Block.lean ====
/-
  The forgetting attention's projections of one block of rows, entry by entry.
-/
module

public import proofs.«01_k».proof.Proof.Gen.FoxStepIdeal.Skeleton
public import proofs.«01_k».proof.Proof.Fox.Rows
public import Idealize.ShloMosaic.Lib.Pointwise

@[expose] public section

noncomputable section

namespace Cert.FoxStep

open Cert.FoxStepIdeal Cert.FoxStepIdeal.Gen Cert.Rows
open Idealize.ShloMosaic

variable (x : Vec Ideal S128x1024 .f32) (g : Vec Ideal S1x1024 .f32)

theorem norm_at (r : Fin 128) (d : Fin 1024) :
    (k0_pay2 (F := Ideal) x g : Vec Ideal S128x1024 .bf16) (ix2 r d) = rms (fun k => x (ix2 r k)) (fun k => g (ix2 0 k)) d := by
  unfold k0_pay2 rms
  pointwise

theorem loq (w : Vec Ideal S1024x512 .bf16) (r : Fin 128) (d : Fin 512) :
    (k0_pay3 (F := Ideal) x g w : Vec Ideal S128x512 .f32) (ix2 r d) = ∑ k : Fin 1024, (k0_pay2 (F := Ideal) x g : Vec Ideal S128x1024 .bf16) (ix2 r k) * w (ix2 k d) := by
  unfold k0_pay3
  generalize k0_pay2 (F := Ideal) x g = b
  pointwise

theorem lok (w : Vec Ideal S1024x512 .bf16) (r : Fin 128) (d : Fin 512) :
    (k0_pay4 (F := Ideal) x g w : Vec Ideal S128x512 .f32) (ix2 r d) = ∑ k : Fin 1024, (k0_pay2 (F := Ideal) x g : Vec Ideal S128x1024 .bf16) (ix2 r k) * w (ix2 k d) := by
  unfold k0_pay4
  generalize k0_pay2 (F := Ideal) x g = b
  pointwise

theorem lov (w : Vec Ideal S1024x512 .bf16) (r : Fin 128) (d : Fin 512) :
    (k0_pay5 (F := Ideal) x g w : Vec Ideal S128x512 .f32) (ix2 r d) = ∑ k : Fin 1024, (k0_pay2 (F := Ideal) x g : Vec Ideal S128x1024 .bf16) (ix2 r k) * w (ix2 k d) := by
  unfold k0_pay5
  generalize k0_pay2 (F := Ideal) x g = b
  pointwise

/-- A column below eight passes the mask. -/
theorem mask_at (d : Fin 128) (hd : d.val < 8) : (k0_pay6 : IVec S1x128 1) (ix2 0 d) = 1#1 := by
  obtain ⟨d, hd'⟩ := d
  unfold k0_pay6
  simp only at hd
  interval_cases d <;> rfl

theorem lof (b : Vec Ideal S128x1024 .bf16) (wf : Vec Ideal S1024x128 .bf16) (bf : Vec Ideal S1x128 .f32) (r : Fin 128) (d : Fin 8) :
    (k0_pay1 (F := Ideal) b k0_pay6 wf bf : Vec Ideal S128x8 .f32) (ix2 r d)
      = logSig ((∑ k : Fin 1024, b (ix2 r k) * wf (ix2 k ⟨d.val, by omega⟩)) + bf (ix2 0 ⟨d.val, by omega⟩)) := by
  have hm := mask_at ⟨d.val, by omega⟩ d.isLt
  unfold k0_pay1 logSig
  generalize (k0_pay6 : IVec S1x128 1) = q at hm
  pointwise
  simp only [hm, Ideal.ofBits_zero_f32, zero_sub, zero_add]
  rfl

end Cert.FoxStep

end
-- ==== Proof.FoxStep.Ref.lean ====
/-
  The forgetting attention's projections' reference, entry by entry.
-/
module

public import proofs.«01_k».proof.Proof.Gen.FoxStepRefIdeal.Read
public import proofs.«01_k».proof.Proof.Fox.Rows
public import Idealize.ShloMosaic.Lib.Pointwise

@[expose] public section

noncomputable section

namespace Cert.FoxStep

open Cert.FoxStepRefIdeal Cert.FoxStepRefIdeal.Gen Cert.FoxStepRefIdeal.Read Cert.Rows
open Idealize.ShloMosaic Idealize.ShloMosaic.StableHlo

variable (x : Vec Ideal S128x1024 .f32) (g : Vec Ideal S1024 .f32) (w : Vec Ideal S1024x6680 .f32) (b : Vec Ideal S8 .f32)

/-- Column `j` of the projection of row `r`. -/
def col (r : Fin 128) (j : Fin 6680) : EReal :=
  ∑ k : Fin 1024, rms (fun k => x (ix2 r k)) (fun k => g (ix1 k)) k * w (ix2 k j)

theorem norm_ref (r : Fin 128) (d : Fin 1024) :
    (val_main_v12 (F := Ideal) x g : Vec Ideal S128x1024 .f32) (ix2 r d) = rms (fun k => x (ix2 r k)) (fun k => g (ix1 k)) d := by
  unfold val_main_v12 val_main_v11 val_main_v10 val_main_v9 val_main_v8 val_main_v7 val_main_v6 val_main_v5 val_main_v4 val_main_v3 val_main_v2 val_main_v1 val_main_v0 val_main_cst val_main_cst_0 val_main_cst_1 rms
  pointwise

theorem col_ref (r : Fin 128) (j : Fin 6680) :
    (val_main_v13 (F := Ideal) x g w : Vec Ideal S128x6680 .f32) (ix2 r j) = col x g w r j := by
  have h : (val_main_v13 (F := Ideal) x g w : Vec Ideal S128x6680 .f32) (ix2 r j)
      = ∑ k : Fin 1024, (val_main_v12 (F := Ideal) x g : Vec Ideal S128x1024 .f32) (ix2 r k) * w (ix2 k j) := by
    unfold val_main_v13
    generalize val_main_v12 (F := Ideal) x g = b
    pointwise
  rw [h]
  exact Finset.sum_congr rfl fun k _ => by rw [norm_ref]

theorem q_ref (r : Fin 128) (d : Fin 512) :
    (val_main_v23 (F := Ideal) x g w : Vec Ideal S128x512 .f32) (ix2 r d) = col x g w r ⟨d.val, by omega⟩ * eighth := by
  rw [← col_ref]
  unfold val_main_v23 val_main_v22 val_main_cst_2 val_main_v14
  generalize val_main_v13 (F := Ideal) x g w = p
  pointwise
  try rfl

theorem k_ref (r : Fin 128) (d : Fin 512) :
    (val_main_v15 (F := Ideal) x g w : Vec Ideal S128x512 .f32) (ix2 r d) = col x g w r ⟨512 + d.val, by omega⟩ := by
  rw [← col_ref]
  unfold val_main_v15
  generalize val_main_v13 (F := Ideal) x g w = p
  pointwise
  try rfl

theorem v_ref (r : Fin 128) (d : Fin 512) :
    (val_main_v16 (F := Ideal) x g w : Vec Ideal S128x512 .f32) (ix2 r d) = col x g w r ⟨1024 + d.val, by omega⟩ := by
  rw [← col_ref]
  unfold val_main_v16
  generalize val_main_v13 (F := Ideal) x g w = p
  pointwise
  try rfl

theorem f_ref (r : Fin 128) (d : Fin 8) :
    (val_main_v21 (F := Ideal) x g w b : Vec Ideal S128x8 .f32) (ix2 r d) = logSig (col x g w r ⟨1536 + d.val, by omega⟩ + b (ix1 d)) := by
  rw [← col_ref]
  unfold val_main_v21 val_main_call0_v1 val_main_call0_call0_v11 val_main_call0_call0_v10 val_main_call0_call0_v9 val_main_call0_call0_v8 val_main_call0_call0_v7 val_main_call0_call0_v6 val_main_call0_call0_v5 val_main_call0_call0_v4 val_main_call0_call0_v3 val_main_call0_call0_v2 val_main_call0_call0_v1 val_main_call0_call0_v0 val_main_call0_call0_cst val_main_call0_v0 val_main_v20 val_main_v19 val_main_v18 val_main_v17
  generalize val_main_v13 (F := Ideal) x g w = p
  pointwise
  exact logSig_eq _

end Cert.FoxStep

end
-- ==== Proof.FoxStep.Final.lean ====
/-
  The result arrays of the forgetting attention's projections.
-/
module

public import proofs.«01_k».proof.Proof.FoxStep.Args
public import proofs.«01_k».proof.Proof.FoxStep.Block
public import proofs.«01_k».proof.Proof.FoxStep.Ref

@[expose] public section

set_option maxRecDepth 16384

noncomputable section

namespace Cert.FoxStep

open Cert.FoxStepIdeal Cert.FoxStepIdeal.Gen Cert.Rows
open Idealize.ShloMosaic Idealize.ShloMosaic.TcCoe

variable (m : (ℓ : Loc nD τ sig) → Buf (Elt Ideal) ℓ) (c : Dev nD)

abbrev cl (r : Fin 128) (j : Fin 6680) : EReal := col (ax m c) (ag m c) (aw m c) r j

def GQ : Vec Ideal S128x512 .f32 := fun i => cl m c (i 0) ⟨(i 1).val, by have : (i 1).val < 512 := (i 1).isLt; omega⟩ * eighth
def GK : Vec Ideal S128x512 .f32 := fun i => cl m c (i 0) ⟨512 + (i 1).val, by have : (i 1).val < 512 := (i 1).isLt; omega⟩
def GV : Vec Ideal S128x512 .f32 := fun i => cl m c (i 0) ⟨1024 + (i 1).val, by have : (i 1).val < 512 := (i 1).isLt; omega⟩
def GF : Vec Ideal S128x8 .f32 := fun i => logSig (cl m c (i 0) ⟨1536 + (i 1).val, by have : (i 1).val < 8 := (i 1).isLt; omega⟩ + ab m c (ix1 (i 1)))

/-- The normalised row, as the launch computes it from its blocks. -/
theorem norm_blk (t : Fin cfg0.N) (r : Fin 128) (k : Fin 1024) :
    (k0_pay2 (F := Ideal) (iblk m c 0 t) (iblk m c 1 t) : Vec Ideal S128x1024 .bf16) (ix2 r k)
      = rms (fun k => ax m c (ix2 (row t r) k)) (fun k => ag m c (ix1 k)) k := by
  rw [norm_at]
  congr 1
  · exact funext fun k => blk0 m c t r k
  · exact funext fun k => blk1 m c t k

theorem col_blk (t : Fin cfg0.N) (r : Fin 128) (w : Fin 1024 → EReal) (j : Fin 6680) (hw : ∀ k, w k = aw m c (ix2 k j)) :
    (∑ k : Fin 1024, (k0_pay2 (F := Ideal) (iblk m c 0 t) (iblk m c 1 t) : Vec Ideal S128x1024 .bf16) (ix2 r k) * w k) = cl m c (row t r) j :=
  Finset.sum_congr rfl fun k _ => by rw [norm_blk, hw]

theorem q_blk (t : Fin cfg0.N) (r : Fin 128) (d : Fin 512) :
    (∑ k : Fin 1024, (k0_pay2 (F := Ideal) (iblk m c 0 t) (iblk m c 1 t) : Vec Ideal S128x1024 .bf16) (ix2 r k) * (iblk m c 2 t : Vec Ideal S1024x512 .bf16) (ix2 k d))
      = cl m c (row t r) ⟨d.val, by omega⟩ * eighth := by
  refine Eq.trans (Finset.sum_congr rfl fun k _ => ?_) (sum_eighth _ _)
  rw [norm_blk, blk2]

theorem f_blk (t : Fin cfg0.N) (r : Fin 128) (d : Fin 8) :
    logSig ((∑ k : Fin 1024, (k0_pay2 (F := Ideal) (iblk m c 0 t) (iblk m c 1 t) : Vec Ideal S128x1024 .bf16) (ix2 r k) * (iblk m c 5 t : Vec Ideal S1024x128 .bf16) (ix2 k ⟨d.val, by omega⟩))
      + (iblk m c 6 t : Vec Ideal S1x128 .f32) (ix2 0 ⟨d.val, by omega⟩)) = logSig (cl m c (row t r) ⟨1536 + d.val, by omega⟩ + ab m c (ix1 d)) := by
  refine congrArg logSig (congrArg₂ (· + ·) (col_blk m c t r _ _ fun k => ?_) ?_)
  · exact (blk5 m c t k _).trans (dif_pos d.isLt)
  · exact (blk6 m c t _).trans (dif_pos d.isLt)

theorem arr7 : (dats m 0 c).arrAt 7 cfg0.N = GQ m c := by
  refine (dats m 0 c).arrAt_eq_of_covers 7 _ (by decide +kernel) fun t hf y => ?_
  blk_simp
  rw [after0_7]
  obtain ⟨r, d, rfl⟩ : ∃ (r : Fin 128) (d : Fin 512), y = ix2 r d := ⟨y 0, y 1, ValueIdx.eq_ix2 y⟩
  have he : ((cfg0.win 7).blk t).view.emb (ix2 r d) = ix2 (row t r) d := by
    blk_ext [idxo t, row]
  rw [he]
  unfold out0_7
  rw [View.canon_cons_unit_lit _ _ _ (by decide), View.ld_unit_lit _ _ (by decide), View.ld_unit_lit _ _ (by decide), View.ld_unit_lit _ _ (by decide), loq]
  exact q_blk m c t r d

theorem arr8 : (dats m 0 c).arrAt 8 cfg0.N = GK m c := by
  refine (dats m 0 c).arrAt_eq_of_covers 8 _ (by decide +kernel) fun t hf y => ?_
  blk_simp
  rw [after0_8]
  obtain ⟨r, d, rfl⟩ : ∃ (r : Fin 128) (d : Fin 512), y = ix2 r d := ⟨y 0, y 1, ValueIdx.eq_ix2 y⟩
  have he : ((cfg0.win 8).blk t).view.emb (ix2 r d) = ix2 (row t r) d := by
    blk_ext [idxo t, row]
  rw [he]
  unfold out0_8
  rw [View.canon_cons_unit_lit _ _ _ (by decide), View.ld_unit_lit _ _ (by decide), View.ld_unit_lit _ _ (by decide), View.ld_unit_lit _ _ (by decide), lok]
  exact col_blk m c t r _ _ fun k => blk3 m c t k d

theorem arr9 : (dats m 0 c).arrAt 9 cfg0.N = GV m c := by
  refine (dats m 0 c).arrAt_eq_of_covers 9 _ (by decide +kernel) fun t hf y => ?_
  blk_simp
  rw [after0_9]
  obtain ⟨r, d, rfl⟩ : ∃ (r : Fin 128) (d : Fin 512), y = ix2 r d := ⟨y 0, y 1, ValueIdx.eq_ix2 y⟩
  have he : ((cfg0.win 9).blk t).view.emb (ix2 r d) = ix2 (row t r) d := by
    blk_ext [idxo t, row]
  rw [he]
  unfold out0_9
  rw [View.canon_cons_unit_lit _ _ _ (by decide), View.ld_unit_lit _ _ (by decide), View.ld_unit_lit _ _ (by decide), View.ld_unit_lit _ _ (by decide), lov]
  exact col_blk m c t r _ _ fun k => blk4 m c t k d

theorem arr10 : (dats m 0 c).arrAt 10 cfg0.N = GF m c := by
  refine (dats m 0 c).arrAt_eq_of_covers 10 _ (by decide +kernel) fun t hf y => ?_
  blk_simp
  rw [after0_10]
  obtain ⟨r, d, rfl⟩ : ∃ (r : Fin 128) (d : Fin 8), y = ix2 r d := ⟨y 0, y 1, ValueIdx.eq_ix2 y⟩
  have he : ((cfg0.win 10).blk t).view.emb (ix2 r d) = ix2 (row t r) d := by
    blk_ext [idxo t, row]
  rw [he]
  unfold out0_10
  rw [View.canon_cons_unit_lit _ _ _ (by decide), View.ld_unit_lit _ _ (by decide), View.ld_unit_lit _ _ (by decide), View.ld_unit_lit _ _ (by decide), View.ld_unit_lit _ _ (by decide), lof]
  exact f_blk m c t r d

end Cert.FoxStep

end
-- ==== Proof.FoxStep.Claim.lean ====
/-
  The claims on the launch of the forgetting attention's projections and its reference, put together.
-/
module

public import proofs.«01_k».proof.Defs
public import proofs.«01_k».proof.Proof.FoxStep.Final
public import proofs.«01_k».proof.Proof.Gen.FoxStepIdeal.Value

@[expose] public section

set_option maxRecDepth 16384

noncomputable section

namespace Cert.FoxStep

open Idealize.ShloMosaic Idealize.SL.Sem Idealize.ShloMosaic.TcCoe

/-- The reference ends with its arguments unchanged; it declares no semaphore. -/
theorem ref_frame (m : (ℓ : Loc Cert.FoxStepRefIdeal.nD Cert.FoxStepRefIdeal.τ Cert.FoxStepRefIdeal.sig) → Buf (Elt Ideal) ℓ) (ρ : Dev Cert.FoxStepRefIdeal.nD → PrngReg) :
    θ_run (Cert.FoxStepRefIdeal.defs (F := Ideal)) (onTc (τ := Cert.FoxStepRefIdeal.τ) (Cert.FoxStepRefIdeal.main (F := Ideal))) ⟨m, fun _ => 0, ρ⟩ (fun r => (∀ c : Dev Cert.FoxStepRefIdeal.nD,
      r.2.mem ((c.tc : Thread Cert.FoxStepRefIdeal.nD Cert.FoxStepRefIdeal.τ).loc Cert.FoxStepRefIdeal.main_arg0) = m ((c.tc : Thread Cert.FoxStepRefIdeal.nD Cert.FoxStepRefIdeal.τ).loc Cert.FoxStepRefIdeal.main_arg0)
      ∧ r.2.mem ((c.tc : Thread Cert.FoxStepRefIdeal.nD Cert.FoxStepRefIdeal.τ).loc Cert.FoxStepRefIdeal.main_arg1) = m ((c.tc : Thread Cert.FoxStepRefIdeal.nD Cert.FoxStepRefIdeal.τ).loc Cert.FoxStepRefIdeal.main_arg1)
      ∧ r.2.mem ((c.tc : Thread Cert.FoxStepRefIdeal.nD Cert.FoxStepRefIdeal.τ).loc Cert.FoxStepRefIdeal.main_arg2) = m ((c.tc : Thread Cert.FoxStepRefIdeal.nD Cert.FoxStepRefIdeal.τ).loc Cert.FoxStepRefIdeal.main_arg2)
      ∧ r.2.mem ((c.tc : Thread Cert.FoxStepRefIdeal.nD Cert.FoxStepRefIdeal.τ).loc Cert.FoxStepRefIdeal.main_arg3) = m ((c.tc : Thread Cert.FoxStepRefIdeal.nD Cert.FoxStepRefIdeal.τ).loc Cert.FoxStepRefIdeal.main_arg3))
      ∧ r.2.sem = fun _ => 0) := by
  exact (θ_run _ _ _).mono (fun r h => ⟨fun c => (h c).2.2.2.2, sem_eq_zero_of_no_sems (by decide) r.2⟩) (Cert.FoxStepRefIdeal.Value.run m ρ)

open Cert.FoxStepRefIdeal.Read in
theorem algebraic : Cert.algebraic_FoxStepIdeal_FoxStepRefIdeal := by
  intro m g m' g' hpre hagree
  refine ⟨fun c => GQ m c, fun c => GK m c, fun c => GV m c, fun c => GF m c, ?_, ?_⟩
  · refine (θ_run _ _ _).mono (fun r h c => ?_) (Cert.FoxStepIdeal.Value.run_blocks m g)
    obtain ⟨h1, h2, h3, h4, ha⟩ := h c
    exact ⟨h1.trans (arr7 m c), h2.trans (arr8 m c), h3.trans (arr9 m c), h4.trans (arr10 m c), ha⟩
  · refine (θ_run _ _ _).mono (fun r h c => ?_) (Cert.FoxStepRefIdeal.Value.run m' g')
    obtain ⟨h1, h2, h3, h4, ha⟩ := h c
    obtain ⟨e0, e1, e2, e3⟩ := hagree c
    refine ⟨h1.trans ((val_main_v23_eq _ _ _).trans ?_), h2.trans ((val_main_v15_eq _ _ _).trans ?_), h3.trans ((val_main_v16_eq _ _ _).trans ?_), h4.trans ((val_main_v21_eq m' c).trans ?_), ha⟩
    · rw [e0, e1, e2]
      funext i
      obtain ⟨r, d, rfl⟩ : ∃ (r : Fin 128) (d : Fin 512), i = ix2 r d := ⟨i 0, i 1, ValueIdx.eq_ix2 i⟩
      exact q_ref _ _ _ r d
    · rw [e0, e1, e2]
      funext i
      obtain ⟨r, d, rfl⟩ : ∃ (r : Fin 128) (d : Fin 512), i = ix2 r d := ⟨i 0, i 1, ValueIdx.eq_ix2 i⟩
      exact k_ref _ _ _ r d
    · rw [e0, e1, e2]
      funext i
      obtain ⟨r, d, rfl⟩ : ∃ (r : Fin 128) (d : Fin 512), i = ix2 r d := ⟨i 0, i 1, ValueIdx.eq_ix2 i⟩
      exact v_ref _ _ _ r d
    · rw [e0, e1, e2, e3]
      funext i
      obtain ⟨r, d, rfl⟩ : ∃ (r : Fin 128) (d : Fin 8), i = ix2 r d := ⟨i 0, i 1, ValueIdx.eq_ix2 i⟩
      exact f_ref _ _ _ _ r d

end Cert.FoxStep

end
-- ==== Proof.GlaStep.Block.lean ====
/-
  What a step of the gated attention's samples does with one sample's head: the new state and the output.
-/
module

public import proofs.«01_k».proof.Proof.Gen.GlaStepIdeal.Frame
public import proofs.«01_k».proof.Proof.Fox.Rows
public import Idealize.ShloMosaic.Lib.Pointwise
public import Idealize.ShloMosaic.Lib.Pipeline.ValueKit

@[expose] public section

set_option maxRecDepth 16384

noncomputable section

namespace Cert.GlaStep

open Cert.GlaStepIdeal Cert.GlaStepIdeal.Gen
open Idealize.ShloMosaic

/-- A row of 256 numbers scaled by its root mean square, then by a gain. -/
def rmsE (o gn : Fin 256 → EReal) (e : Fin 256) : EReal :=
  o e * Ideal.rsqrt (Ideal.div (∑ e' : Fin 256, o e' * o e') (Ideal.ofBits .f32 0x43800000#32) + Ideal.ofBits .f32 0x358637BD#32) * gn e

/-- The scale of the queries. -/
abbrev sc : EReal := Ideal.ofBits .f32 0x3DB504F3#32

theorem eq_word : ∀ a b : Fin 128, IntOp.cmpi CmpIPredicate.eq (BitVec.ofNat 32 a.val) (BitVec.ofNat 32 b.val) = if b = a then 1#1 else 0#1 := by
  decide +kernel

/-- The mask that keeps the diagonal. -/
theorem mask_at (d j : Fin 128) : (k0_pay2 : IVec S128x128 1) (ix2 d j) = if j = d then 1#1 else 0#1 := by
  rw [← eq_word]
  unfold k0_pay2
  pointwise

/-- A row laid along the diagonal and summed along the rows is the row itself. -/
theorem diag (f : Fin 128 → EReal) (d : Fin 128) :
    (∑ j : Fin 128, Scalar.select ((k0_pay2 : IVec S128x128 1) (ix2 d j)) (f j) 0) = f d := by
  have h : ∀ j : Fin 128, Scalar.select ((k0_pay2 : IVec S128x128 1) (ix2 d j)) (f j) 0 = if j = d then f j else 0 := fun j => by
    rw [mask_at]
    by_cases hj : j = d
    · rw [if_pos hj, if_pos hj]; rfl
    · rw [if_neg hj, if_neg hj]; rfl
  simp only [h, Finset.sum_ite_eq', Finset.mem_univ, if_true]

/-- The new state of a head. -/
theorem state_at (s : Vec Ideal S1x1x128x256 .f32) (g k : Vec Ideal S1x1x128 .f32) (v : Vec Ideal S1x1x256 .f32) (d : Fin 128) (e : Fin 256) :
    (k0_pay3 s g k v : Vec Ideal S128x256 .f32) (ix2 d e)
      = s (ix4 0 0 d e) * Ideal.exp (g (ix3 0 0 d)) + k (ix3 0 0 d) * v (ix3 0 0 e) := by
  rw [← diag (fun j => Ideal.exp (g (ix3 0 0 j))) d, ← diag (fun j => k (ix3 0 0 j)) d]
  unfold k0_pay3
  generalize (k0_pay2 : IVec S128x128 1) = M
  pointwise

/-- The output of a head, from its new state. -/
theorem out_at (s : Vec Ideal S128x256 .f32) (q : Vec Ideal S1x1x128 .f32) (gn : Vec Ideal S1x256 .f32) (e : Fin 256) :
    (k0_pay5 k0_pay2 s q gn : Vec Ideal S1x1x256 .f32) (ix3 0 0 e)
      = rmsE (fun e => ∑ d : Fin 128, (q (ix3 0 0 d) * sc) * s (ix2 d e)) (fun e => gn (ix2 0 e)) e := by
  have h : (fun e : Fin 256 => ∑ d : Fin 128, (q (ix3 0 0 d) * sc) * s (ix2 d e))
      = fun e => ∑ d : Fin 128, (∑ j : Fin 128, Scalar.select ((k0_pay2 : IVec S128x128 1) (ix2 d j)) (q (ix3 0 0 j) * sc) 0) * s (ix2 d e) :=
    funext fun e => Finset.sum_congr rfl fun d _ => by rw [diag (fun j => q (ix3 0 0 j) * sc) d]
  rw [h]
  unfold k0_pay5 rmsE
  generalize (k0_pay2 : IVec S128x128 1) = M
  pointwise

/-! The state and the output of the samples of a block. -/

variable (x0 x1 x2 : Vec Ideal S4x1x512 .f32) (x3 : Vec Ideal S4x1x1024 .f32) (x4 : Vec Ideal S4x4x128x256 .f32) (x5 : Vec Ideal S1x256 .f32)

/-- Column `d` of head `h` among the queries', keys' and gates' columns. -/
def hk (h : Fin 4) (d : Fin 128) : Fin 512 := ⟨h.val * 128 + d.val, by omega⟩
/-- Column `e` of head `h` among the values' columns. -/
def hv (h : Fin 4) (e : Fin 256) : Fin 1024 := ⟨h.val * 256 + e.val, by omega⟩

def bst (i h : Fin 4) (d : Fin 128) (e : Fin 256) : EReal :=
  x4 (ix4 i h d e) * Ideal.exp (x2 (ix3 i 0 (hk h d))) + x1 (ix3 i 0 (hk h d)) * x3 (ix3 i 0 (hv h e))

def bo (i h : Fin 4) (e : Fin 256) : EReal :=
  rmsE (fun e => ∑ d : Fin 128, (x0 (ix3 i 0 (hk h d)) * sc) * bst x1 x2 x3 x4 i h d e) (fun e => x5 (ix2 0 e)) e

/-- The head of a column of the values and its place in the head. -/
def ch (j : Fin 1024) : Fin 4 := ⟨j.val / 256, by omega⟩
def ce (j : Fin 1024) : Fin 256 := ⟨j.val % 256, by omega⟩

def BS : Vec Ideal S4x4x128x256 .f32 := fun y => bst x1 x2 x3 x4 (y 0) (y 1) (y 2) (y 3)
def BO : Vec Ideal S4x1x1024 .f32 := fun y => bo x0 x1 x2 x3 x4 x5 (y 0) (ch (y 2)) (ce (y 2))

section piece
variable (i h : Fin 4) {o p : ℕ} (ho : o = 128 * h.val) (hp : p = 256 * h.val)
  (b4 : ∀ a, (![i.val, h.val, 0, 0] : Fin 4 → ℕ) a + S1x1x128x256.size a ≤ S4x4x128x256.size a)
  (bk : ∀ a, (![i.val, 0, o] : Fin 3 → ℕ) a + S1x1x128.size a ≤ S4x1x512.size a)
  (bv : ∀ a, (![i.val, 0, p] : Fin 3 → ℕ) a + S1x1x256.size a ≤ S4x1x1024.size a)
include ho

theorem ldk (x : Vec Ideal S4x1x512 .f32) (d : Fin 128) :
    (View.ld x (Rect.unit (s := S4x1x512) ![i.val, 0, o] S1x1x128.size bk) : Vec Ideal S1x1x128 .f32) (ix3 0 0 d) = x (ix3 i 0 (hk h d)) := by
  subst ho
  refine congrArg x (funext fun a => Fin.ext ?_)
  match a with
  | 0 => show i.val + 1 * 0 = i.val; omega
  | 1 => rfl
  | 2 => show 128 * h.val + 1 * d.val = _; simp only [hk]; show _ = h.val * 128 + d.val; omega

omit ho
include hp

theorem ldv (x : Vec Ideal S4x1x1024 .f32) (e : Fin 256) :
    (View.ld x (Rect.unit (s := S4x1x1024) ![i.val, 0, p] S1x1x256.size bv) : Vec Ideal S1x1x256 .f32) (ix3 0 0 e) = x (ix3 i 0 (hv h e)) := by
  subst hp
  refine congrArg x (funext fun a => Fin.ext ?_)
  match a with
  | 0 => show i.val + 1 * 0 = i.val; omega
  | 1 => rfl
  | 2 => show 256 * h.val + 1 * e.val = _; simp only [hv]; show _ = h.val * 256 + e.val; omega

theorem embv (e : Fin 256) :
    (Rect.unit (s := S4x1x1024) ![i.val, 0, p] S1x1x256.size bv).emb (ix3 0 0 e) = (ix3 i 0 (hv h e) : S4x1x1024.Idx) := by
  subst hp
  refine funext fun a => Fin.ext ?_
  match a with
  | 0 => show i.val + 1 * 0 = i.val; omega
  | 1 => rfl
  | 2 => show 256 * h.val + 1 * e.val = _; simp only [hv]; show _ = h.val * 256 + e.val; omega

omit hp

theorem embs (d : Fin 128) (e : Fin 256) :
    (Rect.unit (s := S4x4x128x256) ![i.val, h.val, 0, 0] S1x1x128x256.size b4).emb (ix4 0 0 d e) = (ix4 i h d e : S4x4x128x256.Idx) := by
  refine funext fun a => Fin.ext ?_
  match a with
  | 0 => show i.val + 1 * 0 = i.val; omega
  | 1 => show h.val + 1 * 0 = h.val; omega
  | 2 => show 0 + 1 * d.val = d.val; omega
  | 3 => show 0 + 1 * e.val = e.val; omega

/-- The new state, as one head's values loaded. -/
abbrev pst : FVec Ideal S128x256 .f32 :=
  k0_pay3 (View.ld x4 (Rect.unit (s := S4x4x128x256) ![i.val, h.val, 0, 0] S1x1x128x256.size b4)) (View.ld x2 (Rect.unit (s := S4x1x512) ![i.val, 0, o] S1x1x128.size bk))
    (View.ld x1 (Rect.unit (s := S4x1x512) ![i.val, 0, o] S1x1x128.size bk)) (View.ld x3 (Rect.unit (s := S4x1x1024) ![i.val, 0, p] S1x1x256.size bv))

include ho hp

theorem pst_at (d : Fin 128) (e : Fin 256) : (pst x1 x2 x3 x4 i h b4 bk bv : Vec Ideal S128x256 .f32) (ix2 d e) = bst x1 x2 x3 x4 i h d e := by
  unfold pst
  rw [state_at, ldk i h ho bk, ldk i h ho bk, ldv i h hp bv]
  exact congrArg (fun z => z * _ + _) (congrArg x4 (embs i h b4 d e))

theorem piece_s {y : S4x4x128x256.Idx} : View.RectAt (Val := Elt Ideal) (e := .f32) y (Rect.unit (s := S4x4x128x256) ![i.val, h.val, 0, 0] S1x1x128x256.size b4)
    (shapeCast S1x1x128x256 (pst x1 x2 x3 x4 i h b4 bk bv) shapeCasts_S128x256_S1x1x128x256 : Vec Ideal S1x1x128x256 .f32) (BS x1 x2 x3 x4 y) := by
  rintro (x : S1x1x128x256.Idx) hx
  obtain ⟨d, e, rfl⟩ : ∃ (d : Fin 128) (e : Fin 256), x = ix4 0 0 d e :=
    ⟨x 2, x 3, funext fun a => match a with | 0 => Subsingleton.elim (α := Fin 1) _ _ | 1 => Subsingleton.elim (α := Fin 1) _ _ | 2 => rfl | 3 => rfl⟩
  rw [← hx, embs i h b4 d e]
  refine Eq.trans ?_ (pst_at x1 x2 x3 x4 i h ho hp b4 bk bv d e)
  generalize pst x1 x2 x3 x4 i h b4 bk bv = s
  pointwise

theorem piece_o (b5 : ∀ a, (![0, 0] : Fin 2 → ℕ) a + S1x256.size a ≤ S1x256.size a) {y : S4x1x1024.Idx} :
    View.RectAt (Val := Elt Ideal) (e := .f32) y (Rect.unit (s := S4x1x1024) ![i.val, 0, p] S1x1x256.size bv)
    (k0_pay5 k0_pay2 (pst x1 x2 x3 x4 i h b4 bk bv) (View.ld x0 (Rect.unit (s := S4x1x512) ![i.val, 0, o] S1x1x128.size bk))
      (View.ld x5 (Rect.unit (s := S1x256) ![0, 0] S1x256.size b5)) : Vec Ideal S1x1x256 .f32) (BO x0 x1 x2 x3 x4 x5 y) := by
  rintro (x : S1x1x256.Idx) hx
  obtain ⟨e, rfl⟩ : ∃ e : Fin 256, x = ix3 0 0 e :=
    ⟨x 2, funext fun a => match a with | 0 => Subsingleton.elim (α := Fin 1) _ _ | 1 => Subsingleton.elim (α := Fin 1) _ _ | 2 => rfl⟩
  rw [← hx, embv i h hp bv e, out_at]
  have h1 : ch (hv h e) = h := Fin.ext (by simp only [ch, hv]; omega)
  have h2 : ce (hv h e) = e := Fin.ext (by simp only [ce, hv]; omega)
  show _ = bo x0 x1 x2 x3 x4 x5 i (ch (hv h e)) (ce (hv h e))
  rw [h1, h2, View.ld_unit_lit _ _ (by decide)]
  unfold bo
  refine congrArg (fun f => rmsE f _ e) (funext fun e => Finset.sum_congr rfl fun d _ => ?_)
  rw [pst_at x1 x2 x3 x4 i h ho hp b4 bk bv]
  exact congrArg (fun z => z * sc * _) (ldk i h ho bk x0 d)

end piece

end Cert.GlaStep

end
-- ==== Proof.GlaStep.Args.lean ====
/-
  The arguments of the launch of the gated attention's samples, as the host prepares them and as blocks.
-/
module

public import proofs.«01_k».proof.Proof.Gen.GlaStepIdeal.Frame
public import proofs.«01_k».proof.Proof.GlaStep.Block
public import Idealize.ShloMosaic.Lib.StableHlo.ReadAt
public import Idealize.ShloMosaic.Lib.Pointwise
public import Idealize.ShloMosaic.Lib.Pipeline.ValueKit

@[expose] public section

set_option maxRecDepth 16384

noncomputable section

namespace Cert.GlaStep

open Cert.GlaStepIdeal Cert.GlaStepIdeal.Gen
open Idealize.ShloMosaic Idealize.ShloMosaic.TcCoe

variable (m : (ℓ : Loc nD τ sig) → Buf (Elt Ideal) ℓ) (c : Dev nD)

abbrev aq : Vec Ideal S128x512 .f32 := m ((c : Thread nD τ).loc main_arg0)
abbrev ak : Vec Ideal S128x512 .f32 := m ((c : Thread nD τ).loc main_arg1)
abbrev ag : Vec Ideal S128x512 .f32 := m ((c : Thread nD τ).loc main_arg2)
abbrev av : Vec Ideal S128x1024 .f32 := m ((c : Thread nD τ).loc main_arg3)
abbrev ast : Vec Ideal S128x4x128x256 .f32 := m ((c : Thread nD τ).loc main_arg4)
abbrev agn : Vec Ideal S256 .f32 := m ((c : Thread nD τ).loc main_arg5)

theorem q_at (b : Fin 128) (d : Fin 512) : (V m c main_v0 : Vec Ideal S128x1x512 .f32) (ix3 b 0 d) = aq m c (ix2 b d) := by
  unfold V
  after_reads_at

theorem k_at (b : Fin 128) (d : Fin 512) : (V m c main_v1 : Vec Ideal S128x1x512 .f32) (ix3 b 0 d) = ak m c (ix2 b d) := by
  unfold V
  after_reads_at

theorem g_at (b : Fin 128) (d : Fin 512) : (V m c main_v2 : Vec Ideal S128x1x512 .f32) (ix3 b 0 d) = ag m c (ix2 b d) := by
  unfold V
  after_reads_at

theorem v_at (b : Fin 128) (d : Fin 1024) : (V m c main_v3 : Vec Ideal S128x1x1024 .f32) (ix3 b 0 d) = av m c (ix2 b d) := by
  unfold V
  after_reads_at

theorem gn_at (d : Fin 256) : (V m c main_v4 : Vec Ideal S1x256 .f32) (ix2 0 d) = agn m c (ix1 d) := by
  unfold V
  after_reads_at

theorem idx : ∀ t : Fin cfg0.N, win0_0.index t = ![t.val, 0, 0] ∧ win0_1.index t = ![t.val, 0, 0] ∧ win0_2.index t = ![t.val, 0, 0] ∧ win0_3.index t = ![t.val, 0, 0]
    ∧ win0_4.index t = ![t.val, 0, 0, 0] ∧ win0_5.index t = ![0, 0] := by
  decide +kernel

theorem idxo : ∀ t : Fin cfg0.N, win0_6.index t = ![t.val, 0, 0] ∧ win0_7.index t = ![t.val, 0, 0, 0] := by
  decide +kernel

/-- The sample that sample `i` of a grid point's block is. -/
def row (t : Fin cfg0.N) (i : Fin 4) : Fin 128 := ⟨4 * t.val + i.val, by have : t.val < 32 := t.isLt; omega⟩

theorem blk0 (t : Fin cfg0.N) (i : Fin 4) (d : Fin 512) : (iblk m c 0 t : Vec Ideal S4x1x512 .f32) (ix3 i 0 d) = aq m c (ix2 (row t i) d) := by
  rw [← q_at]
  blk_ext [iblk, idx t, row]

theorem blk1 (t : Fin cfg0.N) (i : Fin 4) (d : Fin 512) : (iblk m c 1 t : Vec Ideal S4x1x512 .f32) (ix3 i 0 d) = ak m c (ix2 (row t i) d) := by
  rw [← k_at]
  blk_ext [iblk, idx t, row]

theorem blk2 (t : Fin cfg0.N) (i : Fin 4) (d : Fin 512) : (iblk m c 2 t : Vec Ideal S4x1x512 .f32) (ix3 i 0 d) = ag m c (ix2 (row t i) d) := by
  rw [← g_at]
  blk_ext [iblk, idx t, row]

theorem blk3 (t : Fin cfg0.N) (i : Fin 4) (d : Fin 1024) : (iblk m c 3 t : Vec Ideal S4x1x1024 .f32) (ix3 i 0 d) = av m c (ix2 (row t i) d) := by
  rw [← v_at]
  blk_ext [iblk, idx t, row]

theorem blk4 (t : Fin cfg0.N) (i h : Fin 4) (d : Fin 128) (e : Fin 256) : (iblk m c 4 t : Vec Ideal S4x4x128x256 .f32) (ix4 i h d e) = ast m c (ix4 (row t i) h d e) := by
  unfold ast
  rw [← V_main_arg4 m c]
  blk_ext [iblk, idx t, row]

theorem blk5 (t : Fin cfg0.N) (d : Fin 256) : (iblk m c 5 t : Vec Ideal S1x256 .f32) (ix2 0 d) = agn m c (ix1 d) := by
  rw [← gn_at]
  blk_ext [iblk, idx t]

end Cert.GlaStep

end
-- ==== Proof.GlaStep.Ref.lean ====
/-
  The gated attention's reference on the samples, entry by entry.
-/
module

public import proofs.«01_k».proof.Proof.Gen.GlaStepRefIdeal.Read
public import proofs.«01_k».proof.Proof.GlaStep.Block
public import Idealize.ShloMosaic.Lib.Pointwise

@[expose] public section

noncomputable section

namespace Cert.GlaStep

open Cert.GlaStepRefIdeal Cert.GlaStepRefIdeal.Gen Cert.GlaStepRefIdeal.Read
open Idealize.ShloMosaic Idealize.ShloMosaic.StableHlo

variable (q k g : Vec Ideal S128x512 .f32) (v : Vec Ideal S128x1024 .f32) (s : Vec Ideal S128x4x128x256 .f32) (gn : Vec Ideal S256 .f32)

/-- A sample's new state. -/
def st (b : Fin 128) (h : Fin 4) (d : Fin 128) (e : Fin 256) : EReal :=
  s (ix4 b h d e) * Ideal.exp (g (ix2 b (hk h d))) + k (ix2 b (hk h d)) * v (ix2 b (hv h e))

/-- A sample's output. -/
def ou (b : Fin 128) (h : Fin 4) (e : Fin 256) : EReal :=
  rmsE (fun e => ∑ d : Fin 128, (q (ix2 b (hk h d)) * sc) * st k g v s b h d e) (fun e => gn (ix1 e)) e

theorem st_ref (b : Fin 128) (h : Fin 4) (d : Fin 128) (e : Fin 256) :
    (val_main_v15 (F := Ideal) k g v s : Vec Ideal S128x4x128x256 .f32) (ix4 b h d e) = st k g v s b h d e := by
  unfold val_main_v15 val_main_v14 val_main_v13 val_main_v12 val_main_v11 val_main_v10 val_main_v9 val_main_v8 val_main_v7 val_main_v6 val_main_v5 val_main_v4 val_main_v3 st hk hv
  pointwise

theorem ou_dot (b : Fin 128) (h : Fin 4) (e : Fin 256) :
    (val_main_v16 (F := Ideal) q k g v s : Vec Ideal S128x4x256 .f32) (ix3 b h e) = ∑ d : Fin 128, (q (ix2 b (hk h d)) * sc) * st k g v s b h d e := by
  simp only [← st_ref]
  unfold val_main_v16 val_main_v2 val_main_v1 val_main_v0 val_main_cst hk
  generalize val_main_v15 (F := Ideal) k g v s = S
  pointwise

theorem ou_ref (b : Fin 128) (h : Fin 4) (e : Fin 256) :
    (val_main_v30 (F := Ideal) q k g v s gn : Vec Ideal S128x1x1024 .f32) (ix3 b 0 (hv h e)) = ou q k g v s gn b h e := by
  have h0 : (fun e => ∑ d : Fin 128, (q (ix2 b (hk h d)) * sc) * st k g v s b h d e)
      = fun e => (val_main_v16 (F := Ideal) q k g v s : Vec Ideal S128x4x256 .f32) (ix3 b h e) := funext fun e => (ou_dot q k g v s b h e).symm
  unfold ou
  rw [h0]
  unfold val_main_v30 val_main_v29 val_main_v28 val_main_v27 val_main_v26 val_main_v25 val_main_v24 val_main_v23 val_main_v22 val_main_v21 val_main_v20 val_main_v19 val_main_v18 val_main_v17 val_main_cst_0 val_main_cst_1 val_main_cst_2 hv rmsE
  generalize val_main_v16 (F := Ideal) q k g v s = S
  pointwise

end Cert.GlaStep

end
-- ==== Proof.GlaStep.Final.lean ====
/-
  The result arrays of the gated attention's samples.
-/
module

public import proofs.«01_k».proof.Proof.GlaStep.Args
public import proofs.«01_k».proof.Proof.GlaStep.Ref

@[expose] public section

set_option maxRecDepth 16384

noncomputable section

namespace Cert.GlaStep

open Cert.GlaStepIdeal Cert.GlaStepIdeal.Gen
open Idealize.ShloMosaic Idealize.ShloMosaic.TcCoe

section pieces
variable (x0 x1 x2 : Vec Ideal S4x1x512 .f32) (x3 : Vec Ideal S4x1x1024 .f32) (x4 : Vec Ideal S4x4x128x256 .f32) (x5 : Vec Ideal S1x256 .f32)

theorem out7 : out0_7 x0 x1 x2 x3 x4 x5 = BS x1 x2 x3 x4 := by
  funext y
  unfold out0_7
  refine View.canon_eq_of_allAt _ y _ (cover0_7 _ _ _ _ _ _ _ _ _ _ _ _ _ _ _ _ y) ?_
  refine View.allAt_cons _ _ _ (piece_s x1 x2 x3 x4 3 3 (by rfl) (by rfl) _ _ _) ?_
  refine View.allAt_cons _ _ _ (piece_s x1 x2 x3 x4 3 2 (by rfl) (by rfl) _ _ _) ?_
  refine View.allAt_cons _ _ _ (piece_s x1 x2 x3 x4 3 1 (by rfl) (by rfl) _ _ _) ?_
  refine View.allAt_cons _ _ _ (piece_s x1 x2 x3 x4 3 0 (by rfl) (by rfl) _ _ _) ?_
  refine View.allAt_cons _ _ _ (piece_s x1 x2 x3 x4 2 3 (by rfl) (by rfl) _ _ _) ?_
  refine View.allAt_cons _ _ _ (piece_s x1 x2 x3 x4 2 2 (by rfl) (by rfl) _ _ _) ?_
  refine View.allAt_cons _ _ _ (piece_s x1 x2 x3 x4 2 1 (by rfl) (by rfl) _ _ _) ?_
  refine View.allAt_cons _ _ _ (piece_s x1 x2 x3 x4 2 0 (by rfl) (by rfl) _ _ _) ?_
  refine View.allAt_cons _ _ _ (piece_s x1 x2 x3 x4 1 3 (by rfl) (by rfl) _ _ _) ?_
  refine View.allAt_cons _ _ _ (piece_s x1 x2 x3 x4 1 2 (by rfl) (by rfl) _ _ _) ?_
  refine View.allAt_cons _ _ _ (piece_s x1 x2 x3 x4 1 1 (by rfl) (by rfl) _ _ _) ?_
  refine View.allAt_cons _ _ _ (piece_s x1 x2 x3 x4 1 0 (by rfl) (by rfl) _ _ _) ?_
  refine View.allAt_cons _ _ _ (piece_s x1 x2 x3 x4 0 3 (by rfl) (by rfl) _ _ _) ?_
  refine View.allAt_cons _ _ _ (piece_s x1 x2 x3 x4 0 2 (by rfl) (by rfl) _ _ _) ?_
  refine View.allAt_cons _ _ _ (piece_s x1 x2 x3 x4 0 1 (by rfl) (by rfl) _ _ _) ?_
  refine View.allAt_cons _ _ _ (piece_s x1 x2 x3 x4 0 0 (by rfl) (by rfl) _ _ _) ?_
  exact View.allAt_nil _ _

theorem out6 : out0_6 x0 x1 x2 x3 x4 x5 = BO x0 x1 x2 x3 x4 x5 := by
  funext y
  unfold out0_6
  refine View.canon_eq_of_allAt _ y _ (cover0_6 _ _ _ _ _ _ _ _ _ _ _ _ _ _ _ _ y) ?_
  refine View.allAt_cons _ _ _ (piece_o x0 x1 x2 x3 x4 x5 3 3 (by rfl) (by rfl) _ _ _ _) ?_
  refine View.allAt_cons _ _ _ (piece_o x0 x1 x2 x3 x4 x5 3 2 (by rfl) (by rfl) _ _ _ _) ?_
  refine View.allAt_cons _ _ _ (piece_o x0 x1 x2 x3 x4 x5 3 1 (by rfl) (by rfl) _ _ _ _) ?_
  refine View.allAt_cons _ _ _ (piece_o x0 x1 x2 x3 x4 x5 3 0 (by rfl) (by rfl) _ _ _ _) ?_
  refine View.allAt_cons _ _ _ (piece_o x0 x1 x2 x3 x4 x5 2 3 (by rfl) (by rfl) _ _ _ _) ?_
  refine View.allAt_cons _ _ _ (piece_o x0 x1 x2 x3 x4 x5 2 2 (by rfl) (by rfl) _ _ _ _) ?_
  refine View.allAt_cons _ _ _ (piece_o x0 x1 x2 x3 x4 x5 2 1 (by rfl) (by rfl) _ _ _ _) ?_
  refine View.allAt_cons _ _ _ (piece_o x0 x1 x2 x3 x4 x5 2 0 (by rfl) (by rfl) _ _ _ _) ?_
  refine View.allAt_cons _ _ _ (piece_o x0 x1 x2 x3 x4 x5 1 3 (by rfl) (by rfl) _ _ _ _) ?_
  refine View.allAt_cons _ _ _ (piece_o x0 x1 x2 x3 x4 x5 1 2 (by rfl) (by rfl) _ _ _ _) ?_
  refine View.allAt_cons _ _ _ (piece_o x0 x1 x2 x3 x4 x5 1 1 (by rfl) (by rfl) _ _ _ _) ?_
  refine View.allAt_cons _ _ _ (piece_o x0 x1 x2 x3 x4 x5 1 0 (by rfl) (by rfl) _ _ _ _) ?_
  refine View.allAt_cons _ _ _ (piece_o x0 x1 x2 x3 x4 x5 0 3 (by rfl) (by rfl) _ _ _ _) ?_
  refine View.allAt_cons _ _ _ (piece_o x0 x1 x2 x3 x4 x5 0 2 (by rfl) (by rfl) _ _ _ _) ?_
  refine View.allAt_cons _ _ _ (piece_o x0 x1 x2 x3 x4 x5 0 1 (by rfl) (by rfl) _ _ _ _) ?_
  refine View.allAt_cons _ _ _ (piece_o x0 x1 x2 x3 x4 x5 0 0 (by rfl) (by rfl) _ _ _ _) ?_
  exact View.allAt_nil _ _

end pieces

variable (m : (ℓ : Loc nD τ sig) → Buf (Elt Ideal) ℓ) (c : Dev nD)

abbrev stm (b : Fin 128) (h : Fin 4) (d : Fin 128) (e : Fin 256) : EReal := st (ak m c) (ag m c) (av m c) (ast m c) b h d e
abbrev oum (b : Fin 128) (h : Fin 4) (e : Fin 256) : EReal := ou (aq m c) (ak m c) (ag m c) (av m c) (ast m c) (agn m c) b h e

/-- The outputs. -/
def GO : Vec Ideal S128x1x1024 .f32 := fun y => oum m c (y 0) (ch (y 2)) (ce (y 2))
/-- The new states. -/
def GS : Vec Ideal S128x4x128x256 .f32 := fun y => stm m c (y 0) (y 1) (y 2) (y 3)

theorem bst_blk (t : Fin cfg0.N) (i h : Fin 4) (d : Fin 128) (e : Fin 256) :
    bst (iblk m c 1 t) (iblk m c 2 t) (iblk m c 3 t) (iblk m c 4 t) i h d e = stm m c (row t i) h d e := by
  unfold bst stm st
  rw [blk1, blk2, blk3, blk4]

theorem bo_blk (t : Fin cfg0.N) (i h : Fin 4) (e : Fin 256) :
    bo (iblk m c 0 t) (iblk m c 1 t) (iblk m c 2 t) (iblk m c 3 t) (iblk m c 4 t) (iblk m c 5 t) i h e = oum m c (row t i) h e := by
  unfold bo oum ou
  refine congrArg₂ (fun f g => rmsE f g e) (funext fun e => Finset.sum_congr rfl fun d _ => ?_) (funext fun e => blk5 m c t e)
  rw [bst_blk, blk0]

theorem arr6 : (dats m 0 c).arrAt 6 cfg0.N = GO m c := by
  refine (dats m 0 c).arrAt_eq_of_covers 6 _ (by decide +kernel) fun t hf y => ?_
  blk_simp
  rw [after0_6]
  obtain ⟨i, j, rfl⟩ : ∃ (i : Fin 4) (j : Fin 1024), y = ix3 i 0 j :=
    ⟨y 0, y 2, funext fun a => match a with | 0 => rfl | 1 => Subsingleton.elim (α := Fin 1) _ _ | 2 => rfl⟩
  have he : ((cfg0.win 6).blk t).view.emb (ix3 i 0 j) = ix3 (row t i) 0 j := by
    blk_ext [idxo t, row]
  rw [he, out6]
  exact bo_blk m c t i (ch j) (ce j)

theorem arr7 : (dats m 0 c).arrAt 7 cfg0.N = GS m c := by
  refine (dats m 0 c).arrAt_eq_of_covers 7 _ (by decide +kernel) fun t hf y => ?_
  blk_simp
  rw [after0_7]
  obtain ⟨i, h, d, e, rfl⟩ : ∃ (i h : Fin 4) (d : Fin 128) (e : Fin 256), y = ix4 i h d e :=
    ⟨y 0, y 1, y 2, y 3, funext fun a => match a with | 0 => rfl | 1 => rfl | 2 => rfl | 3 => rfl⟩
  have he : ((cfg0.win 7).blk t).view.emb (ix4 i h d e) = ix4 (row t i) h d e := by
    blk_ext [idxo t, row]
  rw [he, out7]
  exact bst_blk m c t i h d e

end Cert.GlaStep

end
-- ==== Proof.GlaStep.Claim.lean ====
/-
  The claims on the launch of the gated attention's samples and its reference, put together.
-/
module

public import proofs.«01_k».proof.Defs
public import proofs.«01_k».proof.Proof.GlaStep.Final
public import proofs.«01_k».proof.Proof.Gen.GlaStepIdeal.Value

@[expose] public section

set_option maxRecDepth 16384

noncomputable section

namespace Cert.GlaStep

open Idealize.ShloMosaic Idealize.SL.Sem Idealize.ShloMosaic.TcCoe

/-- The reference ends with its arguments unchanged; it declares no semaphore. -/
theorem ref_frame (m : (ℓ : Loc Cert.GlaStepRefIdeal.nD Cert.GlaStepRefIdeal.τ Cert.GlaStepRefIdeal.sig) → Buf (Elt Ideal) ℓ) (ρ : Dev Cert.GlaStepRefIdeal.nD → PrngReg) :
    θ_run (Cert.GlaStepRefIdeal.defs (F := Ideal)) (onTc (τ := Cert.GlaStepRefIdeal.τ) (Cert.GlaStepRefIdeal.main (F := Ideal))) ⟨m, fun _ => 0, ρ⟩ (fun r => (∀ c : Dev Cert.GlaStepRefIdeal.nD,
      r.2.mem ((c.tc : Thread Cert.GlaStepRefIdeal.nD Cert.GlaStepRefIdeal.τ).loc Cert.GlaStepRefIdeal.main_arg0) = m ((c.tc : Thread Cert.GlaStepRefIdeal.nD Cert.GlaStepRefIdeal.τ).loc Cert.GlaStepRefIdeal.main_arg0)
      ∧ r.2.mem ((c.tc : Thread Cert.GlaStepRefIdeal.nD Cert.GlaStepRefIdeal.τ).loc Cert.GlaStepRefIdeal.main_arg1) = m ((c.tc : Thread Cert.GlaStepRefIdeal.nD Cert.GlaStepRefIdeal.τ).loc Cert.GlaStepRefIdeal.main_arg1)
      ∧ r.2.mem ((c.tc : Thread Cert.GlaStepRefIdeal.nD Cert.GlaStepRefIdeal.τ).loc Cert.GlaStepRefIdeal.main_arg2) = m ((c.tc : Thread Cert.GlaStepRefIdeal.nD Cert.GlaStepRefIdeal.τ).loc Cert.GlaStepRefIdeal.main_arg2)
      ∧ r.2.mem ((c.tc : Thread Cert.GlaStepRefIdeal.nD Cert.GlaStepRefIdeal.τ).loc Cert.GlaStepRefIdeal.main_arg3) = m ((c.tc : Thread Cert.GlaStepRefIdeal.nD Cert.GlaStepRefIdeal.τ).loc Cert.GlaStepRefIdeal.main_arg3)
      ∧ r.2.mem ((c.tc : Thread Cert.GlaStepRefIdeal.nD Cert.GlaStepRefIdeal.τ).loc Cert.GlaStepRefIdeal.main_arg4) = m ((c.tc : Thread Cert.GlaStepRefIdeal.nD Cert.GlaStepRefIdeal.τ).loc Cert.GlaStepRefIdeal.main_arg4)
      ∧ r.2.mem ((c.tc : Thread Cert.GlaStepRefIdeal.nD Cert.GlaStepRefIdeal.τ).loc Cert.GlaStepRefIdeal.main_arg5) = m ((c.tc : Thread Cert.GlaStepRefIdeal.nD Cert.GlaStepRefIdeal.τ).loc Cert.GlaStepRefIdeal.main_arg5))
      ∧ r.2.sem = fun _ => 0) := by
  exact (θ_run _ _ _).mono (fun r h => ⟨fun c => (h c).2.2, sem_eq_zero_of_no_sems (by decide) r.2⟩) (Cert.GlaStepRefIdeal.Value.run m ρ)

open Cert.GlaStepRefIdeal.Read in
theorem algebraic : Cert.algebraic_GlaStepIdeal_GlaStepRefIdeal := by
  intro m g m' g' hpre hagree
  refine ⟨fun c => GO m c, fun c => GS m c, ?_, ?_⟩
  · refine (θ_run _ _ _).mono (fun r h c => ?_) (Cert.GlaStepIdeal.Value.run_blocks m g)
    obtain ⟨h1, h2, ha⟩ := h c
    exact ⟨h1.trans (arr6 m c), h2.trans (arr7 m c), ha⟩
  · refine (θ_run _ _ _).mono (fun r h c => ?_) (Cert.GlaStepRefIdeal.Value.run m' g')
    obtain ⟨h1, h2, ha⟩ := h c
    obtain ⟨e0, e1, e2, e3, e4, e5⟩ := hagree c
    refine ⟨h1.trans ((val_main_v30_eq _ _ _ _ _ _).trans ?_), h2.trans ((val_main_v15_eq _ _ _ _).trans ?_), ha⟩
    · rw [e0, e1, e2, e3, e4, e5]
      funext i
      obtain ⟨b, j, rfl⟩ : ∃ (b : Fin 128) (j : Fin 1024), i = ix3 b 0 j :=
        ⟨i 0, i 2, funext fun a => match a with | 0 => rfl | 1 => Subsingleton.elim (α := Fin 1) _ _ | 2 => rfl⟩
      have hj : j = hv (ch j) (ce j) := Fin.ext (by simp only [ch, ce, hv]; omega)
      refine Eq.trans ?_ (ou_ref _ _ _ _ _ _ b (ch j) (ce j))
      rw [← hj]
    · rw [e1, e2, e3, e4]
      funext i
      obtain ⟨b, h, d, e, rfl⟩ : ∃ (b : Fin 128) (h : Fin 4) (d : Fin 128) (e : Fin 256), i = ix4 b h d e :=
        ⟨i 0, i 1, i 2, i 3, funext fun a => match a with | 0 => rfl | 1 => rfl | 2 => rfl | 3 => rfl⟩
      exact st_ref _ _ _ _ b h d e

end Cert.GlaStep

end
-- ==== Proof.FfnStep.Block.lean ====
/-
  What a step of the gated network's samples contributes at each column group of 256, entry by entry.
-/
module

public import proofs.«01_k».proof.Proof.Gen.FfnStepIdeal.Frame
public import proofs.«01_k».proof.Proof.Ffn.Block
public import Idealize.ShloMosaic.Lib.Pointwise
public import Idealize.ShloMosaic.Lib.Pipeline.ValueKit

@[expose] public section

set_option maxRecDepth 16384

noncomputable section

namespace Cert.FfnStep

open Cert.FfnStepIdeal Cert.FfnStepIdeal.Gen Cert.Rows
open Cert.Ffn (gelu)
open Idealize.ShloMosaic

section
variable (x0 : Vec Ideal S128x1024 .bf16) (x1 : Vec Ideal S128x1024 .f32) (x2 : Vec Ideal S1024x5632 .bf16) (x3 : Vec Ideal S3x5632 .f32) (x4 : Vec Ideal S1x5632 .f32)
  (x5 : Vec Ideal S2816x1024 .bf16) (x6 : Vec Ideal S1x1024 .f32) (x7 x8 : Vec Ideal S128x5632 .f32)

/-- The up projection. -/
def uu (r : Fin 128) (c : Fin 5632) : EReal := ∑ k : Fin 1024, x0 (ix2 r k) * x2 (ix2 k c)

/-- The convolution of width three: the two rows kept, then the new one. -/
def cv (r : Fin 128) (c : Fin 5632) : EReal :=
  x4 (ix2 0 c) + x7 (ix2 r c) * x3 (ix2 0 c) + x8 (ix2 r c) * x3 (ix2 1 c) + uu x0 x2 r c * x3 (ix2 2 c)

/-- The gated activation. -/
def act (r : Fin 128) (j : Fin 2816) : EReal :=
  gelu (cv x0 x2 x3 x4 x7 x8 r ⟨2816 + j.val, by omega⟩) * cv x0 x2 x3 x4 x7 x8 r ⟨j.val, by omega⟩

/-- The output. -/
def yv (r : Fin 128) (d : Fin 1024) : EReal :=
  x1 (ix2 r d) + rms (fun e => ∑ j : Fin 2816, act x0 x2 x3 x4 x7 x8 r j * x5 (ix2 j e)) (fun e => x6 (ix2 0 e)) d

abbrev uG : S128x5632.Idx → EReal := fun z => uu x0 x2 (z 0) (z 1)
abbrev actG : S128x2816.Idx → EReal := fun z => act x0 x2 x3 x4 x7 x8 (z 0) (z 1)
end

/-! ### Loads through a rectangle -/

theorem col_up {arg3 : Memref sig .tc .vmem S1024x5632 .bf16} (harg3 : arg3.IsWhole) (x : Vec Ideal S1024x5632 .bf16) (o : ℕ)
    (inb : ∀ a, (![0, o] : Fin 2 → ℕ) a + S1024x256.size a ≤ S1024x5632.size a) (ho : o + 256 ≤ 5632) (k : Fin 1024) (e : Fin 256) :
    View.readAt (Elt Ideal) arg3.view (Rect.unit (s := S1024x5632) ![0, o] S1024x256.size inb).toLoadRect (harg3.unread x) (ix2 k e) = x (ix2 k ⟨o + e.val, by omega⟩) := by
  rw [View.readAt_eq_ld, harg3.read_unread, View.ld]
  refine congrArg x ?_
  funext a; refine Fin.ext ?_
  fin_cases a <;> simp

theorem col_w {arg4 : Memref sig .tc .vmem S3x5632 .f32} (harg4 : arg4.IsWhole) (x : Vec Ideal S3x5632 .f32) (j : Fin 3) (o : ℕ)
    (inb : ∀ a, (![j.val, o] : Fin 2 → ℕ) a + S1x256.size a ≤ S3x5632.size a) (ho : o + 256 ≤ 5632) (e : Fin 256) :
    View.readAt (Elt Ideal) arg4.view (Rect.unit (s := S3x5632) ![j.val, o] S1x256.size inb).toLoadRect (harg4.unread x) (ix2 0 e) = x (ix2 j ⟨o + e.val, by omega⟩) := by
  rw [View.readAt_eq_ld, harg4.read_unread, View.ld]
  refine congrArg x ?_
  funext a; refine Fin.ext ?_
  fin_cases a <;> simp

theorem col_b {arg5 : Memref sig .tc .vmem S1x5632 .f32} (harg5 : arg5.IsWhole) (x : Vec Ideal S1x5632 .f32) (o : ℕ)
    (inb : ∀ a, (![0, o] : Fin 2 → ℕ) a + S1x256.size a ≤ S1x5632.size a) (ho : o + 256 ≤ 5632) (e : Fin 256) :
    View.readAt (Elt Ideal) arg5.view (Rect.unit (s := S1x5632) ![0, o] S1x256.size inb).toLoadRect (harg5.unread x) (ix2 0 e) = x (ix2 0 ⟨o + e.val, by omega⟩) := by
  rw [View.readAt_eq_ld, harg5.read_unread, View.ld]
  refine congrArg x ?_
  funext a; refine Fin.ext ?_
  fin_cases a <;> simp

theorem col_p {arg8 : Memref sig .tc .vmem S128x5632 .f32} (harg8 : arg8.IsWhole) (x : Vec Ideal S128x5632 .f32) (o : ℕ)
    (inb : ∀ a, (![0, o] : Fin 2 → ℕ) a + S128x256.size a ≤ S128x5632.size a) (ho : o + 256 ≤ 5632) (r : Fin 128) (e : Fin 256) :
    View.readAt (Elt Ideal) arg8.view (Rect.unit (s := S128x5632) ![0, o] S128x256.size inb).toLoadRect (harg8.unread x) (ix2 r e) = x (ix2 r ⟨o + e.val, by omega⟩) := by
  rw [View.readAt_eq_ld, harg8.read_unread, View.ld]
  refine congrArg x ?_
  funext a; refine Fin.ext ?_
  fin_cases a <;> simp

/-! ### What one group computes -/

theorem conv_at (h : Vec Ideal S128x1024 .bf16) (w : Vec Ideal S1024x256 .bf16) (p2 p1 : Vec Ideal S128x256 .f32) (b w0 w1 w2 : Vec Ideal S1x256 .f32) (r : Fin 128) (e : Fin 256) :
    k0_pay3 (F := Ideal) h w p2 p1 b w0 w1 w2 (ix2 r e)
      = b (ix2 0 e) + p2 (ix2 r e) * w0 (ix2 0 e) + p1 (ix2 r e) * w1 (ix2 0 e) + (∑ k : Fin 1024, h (ix2 r k) * w (ix2 k e)) * w2 (ix2 0 e) := by
  unfold k0_pay3 k0_pay2
  pointwise

theorem act_at (v : FVec Ideal S128x256 .f32) (h : Vec Ideal S128x1024 .bf16) (w : Vec Ideal S1024x256 .bf16) (p2 p1 : Vec Ideal S128x256 .f32) (b w0 w1 w2 : Vec Ideal S1x256 .f32) (r : Fin 128) (e : Fin 256) :
    k0_pay7 (F := Ideal) v (k0_pay4 h w) (k0_pay5 p2) (k0_pay6 p1) b w0 w1 w2 (ix2 r e)
      = gelu (k0_pay3 (F := Ideal) h w p2 p1 b w0 w1 w2 (ix2 r e)) * v (ix2 r e) := by
  unfold k0_pay7 k0_pay3 k0_pay2 k0_pay4 k0_pay5 k0_pay6 gelu
  pointwise

theorem up_at (h : Vec Ideal S128x1024 .bf16) (w : Vec Ideal S1024x256 .bf16) (r : Fin 128) (e : Fin 256) :
    k0_pay2 (F := Ideal) h w (ix2 r e) = ∑ k : Fin 1024, h (ix2 r k) * w (ix2 k e) := by
  unfold k0_pay2
  pointwise

theorem down_at (a0 : Vec Ideal S128x1536 .bf16) (a1 : Vec Ideal S128x1280 .bf16) (w0 : Vec Ideal S1536x1024 .bf16) (w1 : Vec Ideal S1280x1024 .bf16)
    (g : Vec Ideal S1x1024 .f32) (x : Vec Ideal S128x1024 .f32) (r : Fin 128) (d : Fin 1024) :
    k0_pay1 (F := Ideal) (k0_pay77 (k0_pay41 a0 w0) a1 w1) x g (ix2 r d)
      = x (ix2 r d) + rms (fun e => (∑ k : Fin 1536, a0 (ix2 r k) * w0 (ix2 k e)) + ∑ k : Fin 1280, a1 (ix2 r k) * w1 (ix2 k e)) (fun e => g (ix2 0 e)) d := by
  have h : ∀ e : Fin 1024, k0_pay77 (F := Ideal) (k0_pay41 a0 w0) a1 w1 (ix2 r e) = (∑ k : Fin 1536, a0 (ix2 r k) * w0 (ix2 k e)) + ∑ k : Fin 1280, a1 (ix2 r k) * w1 (ix2 k e) := by
    intro e
    unfold k0_pay77 k0_pay41
    pointwise
  have h0 := funext h
  rw [← h0]
  unfold k0_pay1 rms
  generalize k0_pay77 (F := Ideal) (k0_pay41 a0 w0) a1 w1 = b
  pointwise

end Cert.FfnStep

end
-- ==== Proof.FfnStep.Piece.lean ====
/-
  The pieces a step of the gated network's samples writes, and the results they make.
-/
module

public import proofs.«01_k».proof.Proof.FfnStep.Block

@[expose] public section

set_option maxRecDepth 16384

noncomputable section

namespace Cert.FfnStep

open Cert.FfnStepIdeal Cert.FfnStepIdeal.Gen Cert.Rows
open Cert.Ffn (gelu)
open Idealize.ShloMosaic

section
variable {arg1 : Memref sig .tc .vmem S128x1024 .bf16} (harg1 : arg1.IsWhole) {arg3 : Memref sig .tc .vmem S1024x5632 .bf16} (harg3 : arg3.IsWhole)
  {arg4 : Memref sig .tc .vmem S3x5632 .f32} (harg4 : arg4.IsWhole) {arg5 : Memref sig .tc .vmem S1x5632 .f32} (harg5 : arg5.IsWhole)
  {arg8 : Memref sig .tc .vmem S128x5632 .f32} (harg8 : arg8.IsWhole) {arg9 : Memref sig .tc .vmem S128x5632 .f32} (harg9 : arg9.IsWhole)
  (x0 : Vec Ideal S128x1024 .bf16) (x2 : Vec Ideal S1024x5632 .bf16) (x3 : Vec Ideal S3x5632 .f32) (x4 : Vec Ideal S1x5632 .f32) (x7 x8 : Vec Ideal S128x5632 .f32)

/-- The block of input rows as loaded. -/
abbrev ldh (inb1 : ∀ a, (![0, 0] : Fin 2 → ℕ) a + S128x1024.size a ≤ S128x1024.size a) : Vec Ideal S128x1024 .bf16 :=
  View.readAt (Elt Ideal) arg1.view (Rect.unit (s := S128x1024) ![0, 0] S128x1024.size inb1).toLoadRect (harg1.unread x0)
/-- A column group of each of the other arguments as loaded. -/
abbrev ldup (o : ℕ) (inb : ∀ a, (![0, o] : Fin 2 → ℕ) a + S1024x256.size a ≤ S1024x5632.size a) : Vec Ideal S1024x256 .bf16 :=
  View.readAt (Elt Ideal) arg3.view (Rect.unit (s := S1024x5632) ![0, o] S1024x256.size inb).toLoadRect (harg3.unread x2)
abbrev ldw (j o : ℕ) (inb : ∀ a, (![j, o] : Fin 2 → ℕ) a + S1x256.size a ≤ S3x5632.size a) : Vec Ideal S1x256 .f32 :=
  View.readAt (Elt Ideal) arg4.view (Rect.unit (s := S3x5632) ![j, o] S1x256.size inb).toLoadRect (harg4.unread x3)
abbrev ldb (o : ℕ) (inb : ∀ a, (![0, o] : Fin 2 → ℕ) a + S1x256.size a ≤ S1x5632.size a) : Vec Ideal S1x256 .f32 :=
  View.readAt (Elt Ideal) arg5.view (Rect.unit (s := S1x5632) ![0, o] S1x256.size inb).toLoadRect (harg5.unread x4)
abbrev ldp (o : ℕ) (inb : ∀ a, (![0, o] : Fin 2 → ℕ) a + S128x256.size a ≤ S128x5632.size a) : Vec Ideal S128x256 .f32 :=
  View.readAt (Elt Ideal) arg8.view (Rect.unit (s := S128x5632) ![0, o] S128x256.size inb).toLoadRect (harg8.unread x7)

theorem ldh_eq (inb1) : ldh harg1 x0 inb1 = x0 := by
  unfold ldh
  rw [View.readAt_eq_ld, harg1.read_unread, View.ld_unit_lit _ _ (by decide)]

theorem up_col (inb1) (o : ℕ) (inb) (ho : o + 256 ≤ 5632) (r : Fin 128) (e : Fin 256) :
    (∑ k : Fin 1024, ldh harg1 x0 inb1 (ix2 r k) * ldup harg3 x2 o inb (ix2 k e)) = uu x0 x2 r ⟨o + e.val, by omega⟩ := by
  rw [ldh_eq]
  exact Finset.sum_congr rfl fun k _ => congrArg (x0 (ix2 r k) * ·) (col_up harg3 x2 o inb ho k e)

theorem conv_col (inb1) (o : ℕ) (inb inb8 inb9 inbb inb0 inbw1 inb2) (ho : o + 256 ≤ 5632) (r : Fin 128) (e : Fin 256) :
    k0_pay3 (F := Ideal) (ldh harg1 x0 inb1) (ldup harg3 x2 o inb) (ldp harg8 x7 o inb8) (ldp harg9 x8 o inb9) (ldb harg5 x4 o inbb)
      (ldw harg4 x3 0 o inb0) (ldw harg4 x3 1 o inbw1) (ldw harg4 x3 2 o inb2) (ix2 r e) = cv x0 x2 x3 x4 x7 x8 r ⟨o + e.val, by omega⟩ := by
  have hu := up_col harg1 harg3 x0 x2 inb1 o inb ho r e
  have h8 := col_p harg8 x7 o inb8 ho r e
  have h9 := col_p harg9 x8 o inb9 ho r e
  have hb := col_b harg5 x4 o inbb ho e
  have h0 := col_w harg4 x3 0 o inb0 ho e
  have h1 := col_w harg4 x3 1 o inbw1 ho e
  have h2 := col_w harg4 x3 2 o inb2 ho e
  unfold cv
  refine (conv_at _ _ _ _ _ _ _ _ r e).trans ?_
  exact congrArg₂ (· + ·) (congrArg₂ (· + ·) (congrArg₂ (· + ·) hb (congrArg₂ (· * ·) h8 h0)) (congrArg₂ (· * ·) h9 h1)) (congrArg₂ (· * ·) hu h2)

theorem piece_u (o : ℕ) (ho : o + 256 ≤ 5632) (inb1 inb) (inbo : ∀ a, (![0, o] : Fin 2 → ℕ) a + S128x256.size a ≤ S128x5632.size a) {y : S128x5632.Idx} :
    View.RectAt (Val := Elt Ideal) (e := .f32) y (Rect.unit (s := S128x5632) ![0, o] S128x256.size inbo)
      (k0_pay2 (ldh harg1 x0 inb1) (ldup harg3 x2 o inb) : Vec Ideal S128x256 .f32) (uG x0 x2 y) := by
  rintro (x : S128x256.Idx) hx
  obtain ⟨r, e, rfl⟩ : ∃ (r : Fin 128) (e : Fin 256), x = ix2 r e := ⟨x 0, x 1, funext fun a => match a with | 0 => rfl | 1 => rfl⟩
  have h : (Rect.unit (s := S128x5632) ![0, o] S128x256.size inbo).emb (ix2 r e) = ix2 r ⟨o + e.val, by omega⟩ := by
    funext a; refine Fin.ext ?_
    fin_cases a <;> simp
  rw [← hx, h]
  exact (up_at _ _ r e).trans (up_col harg1 harg3 x0 x2 inb1 o inb ho r e)

theorem piece_act (o p : ℕ) (hp : p = 2816 + o) (ho : o + 256 ≤ 2816) (inb1 inb inb8 inb9 inbb inb0 inbw1 inb2) (inb1' inb' inb8' inb9' inbb' inb0' inbw1' inb2')
    (inbo : ∀ a, (![0, o] : Fin 2 → ℕ) a + S128x256.size a ≤ S128x2816.size a) {y : S128x2816.Idx} :
    View.RectAt (Val := Elt Ideal) (e := .bf16) y (Rect.unit (s := S128x2816) ![0, o] S128x256.size inbo)
      (k0_pay7 (k0_pay3 (ldh harg1 x0 inb1) (ldup harg3 x2 o inb) (ldp harg8 x7 o inb8) (ldp harg9 x8 o inb9) (ldb harg5 x4 o inbb)
          (ldw harg4 x3 0 o inb0) (ldw harg4 x3 1 o inbw1) (ldw harg4 x3 2 o inb2))
        (k0_pay4 (ldh harg1 x0 inb1') (ldup harg3 x2 p inb')) (k0_pay5 (ldp harg8 x7 p inb8')) (k0_pay6 (ldp harg9 x8 p inb9')) (ldb harg5 x4 p inbb')
          (ldw harg4 x3 0 p inb0') (ldw harg4 x3 1 p inbw1') (ldw harg4 x3 2 p inb2') : Vec Ideal S128x256 .bf16) (actG x0 x2 x3 x4 x7 x8 y) := by
  rintro (x : S128x256.Idx) hx
  obtain ⟨r, e, rfl⟩ : ∃ (r : Fin 128) (e : Fin 256), x = ix2 r e := ⟨x 0, x 1, funext fun a => match a with | 0 => rfl | 1 => rfl⟩
  have h : (Rect.unit (s := S128x2816) ![0, o] S128x256.size inbo).emb (ix2 r e) = ix2 r ⟨o + e.val, by omega⟩ := by
    funext a; refine Fin.ext ?_
    fin_cases a <;> simp
  subst hp
  rw [← hx, h]
  refine (act_at _ _ _ _ _ _ _ _ _ r e).trans ?_
  have h1 := conv_col harg1 harg3 harg4 harg5 harg8 harg9 x0 x2 x3 x4 x7 x8 inb1' (2816 + o) inb' inb8' inb9' inbb' inb0' inbw1' inb2' (by omega) r e
  have h2 := conv_col harg1 harg3 harg4 harg5 harg8 harg9 x0 x2 x3 x4 x7 x8 inb1 o inb inb8 inb9 inbb inb0 inbw1 inb2 (by omega) r e
  refine congrArg₂ (fun a b => gelu a * b) (h1.trans ?_) h2
  exact congrArg (cv x0 x2 x3 x4 x7 x8 r) (Fin.ext (Nat.add_assoc 2816 o e.val))

/-- The last write at or below a column decides it. -/
theorem down (G : S128x2816.Idx → EReal) (o : ℕ) (inb : ∀ a, (![0, o] : Fin 2 → ℕ) a + S128x256.size a ≤ S128x2816.size a)
    (P : Vec Ideal S128x256 .bf16) (L : List (View.Piece (Elt Ideal) S128x2816 .bf16)) (y : S128x2816.Idx)
    (hP : View.RectAt (Val := Elt Ideal) (e := .bf16) y (Rect.unit (s := S128x2816) ![0, o] S128x256.size inb) P (G y))
    (h : (y 1).val < o + 256) (hL : (y 1).val < o → View.canon (Val := Elt Ideal) L y = G y) :
    View.canon (Val := Elt Ideal) (⟨Rect.unit (s := S128x2816) ![0, o] S128x256.size inb, P⟩ :: L) y = G y := by
  by_cases h' : o ≤ (y 1).val
  · have e : (Rect.unit (s := S128x2816) ![0, o] S128x256.size inb).emb (ix2 (y 0) ⟨(y 1).val - o, by omega⟩ : S128x256.Idx) = y := by
      funext a; refine Fin.ext ?_
      fin_cases a <;> simp
      all_goals omega
    exact (congrArg _ e.symm).trans ((View.canon_cons_emb (Val := Elt Ideal) (s := S128x2816) (e := .bf16) (Rect.unit (s := S128x2816) ![0, o] S128x256.size inb) P L _).trans (hP _ e))
  · refine (View.canon_cons_of_not_mem (Val := Elt Ideal) ⟨Rect.unit (s := S128x2816) ![0, o] S128x256.size inb, P⟩ L fun hm => h' ?_).trans (hL (by omega))
    have := (Rect.mem_set_unit (s := S128x2816) (off := ![0, o]) (size := S128x256.size) (inb := inb)).1 hm 1
    simpa using this.1

theorem canon6 (c : Dev nD) (y : S128x2816.Idx) (h : (y 1).val < 1536) :
    View.canon (Val := Elt Ideal) (kernelRun0_A.sl.HS0_6 c arg1 harg1 arg3 harg3 arg4 harg4 arg5 harg5 arg8 harg8 arg9 harg9 x0 x2 x3 x4 x7 x8) y = actG x0 x2 x3 x4 x7 x8 y := by
  unfold kernelRun0_A.sl.HS0_6
  refine down _ 1280 _ _ _ y (piece_act harg1 harg3 harg4 harg5 harg8 harg9 x0 x2 x3 x4 x7 x8 1280 4096 (by rfl) (by decide) _ _ _ _ _ _ _ _ _ _ _ _ _ _ _ _ _) h fun h => ?_
  refine down _ 1024 _ _ _ y (piece_act harg1 harg3 harg4 harg5 harg8 harg9 x0 x2 x3 x4 x7 x8 1024 3840 (by rfl) (by decide) _ _ _ _ _ _ _ _ _ _ _ _ _ _ _ _ _) h fun h => ?_
  refine down _ 768 _ _ _ y (piece_act harg1 harg3 harg4 harg5 harg8 harg9 x0 x2 x3 x4 x7 x8 768 3584 (by rfl) (by decide) _ _ _ _ _ _ _ _ _ _ _ _ _ _ _ _ _) h fun h => ?_
  refine down _ 512 _ _ _ y (piece_act harg1 harg3 harg4 harg5 harg8 harg9 x0 x2 x3 x4 x7 x8 512 3328 (by rfl) (by decide) _ _ _ _ _ _ _ _ _ _ _ _ _ _ _ _ _) h fun h => ?_
  refine down _ 256 _ _ _ y (piece_act harg1 harg3 harg4 harg5 harg8 harg9 x0 x2 x3 x4 x7 x8 256 3072 (by rfl) (by decide) _ _ _ _ _ _ _ _ _ _ _ _ _ _ _ _ _) h fun h => ?_
  refine down _ 0 _ _ _ y (piece_act harg1 harg3 harg4 harg5 harg8 harg9 x0 x2 x3 x4 x7 x8 0 2816 (by rfl) (by decide) _ _ _ _ _ _ _ _ _ _ _ _ _ _ _ _ _) h fun h => ?_
  exact absurd h (Nat.not_lt_zero _)

theorem canon11 (c : Dev nD) (y : S128x2816.Idx) :
    View.canon (Val := Elt Ideal) (kernelRun0_A.sl.HS0_11 c arg1 harg1 arg3 harg3 arg4 harg4 arg5 harg5 arg8 harg8 arg9 harg9 x0 x2 x3 x4 x7 x8) y = actG x0 x2 x3 x4 x7 x8 y := by
  have h : (y 1).val < 2816 := (y 1).isLt
  unfold kernelRun0_A.sl.HS0_11
  refine down _ 2560 _ _ _ y (piece_act harg1 harg3 harg4 harg5 harg8 harg9 x0 x2 x3 x4 x7 x8 2560 5376 (by rfl) (by decide) _ _ _ _ _ _ _ _ _ _ _ _ _ _ _ _ _) h fun h => ?_
  refine down _ 2304 _ _ _ y (piece_act harg1 harg3 harg4 harg5 harg8 harg9 x0 x2 x3 x4 x7 x8 2304 5120 (by rfl) (by decide) _ _ _ _ _ _ _ _ _ _ _ _ _ _ _ _ _) h fun h => ?_
  refine down _ 2048 _ _ _ y (piece_act harg1 harg3 harg4 harg5 harg8 harg9 x0 x2 x3 x4 x7 x8 2048 4864 (by rfl) (by decide) _ _ _ _ _ _ _ _ _ _ _ _ _ _ _ _ _) h fun h => ?_
  refine down _ 1792 _ _ _ y (piece_act harg1 harg3 harg4 harg5 harg8 harg9 x0 x2 x3 x4 x7 x8 1792 4608 (by rfl) (by decide) _ _ _ _ _ _ _ _ _ _ _ _ _ _ _ _ _) h fun h => ?_
  refine down _ 1536 _ _ _ y (piece_act harg1 harg3 harg4 harg5 harg8 harg9 x0 x2 x3 x4 x7 x8 1536 4352 (by rfl) (by decide) _ _ _ _ _ _ _ _ _ _ _ _ _ _ _ _ _) h fun h => ?_
  exact canon6 harg1 harg3 harg4 harg5 harg8 harg9 x0 x2 x3 x4 x7 x8 c y h

end

section
variable (x1 : Vec Ideal S128x1024 .f32) (x5 : Vec Ideal S2816x1024 .bf16) (x6 : Vec Ideal S1x1024 .f32)
  (x0 : Vec Ideal S128x1024 .bf16) (x2 : Vec Ideal S1024x5632 .bf16) (x3 : Vec Ideal S3x5632 .f32) (x4 : Vec Ideal S1x5632 .f32) (x7 x8 : Vec Ideal S128x5632 .f32)

theorem row_dn {arg6 : Memref sig .tc .vmem S2816x1024 .bf16} (harg6 : arg6.IsWhole)
    (inb : ∀ a, (![0, 0] : Fin 2 → ℕ) a + S1536x1024.size a ≤ S2816x1024.size a) (k : Fin 1536) (e : Fin 1024) :
    View.readAt (Elt Ideal) arg6.view (Rect.unit (s := S2816x1024) ![0, 0] S1536x1024.size inb).toLoadRect (harg6.unread x5) (ix2 k e) = x5 (ix2 ⟨k.val, by omega⟩ e) := by
  rw [View.readAt_eq_ld, harg6.read_unread, View.ld]
  refine congrArg x5 ?_
  funext a; refine Fin.ext ?_
  fin_cases a <;> simp

theorem row_dn' {arg6 : Memref sig .tc .vmem S2816x1024 .bf16} (harg6 : arg6.IsWhole)
    (inb : ∀ a, (![1536, 0] : Fin 2 → ℕ) a + S1280x1024.size a ≤ S2816x1024.size a) (k : Fin 1280) (e : Fin 1024) :
    View.readAt (Elt Ideal) arg6.view (Rect.unit (s := S2816x1024) ![1536, 0] S1280x1024.size inb).toLoadRect (harg6.unread x5) (ix2 k e) = x5 (ix2 ⟨1536 + k.val, by omega⟩ e) := by
  rw [View.readAt_eq_ld, harg6.read_unread, View.ld]
  refine congrArg x5 ?_
  funext a; refine Fin.ext ?_
  fin_cases a <;> simp

theorem actlo_at (H : List (View.Piece (Elt Ideal) S128x2816 .bf16)) (arg12 : Memref sig .tc .vmem S128x2816 .bf16)
    (inb : ∀ a, (![0, 0] : Fin 2 → ℕ) a + S128x1536.size a ≤ S128x2816.size a)
    (hH : ∀ y : S128x2816.Idx, (y 1).val < 1536 → View.canon (Val := Elt Ideal) H y = actG x0 x2 x3 x4 x7 x8 y) (r : Fin 128) (k : Fin 1536) :
    arg12.view.readCov (Val := Elt Ideal) H (Rect.unit (s := S128x2816) ![0, 0] S128x1536.size inb).toLoadRect (ix2 r k) = act x0 x2 x3 x4 x7 x8 r ⟨k.val, by omega⟩ := by
  rw [View.readCov_eq_canon']
  have e : (Rect.unit (s := S128x2816) ![0, 0] S128x1536.size inb).toLoadRect.idx (ix2 r k) = ix2 r ⟨k.val, by omega⟩ := by
    funext a; refine Fin.ext ?_
    fin_cases a <;> simp
  exact (congrArg (View.canon H) e).trans (hH (ix2 r ⟨k.val, by omega⟩) k.isLt)

theorem acthi_at (H : List (View.Piece (Elt Ideal) S128x2816 .bf16)) (arg12 : Memref sig .tc .vmem S128x2816 .bf16)
    (inb : ∀ a, (![0, 1536] : Fin 2 → ℕ) a + S128x1280.size a ≤ S128x2816.size a)
    (hH : ∀ y : S128x2816.Idx, View.canon (Val := Elt Ideal) H y = actG x0 x2 x3 x4 x7 x8 y) (r : Fin 128) (k : Fin 1280) :
    arg12.view.readCov (Val := Elt Ideal) H (Rect.unit (s := S128x2816) ![0, 1536] S128x1280.size inb).toLoadRect (ix2 r k) = act x0 x2 x3 x4 x7 x8 r ⟨1536 + k.val, by omega⟩ := by
  rw [View.readCov_eq_canon']
  have e : (Rect.unit (s := S128x2816) ![0, 1536] S128x1280.size inb).toLoadRect.idx (ix2 r k) = ix2 r ⟨1536 + k.val, by omega⟩ := by
    funext a; refine Fin.ext ?_
    fin_cases a <;> simp
  exact (congrArg (View.canon H) e).trans (hH (ix2 r ⟨1536 + k.val, by omega⟩))

theorem y_of {arg2 : Memref sig .tc .vmem S128x1024 .f32} (harg2 : arg2.IsWhole) {arg6 : Memref sig .tc .vmem S2816x1024 .bf16} (harg6 : arg6.IsWhole)
    {arg7 : Memref sig .tc .vmem S1x1024 .f32} (harg7 : arg7.IsWhole)
    (H H' : List (View.Piece (Elt Ideal) S128x2816 .bf16)) (arg12 : Memref sig .tc .vmem S128x2816 .bf16)
    (inb inb' inbx inbg inbw inbw')
    (hH : ∀ y : S128x2816.Idx, (y 1).val < 1536 → View.canon (Val := Elt Ideal) H y = actG x0 x2 x3 x4 x7 x8 y)
    (hH' : ∀ y : S128x2816.Idx, View.canon (Val := Elt Ideal) H' y = actG x0 x2 x3 x4 x7 x8 y) (r : Fin 128) (d : Fin 1024) :
    k0_pay1 (F := Ideal)
      (k0_pay77 (k0_pay41 (arg12.view.readCov (Val := Elt Ideal) H (Rect.unit (s := S128x2816) ![0, 0] S128x1536.size inb).toLoadRect)
          (View.readAt (Elt Ideal) arg6.view (Rect.unit (s := S2816x1024) ![0, 0] S1536x1024.size inbw).toLoadRect (harg6.unread x5)))
        (arg12.view.readCov (Val := Elt Ideal) H' (Rect.unit (s := S128x2816) ![0, 1536] S128x1280.size inb').toLoadRect)
        (View.readAt (Elt Ideal) arg6.view (Rect.unit (s := S2816x1024) ![1536, 0] S1280x1024.size inbw').toLoadRect (harg6.unread x5)))
      (View.readAt (Elt Ideal) arg2.view (Rect.unit (s := S128x1024) ![0, 0] S128x1024.size inbx).toLoadRect (harg2.unread x1))
      (View.readAt (Elt Ideal) arg7.view (Rect.unit (s := S1x1024) ![0, 0] S1x1024.size inbg).toLoadRect (harg7.unread x6)) (ix2 r d)
      = yv x0 x1 x2 x3 x4 x5 x6 x7 x8 r d := by
  refine (down_at _ _ _ _ _ _ r d).trans ?_
  have h1 : View.readAt (Elt Ideal) arg2.view (Rect.unit (s := S128x1024) ![0, 0] S128x1024.size inbx).toLoadRect (harg2.unread x1) = x1 := by
    rw [View.readAt_eq_ld, harg2.read_unread, View.ld_unit_lit _ _ (by decide)]
  have h2 : View.readAt (Elt Ideal) arg7.view (Rect.unit (s := S1x1024) ![0, 0] S1x1024.size inbg).toLoadRect (harg7.unread x6) = x6 := by
    rw [View.readAt_eq_ld, harg7.read_unread, View.ld_unit_lit _ _ (by decide)]
  rw [h1, h2]
  unfold yv
  refine congrArg (fun q => x1 (ix2 r d) + rms q (fun e => x6 (ix2 0 e)) d) ?_
  funext e
  refine Eq.trans ?_ (Fin.sum_univ_add (M := EReal) (a := 1536) (b := 1280) (fun j => act x0 x2 x3 x4 x7 x8 r j * x5 (ix2 j e))).symm
  refine congrArg₂ (· + ·) (Finset.sum_congr rfl fun k _ => ?_) (Finset.sum_congr rfl fun k _ => ?_)
  · exact congrArg₂ (· * ·) (actlo_at x0 x2 x3 x4 x7 x8 H arg12 inb hH r k) (row_dn x5 harg6 inbw k e)
  · exact congrArg₂ (· * ·) (acthi_at x0 x2 x3 x4 x7 x8 H' arg12 inb' hH' r k) (row_dn' x5 harg6 inbw' k e)

end

section
variable (c : Dev nD) (i : grid0.Coords) {arg1 : Memref sig .tc .vmem S128x1024 .bf16} (harg1 : arg1.IsWhole) {arg2 : Memref sig .tc .vmem S128x1024 .f32} (harg2 : arg2.IsWhole) {arg3 : Memref sig .tc .vmem S1024x5632 .bf16} (harg3 : arg3.IsWhole) {arg4 : Memref sig .tc .vmem S3x5632 .f32} (harg4 : arg4.IsWhole) {arg5 : Memref sig .tc .vmem S1x5632 .f32} (harg5 : arg5.IsWhole) {arg6 : Memref sig .tc .vmem S2816x1024 .bf16} (harg6 : arg6.IsWhole) {arg7 : Memref sig .tc .vmem S1x1024 .f32} (harg7 : arg7.IsWhole) {arg8 : Memref sig .tc .vmem S128x5632 .f32} (harg8 : arg8.IsWhole) {arg9 : Memref sig .tc .vmem S128x5632 .f32} (harg9 : arg9.IsWhole) {arg10 : Memref sig .tc .vmem S128x1024 .f32} (harg10 : arg10.IsWhole) {arg11 : Memref sig .tc .vmem S128x5632 .f32} (harg11 : arg11.IsWhole) {arg12 : Memref sig .tc .vmem S128x2816 .bf16} (harg12 : arg12.IsWhole)
  (x0 : Vec Ideal S128x1024 .bf16) (x1 : Vec Ideal S128x1024 .f32) (x2 : Vec Ideal S1024x5632 .bf16) (x3 : Vec Ideal S3x5632 .f32) (x4 : Vec Ideal S1x5632 .f32) (x5 : Vec Ideal S2816x1024 .bf16) (x6 : Vec Ideal S1x1024 .f32) (x7 : Vec Ideal S128x5632 .f32) (x8 : Vec Ideal S128x5632 .f32)

theorem out10 : out0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 = uG x0 x2 := by
  funext y
  unfold out0_A_10
  rw [View.read_writes_junk_eq_canon]
  refine View.canon_eq_of_allAt _ y _ (cover0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 y) ?_
  unfold kernelRun0_A
  dsimp only
  refine View.allAt_cons _ _ _ (piece_u harg1 harg3 x0 x2 5376 (by decide) _ _ _) ?_
  refine View.allAt_cons _ _ _ (piece_u harg1 harg3 x0 x2 2560 (by decide) _ _ _) ?_
  refine View.allAt_cons _ _ _ (piece_u harg1 harg3 x0 x2 5120 (by decide) _ _ _) ?_
  refine View.allAt_cons _ _ _ (piece_u harg1 harg3 x0 x2 2304 (by decide) _ _ _) ?_
  refine View.allAt_cons _ _ _ (piece_u harg1 harg3 x0 x2 4864 (by decide) _ _ _) ?_
  refine View.allAt_cons _ _ _ (piece_u harg1 harg3 x0 x2 2048 (by decide) _ _ _) ?_
  refine View.allAt_cons _ _ _ (piece_u harg1 harg3 x0 x2 4608 (by decide) _ _ _) ?_
  refine View.allAt_cons _ _ _ (piece_u harg1 harg3 x0 x2 1792 (by decide) _ _ _) ?_
  refine View.allAt_cons _ _ _ (piece_u harg1 harg3 x0 x2 4352 (by decide) _ _ _) ?_
  refine View.allAt_cons _ _ _ (piece_u harg1 harg3 x0 x2 1536 (by decide) _ _ _) ?_
  refine View.allAt_cons _ _ _ (piece_u harg1 harg3 x0 x2 4096 (by decide) _ _ _) ?_
  refine View.allAt_cons _ _ _ (piece_u harg1 harg3 x0 x2 1280 (by decide) _ _ _) ?_
  refine View.allAt_cons _ _ _ (piece_u harg1 harg3 x0 x2 3840 (by decide) _ _ _) ?_
  refine View.allAt_cons _ _ _ (piece_u harg1 harg3 x0 x2 1024 (by decide) _ _ _) ?_
  refine View.allAt_cons _ _ _ (piece_u harg1 harg3 x0 x2 3584 (by decide) _ _ _) ?_
  refine View.allAt_cons _ _ _ (piece_u harg1 harg3 x0 x2 768 (by decide) _ _ _) ?_
  refine View.allAt_cons _ _ _ (piece_u harg1 harg3 x0 x2 3328 (by decide) _ _ _) ?_
  refine View.allAt_cons _ _ _ (piece_u harg1 harg3 x0 x2 512 (by decide) _ _ _) ?_
  refine View.allAt_cons _ _ _ (piece_u harg1 harg3 x0 x2 3072 (by decide) _ _ _) ?_
  refine View.allAt_cons _ _ _ (piece_u harg1 harg3 x0 x2 256 (by decide) _ _ _) ?_
  refine View.allAt_cons _ _ _ (piece_u harg1 harg3 x0 x2 2816 (by decide) _ _ _) ?_
  refine View.allAt_cons _ _ _ (piece_u harg1 harg3 x0 x2 0 (by decide) _ _ _) ?_
  exact View.allAt_nil _ _

theorem out9 (r : Fin 128) (d : Fin 1024) : out0_A_9 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 (ix2 r d) = yv x0 x1 x2 x3 x4 x5 x6 x7 x8 r d := by
  unfold out0_A_9
  rw [View.read_writes_junk_eq_canon]
  unfold kernelRun0_A
  dsimp only
  unfold kernelRun0_A.sl.r_55 kernelRun0_A.sl.r_29 kernelRun0_A.sl.v709 kernelRun0_A.sl.v385
  rw [View.canon_cons_unit_lit' (S := S128x1024) _ _ _ (by decide)]
  exact y_of x1 x5 x6 x0 x2 x3 x4 x7 x8 harg2 harg6 harg7 _ _ arg12 _ _ _ _ _ _ (fun y h => canon6 harg1 harg3 harg4 harg5 harg8 harg9 x0 x2 x3 x4 x7 x8 c y h)
    (fun y => canon11 harg1 harg3 harg4 harg5 harg8 harg9 x0 x2 x3 x4 x7 x8 c y) r d

end

end Cert.FfnStep

end
-- ==== Proof.FfnStep.Ref.lean ====
/-
  The gated network's reference on the samples, entry by entry.
-/
module

public import proofs.«01_k».proof.Proof.Gen.FfnStepRefIdeal.Read
public import proofs.«01_k».proof.Proof.Ffn.Ref
public import Idealize.ShloMosaic.Lib.Pointwise

@[expose] public section

noncomputable section

namespace Cert.FfnStep

open Cert.FfnStepRefIdeal Cert.FfnStepRefIdeal.Gen Cert.FfnStepRefIdeal.Read Cert.Rows
open Cert.Ffn (gelu gelu_ref)
open Idealize.ShloMosaic Idealize.ShloMosaic.StableHlo

variable (h : Vec Ideal S128x1024 .bf16) (x : Vec Ideal S128x1024 .f32) (s : Vec Ideal S128x2x5632 .f32) (wu : Vec Ideal S1024x5632 .f32) (cw : Vec Ideal S3x5632 .f32) (cb : Vec Ideal S5632 .f32)
  (wd : Vec Ideal S2816x1024 .f32) (g : Vec Ideal S1024 .f32)

/-- The up projection of one sample's row. -/
def gu (b : Fin 128) (c : Fin 5632) : EReal := ∑ k : Fin 1024, h (ix2 b k) * wu (ix2 k c)

/-- The convolution of width three over the two rows kept and the new one. -/
def gcv (b : Fin 128) (c : Fin 5632) : EReal :=
  cb (ix1 c) + s (ix3 b 0 c) * cw (ix2 0 c) + s (ix3 b 1 c) * cw (ix2 1 c) + gu h wu b c * cw (ix2 2 c)

/-- The gated activation. -/
def gact (b : Fin 128) (j : Fin 2816) : EReal :=
  gelu (gcv h s wu cw cb b ⟨2816 + j.val, by omega⟩) * gcv h s wu cw cb b ⟨j.val, by omega⟩

/-- The output of one sample. -/
def gy (b : Fin 128) (d : Fin 1024) : EReal :=
  x (ix2 b d) + rms (fun e => ∑ j : Fin 2816, gact h s wu cw cb b j * wd (ix2 j e)) (fun e => g (ix1 e)) d

theorem u_ref (b : Fin 128) (c : Fin 5632) :
    (val_main_v2 (F := Ideal) h wu : Vec Ideal S128x1x5632 .f32) (ix3 b 0 c) = gu h wu b c := by
  unfold val_main_v2 val_main_v1 val_main_v0 gu
  pointwise

theorem new_ref (b : Fin 128) (c : Fin 5632) :
    (val_main_v60 (F := Ideal) h s wu : Vec Ideal S128x5632 .f32) (ix2 b c) = gu h wu b c := by
  rw [← u_ref]
  unfold val_main_v60 val_main_v59 val_main_v3
  generalize val_main_v2 (F := Ideal) h wu = u
  pointwise

theorem cv_ref (b : Fin 128) (c : Fin 5632) :
    (val_main_v26 (F := Ideal) h s wu cw cb : Vec Ideal S128x1x5632 .f32) (ix3 b 0 c) = gcv h s wu cw cb b c := by
  unfold gcv
  rw [← u_ref]
  unfold val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3
  generalize val_main_v2 (F := Ideal) h wu = u
  pointwise

theorem act_ref (b : Fin 128) (j : Fin 2816) :
    (val_main_v42 (F := Ideal) h s wu cw cb : Vec Ideal S128x1x2816 .f32) (ix3 b 0 j) = gact h s wu cw cb b j := by
  unfold gact
  simp only [← cv_ref, ← gelu_ref]
  unfold val_main_v42 val_main_v41 val_main_v40 val_main_v39 val_main_v38 val_main_v37 val_main_v36 val_main_v35 val_main_v34 val_main_v33 val_main_v32 val_main_v31 val_main_v30 val_main_v29 val_main_v28 val_main_v27 val_main_cst val_main_cst_0 val_main_cst_1 val_main_cst_2
  generalize val_main_v26 (F := Ideal) h s wu cw cb = u
  pointwise

theorem y_ref (b : Fin 128) (d : Fin 1024) :
    (val_main_v58 (F := Ideal) h x s wu cw cb wd g : Vec Ideal S128x1024 .f32) (ix2 b d) = gy h x s wu cw cb wd g b d := by
  have h1 : ∀ e : Fin 1024, (val_main_v43 (F := Ideal) h s wu cw cb wd : Vec Ideal S128x1x1024 .f32) (ix3 b 0 e) = ∑ j : Fin 2816, gact h s wu cw cb b j * wd (ix2 j e) := by
    intro e
    simp only [← act_ref]
    unfold val_main_v43
    generalize val_main_v42 (F := Ideal) h s wu cw cb = u
    pointwise
  unfold gy
  simp only [← h1]
  unfold val_main_v58 val_main_v57 val_main_v56 val_main_v55 val_main_v54 val_main_v53 val_main_v52 val_main_v51 val_main_v50 val_main_v49 val_main_v48 val_main_v47 val_main_v46 val_main_v45 val_main_v44 val_main_cst_3 val_main_cst_4 val_main_cst_5 rms
  generalize val_main_v43 (F := Ideal) h s wu cw cb wd = u
  pointwise

end Cert.FfnStep

end
-- ==== Proof.FfnStep.Final.lean ====
/-
  The arguments of the launch of the gated network's samples, as the host prepares them and as blocks, and its result arrays.
-/
module

public import proofs.«01_k».proof.Proof.FfnStep.Piece
public import proofs.«01_k».proof.Proof.FfnStep.Ref
public import Idealize.ShloMosaic.Lib.StableHlo.ReadAt
public import Idealize.ShloMosaic.Lib.Pointwise
public import Idealize.ShloMosaic.Lib.Pipeline.ValueKit

@[expose] public section

set_option maxRecDepth 16384

noncomputable section

namespace Cert.FfnStep

open Cert.FfnStepIdeal Cert.FfnStepIdeal.Gen Cert.Rows
open Cert.Ffn (gelu)
open Idealize.ShloMosaic Idealize.ShloMosaic.TcCoe

variable (m : (ℓ : Loc nD τ sig) → Buf (Elt Ideal) ℓ) (c : Dev nD)

abbrev ah : Vec Ideal S128x1024 .bf16 := m ((c : Thread nD τ).loc main_arg0)
abbrev ax : Vec Ideal S128x1024 .f32 := m ((c : Thread nD τ).loc main_arg1)
abbrev ast : Vec Ideal S128x2x5632 .f32 := m ((c : Thread nD τ).loc main_arg2)
abbrev awu : Vec Ideal S1024x5632 .f32 := m ((c : Thread nD τ).loc main_arg3)
abbrev acw : Vec Ideal S3x5632 .f32 := m ((c : Thread nD τ).loc main_arg4)
abbrev acb : Vec Ideal S5632 .f32 := m ((c : Thread nD τ).loc main_arg5)
abbrev awd : Vec Ideal S2816x1024 .f32 := m ((c : Thread nD τ).loc main_arg6)
abbrev ag : Vec Ideal S1024 .f32 := m ((c : Thread nD τ).loc main_arg7)

theorem idx : ∀ t : Fin cfg0.N, win0_0.index t = ![0, 0] ∧ win0_1.index t = ![0, 0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0] := by
  decide +kernel

theorem idxo : ∀ t : Fin cfg0.N, win0_9.index t = ![0, 0] ∧ win0_10.index t = ![0, 0] := by
  decide +kernel

theorem blk0 (t : Fin cfg0.N) (k : Fin 128) (d : Fin 1024) : (iblk m c 0 t : Vec Ideal S128x1024 .bf16) (ix2 k d) = ah m c (ix2 k d) := by
  unfold ah
  rw [← V_main_arg0 m c]
  blk_ext [iblk, idx t]

theorem blk1 (t : Fin cfg0.N) (k : Fin 128) (d : Fin 1024) : (iblk m c 1 t : Vec Ideal S128x1024 .f32) (ix2 k d) = ax m c (ix2 k d) := by
  unfold ax
  rw [← V_main_arg1 m c]
  blk_ext [iblk, idx t]

theorem w2_at (k : Fin 1024) (d : Fin 5632) : (V m c main_v0 : Vec Ideal S1024x5632 .bf16) (ix2 k d) = awu m c (ix2 k d) := by
  unfold V
  after_reads_at

theorem blk2 (t : Fin cfg0.N) (k : Fin 1024) (d : Fin 5632) : (iblk m c 2 t : Vec Ideal S1024x5632 .bf16) (ix2 k d) = awu m c (ix2 k d) := by
  rw [← w2_at]
  blk_ext [iblk, idx t]

theorem blk3 (t : Fin cfg0.N) (k : Fin 3) (d : Fin 5632) : (iblk m c 3 t : Vec Ideal S3x5632 .f32) (ix2 k d) = acw m c (ix2 k d) := by
  unfold acw
  rw [← V_main_arg4 m c]
  blk_ext [iblk, idx t]

theorem w4_at (d : Fin 5632) : (V m c main_v1 : Vec Ideal S1x5632 .f32) (ix2 0 d) = acb m c (ix1 d) := by
  unfold V
  after_reads_at

theorem blk4 (t : Fin cfg0.N) (d : Fin 5632) : (iblk m c 4 t : Vec Ideal S1x5632 .f32) (ix2 0 d) = acb m c (ix1 d) := by
  rw [← w4_at]
  blk_ext [iblk, idx t]

theorem w5_at (k : Fin 2816) (d : Fin 1024) : (V m c main_v2 : Vec Ideal S2816x1024 .bf16) (ix2 k d) = awd m c (ix2 k d) := by
  unfold V
  after_reads_at

theorem blk5 (t : Fin cfg0.N) (k : Fin 2816) (d : Fin 1024) : (iblk m c 5 t : Vec Ideal S2816x1024 .bf16) (ix2 k d) = awd m c (ix2 k d) := by
  rw [← w5_at]
  blk_ext [iblk, idx t]

theorem w6_at (d : Fin 1024) : (V m c main_v3 : Vec Ideal S1x1024 .f32) (ix2 0 d) = ag m c (ix1 d) := by
  unfold V
  after_reads_at

theorem blk6 (t : Fin cfg0.N) (d : Fin 1024) : (iblk m c 6 t : Vec Ideal S1x1024 .f32) (ix2 0 d) = ag m c (ix1 d) := by
  rw [← w6_at]
  blk_ext [iblk, idx t]

theorem w7_at (k : Fin 128) (d : Fin 5632) : (V m c main_v5 : Vec Ideal S128x5632 .f32) (ix2 k d) = ast m c (ix3 k 0 d) := by
  unfold V
  after_reads_at

theorem blk7 (t : Fin cfg0.N) (k : Fin 128) (d : Fin 5632) : (iblk m c 7 t : Vec Ideal S128x5632 .f32) (ix2 k d) = ast m c (ix3 k 0 d) := by
  rw [← w7_at]
  blk_ext [iblk, idx t]

theorem w8_at (k : Fin 128) (d : Fin 5632) : (V m c main_v7 : Vec Ideal S128x5632 .f32) (ix2 k d) = ast m c (ix3 k 1 d) := by
  unfold V
  after_reads_at

theorem blk8 (t : Fin cfg0.N) (k : Fin 128) (d : Fin 5632) : (iblk m c 8 t : Vec Ideal S128x5632 .f32) (ix2 k d) = ast m c (ix3 k 1 d) := by
  rw [← w8_at]
  blk_ext [iblk, idx t]

theorem uu_blk (t : Fin cfg0.N) (r : Fin 128) (d : Fin 5632) : uu (iblk m c 0 t) (iblk m c 2 t) r d = gu (ah m c) (awu m c) r d :=
  Finset.sum_congr rfl fun k _ => congrArg₂ (· * ·) (blk0 m c t r k) (blk2 m c t k d)

theorem cv_blk (t : Fin cfg0.N) (r : Fin 128) (d : Fin 5632) :
    cv (iblk m c 0 t) (iblk m c 2 t) (iblk m c 3 t) (iblk m c 4 t) (iblk m c 7 t) (iblk m c 8 t) r d = gcv (ah m c) (ast m c) (awu m c) (acw m c) (acb m c) r d := by
  unfold cv gcv
  rw [uu_blk, blk3, blk3, blk3, blk4, blk7, blk8]

theorem act_blk (t : Fin cfg0.N) (r : Fin 128) (j : Fin 2816) :
    act (iblk m c 0 t) (iblk m c 2 t) (iblk m c 3 t) (iblk m c 4 t) (iblk m c 7 t) (iblk m c 8 t) r j = gact (ah m c) (ast m c) (awu m c) (acw m c) (acb m c) r j := by
  unfold act gact
  rw [cv_blk, cv_blk]

abbrev um (b : Fin 128) (d : Fin 5632) : EReal := gu (ah m c) (awu m c) b d
abbrev ym (b : Fin 128) (d : Fin 1024) : EReal := gy (ah m c) (ax m c) (ast m c) (awu m c) (acw m c) (acb m c) (awd m c) (ag m c) b d

theorem yv_blk (t : Fin cfg0.N) (r : Fin 128) (d : Fin 1024) :
    yv (iblk m c 0 t) (iblk m c 1 t) (iblk m c 2 t) (iblk m c 3 t) (iblk m c 4 t) (iblk m c 5 t) (iblk m c 6 t) (iblk m c 7 t) (iblk m c 8 t) r d = ym m c r d := by
  unfold yv ym gy
  refine congrArg₂ (· + ·) (blk1 m c t r d) (congrArg₂ (fun f g => rms f g d) (funext fun e => Finset.sum_congr rfl fun j _ => ?_) (funext fun e => blk6 m c t e))
  exact congrArg₂ (· * ·) (act_blk m c t r j) (blk5 m c t j e)

/-- The outputs. -/
def GY : Vec Ideal S128x1024 .f32 := fun y => ym m c (y 0) (y 1)
/-- The new rows. -/
def GU : Vec Ideal S128x5632 .f32 := fun y => um m c (y 0) (y 1)

theorem arr9 : (dats m 0 c).arrAt 9 cfg0.N = GY m c := by
  refine (dats m 0 c).arrAt_eq_of_covers 9 _ (by decide +kernel) fun t hf y => ?_
  blk_simp
  rw [after0_9]
  obtain ⟨r, d, rfl⟩ : ∃ (r : Fin 128) (d : Fin 1024), y = ix2 r d := ⟨y 0, y 1, funext fun a => match a with | 0 => rfl | 1 => rfl⟩
  have he : ((cfg0.win 9).blk t).view.emb (ix2 r d) = ix2 r d := by
    blk_ext [idxo t]
  rw [he]
  unfold outsAt0
  dsimp only
  exact (out9 _ _ _ _ _ _ _ _ _ _ _ _ _ _ _ _ _ _ _ _ _ _ _ r d).trans (yv_blk m c t r d)

theorem arr10 : (dats m 0 c).arrAt 10 cfg0.N = GU m c := by
  refine (dats m 0 c).arrAt_eq_of_covers 10 _ (by decide +kernel) fun t hf y => ?_
  blk_simp
  rw [after0_10]
  obtain ⟨r, d, rfl⟩ : ∃ (r : Fin 128) (d : Fin 5632), y = ix2 r d := ⟨y 0, y 1, funext fun a => match a with | 0 => rfl | 1 => rfl⟩
  have he : ((cfg0.win 10).blk t).view.emb (ix2 r d) = ix2 r d := by
    blk_ext [idxo t]
  rw [he]
  unfold outsAt0
  dsimp only
  exact (congrFun (out10 _ _ _ _ _ _ _ _ _ _ _ _ _ _ _ _ _ _ _ _ _ _ _ ) _).trans (uu_blk m c t r d)

end Cert.FfnStep

end
-- ==== Proof.FfnStep.Claim.lean ====
/-
  The claims on the launch of the gated network's samples and its reference, put together.
-/
module

public import proofs.«01_k».proof.Defs
public import proofs.«01_k».proof.Proof.FfnStep.Final
public import proofs.«01_k».proof.Proof.Gen.FfnStepIdeal.Value

@[expose] public section

set_option maxRecDepth 16384

noncomputable section

namespace Cert.FfnStep

open Idealize.ShloMosaic Idealize.SL.Sem Idealize.ShloMosaic.TcCoe

/-- The reference ends with its arguments unchanged; it declares no semaphore. -/
theorem ref_frame (m : (ℓ : Loc Cert.FfnStepRefIdeal.nD Cert.FfnStepRefIdeal.τ Cert.FfnStepRefIdeal.sig) → Buf (Elt Ideal) ℓ) (ρ : Dev Cert.FfnStepRefIdeal.nD → PrngReg) :
    θ_run (Cert.FfnStepRefIdeal.defs (F := Ideal)) (onTc (τ := Cert.FfnStepRefIdeal.τ) (Cert.FfnStepRefIdeal.main (F := Ideal))) ⟨m, fun _ => 0, ρ⟩ (fun r => (∀ c : Dev Cert.FfnStepRefIdeal.nD,
      r.2.mem ((c.tc : Thread Cert.FfnStepRefIdeal.nD Cert.FfnStepRefIdeal.τ).loc Cert.FfnStepRefIdeal.main_arg0) = m ((c.tc : Thread Cert.FfnStepRefIdeal.nD Cert.FfnStepRefIdeal.τ).loc Cert.FfnStepRefIdeal.main_arg0)
      ∧ r.2.mem ((c.tc : Thread Cert.FfnStepRefIdeal.nD Cert.FfnStepRefIdeal.τ).loc Cert.FfnStepRefIdeal.main_arg1) = m ((c.tc : Thread Cert.FfnStepRefIdeal.nD Cert.FfnStepRefIdeal.τ).loc Cert.FfnStepRefIdeal.main_arg1)
      ∧ r.2.mem ((c.tc : Thread Cert.FfnStepRefIdeal.nD Cert.FfnStepRefIdeal.τ).loc Cert.FfnStepRefIdeal.main_arg2) = m ((c.tc : Thread Cert.FfnStepRefIdeal.nD Cert.FfnStepRefIdeal.τ).loc Cert.FfnStepRefIdeal.main_arg2)
      ∧ r.2.mem ((c.tc : Thread Cert.FfnStepRefIdeal.nD Cert.FfnStepRefIdeal.τ).loc Cert.FfnStepRefIdeal.main_arg3) = m ((c.tc : Thread Cert.FfnStepRefIdeal.nD Cert.FfnStepRefIdeal.τ).loc Cert.FfnStepRefIdeal.main_arg3)
      ∧ r.2.mem ((c.tc : Thread Cert.FfnStepRefIdeal.nD Cert.FfnStepRefIdeal.τ).loc Cert.FfnStepRefIdeal.main_arg4) = m ((c.tc : Thread Cert.FfnStepRefIdeal.nD Cert.FfnStepRefIdeal.τ).loc Cert.FfnStepRefIdeal.main_arg4)
      ∧ r.2.mem ((c.tc : Thread Cert.FfnStepRefIdeal.nD Cert.FfnStepRefIdeal.τ).loc Cert.FfnStepRefIdeal.main_arg5) = m ((c.tc : Thread Cert.FfnStepRefIdeal.nD Cert.FfnStepRefIdeal.τ).loc Cert.FfnStepRefIdeal.main_arg5)
      ∧ r.2.mem ((c.tc : Thread Cert.FfnStepRefIdeal.nD Cert.FfnStepRefIdeal.τ).loc Cert.FfnStepRefIdeal.main_arg6) = m ((c.tc : Thread Cert.FfnStepRefIdeal.nD Cert.FfnStepRefIdeal.τ).loc Cert.FfnStepRefIdeal.main_arg6)
      ∧ r.2.mem ((c.tc : Thread Cert.FfnStepRefIdeal.nD Cert.FfnStepRefIdeal.τ).loc Cert.FfnStepRefIdeal.main_arg7) = m ((c.tc : Thread Cert.FfnStepRefIdeal.nD Cert.FfnStepRefIdeal.τ).loc Cert.FfnStepRefIdeal.main_arg7))
      ∧ r.2.sem = fun _ => 0) := by
  exact (θ_run _ _ _).mono (fun r h => ⟨fun c => (h c).2.2, sem_eq_zero_of_no_sems (by decide) r.2⟩) (Cert.FfnStepRefIdeal.Value.run m ρ)

open Cert.FfnStepRefIdeal.Read in
theorem algebraic : Cert.algebraic_FfnStepIdeal_FfnStepRefIdeal := by
  intro m g m' g' hpre hagree
  refine ⟨fun c => GY m c, fun c => GU m c, ?_, ?_⟩
  · refine (θ_run _ _ _).mono (fun r h c => ?_) (Cert.FfnStepIdeal.Value.run_blocks m g)
    obtain ⟨h1, h2, ha⟩ := h c
    exact ⟨h1.trans (arr9 m c), h2.trans (arr10 m c), ha⟩
  · refine (θ_run _ _ _).mono (fun r h c => ?_) (Cert.FfnStepRefIdeal.Value.run m' g')
    obtain ⟨h1, h2, ha⟩ := h c
    obtain ⟨e0, e1, e2, e3, e4, e5, e6, e7⟩ := hagree c
    refine ⟨h1.trans ((val_main_v58_eq _ _).trans ?_), h2.trans ((val_main_v60_eq _ _ _).trans ?_), ha⟩
    · rw [e0, e1, e2, e3, e4, e5, e6, e7]
      funext i
      obtain ⟨b, d, rfl⟩ : ∃ (b : Fin 128) (d : Fin 1024), i = ix2 b d := ⟨i 0, i 1, funext fun a => match a with | 0 => rfl | 1 => rfl⟩
      exact y_ref _ _ _ _ _ _ _ _ b d
    · rw [e0, e2, e3]
      funext i
      obtain ⟨b, d, rfl⟩ : ∃ (b : Fin 128) (d : Fin 5632), i = ix2 b d := ⟨i 0, i 1, funext fun a => match a with | 0 => rfl | 1 => rfl⟩
      exact new_ref _ _ _ b d

end Cert.FfnStep

end
-- ==== Proof.lean ====
module

public import proofs.«01_k».proof.Defs
public import proofs.«01_k».proof.Proof.Gla.BitsFrame
public import proofs.«01_k».proof.Proof.Gla.Claim
public import proofs.«01_k».proof.Proof.Gen.GlaProj.Frame
public import proofs.«01_k».proof.Proof.Proj.Claim
public import proofs.«01_k».proof.Proof.Gen.Merge.Frame
public import proofs.«01_k».proof.Proof.Merge.Claim
public import proofs.«01_k».proof.Proof.Gen.Ffn.Frame
public import proofs.«01_k».proof.Proof.Ffn.Claim
public import proofs.«01_k».proof.Proof.Gen.FoxProj.Frame
public import proofs.«01_k».proof.Proof.FoxProj.Claim
public import proofs.«01_k».proof.Proof.Gen.FoxStep.Frame
public import proofs.«01_k».proof.Proof.FoxStep.Claim
public import proofs.«01_k».proof.Proof.Gen.GlaStep.Frame
public import proofs.«01_k».proof.Proof.GlaStep.Claim
public import proofs.«01_k».proof.Proof.Gen.FfnStep.Frame
public import proofs.«01_k».proof.Proof.FfnStep.Claim

@[expose] public section

noncomputable section

namespace Cert.Proof

open Idealize.ShloMosaic Idealize.SL.Sem

theorem claim : Cert.Claim :=
  ⟨Cert.GlaPrompt.Gen.facts, Cert.GlaPromptIdeal.Gen.facts, Cert.GlaPromptRefIdeal.Gen.facts, Cert.GlaProj.Gen.facts, Cert.GlaProjIdeal.Gen.facts, Cert.GlaProjRefIdeal.Gen.facts, Cert.Merge.Gen.facts, Cert.MergeIdeal.Gen.facts, Cert.MergeRefIdeal.Gen.facts, Cert.Ffn.Gen.facts, Cert.FfnIdeal.Gen.facts, Cert.FfnRefIdeal.Gen.facts, Cert.FoxProj.Gen.facts, Cert.FoxProjIdeal.Gen.facts, Cert.FoxProjRefIdeal.Gen.facts, Cert.FoxStep.Gen.facts, Cert.FoxStepIdeal.Gen.facts, Cert.FoxStepRefIdeal.Gen.facts, Cert.GlaStep.Gen.facts, Cert.GlaStepIdeal.Gen.facts, Cert.GlaStepRefIdeal.Gen.facts, Cert.FfnStep.Gen.facts, Cert.FfnStepIdeal.Gen.facts, Cert.FfnStepRefIdeal.Gen.facts, Cert.Gla.pre_facts,
    fun m ρ _ => Cert.GlaPrompt.Own.frame m ρ,
    fun m ρ _ => Cert.GlaPromptIdeal.Own.frame m ρ,
    fun m ρ _ => Cert.GlaPromptIdeal.Own.frame m ρ,
    fun m ρ _ => Cert.Gla.ref_frame m ρ,
    fun m ρ _ => Cert.Gla.ref_frame m ρ,
    fun m ρ _ => Cert.GlaProj.Gen.frame m ρ,
    fun m ρ _ => Cert.GlaProjIdeal.Gen.frame m ρ,
    fun m ρ _ => Cert.Proj.ref_frame m ρ,
    fun m ρ _ => Cert.Merge.Gen.frame m ρ,
    fun m ρ _ => Cert.MergeIdeal.Gen.frame m ρ,
    fun m ρ _ => Cert.Merge.ref_frame m ρ,
    fun m ρ _ => Cert.Ffn.Gen.frame m ρ,
    fun m ρ _ => Cert.FfnIdeal.Gen.frame m ρ,
    fun m ρ _ => Cert.Ffn.ref_frame m ρ,
    fun m ρ _ => Cert.FoxProj.Gen.frame m ρ,
    fun m ρ _ => Cert.FoxProjIdeal.Gen.frame m ρ,
    fun m ρ _ => Cert.FoxProj.ref_frame m ρ,
    fun m ρ _ => Cert.FoxStep.Gen.frame m ρ,
    fun m ρ _ => Cert.FoxStepIdeal.Gen.frame m ρ,
    fun m ρ _ => Cert.FoxStep.ref_frame m ρ,
    fun m ρ _ => Cert.GlaStep.Gen.frame m ρ,
    fun m ρ _ => Cert.GlaStepIdeal.Gen.frame m ρ,
    fun m ρ _ => Cert.GlaStep.ref_frame m ρ,
    fun m ρ _ => Cert.FfnStep.Gen.frame m ρ,
    fun m ρ _ => Cert.FfnStepIdeal.Gen.frame m ρ,
    fun m ρ _ => Cert.FfnStep.ref_frame m ρ,
    trivial,
    Cert.Gla.algebraic,
    trivial,
    Cert.Proj.algebraic,
    trivial,
    Cert.Merge.algebraic,
    trivial,
    Cert.Ffn.algebraic,
    trivial,
    Cert.FoxProj.algebraic,
    trivial,
    Cert.FoxStep.algebraic,
    trivial,
    Cert.GlaStep.algebraic,
    trivial,
    Cert.FfnStep.algebraic⟩

end Cert.Proof

end
